-- ==== Defs.lean ====
def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateIdeal_ffn_finite [hPre_ffn_finite : Cert.Pre_ffn_finite.Facts] (m : (ℓ : Loc Cert.FfnGateIdeal.nD Cert.FfnGateIdeal.τ Cert.FfnGateIdeal.sig) → Buf (Elt Ideal) ℓ) : Prop :=
  ∀ c : Dev Cert.FfnGateIdeal.nD,
    (Cert.Pre_ffn_finite.fn (F := Ideal) (m ((c.tc : Thread Cert.FfnGateIdeal.nD Cert.FfnGateIdeal.τ).loc Cert.FfnGateIdeal.main_arg0)) (m ((c.tc : Thread Cert.FfnGateIdeal.nD Cert.FfnGateIdeal.τ).loc Cert.FfnGateIdeal.main_arg1)) (m ((c.tc : Thread Cert.FfnGateIdeal.nD Cert.FfnGateIdeal.τ).loc Cert.FfnGateIdeal.main_arg2)) (m ((c.tc : Thread Cert.FfnGateIdeal.nD Cert.FfnGateIdeal.τ).loc Cert.FfnGateIdeal.main_arg3))) = (fun _ => 1#1)

def Pre_FfnGateRefIdeal (m : (ℓ : Loc Cert.FfnGateRefIdeal.nD Cert.FfnGateRefIdeal.τ Cert.FfnGateRefIdeal.sig) → Buf (Elt Ideal) ℓ) : Prop :=
  True

def Pre_FfnGateRefIdeal_ffn_finite [hPre_ffn_finite : Cert.Pre_ffn_finite.Facts] (m : (ℓ : Loc Cert.FfnGateRefIdeal.nD Cert.FfnGateRefIdeal.τ Cert.FfnGateRefIdeal.sig) → Buf (Elt Ideal) ℓ) : Prop :=
  ∀ c : Dev Cert.FfnGateRefIdeal.nD,
    (Cert.Pre_ffn_finite.fn (F := Ideal) (m ((c.tc : Thread Cert.FfnGateRefIdeal.nD Cert.FfnGateRefIdeal.τ).loc Cert.FfnGateRefIdeal.main_arg0)) (m ((c.tc : Thread Cert.FfnGateRefIdeal.nD Cert.FfnGateRefIdeal.τ).loc Cert.FfnGateRefIdeal.main_arg1)) (m ((c.tc : Thread Cert.FfnGateRefIdeal.nD Cert.FfnGateRefIdeal.τ).loc Cert.FfnGateRefIdeal.main_arg2)) (m ((c.tc : Thread Cert.FfnGateRefIdeal.nD Cert.FfnGateRefIdeal.τ).loc Cert.FfnGateRefIdeal.main_arg3))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_DwFfn (m : (ℓ : Loc Cert.DwFfn.nD Cert.DwFfn.τ Cert.DwFfn.sig) → Buf (Elt Bits) ℓ) : Prop :=
  True

def Pre_DwFfnIdeal (m : (ℓ : Loc Cert.DwFfnIdeal.nD Cert.DwFfnIdeal.τ Cert.DwFfnIdeal.sig) → Buf (Elt Ideal) ℓ) : Prop :=
  True

def Pre_DwFfnRefIdeal (m : (ℓ : Loc Cert.DwFfnRefIdeal.nD Cert.DwFfnRefIdeal.τ Cert.DwFfnRefIdeal.sig) → Buf (Elt Ideal) ℓ) : Prop :=
  True

def Pre_DwFfnTRefIdeal (m : (ℓ : Loc Cert.DwFfnTRefIdeal.nD Cert.DwFfnTRefIdeal.τ Cert.DwFfnTRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_MmRes (m : (ℓ : Loc Cert.MmRes.nD Cert.MmRes.τ Cert.MmRes.sig) → Buf (Elt Bits) ℓ) : Prop :=
  True

def Pre_MmResIdeal (m : (ℓ : Loc Cert.MmResIdeal.nD Cert.MmResIdeal.τ Cert.MmResIdeal.sig) → Buf (Elt Ideal) ℓ) : Prop :=
  True

def Pre_MmResRefIdeal (m : (ℓ : Loc Cert.MmResRefIdeal.nD Cert.MmResRefIdeal.τ Cert.MmResRefIdeal.sig) → Buf (Elt Ideal) ℓ) : Prop :=
  True

def Pre_RmsFfn (m : (ℓ : Loc Cert.RmsFfn.nD Cert.RmsFfn.τ Cert.RmsFfn.sig) → Buf (Elt Bits) ℓ) : Prop :=
  True

def Pre_RmsFfnIdeal (m : (ℓ : Loc Cert.RmsFfnIdeal.nD Cert.RmsFfnIdeal.τ Cert.RmsFfnIdeal.sig) → Buf (Elt Ideal) ℓ) : Prop :=
  True

def Pre_RmsFfnRefIdeal (m : (ℓ : Loc Cert.RmsFfnRefIdeal.nD Cert.RmsFfnRefIdeal.τ Cert.RmsFfnRefIdeal.sig) → Buf (Elt Ideal) ℓ) : Prop :=
  True

def Pre_RmsIn (m : (ℓ : Loc Cert.RmsIn.nD Cert.RmsIn.τ Cert.RmsIn.sig) → Buf (Elt Bits) ℓ) : Prop :=
  True

def Pre_RmsInIdeal (m : (ℓ : Loc Cert.RmsInIdeal.nD Cert.RmsInIdeal.τ Cert.RmsInIdeal.sig) → Buf (Elt Ideal) ℓ) : Prop :=
  True

def Pre_RmsInRefIdeal (m : (ℓ : Loc Cert.RmsInRefIdeal.nD Cert.RmsInRefIdeal.τ Cert.RmsInRefIdeal.sig) → Buf (Elt Ideal) ℓ) : Prop :=
  True

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_UpAct (m : (ℓ : Loc Cert.UpAct.nD Cert.UpAct.τ Cert.UpAct.sig) → Buf (Elt Bits) ℓ) : Prop :=
  True

def Pre_UpActIdeal (m : (ℓ : Loc Cert.UpActIdeal.nD Cert.UpActIdeal.τ Cert.UpActIdeal.sig) → Buf (Elt Ideal) ℓ) : Prop :=
  True

def Pre_UpActRefIdeal (m : (ℓ : Loc Cert.UpActRefIdeal.nD Cert.UpActRefIdeal.τ Cert.UpActRefIdeal.sig) → Buf (Elt Ideal) ℓ) : Prop :=
  True

def Pre_NormGate (m : (ℓ : Loc Cert.NormGate.nD Cert.NormGate.τ Cert.NormGate.sig) → Buf (Elt Bits) ℓ) : Prop :=
  True

def Pre_NormGateIdeal (m : (ℓ : Loc Cert.NormGateIdeal.nD Cert.NormGateIdeal.τ Cert.NormGateIdeal.sig) → Buf (Elt Ideal) ℓ) : Prop :=
  True

def Pre_NormGateRefIdeal (m : (ℓ : Loc Cert.NormGateRefIdeal.nD Cert.NormGateRefIdeal.τ Cert.NormGateRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_SumGate [hPre_chip_in_mesh : Cert.Pre_chip_in_mesh.Facts] (m : (ℓ : Loc Cert.SumGate.nD Cert.SumGate.τ Cert.SumGate.sig) → Buf (Elt Bits) ℓ) : Prop :=
  ∀ c : Dev Cert.SumGate.nD,
    (Cert.Pre_chip_in_mesh.fn (F := Bits) (m ((c.tc : Thread Cert.SumGate.nD Cert.SumGate.τ).loc Cert.SumGate.main_arg0)) (m ((c.tc : Thread Cert.SumGate.nD Cert.SumGate.τ).loc Cert.SumGate.main_arg1)) (m ((c.tc : Thread Cert.SumGate.nD Cert.SumGate.τ).loc Cert.SumGate.main_arg2)) (m ((c.tc : Thread Cert.SumGate.nD Cert.SumGate.τ).loc Cert.SumGate.main_arg3)) (m ((c.tc : Thread Cert.SumGate.nD Cert.SumGate.τ).loc Cert.SumGate.main_arg4)) (m ((c.tc : Thread Cert.SumGate.nD Cert.SumGate.τ).loc Cert.SumGate.main_arg5))) = (fun _ => 1#1)

def Pre_SumGateIdeal [hPre_chip_in_mesh : Cert.Pre_chip_in_mesh.Facts] (m : (ℓ : Loc Cert.SumGateIdeal.nD Cert.SumGateIdeal.τ Cert.SumGateIdeal.sig) → Buf (Elt Ideal) ℓ) : Prop :=
  ∀ c : Dev Cert.SumGateIdeal.nD,
    (Cert.Pre_chip_in_mesh.fn (F := Ideal) (m ((c.tc : Thread Cert.SumGateIdeal.nD Cert.SumGateIdeal.τ).loc Cert.SumGateIdeal.main_arg0)) (m ((c.tc : Thread Cert.SumGateIdeal.nD Cert.SumGateIdeal.τ).loc Cert.SumGateIdeal.main_arg1)) (m ((c.tc : Thread Cert.SumGateIdeal.nD Cert.SumGateIdeal.τ).loc Cert.SumGateIdeal.main_arg2)) (m ((c.tc : Thread Cert.SumGateIdeal.nD Cert.SumGateIdeal.τ).loc Cert.SumGateIdeal.main_arg3)) (m ((c.tc : Thread Cert.SumGateIdeal.nD Cert.SumGateIdeal.τ).loc Cert.SumGateIdeal.main_arg4)) (m ((c.tc : Thread Cert.SumGateIdeal.nD Cert.SumGateIdeal.τ).loc Cert.SumGateIdeal.main_arg5))) = (fun _ => 1#1)

def Pre_SumGateRefIdeal [hPre_chip_in_mesh : Cert.Pre_chip_in_mesh.Facts] (m : (ℓ : Loc Cert.SumGateRefIdeal.nD Cert.SumGateRefIdeal.τ Cert.SumGateRefIdeal.sig) → Buf (Elt Ideal) ℓ) : Prop :=
  ∀ c : Dev Cert.SumGateRefIdeal.nD,
    (Cert.Pre_chip_in_mesh.fn (F := Ideal) (m ((c.tc : Thread Cert.SumGateRefIdeal.nD Cert.SumGateRefIdeal.τ).loc Cert.SumGateRefIdeal.main_arg0)) (m ((c.tc : Thread Cert.SumGateRefIdeal.nD Cert.SumGateRefIdeal.τ).loc Cert.SumGateRefIdeal.main_arg1)) (m ((c.tc : Thread Cert.SumGateRefIdeal.nD Cert.SumGateRefIdeal.τ).loc Cert.SumGateRefIdeal.main_arg2)) (m ((c.tc : Thread Cert.SumGateRefIdeal.nD Cert.SumGateRefIdeal.τ).loc Cert.SumGateRefIdeal.main_arg3)) (m ((c.tc : Thread Cert.SumGateRefIdeal.nD Cert.SumGateRefIdeal.τ).loc Cert.SumGateRefIdeal.main_arg4)) (m ((c.tc : Thread Cert.SumGateRefIdeal.nD Cert.SumGateRefIdeal.τ).loc Cert.SumGateRefIdeal.main_arg5))) = (fun _ => 1#1)

def Pre_SumUp [hPre_chip_in_mesh : Cert.Pre_chip_in_mesh.Facts] (m : (ℓ : Loc Cert.SumUp.nD Cert.SumUp.τ Cert.SumUp.sig) → Buf (Elt Bits) ℓ) : Prop :=
  ∀ c : Dev Cert.SumUp.nD,
    (Cert.Pre_chip_in_mesh.fn (F := Bits) (m ((c.tc : Thread Cert.SumUp.nD Cert.SumUp.τ).loc Cert.SumUp.main_arg0)) (m ((c.tc : Thread Cert.SumUp.nD Cert.SumUp.τ).loc Cert.SumUp.main_arg1)) (m ((c.tc : Thread Cert.SumUp.nD Cert.SumUp.τ).loc Cert.SumUp.main_arg2)) (m ((c.tc : Thread Cert.SumUp.nD Cert.SumUp.τ).loc Cert.SumUp.main_arg3)) (m ((c.tc : Thread Cert.SumUp.nD Cert.SumUp.τ).loc Cert.SumUp.main_arg4)) (m ((c.tc : Thread Cert.SumUp.nD Cert.SumUp.τ).loc Cert.SumUp.main_arg5))) = (fun _ => 1#1)

def Pre_SumUpIdeal [hPre_chip_in_mesh : Cert.Pre_chip_in_mesh.Facts] (m : (ℓ : Loc Cert.SumUpIdeal.nD Cert.SumUpIdeal.τ Cert.SumUpIdeal.sig) → Buf (Elt Ideal) ℓ) : Prop :=
  ∀ c : Dev Cert.SumUpIdeal.nD,
    (Cert.Pre_chip_in_mesh.fn (F := Ideal) (m ((c.tc : Thread Cert.SumUpIdeal.nD Cert.SumUpIdeal.τ).loc Cert.SumUpIdeal.main_arg0)) (m ((c.tc : Thread Cert.SumUpIdeal.nD Cert.SumUpIdeal.τ).loc Cert.SumUpIdeal.main_arg1)) (m ((c.tc : Thread Cert.SumUpIdeal.nD Cert.SumUpIdeal.τ).loc Cert.SumUpIdeal.main_arg2)) (m ((c.tc : Thread Cert.SumUpIdeal.nD Cert.SumUpIdeal.τ).loc Cert.SumUpIdeal.main_arg3)) (m ((c.tc : Thread Cert.SumUpIdeal.nD Cert.SumUpIdeal.τ).loc Cert.SumUpIdeal.main_arg4)) (m ((c.tc : Thread Cert.SumUpIdeal.nD Cert.SumUpIdeal.τ).loc Cert.SumUpIdeal.main_arg5))) = (fun _ => 1#1)

def Pre_SumUpRefIdeal [hPre_chip_in_mesh : Cert.Pre_chip_in_mesh.Facts] (m : (ℓ : Loc Cert.SumUpRefIdeal.nD Cert.SumUpRefIdeal.τ Cert.SumUpRefIdeal.sig) → Buf (Elt Ideal) ℓ) : Prop :=
  ∀ c : Dev Cert.SumUpRefIdeal.nD,
    (Cert.Pre_chip_in_mesh.fn (F := Ideal) (m ((c.tc : Thread Cert.SumUpRefIdeal.nD Cert.SumUpRefIdeal.τ).loc Cert.SumUpRefIdeal.main_arg0)) (m ((c.tc : Thread Cert.SumUpRefIdeal.nD Cert.SumUpRefIdeal.τ).loc Cert.SumUpRefIdeal.main_arg1)) (m ((c.tc : Thread Cert.SumUpRefIdeal.nD Cert.SumUpRefIdeal.τ).loc Cert.SumUpRefIdeal.main_arg2)) (m ((c.tc : Thread Cert.SumUpRefIdeal.nD Cert.SumUpRefIdeal.τ).loc Cert.SumUpRefIdeal.main_arg3)) (m ((c.tc : Thread Cert.SumUpRefIdeal.nD Cert.SumUpRefIdeal.τ).loc Cert.SumUpRefIdeal.main_arg4)) (m ((c.tc : Thread Cert.SumUpRefIdeal.nD Cert.SumUpRefIdeal.τ).loc Cert.SumUpRefIdeal.main_arg5))) = (fun _ => 1#1)

def Pre_SumDown [hPre_chip_in_mesh : Cert.Pre_chip_in_mesh.Facts] (m : (ℓ : Loc Cert.SumDown.nD Cert.SumDown.τ Cert.SumDown.sig) → Buf (Elt Bits) ℓ) : Prop :=
  ∀ c : Dev Cert.SumDown.nD,
    (Cert.Pre_chip_in_mesh.fn (F := Bits) (m ((c.tc : Thread Cert.SumDown.nD Cert.SumDown.τ).loc Cert.SumDown.main_arg0)) (m ((c.tc : Thread Cert.SumDown.nD Cert.SumDown.τ).loc Cert.SumDown.main_arg1)) (m ((c.tc : Thread Cert.SumDown.nD Cert.SumDown.τ).loc Cert.SumDown.main_arg2)) (m ((c.tc : Thread Cert.SumDown.nD Cert.SumDown.τ).loc Cert.SumDown.main_arg3)) (m ((c.tc : Thread Cert.SumDown.nD Cert.SumDown.τ).loc Cert.SumDown.main_arg4)) (m ((c.tc : Thread Cert.SumDown.nD Cert.SumDown.τ).loc Cert.SumDown.main_arg5))) = (fun _ => 1#1)

def Pre_SumDownIdeal [hPre_chip_in_mesh : Cert.Pre_chip_in_mesh.Facts] (m : (ℓ : Loc Cert.SumDownIdeal.nD Cert.SumDownIdeal.τ Cert.SumDownIdeal.sig) → Buf (Elt Ideal) ℓ) : Prop :=
  ∀ c : Dev Cert.SumDownIdeal.nD,
    (Cert.Pre_chip_in_mesh.fn (F := Ideal) (m ((c.tc : Thread Cert.SumDownIdeal.nD Cert.SumDownIdeal.τ).loc Cert.SumDownIdeal.main_arg0)) (m ((c.tc : Thread Cert.SumDownIdeal.nD Cert.SumDownIdeal.τ).loc Cert.SumDownIdeal.main_arg1)) (m ((c.tc : Thread Cert.SumDownIdeal.nD Cert.SumDownIdeal.τ).loc Cert.SumDownIdeal.main_arg2)) (m ((c.tc : Thread Cert.SumDownIdeal.nD Cert.SumDownIdeal.τ).loc Cert.SumDownIdeal.main_arg3)) (m ((c.tc : Thread Cert.SumDownIdeal.nD Cert.SumDownIdeal.τ).loc Cert.SumDownIdeal.main_arg4)) (m ((c.tc : Thread Cert.SumDownIdeal.nD Cert.SumDownIdeal.τ).loc Cert.SumDownIdeal.main_arg5))) = (fun _ => 1#1)

def Pre_SumDownRefIdeal [hPre_chip_in_mesh : Cert.Pre_chip_in_mesh.Facts] (m : (ℓ : Loc Cert.SumDownRefIdeal.nD Cert.SumDownRefIdeal.τ Cert.SumDownRefIdeal.sig) → Buf (Elt Ideal) ℓ) : Prop :=
  ∀ c : Dev Cert.SumDownRefIdeal.nD,
    (Cert.Pre_chip_in_mesh.fn (F := Ideal) (m ((c.tc : Thread Cert.SumDownRefIdeal.nD Cert.SumDownRefIdeal.τ).loc Cert.SumDownRefIdeal.main_arg0)) (m ((c.tc : Thread Cert.SumDownRefIdeal.nD Cert.SumDownRefIdeal.τ).loc Cert.SumDownRefIdeal.main_arg1)) (m ((c.tc : Thread Cert.SumDownRefIdeal.nD Cert.SumDownRefIdeal.τ).loc Cert.SumDownRefIdeal.main_arg2)) (m ((c.tc : Thread Cert.SumDownRefIdeal.nD Cert.SumDownRefIdeal.τ).loc Cert.SumDownRefIdeal.main_arg3)) (m ((c.tc : Thread Cert.SumDownRefIdeal.nD Cert.SumDownRefIdeal.τ).loc Cert.SumDownRefIdeal.main_arg4)) (m ((c.tc : Thread Cert.SumDownRefIdeal.nD Cert.SumDownRefIdeal.τ).loc Cert.SumDownRefIdeal.main_arg5))) = (fun _ => 1#1)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1)
      ∧ r.2.mem ((c.tc : Thread Cert.FfnGate.nD Cert.FfnGate.τ).loc Cert.FfnGate.main_arg2) = m ((c.tc : Thread Cert.FfnGate.nD Cert.FfnGate.τ).loc Cert.FfnGate.main_arg2)
      ∧ r.2.mem ((c.tc : Thread Cert.FfnGate.nD Cert.FfnGate.τ).loc Cert.FfnGate.main_arg3) = m ((c.tc : Thread Cert.FfnGate.nD Cert.FfnGate.τ).loc Cert.FfnGate.main_arg3))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
      ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
      ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3))
      ∧ r.2.sem = fun _ => 0)

def quiescent_FfnGateIdeal_pre_ffn_finite [hFfnGateIdeal : Cert.FfnGateIdeal.Facts] [hPre_ffn_finite : Cert.Pre_ffn_finite.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal_ffn_finite m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
      ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
      ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3))
      ∧ r.2.sem = fun _ => 0)

def quiescent_FfnGateRefIdeal [hFfnGateRefIdeal : Cert.FfnGateRefIdeal.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1)
      ∧ r.2.mem ((c.tc : Thread Cert.FfnGateRefIdeal.nD Cert.FfnGateRefIdeal.τ).loc Cert.FfnGateRefIdeal.main_arg2) = m ((c.tc : Thread Cert.FfnGateRefIdeal.nD Cert.FfnGateRefIdeal.τ).loc Cert.FfnGateRefIdeal.main_arg2)
      ∧ r.2.mem ((c.tc : Thread Cert.FfnGateRefIdeal.nD Cert.FfnGateRefIdeal.τ).loc Cert.FfnGateRefIdeal.main_arg3) = m ((c.tc : Thread Cert.FfnGateRefIdeal.nD Cert.FfnGateRefIdeal.τ).loc Cert.FfnGateRefIdeal.main_arg3))
      ∧ r.2.sem = fun _ => 0)

def quiescent_FfnGateRefIdeal_pre_ffn_finite [hFfnGateRefIdeal : Cert.FfnGateRefIdeal.Facts] [hPre_ffn_finite : Cert.Pre_ffn_finite.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal_ffn_finite m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1)
      ∧ r.2.mem ((c.tc : Thread Cert.FfnGateRefIdeal.nD Cert.FfnGateRefIdeal.τ).loc Cert.FfnGateRefIdeal.main_arg2) = m ((c.tc : Thread Cert.FfnGateRefIdeal.nD Cert.FfnGateRefIdeal.τ).loc Cert.FfnGateRefIdeal.main_arg2)
      ∧ r.2.mem ((c.tc : Thread Cert.FfnGateRefIdeal.nD Cert.FfnGateRefIdeal.τ).loc Cert.FfnGateRefIdeal.main_arg3) = m ((c.tc : Thread Cert.FfnGateRefIdeal.nD Cert.FfnGateRefIdeal.τ).loc Cert.FfnGateRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_DwFfn [hDwFfn : Cert.DwFfn.Facts] : Prop :=
  ∀ (m : (ℓ : Loc Cert.DwFfn.nD Cert.DwFfn.τ Cert.DwFfn.sig) → Buf (Elt Bits) ℓ) (g : Dev Cert.DwFfn.nD → PrngReg), Pre_DwFfn m →
    θ_run (Cert.DwFfn.defs (F := Bits)) (onTc (τ := Cert.DwFfn.τ) (Cert.DwFfn.main (F := Bits))) ⟨m, fun _ => 0, g⟩ (fun r => (∀ c : Dev Cert.DwFfn.nD,
      r.2.mem ((c.tc : Thread Cert.DwFfn.nD Cert.DwFfn.τ).loc Cert.DwFfn.main_arg0) = m ((c.tc : Thread Cert.DwFfn.nD Cert.DwFfn.τ).loc Cert.DwFfn.main_arg0)
      ∧ r.2.mem ((c.tc : Thread Cert.DwFfn.nD Cert.DwFfn.τ).loc Cert.DwFfn.main_arg1) = m ((c.tc : Thread Cert.DwFfn.nD Cert.DwFfn.τ).loc Cert.DwFfn.main_arg1))
      ∧ r.2.sem = fun _ => 0)

def quiescent_DwFfnIdeal [hDwFfnIdeal : Cert.DwFfnIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg), Pre_DwFfnIdeal m →
    θ_run (Cert.DwFfnIdeal.defs (F := Ideal)) (onTc (τ := Cert.DwFfnIdeal.τ) (Cert.DwFfnIdeal.main (F := Ideal))) ⟨m, fun _ => 0, g⟩ (fun r => (∀ c : Dev Cert.DwFfnIdeal.nD,
      r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
      ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ r.2.sem = fun _ => 0)

def quiescent_DwFfnRefIdeal [hDwFfnRefIdeal : Cert.DwFfnRefIdeal.Facts] : Prop :=
  ∀ (m : (ℓ : Loc Cert.DwFfnRefIdeal.nD Cert.DwFfnRefIdeal.τ Cert.DwFfnRefIdeal.sig) → Buf (Elt Ideal) ℓ) (g : Dev Cert.DwFfnRefIdeal.nD → PrngReg), Pre_DwFfnRefIdeal m →
    θ_run (Cert.DwFfnRefIdeal.defs (F := Ideal)) (onTc (τ := Cert.DwFfnRefIdeal.τ) (Cert.DwFfnRefIdeal.main (F := Ideal))) ⟨m, fun _ => 0, g⟩ (fun r => (∀ c : Dev Cert.DwFfnRefIdeal.nD,
      r.2.mem ((c.tc : Thread Cert.DwFfnRefIdeal.nD Cert.DwFfnRefIdeal.τ).loc Cert.DwFfnRefIdeal.main_arg0) = m ((c.tc : Thread Cert.DwFfnRefIdeal.nD Cert.DwFfnRefIdeal.τ).loc Cert.DwFfnRefIdeal.main_arg0)
      ∧ r.2.mem ((c.tc : Thread Cert.DwFfnRefIdeal.nD Cert.DwFfnRefIdeal.τ).loc Cert.DwFfnRefIdeal.main_arg1) = m ((c.tc : Thread Cert.DwFfnRefIdeal.nD Cert.DwFfnRefIdeal.τ).loc Cert.DwFfnRefIdeal.main_arg1))
      ∧ r.2.sem = fun _ => 0)

def quiescent_DwFfnTRefIdeal [hDwFfnTRefIdeal : Cert.DwFfnTRefIdeal.Facts] : Prop :=
  ∀ (m : (ℓ : Loc Cert.DwFfnTRefIdeal.nD Cert.DwFfnTRefIdeal.τ Cert.DwFfnTRefIdeal.sig) → Buf (Elt Ideal) ℓ) (g : Dev Cert.DwFfnTRefIdeal.nD → PrngReg), Pre_DwFfnTRefIdeal m →
    θ_run (Cert.DwFfnTRefIdeal.defs (F := Ideal)) (onTc (τ := Cert.DwFfnTRefIdeal.τ) (Cert.DwFfnTRefIdeal.main (F := Ideal))) ⟨m, fun _ => 0, g⟩ (fun r => (∀ c : Dev Cert.DwFfnTRefIdeal.nD,
      r.2.mem ((c.tc : Thread Cert.DwFfnTRefIdeal.nD Cert.DwFfnTRefIdeal.τ).loc Cert.DwFfnTRefIdeal.main_arg0) = m ((c.tc : Thread Cert.DwFfnTRefIdeal.nD Cert.DwFfnTRefIdeal.τ).loc Cert.DwFfnTRefIdeal.main_arg0)
      ∧ r.2.mem ((c.tc : Thread Cert.DwFfnTRefIdeal.nD Cert.DwFfnTRefIdeal.τ).loc Cert.DwFfnTRefIdeal.main_arg1) = m ((c.tc : Thread Cert.DwFfnTRefIdeal.nD Cert.DwFfnTRefIdeal.τ).loc Cert.DwFfnTRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_MmRes [hMmRes : Cert.MmRes.Facts] : Prop :=
  ∀ (m : (ℓ : Loc Cert.MmRes.nD Cert.MmRes.τ Cert.MmRes.sig) → Buf (Elt Bits) ℓ) (g : Dev Cert.MmRes.nD → PrngReg), Pre_MmRes m →
    θ_run (Cert.MmRes.defs (F := Bits)) (onTc (τ := Cert.MmRes.τ) (Cert.MmRes.main (F := Bits))) ⟨m, fun _ => 0, g⟩ (fun r => (∀ c : Dev Cert.MmRes.nD,
      r.2.mem ((c.tc : Thread Cert.MmRes.nD Cert.MmRes.τ).loc Cert.MmRes.main_arg0) = m ((c.tc : Thread Cert.MmRes.nD Cert.MmRes.τ).loc Cert.MmRes.main_arg0)
      ∧ r.2.mem ((c.tc : Thread Cert.MmRes.nD Cert.MmRes.τ).loc Cert.MmRes.main_arg1) = m ((c.tc : Thread Cert.MmRes.nD Cert.MmRes.τ).loc Cert.MmRes.main_arg1)
      ∧ r.2.mem ((c.tc : Thread Cert.MmRes.nD Cert.MmRes.τ).loc Cert.MmRes.main_arg2) = m ((c.tc : Thread Cert.MmRes.nD Cert.MmRes.τ).loc Cert.MmRes.main_arg2))
      ∧ r.2.sem = fun _ => 0)

def quiescent_MmResIdeal [hMmResIdeal : Cert.MmResIdeal.Facts] : Prop :=
  ∀ (m : (ℓ : Loc Cert.MmResIdeal.nD Cert.MmResIdeal.τ Cert.MmResIdeal.sig) → Buf (Elt Ideal) ℓ) (g : Dev Cert.MmResIdeal.nD → PrngReg), Pre_MmResIdeal m →
    θ_run (Cert.MmResIdeal.defs (F := Ideal)) (onTc (τ := Cert.MmResIdeal.τ) (Cert.MmResIdeal.main (F := Ideal))) ⟨m, fun _ => 0, g⟩ (fun r => (∀ c : Dev Cert.MmResIdeal.nD,
      r.2.mem ((c.tc : Thread Cert.MmResIdeal.nD Cert.MmResIdeal.τ).loc Cert.MmResIdeal.main_arg0) = m ((c.tc : Thread Cert.MmResIdeal.nD Cert.MmResIdeal.τ).loc Cert.MmResIdeal.main_arg0)
      ∧ r.2.mem ((c.tc : Thread Cert.MmResIdeal.nD Cert.MmResIdeal.τ).loc Cert.MmResIdeal.main_arg1) = m ((c.tc : Thread Cert.MmResIdeal.nD Cert.MmResIdeal.τ).loc Cert.MmResIdeal.main_arg1)
      ∧ r.2.mem ((c.tc : Thread Cert.MmResIdeal.nD Cert.MmResIdeal.τ).loc Cert.MmResIdeal.main_arg2) = m ((c.tc : Thread Cert.MmResIdeal.nD Cert.MmResIdeal.τ).loc Cert.MmResIdeal.main_arg2))
      ∧ r.2.sem = fun _ => 0)

def quiescent_MmResRefIdeal [hMmResRefIdeal : Cert.MmResRefIdeal.Facts] : Prop :=
  ∀ (m : (ℓ : Loc Cert.MmResRefIdeal.nD Cert.MmResRefIdeal.τ Cert.MmResRefIdeal.sig) → Buf (Elt Ideal) ℓ) (g : Dev Cert.MmResRefIdeal.nD → PrngReg), Pre_MmResRefIdeal m →
    θ_run (Cert.MmResRefIdeal.defs (F := Ideal)) (onTc (τ := Cert.MmResRefIdeal.τ) (Cert.MmResRefIdeal.main (F := Ideal))) ⟨m, fun _ => 0, g⟩ (fun r => (∀ c : Dev Cert.MmResRefIdeal.nD,
      r.2.mem ((c.tc : Thread Cert.MmResRefIdeal.nD Cert.MmResRefIdeal.τ).loc Cert.MmResRefIdeal.main_arg0) = m ((c.tc : Thread Cert.MmResRefIdeal.nD Cert.MmResRefIdeal.τ).loc Cert.MmResRefIdeal.main_arg0)
      ∧ r.2.mem ((c.tc : Thread Cert.MmResRefIdeal.nD Cert.MmResRefIdeal.τ).loc Cert.MmResRefIdeal.main_arg1) = m ((c.tc : Thread Cert.MmResRefIdeal.nD Cert.MmResRefIdeal.τ).loc Cert.MmResRefIdeal.main_arg1)
      ∧ r.2.mem ((c.tc : Thread Cert.MmResRefIdeal.nD Cert.MmResRefIdeal.τ).loc Cert.MmResRefIdeal.main_arg2) = m ((c.tc : Thread Cert.MmResRefIdeal.nD Cert.MmResRefIdeal.τ).loc Cert.MmResRefIdeal.main_arg2))
      ∧ r.2.sem = fun _ => 0)

def quiescent_RmsFfn [hRmsFfn : Cert.RmsFfn.Facts] : Prop :=
  ∀ (m : (ℓ : Loc Cert.RmsFfn.nD Cert.RmsFfn.τ Cert.RmsFfn.sig) → Buf (Elt Bits) ℓ) (g : Dev Cert.RmsFfn.nD → PrngReg), Pre_RmsFfn m →
    θ_run (Cert.RmsFfn.defs (F := Bits)) (onTc (τ := Cert.RmsFfn.τ) (Cert.RmsFfn.main (F := Bits))) ⟨m, fun _ => 0, g⟩ (fun r => (∀ c : Dev Cert.RmsFfn.nD,
      r.2.mem ((c.tc : Thread Cert.RmsFfn.nD Cert.RmsFfn.τ).loc Cert.RmsFfn.main_arg0) = m ((c.tc : Thread Cert.RmsFfn.nD Cert.RmsFfn.τ).loc Cert.RmsFfn.main_arg0)
      ∧ r.2.mem ((c.tc : Thread Cert.RmsFfn.nD Cert.RmsFfn.τ).loc Cert.RmsFfn.main_arg1) = m ((c.tc : Thread Cert.RmsFfn.nD Cert.RmsFfn.τ).loc Cert.RmsFfn.main_arg1)
      ∧ r.2.mem ((c.tc : Thread Cert.RmsFfn.nD Cert.RmsFfn.τ).loc Cert.RmsFfn.main_arg2) = m ((c.tc : Thread Cert.RmsFfn.nD Cert.RmsFfn.τ).loc Cert.RmsFfn.main_arg2)
      ∧ r.2.mem ((c.tc : Thread Cert.RmsFfn.nD Cert.RmsFfn.τ).loc Cert.RmsFfn.main_arg3) = m ((c.tc : Thread Cert.RmsFfn.nD Cert.RmsFfn.τ).loc Cert.RmsFfn.main_arg3)
      ∧ r.2.mem ((c.tc : Thread Cert.RmsFfn.nD Cert.RmsFfn.τ).loc Cert.RmsFfn.main_arg4) = m ((c.tc : Thread Cert.RmsFfn.nD Cert.RmsFfn.τ).loc Cert.RmsFfn.main_arg4)
      ∧ r.2.mem ((c.tc : Thread Cert.RmsFfn.nD Cert.RmsFfn.τ).loc Cert.RmsFfn.main_arg5) = m ((c.tc : Thread Cert.RmsFfn.nD Cert.RmsFfn.τ).loc Cert.RmsFfn.main_arg5)
      ∧ r.2.mem ((c.tc : Thread Cert.RmsFfn.nD Cert.RmsFfn.τ).loc Cert.RmsFfn.main_arg6) = m ((c.tc : Thread Cert.RmsFfn.nD Cert.RmsFfn.τ).loc Cert.RmsFfn.main_arg6))
      ∧ r.2.sem = fun _ => 0)

def quiescent_RmsFfnIdeal [hRmsFfnIdeal : Cert.RmsFfnIdeal.Facts] : Prop :=
  ∀ (m : (ℓ : Loc Cert.RmsFfnIdeal.nD Cert.RmsFfnIdeal.τ Cert.RmsFfnIdeal.sig) → Buf (Elt Ideal) ℓ) (g : Dev Cert.RmsFfnIdeal.nD → PrngReg), Pre_RmsFfnIdeal m →
    θ_run (Cert.RmsFfnIdeal.defs (F := Ideal)) (onTc (τ := Cert.RmsFfnIdeal.τ) (Cert.RmsFfnIdeal.main (F := Ideal))) ⟨m, fun _ => 0, g⟩ (fun r => (∀ c : Dev Cert.RmsFfnIdeal.nD,
      r.2.mem ((c.tc : Thread Cert.RmsFfnIdeal.nD Cert.RmsFfnIdeal.τ).loc Cert.RmsFfnIdeal.main_arg0) = m ((c.tc : Thread Cert.RmsFfnIdeal.nD Cert.RmsFfnIdeal.τ).loc Cert.RmsFfnIdeal.main_arg0)
      ∧ r.2.mem ((c.tc : Thread Cert.RmsFfnIdeal.nD Cert.RmsFfnIdeal.τ).loc Cert.RmsFfnIdeal.main_arg1) = m ((c.tc : Thread Cert.RmsFfnIdeal.nD Cert.RmsFfnIdeal.τ).loc Cert.RmsFfnIdeal.main_arg1)
      ∧ r.2.mem ((c.tc : Thread Cert.RmsFfnIdeal.nD Cert.RmsFfnIdeal.τ).loc Cert.RmsFfnIdeal.main_arg2) = m ((c.tc : Thread Cert.RmsFfnIdeal.nD Cert.RmsFfnIdeal.τ).loc Cert.RmsFfnIdeal.main_arg2)
      ∧ r.2.mem ((c.tc : Thread Cert.RmsFfnIdeal.nD Cert.RmsFfnIdeal.τ).loc Cert.RmsFfnIdeal.main_arg3) = m ((c.tc : Thread Cert.RmsFfnIdeal.nD Cert.RmsFfnIdeal.τ).loc Cert.RmsFfnIdeal.main_arg3)
      ∧ r.2.mem ((c.tc : Thread Cert.RmsFfnIdeal.nD Cert.RmsFfnIdeal.τ).loc Cert.RmsFfnIdeal.main_arg4) = m ((c.tc : Thread Cert.RmsFfnIdeal.nD Cert.RmsFfnIdeal.τ).loc Cert.RmsFfnIdeal.main_arg4)
      ∧ r.2.mem ((c.tc : Thread Cert.RmsFfnIdeal.nD Cert.RmsFfnIdeal.τ).loc Cert.RmsFfnIdeal.main_arg5) = m ((c.tc : Thread Cert.RmsFfnIdeal.nD Cert.RmsFfnIdeal.τ).loc Cert.RmsFfnIdeal.main_arg5)
      ∧ r.2.mem ((c.tc : Thread Cert.RmsFfnIdeal.nD Cert.RmsFfnIdeal.τ).loc Cert.RmsFfnIdeal.main_arg6) = m ((c.tc : Thread Cert.RmsFfnIdeal.nD Cert.RmsFfnIdeal.τ).loc Cert.RmsFfnIdeal.main_arg6))
      ∧ r.2.sem = fun _ => 0)

def quiescent_RmsFfnRefIdeal [hRmsFfnRefIdeal : Cert.RmsFfnRefIdeal.Facts] : Prop :=
  ∀ (m : (ℓ : Loc Cert.RmsFfnRefIdeal.nD Cert.RmsFfnRefIdeal.τ Cert.RmsFfnRefIdeal.sig) → Buf (Elt Ideal) ℓ) (g : Dev Cert.RmsFfnRefIdeal.nD → PrngReg), Pre_RmsFfnRefIdeal m →
    θ_run (Cert.RmsFfnRefIdeal.defs (F := Ideal)) (onTc (τ := Cert.RmsFfnRefIdeal.τ) (Cert.RmsFfnRefIdeal.main (F := Ideal))) ⟨m, fun _ => 0, g⟩ (fun r => (∀ c : Dev Cert.RmsFfnRefIdeal.nD,
      r.2.mem ((c.tc : Thread Cert.RmsFfnRefIdeal.nD Cert.RmsFfnRefIdeal.τ).loc Cert.RmsFfnRefIdeal.main_arg0) = m ((c.tc : Thread Cert.RmsFfnRefIdeal.nD Cert.RmsFfnRefIdeal.τ).loc Cert.RmsFfnRefIdeal.main_arg0)
      ∧ r.2.mem ((c.tc : Thread Cert.RmsFfnRefIdeal.nD Cert.RmsFfnRefIdeal.τ).loc Cert.RmsFfnRefIdeal.main_arg1) = m ((c.tc : Thread Cert.RmsFfnRefIdeal.nD Cert.RmsFfnRefIdeal.τ).loc Cert.RmsFfnRefIdeal.main_arg1)
      ∧ r.2.mem ((c.tc : Thread Cert.RmsFfnRefIdeal.nD Cert.RmsFfnRefIdeal.τ).loc Cert.RmsFfnRefIdeal.main_arg2) = m ((c.tc : Thread Cert.RmsFfnRefIdeal.nD Cert.RmsFfnRefIdeal.τ).loc Cert.RmsFfnRefIdeal.main_arg2)
      ∧ r.2.mem ((c.tc : Thread Cert.RmsFfnRefIdeal.nD Cert.RmsFfnRefIdeal.τ).loc Cert.RmsFfnRefIdeal.main_arg3) = m ((c.tc : Thread Cert.RmsFfnRefIdeal.nD Cert.RmsFfnRefIdeal.τ).loc Cert.RmsFfnRefIdeal.main_arg3)
      ∧ r.2.mem ((c.tc : Thread Cert.RmsFfnRefIdeal.nD Cert.RmsFfnRefIdeal.τ).loc Cert.RmsFfnRefIdeal.main_arg4) = m ((c.tc : Thread Cert.RmsFfnRefIdeal.nD Cert.RmsFfnRefIdeal.τ).loc Cert.RmsFfnRefIdeal.main_arg4)
      ∧ r.2.mem ((c.tc : Thread Cert.RmsFfnRefIdeal.nD Cert.RmsFfnRefIdeal.τ).loc Cert.RmsFfnRefIdeal.main_arg5) = m ((c.tc : Thread Cert.RmsFfnRefIdeal.nD Cert.RmsFfnRefIdeal.τ).loc Cert.RmsFfnRefIdeal.main_arg5)
      ∧ r.2.mem ((c.tc : Thread Cert.RmsFfnRefIdeal.nD Cert.RmsFfnRefIdeal.τ).loc Cert.RmsFfnRefIdeal.main_arg6) = m ((c.tc : Thread Cert.RmsFfnRefIdeal.nD Cert.RmsFfnRefIdeal.τ).loc Cert.RmsFfnRefIdeal.main_arg6))
      ∧ r.2.sem = fun _ => 0)

def quiescent_RmsIn [hRmsIn : Cert.RmsIn.Facts] : Prop :=
  ∀ (m : (ℓ : Loc Cert.RmsIn.nD Cert.RmsIn.τ Cert.RmsIn.sig) → Buf (Elt Bits) ℓ) (g : Dev Cert.RmsIn.nD → PrngReg), Pre_RmsIn m →
    θ_run (Cert.RmsIn.defs (F := Bits)) (onTc (τ := Cert.RmsIn.τ) (Cert.RmsIn.main (F := Bits))) ⟨m, fun _ => 0, g⟩ (fun r => (∀ c : Dev Cert.RmsIn.nD,
      r.2.mem ((c.tc : Thread Cert.RmsIn.nD Cert.RmsIn.τ).loc Cert.RmsIn.main_arg0) = m ((c.tc : Thread Cert.RmsIn.nD Cert.RmsIn.τ).loc Cert.RmsIn.main_arg0)
      ∧ r.2.mem ((c.tc : Thread Cert.RmsIn.nD Cert.RmsIn.τ).loc Cert.RmsIn.main_arg1) = m ((c.tc : Thread Cert.RmsIn.nD Cert.RmsIn.τ).loc Cert.RmsIn.main_arg1)
      ∧ r.2.mem ((c.tc : Thread Cert.RmsIn.nD Cert.RmsIn.τ).loc Cert.RmsIn.main_arg2) = m ((c.tc : Thread Cert.RmsIn.nD Cert.RmsIn.τ).loc Cert.RmsIn.main_arg2)
      ∧ r.2.mem ((c.tc : Thread Cert.RmsIn.nD Cert.RmsIn.τ).loc Cert.RmsIn.main_arg3) = m ((c.tc : Thread Cert.RmsIn.nD Cert.RmsIn.τ).loc Cert.RmsIn.main_arg3)
      ∧ r.2.mem ((c.tc : Thread Cert.RmsIn.nD Cert.RmsIn.τ).loc Cert.RmsIn.main_arg4) = m ((c.tc : Thread Cert.RmsIn.nD Cert.RmsIn.τ).loc Cert.RmsIn.main_arg4))
      ∧ r.2.sem = fun _ => 0)

def quiescent_RmsInIdeal [hRmsInIdeal : Cert.RmsInIdeal.Facts] : Prop :=
  ∀ (m : (ℓ : Loc Cert.RmsInIdeal.nD Cert.RmsInIdeal.τ Cert.RmsInIdeal.sig) → Buf (Elt Ideal) ℓ) (g : Dev Cert.RmsInIdeal.nD → PrngReg), Pre_RmsInIdeal m →
    θ_run (Cert.RmsInIdeal.defs (F := Ideal)) (onTc (τ := Cert.RmsInIdeal.τ) (Cert.RmsInIdeal.main (F := Ideal))) ⟨m, fun _ => 0, g⟩ (fun r => (∀ c : Dev Cert.RmsInIdeal.nD,
      r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
      ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1)
      ∧ r.2.mem ((c.tc : Thread Cert.RmsInIdeal.nD Cert.RmsInIdeal.τ).loc Cert.RmsInIdeal.main_arg2) = m ((c.tc : Thread Cert.RmsInIdeal.nD Cert.RmsInIdeal.τ).loc Cert.RmsInIdeal.main_arg2)
      ∧ r.2.mem ((c.tc : Thread Cert.RmsInIdeal.nD Cert.RmsInIdeal.τ).loc Cert.RmsInIdeal.main_arg3) = m ((c.tc : Thread Cert.RmsInIdeal.nD Cert.RmsInIdeal.τ).loc Cert.RmsInIdeal.main_arg3)
      ∧ r.2.mem ((c.tc : Thread Cert.RmsInIdeal.nD Cert.RmsInIdeal.τ).loc Cert.RmsInIdeal.main_arg4) = m ((c.tc : Thread Cert.RmsInIdeal.nD Cert.RmsInIdeal.τ).loc Cert.RmsInIdeal.main_arg4))
      ∧ r.2.sem = fun _ => 0)

def quiescent_RmsInRefIdeal [hRmsInRefIdeal : Cert.RmsInRefIdeal.Facts] : Prop :=
  ∀ (m : (ℓ : Loc Cert.RmsInRefIdeal.nD Cert.RmsInRefIdeal.τ Cert.RmsInRefIdeal.sig) → Buf (Elt Ideal) ℓ) (g : Dev Cert.RmsInRefIdeal.nD → PrngReg), Pre_RmsInRefIdeal m →
    θ_run (Cert.RmsInRefIdeal.defs (F := Ideal)) (onTc (τ := Cert.RmsInRefIdeal.τ) (Cert.RmsInRefIdeal.main (F := Ideal))) ⟨m, fun _ => 0, g⟩ (fun r => (∀ c : Dev Cert.RmsInRefIdeal.nD,
      r.2.mem ((c.tc : Thread Cert.RmsInRefIdeal.nD Cert.RmsInRefIdeal.τ).loc Cert.RmsInRefIdeal.main_arg0) = m ((c.tc : Thread Cert.RmsInRefIdeal.nD Cert.RmsInRefIdeal.τ).loc Cert.RmsInRefIdeal.main_arg0)
      ∧ r.2.mem ((c.tc : Thread Cert.RmsInRefIdeal.nD Cert.RmsInRefIdeal.τ).loc Cert.RmsInRefIdeal.main_arg1) = m ((c.tc : Thread Cert.RmsInRefIdeal.nD Cert.RmsInRefIdeal.τ).loc Cert.RmsInRefIdeal.main_arg1)
      ∧ r.2.mem ((c.tc : Thread Cert.RmsInRefIdeal.nD Cert.RmsInRefIdeal.τ).loc Cert.RmsInRefIdeal.main_arg2) = m ((c.tc : Thread Cert.RmsInRefIdeal.nD Cert.RmsInRefIdeal.τ).loc Cert.RmsInRefIdeal.main_arg2)
      ∧ r.2.mem ((c.tc : Thread Cert.RmsInRefIdeal.nD Cert.RmsInRefIdeal.τ).loc Cert.RmsInRefIdeal.main_arg3) = m ((c.tc : Thread Cert.RmsInRefIdeal.nD Cert.RmsInRefIdeal.τ).loc Cert.RmsInRefIdeal.main_arg3)
      ∧ r.2.mem ((c.tc : Thread Cert.RmsInRefIdeal.nD Cert.RmsInRefIdeal.τ).loc Cert.RmsInRefIdeal.main_arg4) = m ((c.tc : Thread Cert.RmsInRefIdeal.nD Cert.RmsInRefIdeal.τ).loc Cert.RmsInRefIdeal.main_arg4))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2)
      ∧ r.2.mem ((c.tc : Thread Cert.NormProj.nD Cert.NormProj.τ).loc Cert.NormProj.main_arg3) = m ((c.tc : Thread Cert.NormProj.nD Cert.NormProj.τ).loc Cert.NormProj.main_arg3))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
      ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2)
      ∧ r.2.mem ((c.tc : Thread Cert.NormProjRefIdeal.nD Cert.NormProjRefIdeal.τ).loc Cert.NormProjRefIdeal.main_arg3) = m ((c.tc : Thread Cert.NormProjRefIdeal.nD Cert.NormProjRefIdeal.τ).loc Cert.NormProjRefIdeal.main_arg3))
      ∧ r.2.sem = fun _ => 0)

def quiescent_UpAct [hUpAct : Cert.UpAct.Facts] : Prop :=
  ∀ (m : (ℓ : Loc Cert.UpAct.nD Cert.UpAct.τ Cert.UpAct.sig) → Buf (Elt Bits) ℓ) (g : Dev Cert.UpAct.nD → PrngReg), Pre_UpAct m →
    θ_run (Cert.UpAct.defs (F := Bits)) (onTc (τ := Cert.UpAct.τ) (Cert.UpAct.main (F := Bits))) ⟨m, fun _ => 0, g⟩ (fun r => (∀ c : Dev Cert.UpAct.nD,
      r.2.mem ((c.tc : Thread Cert.UpAct.nD Cert.UpAct.τ).loc Cert.UpAct.main_arg0) = m ((c.tc : Thread Cert.UpAct.nD Cert.UpAct.τ).loc Cert.UpAct.main_arg0)
      ∧ r.2.mem ((c.tc : Thread Cert.UpAct.nD Cert.UpAct.τ).loc Cert.UpAct.main_arg1) = m ((c.tc : Thread Cert.UpAct.nD Cert.UpAct.τ).loc Cert.UpAct.main_arg1)
      ∧ r.2.mem ((c.tc : Thread Cert.UpAct.nD Cert.UpAct.τ).loc Cert.UpAct.main_arg2) = m ((c.tc : Thread Cert.UpAct.nD Cert.UpAct.τ).loc Cert.UpAct.main_arg2))
      ∧ r.2.sem = fun _ => 0)

def quiescent_UpActIdeal [hUpActIdeal : Cert.UpActIdeal.Facts] : Prop :=
  ∀ (m : (ℓ : Loc Cert.UpActIdeal.nD Cert.UpActIdeal.τ Cert.UpActIdeal.sig) → Buf (Elt Ideal) ℓ) (g : Dev Cert.UpActIdeal.nD → PrngReg), Pre_UpActIdeal m →
    θ_run (Cert.UpActIdeal.defs (F := Ideal)) (onTc (τ := Cert.UpActIdeal.τ) (Cert.UpActIdeal.main (F := Ideal))) ⟨m, fun _ => 0, g⟩ (fun r => (∀ c : Dev Cert.UpActIdeal.nD,
      r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
      ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
      ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2))
      ∧ r.2.sem = fun _ => 0)

def quiescent_UpActRefIdeal [hUpActRefIdeal : Cert.UpActRefIdeal.Facts] : Prop :=
  ∀ (m : (ℓ : Loc Cert.UpActRefIdeal.nD Cert.UpActRefIdeal.τ Cert.UpActRefIdeal.sig) → Buf (Elt Ideal) ℓ) (g : Dev Cert.UpActRefIdeal.nD → PrngReg), Pre_UpActRefIdeal m →
    θ_run (Cert.UpActRefIdeal.defs (F := Ideal)) (onTc (τ := Cert.UpActRefIdeal.τ) (Cert.UpActRefIdeal.main (F := Ideal))) ⟨m, fun _ => 0, g⟩ (fun r => (∀ c : Dev Cert.UpActRefIdeal.nD,
      r.2.mem ((c.tc : Thread Cert.UpActRefIdeal.nD Cert.UpActRefIdeal.τ).loc Cert.UpActRefIdeal.main_arg0) = m ((c.tc : Thread Cert.UpActRefIdeal.nD Cert.UpActRefIdeal.τ).loc Cert.UpActRefIdeal.main_arg0)
      ∧ r.2.mem ((c.tc : Thread Cert.UpActRefIdeal.nD Cert.UpActRefIdeal.τ).loc Cert.UpActRefIdeal.main_arg1) = m ((c.tc : Thread Cert.UpActRefIdeal.nD Cert.UpActRefIdeal.τ).loc Cert.UpActRefIdeal.main_arg1)
      ∧ r.2.mem ((c.tc : Thread Cert.UpActRefIdeal.nD Cert.UpActRefIdeal.τ).loc Cert.UpActRefIdeal.main_arg2) = m ((c.tc : Thread Cert.UpActRefIdeal.nD Cert.UpActRefIdeal.τ).loc Cert.UpActRefIdeal.main_arg2))
      ∧ r.2.sem = fun _ => 0)

def quiescent_NormGate [hNormGate : Cert.NormGate.Facts] : Prop :=
  ∀ (m : (ℓ : Loc Cert.NormGate.nD Cert.NormGate.τ Cert.NormGate.sig) → Buf (Elt Bits) ℓ) (g : Dev Cert.NormGate.nD → PrngReg), Pre_NormGate m →
    θ_run (Cert.NormGate.defs (F := Bits)) (onTc (τ := Cert.NormGate.τ) (Cert.NormGate.main (F := Bits))) ⟨m, fun _ => 0, g⟩ (fun r => (∀ c : Dev Cert.NormGate.nD,
      r.2.mem ((c.tc : Thread Cert.NormGate.nD Cert.NormGate.τ).loc Cert.NormGate.main_arg0) = m ((c.tc : Thread Cert.NormGate.nD Cert.NormGate.τ).loc Cert.NormGate.main_arg0)
      ∧ r.2.mem ((c.tc : Thread Cert.NormGate.nD Cert.NormGate.τ).loc Cert.NormGate.main_arg1) = m ((c.tc : Thread Cert.NormGate.nD Cert.NormGate.τ).loc Cert.NormGate.main_arg1)
      ∧ r.2.mem ((c.tc : Thread Cert.NormGate.nD Cert.NormGate.τ).loc Cert.NormGate.main_arg2) = m ((c.tc : Thread Cert.NormGate.nD Cert.NormGate.τ).loc Cert.NormGate.main_arg2))
      ∧ r.2.sem = fun _ => 0)

def quiescent_NormGateIdeal [hNormGateIdeal : Cert.NormGateIdeal.Facts] : Prop :=
  ∀ (m : (ℓ : Loc Cert.NormGateIdeal.nD Cert.NormGateIdeal.τ Cert.NormGateIdeal.sig) → Buf (Elt Ideal) ℓ) (g : Dev Cert.NormGateIdeal.nD → PrngReg), Pre_NormGateIdeal m →
    θ_run (Cert.NormGateIdeal.defs (F := Ideal)) (onTc (τ := Cert.NormGateIdeal.τ) (Cert.NormGateIdeal.main (F := Ideal))) ⟨m, fun _ => 0, g⟩ (fun r => (∀ c : Dev Cert.NormGateIdeal.nD,
      r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
      ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
      ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2))
      ∧ r.2.sem = fun _ => 0)

def quiescent_NormGateRefIdeal [hNormGateRefIdeal : Cert.NormGateRefIdeal.Facts] : Prop :=
  ∀ (m : (ℓ : Loc Cert.NormGateRefIdeal.nD Cert.NormGateRefIdeal.τ Cert.NormGateRefIdeal.sig) → Buf (Elt Ideal) ℓ) (g : Dev Cert.NormGateRefIdeal.nD → PrngReg), Pre_NormGateRefIdeal m →
    θ_run (Cert.NormGateRefIdeal.defs (F := Ideal)) (onTc (τ := Cert.NormGateRefIdeal.τ) (Cert.NormGateRefIdeal.main (F := Ideal))) ⟨m, fun _ => 0, g⟩ (fun r => (∀ c : Dev Cert.NormGateRefIdeal.nD,
      r.2.mem ((c.tc : Thread Cert.NormGateRefIdeal.nD Cert.NormGateRefIdeal.τ).loc Cert.NormGateRefIdeal.main_arg0) = m ((c.tc : Thread Cert.NormGateRefIdeal.nD Cert.NormGateRefIdeal.τ).loc Cert.NormGateRefIdeal.main_arg0)
      ∧ r.2.mem ((c.tc : Thread Cert.NormGateRefIdeal.nD Cert.NormGateRefIdeal.τ).loc Cert.NormGateRefIdeal.main_arg1) = m ((c.tc : Thread Cert.NormGateRefIdeal.nD Cert.NormGateRefIdeal.τ).loc Cert.NormGateRefIdeal.main_arg1)
      ∧ r.2.mem ((c.tc : Thread Cert.NormGateRefIdeal.nD Cert.NormGateRefIdeal.τ).loc Cert.NormGateRefIdeal.main_arg2) = m ((c.tc : Thread Cert.NormGateRefIdeal.nD Cert.NormGateRefIdeal.τ).loc Cert.NormGateRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_SumGate [hSumGate : Cert.SumGate.Facts] [hPre_chip_in_mesh : Cert.Pre_chip_in_mesh.Facts] : Prop :=
  ∀ (m : (ℓ : Loc Cert.SumGate.nD Cert.SumGate.τ Cert.SumGate.sig) → Buf (Elt Bits) ℓ) (g : Dev Cert.SumGate.nD → PrngReg), Pre_SumGate m →
    θ_run (Cert.SumGate.defs (F := Bits)) (onTc (τ := Cert.SumGate.τ) (Cert.SumGate.main (F := Bits))) ⟨m, fun _ => 0, g⟩ (fun r => (∀ c : Dev Cert.SumGate.nD,
      r.2.mem ((c.tc : Thread Cert.SumGate.nD Cert.SumGate.τ).loc Cert.SumGate.main_arg0) = m ((c.tc : Thread Cert.SumGate.nD Cert.SumGate.τ).loc Cert.SumGate.main_arg0)
      ∧ r.2.mem ((c.tc : Thread Cert.SumGate.nD Cert.SumGate.τ).loc Cert.SumGate.main_arg1) = m ((c.tc : Thread Cert.SumGate.nD Cert.SumGate.τ).loc Cert.SumGate.main_arg1)
      ∧ r.2.mem ((c.tc : Thread Cert.SumGate.nD Cert.SumGate.τ).loc Cert.SumGate.main_arg2) = m ((c.tc : Thread Cert.SumGate.nD Cert.SumGate.τ).loc Cert.SumGate.main_arg2)
      ∧ r.2.mem ((c.tc : Thread Cert.SumGate.nD Cert.SumGate.τ).loc Cert.SumGate.main_arg3) = m ((c.tc : Thread Cert.SumGate.nD Cert.SumGate.τ).loc Cert.SumGate.main_arg3)
      ∧ r.2.mem ((c.tc : Thread Cert.SumGate.nD Cert.SumGate.τ).loc Cert.SumGate.main_arg4) = m ((c.tc : Thread Cert.SumGate.nD Cert.SumGate.τ).loc Cert.SumGate.main_arg4)
      ∧ r.2.mem ((c.tc : Thread Cert.SumGate.nD Cert.SumGate.τ).loc Cert.SumGate.main_arg5) = m ((c.tc : Thread Cert.SumGate.nD Cert.SumGate.τ).loc Cert.SumGate.main_arg5))
      ∧ r.2.sem = fun _ => 0)

def quiescent_SumGateIdeal [hSumGateIdeal : Cert.SumGateIdeal.Facts] [hPre_chip_in_mesh : Cert.Pre_chip_in_mesh.Facts] : Prop :=
  ∀ (m : (ℓ : Loc Cert.SumGateIdeal.nD Cert.SumGateIdeal.τ Cert.SumGateIdeal.sig) → Buf (Elt Ideal) ℓ) (g : Dev Cert.SumGateIdeal.nD → PrngReg), Pre_SumGateIdeal m →
    θ_run (Cert.SumGateIdeal.defs (F := Ideal)) (onTc (τ := Cert.SumGateIdeal.τ) (Cert.SumGateIdeal.main (F := Ideal))) ⟨m, fun _ => 0, g⟩ (fun r => (∀ c : Dev Cert.SumGateIdeal.nD,
      r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0)
      ∧ r.2.mem ((c.tc : Thread Cert.SumGateIdeal.nD Cert.SumGateIdeal.τ).loc Cert.SumGateIdeal.main_arg1) = m ((c.tc : Thread Cert.SumGateIdeal.nD Cert.SumGateIdeal.τ).loc Cert.SumGateIdeal.main_arg1)
      ∧ r.2.mem ((c.tc : Thread Cert.SumGateIdeal.nD Cert.SumGateIdeal.τ).loc Cert.SumGateIdeal.main_arg2) = m ((c.tc : Thread Cert.SumGateIdeal.nD Cert.SumGateIdeal.τ).loc Cert.SumGateIdeal.main_arg2)
      ∧ r.2.mem ((c.tc : Thread Cert.SumGateIdeal.nD Cert.SumGateIdeal.τ).loc Cert.SumGateIdeal.main_arg3) = m ((c.tc : Thread Cert.SumGateIdeal.nD Cert.SumGateIdeal.τ).loc Cert.SumGateIdeal.main_arg3)
      ∧ r.2.mem ((c.tc : Thread Cert.SumGateIdeal.nD Cert.SumGateIdeal.τ).loc Cert.SumGateIdeal.main_arg4) = m ((c.tc : Thread Cert.SumGateIdeal.nD Cert.SumGateIdeal.τ).loc Cert.SumGateIdeal.main_arg4)
      ∧ r.2.mem ((c.tc : Thread Cert.SumGateIdeal.nD Cert.SumGateIdeal.τ).loc Cert.SumGateIdeal.main_arg5) = m ((c.tc : Thread Cert.SumGateIdeal.nD Cert.SumGateIdeal.τ).loc Cert.SumGateIdeal.main_arg5))
      ∧ r.2.sem = fun _ => 0)

def quiescent_SumGateRefIdeal [hSumGateRefIdeal : Cert.SumGateRefIdeal.Facts] [hPre_chip_in_mesh : Cert.Pre_chip_in_mesh.Facts] : Prop :=
  ∀ (m : (ℓ : Loc Cert.SumGateRefIdeal.nD Cert.SumGateRefIdeal.τ Cert.SumGateRefIdeal.sig) → Buf (Elt Ideal) ℓ) (g : Dev Cert.SumGateRefIdeal.nD → PrngReg), Pre_SumGateRefIdeal m →
    θ_run (Cert.SumGateRefIdeal.defs (F := Ideal)) (onTc (τ := Cert.SumGateRefIdeal.τ) (Cert.SumGateRefIdeal.main (F := Ideal))) ⟨m, fun _ => 0, g⟩ (fun r => (∀ c : Dev Cert.SumGateRefIdeal.nD,
      r.2.mem ((c.tc : Thread Cert.SumGateRefIdeal.nD Cert.SumGateRefIdeal.τ).loc Cert.SumGateRefIdeal.main_arg0) = m ((c.tc : Thread Cert.SumGateRefIdeal.nD Cert.SumGateRefIdeal.τ).loc Cert.SumGateRefIdeal.main_arg0)
      ∧ r.2.mem ((c.tc : Thread Cert.SumGateRefIdeal.nD Cert.SumGateRefIdeal.τ).loc Cert.SumGateRefIdeal.main_arg1) = m ((c.tc : Thread Cert.SumGateRefIdeal.nD Cert.SumGateRefIdeal.τ).loc Cert.SumGateRefIdeal.main_arg1)
      ∧ r.2.mem ((c.tc : Thread Cert.SumGateRefIdeal.nD Cert.SumGateRefIdeal.τ).loc Cert.SumGateRefIdeal.main_arg2) = m ((c.tc : Thread Cert.SumGateRefIdeal.nD Cert.SumGateRefIdeal.τ).loc Cert.SumGateRefIdeal.main_arg2)
      ∧ r.2.mem ((c.tc : Thread Cert.SumGateRefIdeal.nD Cert.SumGateRefIdeal.τ).loc Cert.SumGateRefIdeal.main_arg3) = m ((c.tc : Thread Cert.SumGateRefIdeal.nD Cert.SumGateRefIdeal.τ).loc Cert.SumGateRefIdeal.main_arg3)
      ∧ r.2.mem ((c.tc : Thread Cert.SumGateRefIdeal.nD Cert.SumGateRefIdeal.τ).loc Cert.SumGateRefIdeal.main_arg4) = m ((c.tc : Thread Cert.SumGateRefIdeal.nD Cert.SumGateRefIdeal.τ).loc Cert.SumGateRefIdeal.main_arg4)
      ∧ r.2.mem ((c.tc : Thread Cert.SumGateRefIdeal.nD Cert.SumGateRefIdeal.τ).loc Cert.SumGateRefIdeal.main_arg5) = m ((c.tc : Thread Cert.SumGateRefIdeal.nD Cert.SumGateRefIdeal.τ).loc Cert.SumGateRefIdeal.main_arg5))
      ∧ r.2.sem = fun _ => 0)

def quiescent_SumUp [hSumUp : Cert.SumUp.Facts] [hPre_chip_in_mesh : Cert.Pre_chip_in_mesh.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0)
      ∧ r.2.mem ((c.tc : Thread Cert.SumUp.nD Cert.SumUp.τ).loc Cert.SumUp.main_arg1) = m ((c.tc : Thread Cert.SumUp.nD Cert.SumUp.τ).loc Cert.SumUp.main_arg1)
      ∧ r.2.mem ((c.tc : Thread Cert.SumUp.nD Cert.SumUp.τ).loc Cert.SumUp.main_arg2) = m ((c.tc : Thread Cert.SumUp.nD Cert.SumUp.τ).loc Cert.SumUp.main_arg2)
      ∧ r.2.mem ((c.tc : Thread Cert.SumUp.nD Cert.SumUp.τ).loc Cert.SumUp.main_arg3) = m ((c.tc : Thread Cert.SumUp.nD Cert.SumUp.τ).loc Cert.SumUp.main_arg3)
      ∧ r.2.mem ((c.tc : Thread Cert.SumUp.nD Cert.SumUp.τ).loc Cert.SumUp.main_arg4) = m ((c.tc : Thread Cert.SumUp.nD Cert.SumUp.τ).loc Cert.SumUp.main_arg4)
      ∧ r.2.mem ((c.tc : Thread Cert.SumUp.nD Cert.SumUp.τ).loc Cert.SumUp.main_arg5) = m ((c.tc : Thread Cert.SumUp.nD Cert.SumUp.τ).loc Cert.SumUp.main_arg5))
      ∧ r.2.sem = fun _ => 0)

def quiescent_SumUpIdeal [hSumUpIdeal : Cert.SumUpIdeal.Facts] [hPre_chip_in_mesh : Cert.Pre_chip_in_mesh.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
      ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1)
      ∧ r.2.mem ((c.tc : Thread Cert.SumUpIdeal.nD Cert.SumUpIdeal.τ).loc Cert.SumUpIdeal.main_arg2) = m ((c.tc : Thread Cert.SumUpIdeal.nD Cert.SumUpIdeal.τ).loc Cert.SumUpIdeal.main_arg2)
      ∧ r.2.mem ((c.tc : Thread Cert.SumUpIdeal.nD Cert.SumUpIdeal.τ).loc Cert.SumUpIdeal.main_arg3) = m ((c.tc : Thread Cert.SumUpIdeal.nD Cert.SumUpIdeal.τ).loc Cert.SumUpIdeal.main_arg3)
      ∧ r.2.mem ((c.tc : Thread Cert.SumUpIdeal.nD Cert.SumUpIdeal.τ).loc Cert.SumUpIdeal.main_arg4) = m ((c.tc : Thread Cert.SumUpIdeal.nD Cert.SumUpIdeal.τ).loc Cert.SumUpIdeal.main_arg4)
      ∧ r.2.mem ((c.tc : Thread Cert.SumUpIdeal.nD Cert.SumUpIdeal.τ).loc Cert.SumUpIdeal.main_arg5) = m ((c.tc : Thread Cert.SumUpIdeal.nD Cert.SumUpIdeal.τ).loc Cert.SumUpIdeal.main_arg5))
      ∧ r.2.sem = fun _ => 0)

def quiescent_SumUpRefIdeal [hSumUpRefIdeal : Cert.SumUpRefIdeal.Facts] [hPre_chip_in_mesh : Cert.Pre_chip_in_mesh.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0)
      ∧ r.2.mem ((c.tc : Thread Cert.SumUpRefIdeal.nD Cert.SumUpRefIdeal.τ).loc Cert.SumUpRefIdeal.main_arg1) = m ((c.tc : Thread Cert.SumUpRefIdeal.nD Cert.SumUpRefIdeal.τ).loc Cert.SumUpRefIdeal.main_arg1)
      ∧ r.2.mem ((c.tc : Thread Cert.SumUpRefIdeal.nD Cert.SumUpRefIdeal.τ).loc Cert.SumUpRefIdeal.main_arg2) = m ((c.tc : Thread Cert.SumUpRefIdeal.nD Cert.SumUpRefIdeal.τ).loc Cert.SumUpRefIdeal.main_arg2)
      ∧ r.2.mem ((c.tc : Thread Cert.SumUpRefIdeal.nD Cert.SumUpRefIdeal.τ).loc Cert.SumUpRefIdeal.main_arg3) = m ((c.tc : Thread Cert.SumUpRefIdeal.nD Cert.SumUpRefIdeal.τ).loc Cert.SumUpRefIdeal.main_arg3)
      ∧ r.2.mem ((c.tc : Thread Cert.SumUpRefIdeal.nD Cert.SumUpRefIdeal.τ).loc Cert.SumUpRefIdeal.main_arg4) = m ((c.tc : Thread Cert.SumUpRefIdeal.nD Cert.SumUpRefIdeal.τ).loc Cert.SumUpRefIdeal.main_arg4)
      ∧ r.2.mem ((c.tc : Thread Cert.SumUpRefIdeal.nD Cert.SumUpRefIdeal.τ).loc Cert.SumUpRefIdeal.main_arg5) = m ((c.tc : Thread Cert.SumUpRefIdeal.nD Cert.SumUpRefIdeal.τ).loc Cert.SumUpRefIdeal.main_arg5))
      ∧ r.2.sem = fun _ => 0)

def quiescent_SumDown [hSumDown : Cert.SumDown.Facts] [hPre_chip_in_mesh : Cert.Pre_chip_in_mesh.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0)
      ∧ r.2.mem ((c.tc : Thread Cert.SumDown.nD Cert.SumDown.τ).loc Cert.SumDown.main_arg1) = m ((c.tc : Thread Cert.SumDown.nD Cert.SumDown.τ).loc Cert.SumDown.main_arg1)
      ∧ r.2.mem ((c.tc : Thread Cert.SumDown.nD Cert.SumDown.τ).loc Cert.SumDown.main_arg2) = m ((c.tc : Thread Cert.SumDown.nD Cert.SumDown.τ).loc Cert.SumDown.main_arg2)
      ∧ r.2.mem ((c.tc : Thread Cert.SumDown.nD Cert.SumDown.τ).loc Cert.SumDown.main_arg3) = m ((c.tc : Thread Cert.SumDown.nD Cert.SumDown.τ).loc Cert.SumDown.main_arg3)
      ∧ r.2.mem ((c.tc : Thread Cert.SumDown.nD Cert.SumDown.τ).loc Cert.SumDown.main_arg4) = m ((c.tc : Thread Cert.SumDown.nD Cert.SumDown.τ).loc Cert.SumDown.main_arg4)
      ∧ r.2.mem ((c.tc : Thread Cert.SumDown.nD Cert.SumDown.τ).loc Cert.SumDown.main_arg5) = m ((c.tc : Thread Cert.SumDown.nD Cert.SumDown.τ).loc Cert.SumDown.main_arg5))
      ∧ r.2.sem = fun _ => 0)

def quiescent_SumDownIdeal [hSumDownIdeal : Cert.SumDownIdeal.Facts] [hPre_chip_in_mesh : Cert.Pre_chip_in_mesh.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0)
      ∧ r.2.mem ((c.tc : Thread Cert.SumDownIdeal.nD Cert.SumDownIdeal.τ).loc Cert.SumDownIdeal.main_arg1) = m ((c.tc : Thread Cert.SumDownIdeal.nD Cert.SumDownIdeal.τ).loc Cert.SumDownIdeal.main_arg1)
      ∧ r.2.mem ((c.tc : Thread Cert.SumDownIdeal.nD Cert.SumDownIdeal.τ).loc Cert.SumDownIdeal.main_arg2) = m ((c.tc : Thread Cert.SumDownIdeal.nD Cert.SumDownIdeal.τ).loc Cert.SumDownIdeal.main_arg2)
      ∧ r.2.mem ((c.tc : Thread Cert.SumDownIdeal.nD Cert.SumDownIdeal.τ).loc Cert.SumDownIdeal.main_arg3) = m ((c.tc : Thread Cert.SumDownIdeal.nD Cert.SumDownIdeal.τ).loc Cert.SumDownIdeal.main_arg3)
      ∧ r.2.mem ((c.tc : Thread Cert.SumDownIdeal.nD Cert.SumDownIdeal.τ).loc Cert.SumDownIdeal.main_arg4) = m ((c.tc : Thread Cert.SumDownIdeal.nD Cert.SumDownIdeal.τ).loc Cert.SumDownIdeal.main_arg4)
      ∧ r.2.mem ((c.tc : Thread Cert.SumDownIdeal.nD Cert.SumDownIdeal.τ).loc Cert.SumDownIdeal.main_arg5) = m ((c.tc : Thread Cert.SumDownIdeal.nD Cert.SumDownIdeal.τ).loc Cert.SumDownIdeal.main_arg5))
      ∧ r.2.sem = fun _ => 0)

def quiescent_SumDownRefIdeal [hSumDownRefIdeal : Cert.SumDownRefIdeal.Facts] [hPre_chip_in_mesh : Cert.Pre_chip_in_mesh.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0)
      ∧ r.2.mem ((c.tc : Thread Cert.SumDownRefIdeal.nD Cert.SumDownRefIdeal.τ).loc Cert.SumDownRefIdeal.main_arg1) = m ((c.tc : Thread Cert.SumDownRefIdeal.nD Cert.SumDownRefIdeal.τ).loc Cert.SumDownRefIdeal.main_arg1)
      ∧ r.2.mem ((c.tc : Thread Cert.SumDownRefIdeal.nD Cert.SumDownRefIdeal.τ).loc Cert.SumDownRefIdeal.main_arg2) = m ((c.tc : Thread Cert.SumDownRefIdeal.nD Cert.SumDownRefIdeal.τ).loc Cert.SumDownRefIdeal.main_arg2)
      ∧ r.2.mem ((c.tc : Thread Cert.SumDownRefIdeal.nD Cert.SumDownRefIdeal.τ).loc Cert.SumDownRefIdeal.main_arg3) = m ((c.tc : Thread Cert.SumDownRefIdeal.nD Cert.SumDownRefIdeal.τ).loc Cert.SumDownRefIdeal.main_arg3)
      ∧ r.2.mem ((c.tc : Thread Cert.SumDownRefIdeal.nD Cert.SumDownRefIdeal.τ).loc Cert.SumDownRefIdeal.main_arg4) = m ((c.tc : Thread Cert.SumDownRefIdeal.nD Cert.SumDownRefIdeal.τ).loc Cert.SumDownRefIdeal.main_arg4)
      ∧ r.2.mem ((c.tc : Thread Cert.SumDownRefIdeal.nD Cert.SumDownRefIdeal.τ).loc Cert.SumDownRefIdeal.main_arg5) = m ((c.tc : Thread Cert.SumDownRefIdeal.nD Cert.SumDownRefIdeal.τ).loc Cert.SumDownRefIdeal.main_arg5))
      ∧ r.2.sem = fun _ => 0)

def preserves_FfnGate_FfnGateIdeal : Prop :=
  True

def algebraic_FfnGateIdeal_FfnGateRefIdeal_pre_ffn_finite [hFfnGateIdeal : Cert.FfnGateIdeal.Facts] [hFfnGateRefIdeal : Cert.FfnGateRefIdeal.Facts] [hPre_ffn_finite : Cert.Pre_ffn_finite.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateRefIdeal.nD Cert.FfnGateRefIdeal.τ Cert.FfnGateRefIdeal.sig) → Buf (Elt Ideal) ℓ) (g' : Dev Cert.FfnGateRefIdeal.nD → PrngReg), Pre_FfnGateIdeal_ffn_finite m →
    (∀ c : Dev Cert.FfnGateIdeal.nD,
      m' ((c.tc : Thread Cert.FfnGateRefIdeal.nD Cert.FfnGateRefIdeal.τ).loc Cert.FfnGateRefIdeal.main_arg0) = m ((c.tc : Thread Cert.FfnGateIdeal.nD Cert.FfnGateIdeal.τ).loc Cert.FfnGateIdeal.main_arg0)
      ∧ m' ((c.tc : Thread Cert.FfnGateRefIdeal.nD Cert.FfnGateRefIdeal.τ).loc Cert.FfnGateRefIdeal.main_arg1) = m ((c.tc : Thread Cert.FfnGateIdeal.nD Cert.FfnGateIdeal.τ).loc Cert.FfnGateIdeal.main_arg1)
      ∧ m' ((c.tc : Thread Cert.FfnGateRefIdeal.nD Cert.FfnGateRefIdeal.τ).loc Cert.FfnGateRefIdeal.main_arg2) = m ((c.tc : Thread Cert.FfnGateIdeal.nD Cert.FfnGateIdeal.τ).loc Cert.FfnGateIdeal.main_arg2)
      ∧ m' ((c.tc : Thread Cert.FfnGateRefIdeal.nD Cert.FfnGateRefIdeal.τ).loc Cert.FfnGateRefIdeal.main_arg3) = m ((c.tc : Thread Cert.FfnGateIdeal.nD Cert.FfnGateIdeal.τ).loc Cert.FfnGateIdeal.main_arg3)) →
    ∃ (v0 : (c : Dev Cert.FfnGateIdeal.nD) → Buf (Elt Ideal) ((c.tc : Thread Cert.FfnGateIdeal.nD Cert.FfnGateIdeal.τ).loc Cert.FfnGateIdeal.main_v0_0)) (v1 : (c : Dev Cert.FfnGateIdeal.nD) → Buf (Elt Ideal) ((c.tc : Thread Cert.FfnGateIdeal.nD Cert.FfnGateIdeal.τ).loc Cert.FfnGateIdeal.main_v0_1)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v0_0) = v0 c
          ∧ r.2.mem ((c.tc : Thread Cert.FfnGateIdeal.nD Cert.FfnGateIdeal.τ).loc Cert.FfnGateIdeal.main_v0_1) = v1 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
          ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
          ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3))
      ∧ θ_run (Cert.FfnGateRefIdeal.defs (F := Ideal)) (onTc (τ := Cert.FfnGateRefIdeal.τ) (Cert.FfnGateRefIdeal.main (F := Ideal))) ⟨m', fun _ => 0, g'⟩ (fun r => ∀ c : Dev Cert.FfnGateRefIdeal.nD,
          r.2.mem ((c.tc : Thread Cert.FfnGateRefIdeal.nD Cert.FfnGateRefIdeal.τ).loc Cert.FfnGateRefIdeal.main_v11) = v0 c
          ∧ r.2.mem ((c.tc : Thread Cert.FfnGateRefIdeal.nD Cert.FfnGateRefIdeal.τ).loc Cert.FfnGateRefIdeal.main_v12) = v1 c
          ∧ r.2.mem ((c.tc : Thread Cert.FfnGateRefIdeal.nD Cert.FfnGateRefIdeal.τ).loc Cert.FfnGateRefIdeal.main_arg0) = m' ((c.tc : Thread Cert.FfnGateRefIdeal.nD Cert.FfnGateRefIdeal.τ).loc Cert.FfnGateRefIdeal.main_arg0)
          ∧ r.2.mem ((c.tc : Thread Cert.FfnGateRefIdeal.nD Cert.FfnGateRefIdeal.τ).loc Cert.FfnGateRefIdeal.main_arg1) = m' ((c.tc : Thread Cert.FfnGateRefIdeal.nD Cert.FfnGateRefIdeal.τ).loc Cert.FfnGateRefIdeal.main_arg1)
          ∧ r.2.mem ((c.tc : Thread Cert.FfnGateRefIdeal.nD Cert.FfnGateRefIdeal.τ).loc Cert.FfnGateRefIdeal.main_arg2) = m' ((c.tc : Thread Cert.FfnGateRefIdeal.nD Cert.FfnGateRefIdeal.τ).loc Cert.FfnGateRefIdeal.main_arg2)
          ∧ r.2.mem ((c.tc : Thread Cert.FfnGateRefIdeal.nD Cert.FfnGateRefIdeal.τ).loc Cert.FfnGateRefIdeal.main_arg3) = m' ((c.tc : Thread Cert.FfnGateRefIdeal.nD Cert.FfnGateRefIdeal.τ).loc Cert.FfnGateRefIdeal.main_arg3))

def preserves_Mix_MixIdeal : Prop :=
  True

def preserves_DwFfn_DwFfnIdeal : Prop :=
  True

def algebraic_DwFfnIdeal_DwFfnRefIdeal [hDwFfnIdeal : Cert.DwFfnIdeal.Facts] [hDwFfnRefIdeal : Cert.DwFfnRefIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg)
    (m' : (ℓ : Loc Cert.DwFfnRefIdeal.nD Cert.DwFfnRefIdeal.τ Cert.DwFfnRefIdeal.sig) → Buf (Elt Ideal) ℓ) (g' : Dev Cert.DwFfnRefIdeal.nD → PrngReg), Pre_DwFfnIdeal m →
    (∀ c : Dev Cert.DwFfnIdeal.nD,
      m' ((c.tc : Thread Cert.DwFfnRefIdeal.nD Cert.DwFfnRefIdeal.τ).loc Cert.DwFfnRefIdeal.main_arg0) = m ((c.tc : Thread Cert.DwFfnIdeal.nD Cert.DwFfnIdeal.τ).loc Cert.DwFfnIdeal.main_arg0)
      ∧ m' ((c.tc : Thread Cert.DwFfnRefIdeal.nD Cert.DwFfnRefIdeal.τ).loc Cert.DwFfnRefIdeal.main_arg1) = m ((c.tc : Thread Cert.DwFfnIdeal.nD Cert.DwFfnIdeal.τ).loc Cert.DwFfnIdeal.main_arg1)) →
    ∃ (v0 : (c : Dev Cert.DwFfnIdeal.nD) → Buf (Elt Ideal) ((c.tc : Thread Cert.DwFfnIdeal.nD Cert.DwFfnIdeal.τ).loc Cert.DwFfnIdeal.main_v0)),
      θ_run (Cert.DwFfnIdeal.defs (F := Ideal)) (onTc (τ := Cert.DwFfnIdeal.τ) (Cert.DwFfnIdeal.main (F := Ideal))) ⟨m, fun _ => 0, g⟩ (fun r => ∀ c : Dev Cert.DwFfnIdeal.nD,
          r.2.mem ((c.tc : Thread Cert.DwFfnIdeal.nD Cert.DwFfnIdeal.τ).loc Cert.DwFfnIdeal.main_v0) = v0 c
          ∧ r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
          ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ θ_run (Cert.DwFfnRefIdeal.defs (F := Ideal)) (onTc (τ := Cert.DwFfnRefIdeal.τ) (Cert.DwFfnRefIdeal.main (F := Ideal))) ⟨m', fun _ => 0, g'⟩ (fun r => ∀ c : Dev Cert.DwFfnRefIdeal.nD,
          r.2.mem ((c.tc : Thread Cert.DwFfnRefIdeal.nD Cert.DwFfnRefIdeal.τ).loc Cert.DwFfnRefIdeal.main_v6) = v0 c
          ∧ r.2.mem ((c.tc : Thread Cert.DwFfnRefIdeal.nD Cert.DwFfnRefIdeal.τ).loc Cert.DwFfnRefIdeal.main_arg0) = m' ((c.tc : Thread Cert.DwFfnRefIdeal.nD Cert.DwFfnRefIdeal.τ).loc Cert.DwFfnRefIdeal.main_arg0)
          ∧ r.2.mem ((c.tc : Thread Cert.DwFfnRefIdeal.nD Cert.DwFfnRefIdeal.τ).loc Cert.DwFfnRefIdeal.main_arg1) = m' ((c.tc : Thread Cert.DwFfnRefIdeal.nD Cert.DwFfnRefIdeal.τ).loc Cert.DwFfnRefIdeal.main_arg1))

def algebraic_DwFfnIdeal_DwFfnTRefIdeal [hDwFfnIdeal : Cert.DwFfnIdeal.Facts] [hDwFfnTRefIdeal : Cert.DwFfnTRefIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg)
    (m' : (ℓ : Loc Cert.DwFfnTRefIdeal.nD Cert.DwFfnTRefIdeal.τ Cert.DwFfnTRefIdeal.sig) → Buf (Elt Ideal) ℓ) (g' : Dev Cert.DwFfnTRefIdeal.nD → PrngReg), Pre_DwFfnIdeal m →
    (∀ c : Dev Cert.DwFfnIdeal.nD,
      m' ((c.tc : Thread Cert.DwFfnTRefIdeal.nD Cert.DwFfnTRefIdeal.τ).loc Cert.DwFfnTRefIdeal.main_arg0) = m ((c.tc : Thread Cert.DwFfnIdeal.nD Cert.DwFfnIdeal.τ).loc Cert.DwFfnIdeal.main_arg0)
      ∧ m' ((c.tc : Thread Cert.DwFfnTRefIdeal.nD Cert.DwFfnTRefIdeal.τ).loc Cert.DwFfnTRefIdeal.main_arg1) = m ((c.tc : Thread Cert.DwFfnIdeal.nD Cert.DwFfnIdeal.τ).loc Cert.DwFfnIdeal.main_arg1)) →
    ∃ (v0 : (c : Dev Cert.DwFfnIdeal.nD) → Buf (Elt Ideal) ((c.tc : Thread Cert.DwFfnIdeal.nD Cert.DwFfnIdeal.τ).loc Cert.DwFfnIdeal.main_v0)),
      θ_run (Cert.DwFfnIdeal.defs (F := Ideal)) (onTc (τ := Cert.DwFfnIdeal.τ) (Cert.DwFfnIdeal.main (F := Ideal))) ⟨m, fun _ => 0, g⟩ (fun r => ∀ c : Dev Cert.DwFfnIdeal.nD,
          r.2.mem ((c.tc : Thread Cert.DwFfnIdeal.nD Cert.DwFfnIdeal.τ).loc Cert.DwFfnIdeal.main_v0) = v0 c
          ∧ r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
          ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ θ_run (Cert.DwFfnTRefIdeal.defs (F := Ideal)) (onTc (τ := Cert.DwFfnTRefIdeal.τ) (Cert.DwFfnTRefIdeal.main (F := Ideal))) ⟨m', fun _ => 0, g'⟩ (fun r => ∀ c : Dev Cert.DwFfnTRefIdeal.nD,
          r.2.mem ((c.tc : Thread Cert.DwFfnTRefIdeal.nD Cert.DwFfnTRefIdeal.τ).loc Cert.DwFfnTRefIdeal.main_v8) = v0 c
          ∧ r.2.mem ((c.tc : Thread Cert.DwFfnTRefIdeal.nD Cert.DwFfnTRefIdeal.τ).loc Cert.DwFfnTRefIdeal.main_arg0) = m' ((c.tc : Thread Cert.DwFfnTRefIdeal.nD Cert.DwFfnTRefIdeal.τ).loc Cert.DwFfnTRefIdeal.main_arg0)
          ∧ r.2.mem ((c.tc : Thread Cert.DwFfnTRefIdeal.nD Cert.DwFfnTRefIdeal.τ).loc Cert.DwFfnTRefIdeal.main_arg1) = m' ((c.tc : Thread Cert.DwFfnTRefIdeal.nD Cert.DwFfnTRefIdeal.τ).loc Cert.DwFfnTRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v8) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v4) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_MmRes_MmResIdeal : Prop :=
  True

def algebraic_MmResIdeal_MmResRefIdeal [hMmResIdeal : Cert.MmResIdeal.Facts] [hMmResRefIdeal : Cert.MmResRefIdeal.Facts] : Prop :=
  ∀ (m : (ℓ : Loc Cert.MmResIdeal.nD Cert.MmResIdeal.τ Cert.MmResIdeal.sig) → Buf (Elt Ideal) ℓ) (g : Dev Cert.MmResIdeal.nD → PrngReg)
    (m' : (ℓ : Loc Cert.MmResRefIdeal.nD Cert.MmResRefIdeal.τ Cert.MmResRefIdeal.sig) → Buf (Elt Ideal) ℓ) (g' : Dev Cert.MmResRefIdeal.nD → PrngReg), Pre_MmResIdeal m →
    (∀ c : Dev Cert.MmResIdeal.nD,
      m' ((c.tc : Thread Cert.MmResRefIdeal.nD Cert.MmResRefIdeal.τ).loc Cert.MmResRefIdeal.main_arg0) = m ((c.tc : Thread Cert.MmResIdeal.nD Cert.MmResIdeal.τ).loc Cert.MmResIdeal.main_arg0)
      ∧ m' ((c.tc : Thread Cert.MmResRefIdeal.nD Cert.MmResRefIdeal.τ).loc Cert.MmResRefIdeal.main_arg1) = m ((c.tc : Thread Cert.MmResIdeal.nD Cert.MmResIdeal.τ).loc Cert.MmResIdeal.main_arg1)
      ∧ m' ((c.tc : Thread Cert.MmResRefIdeal.nD Cert.MmResRefIdeal.τ).loc Cert.MmResRefIdeal.main_arg2) = m ((c.tc : Thread Cert.MmResIdeal.nD Cert.MmResIdeal.τ).loc Cert.MmResIdeal.main_arg2)) →
    ∃ (v0 : (c : Dev Cert.MmResIdeal.nD) → Buf (Elt Ideal) ((c.tc : Thread Cert.MmResIdeal.nD Cert.MmResIdeal.τ).loc Cert.MmResIdeal.main_v0)),
      θ_run (Cert.MmResIdeal.defs (F := Ideal)) (onTc (τ := Cert.MmResIdeal.τ) (Cert.MmResIdeal.main (F := Ideal))) ⟨m, fun _ => 0, g⟩ (fun r => ∀ c : Dev Cert.MmResIdeal.nD,
          r.2.mem ((c.tc : Thread Cert.MmResIdeal.nD Cert.MmResIdeal.τ).loc Cert.MmResIdeal.main_v0) = v0 c
          ∧ r.2.mem ((c.tc : Thread Cert.MmResIdeal.nD Cert.MmResIdeal.τ).loc Cert.MmResIdeal.main_arg0) = m ((c.tc : Thread Cert.MmResIdeal.nD Cert.MmResIdeal.τ).loc Cert.MmResIdeal.main_arg0)
          ∧ r.2.mem ((c.tc : Thread Cert.MmResIdeal.nD Cert.MmResIdeal.τ).loc Cert.MmResIdeal.main_arg1) = m ((c.tc : Thread Cert.MmResIdeal.nD Cert.MmResIdeal.τ).loc Cert.MmResIdeal.main_arg1)
          ∧ r.2.mem ((c.tc : Thread Cert.MmResIdeal.nD Cert.MmResIdeal.τ).loc Cert.MmResIdeal.main_arg2) = m ((c.tc : Thread Cert.MmResIdeal.nD Cert.MmResIdeal.τ).loc Cert.MmResIdeal.main_arg2))
      ∧ θ_run (Cert.MmResRefIdeal.defs (F := Ideal)) (onTc (τ := Cert.MmResRefIdeal.τ) (Cert.MmResRefIdeal.main (F := Ideal))) ⟨m', fun _ => 0, g'⟩ (fun r => ∀ c : Dev Cert.MmResRefIdeal.nD,
          r.2.mem ((c.tc : Thread Cert.MmResRefIdeal.nD Cert.MmResRefIdeal.τ).loc Cert.MmResRefIdeal.main_v5) = v0 c
          ∧ r.2.mem ((c.tc : Thread Cert.MmResRefIdeal.nD Cert.MmResRefIdeal.τ).loc Cert.MmResRefIdeal.main_arg0) = m' ((c.tc : Thread Cert.MmResRefIdeal.nD Cert.MmResRefIdeal.τ).loc Cert.MmResRefIdeal.main_arg0)
          ∧ r.2.mem ((c.tc : Thread Cert.MmResRefIdeal.nD Cert.MmResRefIdeal.τ).loc Cert.MmResRefIdeal.main_arg1) = m' ((c.tc : Thread Cert.MmResRefIdeal.nD Cert.MmResRefIdeal.τ).loc Cert.MmResRefIdeal.main_arg1)
          ∧ r.2.mem ((c.tc : Thread Cert.MmResRefIdeal.nD Cert.MmResRefIdeal.τ).loc Cert.MmResRefIdeal.main_arg2) = m' ((c.tc : Thread Cert.MmResRefIdeal.nD Cert.MmResRefIdeal.τ).loc Cert.MmResRefIdeal.main_arg2))

def preserves_RmsFfn_RmsFfnIdeal : Prop :=
  True

def algebraic_RmsFfnIdeal_RmsFfnRefIdeal [hRmsFfnIdeal : Cert.RmsFfnIdeal.Facts] [hRmsFfnRefIdeal : Cert.RmsFfnRefIdeal.Facts] : Prop :=
  ∀ (m : (ℓ : Loc Cert.RmsFfnIdeal.nD Cert.RmsFfnIdeal.τ Cert.RmsFfnIdeal.sig) → Buf (Elt Ideal) ℓ) (g : Dev Cert.RmsFfnIdeal.nD → PrngReg)
    (m' : (ℓ : Loc Cert.RmsFfnRefIdeal.nD Cert.RmsFfnRefIdeal.τ Cert.RmsFfnRefIdeal.sig) → Buf (Elt Ideal) ℓ) (g' : Dev Cert.RmsFfnRefIdeal.nD → PrngReg), Pre_RmsFfnIdeal m →
    (∀ c : Dev Cert.RmsFfnIdeal.nD,
      m' ((c.tc : Thread Cert.RmsFfnRefIdeal.nD Cert.RmsFfnRefIdeal.τ).loc Cert.RmsFfnRefIdeal.main_arg0) = m ((c.tc : Thread Cert.RmsFfnIdeal.nD Cert.RmsFfnIdeal.τ).loc Cert.RmsFfnIdeal.main_arg0)
      ∧ m' ((c.tc : Thread Cert.RmsFfnRefIdeal.nD Cert.RmsFfnRefIdeal.τ).loc Cert.RmsFfnRefIdeal.main_arg1) = m ((c.tc : Thread Cert.RmsFfnIdeal.nD Cert.RmsFfnIdeal.τ).loc Cert.RmsFfnIdeal.main_arg1)
      ∧ m' ((c.tc : Thread Cert.RmsFfnRefIdeal.nD Cert.RmsFfnRefIdeal.τ).loc Cert.RmsFfnRefIdeal.main_arg2) = m ((c.tc : Thread Cert.RmsFfnIdeal.nD Cert.RmsFfnIdeal.τ).loc Cert.RmsFfnIdeal.main_arg2)
      ∧ m' ((c.tc : Thread Cert.RmsFfnRefIdeal.nD Cert.RmsFfnRefIdeal.τ).loc Cert.RmsFfnRefIdeal.main_arg3) = m ((c.tc : Thread Cert.RmsFfnIdeal.nD Cert.RmsFfnIdeal.τ).loc Cert.RmsFfnIdeal.main_arg3)
      ∧ m' ((c.tc : Thread Cert.RmsFfnRefIdeal.nD Cert.RmsFfnRefIdeal.τ).loc Cert.RmsFfnRefIdeal.main_arg4) = m ((c.tc : Thread Cert.RmsFfnIdeal.nD Cert.RmsFfnIdeal.τ).loc Cert.RmsFfnIdeal.main_arg4)
      ∧ m' ((c.tc : Thread Cert.RmsFfnRefIdeal.nD Cert.RmsFfnRefIdeal.τ).loc Cert.RmsFfnRefIdeal.main_arg5) = m ((c.tc : Thread Cert.RmsFfnIdeal.nD Cert.RmsFfnIdeal.τ).loc Cert.RmsFfnIdeal.main_arg5)
      ∧ m' ((c.tc : Thread Cert.RmsFfnRefIdeal.nD Cert.RmsFfnRefIdeal.τ).loc Cert.RmsFfnRefIdeal.main_arg6) = m ((c.tc : Thread Cert.RmsFfnIdeal.nD Cert.RmsFfnIdeal.τ).loc Cert.RmsFfnIdeal.main_arg6)) →
    ∃ (v0 : (c : Dev Cert.RmsFfnIdeal.nD) → Buf (Elt Ideal) ((c.tc : Thread Cert.RmsFfnIdeal.nD Cert.RmsFfnIdeal.τ).loc Cert.RmsFfnIdeal.main_v0_0)) (v1 : (c : Dev Cert.RmsFfnIdeal.nD) → Buf (Elt Ideal) ((c.tc : Thread Cert.RmsFfnIdeal.nD Cert.RmsFfnIdeal.τ).loc Cert.RmsFfnIdeal.main_v0_1)) (v2 : (c : Dev Cert.RmsFfnIdeal.nD) → Buf (Elt Ideal) ((c.tc : Thread Cert.RmsFfnIdeal.nD Cert.RmsFfnIdeal.τ).loc Cert.RmsFfnIdeal.main_v0_2)),
      θ_run (Cert.RmsFfnIdeal.defs (F := Ideal)) (onTc (τ := Cert.RmsFfnIdeal.τ) (Cert.RmsFfnIdeal.main (F := Ideal))) ⟨m, fun _ => 0, g⟩ (fun r => ∀ c : Dev Cert.RmsFfnIdeal.nD,
          r.2.mem ((c.tc : Thread Cert.RmsFfnIdeal.nD Cert.RmsFfnIdeal.τ).loc Cert.RmsFfnIdeal.main_v0_0) = v0 c
          ∧ r.2.mem ((c.tc : Thread Cert.RmsFfnIdeal.nD Cert.RmsFfnIdeal.τ).loc Cert.RmsFfnIdeal.main_v0_1) = v1 c
          ∧ r.2.mem ((c.tc : Thread Cert.RmsFfnIdeal.nD Cert.RmsFfnIdeal.τ).loc Cert.RmsFfnIdeal.main_v0_2) = v2 c
          ∧ r.2.mem ((c.tc : Thread Cert.RmsFfnIdeal.nD Cert.RmsFfnIdeal.τ).loc Cert.RmsFfnIdeal.main_arg0) = m ((c.tc : Thread Cert.RmsFfnIdeal.nD Cert.RmsFfnIdeal.τ).loc Cert.RmsFfnIdeal.main_arg0)
          ∧ r.2.mem ((c.tc : Thread Cert.RmsFfnIdeal.nD Cert.RmsFfnIdeal.τ).loc Cert.RmsFfnIdeal.main_arg1) = m ((c.tc : Thread Cert.RmsFfnIdeal.nD Cert.RmsFfnIdeal.τ).loc Cert.RmsFfnIdeal.main_arg1)
          ∧ r.2.mem ((c.tc : Thread Cert.RmsFfnIdeal.nD Cert.RmsFfnIdeal.τ).loc Cert.RmsFfnIdeal.main_arg2) = m ((c.tc : Thread Cert.RmsFfnIdeal.nD Cert.RmsFfnIdeal.τ).loc Cert.RmsFfnIdeal.main_arg2)
          ∧ r.2.mem ((c.tc : Thread Cert.RmsFfnIdeal.nD Cert.RmsFfnIdeal.τ).loc Cert.RmsFfnIdeal.main_arg3) = m ((c.tc : Thread Cert.RmsFfnIdeal.nD Cert.RmsFfnIdeal.τ).loc Cert.RmsFfnIdeal.main_arg3)
          ∧ r.2.mem ((c.tc : Thread Cert.RmsFfnIdeal.nD Cert.RmsFfnIdeal.τ).loc Cert.RmsFfnIdeal.main_arg4) = m ((c.tc : Thread Cert.RmsFfnIdeal.nD Cert.RmsFfnIdeal.τ).loc Cert.RmsFfnIdeal.main_arg4)
          ∧ r.2.mem ((c.tc : Thread Cert.RmsFfnIdeal.nD Cert.RmsFfnIdeal.τ).loc Cert.RmsFfnIdeal.main_arg5) = m ((c.tc : Thread Cert.RmsFfnIdeal.nD Cert.RmsFfnIdeal.τ).loc Cert.RmsFfnIdeal.main_arg5)
          ∧ r.2.mem ((c.tc : Thread Cert.RmsFfnIdeal.nD Cert.RmsFfnIdeal.τ).loc Cert.RmsFfnIdeal.main_arg6) = m ((c.tc : Thread Cert.RmsFfnIdeal.nD Cert.RmsFfnIdeal.τ).loc Cert.RmsFfnIdeal.main_arg6))
      ∧ θ_run (Cert.RmsFfnRefIdeal.defs (F := Ideal)) (onTc (τ := Cert.RmsFfnRefIdeal.τ) (Cert.RmsFfnRefIdeal.main (F := Ideal))) ⟨m', fun _ => 0, g'⟩ (fun r => ∀ c : Dev Cert.RmsFfnRefIdeal.nD,
          r.2.mem ((c.tc : Thread Cert.RmsFfnRefIdeal.nD Cert.RmsFfnRefIdeal.τ).loc Cert.RmsFfnRefIdeal.main_v45) = v0 c
          ∧ r.2.mem ((c.tc : Thread Cert.RmsFfnRefIdeal.nD Cert.RmsFfnRefIdeal.τ).loc Cert.RmsFfnRefIdeal.main_v46) = v1 c
          ∧ r.2.mem ((c.tc : Thread Cert.RmsFfnRefIdeal.nD Cert.RmsFfnRefIdeal.τ).loc Cert.RmsFfnRefIdeal.main_v28) = v2 c
          ∧ r.2.mem ((c.tc : Thread Cert.RmsFfnRefIdeal.nD Cert.RmsFfnRefIdeal.τ).loc Cert.RmsFfnRefIdeal.main_arg0) = m' ((c.tc : Thread Cert.RmsFfnRefIdeal.nD Cert.RmsFfnRefIdeal.τ).loc Cert.RmsFfnRefIdeal.main_arg0)
          ∧ r.2.mem ((c.tc : Thread Cert.RmsFfnRefIdeal.nD Cert.RmsFfnRefIdeal.τ).loc Cert.RmsFfnRefIdeal.main_arg1) = m' ((c.tc : Thread Cert.RmsFfnRefIdeal.nD Cert.RmsFfnRefIdeal.τ).loc Cert.RmsFfnRefIdeal.main_arg1)
          ∧ r.2.mem ((c.tc : Thread Cert.RmsFfnRefIdeal.nD Cert.RmsFfnRefIdeal.τ).loc Cert.RmsFfnRefIdeal.main_arg2) = m' ((c.tc : Thread Cert.RmsFfnRefIdeal.nD Cert.RmsFfnRefIdeal.τ).loc Cert.RmsFfnRefIdeal.main_arg2)
          ∧ r.2.mem ((c.tc : Thread Cert.RmsFfnRefIdeal.nD Cert.RmsFfnRefIdeal.τ).loc Cert.RmsFfnRefIdeal.main_arg3) = m' ((c.tc : Thread Cert.RmsFfnRefIdeal.nD Cert.RmsFfnRefIdeal.τ).loc Cert.RmsFfnRefIdeal.main_arg3)
          ∧ r.2.mem ((c.tc : Thread Cert.RmsFfnRefIdeal.nD Cert.RmsFfnRefIdeal.τ).loc Cert.RmsFfnRefIdeal.main_arg4) = m' ((c.tc : Thread Cert.RmsFfnRefIdeal.nD Cert.RmsFfnRefIdeal.τ).loc Cert.RmsFfnRefIdeal.main_arg4)
          ∧ r.2.mem ((c.tc : Thread Cert.RmsFfnRefIdeal.nD Cert.RmsFfnRefIdeal.τ).loc Cert.RmsFfnRefIdeal.main_arg5) = m' ((c.tc : Thread Cert.RmsFfnRefIdeal.nD Cert.RmsFfnRefIdeal.τ).loc Cert.RmsFfnRefIdeal.main_arg5)
          ∧ r.2.mem ((c.tc : Thread Cert.RmsFfnRefIdeal.nD Cert.RmsFfnRefIdeal.τ).loc Cert.RmsFfnRefIdeal.main_arg6) = m' ((c.tc : Thread Cert.RmsFfnRefIdeal.nD Cert.RmsFfnRefIdeal.τ).loc Cert.RmsFfnRefIdeal.main_arg6))

def preserves_RmsIn_RmsInIdeal : Prop :=
  True

def algebraic_RmsInIdeal_RmsInRefIdeal [hRmsInIdeal : Cert.RmsInIdeal.Facts] [hRmsInRefIdeal : Cert.RmsInRefIdeal.Facts] : Prop :=
  ∀ (m : (ℓ : Loc Cert.RmsInIdeal.nD Cert.RmsInIdeal.τ Cert.RmsInIdeal.sig) → Buf (Elt Ideal) ℓ) (g : Dev Cert.RmsInIdeal.nD → PrngReg)
    (m' : (ℓ : Loc Cert.RmsInRefIdeal.nD Cert.RmsInRefIdeal.τ Cert.RmsInRefIdeal.sig) → Buf (Elt Ideal) ℓ) (g' : Dev Cert.RmsInRefIdeal.nD → PrngReg), Pre_RmsInIdeal m →
    (∀ c : Dev Cert.RmsInIdeal.nD,
      m' ((c.tc : Thread Cert.RmsInRefIdeal.nD Cert.RmsInRefIdeal.τ).loc Cert.RmsInRefIdeal.main_arg0) = m ((c.tc : Thread Cert.RmsInIdeal.nD Cert.RmsInIdeal.τ).loc Cert.RmsInIdeal.main_arg0)
      ∧ m' ((c.tc : Thread Cert.RmsInRefIdeal.nD Cert.RmsInRefIdeal.τ).loc Cert.RmsInRefIdeal.main_arg1) = m ((c.tc : Thread Cert.RmsInIdeal.nD Cert.RmsInIdeal.τ).loc Cert.RmsInIdeal.main_arg1)
      ∧ m' ((c.tc : Thread Cert.RmsInRefIdeal.nD Cert.RmsInRefIdeal.τ).loc Cert.RmsInRefIdeal.main_arg2) = m ((c.tc : Thread Cert.RmsInIdeal.nD Cert.RmsInIdeal.τ).loc Cert.RmsInIdeal.main_arg2)
      ∧ m' ((c.tc : Thread Cert.RmsInRefIdeal.nD Cert.RmsInRefIdeal.τ).loc Cert.RmsInRefIdeal.main_arg3) = m ((c.tc : Thread Cert.RmsInIdeal.nD Cert.RmsInIdeal.τ).loc Cert.RmsInIdeal.main_arg3)
      ∧ m' ((c.tc : Thread Cert.RmsInRefIdeal.nD Cert.RmsInRefIdeal.τ).loc Cert.RmsInRefIdeal.main_arg4) = m ((c.tc : Thread Cert.RmsInIdeal.nD Cert.RmsInIdeal.τ).loc Cert.RmsInIdeal.main_arg4)) →
    ∃ (v0 : (c : Dev Cert.RmsInIdeal.nD) → Buf (Elt Ideal) ((c.tc : Thread Cert.RmsInIdeal.nD Cert.RmsInIdeal.τ).loc Cert.RmsInIdeal.main_v0_0)) (v1 : (c : Dev Cert.RmsInIdeal.nD) → Buf (Elt Ideal) ((c.tc : Thread Cert.RmsInIdeal.nD Cert.RmsInIdeal.τ).loc Cert.RmsInIdeal.main_v0_1)) (v2 : (c : Dev Cert.RmsInIdeal.nD) → Buf (Elt Ideal) ((c.tc : Thread Cert.RmsInIdeal.nD Cert.RmsInIdeal.τ).loc Cert.RmsInIdeal.main_v0_2)),
      θ_run (Cert.RmsInIdeal.defs (F := Ideal)) (onTc (τ := Cert.RmsInIdeal.τ) (Cert.RmsInIdeal.main (F := Ideal))) ⟨m, fun _ => 0, g⟩ (fun r => ∀ c : Dev Cert.RmsInIdeal.nD,
          r.2.mem ((c.tc : Thread Cert.RmsInIdeal.nD Cert.RmsInIdeal.τ).loc Cert.RmsInIdeal.main_v0_0) = v0 c
          ∧ r.2.mem ((c.tc : Thread Cert.RmsInIdeal.nD Cert.RmsInIdeal.τ).loc Cert.RmsInIdeal.main_v0_1) = v1 c
          ∧ r.2.mem ((c.tc : Thread Cert.RmsInIdeal.nD Cert.RmsInIdeal.τ).loc Cert.RmsInIdeal.main_v0_2) = v2 c
          ∧ r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
          ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1)
          ∧ r.2.mem ((c.tc : Thread Cert.RmsInIdeal.nD Cert.RmsInIdeal.τ).loc Cert.RmsInIdeal.main_arg2) = m ((c.tc : Thread Cert.RmsInIdeal.nD Cert.RmsInIdeal.τ).loc Cert.RmsInIdeal.main_arg2)
          ∧ r.2.mem ((c.tc : Thread Cert.RmsInIdeal.nD Cert.RmsInIdeal.τ).loc Cert.RmsInIdeal.main_arg3) = m ((c.tc : Thread Cert.RmsInIdeal.nD Cert.RmsInIdeal.τ).loc Cert.RmsInIdeal.main_arg3)
          ∧ r.2.mem ((c.tc : Thread Cert.RmsInIdeal.nD Cert.RmsInIdeal.τ).loc Cert.RmsInIdeal.main_arg4) = m ((c.tc : Thread Cert.RmsInIdeal.nD Cert.RmsInIdeal.τ).loc Cert.RmsInIdeal.main_arg4))
      ∧ θ_run (Cert.RmsInRefIdeal.defs (F := Ideal)) (onTc (τ := Cert.RmsInRefIdeal.τ) (Cert.RmsInRefIdeal.main (F := Ideal))) ⟨m', fun _ => 0, g'⟩ (fun r => ∀ c : Dev Cert.RmsInRefIdeal.nD,
          r.2.mem ((c.tc : Thread Cert.RmsInRefIdeal.nD Cert.RmsInRefIdeal.τ).loc Cert.RmsInRefIdeal.main_v39) = v0 c
          ∧ r.2.mem ((c.tc : Thread Cert.RmsInRefIdeal.nD Cert.RmsInRefIdeal.τ).loc Cert.RmsInRefIdeal.main_v42) = v1 c
          ∧ r.2.mem ((c.tc : Thread Cert.RmsInRefIdeal.nD Cert.RmsInRefIdeal.τ).loc Cert.RmsInRefIdeal.main_v22) = v2 c
          ∧ r.2.mem ((c.tc : Thread Cert.RmsInRefIdeal.nD Cert.RmsInRefIdeal.τ).loc Cert.RmsInRefIdeal.main_arg0) = m' ((c.tc : Thread Cert.RmsInRefIdeal.nD Cert.RmsInRefIdeal.τ).loc Cert.RmsInRefIdeal.main_arg0)
          ∧ r.2.mem ((c.tc : Thread Cert.RmsInRefIdeal.nD Cert.RmsInRefIdeal.τ).loc Cert.RmsInRefIdeal.main_arg1) = m' ((c.tc : Thread Cert.RmsInRefIdeal.nD Cert.RmsInRefIdeal.τ).loc Cert.RmsInRefIdeal.main_arg1)
          ∧ r.2.mem ((c.tc : Thread Cert.RmsInRefIdeal.nD Cert.RmsInRefIdeal.τ).loc Cert.RmsInRefIdeal.main_arg2) = m' ((c.tc : Thread Cert.RmsInRefIdeal.nD Cert.RmsInRefIdeal.τ).loc Cert.RmsInRefIdeal.main_arg2)
          ∧ r.2.mem ((c.tc : Thread Cert.RmsInRefIdeal.nD Cert.RmsInRefIdeal.τ).loc Cert.RmsInRefIdeal.main_arg3) = m' ((c.tc : Thread Cert.RmsInRefIdeal.nD Cert.RmsInRefIdeal.τ).loc Cert.RmsInRefIdeal.main_arg3)
          ∧ r.2.mem ((c.tc : Thread Cert.RmsInRefIdeal.nD Cert.RmsInRefIdeal.τ).loc Cert.RmsInRefIdeal.main_arg4) = m' ((c.tc : Thread Cert.RmsInRefIdeal.nD Cert.RmsInRefIdeal.τ).loc Cert.RmsInRefIdeal.main_arg4))

def preserves_NormProj_NormProjIdeal : Prop :=
  True

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)
      ∧ m' ((c.tc : Thread Cert.NormProjRefIdeal.nD Cert.NormProjRefIdeal.τ).loc Cert.NormProjRefIdeal.main_arg3) = m ((c.tc : Thread Cert.NormProjIdeal.nD Cert.NormProjIdeal.τ).loc Cert.NormProjIdeal.main_arg3)) →
    ∃ (v0 : (c : Dev Cert.NormProjIdeal.nD) → Buf (Elt Ideal) ((c.tc : Thread Cert.NormProjIdeal.nD Cert.NormProjIdeal.τ).loc Cert.NormProjIdeal.main_v0_0)) (v1 : (c : Dev Cert.NormProjIdeal.nD) → Buf (Elt Ideal) ((c.tc : Thread Cert.NormProjIdeal.nD Cert.NormProjIdeal.τ).loc Cert.NormProjIdeal.main_v0_1)) (v2 : (c : Dev Cert.NormProjIdeal.nD) → Buf (Elt Ideal) ((c.tc : Thread Cert.NormProjIdeal.nD Cert.NormProjIdeal.τ).loc Cert.NormProjIdeal.main_v0_2)) (v3 : (c : Dev Cert.NormProjIdeal.nD) → Buf (Elt Ideal) ((c.tc : Thread Cert.NormProjIdeal.nD Cert.NormProjIdeal.τ).loc Cert.NormProjIdeal.main_v0_3)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v0_0) = v0 c
          ∧ r.2.mem ((c.tc : Thread Cert.NormProjIdeal.nD Cert.NormProjIdeal.τ).loc Cert.NormProjIdeal.main_v0_1) = v1 c
          ∧ r.2.mem ((c.tc : Thread Cert.NormProjIdeal.nD Cert.NormProjIdeal.τ).loc Cert.NormProjIdeal.main_v0_2) = v2 c
          ∧ r.2.mem ((c.tc : Thread Cert.NormProjIdeal.nD Cert.NormProjIdeal.τ).loc Cert.NormProjIdeal.main_v0_3) = v3 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
          ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v18) = v0 c
          ∧ r.2.mem ((c.tc : Thread Cert.NormProjRefIdeal.nD Cert.NormProjRefIdeal.τ).loc Cert.NormProjRefIdeal.main_v19) = v1 c
          ∧ r.2.mem ((c.tc : Thread Cert.NormProjRefIdeal.nD Cert.NormProjRefIdeal.τ).loc Cert.NormProjRefIdeal.main_v20) = v2 c
          ∧ r.2.mem ((c.tc : Thread Cert.NormProjRefIdeal.nD Cert.NormProjRefIdeal.τ).loc Cert.NormProjRefIdeal.main_v23) = v3 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2)
          ∧ r.2.mem ((c.tc : Thread Cert.NormProjRefIdeal.nD Cert.NormProjRefIdeal.τ).loc Cert.NormProjRefIdeal.main_arg3) = m' ((c.tc : Thread Cert.NormProjRefIdeal.nD Cert.NormProjRefIdeal.τ).loc Cert.NormProjRefIdeal.main_arg3))

def preserves_UpAct_UpActIdeal : Prop :=
  True

def algebraic_UpActIdeal_UpActRefIdeal [hUpActIdeal : Cert.UpActIdeal.Facts] [hUpActRefIdeal : Cert.UpActRefIdeal.Facts] : Prop :=
  ∀ (m : (ℓ : Loc Cert.UpActIdeal.nD Cert.UpActIdeal.τ Cert.UpActIdeal.sig) → Buf (Elt Ideal) ℓ) (g : Dev Cert.UpActIdeal.nD → PrngReg)
    (m' : (ℓ : Loc Cert.UpActRefIdeal.nD Cert.UpActRefIdeal.τ Cert.UpActRefIdeal.sig) → Buf (Elt Ideal) ℓ) (g' : Dev Cert.UpActRefIdeal.nD → PrngReg), Pre_UpActIdeal m →
    (∀ c : Dev Cert.UpActIdeal.nD,
      m' ((c.tc : Thread Cert.UpActRefIdeal.nD Cert.UpActRefIdeal.τ).loc Cert.UpActRefIdeal.main_arg0) = m ((c.tc : Thread Cert.UpActIdeal.nD Cert.UpActIdeal.τ).loc Cert.UpActIdeal.main_arg0)
      ∧ m' ((c.tc : Thread Cert.UpActRefIdeal.nD Cert.UpActRefIdeal.τ).loc Cert.UpActRefIdeal.main_arg1) = m ((c.tc : Thread Cert.UpActIdeal.nD Cert.UpActIdeal.τ).loc Cert.UpActIdeal.main_arg1)
      ∧ m' ((c.tc : Thread Cert.UpActRefIdeal.nD Cert.UpActRefIdeal.τ).loc Cert.UpActRefIdeal.main_arg2) = m ((c.tc : Thread Cert.UpActIdeal.nD Cert.UpActIdeal.τ).loc Cert.UpActIdeal.main_arg2)) →
    ∃ (v0 : (c : Dev Cert.UpActIdeal.nD) → Buf (Elt Ideal) ((c.tc : Thread Cert.UpActIdeal.nD Cert.UpActIdeal.τ).loc Cert.UpActIdeal.main_v0_0)) (v1 : (c : Dev Cert.UpActIdeal.nD) → Buf (Elt Ideal) ((c.tc : Thread Cert.UpActIdeal.nD Cert.UpActIdeal.τ).loc Cert.UpActIdeal.main_v0_1)),
      θ_run (Cert.UpActIdeal.defs (F := Ideal)) (onTc (τ := Cert.UpActIdeal.τ) (Cert.UpActIdeal.main (F := Ideal))) ⟨m, fun _ => 0, g⟩ (fun r => ∀ c : Dev Cert.UpActIdeal.nD,
          r.2.mem ((c.tc : Thread Cert.UpActIdeal.nD Cert.UpActIdeal.τ).loc Cert.UpActIdeal.main_v0_0) = v0 c
          ∧ r.2.mem ((c.tc : Thread Cert.UpActIdeal.nD Cert.UpActIdeal.τ).loc Cert.UpActIdeal.main_v0_1) = v1 c
          ∧ r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
          ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
          ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2))
      ∧ θ_run (Cert.UpActRefIdeal.defs (F := Ideal)) (onTc (τ := Cert.UpActRefIdeal.τ) (Cert.UpActRefIdeal.main (F := Ideal))) ⟨m', fun _ => 0, g'⟩ (fun r => ∀ c : Dev Cert.UpActRefIdeal.nD,
          r.2.mem ((c.tc : Thread Cert.UpActRefIdeal.nD Cert.UpActRefIdeal.τ).loc Cert.UpActRefIdeal.main_v4) = v0 c
          ∧ r.2.mem ((c.tc : Thread Cert.UpActRefIdeal.nD Cert.UpActRefIdeal.τ).loc Cert.UpActRefIdeal.main_v8) = v1 c
          ∧ r.2.mem ((c.tc : Thread Cert.UpActRefIdeal.nD Cert.UpActRefIdeal.τ).loc Cert.UpActRefIdeal.main_arg0) = m' ((c.tc : Thread Cert.UpActRefIdeal.nD Cert.UpActRefIdeal.τ).loc Cert.UpActRefIdeal.main_arg0)
          ∧ r.2.mem ((c.tc : Thread Cert.UpActRefIdeal.nD Cert.UpActRefIdeal.τ).loc Cert.UpActRefIdeal.main_arg1) = m' ((c.tc : Thread Cert.UpActRefIdeal.nD Cert.UpActRefIdeal.τ).loc Cert.UpActRefIdeal.main_arg1)
          ∧ r.2.mem ((c.tc : Thread Cert.UpActRefIdeal.nD Cert.UpActRefIdeal.τ).loc Cert.UpActRefIdeal.main_arg2) = m' ((c.tc : Thread Cert.UpActRefIdeal.nD Cert.UpActRefIdeal.τ).loc Cert.UpActRefIdeal.main_arg2))

def preserves_NormGate_NormGateIdeal : Prop :=
  True

def algebraic_NormGateIdeal_NormGateRefIdeal [hNormGateIdeal : Cert.NormGateIdeal.Facts] [hNormGateRefIdeal : Cert.NormGateRefIdeal.Facts] : Prop :=
  ∀ (m : (ℓ : Loc Cert.NormGateIdeal.nD Cert.NormGateIdeal.τ Cert.NormGateIdeal.sig) → Buf (Elt Ideal) ℓ) (g : Dev Cert.NormGateIdeal.nD → PrngReg)
    (m' : (ℓ : Loc Cert.NormGateRefIdeal.nD Cert.NormGateRefIdeal.τ Cert.NormGateRefIdeal.sig) → Buf (Elt Ideal) ℓ) (g' : Dev Cert.NormGateRefIdeal.nD → PrngReg), Pre_NormGateIdeal m →
    (∀ c : Dev Cert.NormGateIdeal.nD,
      m' ((c.tc : Thread Cert.NormGateRefIdeal.nD Cert.NormGateRefIdeal.τ).loc Cert.NormGateRefIdeal.main_arg0) = m ((c.tc : Thread Cert.NormGateIdeal.nD Cert.NormGateIdeal.τ).loc Cert.NormGateIdeal.main_arg0)
      ∧ m' ((c.tc : Thread Cert.NormGateRefIdeal.nD Cert.NormGateRefIdeal.τ).loc Cert.NormGateRefIdeal.main_arg1) = m ((c.tc : Thread Cert.NormGateIdeal.nD Cert.NormGateIdeal.τ).loc Cert.NormGateIdeal.main_arg1)
      ∧ m' ((c.tc : Thread Cert.NormGateRefIdeal.nD Cert.NormGateRefIdeal.τ).loc Cert.NormGateRefIdeal.main_arg2) = m ((c.tc : Thread Cert.NormGateIdeal.nD Cert.NormGateIdeal.τ).loc Cert.NormGateIdeal.main_arg2)) →
    ∃ (v0 : (c : Dev Cert.NormGateIdeal.nD) → Buf (Elt Ideal) ((c.tc : Thread Cert.NormGateIdeal.nD Cert.NormGateIdeal.τ).loc Cert.NormGateIdeal.main_v0_0)) (v1 : (c : Dev Cert.NormGateIdeal.nD) → Buf (Elt Ideal) ((c.tc : Thread Cert.NormGateIdeal.nD Cert.NormGateIdeal.τ).loc Cert.NormGateIdeal.main_v0_1)),
      θ_run (Cert.NormGateIdeal.defs (F := Ideal)) (onTc (τ := Cert.NormGateIdeal.τ) (Cert.NormGateIdeal.main (F := Ideal))) ⟨m, fun _ => 0, g⟩ (fun r => ∀ c : Dev Cert.NormGateIdeal.nD,
          r.2.mem ((c.tc : Thread Cert.NormGateIdeal.nD Cert.NormGateIdeal.τ).loc Cert.NormGateIdeal.main_v0_0) = v0 c
          ∧ r.2.mem ((c.tc : Thread Cert.NormGateIdeal.nD Cert.NormGateIdeal.τ).loc Cert.NormGateIdeal.main_v0_1) = v1 c
          ∧ r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
          ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
          ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2))
      ∧ θ_run (Cert.NormGateRefIdeal.defs (F := Ideal)) (onTc (τ := Cert.NormGateRefIdeal.τ) (Cert.NormGateRefIdeal.main (F := Ideal))) ⟨m', fun _ => 0, g'⟩ (fun r => ∀ c : Dev Cert.NormGateRefIdeal.nD,
          r.2.mem ((c.tc : Thread Cert.NormGateRefIdeal.nD Cert.NormGateRefIdeal.τ).loc Cert.NormGateRefIdeal.main_v12) = v0 c
          ∧ r.2.mem ((c.tc : Thread Cert.NormGateRefIdeal.nD Cert.NormGateRefIdeal.τ).loc Cert.NormGateRefIdeal.main_v16) = v1 c
          ∧ r.2.mem ((c.tc : Thread Cert.NormGateRefIdeal.nD Cert.NormGateRefIdeal.τ).loc Cert.NormGateRefIdeal.main_arg0) = m' ((c.tc : Thread Cert.NormGateRefIdeal.nD Cert.NormGateRefIdeal.τ).loc Cert.NormGateRefIdeal.main_arg0)
          ∧ r.2.mem ((c.tc : Thread Cert.NormGateRefIdeal.nD Cert.NormGateRefIdeal.τ).loc Cert.NormGateRefIdeal.main_arg1) = m' ((c.tc : Thread Cert.NormGateRefIdeal.nD Cert.NormGateRefIdeal.τ).loc Cert.NormGateRefIdeal.main_arg1)
          ∧ r.2.mem ((c.tc : Thread Cert.NormGateRefIdeal.nD Cert.NormGateRefIdeal.τ).loc Cert.NormGateRefIdeal.main_arg2) = m' ((c.tc : Thread Cert.NormGateRefIdeal.nD Cert.NormGateRefIdeal.τ).loc Cert.NormGateRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v12) = v0 c
          ∧ r.2.mem ((c.tc : Thread Cert.InProjRefIdeal.nD Cert.InProjRefIdeal.τ).loc Cert.InProjRefIdeal.main_v15) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_SumGate_SumGateIdeal : Prop :=
  True

def algebraic_SumGateIdeal_SumGateRefIdeal [hSumGateIdeal : Cert.SumGateIdeal.Facts] [hSumGateRefIdeal : Cert.SumGateRefIdeal.Facts] [hPre_chip_in_mesh : Cert.Pre_chip_in_mesh.Facts] : Prop :=
  ∀ (m : (ℓ : Loc Cert.SumGateIdeal.nD Cert.SumGateIdeal.τ Cert.SumGateIdeal.sig) → Buf (Elt Ideal) ℓ) (g : Dev Cert.SumGateIdeal.nD → PrngReg)
    (m' : (ℓ : Loc Cert.SumGateRefIdeal.nD Cert.SumGateRefIdeal.τ Cert.SumGateRefIdeal.sig) → Buf (Elt Ideal) ℓ) (g' : Dev Cert.SumGateRefIdeal.nD → PrngReg), Pre_SumGateIdeal m →
    (∀ c : Dev Cert.SumGateIdeal.nD,
      m' ((c.tc : Thread Cert.SumGateRefIdeal.nD Cert.SumGateRefIdeal.τ).loc Cert.SumGateRefIdeal.main_arg0) = m ((c.tc : Thread Cert.SumGateIdeal.nD Cert.SumGateIdeal.τ).loc Cert.SumGateIdeal.main_arg0)
      ∧ m' ((c.tc : Thread Cert.SumGateRefIdeal.nD Cert.SumGateRefIdeal.τ).loc Cert.SumGateRefIdeal.main_arg1) = m ((c.tc : Thread Cert.SumGateIdeal.nD Cert.SumGateIdeal.τ).loc Cert.SumGateIdeal.main_arg1)
      ∧ m' ((c.tc : Thread Cert.SumGateRefIdeal.nD Cert.SumGateRefIdeal.τ).loc Cert.SumGateRefIdeal.main_arg2) = m ((c.tc : Thread Cert.SumGateIdeal.nD Cert.SumGateIdeal.τ).loc Cert.SumGateIdeal.main_arg2)
      ∧ m' ((c.tc : Thread Cert.SumGateRefIdeal.nD Cert.SumGateRefIdeal.τ).loc Cert.SumGateRefIdeal.main_arg3) = m ((c.tc : Thread Cert.SumGateIdeal.nD Cert.SumGateIdeal.τ).loc Cert.SumGateIdeal.main_arg3)
      ∧ m' ((c.tc : Thread Cert.SumGateRefIdeal.nD Cert.SumGateRefIdeal.τ).loc Cert.SumGateRefIdeal.main_arg4) = m ((c.tc : Thread Cert.SumGateIdeal.nD Cert.SumGateIdeal.τ).loc Cert.SumGateIdeal.main_arg4)
      ∧ m' ((c.tc : Thread Cert.SumGateRefIdeal.nD Cert.SumGateRefIdeal.τ).loc Cert.SumGateRefIdeal.main_arg5) = m ((c.tc : Thread Cert.SumGateIdeal.nD Cert.SumGateIdeal.τ).loc Cert.SumGateIdeal.main_arg5)) →
    ∃ (v0 : (c : Dev Cert.SumGateIdeal.nD) → Buf (Elt Ideal) ((c.tc : Thread Cert.SumGateIdeal.nD Cert.SumGateIdeal.τ).loc Cert.SumGateIdeal.main_v0_0)) (v1 : (c : Dev Cert.SumGateIdeal.nD) → Buf (Elt Ideal) ((c.tc : Thread Cert.SumGateIdeal.nD Cert.SumGateIdeal.τ).loc Cert.SumGateIdeal.main_v0_1)) (v2 : (c : Dev Cert.SumGateIdeal.nD) → Buf (Elt Ideal) ((c.tc : Thread Cert.SumGateIdeal.nD Cert.SumGateIdeal.τ).loc Cert.SumGateIdeal.main_v0_2)) (v3 : (c : Dev Cert.SumGateIdeal.nD) → Buf (Elt Ideal) ((c.tc : Thread Cert.SumGateIdeal.nD Cert.SumGateIdeal.τ).loc Cert.SumGateIdeal.main_v0_3)),
      θ_run (Cert.SumGateIdeal.defs (F := Ideal)) (onTc (τ := Cert.SumGateIdeal.τ) (Cert.SumGateIdeal.main (F := Ideal))) ⟨m, fun _ => 0, g⟩ (fun r => ∀ c : Dev Cert.SumGateIdeal.nD,
          r.2.mem ((c.tc : Thread Cert.SumGateIdeal.nD Cert.SumGateIdeal.τ).loc Cert.SumGateIdeal.main_v0_0) = v0 c
          ∧ r.2.mem ((c.tc : Thread Cert.SumGateIdeal.nD Cert.SumGateIdeal.τ).loc Cert.SumGateIdeal.main_v0_1) = v1 c
          ∧ r.2.mem ((c.tc : Thread Cert.SumGateIdeal.nD Cert.SumGateIdeal.τ).loc Cert.SumGateIdeal.main_v0_2) = v2 c
          ∧ r.2.mem ((c.tc : Thread Cert.SumGateIdeal.nD Cert.SumGateIdeal.τ).loc Cert.SumGateIdeal.main_v0_3) = v3 c
          ∧ r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0)
          ∧ r.2.mem ((c.tc : Thread Cert.SumGateIdeal.nD Cert.SumGateIdeal.τ).loc Cert.SumGateIdeal.main_arg1) = m ((c.tc : Thread Cert.SumGateIdeal.nD Cert.SumGateIdeal.τ).loc Cert.SumGateIdeal.main_arg1)
          ∧ r.2.mem ((c.tc : Thread Cert.SumGateIdeal.nD Cert.SumGateIdeal.τ).loc Cert.SumGateIdeal.main_arg2) = m ((c.tc : Thread Cert.SumGateIdeal.nD Cert.SumGateIdeal.τ).loc Cert.SumGateIdeal.main_arg2)
          ∧ r.2.mem ((c.tc : Thread Cert.SumGateIdeal.nD Cert.SumGateIdeal.τ).loc Cert.SumGateIdeal.main_arg3) = m ((c.tc : Thread Cert.SumGateIdeal.nD Cert.SumGateIdeal.τ).loc Cert.SumGateIdeal.main_arg3)
          ∧ r.2.mem ((c.tc : Thread Cert.SumGateIdeal.nD Cert.SumGateIdeal.τ).loc Cert.SumGateIdeal.main_arg4) = m ((c.tc : Thread Cert.SumGateIdeal.nD Cert.SumGateIdeal.τ).loc Cert.SumGateIdeal.main_arg4)
          ∧ r.2.mem ((c.tc : Thread Cert.SumGateIdeal.nD Cert.SumGateIdeal.τ).loc Cert.SumGateIdeal.main_arg5) = m ((c.tc : Thread Cert.SumGateIdeal.nD Cert.SumGateIdeal.τ).loc Cert.SumGateIdeal.main_arg5))
      ∧ θ_run (Cert.SumGateRefIdeal.defs (F := Ideal)) (onTc (τ := Cert.SumGateRefIdeal.τ) (Cert.SumGateRefIdeal.main (F := Ideal))) ⟨m', fun _ => 0, g'⟩ (fun r => ∀ c : Dev Cert.SumGateRefIdeal.nD,
          r.2.mem ((c.tc : Thread Cert.SumGateRefIdeal.nD Cert.SumGateRefIdeal.τ).loc Cert.SumGateRefIdeal.main_v11) = v0 c
          ∧ r.2.mem ((c.tc : Thread Cert.SumGateRefIdeal.nD Cert.SumGateRefIdeal.τ).loc Cert.SumGateRefIdeal.main_v35) = v1 c
          ∧ r.2.mem ((c.tc : Thread Cert.SumGateRefIdeal.nD Cert.SumGateRefIdeal.τ).loc Cert.SumGateRefIdeal.main_v16) = v2 c
          ∧ r.2.mem ((c.tc : Thread Cert.SumGateRefIdeal.nD Cert.SumGateRefIdeal.τ).loc Cert.SumGateRefIdeal.main_v22) = v3 c
          ∧ r.2.mem ((c.tc : Thread Cert.SumGateRefIdeal.nD Cert.SumGateRefIdeal.τ).loc Cert.SumGateRefIdeal.main_arg0) = m' ((c.tc : Thread Cert.SumGateRefIdeal.nD Cert.SumGateRefIdeal.τ).loc Cert.SumGateRefIdeal.main_arg0)
          ∧ r.2.mem ((c.tc : Thread Cert.SumGateRefIdeal.nD Cert.SumGateRefIdeal.τ).loc Cert.SumGateRefIdeal.main_arg1) = m' ((c.tc : Thread Cert.SumGateRefIdeal.nD Cert.SumGateRefIdeal.τ).loc Cert.SumGateRefIdeal.main_arg1)
          ∧ r.2.mem ((c.tc : Thread Cert.SumGateRefIdeal.nD Cert.SumGateRefIdeal.τ).loc Cert.SumGateRefIdeal.main_arg2) = m' ((c.tc : Thread Cert.SumGateRefIdeal.nD Cert.SumGateRefIdeal.τ).loc Cert.SumGateRefIdeal.main_arg2)
          ∧ r.2.mem ((c.tc : Thread Cert.SumGateRefIdeal.nD Cert.SumGateRefIdeal.τ).loc Cert.SumGateRefIdeal.main_arg3) = m' ((c.tc : Thread Cert.SumGateRefIdeal.nD Cert.SumGateRefIdeal.τ).loc Cert.SumGateRefIdeal.main_arg3)
          ∧ r.2.mem ((c.tc : Thread Cert.SumGateRefIdeal.nD Cert.SumGateRefIdeal.τ).loc Cert.SumGateRefIdeal.main_arg4) = m' ((c.tc : Thread Cert.SumGateRefIdeal.nD Cert.SumGateRefIdeal.τ).loc Cert.SumGateRefIdeal.main_arg4)
          ∧ r.2.mem ((c.tc : Thread Cert.SumGateRefIdeal.nD Cert.SumGateRefIdeal.τ).loc Cert.SumGateRefIdeal.main_arg5) = m' ((c.tc : Thread Cert.SumGateRefIdeal.nD Cert.SumGateRefIdeal.τ).loc Cert.SumGateRefIdeal.main_arg5))

def preserves_SumUp_SumUpIdeal : Prop :=
  True

def algebraic_SumUpIdeal_SumUpRefIdeal [hSumUpIdeal : Cert.SumUpIdeal.Facts] [hSumUpRefIdeal : Cert.SumUpRefIdeal.Facts] [hPre_chip_in_mesh : Cert.Pre_chip_in_mesh.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)
      ∧ m' ((c.tc : Thread Cert.SumUpRefIdeal.nD Cert.SumUpRefIdeal.τ).loc Cert.SumUpRefIdeal.main_arg1) = m ((c.tc : Thread Cert.SumUpIdeal.nD Cert.SumUpIdeal.τ).loc Cert.SumUpIdeal.main_arg1)
      ∧ m' ((c.tc : Thread Cert.SumUpRefIdeal.nD Cert.SumUpRefIdeal.τ).loc Cert.SumUpRefIdeal.main_arg2) = m ((c.tc : Thread Cert.SumUpIdeal.nD Cert.SumUpIdeal.τ).loc Cert.SumUpIdeal.main_arg2)
      ∧ m' ((c.tc : Thread Cert.SumUpRefIdeal.nD Cert.SumUpRefIdeal.τ).loc Cert.SumUpRefIdeal.main_arg3) = m ((c.tc : Thread Cert.SumUpIdeal.nD Cert.SumUpIdeal.τ).loc Cert.SumUpIdeal.main_arg3)
      ∧ m' ((c.tc : Thread Cert.SumUpRefIdeal.nD Cert.SumUpRefIdeal.τ).loc Cert.SumUpRefIdeal.main_arg4) = m ((c.tc : Thread Cert.SumUpIdeal.nD Cert.SumUpIdeal.τ).loc Cert.SumUpIdeal.main_arg4)
      ∧ m' ((c.tc : Thread Cert.SumUpRefIdeal.nD Cert.SumUpRefIdeal.τ).loc Cert.SumUpRefIdeal.main_arg5) = m ((c.tc : Thread Cert.SumUpIdeal.nD Cert.SumUpIdeal.τ).loc Cert.SumUpIdeal.main_arg5)) →
    ∃ (v0 : (c : Dev Cert.SumUpIdeal.nD) → Buf (Elt Ideal) ((c.tc : Thread Cert.SumUpIdeal.nD Cert.SumUpIdeal.τ).loc Cert.SumUpIdeal.main_v0_0)) (v1 : (c : Dev Cert.SumUpIdeal.nD) → Buf (Elt Ideal) ((c.tc : Thread Cert.SumUpIdeal.nD Cert.SumUpIdeal.τ).loc Cert.SumUpIdeal.main_v0_1)) (v2 : (c : Dev Cert.SumUpIdeal.nD) → Buf (Elt Ideal) ((c.tc : Thread Cert.SumUpIdeal.nD Cert.SumUpIdeal.τ).loc Cert.SumUpIdeal.main_v0_2)) (v3 : (c : Dev Cert.SumUpIdeal.nD) → Buf (Elt Ideal) ((c.tc : Thread Cert.SumUpIdeal.nD Cert.SumUpIdeal.τ).loc Cert.SumUpIdeal.main_v0_3)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0_0) = v0 c
          ∧ r.2.mem ((c.tc : Thread Cert.SumUpIdeal.nD Cert.SumUpIdeal.τ).loc Cert.SumUpIdeal.main_v0_1) = v1 c
          ∧ r.2.mem ((c.tc : Thread Cert.SumUpIdeal.nD Cert.SumUpIdeal.τ).loc Cert.SumUpIdeal.main_v0_2) = v2 c
          ∧ r.2.mem ((c.tc : Thread Cert.SumUpIdeal.nD Cert.SumUpIdeal.τ).loc Cert.SumUpIdeal.main_v0_3) = v3 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
          ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1)
          ∧ r.2.mem ((c.tc : Thread Cert.SumUpIdeal.nD Cert.SumUpIdeal.τ).loc Cert.SumUpIdeal.main_arg2) = m ((c.tc : Thread Cert.SumUpIdeal.nD Cert.SumUpIdeal.τ).loc Cert.SumUpIdeal.main_arg2)
          ∧ r.2.mem ((c.tc : Thread Cert.SumUpIdeal.nD Cert.SumUpIdeal.τ).loc Cert.SumUpIdeal.main_arg3) = m ((c.tc : Thread Cert.SumUpIdeal.nD Cert.SumUpIdeal.τ).loc Cert.SumUpIdeal.main_arg3)
          ∧ r.2.mem ((c.tc : Thread Cert.SumUpIdeal.nD Cert.SumUpIdeal.τ).loc Cert.SumUpIdeal.main_arg4) = m ((c.tc : Thread Cert.SumUpIdeal.nD Cert.SumUpIdeal.τ).loc Cert.SumUpIdeal.main_arg4)
          ∧ r.2.mem ((c.tc : Thread Cert.SumUpIdeal.nD Cert.SumUpIdeal.τ).loc Cert.SumUpIdeal.main_arg5) = m ((c.tc : Thread Cert.SumUpIdeal.nD Cert.SumUpIdeal.τ).loc Cert.SumUpIdeal.main_arg5))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v11) = v0 c
          ∧ r.2.mem ((c.tc : Thread Cert.SumUpRefIdeal.nD Cert.SumUpRefIdeal.τ).loc Cert.SumUpRefIdeal.main_v35) = v1 c
          ∧ r.2.mem ((c.tc : Thread Cert.SumUpRefIdeal.nD Cert.SumUpRefIdeal.τ).loc Cert.SumUpRefIdeal.main_v16) = v2 c
          ∧ r.2.mem ((c.tc : Thread Cert.SumUpRefIdeal.nD Cert.SumUpRefIdeal.τ).loc Cert.SumUpRefIdeal.main_v22) = v3 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0)
          ∧ r.2.mem ((c.tc : Thread Cert.SumUpRefIdeal.nD Cert.SumUpRefIdeal.τ).loc Cert.SumUpRefIdeal.main_arg1) = m' ((c.tc : Thread Cert.SumUpRefIdeal.nD Cert.SumUpRefIdeal.τ).loc Cert.SumUpRefIdeal.main_arg1)
          ∧ r.2.mem ((c.tc : Thread Cert.SumUpRefIdeal.nD Cert.SumUpRefIdeal.τ).loc Cert.SumUpRefIdeal.main_arg2) = m' ((c.tc : Thread Cert.SumUpRefIdeal.nD Cert.SumUpRefIdeal.τ).loc Cert.SumUpRefIdeal.main_arg2)
          ∧ r.2.mem ((c.tc : Thread Cert.SumUpRefIdeal.nD Cert.SumUpRefIdeal.τ).loc Cert.SumUpRefIdeal.main_arg3) = m' ((c.tc : Thread Cert.SumUpRefIdeal.nD Cert.SumUpRefIdeal.τ).loc Cert.SumUpRefIdeal.main_arg3)
          ∧ r.2.mem ((c.tc : Thread Cert.SumUpRefIdeal.nD Cert.SumUpRefIdeal.τ).loc Cert.SumUpRefIdeal.main_arg4) = m' ((c.tc : Thread Cert.SumUpRefIdeal.nD Cert.SumUpRefIdeal.τ).loc Cert.SumUpRefIdeal.main_arg4)
          ∧ r.2.mem ((c.tc : Thread Cert.SumUpRefIdeal.nD Cert.SumUpRefIdeal.τ).loc Cert.SumUpRefIdeal.main_arg5) = m' ((c.tc : Thread Cert.SumUpRefIdeal.nD Cert.SumUpRefIdeal.τ).loc Cert.SumUpRefIdeal.main_arg5))

def preserves_SumDown_SumDownIdeal : Prop :=
  True

def algebraic_SumDownIdeal_SumDownRefIdeal [hSumDownIdeal : Cert.SumDownIdeal.Facts] [hSumDownRefIdeal : Cert.SumDownRefIdeal.Facts] [hPre_chip_in_mesh : Cert.Pre_chip_in_mesh.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)
      ∧ m' ((c.tc : Thread Cert.SumDownRefIdeal.nD Cert.SumDownRefIdeal.τ).loc Cert.SumDownRefIdeal.main_arg1) = m ((c.tc : Thread Cert.SumDownIdeal.nD Cert.SumDownIdeal.τ).loc Cert.SumDownIdeal.main_arg1)
      ∧ m' ((c.tc : Thread Cert.SumDownRefIdeal.nD Cert.SumDownRefIdeal.τ).loc Cert.SumDownRefIdeal.main_arg2) = m ((c.tc : Thread Cert.SumDownIdeal.nD Cert.SumDownIdeal.τ).loc Cert.SumDownIdeal.main_arg2)
      ∧ m' ((c.tc : Thread Cert.SumDownRefIdeal.nD Cert.SumDownRefIdeal.τ).loc Cert.SumDownRefIdeal.main_arg3) = m ((c.tc : Thread Cert.SumDownIdeal.nD Cert.SumDownIdeal.τ).loc Cert.SumDownIdeal.main_arg3)
      ∧ m' ((c.tc : Thread Cert.SumDownRefIdeal.nD Cert.SumDownRefIdeal.τ).loc Cert.SumDownRefIdeal.main_arg4) = m ((c.tc : Thread Cert.SumDownIdeal.nD Cert.SumDownIdeal.τ).loc Cert.SumDownIdeal.main_arg4)
      ∧ m' ((c.tc : Thread Cert.SumDownRefIdeal.nD Cert.SumDownRefIdeal.τ).loc Cert.SumDownRefIdeal.main_arg5) = m ((c.tc : Thread Cert.SumDownIdeal.nD Cert.SumDownIdeal.τ).loc Cert.SumDownIdeal.main_arg5)) →
    ∃ (v0 : (c : Dev Cert.SumDownIdeal.nD) → Buf (Elt Ideal) ((c.tc : Thread Cert.SumDownIdeal.nD Cert.SumDownIdeal.τ).loc Cert.SumDownIdeal.main_v0_0)) (v1 : (c : Dev Cert.SumDownIdeal.nD) → Buf (Elt Ideal) ((c.tc : Thread Cert.SumDownIdeal.nD Cert.SumDownIdeal.τ).loc Cert.SumDownIdeal.main_v0_1)) (v2 : (c : Dev Cert.SumDownIdeal.nD) → Buf (Elt Ideal) ((c.tc : Thread Cert.SumDownIdeal.nD Cert.SumDownIdeal.τ).loc Cert.SumDownIdeal.main_v0_2)) (v3 : (c : Dev Cert.SumDownIdeal.nD) → Buf (Elt Ideal) ((c.tc : Thread Cert.SumDownIdeal.nD Cert.SumDownIdeal.τ).loc Cert.SumDownIdeal.main_v0_3)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0_0) = v0 c
          ∧ r.2.mem ((c.tc : Thread Cert.SumDownIdeal.nD Cert.SumDownIdeal.τ).loc Cert.SumDownIdeal.main_v0_1) = v1 c
          ∧ r.2.mem ((c.tc : Thread Cert.SumDownIdeal.nD Cert.SumDownIdeal.τ).loc Cert.SumDownIdeal.main_v0_2) = v2 c
          ∧ r.2.mem ((c.tc : Thread Cert.SumDownIdeal.nD Cert.SumDownIdeal.τ).loc Cert.SumDownIdeal.main_v0_3) = v3 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0)
          ∧ r.2.mem ((c.tc : Thread Cert.SumDownIdeal.nD Cert.SumDownIdeal.τ).loc Cert.SumDownIdeal.main_arg1) = m ((c.tc : Thread Cert.SumDownIdeal.nD Cert.SumDownIdeal.τ).loc Cert.SumDownIdeal.main_arg1)
          ∧ r.2.mem ((c.tc : Thread Cert.SumDownIdeal.nD Cert.SumDownIdeal.τ).loc Cert.SumDownIdeal.main_arg2) = m ((c.tc : Thread Cert.SumDownIdeal.nD Cert.SumDownIdeal.τ).loc Cert.SumDownIdeal.main_arg2)
          ∧ r.2.mem ((c.tc : Thread Cert.SumDownIdeal.nD Cert.SumDownIdeal.τ).loc Cert.SumDownIdeal.main_arg3) = m ((c.tc : Thread Cert.SumDownIdeal.nD Cert.SumDownIdeal.τ).loc Cert.SumDownIdeal.main_arg3)
          ∧ r.2.mem ((c.tc : Thread Cert.SumDownIdeal.nD Cert.SumDownIdeal.τ).loc Cert.SumDownIdeal.main_arg4) = m ((c.tc : Thread Cert.SumDownIdeal.nD Cert.SumDownIdeal.τ).loc Cert.SumDownIdeal.main_arg4)
          ∧ r.2.mem ((c.tc : Thread Cert.SumDownIdeal.nD Cert.SumDownIdeal.τ).loc Cert.SumDownIdeal.main_arg5) = m ((c.tc : Thread Cert.SumDownIdeal.nD Cert.SumDownIdeal.τ).loc Cert.SumDownIdeal.main_arg5))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v11) = v0 c
          ∧ r.2.mem ((c.tc : Thread Cert.SumDownRefIdeal.nD Cert.SumDownRefIdeal.τ).loc Cert.SumDownRefIdeal.main_v35) = v1 c
          ∧ r.2.mem ((c.tc : Thread Cert.SumDownRefIdeal.nD Cert.SumDownRefIdeal.τ).loc Cert.SumDownRefIdeal.main_v16) = v2 c
          ∧ r.2.mem ((c.tc : Thread Cert.SumDownRefIdeal.nD Cert.SumDownRefIdeal.τ).loc Cert.SumDownRefIdeal.main_v22) = v3 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0)
          ∧ r.2.mem ((c.tc : Thread Cert.SumDownRefIdeal.nD Cert.SumDownRefIdeal.τ).loc Cert.SumDownRefIdeal.main_arg1) = m' ((c.tc : Thread Cert.SumDownRefIdeal.nD Cert.SumDownRefIdeal.τ).loc Cert.SumDownRefIdeal.main_arg1)
          ∧ r.2.mem ((c.tc : Thread Cert.SumDownRefIdeal.nD Cert.SumDownRefIdeal.τ).loc Cert.SumDownRefIdeal.main_arg2) = m' ((c.tc : Thread Cert.SumDownRefIdeal.nD Cert.SumDownRefIdeal.τ).loc Cert.SumDownRefIdeal.main_arg2)
          ∧ r.2.mem ((c.tc : Thread Cert.SumDownRefIdeal.nD Cert.SumDownRefIdeal.τ).loc Cert.SumDownRefIdeal.main_arg3) = m' ((c.tc : Thread Cert.SumDownRefIdeal.nD Cert.SumDownRefIdeal.τ).loc Cert.SumDownRefIdeal.main_arg3)
          ∧ r.2.mem ((c.tc : Thread Cert.SumDownRefIdeal.nD Cert.SumDownRefIdeal.τ).loc Cert.SumDownRefIdeal.main_arg4) = m' ((c.tc : Thread Cert.SumDownRefIdeal.nD Cert.SumDownRefIdeal.τ).loc Cert.SumDownRefIdeal.main_arg4)
          ∧ r.2.mem ((c.tc : Thread Cert.SumDownRefIdeal.nD Cert.SumDownRefIdeal.τ).loc Cert.SumDownRefIdeal.main_arg5) = m' ((c.tc : Thread Cert.SumDownRefIdeal.nD Cert.SumDownRefIdeal.τ).loc Cert.SumDownRefIdeal.main_arg5))

def Claim : Prop :=
  ∃ (hFfnGate : Cert.FfnGate.Facts) (hFfnGateIdeal : Cert.FfnGateIdeal.Facts) (hFfnGateRefIdeal : Cert.FfnGateRefIdeal.Facts) (hMix : Cert.Mix.Facts) (hMixIdeal : Cert.MixIdeal.Facts) (hMixRefIdeal : Cert.MixRefIdeal.Facts) (hDwFfn : Cert.DwFfn.Facts) (hDwFfnIdeal : Cert.DwFfnIdeal.Facts) (hDwFfnRefIdeal : Cert.DwFfnRefIdeal.Facts) (hDwFfnTRefIdeal : Cert.DwFfnTRefIdeal.Facts) (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hOutBwd : Cert.OutBwd.Facts) (hOutBwdIdeal : Cert.OutBwdIdeal.Facts) (hOutBwdRefIdeal : Cert.OutBwdRefIdeal.Facts) (hMmRes : Cert.MmRes.Facts) (hMmResIdeal : Cert.MmResIdeal.Facts) (hMmResRefIdeal : Cert.MmResRefIdeal.Facts) (hRmsFfn : Cert.RmsFfn.Facts) (hRmsFfnIdeal : Cert.RmsFfnIdeal.Facts) (hRmsFfnRefIdeal : Cert.RmsFfnRefIdeal.Facts) (hRmsIn : Cert.RmsIn.Facts) (hRmsInIdeal : Cert.RmsInIdeal.Facts) (hRmsInRefIdeal : Cert.RmsInRefIdeal.Facts) (hNormProj : Cert.NormProj.Facts) (hNormProjIdeal : Cert.NormProjIdeal.Facts) (hNormProjRefIdeal : Cert.NormProjRefIdeal.Facts) (hUpAct : Cert.UpAct.Facts) (hUpActIdeal : Cert.UpActIdeal.Facts) (hUpActRefIdeal : Cert.UpActRefIdeal.Facts) (hNormGate : Cert.NormGate.Facts) (hNormGateIdeal : Cert.NormGateIdeal.Facts) (hNormGateRefIdeal : Cert.NormGateRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hAdamW : Cert.AdamW.Facts) (hAdamWIdeal : Cert.AdamWIdeal.Facts) (hAdamWRefIdeal : Cert.AdamWRefIdeal.Facts) (hSumGate : Cert.SumGate.Facts) (hSumGateIdeal : Cert.SumGateIdeal.Facts) (hSumGateRefIdeal : Cert.SumGateRefIdeal.Facts) (hSumUp : Cert.SumUp.Facts) (hSumUpIdeal : Cert.SumUpIdeal.Facts) (hSumUpRefIdeal : Cert.SumUpRefIdeal.Facts) (hSumDown : Cert.SumDown.Facts) (hSumDownIdeal : Cert.SumDownIdeal.Facts) (hSumDownRefIdeal : Cert.SumDownRefIdeal.Facts) (hPre_ffn_finite : Cert.Pre_ffn_finite.Facts) (hPre_chip_in_mesh : Cert.Pre_chip_in_mesh.Facts),
    quiescent_FfnGate (hFfnGate := hFfnGate)
    ∧ quiescent_FfnGateIdeal (hFfnGateIdeal := hFfnGateIdeal)
    ∧ quiescent_FfnGateIdeal_pre_ffn_finite (hFfnGateIdeal := hFfnGateIdeal) (hPre_ffn_finite := hPre_ffn_finite)
    ∧ quiescent_FfnGateRefIdeal (hFfnGateRefIdeal := hFfnGateRefIdeal)
    ∧ quiescent_FfnGateRefIdeal_pre_ffn_finite (hFfnGateRefIdeal := hFfnGateRefIdeal) (hPre_ffn_finite := hPre_ffn_finite)
    ∧ quiescent_Mix (hMix := hMix)
    ∧ quiescent_MixIdeal (hMixIdeal := hMixIdeal)
    ∧ quiescent_MixRefIdeal (hMixRefIdeal := hMixRefIdeal)
    ∧ quiescent_DwFfn (hDwFfn := hDwFfn)
    ∧ quiescent_DwFfnIdeal (hDwFfnIdeal := hDwFfnIdeal)
    ∧ quiescent_DwFfnRefIdeal (hDwFfnRefIdeal := hDwFfnRefIdeal)
    ∧ quiescent_DwFfnTRefIdeal (hDwFfnTRefIdeal := hDwFfnTRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_MmRes (hMmRes := hMmRes)
    ∧ quiescent_MmResIdeal (hMmResIdeal := hMmResIdeal)
    ∧ quiescent_MmResRefIdeal (hMmResRefIdeal := hMmResRefIdeal)
    ∧ quiescent_RmsFfn (hRmsFfn := hRmsFfn)
    ∧ quiescent_RmsFfnIdeal (hRmsFfnIdeal := hRmsFfnIdeal)
    ∧ quiescent_RmsFfnRefIdeal (hRmsFfnRefIdeal := hRmsFfnRefIdeal)
    ∧ quiescent_RmsIn (hRmsIn := hRmsIn)
    ∧ quiescent_RmsInIdeal (hRmsInIdeal := hRmsInIdeal)
    ∧ quiescent_RmsInRefIdeal (hRmsInRefIdeal := hRmsInRefIdeal)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_UpAct (hUpAct := hUpAct)
    ∧ quiescent_UpActIdeal (hUpActIdeal := hUpActIdeal)
    ∧ quiescent_UpActRefIdeal (hUpActRefIdeal := hUpActRefIdeal)
    ∧ quiescent_NormGate (hNormGate := hNormGate)
    ∧ quiescent_NormGateIdeal (hNormGateIdeal := hNormGateIdeal)
    ∧ quiescent_NormGateRefIdeal (hNormGateRefIdeal := hNormGateRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_SumGate (hSumGate := hSumGate) (hPre_chip_in_mesh := hPre_chip_in_mesh)
    ∧ quiescent_SumGateIdeal (hSumGateIdeal := hSumGateIdeal) (hPre_chip_in_mesh := hPre_chip_in_mesh)
    ∧ quiescent_SumGateRefIdeal (hSumGateRefIdeal := hSumGateRefIdeal) (hPre_chip_in_mesh := hPre_chip_in_mesh)
    ∧ quiescent_SumUp (hSumUp := hSumUp) (hPre_chip_in_mesh := hPre_chip_in_mesh)
    ∧ quiescent_SumUpIdeal (hSumUpIdeal := hSumUpIdeal) (hPre_chip_in_mesh := hPre_chip_in_mesh)
    ∧ quiescent_SumUpRefIdeal (hSumUpRefIdeal := hSumUpRefIdeal) (hPre_chip_in_mesh := hPre_chip_in_mesh)
    ∧ quiescent_SumDown (hSumDown := hSumDown) (hPre_chip_in_mesh := hPre_chip_in_mesh)
    ∧ quiescent_SumDownIdeal (hSumDownIdeal := hSumDownIdeal) (hPre_chip_in_mesh := hPre_chip_in_mesh)
    ∧ quiescent_SumDownRefIdeal (hSumDownRefIdeal := hSumDownRefIdeal) (hPre_chip_in_mesh := hPre_chip_in_mesh)
    ∧ preserves_FfnGate_FfnGateIdeal
    ∧ algebraic_FfnGateIdeal_FfnGateRefIdeal_pre_ffn_finite (hFfnGateIdeal := hFfnGateIdeal) (hFfnGateRefIdeal := hFfnGateRefIdeal) (hPre_ffn_finite := hPre_ffn_finite)
    ∧ preserves_Mix_MixIdeal
    ∧ preserves_DwFfn_DwFfnIdeal
    ∧ algebraic_DwFfnIdeal_DwFfnRefIdeal (hDwFfnIdeal := hDwFfnIdeal) (hDwFfnRefIdeal := hDwFfnRefIdeal)
    ∧ algebraic_DwFfnIdeal_DwFfnTRefIdeal (hDwFfnIdeal := hDwFfnIdeal) (hDwFfnTRefIdeal := hDwFfnTRefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_OutBwd_OutBwdIdeal
    ∧ algebraic_OutBwdIdeal_OutBwdRefIdeal (hOutBwdIdeal := hOutBwdIdeal) (hOutBwdRefIdeal := hOutBwdRefIdeal)
    ∧ preserves_MmRes_MmResIdeal
    ∧ algebraic_MmResIdeal_MmResRefIdeal (hMmResIdeal := hMmResIdeal) (hMmResRefIdeal := hMmResRefIdeal)
    ∧ preserves_RmsFfn_RmsFfnIdeal
    ∧ algebraic_RmsFfnIdeal_RmsFfnRefIdeal (hRmsFfnIdeal := hRmsFfnIdeal) (hRmsFfnRefIdeal := hRmsFfnRefIdeal)
    ∧ preserves_RmsIn_RmsInIdeal
    ∧ algebraic_RmsInIdeal_RmsInRefIdeal (hRmsInIdeal := hRmsInIdeal) (hRmsInRefIdeal := hRmsInRefIdeal)
    ∧ preserves_NormProj_NormProjIdeal
    ∧ algebraic_NormProjIdeal_NormProjRefIdeal (hNormProjIdeal := hNormProjIdeal) (hNormProjRefIdeal := hNormProjRefIdeal)
    ∧ preserves_UpAct_UpActIdeal
    ∧ algebraic_UpActIdeal_UpActRefIdeal (hUpActIdeal := hUpActIdeal) (hUpActRefIdeal := hUpActRefIdeal)
    ∧ preserves_NormGate_NormGateIdeal
    ∧ algebraic_NormGateIdeal_NormGateRefIdeal (hNormGateIdeal := hNormGateIdeal) (hNormGateRefIdeal := hNormGateRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_AdamW_AdamWIdeal
    ∧ algebraic_AdamWIdeal_AdamWRefIdeal (hAdamWIdeal := hAdamWIdeal) (hAdamWRefIdeal := hAdamWRefIdeal)
    ∧ preserves_SumGate_SumGateIdeal
    ∧ algebraic_SumGateIdeal_SumGateRefIdeal (hSumGateIdeal := hSumGateIdeal) (hSumGateRefIdeal := hSumGateRefIdeal) (hPre_chip_in_mesh := hPre_chip_in_mesh)
    ∧ preserves_SumUp_SumUpIdeal
    ∧ algebraic_SumUpIdeal_SumUpRefIdeal (hSumUpIdeal := hSumUpIdeal) (hSumUpRefIdeal := hSumUpRefIdeal) (hPre_chip_in_mesh := hPre_chip_in_mesh)
    ∧ preserves_SumDown_SumDownIdeal
    ∧ algebraic_SumDownIdeal_SumDownRefIdeal (hSumDownIdeal := hSumDownIdeal) (hSumDownRefIdeal := hSumDownRefIdeal) (hPre_chip_in_mesh := hPre_chip_in_mesh)
-- ==== Pre_chip_in_mesh.lean ====
abbrev S4x2112x2048 : Shape := ⟨3, ![4, 2112, 2048]⟩
abbrev S3x2112x2048 : Shape := ⟨3, ![3, 2112, 2048]⟩
abbrev S1 : Shape := ⟨1, ![1]⟩
abbrev S704x2048 : Shape := ⟨2, ![704, 2048]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S4x2112x2048 .bf16) (main_arg1 : FVec F S3x2112x2048 .bf16) (main_arg2 : IVec S1 32) (main_arg3 : FVec F S704x2048 .f32) (main_arg4 : FVec F S704x2048 .f32) (main_arg5 : FVec F S704x2048 .f32) : IVec S_ 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Pre_ffn_finite.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_v16 : IVec S_ 1) (main_v17 : FVec F S8192x5632 .f32) : IVec S_ 1 :=
  let main_v18 : FVec F S8192x5632 .f32 := Host.absf main_v17
  let main_cst_4 : FVec F S_ .f32 := constant S_ .f32 0x7F800000#32
  let main_v19 : FVec F S8192x5632 .f32 := broadcastInDim S8192x5632 ![] bcast_S_S8192x5632 main_cst_4
  let main_v20 : IVec S8192x5632 1 := cmpf .olt main_v18 main_v19
  let main_c_5 : IVec S_ 1 := constantI S_ 1 1#1
  let main_v21 : IVec S_ 1 := (fun x v => Host.reduce IntOp.andi x v reducesTo_S8192x5632_S_d0_1 h_S_) main_v20 main_c_5
  let main_v22 : IVec S_ 1 := andi main_v16 main_v21
  main_v22

def fn {F : FTy → Type} [FloatOps F] (main_arg0 : FVec F S8192x2048 .bf16) (main_arg1 : FVec F S5632x2048 .bf16) (main_arg2 : FVec F S8192x5632 .bf16) (main_arg3 : FVec F S8192x5632 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S8192x5632 .f32 := (extf .f32 · bitsLt_bf16_f32) main_arg2
  let main_v12 : FVec F S8192x5632 .f32 := Host.absf main_v11
  let main_cst_2 : FVec F S_ .f32 := constant S_ .f32 0x7F800000#32
  let main_v13 : FVec F S8192x5632 .f32 := broadcastInDim S8192x5632 ![] bcast_S_S8192x5632 main_cst_2
  let main_v14 : IVec S8192x5632 1 := cmpf .olt main_v12 main_v13
  let main_c_3 : IVec S_ 1 := constantI S_ 1 1#1
  let main_v15 : IVec S_ 1 := (fun x v => Host.reduce IntOp.andi x v reducesTo_S8192x5632_S_d0_1 h_S_) main_v14 main_c_3
  let main_v16 : IVec S_ 1 := andi main_v10 main_v15
  let main_v17 : FVec F S8192x5632 .f32 := (extf .f32 · bitsLt_bf16_f32) main_arg3
  fn_part1 (F := F) main_v16 main_v17
-- ==== FfnGate.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnGateRefIdeal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S8192x2048, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .bf16⟩
  | .hbm, ⟨31, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Mix.lean ====
abbrev S8192x5120 : Shape := ⟨2, ![8192, 5120]⟩
abbrev S4x1024 : Shape := ⟨2, ![4, 1024]⟩
abbrev S1x1024 : Shape := ⟨2, ![1, 1024]⟩
abbrev S8x128x128 : Shape := ⟨3, ![8, 128, 128]⟩
abbrev S8x128 : Shape := ⟨2, ![8, 128]⟩
abbrev S3x1024 : Shape := ⟨2, ![3, 1024]⟩
abbrev S8192x2048 : Shape := ⟨2, ![8192, 2048]⟩
abbrev S8192x1024 : Shape := ⟨2, ![8192, 1024]⟩
abbrev S_ : Shape := ⟨0, ![]⟩
abbrev S8195x1024 : Shape := ⟨2, ![8195, 1024]⟩
abbrev S1024 : Shape := ⟨1, ![1024]⟩
abbrev S8192x8x128 : Shape := ⟨3, ![8192, 8, 128]⟩
abbrev S8192x8x128x1 : Shape := ⟨4, ![8192, 8, 128, 1]⟩
abbrev S1x8x128x128 : Shape := ⟨4, ![1, 8, 128, 128]⟩
abbrev S8192x8x128x128 : Shape := ⟨4, ![8192, 8, 128, 128]⟩
abbrev S1x8x128 : Shape := ⟨3, ![1, 8, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S1x8192x1024 : Shape := ⟨3, ![1, 8192, 1024]⟩
abbrev S8192x8192x1024 : Shape := ⟨3, ![8192, 8192, 1024]⟩
abbrev S8192x1x1024 : Shape := ⟨3, ![8192, 1, 1024]⟩
abbrev S2x1024 : Shape := ⟨2, ![2, 1024]⟩
abbrev S8194x1024 : Shape := ⟨2, ![8194, 1024]⟩
abbrev S16x1024 : Shape := ⟨2, ![16, 1024]⟩
abbrev S256x5120 : Shape := ⟨2, ![256, 5120]⟩
abbrev S8x5120 : Shape := ⟨2, ![8, 5120]⟩
abbrev S256x1024 : Shape := ⟨2, ![256, 1024]⟩
abbrev S8x1024 : Shape := ⟨2, ![8, 1024]⟩
abbrev S256x2048 : Shape := ⟨2, ![256, 2048]⟩
abbrev S264x1024 : Shape := ⟨2, ![264, 1024]⟩
abbrev S13x8x1024 : Shape := ⟨3, ![13, 8, 1024]⟩
abbrev S8 : Shape := ⟨1, ![8]⟩
abbrev S8x1 : Shape := ⟨2, ![8, 1]⟩
abbrev S1x8x1024 : Shape := ⟨3, ![1, 8, 1024]⟩
abbrev S256x128 : Shape := ⟨2, ![256, 128]⟩
abbrev S1x128x128 : Shape := ⟨3, ![1, 128, 128]⟩
abbrev S128x128 : Shape := ⟨2, ![128, 128]⟩
abbrev S16x5120 : Shape := ⟨2, ![16, 5120]⟩

abbrev nBuf : Space → Nat
  | .hbm => 234
  | .vmem => 50
  | .smem => 0
  | _ => 0

abbrev hbmTy0_0 (i : Nat) : BufTy := match i % 128 with
  | 0 => ⟨S8192x5120, .f32⟩
  | 1 => ⟨S4x1024, .f32⟩
  | 2 => ⟨S1x1024, .f32⟩
  | 3 => ⟨S8x128x128, .f32⟩
  | 4 => ⟨S8x128, .f32⟩
  | 5 => ⟨S8x128x128, .f32⟩
  | 6 => ⟨S8x128, .f32⟩
  | 7 => ⟨S1x1024, .f32⟩
  | 8 => ⟨S3x1024, .f32⟩
  | 9 => ⟨S1x1024, .f32⟩
  | 10 => ⟨S1x1024, .f32⟩
  | 11 => ⟨S8192x2048, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S_, .f32⟩
  | 18 => ⟨S3x1024, .f32⟩
  | 19 => ⟨S8195x1024, .f32⟩
  | 20 => ⟨S8192x1024, .f32⟩
  | 21 => ⟨S1x1024, .f32⟩
  | 22 => ⟨S1024, .f32⟩
  | 23 => ⟨S1x1024, .f32⟩
  | 24 => ⟨S8192x1024, .f32⟩
  | 25 => ⟨S8192x1024, .f32⟩
  | 26 => ⟨S8192x1024, .f32⟩
  | 27 => ⟨S1x1024, .f32⟩
  | 28 => ⟨S1024, .f32⟩
  | 29 => ⟨S1x1024, .f32⟩
  | 30 => ⟨S8192x1024, .f32⟩
  | 31 => ⟨S8192x1024, .f32⟩
  | 32 => ⟨S8192x1024, .f32⟩
  | 33 => ⟨S8192x1024, .f32⟩
  | 34 => ⟨S1x1024, .f32⟩
  | 35 => ⟨S1024, .f32⟩
  | 36 => ⟨S1x1024, .f32⟩
  | 37 => ⟨S8192x1024, .f32⟩
  | 38 => ⟨S8192x1024, .f32⟩
  | 39 => ⟨S8192x1024, .f32⟩
  | 40 => ⟨S8192x1024, .f32⟩
  | 41 => ⟨S1x1024, .f32⟩
  | 42 => ⟨S1024, .f32⟩
  | 43 => ⟨S1x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x8x128, .f32⟩
  | 50 => ⟨S8192x8x128x1, .f32⟩
  | 51 => ⟨S1x8x128x128, .f32⟩
  | 52 => ⟨S8192x8x128x128, .f32⟩
  | 53 => ⟨S8192x8x128x128, .f32⟩
  | 54 => ⟨S8192x8x128x128, .f32⟩
  | 55 => ⟨S_, .f32⟩
  | 56 => ⟨S8192x8x128, .f32⟩
  | 57 => ⟨S1x8x128, .f32⟩
  | 58 => ⟨S8192x8x128, .f32⟩
  | 59 => ⟨S8192x8x128, .f32⟩
  | 60 => ⟨S8192x8x128, .f32⟩
  | 61 => ⟨S8192x8x128, .f32⟩
  | 62 => ⟨S_, .f32⟩
  | 63 => ⟨S8192x8x128, .f32⟩
  | 64 => ⟨S8192x8x128, .f32⟩
  | 65 => ⟨S_, .f32⟩
  | 66 => ⟨S8192x8x128, .f32⟩
  | 67 => ⟨S8192x8x128, .f32⟩
  | 68 => ⟨S8192x1024, .f32⟩
  | 69 => ⟨S8192x8x128x1, .f32⟩
  | 70 => ⟨S1x8x128x128, .f32⟩
  | 71 => ⟨S8192x8x128x128, .f32⟩
  | 72 => ⟨S8192x8x128x128, .f32⟩
  | 73 => ⟨S8192x8x128x128, .f32⟩
  | 74 => ⟨S_, .f32⟩
  | 75 => ⟨S8192x8x128, .f32⟩
  | 76 => ⟨S1x8x128, .f32⟩
  | 77 => ⟨S8192x8x128, .f32⟩
  | 78 => ⟨S8192x8x128, .f32⟩
  | 79 => ⟨S8192x8x128, .f32⟩
  | 80 => ⟨S8192x8x128, .f32⟩
  | 81 => ⟨S_, .f32⟩
  | 82 => ⟨S8192x8x128, .f32⟩
  | 83 => ⟨S8192x8x128, .f32⟩
  | 84 => ⟨S_, .f32⟩
  | 85 => ⟨S8192x8x128, .f32⟩
  | 86 => ⟨S8192x8x128, .f32⟩
  | 87 => ⟨S8192x1024, .f32⟩
  | 88 => ⟨S_, .f32⟩
  | 89 => ⟨S8192x1024, .f32⟩
  | 90 => ⟨S8192x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S1x1024, .f32⟩
  | 97 => ⟨S1x1024, .i1⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S8192x1024, .f32⟩
  | 107 => ⟨S8192x1024, .f32⟩
  | 108 => ⟨S_, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192, .i32⟩
  | 117 => ⟨S8192x1, .i32⟩
  | 118 => ⟨S1x8192, .i32⟩
  | 119 => ⟨S8192x8192, .i32⟩
  | 120 => ⟨S8192x8192, .i32⟩
  | 121 => ⟨S8192x8192, .i1⟩
  | 122 => ⟨S8192x8192x1, .i1⟩
  | 123 => ⟨S1x8192x1024, .f32⟩
  | 124 => ⟨S_, .f32⟩
  | 125 => ⟨S_, .f32⟩
  | 126 => ⟨S8192x8192x1024, .i1⟩
  | 127 => ⟨S8192x8192x1024, .f32⟩
  | _ => ⟨S8192x5120, .f32⟩

abbrev hbmTy0_1 (i : Nat) : BufTy := match i % 128 with
  | 0 => ⟨S8192x8192x1024, .f32⟩
  | 1 => ⟨S8192x8192x1024, .f32⟩
  | 2 => ⟨S_, .f32⟩
  | 3 => ⟨S8192x1024, .f32⟩
  | 4 => ⟨S8192x8192x1, .i1⟩
  | 5 => ⟨S8192x1x1024, .f32⟩
  | 6 => ⟨S1x8192x1024, .f32⟩
  | 7 => ⟨S8192x8192x1024, .f32⟩
  | 8 => ⟨S8192x8192x1024, .f32⟩
  | 9 => ⟨S8192x8192x1024, .f32⟩
  | 10 => ⟨S8192x8192x1024, .f32⟩
  | 11 => ⟨S_, .f32⟩
  | 12 => ⟨S_, .f32⟩
  | 13 => ⟨S8192x8192x1024, .i1⟩
  | 14 => ⟨S8192x8192x1024, .f32⟩
  | 15 => ⟨S8192x8192x1024, .f32⟩
  | 16 => ⟨S1x8192x1024, .f32⟩
  | 17 => ⟨S8192x8192x1024, .f32⟩
  | 18 => ⟨S8192x8192x1024, .f32⟩
  | 19 => ⟨S_, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S2x1024, .f32⟩
  | 67 => ⟨S8194x1024, .f32⟩
  | 68 => ⟨S8192x1024, .f32⟩
  | 69 => ⟨S1x1024, .f32⟩
  | 70 => ⟨S1024, .f32⟩
  | 71 => ⟨S1x1024, .f32⟩
  | 72 => ⟨S8192x1024, .f32⟩
  | 73 => ⟨S8192x1024, .f32⟩
  | 74 => ⟨S8192x1024, .f32⟩
  | 75 => ⟨S1x1024, .f32⟩
  | 76 => ⟨S1024, .f32⟩
  | 77 => ⟨S1x1024, .f32⟩
  | 78 => ⟨S8192x1024, .f32⟩
  | 79 => ⟨S8192x1024, .f32⟩
  | 80 => ⟨S8192x1024, .f32⟩
  | 81 => ⟨S8192x1024, .f32⟩
  | 82 => ⟨S1x1024, .f32⟩
  | 83 => ⟨S1024, .f32⟩
  | 84 => ⟨S1x1024, .f32⟩
  | 85 => ⟨S8192x1024, .f32⟩
  | 86 => ⟨S8192x1024, .f32⟩
  | 87 => ⟨S8192x1024, .f32⟩
  | 88 => ⟨S8x128x128, .bf16⟩
  | 89 => ⟨S8x128x128, .bf16⟩
  | 90 => ⟨S8192x5120, .bf16⟩
  | 91 => ⟨S16x1024, .f32⟩
  | 92 => ⟨S8x128x128, .f32⟩
  | 93 => ⟨S8x128x128, .f32⟩
  | 94 => ⟨S4x1024, .f32⟩
  | 95 => ⟨S1x1024, .f32⟩
  | 96 => ⟨S1x1024, .f32⟩
  | 97 => ⟨S1024, .f32⟩
  | 98 => ⟨S8x128, .f32⟩
  | 99 => ⟨S1x1024, .f32⟩
  | 100 => ⟨S1024, .f32⟩
  | 101 => ⟨S8x128, .f32⟩
  | 102 => ⟨S1x1024, .f32⟩
  | 103 => ⟨S3x1024, .f32⟩
  | 104 => ⟨S1x1024, .f32⟩
  | 105 => ⟨S1x1024, .f32⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | .local _ .vmem, ⟨0, _⟩ => ⟨S256x5120, .f32⟩
  | .local _ .vmem, ⟨1, _⟩ => ⟨S256x5120, .f32⟩
  | .local _ .vmem, ⟨2, _⟩ => ⟨S8x5120, .f32⟩
  | .local _ .vmem, ⟨3, _⟩ => ⟨S8x5120, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x2048, .f32⟩
  | .local _ .vmem, ⟨25, _⟩ => ⟨S256x2048, .f32⟩
  | .local _ .vmem, ⟨26, _⟩ => ⟨S4x1024, .f32⟩
  | .local _ .vmem, ⟨27, _⟩ => ⟨S8x128x128, .bf16⟩
  | .local _ .vmem, ⟨28, _⟩ => ⟨S8x128x128, .bf16⟩
  | .local _ .vmem, ⟨29, _⟩ => ⟨S1x1024, .f32⟩
  | .local _ .vmem, ⟨30, _⟩ => ⟨S3x1024, .f32⟩
  | .local _ .vmem, ⟨31, _⟩ => ⟨S1x1024, .f32⟩
  | .local _ .vmem, ⟨32, _⟩ => ⟨S1x1024, .f32⟩
  | .local _ .vmem, ⟨33, _⟩ => ⟨S256x5120, .bf16⟩
  | .local _ .vmem, ⟨34, _⟩ => ⟨S256x5120, .bf16⟩
  | .local _ .vmem, ⟨35, _⟩ => ⟨S16x1024, .f32⟩
  | .local _ .vmem, ⟨36, _⟩ => ⟨S8x128x128, .f32⟩
  | .local _ .vmem, ⟨37, _⟩ => ⟨S8x128x128, .f32⟩
  | .local _ .vmem, ⟨38, _⟩ => ⟨S264x1024, .f32⟩
  | .local _ .vmem, ⟨39, _⟩ => ⟨S264x1024, .f32⟩
  | .local _ .vmem, ⟨40, _⟩ => ⟨S264x1024, .f32⟩
  | .local _ .vmem, ⟨41, _⟩ => ⟨S264x1024, .f32⟩
  | .local _ .vmem, ⟨42, _⟩ => ⟨S264x1024, .f32⟩
  | .local _ .vmem, ⟨43, _⟩ => ⟨S264x1024, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S256x5120, .f32⟩
  | .local _ .vmem, ⟨48, _⟩ => ⟨S13x8x1024, .f32⟩
  | .local _ .vmem, ⟨49, _⟩ => ⟨S8x1024, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_1 : Ref sig .tc := ⟨.hbm, 62, rfl⟩
abbrev main_v48 : Ref sig .tc := ⟨.hbm, 63, rfl⟩
abbrev main_v49 : Ref sig .tc := ⟨.hbm, 64, rfl⟩
abbrev main_cst_2 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_3 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_4 : Ref sig .tc := ⟨.hbm, 81, rfl⟩
abbrev main_v64 : Ref sig .tc := ⟨.hbm, 82, rfl⟩
abbrev main_v65 : Ref sig .tc := ⟨.hbm, 83, rfl⟩
abbrev main_cst_5 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_6 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_call0_cst : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_v7 : Ref sig .tc := ⟨.hbm, 100, rfl⟩
abbrev main_call0_v8 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_7 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_8 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_call1_v3 : Ref sig .tc := ⟨.hbm, 128, rfl⟩
abbrev main_v90 : Ref sig .tc := ⟨.hbm, 129, rfl⟩
abbrev main_cst_9 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_10 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_11 : Ref sig .tc := ⟨.hbm, 147, rfl⟩
abbrev main_v103 : Ref sig .tc := ⟨.hbm, 148, rfl⟩
abbrev main_v104 : Ref sig .tc := ⟨.hbm, 149, rfl⟩
abbrev main_cst_12 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_13 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_14 : Ref sig .tc := ⟨.hbm, 159, rfl⟩
abbrev main_v112 : Ref sig .tc := ⟨.hbm, 160, rfl⟩
abbrev main_v113 : Ref sig .tc := ⟨.hbm, 161, rfl⟩
abbrev main_cst_15 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_16 : Ref sig .tc := ⟨.hbm, 166, rfl⟩
abbrev main_v117 : Ref sig .tc := ⟨.hbm, 167, rfl⟩
abbrev main_v118 : Ref sig .tc := ⟨.hbm, 168, rfl⟩
abbrev main_cst_17 : Ref sig .tc := ⟨.hbm, 169, rfl⟩
abbrev main_v119 : Ref sig .tc := ⟨.hbm, 170, rfl⟩
abbrev main_v120 : Ref sig .tc := ⟨.hbm, 171, rfl⟩
abbrev main_cst_18 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_19 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_20 : Ref sig .tc := ⟨.hbm, 180, rfl⟩
abbrev main_v127 : Ref sig .tc := ⟨.hbm, 181, rfl⟩
abbrev main_v128 : Ref sig .tc := ⟨.hbm, 182, rfl⟩
abbrev main_cst_21 : Ref sig .tc := ⟨.hbm, 183, rfl⟩
abbrev main_v129 : Ref sig .tc := ⟨.hbm, 184, rfl⟩
abbrev main_v130 : Ref sig .tc := ⟨.hbm, 185, rfl⟩
abbrev main_cst_22 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_23 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161_0 : Ref sig .tc := ⟨.hbm, 218, rfl⟩
abbrev main_v161_1 : Ref sig .tc := ⟨.hbm, 219, rfl⟩
abbrev main_v161_2 : Ref sig .tc := ⟨.hbm, 220, rfl⟩
abbrev main_v161_3 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_scratch6 : Ref sig .tc := ⟨.vmem, 44, rfl⟩
abbrev cc0_scratch7 : Ref sig .tc := ⟨.vmem, 45, rfl⟩
abbrev cc0_scratch8 : Ref sig .tc := ⟨.vmem, 46, rfl⟩
abbrev cc0_scratch9 : Ref sig .tc := ⟨.vmem, 47, rfl⟩
abbrev cc0_scratch10 : Ref sig .tc := ⟨.vmem, 48, rfl⟩
abbrev cc0_scratch11 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem20_1 : DmaSem sig := 34
abbrev cc0_sem21_0 : DmaSem sig := 35
abbrev cc0_sem22_0 : DmaSem sig := 36
abbrev cc0_sem23_0 : DmaSem sig := 37

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_12 : BitVec 32 := 0#32
  let c32_i32 : BitVec 32 := 32#32
  let v23 : BitVec 32 := Scalar.addi c0_i32_12 c32_i32
  let c1_i32 : BitVec 32 := 1#32
  ⟨c0_i32_12, v23, c1_i32⟩
def k0_mult1 (k0_t1 : Fin k0_t1_loop.trips) : BitVec 32 :=
  let c0_i32_12 : BitVec 32 := 0#32
  let c1_i32 : BitVec 32 := 1#32
  let arg37 : BitVec 32 := Scf.iv c0_i32_12 c1_i32 k0_t1
  let c8_i32 : BitVec 32 := 8#32
  let v339 : BitVec 32 := Scalar.muli arg37 c8_i32
  v339
def k0_mult2 (k0_t1 : Fin k0_t1_loop.trips) : BitVec 32 :=
  let c0_i32_12 : BitVec 32 := 0#32
  let c1_i32 : BitVec 32 := 1#32
  let arg37 : BitVec 32 := Scf.iv c0_i32_12 c1_i32 k0_t1
  let c1_i32_305 : BitVec 32 := 1#32
  let v341 : BitVec 32 := Scalar.addi arg37 c1_i32_305
  let c8_i32_306 : BitVec 32 := 8#32
  let v342 : BitVec 32 := Scalar.muli v341 c8_i32_306
  v342
def k0_off1 (k0_t1 : Fin k0_t1_loop.trips) : Fin 2 → Nat :=
  let c0_i32_12 : BitVec 32 := 0#32
  let c1_i32 : BitVec 32 := 1#32
  let arg37 : BitVec 32 := Scf.iv c0_i32_12 c1_i32 k0_t1
  let c8_i32 : BitVec 32 := 8#32
  let v339 : BitVec 32 := Scalar.muli arg37 c8_i32
  let v340 : BitVec 32 := v339
  let v344 : Index := Scalar.indexCast v340
  let c0_307 : Index := 0#32
  ![v344.toNat, 0]
def k0_off2 (k0_t1 : Fin k0_t1_loop.trips) : Fin 2 → Nat :=
  let c0_i32_12 : BitVec 32 := 0#32
  let c1_i32 : BitVec 32 := 1#32
  let arg37 : BitVec 32 := Scf.iv c0_i32_12 c1_i32 k0_t1
  let c1_i32_305 : BitVec 32 := 1#32
  let v341 : BitVec 32 := Scalar.addi arg37 c1_i32_305
  let c8_i32_306 : BitVec 32 := 8#32
  let v342 : BitVec 32 := Scalar.muli v341 c8_i32_306
  let v343 : BitVec 32 := v342
  let v346 : Index := Scalar.indexCast v343
  let c0_308 : Index := 0#32
  ![v346.toNat, 0]
def k0_off3 (k0_t1 : Fin k0_t1_loop.trips) : Fin 2 → Nat :=
  let c0_i32_12 : BitVec 32 := 0#32
  let c1_i32 : BitVec 32 := 1#32
  let arg37 : BitVec 32 := Scf.iv c0_i32_12 c1_i32 k0_t1
  let c8_i32 : BitVec 32 := 8#32
  let v339 : BitVec 32 := Scalar.muli arg37 c8_i32
  let v340 : BitVec 32 := v339
  let v350 : Index := Scalar.indexCast v340
  let c3072_309 : Index := 3072#32
  ![v350.toNat, 3072]
def k0_off4 (k0_t1 : Fin k0_t1_loop.trips) : Fin 2 → Nat :=
  let c0_i32_12 : BitVec 32 := 0#32
  let c1_i32 : BitVec 32 := 1#32
  let arg37 : BitVec 32 := Scf.iv c0_i32_12 c1_i32 k0_t1
  let c8_i32 : BitVec 32 := 8#32
  let v339 : BitVec 32 := Scalar.muli arg37 c8_i32
  let v340 : BitVec 32 := v339
  let v352 : Index := Scalar.indexCast v340
  let c4096_310 : Index := 4096#32
  ![v352.toNat, 4096]
def k0_off5 (k0_t1 : Fin k0_t1_loop.trips) : Fin 2 → Nat :=
  let c0_i32_12 : BitVec 32 := 0#32
  let c1_i32 : BitVec 32 := 1#32
  let arg37 : BitVec 32 := Scf.iv c0_i32_12 c1_i32 k0_t1
  let c8_i32 : BitVec 32 := 8#32
  let v339 : BitVec 32 := Scalar.muli arg37 c8_i32
  let v340 : BitVec 32 := v339
  let v359 : Index := Scalar.indexCast v340
  let c0_312 : Index := 0#32
  ![v359.toNat, 0]
@[reducible] def k0_t2_loop : Scf.Loop 32 :=
  let c0_i32_26 : BitVec 32 := 0#32
  let c32_i32_27 : BitVec 32 := 32#32
  let v50 : BitVec 32 := Scalar.addi c0_i32_26 c32_i32_27
  let c1_i32_28 : BitVec 32 := 1#32
  ⟨c0_i32_26, v50, c1_i32_28⟩
def k0_mult3 (k0_t2 : Fin k0_t2_loop.trips) : BitVec 32 :=
  let c0_i32_26 : BitVec 32 := 0#32
  let c1_i32_28 : BitVec 32 := 1#32
  let arg37 : BitVec 32 := Scf.iv c0_i32_26 c1_i32_28 k0_t2
  let c8_i32 : BitVec 32 := 8#32
  let v339 : BitVec 32 := Scalar.muli arg37 c8_i32
  v339
def k0_off6 (k0_t2 : Fin k0_t2_loop.trips) : Fin 2 → Nat :=
  let c0_i32_26 : BitVec 32 := 0#32
  let c1_i32_28 : BitVec 32 := 1#32
  let arg37 : BitVec 32 := Scf.iv c0_i32_26 c1_i32_28 k0_t2
  let c8_i32 : BitVec 32 := 8#32
  let v339 : BitVec 32 := Scalar.muli arg37 c8_i32
  let v340 : BitVec 32 := v339
  let v341 : Index := Scalar.indexCast v340
  let c0_305 : Index := 0#32
  ![v341.toNat, 0]
def k0_off7 (k0_t2 : Fin k0_t2_loop.trips) : Fin 2 → Nat :=
  let c0_i32_26 : BitVec 32 := 0#32
  let c1_i32_28 : BitVec 32 := 1#32
  let arg37 : BitVec 32 := Scf.iv c0_i32_26 c1_i32_28 k0_t2
  let c8_i32 : BitVec 32 := 8#32
  let v339 : BitVec 32 := Scalar.muli arg37 c8_i32
  let v340 : BitVec 32 := v339
  let v351 : Index := Scalar.indexCast v340
  let c0_308 : Index := 0#32
  ![v351.toNat, 0]
def k0_off8 (k0_t2 : Fin k0_t2_loop.trips) : Fin 2 → Nat :=
  let c0_i32_26 : BitVec 32 := 0#32
  let c1_i32_28 : BitVec 32 := 1#32
  let arg37 : BitVec 32 := Scf.iv c0_i32_26 c1_i32_28 k0_t2
  let c8_i32 : BitVec 32 := 8#32
  let v339 : BitVec 32 := Scalar.muli arg37 c8_i32
  let v340 : BitVec 32 := v339
  let v385 : Index := Scalar.indexCast v340
  let c1024 : Index := 1024#32
  ![v385.toNat, 1024]
def k0_off9 (k0_t2 : Fin k0_t2_loop.trips) : Fin 2 → Nat :=
  let c0_i32_26 : BitVec 32 := 0#32
  let c1_i32_28 : BitVec 32 := 1#32
  let arg37 : BitVec 32 := Scf.iv c0_i32_26 c1_i32_28 k0_t2
  let c8_i32 : BitVec 32 := 8#32
  let v339 : BitVec 32 := Scalar.muli arg37 c8_i32
  let v340 : BitVec 32 := v339
  let v397 : Index := Scalar.indexCast v340
  let c2048 : Index := 2048#32
  ![v397.toNat, 2048]
def k0_off10 (k0_t2 : Fin k0_t2_loop.trips) : Fin 2 → Nat :=
  let c0_i32_26 : BitVec 32 := 0#32
  let c1_i32_28 : BitVec 32 := 1#32
  let arg37 : BitVec 32 := Scf.iv c0_i32_26 c1_i32_28 k0_t2
  let c8_i32 : BitVec 32 := 8#32
  let v339 : BitVec 32 := Scalar.muli arg37 c8_i32
  let v340 : BitVec 32 := v339
  let v400 : Index := Scalar.indexCast v340
  let c1024_323 : Index := 1024#32
  ![v400.toNat, 1024]
def k0_off11 (k0_t2 : Fin k0_t2_loop.trips) : Fin 2 → Nat :=
  let c0_i32_26 : BitVec 32 := 0#32
  let c1_i32_28 : BitVec 32 := 1#32
  let arg37 : BitVec 32 := Scf.iv c0_i32_26 c1_i32_28 k0_t2
  let c8_i32 : BitVec 32 := 8#32
  let v339 : BitVec 32 := Scalar.muli arg37 c8_i32
  let v340 : BitVec 32 := v339
  let v438 : Index := Scalar.indexCast v340
  let c0_337 : Index := 0#32
  ![v438.toNat, 0]
@[reducible] def k0_t3_loop : Scf.Loop 32 :=
  let c0_i32_35 : BitVec 32 := 0#32
  let c32_i32_36 : BitVec 32 := 32#32
  let v56 : BitVec 32 := Scalar.addi c0_i32_35 c32_i32_36
  let c1_i32_37 : BitVec 32 := 1#32
  ⟨c0_i32_35, v56, c1_i32_37⟩
def k0_mult4 (k0_t3 : Fin k0_t3_loop.trips) : BitVec 32 :=
  let c31_i32_305 : BitVec 32 := 31#32
  let c0_i32_35 : BitVec 32 := 0#32
  let c1_i32_37 : BitVec 32 := 1#32
  let arg37 : BitVec 32 := Scf.iv c0_i32_35 c1_i32_37 k0_t3
  let v339 : BitVec 32 := Scalar.subi c31_i32_305 arg37
  let c8_i32 : BitVec 32 := 8#32
  let v340 : BitVec 32 := Scalar.muli v339 c8_i32
  v340
def k0_off12 (k0_t3 : Fin k0_t3_loop.trips) : Fin 2 → Nat :=
  let c31_i32_305 : BitVec 32 := 31#32
  let c0_i32_35 : BitVec 32 := 0#32
  let c1_i32_37 : BitVec 32 := 1#32
  let arg37 : BitVec 32 := Scf.iv c0_i32_35 c1_i32_37 k0_t3
  let v339 : BitVec 32 := Scalar.subi c31_i32_305 arg37
  let c8_i32 : BitVec 32 := 8#32
  let v340 : BitVec 32 := Scalar.muli v339 c8_i32
  let v341 : BitVec 32 := v340
  let v342 : Index := Scalar.indexCast v341
  let c0_306 : Index := 0#32
  ![v342.toNat, 0]
def k0_off13 (k0_t3 : Fin k0_t3_loop.trips) : Fin 2 → Nat :=
  let c31_i32_305 : BitVec 32 := 31#32
  let c0_i32_35 : BitVec 32 := 0#32
  let c1_i32_37 : BitVec 32 := 1#32
  let arg37 : BitVec 32 := Scf.iv c0_i32_35 c1_i32_37 k0_t3
  let v339 : BitVec 32 := Scalar.subi c31_i32_305 arg37
  let c8_i32 : BitVec 32 := 8#32
  let v340 : BitVec 32 := Scalar.muli v339 c8_i32
  let v341 : BitVec 32 := v340
  let v378 : Index := Scalar.indexCast v341
  let c0_314 : Index := 0#32
  ![v378.toNat, 0]
@[reducible] def k0_t4_loop : Scf.Loop 32 :=
  let c0_i32_41 : BitVec 32 := 0#32
  let c32_i32_42 : BitVec 32 := 32#32
  let v61 : BitVec 32 := Scalar.addi c0_i32_41 c32_i32_42
  let c1_i32_43 : BitVec 32 := 1#32
  ⟨c0_i32_41, v61, c1_i32_43⟩
def k0_mult5 (k0_t4 : Fin k0_t4_loop.trips) : BitVec 32 :=
  let c0_i32_41 : BitVec 32 := 0#32
  let c1_i32_43 : BitVec 32 := 1#32
  let arg37 : BitVec 32 := Scf.iv c0_i32_41 c1_i32_43 k0_t4
  let c8_i32 : BitVec 32 := 8#32
  let v339 : BitVec 32 := Scalar.muli arg37 c8_i32
  v339
def k0_mult6 (k0_t4 : Fin k0_t4_loop.trips) : BitVec 32 :=
  let c0_i32_41 : BitVec 32 := 0#32
  let c1_i32_43 : BitVec 32 := 1#32
  let arg37 : BitVec 32 := Scf.iv c0_i32_41 c1_i32_43 k0_t4
  let c1_i32_305 : BitVec 32 := 1#32
  let v341 : BitVec 32 := Scalar.addi arg37 c1_i32_305
  let c8_i32_306 : BitVec 32 := 8#32
  let v342 : BitVec 32 := Scalar.muli v341 c8_i32_306
  v342
def k0_off14 (k0_t4 : Fin k0_t4_loop.trips) : Fin 2 → Nat :=
  let c0_i32_41 : BitVec 32 := 0#32
  let c1_i32_43 : BitVec 32 := 1#32
  let arg37 : BitVec 32 := Scf.iv c0_i32_41 c1_i32_43 k0_t4
  let c8_i32 : BitVec 32 := 8#32
  let v339 : BitVec 32 := Scalar.muli arg37 c8_i32
  let v340 : BitVec 32 := v339
  let v344 : Index := Scalar.indexCast v340
  let c0_307 : Index := 0#32
  ![v344.toNat, 0]
def k0_off15 (k0_t4 : Fin k0_t4_loop.trips) : Fin 2 → Nat :=
  let c0_i32_41 : BitVec 32 := 0#32
  let c1_i32_43 : BitVec 32 := 1#32
  let arg37 : BitVec 32 := Scf.iv c0_i32_41 c1_i32_43 k0_t4
  let c8_i32 : BitVec 32 := 8#32
  let v339 : BitVec 32 := Scalar.muli arg37 c8_i32
  let v340 : BitVec 32 := v339
  let v346 : Index := Scalar.indexCast v340
  let c0_308 : Index := 0#32
  ![v346.toNat, 0]
def k0_off16 (k0_t4 : Fin k0_t4_loop.trips) : Fin 2 → Nat :=
  let c0_i32_41 : BitVec 32 := 0#32
  let c1_i32_43 : BitVec 32 := 1#32
  let arg37 : BitVec 32 := Scf.iv c0_i32_41 c1_i32_43 k0_t4
  let c1_i32_305 : BitVec 32 := 1#32
  let v341 : BitVec 32 := Scalar.addi arg37 c1_i32_305
  let c8_i32_306 : BitVec 32 := 8#32
  let v342 : BitVec 32 := Scalar.muli v341 c8_i32_306
  let v343 : BitVec 32 := v342
  let v348 : Index := Scalar.indexCast v343
  let c0_309 : Index := 0#32
  ![v348.toNat, 0]
@[reducible] def k0_t5_loop : Scf.Loop 32 :=
  let c0_i32_288 : BitVec 32 := 0#32
  let c32_i32_289 : BitVec 32 := 32#32
  let v326 : BitVec 32 := Scalar.addi c0_i32_288 c32_i32_289
  let c1_i32_290 : BitVec 32 := 1#32
  ⟨c0_i32_288, v326, c1_i32_290⟩
def k0_mult7 (k0_t5 : Fin k0_t5_loop.trips) : BitVec 32 :=
  let c0_i32_288 : BitVec 32 := 0#32
  let c1_i32_290 : BitVec 32 := 1#32
  let arg37 : BitVec 32 := Scf.iv c0_i32_288 c1_i32_290 k0_t5
  let c8_i32 : BitVec 32 := 8#32
  let v339 : BitVec 32 := Scalar.muli arg37 c8_i32
  v339
def k0_mult8 (k0_t5 : Fin k0_t5_loop.trips) : BitVec 32 :=
  let c0_i32_288 : BitVec 32 := 0#32
  let c1_i32_290 : BitVec 32 := 1#32
  let arg37 : BitVec 32 := Scf.iv c0_i32_288 c1_i32_290 k0_t5
  let c1_i32_305 : BitVec 32 := 1#32
  let v341 : BitVec 32 := Scalar.addi arg37 c1_i32_305
  let c8_i32_306 : BitVec 32 := 8#32
  let v342 : BitVec 32 := Scalar.muli v341 c8_i32_306
  v342
def k0_off17 (k0_t5 : Fin k0_t5_loop.trips) : Fin 2 → Nat :=
  let c0_i32_288 : BitVec 32 := 0#32
  let c1_i32_290 : BitVec 32 := 1#32
  let arg37 : BitVec 32 := Scf.iv c0_i32_288 c1_i32_290 k0_t5
  let c8_i32 : BitVec 32 := 8#32
  let v339 : BitVec 32 := Scalar.muli arg37 c8_i32
  let v340 : BitVec 32 := v339
  let v344 : Index := Scalar.indexCast v340
  let c0_307 : Index := 0#32
  ![v344.toNat, 0]
def k0_off18 (k0_t5 : Fin k0_t5_loop.trips) : Fin 2 → Nat :=
  let c0_i32_288 : BitVec 32 := 0#32
  let c1_i32_290 : BitVec 32 := 1#32
  let arg37 : BitVec 32 := Scf.iv c0_i32_288 c1_i32_290 k0_t5
  let c1_i32_305 : BitVec 32 := 1#32
  let v341 : BitVec 32 := Scalar.addi arg37 c1_i32_305
  let c8_i32_306 : BitVec 32 := 8#32
  let v342 : BitVec 32 := Scalar.muli v341 c8_i32_306
  let v343 : BitVec 32 := v342
  let v346 : Index := Scalar.indexCast v343
  let c0_308 : Index := 0#32
  ![v346.toNat, 0]
def k0_off19 (k0_t5 : Fin k0_t5_loop.trips) : Fin 2 → Nat :=
  let c0_i32_288 : BitVec 32 := 0#32
  let c1_i32_290 : BitVec 32 := 1#32
  let arg37 : BitVec 32 := Scf.iv c0_i32_288 c1_i32_290 k0_t5
  let c8_i32 : BitVec 32 := 8#32
  let v339 : BitVec 32 := Scalar.muli arg37 c8_i32
  let v340 : BitVec 32 := v339
  let v431 : Index := Scalar.indexCast v340
  let c0_356 : Index := 0#32
  ![v431.toNat, 0]
def k0_off20 (k0_t5 : Fin k0_t5_loop.trips) : Fin 2 → Nat :=
  let c0_i32_288 : BitVec 32 := 0#32
  let c1_i32_290 : BitVec 32 := 1#32
  let arg37 : BitVec 32 := Scf.iv c0_i32_288 c1_i32_290 k0_t5
  let c8_i32 : BitVec 32 := 8#32
  let v339 : BitVec 32 := Scalar.muli arg37 c8_i32
  let v340 : BitVec 32 := v339
  let v495 : Index := Scalar.indexCast v340
  let c4096_390 : Index := 4096#32
  ![v495.toNat, 4096]
def k0_off21 (k0_t5 : Fin k0_t5_loop.trips) : Fin 2 → Nat :=
  let c0_i32_288 : BitVec 32 := 0#32
  let c1_i32_290 : BitVec 32 := 1#32
  let arg37 : BitVec 32 := Scf.iv c0_i32_288 c1_i32_290 k0_t5
  let c8_i32 : BitVec 32 := 8#32
  let v339 : BitVec 32 := Scalar.muli arg37 c8_i32
  let v340 : BitVec 32 := v339
  let v498 : Index := Scalar.indexCast v340
  let c3072_391 : Index := 3072#32
  ![v498.toNat, 3072]
@[reducible] def k0_t6_loop : Scf.Loop 32 :=
  let c0_i32_300 : BitVec 32 := 0#32
  let c16_i32 : BitVec 32 := 16#32
  let v335 : BitVec 32 := Scalar.addi c0_i32_300 c16_i32
  let c1_i32_301 : BitVec 32 := 1#32
  ⟨c0_i32_300, v335, c1_i32_301⟩
def k0_mult9 (k0_t6 : Fin k0_t6_loop.trips) : BitVec 32 :=
  let c0_i32_300 : BitVec 32 := 0#32
  let c1_i32_301 : BitVec 32 := 1#32
  let arg37 : BitVec 32 := Scf.iv c0_i32_300 c1_i32_301 k0_t6
  let c16_i32_305 : BitVec 32 := 16#32
  let v339 : BitVec 32 := Scalar.muli arg37 c16_i32_305
  v339
def k0_off22 (k0_t6 : Fin k0_t6_loop.trips) : Fin 2 → Nat :=
  let c0_i32_300 : BitVec 32 := 0#32
  let c1_i32_301 : BitVec 32 := 1#32
  let arg37 : BitVec 32 := Scf.iv c0_i32_300 c1_i32_301 k0_t6
  let c16_i32_305 : BitVec 32 := 16#32
  let v339 : BitVec 32 := Scalar.muli arg37 c16_i32_305
  let v340 : BitVec 32 := v339
  let v341 : Index := Scalar.indexCast v340
  let c0_306 : Index := 0#32
  ![v341.toNat, 0]
def k0_cond2 (i : grid0.Coords) : BitVec 1 :=
  let arg0 : BitVec 32 := BitVec.ofNat 32 (i 0).val
  let c31_i32_303 : BitVec 32 := 31#32
  let v336 : BitVec 1 := Scalar.cmpi .eq arg0 c31_i32_303
  let v337 : BitVec 32 := Scalar.extui v336
  let c0_i32_304 : BitVec 32 := 0#32
  let v338 : BitVec 1 := Scalar.cmpi .ne v337 c0_i32_304
  v338

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x5120 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S16x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== MixRefIdeal.lean ====
abbrev S8192x5120 : Shape := ⟨2, ![8192, 5120]⟩
abbrev S4x1024 : Shape := ⟨2, ![4, 1024]⟩
abbrev S1x1024 : Shape := ⟨2, ![1, 1024]⟩
abbrev S8x128x128 : Shape := ⟨3, ![8, 128, 128]⟩
abbrev S8x128 : Shape := ⟨2, ![8, 128]⟩
abbrev S3x1024 : Shape := ⟨2, ![3, 1024]⟩
abbrev S8192x2048 : Shape := ⟨2, ![8192, 2048]⟩
abbrev S8192x1024 : Shape := ⟨2, ![8192, 1024]⟩
abbrev S_ : Shape := ⟨0, ![]⟩
abbrev S8195x1024 : Shape := ⟨2, ![8195, 1024]⟩
abbrev S1024 : Shape := ⟨1, ![1024]⟩
abbrev S8192x8x128 : Shape := ⟨3, ![8192, 8, 128]⟩
abbrev S8x128x8192 : Shape := ⟨3, ![8, 128, 8192]⟩
abbrev S1x8x128 : Shape := ⟨3, ![1, 8, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S1x8192x1024 : Shape := ⟨3, ![1, 8192, 1024]⟩
abbrev S8192x8192x1024 : Shape := ⟨3, ![8192, 8192, 1024]⟩
abbrev S8192x1x1024 : Shape := ⟨3, ![8192, 1, 1024]⟩
abbrev S2x1024 : Shape := ⟨2, ![2, 1024]⟩
abbrev S8194x1024 : Shape := ⟨2, ![8194, 1024]⟩
abbrev S8x8192x128 : Shape := ⟨3, ![8, 8192, 128]⟩

abbrev nBuf : Space → Nat
  | .hbm => 569
  | .vmem => 0
  | .smem => 0
  | _ => 0

abbrev hbmTy0_0 (i : Nat) : BufTy := match i % 128 with
  | 0 => ⟨S8192x5120, .f32⟩
  | 1 => ⟨S4x1024, .f32⟩
  | 2 => ⟨S1x1024, .f32⟩
  | 3 => ⟨S8x128x128, .f32⟩
  | 4 => ⟨S8x128, .f32⟩
  | 5 => ⟨S8x128x128, .f32⟩
  | 6 => ⟨S8x128, .f32⟩
  | 7 => ⟨S1x1024, .f32⟩
  | 8 => ⟨S3x1024, .f32⟩
  | 9 => ⟨S1x1024, .f32⟩
  | 10 => ⟨S1x1024, .f32⟩
  | 11 => ⟨S8192x2048, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S_, .f32⟩
  | 18 => ⟨S3x1024, .f32⟩
  | 19 => ⟨S8195x1024, .f32⟩
  | 20 => ⟨S_, .f32⟩
  | 21 => ⟨S3x1024, .f32⟩
  | 22 => ⟨S8192x1024, .f32⟩
  | 23 => ⟨S1x1024, .f32⟩
  | 24 => ⟨S1024, .f32⟩
  | 25 => ⟨S1x1024, .f32⟩
  | 26 => ⟨S8192x1024, .f32⟩
  | 27 => ⟨S8192x1024, .f32⟩
  | 28 => ⟨S8192x1024, .f32⟩
  | 29 => ⟨S1x1024, .f32⟩
  | 30 => ⟨S1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S1x1024, .f32⟩
  | 37 => ⟨S1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1x1024, .f32⟩
  | 44 => ⟨S1024, .f32⟩
  | 45 => ⟨S1x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x8x128, .f32⟩
  | 52 => ⟨S8x128x8192, .f32⟩
  | 53 => ⟨S8192x8x128, .f32⟩
  | 54 => ⟨S1x8x128, .f32⟩
  | 55 => ⟨S8192x8x128, .f32⟩
  | 56 => ⟨S8192x8x128, .f32⟩
  | 57 => ⟨S8192x8x128, .f32⟩
  | 58 => ⟨S8192x8x128, .f32⟩
  | 59 => ⟨S_, .f32⟩
  | 60 => ⟨S8192x8x128, .f32⟩
  | 61 => ⟨S8192x8x128, .f32⟩
  | 62 => ⟨S_, .f32⟩
  | 63 => ⟨S8192x8x128, .f32⟩
  | 64 => ⟨S8192x8x128, .f32⟩
  | 65 => ⟨S_, .f32⟩
  | 66 => ⟨S8192x8x128, .f32⟩
  | 67 => ⟨S8192x8x128, .f32⟩
  | 68 => ⟨S8192x8x128, .f32⟩
  | 69 => ⟨S8192x1024, .f32⟩
  | 70 => ⟨S8x128x8192, .f32⟩
  | 71 => ⟨S8192x8x128, .f32⟩
  | 72 => ⟨S1x8x128, .f32⟩
  | 73 => ⟨S8192x8x128, .f32⟩
  | 74 => ⟨S8192x8x128, .f32⟩
  | 75 => ⟨S8192x8x128, .f32⟩
  | 76 => ⟨S8192x8x128, .f32⟩
  | 77 => ⟨S_, .f32⟩
  | 78 => ⟨S8192x8x128, .f32⟩
  | 79 => ⟨S8192x8x128, .f32⟩
  | 80 => ⟨S_, .f32⟩
  | 81 => ⟨S8192x8x128, .f32⟩
  | 82 => ⟨S8192x8x128, .f32⟩
  | 83 => ⟨S_, .f32⟩
  | 84 => ⟨S8192x8x128, .f32⟩
  | 85 => ⟨S8192x8x128, .f32⟩
  | 86 => ⟨S8192x8x128, .f32⟩
  | 87 => ⟨S8192x1024, .f32⟩
  | 88 => ⟨S_, .f32⟩
  | 89 => ⟨S8192x1024, .f32⟩
  | 90 => ⟨S8192x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S1x1024, .f32⟩
  | 97 => ⟨S1x1024, .i1⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .i1⟩
  | 109 => ⟨S_, .f32⟩
  | 110 => ⟨S1x1024, .f32⟩
  | 111 => ⟨S1x1024, .f32⟩
  | 112 => ⟨S_, .f32⟩
  | 113 => ⟨S1x1024, .f32⟩
  | 114 => ⟨S1x1024, .i1⟩
  | 115 => ⟨S_, .f32⟩
  | 116 => ⟨S1x1024, .f32⟩
  | 117 => ⟨S1x1024, .f32⟩
  | 118 => ⟨S1x1024, .f32⟩
  | 119 => ⟨S1x1024, .f32⟩
  | 120 => ⟨S_, .f32⟩
  | 121 => ⟨S_, .f32⟩
  | 122 => ⟨S_, .i1⟩
  | 123 => ⟨S_, .f32⟩
  | 124 => ⟨S_, .f32⟩
  | 125 => ⟨S_, .f32⟩
  | 126 => ⟨S_, .f32⟩
  | 127 => ⟨S1x1024, .f32⟩
  | _ => ⟨S8192x5120, .f32⟩

abbrev hbmTy0_1 (i : Nat) : BufTy := match i % 128 with
  | 0 => ⟨S1x1024, .i1⟩
  | 1 => ⟨S_, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S8192x1024, .f32⟩
  | 24 => ⟨S8192, .i32⟩
  | 25 => ⟨S8192x1, .i32⟩
  | 26 => ⟨S1x8192, .i32⟩
  | 27 => ⟨S8192x8192, .i32⟩
  | 28 => ⟨S8192x8192, .i32⟩
  | 29 => ⟨S8192x8192, .i1⟩
  | 30 => ⟨S8192x8192x1, .i1⟩
  | 31 => ⟨S1x8192x1024, .f32⟩
  | 32 => ⟨S_, .f32⟩
  | 33 => ⟨S_, .f32⟩
  | 34 => ⟨S8192x8192x1024, .i1⟩
  | 35 => ⟨S8192x8192x1024, .f32⟩
  | 36 => ⟨S8192x8192x1024, .f32⟩
  | 37 => ⟨S8192x8192x1024, .f32⟩
  | 38 => ⟨S_, .f32⟩
  | 39 => ⟨S8192x8192x1024, .f32⟩
  | 40 => ⟨S_, .f32⟩
  | 41 => ⟨S8192x1024, .f32⟩
  | 42 => ⟨S8192x8192x1, .i1⟩
  | 43 => ⟨S8192x1x1024, .f32⟩
  | 44 => ⟨S1x8192x1024, .f32⟩
  | 45 => ⟨S8192x8192x1024, .f32⟩
  | 46 => ⟨S8192x8192x1024, .f32⟩
  | 47 => ⟨S8192x8192x1024, .f32⟩
  | 48 => ⟨S8192x8192x1024, .f32⟩
  | 49 => ⟨S_, .f32⟩
  | 50 => ⟨S_, .f32⟩
  | 51 => ⟨S8192x8192x1024, .i1⟩
  | 52 => ⟨S8192x8192x1024, .f32⟩
  | 53 => ⟨S8192x8192x1024, .f32⟩
  | 54 => ⟨S_, .f32⟩
  | 55 => ⟨S8192x8192x1024, .f32⟩
  | 56 => ⟨S1x8192x1024, .f32⟩
  | 57 => ⟨S8192x8192x1024, .f32⟩
  | 58 => ⟨S8192x8192x1024, .f32⟩
  | 59 => ⟨S_, .f32⟩
  | 60 => ⟨S8192x1024, .f32⟩
  | 61 => ⟨S8192x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S_, .f32⟩
  | 92 => ⟨S2x1024, .f32⟩
  | 93 => ⟨S8194x1024, .f32⟩
  | 94 => ⟨S_, .f32⟩
  | 95 => ⟨S2x1024, .f32⟩
  | 96 => ⟨S8192x1024, .f32⟩
  | 97 => ⟨S1x1024, .f32⟩
  | 98 => ⟨S1024, .f32⟩
  | 99 => ⟨S1x1024, .f32⟩
  | 100 => ⟨S8192x1024, .f32⟩
  | 101 => ⟨S8192x1024, .f32⟩
  | 102 => ⟨S8192x1024, .f32⟩
  | 103 => ⟨S1x1024, .f32⟩
  | 104 => ⟨S1024, .f32⟩
  | 105 => ⟨S1x1024, .f32⟩
  | 106 => ⟨S8192x1024, .f32⟩
  | 107 => ⟨S8192x1024, .f32⟩
  | 108 => ⟨S8192x1024, .f32⟩
  | 109 => ⟨S8192x1024, .f32⟩
  | 110 => ⟨S1x1024, .f32⟩
  | 111 => ⟨S1024, .f32⟩
  | 112 => ⟨S1x1024, .f32⟩
  | 113 => ⟨S8192x1024, .f32⟩
  | 114 => ⟨S8192x1024, .f32⟩
  | 115 => ⟨S8192x1024, .f32⟩
  | 116 => ⟨S8192x1024, .f32⟩
  | 117 => ⟨S1024, .f32⟩
  | 118 => ⟨S8192x1024, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192x1, .f32⟩
  | 127 => ⟨S8192x1, .f32⟩
  | _ => ⟨S8192x5120, .f32⟩

abbrev hbmTy0_2 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S8192x1024, .f32⟩
  | 6 => ⟨S8192x1024, .f32⟩
  | 7 => ⟨S1x1024, .f32⟩
  | 8 => ⟨S8192x1024, .f32⟩
  | 9 => ⟨S8192x1024, .f32⟩
  | 10 => ⟨S1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x2048, .f32⟩
  | 32 => ⟨S8192x1024, .f32⟩
  | 33 => ⟨S8192x1024, .f32⟩
  | 34 => ⟨S8192x1024, .f32⟩
  | 35 => ⟨S_, .f32⟩
  | 36 => ⟨S1024, .f32⟩
  | 37 => ⟨S1x1024, .f32⟩
  | 38 => ⟨S8192x1024, .f32⟩
  | 39 => ⟨S8192x1024, .f32⟩
  | 40 => ⟨S_, .f32⟩
  | 41 => ⟨S1024, .f32⟩
  | 42 => ⟨S8192x1024, .f32⟩
  | 43 => ⟨S_, .f32⟩
  | 44 => ⟨S8192, .f32⟩
  | 45 => ⟨S8192x1, .f32⟩
  | 46 => ⟨S8192x1024, .f32⟩
  | 47 => ⟨S8192x1024, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S1x1024, .f32⟩
  | 60 => ⟨S8192x1024, .f32⟩
  | 61 => ⟨S_, .f32⟩
  | 62 => ⟨S1024, .f32⟩
  | 63 => ⟨S1x1024, .f32⟩
  | 64 => ⟨S8192x1024, .f32⟩
  | 65 => ⟨S8192x1024, .f32⟩
  | 66 => ⟨S_, .f32⟩
  | 67 => ⟨S1024, .f32⟩
  | 68 => ⟨S8192x1024, .f32⟩
  | 69 => ⟨S_, .f32⟩
  | 70 => ⟨S8192, .f32⟩
  | 71 => ⟨S8192x1, .f32⟩
  | 72 => ⟨S8192x1024, .f32⟩
  | 73 => ⟨S8192x1024, .f32⟩
  | 74 => ⟨S8192x1, .f32⟩
  | 75 => ⟨S_, .f32⟩
  | 76 => ⟨S8192x1, .f32⟩
  | 77 => ⟨S8192x1, .f32⟩
  | 78 => ⟨S_, .f32⟩
  | 79 => ⟨S8192, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S1x1024, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S1x1024, .f32⟩
  | 97 => ⟨S_, .f32⟩
  | 98 => ⟨S3x1024, .f32⟩
  | 99 => ⟨S_, .f32⟩
  | 100 => ⟨S8194x1024, .f32⟩
  | 101 => ⟨S8192x1024, .f32⟩
  | 102 => ⟨S_, .f32⟩
  | 103 => ⟨S1024, .f32⟩
  | 104 => ⟨S1x1024, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S_, .f32⟩
  | 111 => ⟨S3x1024, .f32⟩
  | 112 => ⟨S3x1024, .f32⟩
  | 113 => ⟨S_, .f32⟩
  | 114 => ⟨S8194x1024, .f32⟩
  | 115 => ⟨S8194x1024, .f32⟩
  | 116 => ⟨S8192x1024, .f32⟩
  | 117 => ⟨S_, .f32⟩
  | 118 => ⟨S1024, .f32⟩
  | 119 => ⟨S1x1024, .f32⟩
  | 120 => ⟨S8192x1024, .f32⟩
  | 121 => ⟨S8192x1024, .f32⟩
  | 122 => ⟨S_, .f32⟩
  | 123 => ⟨S1024, .f32⟩
  | 124 => ⟨S1x1024, .f32⟩
  | 125 => ⟨S_, .f32⟩
  | 126 => ⟨S3x1024, .f32⟩
  | 127 => ⟨S3x1024, .f32⟩
  | _ => ⟨S8192x5120, .f32⟩

abbrev hbmTy0_3 (i : Nat) : BufTy := match i % 128 with
  | 0 => ⟨S_, .f32⟩
  | 1 => ⟨S8194x1024, .f32⟩
  | 2 => ⟨S8194x1024, .f32⟩
  | 3 => ⟨S2x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S8192x1024, .f32⟩
  | 24 => ⟨S8192x8192x1024, .f32⟩
  | 25 => ⟨S8192x8192x1024, .f32⟩
  | 26 => ⟨S_, .f32⟩
  | 27 => ⟨S8192x1024, .f32⟩
  | 28 => ⟨S1x8192x1024, .f32⟩
  | 29 => ⟨S8192x8192x1024, .f32⟩
  | 30 => ⟨S8192x8192x1024, .f32⟩
  | 31 => ⟨S_, .f32⟩
  | 32 => ⟨S8192x1024, .f32⟩
  | 33 => ⟨S_, .f32⟩
  | 34 => ⟨S8192x8192x1024, .f32⟩
  | 35 => ⟨S8192x8192x1024, .f32⟩
  | 36 => ⟨S8192x8192x1024, .f32⟩
  | 37 => ⟨S_, .f32⟩
  | 38 => ⟨S8192x1024, .f32⟩
  | 39 => ⟨S8192x1x1024, .f32⟩
  | 40 => ⟨S8192x8192x1024, .f32⟩
  | 41 => ⟨S_, .f32⟩
  | 42 => ⟨S8192x1024, .f32⟩
  | 43 => ⟨S1x8192x1024, .f32⟩
  | 44 => ⟨S_, .f32⟩
  | 45 => ⟨S8192x1024, .f32⟩
  | 46 => ⟨S_, .f32⟩
  | 47 => ⟨S8192x1024, .f32⟩
  | 48 => ⟨S8192x1024, .f32⟩
  | 49 => ⟨S8192x8192x1024, .f32⟩
  | 50 => ⟨S_, .f32⟩
  | 51 => ⟨S8192x8192x1024, .f32⟩
  | 52 => ⟨S8192x8192x1024, .f32⟩
  | 53 => ⟨S_, .f32⟩
  | 54 => ⟨S8192x1024, .f32⟩
  | 55 => ⟨S1x8192x1024, .f32⟩
  | 56 => ⟨S_, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S1024, .f32⟩
  | 72 => ⟨S1x1024, .f32⟩
  | 73 => ⟨S8192x1024, .f32⟩
  | 74 => ⟨S8192x1024, .f32⟩
  | 75 => ⟨S1x1024, .f32⟩
  | 76 => ⟨S1x1024, .f32⟩
  | 77 => ⟨S_, .f32⟩
  | 78 => ⟨S8192x1024, .f32⟩
  | 79 => ⟨S8192x1024, .f32⟩
  | 80 => ⟨S8192x8x128, .f32⟩
  | 81 => ⟨S8192x8x128, .f32⟩
  | 82 => ⟨S_, .f32⟩
  | 83 => ⟨S8x128, .f32⟩
  | 84 => ⟨S1x8x128, .f32⟩
  | 85 => ⟨S_, .f32⟩
  | 86 => ⟨S8x128, .f32⟩
  | 87 => ⟨S8x128x8192, .f32⟩
  | 88 => ⟨S8x8192x128, .f32⟩
  | 89 => ⟨S8192x8x128, .f32⟩
  | 90 => ⟨S8x128x128, .f32⟩
  | 91 => ⟨S8x128x128, .f32⟩
  | 92 => ⟨S8192x8x128, .f32⟩
  | 93 => ⟨S8192x8x128, .f32⟩
  | 94 => ⟨S_, .f32⟩
  | 95 => ⟨S8x128, .f32⟩
  | 96 => ⟨S1x8x128, .f32⟩
  | 97 => ⟨S_, .f32⟩
  | 98 => ⟨S8x128, .f32⟩
  | 99 => ⟨S8x128x8192, .f32⟩
  | 100 => ⟨S8x8192x128, .f32⟩
  | 101 => ⟨S8192x8x128, .f32⟩
  | 102 => ⟨S8192x8x128, .f32⟩
  | 103 => ⟨S8x128x128, .f32⟩
  | 104 => ⟨S8x128x128, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S_, .f32⟩
  | 112 => ⟨S1024, .f32⟩
  | 113 => ⟨S1x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S_, .f32⟩
  | 120 => ⟨S4x1024, .f32⟩
  | 121 => ⟨S_, .f32⟩
  | 122 => ⟨S8195x1024, .f32⟩
  | 123 => ⟨S8192x1024, .f32⟩
  | 124 => ⟨S_, .f32⟩
  | 125 => ⟨S1024, .f32⟩
  | 126 => ⟨S1x1024, .f32⟩
  | 127 => ⟨S8192x1024, .f32⟩
  | _ => ⟨S8192x5120, .f32⟩

abbrev hbmTy0_4 (i : Nat) : BufTy := match i % 128 with
  | 0 => ⟨S8192x1024, .f32⟩
  | 1 => ⟨S_, .f32⟩
  | 2 => ⟨S1024, .f32⟩
  | 3 => ⟨S1x1024, .f32⟩
  | 4 => ⟨S_, .f32⟩
  | 5 => ⟨S4x1024, .f32⟩
  | 6 => ⟨S4x1024, .f32⟩
  | 7 => ⟨S_, .f32⟩
  | 8 => ⟨S8195x1024, .f32⟩
  | 9 => ⟨S8195x1024, .f32⟩
  | 10 => ⟨S8192x1024, .f32⟩
  | 11 => ⟨S_, .f32⟩
  | 12 => ⟨S1024, .f32⟩
  | 13 => ⟨S1x1024, .f32⟩
  | 14 => ⟨S8192x1024, .f32⟩
  | 15 => ⟨S8192x1024, .f32⟩
  | 16 => ⟨S_, .f32⟩
  | 17 => ⟨S1024, .f32⟩
  | 18 => ⟨S1x1024, .f32⟩
  | 19 => ⟨S_, .f32⟩
  | 20 => ⟨S4x1024, .f32⟩
  | 21 => ⟨S4x1024, .f32⟩
  | 22 => ⟨S_, .f32⟩
  | 23 => ⟨S8195x1024, .f32⟩
  | 24 => ⟨S8195x1024, .f32⟩
  | 25 => ⟨S8192x1024, .f32⟩
  | 26 => ⟨S_, .f32⟩
  | 27 => ⟨S1024, .f32⟩
  | 28 => ⟨S1x1024, .f32⟩
  | 29 => ⟨S8192x1024, .f32⟩
  | 30 => ⟨S8192x1024, .f32⟩
  | 31 => ⟨S_, .f32⟩
  | 32 => ⟨S1024, .f32⟩
  | 33 => ⟨S1x1024, .f32⟩
  | 34 => ⟨S_, .f32⟩
  | 35 => ⟨S4x1024, .f32⟩
  | 36 => ⟨S4x1024, .f32⟩
  | 37 => ⟨S_, .f32⟩
  | 38 => ⟨S8195x1024, .f32⟩
  | 39 => ⟨S8195x1024, .f32⟩
  | 40 => ⟨S3x1024, .f32⟩
  | 41 => ⟨S8192x1024, .f32⟩
  | 42 => ⟨S_, .f32⟩
  | 43 => ⟨S8192x5120, .f32⟩
  | 44 => ⟨S_, .f32⟩
  | 45 => ⟨S8192x5120, .f32⟩
  | 46 => ⟨S8192x5120, .f32⟩
  | 47 => ⟨S_, .f32⟩
  | 48 => ⟨S8192x5120, .f32⟩
  | 49 => ⟨S8192x5120, .f32⟩
  | 50 => ⟨S_, .f32⟩
  | 51 => ⟨S8192x5120, .f32⟩
  | 52 => ⟨S8192x5120, .f32⟩
  | 53 => ⟨S_, .f32⟩
  | 54 => ⟨S8192x5120, .f32⟩
  | 55 => ⟨S8192x5120, .f32⟩
  | 56 => ⟨S8192x5120, .bf16⟩
  | _ => ⟨S8192x5120, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_1 : Ref sig .tc := ⟨.hbm, 59, rfl⟩
abbrev main_v45 : Ref sig .tc := ⟨.hbm, 60, rfl⟩
abbrev main_v46 : Ref sig .tc := ⟨.hbm, 61, rfl⟩
abbrev main_cst_2 : Ref sig .tc := ⟨.hbm, 62, rfl⟩
abbrev main_v47 : Ref sig .tc := ⟨.hbm, 63, rfl⟩
abbrev main_v48 : Ref sig .tc := ⟨.hbm, 64, rfl⟩
abbrev main_cst_3 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_4 : Ref sig .tc := ⟨.hbm, 77, rfl⟩
abbrev main_v60 : Ref sig .tc := ⟨.hbm, 78, rfl⟩
abbrev main_v61 : Ref sig .tc := ⟨.hbm, 79, rfl⟩
abbrev main_cst_5 : Ref sig .tc := ⟨.hbm, 80, rfl⟩
abbrev main_v62 : Ref sig .tc := ⟨.hbm, 81, rfl⟩
abbrev main_v63 : Ref sig .tc := ⟨.hbm, 82, rfl⟩
abbrev main_cst_6 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_7 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call0_cst : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_v7 : Ref sig .tc := ⟨.hbm, 100, rfl⟩
abbrev main_call0_v8 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_v71_0 : Ref sig .tc := ⟨.hbm, 105, rfl⟩
abbrev main_call0_cst_0 : Ref sig .tc := ⟨.hbm, 106, rfl⟩
abbrev main_call0_v13 : Ref sig .tc := ⟨.hbm, 107, rfl⟩
abbrev main_call0_v14 : Ref sig .tc := ⟨.hbm, 108, rfl⟩
abbrev main_call0_cst_1 : Ref sig .tc := ⟨.hbm, 109, rfl⟩
abbrev main_call0_v15 : Ref sig .tc := ⟨.hbm, 110, rfl⟩
abbrev main_call0_v16 : Ref sig .tc := ⟨.hbm, 111, rfl⟩
abbrev main_call0_cst_2 : Ref sig .tc := ⟨.hbm, 112, rfl⟩
abbrev main_call0_v17 : Ref sig .tc := ⟨.hbm, 113, rfl⟩
abbrev main_call0_v18 : Ref sig .tc := ⟨.hbm, 114, rfl⟩
abbrev main_call0_cst_3 : Ref sig .tc := ⟨.hbm, 115, rfl⟩
abbrev main_call0_v19 : Ref sig .tc := ⟨.hbm, 116, rfl⟩
abbrev main_call0_v20 : Ref sig .tc := ⟨.hbm, 117, rfl⟩
abbrev main_call0_v21 : Ref sig .tc := ⟨.hbm, 118, rfl⟩
abbrev main_v71_1 : Ref sig .tc := ⟨.hbm, 119, rfl⟩
abbrev main_call0_cst_4 : Ref sig .tc := ⟨.hbm, 120, rfl⟩
abbrev main_call0_cst_5 : Ref sig .tc := ⟨.hbm, 121, rfl⟩
abbrev main_call0_v23 : Ref sig .tc := ⟨.hbm, 122, rfl⟩
abbrev main_call0_cst_6 : Ref sig .tc := ⟨.hbm, 123, rfl⟩
abbrev main_call0_cst_7 : Ref sig .tc := ⟨.hbm, 124, rfl⟩
abbrev main_call0_v24 : Ref sig .tc := ⟨.hbm, 125, rfl⟩
abbrev main_call0_cst_8 : Ref sig .tc := ⟨.hbm, 126, rfl⟩
abbrev main_call0_v25 : Ref sig .tc := ⟨.hbm, 127, rfl⟩
abbrev main_call0_v26 : Ref sig .tc := ⟨.hbm, 128, rfl⟩
abbrev main_call0_cst_9 : Ref sig .tc := ⟨.hbm, 129, rfl⟩
abbrev main_call0_v27 : Ref sig .tc := ⟨.hbm, 130, rfl⟩
abbrev main_call0_v28 : Ref sig .tc := ⟨.hbm, 131, rfl⟩
abbrev main_call0_v29 : Ref sig .tc := ⟨.hbm, 132, rfl⟩
abbrev main_call0_v30 : Ref sig .tc := ⟨.hbm, 133, rfl⟩
abbrev main_call0_v31 : Ref sig .tc := ⟨.hbm, 134, rfl⟩
abbrev main_call0_cst_10 : Ref sig .tc := ⟨.hbm, 135, rfl⟩
abbrev main_call0_v32 : Ref sig .tc := ⟨.hbm, 136, rfl⟩
abbrev main_v71_2 : Ref sig .tc := ⟨.hbm, 137, rfl⟩
abbrev main_v72 : Ref sig .tc := ⟨.hbm, 138, rfl⟩
abbrev main_v73 : Ref sig .tc := ⟨.hbm, 139, rfl⟩
abbrev main_cst_8 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_cst_9 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_cst_10 : Ref sig .tc := ⟨.hbm, 160, rfl⟩
abbrev main_call1_v0 : Ref sig .tc := ⟨.hbm, 161, rfl⟩
abbrev main_v92_1 : Ref sig .tc := ⟨.hbm, 162, rfl⟩
abbrev main_call1_v2 : Ref sig .tc := ⟨.hbm, 163, rfl⟩
abbrev main_call1_v3 : Ref sig .tc := ⟨.hbm, 164, rfl⟩
abbrev main_v92_0 : Ref sig .tc := ⟨.hbm, 165, rfl⟩
abbrev main_call1_cst : Ref sig .tc := ⟨.hbm, 166, rfl⟩
abbrev main_v92_2 : Ref sig .tc := ⟨.hbm, 167, rfl⟩
abbrev main_cst_11 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_cst_12 : Ref sig .tc := ⟨.hbm, 177, rfl⟩
abbrev main_call2_v0 : Ref sig .tc := ⟨.hbm, 178, rfl⟩
abbrev main_v101_1 : Ref sig .tc := ⟨.hbm, 179, rfl⟩
abbrev main_call2_v2 : Ref sig .tc := ⟨.hbm, 180, rfl⟩
abbrev main_v101_0 : Ref sig .tc := ⟨.hbm, 181, rfl⟩
abbrev main_call2_cst : Ref sig .tc := ⟨.hbm, 182, rfl⟩
abbrev main_v101_2 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_cst_13 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_cst_14 : Ref sig .tc := ⟨.hbm, 192, rfl⟩
abbrev main_v109 : Ref sig .tc := ⟨.hbm, 193, rfl⟩
abbrev main_v110 : Ref sig .tc := ⟨.hbm, 194, rfl⟩
abbrev main_cst_15 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_cst_16 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_cst_17 : Ref sig .tc := ⟨.hbm, 203, rfl⟩
abbrev main_v117 : Ref sig .tc := ⟨.hbm, 204, rfl⟩
abbrev main_v118 : Ref sig .tc := ⟨.hbm, 205, rfl⟩
abbrev main_cst_18 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_cst_19 : Ref sig .tc := ⟨.hbm, 210, rfl⟩
abbrev main_v122 : Ref sig .tc := ⟨.hbm, 211, rfl⟩
abbrev main_v123 : Ref sig .tc := ⟨.hbm, 212, rfl⟩
abbrev main_cst_20 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_cst_21 : Ref sig .tc := ⟨.hbm, 219, rfl⟩
abbrev main_v129 : Ref sig .tc := ⟨.hbm, 220, rfl⟩
abbrev main_v130 : Ref sig .tc := ⟨.hbm, 221, rfl⟩
abbrev main_cst_22 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_cst_23 : Ref sig .tc := ⟨.hbm, 247, rfl⟩
abbrev main_v155 : Ref sig .tc := ⟨.hbm, 248, rfl⟩
abbrev main_v156 : Ref sig .tc := ⟨.hbm, 249, rfl⟩
abbrev main_cst_24 : Ref sig .tc := ⟨.hbm, 250, rfl⟩
abbrev main_v157 : Ref sig .tc := ⟨.hbm, 251, rfl⟩
abbrev main_v158 : Ref sig .tc := ⟨.hbm, 252, rfl⟩
abbrev main_cst_25 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_cst_26 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_cst_27 : Ref sig .tc := ⟨.hbm, 268, rfl⟩
abbrev main_v172 : Ref sig .tc := ⟨.hbm, 269, rfl⟩
abbrev main_v173 : Ref sig .tc := ⟨.hbm, 270, rfl⟩
abbrev main_cst_28 : Ref sig .tc := ⟨.hbm, 271, rfl⟩
abbrev main_v174 : Ref sig .tc := ⟨.hbm, 272, rfl⟩
abbrev main_v175 : Ref sig .tc := ⟨.hbm, 273, rfl⟩
abbrev main_cst_29 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_cst_30 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_cst_31 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_cst_32 : Ref sig .tc := ⟨.hbm, 296, rfl⟩
abbrev main_v195 : Ref sig .tc := ⟨.hbm, 297, rfl⟩
abbrev main_v196 : Ref sig .tc := ⟨.hbm, 298, rfl⟩
abbrev main_cst_33 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_cst_34 : Ref sig .tc := ⟨.hbm, 305, rfl⟩
abbrev main_v202 : Ref sig .tc := ⟨.hbm, 306, rfl⟩
abbrev main_v203 : Ref sig .tc := ⟨.hbm, 307, rfl⟩
abbrev main_cst_35 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_cst_36 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_cst_37 : Ref sig .tc := ⟨.hbm, 322, rfl⟩
abbrev main_v216 : Ref sig .tc := ⟨.hbm, 323, rfl⟩
abbrev main_v217 : Ref sig .tc := ⟨.hbm, 324, rfl⟩
abbrev main_cst_38 : Ref sig .tc := ⟨.hbm, 325, rfl⟩
abbrev main_v218 : Ref sig .tc := ⟨.hbm, 326, rfl⟩
abbrev main_v219 : Ref sig .tc := ⟨.hbm, 327, rfl⟩
abbrev main_v220 : Ref sig .tc := ⟨.hbm, 328, rfl⟩
abbrev main_v221 : Ref sig .tc := ⟨.hbm, 329, rfl⟩
abbrev main_v222 : Ref sig .tc := ⟨.hbm, 330, rfl⟩
abbrev main_cst_39 : Ref sig .tc := ⟨.hbm, 331, rfl⟩
abbrev main_v223 : Ref sig .tc := ⟨.hbm, 332, rfl⟩
abbrev main_v224 : Ref sig .tc := ⟨.hbm, 333, rfl⟩
abbrev main_cst_40 : Ref sig .tc := ⟨.hbm, 334, rfl⟩
abbrev main_v225 : Ref sig .tc := ⟨.hbm, 335, rfl⟩
abbrev main_v226 : Ref sig .tc := ⟨.hbm, 336, rfl⟩
abbrev main_v227 : Ref sig .tc := ⟨.hbm, 337, rfl⟩
abbrev main_v228 : Ref sig .tc := ⟨.hbm, 338, rfl⟩
abbrev main_v229 : Ref sig .tc := ⟨.hbm, 339, rfl⟩
abbrev main_v230 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_v234 : Ref sig .tc := ⟨.hbm, 344, rfl⟩
abbrev main_cst_41 : Ref sig .tc := ⟨.hbm, 345, rfl⟩
abbrev main_v235 : Ref sig .tc := ⟨.hbm, 346, rfl⟩
abbrev main_v236 : Ref sig .tc := ⟨.hbm, 347, rfl⟩
abbrev main_v237 : Ref sig .tc := ⟨.hbm, 348, rfl⟩
abbrev main_v238 : Ref sig .tc := ⟨.hbm, 349, rfl⟩
abbrev main_cst_42 : Ref sig .tc := ⟨.hbm, 350, rfl⟩
abbrev main_v239 : Ref sig .tc := ⟨.hbm, 351, rfl⟩
abbrev main_v240 : Ref sig .tc := ⟨.hbm, 352, rfl⟩
abbrev main_cst_43 : Ref sig .tc := ⟨.hbm, 353, rfl⟩
abbrev main_v241 : Ref sig .tc := ⟨.hbm, 354, rfl⟩
abbrev main_cst_44 : Ref sig .tc := ⟨.hbm, 355, rfl⟩
abbrev main_v242 : Ref sig .tc := ⟨.hbm, 356, rfl⟩
abbrev main_v243 : Ref sig .tc := ⟨.hbm, 357, rfl⟩
abbrev main_cst_45 : Ref sig .tc := ⟨.hbm, 358, rfl⟩
abbrev main_v244 : Ref sig .tc := ⟨.hbm, 359, rfl⟩
abbrev main_v245 : Ref sig .tc := ⟨.hbm, 360, rfl⟩
abbrev main_v246 : Ref sig .tc := ⟨.hbm, 361, rfl⟩
abbrev main_v247 : Ref sig .tc := ⟨.hbm, 362, rfl⟩
abbrev main_cst_46 : Ref sig .tc := ⟨.hbm, 363, rfl⟩
abbrev main_v248 : Ref sig .tc := ⟨.hbm, 364, rfl⟩
abbrev main_v249 : Ref sig .tc := ⟨.hbm, 365, rfl⟩
abbrev main_cst_47 : Ref sig .tc := ⟨.hbm, 366, rfl⟩
abbrev main_v250 : Ref sig .tc := ⟨.hbm, 367, rfl⟩
abbrev main_v251 : Ref sig .tc := ⟨.hbm, 368, rfl⟩
abbrev main_cst_48 : Ref sig .tc := ⟨.hbm, 369, rfl⟩
abbrev main_v252 : Ref sig .tc := ⟨.hbm, 370, rfl⟩
abbrev main_v253 : Ref sig .tc := ⟨.hbm, 371, rfl⟩
abbrev main_v254 : Ref sig .tc := ⟨.hbm, 372, rfl⟩
abbrev main_cst_49 : Ref sig .tc := ⟨.hbm, 373, rfl⟩
abbrev main_v255 : Ref sig .tc := ⟨.hbm, 374, rfl⟩
abbrev main_v256 : Ref sig .tc := ⟨.hbm, 375, rfl⟩
abbrev main_v257 : Ref sig .tc := ⟨.hbm, 376, rfl⟩
abbrev main_v258 : Ref sig .tc := ⟨.hbm, 377, rfl⟩
abbrev main_cst_50 : Ref sig .tc := ⟨.hbm, 378, rfl⟩
abbrev main_v259 : Ref sig .tc := ⟨.hbm, 379, rfl⟩
abbrev main_v260 : Ref sig .tc := ⟨.hbm, 380, rfl⟩
abbrev main_cst_51 : Ref sig .tc := ⟨.hbm, 381, rfl⟩
abbrev main_v261 : Ref sig .tc := ⟨.hbm, 382, rfl⟩
abbrev main_v262 : Ref sig .tc := ⟨.hbm, 383, rfl⟩
abbrev main_cst_52 : Ref sig .tc := ⟨.hbm, 384, rfl⟩
abbrev main_v263 : Ref sig .tc := ⟨.hbm, 385, rfl⟩
abbrev main_v264 : Ref sig .tc := ⟨.hbm, 386, rfl⟩
abbrev main_v265 : Ref sig .tc := ⟨.hbm, 387, rfl⟩
abbrev main_v266 : Ref sig .tc := ⟨.hbm, 388, rfl⟩
abbrev main_v267 : Ref sig .tc := ⟨.hbm, 389, rfl⟩
abbrev main_v268 : Ref sig .tc := ⟨.hbm, 390, rfl⟩
abbrev main_v269 : Ref sig .tc := ⟨.hbm, 391, rfl⟩
abbrev main_v270 : Ref sig .tc := ⟨.hbm, 392, rfl⟩
abbrev main_v271 : Ref sig .tc := ⟨.hbm, 393, rfl⟩
abbrev main_v272 : Ref sig .tc := ⟨.hbm, 394, rfl⟩
abbrev main_cst_53 : Ref sig .tc := ⟨.hbm, 395, rfl⟩
abbrev main_v273 : Ref sig .tc := ⟨.hbm, 396, rfl⟩
abbrev main_v274 : Ref sig .tc := ⟨.hbm, 397, rfl⟩
abbrev main_v275 : Ref sig .tc := ⟨.hbm, 398, rfl⟩
abbrev main_cst_54 : Ref sig .tc := ⟨.hbm, 399, rfl⟩
abbrev main_v276 : Ref sig .tc := ⟨.hbm, 400, rfl⟩
abbrev main_v277 : Ref sig .tc := ⟨.hbm, 401, rfl⟩
abbrev main_v278 : Ref sig .tc := ⟨.hbm, 402, rfl⟩
abbrev main_cst_55 : Ref sig .tc := ⟨.hbm, 403, rfl⟩
abbrev main_v279 : Ref sig .tc := ⟨.hbm, 404, rfl⟩
abbrev main_v280 : Ref sig .tc := ⟨.hbm, 405, rfl⟩
abbrev main_v281 : Ref sig .tc := ⟨.hbm, 406, rfl⟩
abbrev main_v282 : Ref sig .tc := ⟨.hbm, 407, rfl⟩
abbrev main_v283 : Ref sig .tc := ⟨.hbm, 408, rfl⟩
abbrev main_v284 : Ref sig .tc := ⟨.hbm, 409, rfl⟩
abbrev main_cst_56 : Ref sig .tc := ⟨.hbm, 410, rfl⟩
abbrev main_v285 : Ref sig .tc := ⟨.hbm, 411, rfl⟩
abbrev main_v286 : Ref sig .tc := ⟨.hbm, 412, rfl⟩
abbrev main_v287 : Ref sig .tc := ⟨.hbm, 413, rfl⟩
abbrev main_v288 : Ref sig .tc := ⟨.hbm, 414, rfl⟩
abbrev main_cst_57 : Ref sig .tc := ⟨.hbm, 415, rfl⟩
abbrev main_v289 : Ref sig .tc := ⟨.hbm, 416, rfl⟩
abbrev main_call3_cst : Ref sig .tc := ⟨.hbm, 417, rfl⟩
abbrev main_call3_v0 : Ref sig .tc := ⟨.hbm, 418, rfl⟩
abbrev main_v290 : Ref sig .tc := ⟨.hbm, 419, rfl⟩
abbrev main_v291 : Ref sig .tc := ⟨.hbm, 420, rfl⟩
abbrev main_cst_58 : Ref sig .tc := ⟨.hbm, 421, rfl⟩
abbrev main_v292 : Ref sig .tc := ⟨.hbm, 422, rfl⟩
abbrev main_v293 : Ref sig .tc := ⟨.hbm, 423, rfl⟩
abbrev main_v294 : Ref sig .tc := ⟨.hbm, 424, rfl⟩
abbrev main_cst_59 : Ref sig .tc := ⟨.hbm, 425, rfl⟩
abbrev main_v295 : Ref sig .tc := ⟨.hbm, 426, rfl⟩
abbrev main_v296 : Ref sig .tc := ⟨.hbm, 427, rfl⟩
abbrev main_cst_60 : Ref sig .tc := ⟨.hbm, 428, rfl⟩
abbrev main_v297 : Ref sig .tc := ⟨.hbm, 429, rfl⟩
abbrev main_cst_61 : Ref sig .tc := ⟨.hbm, 430, rfl⟩
abbrev main_v298 : Ref sig .tc := ⟨.hbm, 431, rfl⟩
abbrev main_v299 : Ref sig .tc := ⟨.hbm, 432, rfl⟩
abbrev main_v300 : Ref sig .tc := ⟨.hbm, 433, rfl⟩
abbrev main_call4_cst : Ref sig .tc := ⟨.hbm, 434, rfl⟩
abbrev main_call4_v0 : Ref sig .tc := ⟨.hbm, 435, rfl⟩
abbrev main_call4_v1 : Ref sig .tc := ⟨.hbm, 436, rfl⟩
abbrev main_call4_cst_0 : Ref sig .tc := ⟨.hbm, 437, rfl⟩
abbrev main_call4_v2 : Ref sig .tc := ⟨.hbm, 438, rfl⟩
abbrev main_v301 : Ref sig .tc := ⟨.hbm, 439, rfl⟩
abbrev main_cst_62 : Ref sig .tc := ⟨.hbm, 440, rfl⟩
abbrev main_v302 : Ref sig .tc := ⟨.hbm, 441, rfl⟩
abbrev main_v303 : Ref sig .tc := ⟨.hbm, 442, rfl⟩
abbrev main_v304 : Ref sig .tc := ⟨.hbm, 443, rfl⟩
abbrev main_v305 : Ref sig .tc := ⟨.hbm, 444, rfl⟩
abbrev main_v306 : Ref sig .tc := ⟨.hbm, 445, rfl⟩
abbrev main_v307 : Ref sig .tc := ⟨.hbm, 446, rfl⟩
abbrev main_v308 : Ref sig .tc := ⟨.hbm, 447, rfl⟩
abbrev main_v309 : Ref sig .tc := ⟨.hbm, 448, rfl⟩
abbrev main_cst_63 : Ref sig .tc := ⟨.hbm, 449, rfl⟩
abbrev main_v310 : Ref sig .tc := ⟨.hbm, 450, rfl⟩
abbrev main_v311 : Ref sig .tc := ⟨.hbm, 451, rfl⟩
abbrev main_v312 : Ref sig .tc := ⟨.hbm, 452, rfl⟩
abbrev main_v313 : Ref sig .tc := ⟨.hbm, 453, rfl⟩
abbrev main_cst_64 : Ref sig .tc := ⟨.hbm, 454, rfl⟩
abbrev main_v314 : Ref sig .tc := ⟨.hbm, 455, rfl⟩
abbrev main_v315 : Ref sig .tc := ⟨.hbm, 456, rfl⟩
abbrev main_v316 : Ref sig .tc := ⟨.hbm, 457, rfl⟩
abbrev main_v317 : Ref sig .tc := ⟨.hbm, 458, rfl⟩
abbrev main_v318 : Ref sig .tc := ⟨.hbm, 459, rfl⟩
abbrev main_v319 : Ref sig .tc := ⟨.hbm, 460, rfl⟩
abbrev main_cst_65 : Ref sig .tc := ⟨.hbm, 461, rfl⟩
abbrev main_v320 : Ref sig .tc := ⟨.hbm, 462, rfl⟩
abbrev main_v321 : Ref sig .tc := ⟨.hbm, 463, rfl⟩
abbrev main_v322 : Ref sig .tc := ⟨.hbm, 464, rfl⟩
abbrev main_v323 : Ref sig .tc := ⟨.hbm, 465, rfl⟩
abbrev main_cst_66 : Ref sig .tc := ⟨.hbm, 466, rfl⟩
abbrev main_v324 : Ref sig .tc := ⟨.hbm, 467, rfl⟩
abbrev main_v325 : Ref sig .tc := ⟨.hbm, 468, rfl⟩
abbrev main_cst_67 : Ref sig .tc := ⟨.hbm, 469, rfl⟩
abbrev main_v326 : Ref sig .tc := ⟨.hbm, 470, rfl⟩
abbrev main_v327 : Ref sig .tc := ⟨.hbm, 471, rfl⟩
abbrev main_v328 : Ref sig .tc := ⟨.hbm, 472, rfl⟩
abbrev main_v329 : Ref sig .tc := ⟨.hbm, 473, rfl⟩
abbrev main_v330 : Ref sig .tc := ⟨.hbm, 474, rfl⟩
abbrev main_v331 : Ref sig .tc := ⟨.hbm, 475, rfl⟩
abbrev main_v332 : Ref sig .tc := ⟨.hbm, 476, rfl⟩
abbrev main_v333 : Ref sig .tc := ⟨.hbm, 477, rfl⟩
abbrev main_cst_68 : Ref sig .tc := ⟨.hbm, 478, rfl⟩
abbrev main_v334 : Ref sig .tc := ⟨.hbm, 479, rfl⟩
abbrev main_v335 : Ref sig .tc := ⟨.hbm, 480, rfl⟩
abbrev main_cst_69 : Ref sig .tc := ⟨.hbm, 481, rfl⟩
abbrev main_v336 : Ref sig .tc := ⟨.hbm, 482, rfl⟩
abbrev main_v337 : Ref sig .tc := ⟨.hbm, 483, rfl⟩
abbrev main_v338 : Ref sig .tc := ⟨.hbm, 484, rfl⟩
abbrev main_v339 : Ref sig .tc := ⟨.hbm, 485, rfl⟩
abbrev main_v340 : Ref sig .tc := ⟨.hbm, 486, rfl⟩
abbrev main_v341 : Ref sig .tc := ⟨.hbm, 487, rfl⟩
abbrev main_v342 : Ref sig .tc := ⟨.hbm, 488, rfl⟩
abbrev main_v343 : Ref sig .tc := ⟨.hbm, 489, rfl⟩
abbrev main_v344 : Ref sig .tc := ⟨.hbm, 490, rfl⟩
abbrev main_cst_70 : Ref sig .tc := ⟨.hbm, 491, rfl⟩
abbrev main_v345 : Ref sig .tc := ⟨.hbm, 492, rfl⟩
abbrev main_v346 : Ref sig .tc := ⟨.hbm, 493, rfl⟩
abbrev main_v347 : Ref sig .tc := ⟨.hbm, 494, rfl⟩
abbrev main_cst_71 : Ref sig .tc := ⟨.hbm, 495, rfl⟩
abbrev main_v348 : Ref sig .tc := ⟨.hbm, 496, rfl⟩
abbrev main_v349 : Ref sig .tc := ⟨.hbm, 497, rfl⟩
abbrev main_v350 : Ref sig .tc := ⟨.hbm, 498, rfl⟩
abbrev main_v351 : Ref sig .tc := ⟨.hbm, 499, rfl⟩
abbrev main_cst_72 : Ref sig .tc := ⟨.hbm, 500, rfl⟩
abbrev main_v352 : Ref sig .tc := ⟨.hbm, 501, rfl⟩
abbrev main_v353 : Ref sig .tc := ⟨.hbm, 502, rfl⟩
abbrev main_cst_73 : Ref sig .tc := ⟨.hbm, 503, rfl⟩
abbrev main_v354 : Ref sig .tc := ⟨.hbm, 504, rfl⟩
abbrev main_cst_74 : Ref sig .tc := ⟨.hbm, 505, rfl⟩
abbrev main_v355 : Ref sig .tc := ⟨.hbm, 506, rfl⟩
abbrev main_v356 : Ref sig .tc := ⟨.hbm, 507, rfl⟩
abbrev main_cst_75 : Ref sig .tc := ⟨.hbm, 508, rfl⟩
abbrev main_v357 : Ref sig .tc := ⟨.hbm, 509, rfl⟩
abbrev main_v358 : Ref sig .tc := ⟨.hbm, 510, rfl⟩
abbrev main_v359 : Ref sig .tc := ⟨.hbm, 511, rfl⟩
abbrev main_v360 : Ref sig .tc := ⟨.hbm, 512, rfl⟩
abbrev main_cst_76 : Ref sig .tc := ⟨.hbm, 513, rfl⟩
abbrev main_v361 : Ref sig .tc := ⟨.hbm, 514, rfl⟩
abbrev main_v362 : Ref sig .tc := ⟨.hbm, 515, rfl⟩
abbrev main_cst_77 : Ref sig .tc := ⟨.hbm, 516, rfl⟩
abbrev main_v363 : Ref sig .tc := ⟨.hbm, 517, rfl⟩
abbrev main_v364 : Ref sig .tc := ⟨.hbm, 518, rfl⟩
abbrev main_cst_78 : Ref sig .tc := ⟨.hbm, 519, rfl⟩
abbrev main_v365 : Ref sig .tc := ⟨.hbm, 520, rfl⟩
abbrev main_v366 : Ref sig .tc := ⟨.hbm, 521, rfl⟩
abbrev main_v367 : Ref sig .tc := ⟨.hbm, 522, rfl⟩
abbrev main_cst_79 : Ref sig .tc := ⟨.hbm, 523, rfl⟩
abbrev main_v368 : Ref sig .tc := ⟨.hbm, 524, rfl⟩
abbrev main_v369 : Ref sig .tc := ⟨.hbm, 525, rfl⟩
abbrev main_v370 : Ref sig .tc := ⟨.hbm, 526, rfl⟩
abbrev main_v371 : Ref sig .tc := ⟨.hbm, 527, rfl⟩
abbrev main_cst_80 : Ref sig .tc := ⟨.hbm, 528, rfl⟩
abbrev main_v372 : Ref sig .tc := ⟨.hbm, 529, rfl⟩
abbrev main_v373 : Ref sig .tc := ⟨.hbm, 530, rfl⟩
abbrev main_cst_81 : Ref sig .tc := ⟨.hbm, 531, rfl⟩
abbrev main_v374 : Ref sig .tc := ⟨.hbm, 532, rfl⟩
abbrev main_v375 : Ref sig .tc := ⟨.hbm, 533, rfl⟩
abbrev main_cst_82 : Ref sig .tc := ⟨.hbm, 534, rfl⟩
abbrev main_v376 : Ref sig .tc := ⟨.hbm, 535, rfl⟩
abbrev main_v377 : Ref sig .tc := ⟨.hbm, 536, rfl⟩
abbrev main_v378 : Ref sig .tc := ⟨.hbm, 537, rfl⟩
abbrev main_cst_83 : Ref sig .tc := ⟨.hbm, 538, rfl⟩
abbrev main_v379 : Ref sig .tc := ⟨.hbm, 539, rfl⟩
abbrev main_v380 : Ref sig .tc := ⟨.hbm, 540, rfl⟩
abbrev main_v381 : Ref sig .tc := ⟨.hbm, 541, rfl⟩
abbrev main_v382 : Ref sig .tc := ⟨.hbm, 542, rfl⟩
abbrev main_cst_84 : Ref sig .tc := ⟨.hbm, 543, rfl⟩
abbrev main_v383 : Ref sig .tc := ⟨.hbm, 544, rfl⟩
abbrev main_v384 : Ref sig .tc := ⟨.hbm, 545, rfl⟩
abbrev main_cst_85 : Ref sig .tc := ⟨.hbm, 546, rfl⟩
abbrev main_v385 : Ref sig .tc := ⟨.hbm, 547, rfl⟩
abbrev main_v386 : Ref sig .tc := ⟨.hbm, 548, rfl⟩
abbrev main_cst_86 : Ref sig .tc := ⟨.hbm, 549, rfl⟩
abbrev main_v387 : Ref sig .tc := ⟨.hbm, 550, rfl⟩
abbrev main_v388 : Ref sig .tc := ⟨.hbm, 551, rfl⟩
abbrev main_v389 : Ref sig .tc := ⟨.hbm, 552, rfl⟩
abbrev main_v390 : Ref sig .tc := ⟨.hbm, 553, rfl⟩
abbrev main_cst_87 : Ref sig .tc := ⟨.hbm, 554, rfl⟩
abbrev main_v391 : Ref sig .tc := ⟨.hbm, 555, rfl⟩
abbrev main_cst_88 : Ref sig .tc := ⟨.hbm, 556, rfl⟩
abbrev main_v392 : Ref sig .tc := ⟨.hbm, 557, rfl⟩
abbrev main_v393 : Ref sig .tc := ⟨.hbm, 558, rfl⟩
abbrev main_cst_89 : Ref sig .tc := ⟨.hbm, 559, rfl⟩
abbrev main_v394 : Ref sig .tc := ⟨.hbm, 560, rfl⟩
abbrev main_v395 : Ref sig .tc := ⟨.hbm, 561, rfl⟩
abbrev main_cst_90 : Ref sig .tc := ⟨.hbm, 562, rfl⟩
abbrev main_v396 : Ref sig .tc := ⟨.hbm, 563, rfl⟩
abbrev main_v397 : Ref sig .tc := ⟨.hbm, 564, rfl⟩
abbrev main_cst_91 : Ref sig .tc := ⟨.hbm, 565, rfl⟩
abbrev main_v398 : Ref sig .tc := ⟨.hbm, 566, rfl⟩
abbrev main_v399 : Ref sig .tc := ⟨.hbm, 567, rfl⟩
abbrev main_v400 : Ref sig .tc := ⟨.hbm, 568, rfl⟩

abbrev nD : Nat := 1
abbrev τ : Topo := Topo.v7x

variable {F : FTy → Type} [FloatOps F]
-- ==== DwFfn.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwFfnRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S5632x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwFfnTRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x2048, .f32⟩
  | .hbm, ⟨3, _⟩ => ⟨S8192x5632, .f32⟩
  | .hbm, ⟨4, _⟩ => ⟨S_, .f32⟩
  | .hbm, ⟨5, _⟩ => ⟨S5632x2048, .f32⟩
  | .hbm, ⟨6, _⟩ => ⟨S2048x5632, .f32⟩
  | .hbm, ⟨7, _⟩ => ⟨S8192x5632, .f32⟩
  | .hbm, ⟨8, _⟩ => ⟨S5632x2048, .f32⟩
  | .hbm, ⟨9, _⟩ => ⟨S2048x5632, .f32⟩
  | .hbm, ⟨10, _⟩ => ⟨S5632x2048, .f32⟩
  | .hbm, ⟨11, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwOut.lean ====
abbrev S8192x2048 : Shape := ⟨2, ![8192, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwOutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwIn.lean ====
abbrev S8192x5120 : Shape := ⟨2, ![8192, 5120]⟩
abbrev S8192x2048 : Shape := ⟨2, ![8192, 2048]⟩
abbrev S5120x2048 : Shape := ⟨2, ![5120, 2048]⟩
abbrev S1024x1280 : Shape := ⟨2, ![1024, 1280]⟩
abbrev S1024x2048 : Shape := ⟨2, ![1024, 2048]⟩
abbrev S1280x2048 : Shape := ⟨2, ![1280, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5120, .bf16⟩
  | .hbm, ⟨1, _⟩ => ⟨S8192x2048, .bf16⟩
  | .hbm, ⟨2, _⟩ => ⟨S5120x2048, .bf16⟩
  | .local _ .vmem, ⟨0, _⟩ => ⟨S1024x1280, .bf16⟩
  | .local _ .vmem, ⟨1, _⟩ => ⟨S1024x1280, .bf16⟩
  | .local _ .vmem, ⟨2, _⟩ => ⟨S1024x2048, .bf16⟩
  | .local _ .vmem, ⟨3, _⟩ => ⟨S1024x2048, .bf16⟩
  | .local _ .vmem, ⟨4, _⟩ => ⟨S1280x2048, .bf16⟩
  | .local _ .vmem, ⟨5, _⟩ => ⟨S1280x2048, .bf16⟩
  | .local _ .vmem, ⟨6, _⟩ => ⟨S1280x2048, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S8192x5120 : Shape := ⟨2, ![8192, 5120]⟩
abbrev S8192x2048 : Shape := ⟨2, ![8192, 2048]⟩
abbrev S_ : Shape := ⟨0, ![]⟩
abbrev S5120x2048 : Shape := ⟨2, ![5120, 2048]⟩
abbrev S2048x5120 : Shape := ⟨2, ![2048, 5120]⟩

abbrev nBuf : Space → Nat
  | .hbm => 12
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S8192x2048, .bf16⟩
  | .hbm, ⟨2, _⟩ => ⟨S8192x2048, .f32⟩
  | .hbm, ⟨3, _⟩ => ⟨S8192x5120, .f32⟩
  | .hbm, ⟨4, _⟩ => ⟨S_, .f32⟩
  | .hbm, ⟨5, _⟩ => ⟨S5120x2048, .f32⟩
  | .hbm, ⟨6, _⟩ => ⟨S2048x5120, .f32⟩
  | .hbm, ⟨7, _⟩ => ⟨S8192x5120, .f32⟩
  | .hbm, ⟨8, _⟩ => ⟨S5120x2048, .f32⟩
  | .hbm, ⟨9, _⟩ => ⟨S2048x5120, .f32⟩
  | .hbm, ⟨10, _⟩ => ⟨S5120x2048, .f32⟩
  | .hbm, ⟨11, _⟩ => ⟨S5120x2048, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutBwd.lean ====
abbrev S8192x2048 : Shape := ⟨2, ![8192, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutBwdRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmRes.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x2048 : Shape := ⟨2, ![1408, 2048]⟩
abbrev S1024x2048 : Shape := ⟨2, ![1024, 2048]⟩
abbrev S128x2048 : Shape := ⟨2, ![128, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

@[reducible] def k0_t1_loop : Scf.Loop 32 :=
  let c0_i32_9 : BitVec 32 := 0#32
  let c8_i32 : BitVec 32 := 8#32
  let v13 : BitVec 32 := Scalar.addi c0_i32_9 c8_i32
  let c1_i32 : BitVec 32 := 1#32
  ⟨c0_i32_9, v13, c1_i32⟩
def k0_mult1 (k0_t1 : Fin k0_t1_loop.trips) : BitVec 32 :=
  let c0_i32_9 : BitVec 32 := 0#32
  let c1_i32 : BitVec 32 := 1#32
  let arg6 : BitVec 32 := Scf.iv c0_i32_9 c1_i32 k0_t1
  let c128_i32 : BitVec 32 := 128#32
  let v14 : BitVec 32 := Scalar.muli arg6 c128_i32
  v14
def k0_off1 (k0_t1 : Fin k0_t1_loop.trips) : Fin 2 → Nat :=
  let c0_i32_9 : BitVec 32 := 0#32
  let c1_i32 : BitVec 32 := 1#32
  let arg6 : BitVec 32 := Scf.iv c0_i32_9 c1_i32 k0_t1
  let c128_i32 : BitVec 32 := 128#32
  let v14 : BitVec 32 := Scalar.muli arg6 c128_i32
  let v15 : BitVec 32 := v14
  let v16 : Index := Scalar.indexCast v15
  let c0_11 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== MmResRefIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== RmsFfn.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S1024x512 : Shape := ⟨2, ![1024, 512]⟩
abbrev S512x2048 : Shape := ⟨2, ![512, 2048]⟩
abbrev S1024x2048 : Shape := ⟨2, ![1024, 2048]⟩
abbrev S2x128x2048 : Shape := ⟨3, ![2, 128, 2048]⟩
abbrev S2x2 : Shape := ⟨2, ![2, 2]⟩
abbrev S1x1 : Shape := ⟨2, ![1, 1]⟩
abbrev S_ : Shape := ⟨0, ![]⟩
abbrev S1x128x2048 : Shape := ⟨3, ![1, 128, 2048]⟩
abbrev S128x2048 : Shape := ⟨2, ![128, 2048]⟩
abbrev S1x64x2048 : Shape := ⟨3, ![1, 64, 2048]⟩
abbrev S64x2048 : Shape := ⟨2, ![64, 2048]⟩
abbrev S64 : Shape := ⟨1, ![64]⟩
abbrev S64x1 : Shape := ⟨2, ![64, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .bf16⟩
  | .hbm, ⟨3, _⟩ => ⟨S5632x2048, .bf16⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | .hbm, ⟨9, _⟩ => ⟨S1x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | .local _ .vmem, ⟨12, _⟩ => ⟨S1024x2048, .bf16⟩
  | .local _ .vmem, ⟨13, _⟩ => ⟨S1x2048, .f32⟩
  | .local _ .vmem, ⟨14, _⟩ => ⟨S2x128x2048, .f32⟩
  | .local _ .vmem, ⟨15, _⟩ => ⟨S2x128x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v3 : BitVec 1 := Scalar.cmpi .eq arg1 c10_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c1024_i32 : BitVec 32 := 1024#32
  let v23 : BitVec 32 := Scalar.muli arg0 c1024_i32
  let c0_i32_20 : BitVec 32 := 0#32
  let v24 : BitVec 32 := Scalar.addi v23 c0_i32_20
  let c0_i32_26 : BitVec 32 := 0#32
  ![v24.toNat, 0]
def k0_cond3 (i : grid0.Coords) : BitVec 1 :=
  let arg1 : BitVec 32 := BitVec.ofNat 32 (i 1).val
  let c10_i32_18 : BitVec 32 := 10#32
  let v20 : BitVec 1 := Scalar.cmpi .eq arg1 c10_i32_18
  let v21 : BitVec 32 := Scalar.extui v20
  let c0_i32_19 : BitVec 32 := 0#32
  let v22 : BitVec 1 := Scalar.cmpi .ne v21 c0_i32_19
  v22

@[reducible] def k0_t1_loop : Scf.Loop 32 :=
  let c0_i32_22 : BitVec 32 := 0#32
  let c8_i32 : BitVec 32 := 8#32
  let v26 : BitVec 32 := Scalar.addi c0_i32_22 c8_i32
  let c1_i32 : BitVec 32 := 1#32
  ⟨c0_i32_22, v26, c1_i32⟩
def k0_cond5 (k0_t1 : Fin k0_t1_loop.trips) : BitVec 1 :=
  let c0_i32_22 : BitVec 32 := 0#32
  let c1_i32 : BitVec 32 := 1#32
  let arg15 : BitVec 32 := Scf.iv c0_i32_22 c1_i32 k0_t1
  let c1_i32_29 : BitVec 32 := 1#32
  let v37 : BitVec 32 := Scalar.addi arg15 c1_i32_29
  let c8_i32_30 : BitVec 32 := 8#32
  let v38 : BitVec 1 := Scalar.cmpi .slt v37 c8_i32_30
  let v39 : BitVec 32 := Scalar.extui v38
  let c0_i32_31 : BitVec 32 := 0#32
  let v40 : BitVec 1 := Scalar.cmpi .ne v39 c0_i32_31
  v40

def k0_off2 (k0_t1 : Fin k0_t1_loop.trips) : Fin 2 → Nat :=
  let c1_i32_83 : BitVec 32 := 1#32
  let c0_i32_22 : BitVec 32 := 0#32
  let c1_i32 : BitVec 32 := 1#32
  let arg15 : BitVec 32 := Scf.iv c0_i32_22 c1_i32 k0_t1
  let c2_i32 : BitVec 32 := 2#32
  let c0_i32_24 : BitVec 32 := 0#32
  let v27 : BitVec 1 := Scalar.cmpi .eq c2_i32 c0_i32_24
  let c1_i32_25 : BitVec 32 := 1#32
  let v28 : BitVec 32 := Scalar.select v27 c1_i32_25 c2_i32
  let v29 : BitVec 32 := Scalar.remsi arg15 v28
  let c0_i32_27 : BitVec 32 := 0#32
  let v31 : BitVec 1 := Scalar.cmpi .slt v29 c0_i32_27
  let c0_i32_28 : BitVec 32 := 0#32
  let v32 : BitVec 1 := Scalar.cmpi .slt v28 c0_i32_28
  let v33 : BitVec 1 := Scalar.xori v31 v32
  let c0_i32_26 : BitVec 32 := 0#32
  let v30 : BitVec 1 := Scalar.cmpi .ne v29 c0_i32_26
  let v34 : BitVec 1 := Scalar.andi v33 v30
  let v35 : BitVec 32 := Scalar.addi v29 v28
  let v36 : BitVec 32 := Scalar.select v34 v35 v29
  let v155 : BitVec 32 := Scalar.subi c1_i32_83 v36
  let c0_i32_86 : BitVec 32 := 0#32
  ![v155.toNat, 0]
def k0_off3 (k0_t1 : Fin k0_t1_loop.trips) : Fin 3 → Nat :=
  let c1_i32_83 : BitVec 32 := 1#32
  let c0_i32_22 : BitVec 32 := 0#32
  let c1_i32 : BitVec 32 := 1#32
  let arg15 : BitVec 32 := Scf.iv c0_i32_22 c1_i32 k0_t1
  let c2_i32 : BitVec 32 := 2#32
  let c0_i32_24 : BitVec 32 := 0#32
  let v27 : BitVec 1 := Scalar.cmpi .eq c2_i32 c0_i32_24
  let c1_i32_25 : BitVec 32 := 1#32
  let v28 : BitVec 32 := Scalar.select v27 c1_i32_25 c2_i32
  let v29 : BitVec 32 := Scalar.remsi arg15 v28
  let c0_i32_27 : BitVec 32 := 0#32
  let v31 : BitVec 1 := Scalar.cmpi .slt v29 c0_i32_27
  let c0_i32_28 : BitVec 32 := 0#32
  let v32 : BitVec 1 := Scalar.cmpi .slt v28 c0_i32_28
  let v33 : BitVec 1 := Scalar.xori v31 v32
  let c0_i32_26 : BitVec 32 := 0#32
  let v30 : BitVec 1 := Scalar.cmpi .ne v29 c0_i32_26
  let v34 : BitVec 1 := Scalar.andi v33 v30
  let v35 : BitVec 32 := Scalar.addi v29 v28
  let v36 : BitVec 32 := Scalar.select v34 v35 v29
  let v155 : BitVec 32 := Scalar.subi c1_i32_83 v36
  let c0_i32_87 : BitVec 32 := 0#32
  let c0_i32_88 : BitVec 32 := 0#32
  ![v155.toNat, 0, 0]
def k0_off4 (i : grid0.Coords) (k0_t1 : Fin k0_t1_loop.trips) : Fin 2 → Nat :=
  let arg0 : BitVec 32 := BitVec.ofNat 32 (i 0).val
  let c1024_i32_84 : BitVec 32 := 1024#32
  let v156 : BitVec 32 := Scalar.muli arg0 c1024_i32_84
  let c0_i32_22 : BitVec 32 := 0#32
  let c1_i32 : BitVec 32 := 1#32
  let arg15 : BitVec 32 := Scf.iv c0_i32_22 c1_i32 k0_t1
  let c1_i32_82 : BitVec 32 := 1#32
  let v154 : BitVec 32 := Scalar.addi arg15 c1_i32_82
  let c128_i32_85 : BitVec 32 := 128#32
  let v157 : BitVec 32 := Scalar.muli v154 c128_i32_85
  let v158 : BitVec 32 := Scalar.addi v156 v157
  let c0_i32_89 : BitVec 32 := 0#32
  ![v158.toNat, 0]
def k0_off5 (k0_t1 : Fin k0_t1_loop.trips) : Fin 2 → Nat :=
  let c1_i32_83 : BitVec 32 := 1#32
  let c0_i32_22 : BitVec 32 := 0#32
  let c1_i32 : BitVec 32 := 1#32
  let arg15 : BitVec 32 := Scf.iv c0_i32_22 c1_i32 k0_t1
  let c2_i32 : BitVec 32 := 2#32
  let c0_i32_24 : BitVec 32 := 0#32
  let v27 : BitVec 1 := Scalar.cmpi .eq c2_i32 c0_i32_24
  let c1_i32_25 : BitVec 32 := 1#32
  let v28 : BitVec 32 := Scalar.select v27 c1_i32_25 c2_i32
  let v29 : BitVec 32 := Scalar.remsi arg15 v28
  let c0_i32_27 : BitVec 32 := 0#32
  let v31 : BitVec 1 := Scalar.cmpi .slt v29 c0_i32_27
  let c0_i32_28 : BitVec 32 := 0#32
  let v32 : BitVec 1 := Scalar.cmpi .slt v28 c0_i32_28
  let v33 : BitVec 1 := Scalar.xori v31 v32
  let c0_i32_26 : BitVec 32 := 0#32
  let v30 : BitVec 1 := Scalar.cmpi .ne v29 c0_i32_26
  let v34 : BitVec 1 := Scalar.andi v33 v30
  let v35 : BitVec 32 := Scalar.addi v29 v28
  let v36 : BitVec 32 := Scalar.select v34 v35 v29
  let v155 : BitVec 32 := Scalar.subi c1_i32_83 v36
  let c1_i32_90 : BitVec 32 := 1#32
  ![v155.toNat, 1]
def k0_off6 (k0_t1 : Fin k0_t1_loop.trips) : Fin 2 → Nat :=
  let c0_i32_22 : BitVec 32 := 0#32
  let c1_i32 : BitVec 32 := 1#32
  let arg15 : BitVec 32 := Scf.iv c0_i32_22 c1_i32 k0_t1
  let c2_i32 : BitVec 32 := 2#32
  let c0_i32_24 : BitVec 32 := 0#32
  let v27 : BitVec 1 := Scalar.cmpi .eq c2_i32 c0_i32_24
  let c1_i32_25 : BitVec 32 := 1#32
  let v28 : BitVec 32 := Scalar.select v27 c1_i32_25 c2_i32
  let v29 : BitVec 32 := Scalar.remsi arg15 v28
  let c0_i32_27 : BitVec 32 := 0#32
  let v31 : BitVec 1 := Scalar.cmpi .slt v29 c0_i32_27
  let c0_i32_28 : BitVec 32 := 0#32
  let v32 : BitVec 1 := Scalar.cmpi .slt v28 c0_i32_28
  let v33 : BitVec 1 := Scalar.xori v31 v32
  let c0_i32_26 : BitVec 32 := 0#32
  let v30 : BitVec 1 := Scalar.cmpi .ne v29 c0_i32_26
  let v34 : BitVec 1 := Scalar.andi v33 v30
  let v35 : BitVec 32 := Scalar.addi v29 v28
  let v36 : BitVec 32 := Scalar.select v34 v35 v29
  let c0_i32_32 : BitVec 32 := 0#32
  ![v36.toNat, 0]
def k0_off7 (k0_t1 : Fin k0_t1_loop.trips) : Fin 3 → Nat :=
  let c0_i32_22 : BitVec 32 := 0#32
  let c1_i32 : BitVec 32 := 1#32
  let arg15 : BitVec 32 := Scf.iv c0_i32_22 c1_i32 k0_t1
  let c2_i32 : BitVec 32 := 2#32
  let c0_i32_24 : BitVec 32 := 0#32
  let v27 : BitVec 1 := Scalar.cmpi .eq c2_i32 c0_i32_24
  let c1_i32_25 : BitVec 32 := 1#32
  let v28 : BitVec 32 := Scalar.select v27 c1_i32_25 c2_i32
  let v29 : BitVec 32 := Scalar.remsi arg15 v28
  let c0_i32_27 : BitVec 32 := 0#32
  let v31 : BitVec 1 := Scalar.cmpi .slt v29 c0_i32_27
  let c0_i32_28 : BitVec 32 := 0#32
  let v32 : BitVec 1 := Scalar.cmpi .slt v28 c0_i32_28
  let v33 : BitVec 1 := Scalar.xori v31 v32
  let c0_i32_26 : BitVec 32 := 0#32
  let v30 : BitVec 1 := Scalar.cmpi .ne v29 c0_i32_26
  let v34 : BitVec 1 := Scalar.andi v33 v30
  let v35 : BitVec 32 := Scalar.addi v29 v28
  let v36 : BitVec 32 := Scalar.select v34 v35 v29
  let c0_i32_33 : BitVec 32 := 0#32
  let c0_i32_34 : BitVec 32 := 0#32
  ![v36.toNat, 0, 0]
def k0_off8 (i : grid0.Coords) (k0_t1 : Fin k0_t1_loop.trips) : Fin 2 → Nat :=
  let arg0 : BitVec 32 := BitVec.ofNat 32 (i 0).val
  let c1024_i32 : BitVec 32 := 1024#32
  let v41 : BitVec 32 := Scalar.muli arg0 c1024_i32
  let c0_i32_22 : BitVec 32 := 0#32
  let c1_i32 : BitVec 32 := 1#32
  let arg15 : BitVec 32 := Scf.iv c0_i32_22 c1_i32 k0_t1
  let c128_i32 : BitVec 32 := 128#32
  let v42 : BitVec 32 := Scalar.muli arg15 c128_i32
  let v43 : BitVec 32 := Scalar.addi v41 v42
  let c0_i32_35 : BitVec 32 := 0#32
  ![v43.toNat, 0]
def k0_off9 (k0_t1 : Fin k0_t1_loop.trips) : Fin 2 → Nat :=
  let c0_i32_22 : BitVec 32 := 0#32
  let c1_i32 : BitVec 32 := 1#32
  let arg15 : BitVec 32 := Scf.iv c0_i32_22 c1_i32 k0_t1
  let c2_i32 : BitVec 32 := 2#32
  let c0_i32_24 : BitVec 32 := 0#32
  let v27 : BitVec 1 := Scalar.cmpi .eq c2_i32 c0_i32_24
  let c1_i32_25 : BitVec 32 := 1#32
  let v28 : BitVec 32 := Scalar.select v27 c1_i32_25 c2_i32
  let v29 : BitVec 32 := Scalar.remsi arg15 v28
  let c0_i32_27 : BitVec 32 := 0#32
  let v31 : BitVec 1 := Scalar.cmpi .slt v29 c0_i32_27
  let c0_i32_28 : BitVec 32 := 0#32
  let v32 : BitVec 1 := Scalar.cmpi .slt v28 c0_i32_28
  let v33 : BitVec 1 := Scalar.xori v31 v32
  let c0_i32_26 : BitVec 32 := 0#32
  let v30 : BitVec 1 := Scalar.cmpi .ne v29 c0_i32_26
  let v34 : BitVec 1 := Scalar.andi v33 v30
  let v35 : BitVec 32 := Scalar.addi v29 v28
  let v36 : BitVec 32 := Scalar.select v34 v35 v29
  let c1_i32_36 : BitVec 32 := 1#32
  ![v36.toNat, 1]
def k0_mult1 (k0_t1 : Fin k0_t1_loop.trips) : BitVec 32 :=
  let c0_i32_22 : BitVec 32 := 0#32
  let c1_i32 : BitVec 32 := 1#32
  let arg15 : BitVec 32 := Scf.iv c0_i32_22 c1_i32 k0_t1
  let c128_i32_40 : BitVec 32 := 128#32
  let v54 : BitVec 32 := Scalar.muli arg15 c128_i32_40
  let c0_i32_41 : BitVec 32 := 0#32
  let v55 : BitVec 32 := Scalar.addi v54 c0_i32_41
  v55
def k0_off10 (k0_t1 : Fin k0_t1_loop.trips) : Fin 3 → Nat :=
  let c0_i32_22 : BitVec 32 := 0#32
  let c1_i32 : BitVec 32 := 1#32
  let arg15 : BitVec 32 := Scf.iv c0_i32_22 c1_i32 k0_t1
  let c2_i32 : BitVec 32 := 2#32
  let c0_i32_24 : BitVec 32 := 0#32
  let v27 : BitVec 1 := Scalar.cmpi .eq c2_i32 c0_i32_24
  let c1_i32_25 : BitVec 32 := 1#32
  let v28 : BitVec 32 := Scalar.select v27 c1_i32_25 c2_i32
  let v29 : BitVec 32 := Scalar.remsi arg15 v28
  let c0_i32_27 : BitVec 32 := 0#32
  let v31 : BitVec 1 := Scalar.cmpi .slt v29 c0_i32_27
  let c0_i32_28 : BitVec 32 := 0#32
  let v32 : BitVec 1 := Scalar.cmpi .slt v28 c0_i32_28
  let v33 : BitVec 1 := Scalar.xori v31 v32
  let c0_i32_26 : BitVec 32 := 0#32
  let v30 : BitVec 1 := Scalar.cmpi .ne v29 c0_i32_26
  let v34 : BitVec 1 := Scalar.andi v33 v30
  let v35 : BitVec 32 := Scalar.addi v29 v28
  let v36 : BitVec 32 := Scalar.select v34 v35 v29
  let v57 : Index := Scalar.indexCast v36
  let c0_42 : Index := 0#32
  let c0_43 : Index := 0#32
  ![v57.toNat, 0, 0]
def k0_off11 (k0_t1 : Fin k0_t1_loop.trips) (c0_i32_41 : BitVec 32) : Fin 2 → Nat :=
  let c0_i32_22 : BitVec 32 := 0#32
  let c1_i32 : BitVec 32 := 1#32
  let arg15 : BitVec 32 := Scf.iv c0_i32_22 c1_i32 k0_t1
  let c128_i32_40 : BitVec 32 := 128#32
  let v54 : BitVec 32 := Scalar.muli arg15 c128_i32_40
  let v55 : BitVec 32 := Scalar.addi v54 c0_i32_41
  let v56 : BitVec 32 := v55
  let v61 : Index := Scalar.indexCast v56
  let c0_46 : Index := 0#32
  ![v61.toNat, 0]
def k0_mult2 (k0_t1 : Fin k0_t1_loop.trips) : BitVec 32 :=
  let c0_i32_22 : BitVec 32 := 0#32
  let c1_i32 : BitVec 32 := 1#32
  let arg15 : BitVec 32 := Scf.iv c0_i32_22 c1_i32 k0_t1
  let c128_i32_62 : BitVec 32 := 128#32
  let v104 : BitVec 32 := Scalar.muli arg15 c128_i32_62
  let c64_i32 : BitVec 32 := 64#32
  let v105 : BitVec 32 := Scalar.addi v104 c64_i32
  v105
def k0_off12 (k0_t1 : Fin k0_t1_loop.trips) : Fin 3 → Nat :=
  let c0_i32_22 : BitVec 32 := 0#32
  let c1_i32 : BitVec 32 := 1#32
  let arg15 : BitVec 32 := Scf.iv c0_i32_22 c1_i32 k0_t1
  let c2_i32 : BitVec 32 := 2#32
  let c0_i32_24 : BitVec 32 := 0#32
  let v27 : BitVec 1 := Scalar.cmpi .eq c2_i32 c0_i32_24
  let c1_i32_25 : BitVec 32 := 1#32
  let v28 : BitVec 32 := Scalar.select v27 c1_i32_25 c2_i32
  let v29 : BitVec 32 := Scalar.remsi arg15 v28
  let c0_i32_27 : BitVec 32 := 0#32
  let v31 : BitVec 1 := Scalar.cmpi .slt v29 c0_i32_27
  let c0_i32_28 : BitVec 32 := 0#32
  let v32 : BitVec 1 := Scalar.cmpi .slt v28 c0_i32_28
  let v33 : BitVec 1 := Scalar.xori v31 v32
  let c0_i32_26 : BitVec 32 := 0#32
  let v30 : BitVec 1 := Scalar.cmpi .ne v29 c0_i32_26
  let v34 : BitVec 1 := Scalar.andi v33 v30
  let v35 : BitVec 32 := Scalar.addi v29 v28
  let v36 : BitVec 32 := Scalar.select v34 v35 v29
  let v107 : Index := Scalar.indexCast v36
  let c64 : Index := 64#32
  let c0_63 : Index := 0#32
  ![v107.toNat, 64, 0]
def k0_cond4 (i : grid0.Coords) : BitVec 1 :=
  let arg0 : BitVec 32 := BitVec.ofNat 32 (i 0).val
  let c0_i32_20 : BitVec 32 := 0#32
  let v23 : BitVec 1 := Scalar.cmpi .eq arg0 c0_i32_20
  let v24 : BitVec 32 := Scalar.extui v23
  let c0_i32_21 : BitVec 32 := 0#32
  let v25 : BitVec 1 := Scalar.cmpi .ne v24 c0_i32_21
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== RmsFfnRefIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S2048 : Shape := ⟨1, ![2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .bf16⟩
  | .hbm, ⟨3, _⟩ => ⟨S5632x2048, .bf16⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S5632x2048, .f32⟩
  | .hbm, ⟨8, _⟩ => ⟨S5632x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S2048x5632, .f32⟩
  | .hbm, ⟨29, _⟩ => ⟨S8192x5632, .f32⟩
  | .hbm, ⟨30, _⟩ => ⟨S2048x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== RmsIn.lean ====
abbrev S8192x5120 : Shape := ⟨2, ![8192, 5120]⟩
abbrev S5120x2048 : Shape := ⟨2, ![5120, 2048]⟩
abbrev S8192x2048 : Shape := ⟨2, ![8192, 2048]⟩
abbrev S1x2048 : Shape := ⟨2, ![1, 2048]⟩
abbrev S1024x1024 : Shape := ⟨2, ![1024, 1024]⟩
abbrev S1024x2048 : Shape := ⟨2, ![1024, 2048]⟩
abbrev S2x128x2048 : Shape := ⟨3, ![2, 128, 2048]⟩
abbrev S2x2 : Shape := ⟨2, ![2, 2]⟩
abbrev S1x1 : Shape := ⟨2, ![1, 1]⟩
abbrev S_ : Shape := ⟨0, ![]⟩
abbrev S1x128x2048 : Shape := ⟨3, ![1, 128, 2048]⟩
abbrev S128x2048 : Shape := ⟨2, ![128, 2048]⟩
abbrev S1x64x2048 : Shape := ⟨3, ![1, 64, 2048]⟩
abbrev S64x2048 : Shape := ⟨2, ![64, 2048]⟩
abbrev S64 : Shape := ⟨1, ![64]⟩
abbrev S64x1 : Shape := ⟨2, ![64, 1]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S8192x5120, .bf16⟩
  | .hbm, ⟨1, _⟩ => ⟨S5120x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .bf16⟩
  | .local _ .vmem, ⟨8, _⟩ => ⟨S1024x2048, .bf16⟩
  | .local _ .vmem, ⟨9, _⟩ => ⟨S1x2048, .f32⟩
  | .local _ .vmem, ⟨10, _⟩ => ⟨S2x128x2048, .f32⟩
  | .local _ .vmem, ⟨11, _⟩ => ⟨S2x128x2048, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v3 : BitVec 1 := Scalar.cmpi .eq arg1 c4_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c1024_i32 : BitVec 32 := 1024#32
  let v16 : BitVec 32 := Scalar.muli arg0 c1024_i32
  let c0_i32_11 : BitVec 32 := 0#32
  let v17 : BitVec 32 := Scalar.addi v16 c0_i32_11
  let c0_i32_17 : BitVec 32 := 0#32
  ![v17.toNat, 0]
def k0_cond3 (i : grid0.Coords) : BitVec 1 :=
  let arg1 : BitVec 32 := BitVec.ofNat 32 (i 1).val
  let c4_i32_9 : BitVec 32 := 4#32
  let v13 : BitVec 1 := Scalar.cmpi .eq arg1 c4_i32_9
  let v14 : BitVec 32 := Scalar.extui v13
  let c0_i32_10 : BitVec 32 := 0#32
  let v15 : BitVec 1 := Scalar.cmpi .ne v14 c0_i32_10
  v15

@[reducible] def k0_t1_loop : Scf.Loop 32 :=
  let c0_i32_13 : BitVec 32 := 0#32
  let c8_i32 : BitVec 32 := 8#32
  let v19 : BitVec 32 := Scalar.addi c0_i32_13 c8_i32
  let c1_i32 : BitVec 32 := 1#32
  ⟨c0_i32_13, v19, c1_i32⟩
def k0_cond5 (k0_t1 : Fin k0_t1_loop.trips) : BitVec 1 :=
  let c0_i32_13 : BitVec 32 := 0#32
  let c1_i32 : BitVec 32 := 1#32
  let arg13 : BitVec 32 := Scf.iv c0_i32_13 c1_i32 k0_t1
  let c1_i32_20 : BitVec 32 := 1#32
  let v30 : BitVec 32 := Scalar.addi arg13 c1_i32_20
  let c8_i32_21 : BitVec 32 := 8#32
  let v31 : BitVec 1 := Scalar.cmpi .slt v30 c8_i32_21
  let v32 : BitVec 32 := Scalar.extui v31
  let c0_i32_22 : BitVec 32 := 0#32
  let v33 : BitVec 1 := Scalar.cmpi .ne v32 c0_i32_22
  v33

def k0_off2 (k0_t1 : Fin k0_t1_loop.trips) : Fin 2 → Nat :=
  let c1_i32_74 : BitVec 32 := 1#32
  let c0_i32_13 : BitVec 32 := 0#32
  let c1_i32 : BitVec 32 := 1#32
  let arg13 : BitVec 32 := Scf.iv c0_i32_13 c1_i32 k0_t1
  let c2_i32 : BitVec 32 := 2#32
  let c0_i32_15 : BitVec 32 := 0#32
  let v20 : BitVec 1 := Scalar.cmpi .eq c2_i32 c0_i32_15
  let c1_i32_16 : BitVec 32 := 1#32
  let v21 : BitVec 32 := Scalar.select v20 c1_i32_16 c2_i32
  let v22 : BitVec 32 := Scalar.remsi arg13 v21
  let c0_i32_18 : BitVec 32 := 0#32
  let v24 : BitVec 1 := Scalar.cmpi .slt v22 c0_i32_18
  let c0_i32_19 : BitVec 32 := 0#32
  let v25 : BitVec 1 := Scalar.cmpi .slt v21 c0_i32_19
  let v26 : BitVec 1 := Scalar.xori v24 v25
  let c0_i32_17 : BitVec 32 := 0#32
  let v23 : BitVec 1 := Scalar.cmpi .ne v22 c0_i32_17
  let v27 : BitVec 1 := Scalar.andi v26 v23
  let v28 : BitVec 32 := Scalar.addi v22 v21
  let v29 : BitVec 32 := Scalar.select v27 v28 v22
  let v148 : BitVec 32 := Scalar.subi c1_i32_74 v29
  let c0_i32_77 : BitVec 32 := 0#32
  ![v148.toNat, 0]
def k0_off3 (k0_t1 : Fin k0_t1_loop.trips) : Fin 3 → Nat :=
  let c1_i32_74 : BitVec 32 := 1#32
  let c0_i32_13 : BitVec 32 := 0#32
  let c1_i32 : BitVec 32 := 1#32
  let arg13 : BitVec 32 := Scf.iv c0_i32_13 c1_i32 k0_t1
  let c2_i32 : BitVec 32 := 2#32
  let c0_i32_15 : BitVec 32 := 0#32
  let v20 : BitVec 1 := Scalar.cmpi .eq c2_i32 c0_i32_15
  let c1_i32_16 : BitVec 32 := 1#32
  let v21 : BitVec 32 := Scalar.select v20 c1_i32_16 c2_i32
  let v22 : BitVec 32 := Scalar.remsi arg13 v21
  let c0_i32_18 : BitVec 32 := 0#32
  let v24 : BitVec 1 := Scalar.cmpi .slt v22 c0_i32_18
  let c0_i32_19 : BitVec 32 := 0#32
  let v25 : BitVec 1 := Scalar.cmpi .slt v21 c0_i32_19
  let v26 : BitVec 1 := Scalar.xori v24 v25
  let c0_i32_17 : BitVec 32 := 0#32
  let v23 : BitVec 1 := Scalar.cmpi .ne v22 c0_i32_17
  let v27 : BitVec 1 := Scalar.andi v26 v23
  let v28 : BitVec 32 := Scalar.addi v22 v21
  let v29 : BitVec 32 := Scalar.select v27 v28 v22
  let v148 : BitVec 32 := Scalar.subi c1_i32_74 v29
  let c0_i32_78 : BitVec 32 := 0#32
  let c0_i32_79 : BitVec 32 := 0#32
  ![v148.toNat, 0, 0]
def k0_off4 (i : grid0.Coords) (k0_t1 : Fin k0_t1_loop.trips) : Fin 2 → Nat :=
  let arg0 : BitVec 32 := BitVec.ofNat 32 (i 0).val
  let c1024_i32_75 : BitVec 32 := 1024#32
  let v149 : BitVec 32 := Scalar.muli arg0 c1024_i32_75
  let c0_i32_13 : BitVec 32 := 0#32
  let c1_i32 : BitVec 32 := 1#32
  let arg13 : BitVec 32 := Scf.iv c0_i32_13 c1_i32 k0_t1
  let c1_i32_73 : BitVec 32 := 1#32
  let v147 : BitVec 32 := Scalar.addi arg13 c1_i32_73
  let c128_i32_76 : BitVec 32 := 128#32
  let v150 : BitVec 32 := Scalar.muli v147 c128_i32_76
  let v151 : BitVec 32 := Scalar.addi v149 v150
  let c0_i32_80 : BitVec 32 := 0#32
  ![v151.toNat, 0]
def k0_off5 (k0_t1 : Fin k0_t1_loop.trips) : Fin 2 → Nat :=
  let c1_i32_74 : BitVec 32 := 1#32
  let c0_i32_13 : BitVec 32 := 0#32
  let c1_i32 : BitVec 32 := 1#32
  let arg13 : BitVec 32 := Scf.iv c0_i32_13 c1_i32 k0_t1
  let c2_i32 : BitVec 32 := 2#32
  let c0_i32_15 : BitVec 32 := 0#32
  let v20 : BitVec 1 := Scalar.cmpi .eq c2_i32 c0_i32_15
  let c1_i32_16 : BitVec 32 := 1#32
  let v21 : BitVec 32 := Scalar.select v20 c1_i32_16 c2_i32
  let v22 : BitVec 32 := Scalar.remsi arg13 v21
  let c0_i32_18 : BitVec 32 := 0#32
  let v24 : BitVec 1 := Scalar.cmpi .slt v22 c0_i32_18
  let c0_i32_19 : BitVec 32 := 0#32
  let v25 : BitVec 1 := Scalar.cmpi .slt v21 c0_i32_19
  let v26 : BitVec 1 := Scalar.xori v24 v25
  let c0_i32_17 : BitVec 32 := 0#32
  let v23 : BitVec 1 := Scalar.cmpi .ne v22 c0_i32_17
  let v27 : BitVec 1 := Scalar.andi v26 v23
  let v28 : BitVec 32 := Scalar.addi v22 v21
  let v29 : BitVec 32 := Scalar.select v27 v28 v22
  let v148 : BitVec 32 := Scalar.subi c1_i32_74 v29
  let c1_i32_81 : BitVec 32 := 1#32
  ![v148.toNat, 1]
def k0_off6 (k0_t1 : Fin k0_t1_loop.trips) : Fin 2 → Nat :=
  let c0_i32_13 : BitVec 32 := 0#32
  let c1_i32 : BitVec 32 := 1#32
  let arg13 : BitVec 32 := Scf.iv c0_i32_13 c1_i32 k0_t1
  let c2_i32 : BitVec 32 := 2#32
  let c0_i32_15 : BitVec 32 := 0#32
  let v20 : BitVec 1 := Scalar.cmpi .eq c2_i32 c0_i32_15
  let c1_i32_16 : BitVec 32 := 1#32
  let v21 : BitVec 32 := Scalar.select v20 c1_i32_16 c2_i32
  let v22 : BitVec 32 := Scalar.remsi arg13 v21
  let c0_i32_18 : BitVec 32 := 0#32
  let v24 : BitVec 1 := Scalar.cmpi .slt v22 c0_i32_18
  let c0_i32_19 : BitVec 32 := 0#32
  let v25 : BitVec 1 := Scalar.cmpi .slt v21 c0_i32_19
  let v26 : BitVec 1 := Scalar.xori v24 v25
  let c0_i32_17 : BitVec 32 := 0#32
  let v23 : BitVec 1 := Scalar.cmpi .ne v22 c0_i32_17
  let v27 : BitVec 1 := Scalar.andi v26 v23
  let v28 : BitVec 32 := Scalar.addi v22 v21
  let v29 : BitVec 32 := Scalar.select v27 v28 v22
  let c0_i32_23 : BitVec 32 := 0#32
  ![v29.toNat, 0]
def k0_off7 (k0_t1 : Fin k0_t1_loop.trips) : Fin 3 → Nat :=
  let c0_i32_13 : BitVec 32 := 0#32
  let c1_i32 : BitVec 32 := 1#32
  let arg13 : BitVec 32 := Scf.iv c0_i32_13 c1_i32 k0_t1
  let c2_i32 : BitVec 32 := 2#32
  let c0_i32_15 : BitVec 32 := 0#32
  let v20 : BitVec 1 := Scalar.cmpi .eq c2_i32 c0_i32_15
  let c1_i32_16 : BitVec 32 := 1#32
  let v21 : BitVec 32 := Scalar.select v20 c1_i32_16 c2_i32
  let v22 : BitVec 32 := Scalar.remsi arg13 v21
  let c0_i32_18 : BitVec 32 := 0#32
  let v24 : BitVec 1 := Scalar.cmpi .slt v22 c0_i32_18
  let c0_i32_19 : BitVec 32 := 0#32
  let v25 : BitVec 1 := Scalar.cmpi .slt v21 c0_i32_19
  let v26 : BitVec 1 := Scalar.xori v24 v25
  let c0_i32_17 : BitVec 32 := 0#32
  let v23 : BitVec 1 := Scalar.cmpi .ne v22 c0_i32_17
  let v27 : BitVec 1 := Scalar.andi v26 v23
  let v28 : BitVec 32 := Scalar.addi v22 v21
  let v29 : BitVec 32 := Scalar.select v27 v28 v22
  let c0_i32_24 : BitVec 32 := 0#32
  let c0_i32_25 : BitVec 32 := 0#32
  ![v29.toNat, 0, 0]
def k0_off8 (i : grid0.Coords) (k0_t1 : Fin k0_t1_loop.trips) : Fin 2 → Nat :=
  let arg0 : BitVec 32 := BitVec.ofNat 32 (i 0).val
  let c1024_i32 : BitVec 32 := 1024#32
  let v34 : BitVec 32 := Scalar.muli arg0 c1024_i32
  let c0_i32_13 : BitVec 32 := 0#32
  let c1_i32 : BitVec 32 := 1#32
  let arg13 : BitVec 32 := Scf.iv c0_i32_13 c1_i32 k0_t1
  let c128_i32 : BitVec 32 := 128#32
  let v35 : BitVec 32 := Scalar.muli arg13 c128_i32
  let v36 : BitVec 32 := Scalar.addi v34 v35
  let c0_i32_26 : BitVec 32 := 0#32
  ![v36.toNat, 0]
def k0_off9 (k0_t1 : Fin k0_t1_loop.trips) : Fin 2 → Nat :=
  let c0_i32_13 : BitVec 32 := 0#32
  let c1_i32 : BitVec 32 := 1#32
  let arg13 : BitVec 32 := Scf.iv c0_i32_13 c1_i32 k0_t1
  let c2_i32 : BitVec 32 := 2#32
  let c0_i32_15 : BitVec 32 := 0#32
  let v20 : BitVec 1 := Scalar.cmpi .eq c2_i32 c0_i32_15
  let c1_i32_16 : BitVec 32 := 1#32
  let v21 : BitVec 32 := Scalar.select v20 c1_i32_16 c2_i32
  let v22 : BitVec 32 := Scalar.remsi arg13 v21
  let c0_i32_18 : BitVec 32 := 0#32
  let v24 : BitVec 1 := Scalar.cmpi .slt v22 c0_i32_18
  let c0_i32_19 : BitVec 32 := 0#32
  let v25 : BitVec 1 := Scalar.cmpi .slt v21 c0_i32_19
  let v26 : BitVec 1 := Scalar.xori v24 v25
  let c0_i32_17 : BitVec 32 := 0#32
  let v23 : BitVec 1 := Scalar.cmpi .ne v22 c0_i32_17
  let v27 : BitVec 1 := Scalar.andi v26 v23
  let v28 : BitVec 32 := Scalar.addi v22 v21
  let v29 : BitVec 32 := Scalar.select v27 v28 v22
  let c1_i32_27 : BitVec 32 := 1#32
  ![v29.toNat, 1]
def k0_mult1 (k0_t1 : Fin k0_t1_loop.trips) : BitVec 32 :=
  let c0_i32_13 : BitVec 32 := 0#32
  let c1_i32 : BitVec 32 := 1#32
  let arg13 : BitVec 32 := Scf.iv c0_i32_13 c1_i32 k0_t1
  let c128_i32_31 : BitVec 32 := 128#32
  let v47 : BitVec 32 := Scalar.muli arg13 c128_i32_31
  let c0_i32_32 : BitVec 32 := 0#32
  let v48 : BitVec 32 := Scalar.addi v47 c0_i32_32
  v48
def k0_off10 (k0_t1 : Fin k0_t1_loop.trips) : Fin 3 → Nat :=
  let c0_i32_13 : BitVec 32 := 0#32
  let c1_i32 : BitVec 32 := 1#32
  let arg13 : BitVec 32 := Scf.iv c0_i32_13 c1_i32 k0_t1
  let c2_i32 : BitVec 32 := 2#32
  let c0_i32_15 : BitVec 32 := 0#32
  let v20 : BitVec 1 := Scalar.cmpi .eq c2_i32 c0_i32_15
  let c1_i32_16 : BitVec 32 := 1#32
  let v21 : BitVec 32 := Scalar.select v20 c1_i32_16 c2_i32
  let v22 : BitVec 32 := Scalar.remsi arg13 v21
  let c0_i32_18 : BitVec 32 := 0#32
  let v24 : BitVec 1 := Scalar.cmpi .slt v22 c0_i32_18
  let c0_i32_19 : BitVec 32 := 0#32
  let v25 : BitVec 1 := Scalar.cmpi .slt v21 c0_i32_19
  let v26 : BitVec 1 := Scalar.xori v24 v25
  let c0_i32_17 : BitVec 32 := 0#32
  let v23 : BitVec 1 := Scalar.cmpi .ne v22 c0_i32_17
  let v27 : BitVec 1 := Scalar.andi v26 v23
  let v28 : BitVec 32 := Scalar.addi v22 v21
  let v29 : BitVec 32 := Scalar.select v27 v28 v22
  let v50 : Index := Scalar.indexCast v29
  let c0_33 : Index := 0#32
  let c0_34 : Index := 0#32
  ![v50.toNat, 0, 0]
def k0_off11 (k0_t1 : Fin k0_t1_loop.trips) (c0_i32_32 : BitVec 32) : Fin 2 → Nat :=
  let c0_i32_13 : BitVec 32 := 0#32
  let c1_i32 : BitVec 32 := 1#32
  let arg13 : BitVec 32 := Scf.iv c0_i32_13 c1_i32 k0_t1
  let c128_i32_31 : BitVec 32 := 128#32
  let v47 : BitVec 32 := Scalar.muli arg13 c128_i32_31
  let v48 : BitVec 32 := Scalar.addi v47 c0_i32_32
  let v49 : BitVec 32 := v48
  let v54 : Index := Scalar.indexCast v49
  let c0_37 : Index := 0#32
  ![v54.toNat, 0]
def k0_mult2 (k0_t1 : Fin k0_t1_loop.trips) : BitVec 32 :=
  let c0_i32_13 : BitVec 32 := 0#32
  let c1_i32 : BitVec 32 := 1#32
  let arg13 : BitVec 32 := Scf.iv c0_i32_13 c1_i32 k0_t1
  let c128_i32_53 : BitVec 32 := 128#32
  let v97 : BitVec 32 := Scalar.muli arg13 c128_i32_53
  let c64_i32 : BitVec 32 := 64#32
  let v98 : BitVec 32 := Scalar.addi v97 c64_i32
  v98
def k0_off12 (k0_t1 : Fin k0_t1_loop.trips) : Fin 3 → Nat :=
  let c0_i32_13 : BitVec 32 := 0#32
  let c1_i32 : BitVec 32 := 1#32
  let arg13 : BitVec 32 := Scf.iv c0_i32_13 c1_i32 k0_t1
  let c2_i32 : BitVec 32 := 2#32
  let c0_i32_15 : BitVec 32 := 0#32
  let v20 : BitVec 1 := Scalar.cmpi .eq c2_i32 c0_i32_15
  let c1_i32_16 : BitVec 32 := 1#32
  let v21 : BitVec 32 := Scalar.select v20 c1_i32_16 c2_i32
  let v22 : BitVec 32 := Scalar.remsi arg13 v21
  let c0_i32_18 : BitVec 32 := 0#32
  let v24 : BitVec 1 := Scalar.cmpi .slt v22 c0_i32_18
  let c0_i32_19 : BitVec 32 := 0#32
  let v25 : BitVec 1 := Scalar.cmpi .slt v21 c0_i32_19
  let v26 : BitVec 1 := Scalar.xori v24 v25
  let c0_i32_17 : BitVec 32 := 0#32
  let v23 : BitVec 1 := Scalar.cmpi .ne v22 c0_i32_17
  let v27 : BitVec 1 := Scalar.andi v26 v23
  let v28 : BitVec 32 := Scalar.addi v22 v21
  let v29 : BitVec 32 := Scalar.select v27 v28 v22
  let v100 : Index := Scalar.indexCast v29
  let c64 : Index := 64#32
  let c0_54 : Index := 0#32
  ![v100.toNat, 64, 0]
def k0_cond4 (i : grid0.Coords) : BitVec 1 :=
  let arg0 : BitVec 32 := BitVec.ofNat 32 (i 0).val
  let c0_i32_11 : BitVec 32 := 0#32
  let v16 : BitVec 1 := Scalar.cmpi .eq arg0 c0_i32_11
  let v17 : BitVec 32 := Scalar.extui v16
  let c0_i32_12 : BitVec 32 := 0#32
  let v18 : BitVec 1 := Scalar.cmpi .ne v17 c0_i32_12
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== RmsInRefIdeal.lean ====
abbrev S8192x5120 : Shape := ⟨2, ![8192, 5120]⟩
abbrev S5120x2048 : Shape := ⟨2, ![5120, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048x5120 : Shape := ⟨2, ![2048, 5120]⟩
abbrev S2048 : Shape := ⟨1, ![2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S5120x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S5120x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S2048x5120, .f32⟩
  | .hbm, ⟨26, _⟩ => ⟨S8192x5120, .f32⟩
  | .hbm, ⟨27, _⟩ => ⟨S8192x5120, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S8192x2048, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== NormProj.lean ====
abbrev S8192x2048 : Shape := ⟨2, ![8192, 2048]⟩
abbrev S1x2048 : Shape := ⟨2, ![1, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S5632x2048, .bf16⟩
  | .hbm, ⟨3, _⟩ => ⟨S5632x2048, .bf16⟩
  | .hbm, ⟨4, _⟩ => ⟨S8192x2048, .bf16⟩
  | .hbm, ⟨5, _⟩ => ⟨S8192x5632, .bf16⟩
  | .hbm, ⟨6, _⟩ => ⟨S8192x5632, .bf16⟩
  | .hbm, ⟨7, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c8_i32 : BitVec 32 := 8#32
  let v23 : BitVec 32 := Scalar.addi c0_i32_16 c8_i32
  let c1_i32 : BitVec 32 := 1#32
  ⟨c0_i32_16, v23, c1_i32⟩
def k0_mult1 (k0_t1 : Fin k0_t1_loop.trips) : BitVec 32 :=
  let c0_i32_16 : BitVec 32 := 0#32
  let c1_i32 : BitVec 32 := 1#32
  let arg11 : BitVec 32 := Scf.iv c0_i32_16 c1_i32 k0_t1
  let c128_i32 : BitVec 32 := 128#32
  let v24 : BitVec 32 := Scalar.muli arg11 c128_i32
  v24
def k0_off1 (k0_t1 : Fin k0_t1_loop.trips) : Fin 2 → Nat :=
  let c0_i32_16 : BitVec 32 := 0#32
  let c1_i32 : BitVec 32 := 1#32
  let arg11 : BitVec 32 := Scf.iv c0_i32_16 c1_i32 k0_t1
  let c128_i32 : BitVec 32 := 128#32
  let v24 : BitVec 32 := Scalar.muli arg11 c128_i32
  let v25 : BitVec 32 := v24
  let v26 : Index := Scalar.indexCast v25
  let c0_18 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== NormProjRefIdeal.lean ====
abbrev S8192x2048 : Shape := ⟨2, ![8192, 2048]⟩
abbrev S1x2048 : Shape := ⟨2, ![1, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S8192x5632 : Shape := ⟨2, ![8192, 5632]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S5632x2048, .bf16⟩
  | .hbm, ⟨3, _⟩ => ⟨S5632x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S5632x2048, .f32⟩
  | .hbm, ⟨20, _⟩ => ⟨S2048x5632, .f32⟩
  | .hbm, ⟨21, _⟩ => ⟨S8192x5632, .f32⟩
  | .hbm, ⟨22, _⟩ => ⟨S5632x2048, .f32⟩
  | .hbm, ⟨23, _⟩ => ⟨S2048x5632, .f32⟩
  | .hbm, ⟨24, _⟩ => ⟨S8192x5632, .f32⟩
  | .hbm, ⟨25, _⟩ => ⟨S8192x2048, .bf16⟩
  | .hbm, ⟨26, _⟩ => ⟨S8192x5632, .bf16⟩
  | .hbm, ⟨27, _⟩ => ⟨S8192x5632, .bf16⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== UpAct.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpActRefIdeal.lean ====
abbrev S8192x2048 : Shape := ⟨2, ![8192, 2048]⟩
abbrev S5632x2048 : Shape := ⟨2, ![5632, 2048]⟩
abbrev S8192x5632 : Shape := ⟨2, ![8192, 5632]⟩
abbrev S2048x5632 : Shape := ⟨2, ![2048, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x2048, .f32⟩
  | .hbm, ⟨4, _⟩ => ⟨S5632x2048, .f32⟩
  | .hbm, ⟨5, _⟩ => ⟨S2048x5632, .f32⟩
  | .hbm, ⟨6, _⟩ => ⟨S8192x5632, .f32⟩
  | .hbm, ⟨7, _⟩ => ⟨S8192x5632, .bf16⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== NormGate.lean ====
abbrev S8192x2048 : Shape := ⟨2, ![8192, 2048]⟩
abbrev S1x2048 : Shape := ⟨2, ![1, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S5632x2048, .bf16⟩
  | .hbm, ⟨3, _⟩ => ⟨S8192x2048, .bf16⟩
  | .hbm, ⟨4, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v8 : BitVec 32 := Scalar.addi c0_i32_6 c8_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg8 : BitVec 32 := Scf.iv c0_i32_6 c1_i32 k0_t1
  let c128_i32 : BitVec 32 := 128#32
  let v9 : BitVec 32 := Scalar.muli arg8 c128_i32
  v9
def k0_off1 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c128_i32 : BitVec 32 := 128#32
  let v9 : BitVec 32 := Scalar.muli arg8 c128_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormGateRefIdeal.lean ====
abbrev S8192x2048 : Shape := ⟨2, ![8192, 2048]⟩
abbrev S1x2048 : Shape := ⟨2, ![1, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S8192x5632 : Shape := ⟨2, ![8192, 5632]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S5632x2048, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S5632x2048, .f32⟩
  | .hbm, ⟨20, _⟩ => ⟨S2048x5632, .f32⟩
  | .hbm, ⟨21, _⟩ => ⟨S8192x5632, .f32⟩
  | .hbm, ⟨22, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== InProj.lean ====
abbrev S8192x2048 : Shape := ⟨2, ![8192, 2048]⟩
abbrev S1x2048 : Shape := ⟨2, ![1, 2048]⟩
abbrev S5120x2048 : Shape := ⟨2, ![5120, 2048]⟩
abbrev S8192x5120 : Shape := ⟨2, ![8192, 5120]⟩
abbrev S1024x2048 : Shape := ⟨2, ![1024, 2048]⟩
abbrev S1024x1024 : Shape := ⟨2, ![1024, 1024]⟩
abbrev S128x2048 : Shape := ⟨2, ![128, 2048]⟩
abbrev S128 : Shape := ⟨1, ![128]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S5120x2048, .bf16⟩
  | .hbm, ⟨3, _⟩ => ⟨S8192x2048, .bf16⟩
  | .hbm, ⟨4, _⟩ => ⟨S8192x5120, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v7 : BitVec 32 := Scalar.addi c0_i32_6 c8_i32
  let c1_i32 : BitVec 32 := 1#32
  ⟨c0_i32_6, v7, c1_i32⟩
def k0_mult1 (k0_t1 : Fin k0_t1_loop.trips) : BitVec 32 :=
  let c0_i32_6 : BitVec 32 := 0#32
  let c1_i32 : BitVec 32 := 1#32
  let arg8 : BitVec 32 := Scf.iv c0_i32_6 c1_i32 k0_t1
  let c128_i32 : BitVec 32 := 128#32
  let v8 : BitVec 32 := Scalar.muli arg8 c128_i32
  v8
def k0_off1 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c128_i32 : BitVec 32 := 128#32
  let v8 : BitVec 32 := Scalar.muli arg8 c128_i32
  let v9 : BitVec 32 := v8
  let v10 : Index := Scalar.indexCast v9
  let c0_8 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S8192x2048 : Shape := ⟨2, ![8192, 2048]⟩
abbrev S1x2048 : Shape := ⟨2, ![1, 2048]⟩
abbrev S5120x2048 : Shape := ⟨2, ![5120, 2048]⟩
abbrev S_ : Shape := ⟨0, ![]⟩
abbrev S8192 : Shape := ⟨1, ![8192]⟩
abbrev S8192x1 : Shape := ⟨2, ![8192, 1]⟩
abbrev S2048x5120 : Shape := ⟨2, ![2048, 5120]⟩
abbrev S8192x5120 : Shape := ⟨2, ![8192, 5120]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S5120x2048, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S5120x2048, .f32⟩
  | .hbm, ⟨20, _⟩ => ⟨S2048x5120, .f32⟩
  | .hbm, ⟨21, _⟩ => ⟨S8192x5120, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1024x1024 : Shape := ⟨2, ![1024, 1024]⟩
abbrev S1024x2048 : Shape := ⟨2, ![1024, 2048]⟩
abbrev S128x2048 : Shape := ⟨2, ![128, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_8 : BitVec 32 := 0#32
  let v12 : BitVec 1 := Scalar.cmpi .ne v11 c0_i32_8
  v12

@[reducible] def k0_t1_loop : Scf.Loop 32 :=
  let c0_i32_9 : BitVec 32 := 0#32
  let c8_i32 : BitVec 32 := 8#32
  let v13 : BitVec 32 := Scalar.addi c0_i32_9 c8_i32
  let c1_i32_10 : BitVec 32 := 1#32
  ⟨c0_i32_9, v13, c1_i32_10⟩
def k0_mult1 (k0_t1 : Fin k0_t1_loop.trips) : BitVec 32 :=
  let c0_i32_9 : BitVec 32 := 0#32
  let c1_i32_10 : BitVec 32 := 1#32
  let arg6 : BitVec 32 := Scf.iv c0_i32_9 c1_i32_10 k0_t1
  let c128_i32 : BitVec 32 := 128#32
  let v14 : BitVec 32 := Scalar.muli arg6 c128_i32
  v14
def k0_off1 (k0_t1 : Fin k0_t1_loop.trips) : Fin 2 → Nat :=
  let c0_i32_9 : BitVec 32 := 0#32
  let c1_i32_10 : BitVec 32 := 1#32
  let arg6 : BitVec 32 := Scf.iv c0_i32_9 c1_i32_10 k0_t1
  let c128_i32 : BitVec 32 := 128#32
  let v14 : BitVec 32 := Scalar.muli arg6 c128_i32
  let v15 : BitVec 32 := v14
  let v16 : Index := Scalar.indexCast v15
  let c0_12 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== OutProjRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamW.lean ====
abbrev S2048x640 : Shape := ⟨2, ![2048, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S2048x640 : Shape := ⟨2, ![2048, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S_, .f32⟩
  | .hbm, ⟨5, _⟩ => ⟨S2048x640, .f32⟩
  | .hbm, ⟨6, _⟩ => ⟨S2048x640, .f32⟩
  | .hbm, ⟨7, _⟩ => ⟨S_, .f32⟩
  | .hbm, ⟨8, _⟩ => ⟨S2048x640, .f32⟩
  | .hbm, ⟨9, _⟩ => ⟨S2048x640, .f32⟩
  | .hbm, ⟨10, _⟩ => ⟨S2048x640, .f32⟩
  | .hbm, ⟨11, _⟩ => ⟨S_, .f32⟩
  | .hbm, ⟨12, _⟩ => ⟨S2048x640, .f32⟩
  | .hbm, ⟨13, _⟩ => ⟨S2048x640, .f32⟩
  | .hbm, ⟨14, _⟩ => ⟨S2048x640, .f32⟩
  | .hbm, ⟨15, _⟩ => ⟨S_, .f32⟩
  | .hbm, ⟨16, _⟩ => ⟨S2048x640, .f32⟩
  | .hbm, ⟨17, _⟩ => ⟨S2048x640, .f32⟩
  | .hbm, ⟨18, _⟩ => ⟨S2048x640, .f32⟩
  | .hbm, ⟨19, _⟩ => ⟨S_, .f32⟩
  | .hbm, ⟨20, _⟩ => ⟨S2048x640, .f32⟩
  | .hbm, ⟨21, _⟩ => ⟨S2048x640, .f32⟩
  | .hbm, ⟨22, _⟩ => ⟨S_, .f32⟩
  | .hbm, ⟨23, _⟩ => ⟨S2048x640, .f32⟩
  | .hbm, ⟨24, _⟩ => ⟨S2048x640, .f32⟩
  | .hbm, ⟨25, _⟩ => ⟨S2048x640, .f32⟩
  | .hbm, ⟨26, _⟩ => ⟨S_, .f32⟩
  | .hbm, ⟨27, _⟩ => ⟨S2048x640, .f32⟩
  | .hbm, ⟨28, _⟩ => ⟨S2048x640, .f32⟩
  | .hbm, ⟨29, _⟩ => ⟨S2048x640, .f32⟩
  | .hbm, ⟨30, _⟩ => ⟨S_, .f32⟩
  | .hbm, ⟨31, _⟩ => ⟨S2048x640, .f32⟩
  | .hbm, ⟨32, _⟩ => ⟨S2048x640, .f32⟩
  | .hbm, ⟨33, _⟩ => ⟨S2048x640, .f32⟩
  | .hbm, ⟨34, _⟩ => ⟨S_, .f32⟩
  | .hbm, ⟨35, _⟩ => ⟨S2048x640, .f32⟩
  | .hbm, ⟨36, _⟩ => ⟨S2048x640, .f32⟩
  | _, _ => ⟨S2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumGate.lean ====
abbrev S4x2112x2048 : Shape := ⟨3, ![4, 2112, 2048]⟩
abbrev S3x2112x2048 : Shape := ⟨3, ![3, 2112, 2048]⟩
abbrev S1 : Shape := ⟨1, ![1]⟩
abbrev S704x2048 : Shape := ⟨2, ![704, 2048]⟩
abbrev S1x176x2048 : Shape := ⟨3, ![1, 176, 2048]⟩
abbrev S176x2048 : Shape := ⟨2, ![176, 2048]⟩

abbrev nBuf : Space → Nat
  | .hbm => 9
  | .vmem => 22
  | .smem => 1
  | _ => 0

abbrev bufTy : (tb : Table) → Fin (tcTables nBuf tb) → BufTy
  | .hbm, ⟨0, _⟩ => ⟨S4x2112x2048, .bf16⟩
  | .hbm, ⟨1, _⟩ => ⟨S3x2112x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S1x176x2048, .bf16⟩
  | .local _ .vmem, ⟨1, _⟩ => ⟨S1x176x2048, .bf16⟩
  | .local _ .vmem, ⟨2, _⟩ => ⟨S1x176x2048, .bf16⟩
  | .local _ .vmem, ⟨3, _⟩ => ⟨S1x176x2048, .bf16⟩
  | .local _ .vmem, ⟨4, _⟩ => ⟨S1x176x2048, .bf16⟩
  | .local _ .vmem, ⟨5, _⟩ => ⟨S1x176x2048, .bf16⟩
  | .local _ .vmem, ⟨6, _⟩ => ⟨S1x176x2048, .bf16⟩
  | .local _ .vmem, ⟨7, _⟩ => ⟨S1x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .vmem, ⟨18, _⟩ => ⟨S176x2048, .f32⟩
  | .local _ .vmem, ⟨19, _⟩ => ⟨S176x2048, .f32⟩
  | .local _ .vmem, ⟨20, _⟩ => ⟨S176x2048, .f32⟩
  | .local _ .vmem, ⟨21, _⟩ => ⟨S176x2048, .f32⟩
  | .local _ .smem, ⟨0, _⟩ => ⟨S1, .i32⟩
  | _, _ => ⟨S4x2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi c0_i32 arg0
  let c0_i32_0 : BitVec 32 := 0#32
  let c0_i32_1 : BitVec 32 := 0#32
  ![v0.toNat, v1.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, v0.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi c0_i32 arg0
  let c2_i32 : BitVec 32 := 2#32
  let c0_i32_0 : BitVec 32 := 0#32
  let c0_i32_1 : BitVec 32 := 0#32
  ![c2_i32.toNat, v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SumGateRefIdeal.lean ====
abbrev S4x2112x2048 : Shape := ⟨3, ![4, 2112, 2048]⟩
abbrev S3x2112x2048 : Shape := ⟨3, ![3, 2112, 2048]⟩
abbrev S1 : Shape := ⟨1, ![1]⟩
abbrev S704x2048 : Shape := ⟨2, ![704, 2048]⟩
abbrev S4 : Shape := ⟨1, ![4]⟩
abbrev S4x1x1 : Shape := ⟨3, ![4, 1, 1]⟩
abbrev S_ : Shape := ⟨0, ![]⟩
abbrev S2112x2048 : Shape := ⟨2, ![2112, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x2112x2048, .bf16⟩
  | .hbm, ⟨1, _⟩ => ⟨S3x2112x2048, .bf16⟩
  | .hbm, ⟨2, _⟩ => ⟨S1, .i32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x2112x2048, .f32⟩
  | .hbm, ⟨12, _⟩ => ⟨S_, .f32⟩
  | .hbm, ⟨13, _⟩ => ⟨S_, .f32⟩
  | .hbm, ⟨14, _⟩ => ⟨S4x2112x2048, .i1⟩
  | .hbm, ⟨15, _⟩ => ⟨S4x2112x2048, .f32⟩
  | .hbm, ⟨16, _⟩ => ⟨S4x2112x2048, .f32⟩
  | .hbm, ⟨17, _⟩ => ⟨S_, .f32⟩
  | .hbm, ⟨18, _⟩ => ⟨S2112x2048, .f32⟩
  | .hbm, ⟨19, _⟩ => ⟨S3x2112x2048, .f32⟩
  | .hbm, ⟨20, _⟩ => ⟨S_, .f32⟩
  | .hbm, ⟨21, _⟩ => ⟨S2112x2048, .f32⟩
  | .hbm, ⟨22, _⟩ => ⟨S2112x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S_, .f32⟩
  | .hbm, ⟨28, _⟩ => ⟨S704x2048, .f32⟩
  | .hbm, ⟨29, _⟩ => ⟨S704x2048, .f32⟩
  | .hbm, ⟨30, _⟩ => ⟨S704x2048, .f32⟩
  | .hbm, ⟨31, _⟩ => ⟨S_, .f32⟩
  | .hbm, ⟨32, _⟩ => ⟨S704x2048, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S_, .f32⟩
  | .hbm, ⟨43, _⟩ => ⟨S704x2048, .f32⟩
  | .hbm, ⟨44, _⟩ => ⟨S704x2048, .f32⟩
  | .hbm, ⟨45, _⟩ => ⟨S704x2048, .f32⟩
  | .hbm, ⟨46, _⟩ => ⟨S_, .f32⟩
  | .hbm, ⟨47, _⟩ => ⟨S704x2048, .f32⟩
  | .hbm, ⟨48, _⟩ => ⟨S704x2048, .f32⟩
  | .hbm, ⟨49, _⟩ => ⟨S704x2048, .f32⟩
  | .hbm, ⟨50, _⟩ => ⟨S_, .f32⟩
  | .hbm, ⟨51, _⟩ => ⟨S704x2048, .f32⟩
  | .hbm, ⟨52, _⟩ => ⟨S704x2048, .f32⟩
  | .hbm, ⟨53, _⟩ => ⟨S704x2048, .f32⟩
  | .hbm, ⟨54, _⟩ => ⟨S_, .f32⟩
  | .hbm, ⟨55, _⟩ => ⟨S704x2048, .f32⟩
  | .hbm, ⟨56, _⟩ => ⟨S704x2048, .f32⟩
  | _, _ => ⟨S4x2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== SumUp.lean ====
abbrev S4x2112x2048 : Shape := ⟨3, ![4, 2112, 2048]⟩
abbrev S3x2112x2048 : Shape := ⟨3, ![3, 2112, 2048]⟩
abbrev S1 : Shape := ⟨1, ![1]⟩
abbrev S704x2048 : Shape := ⟨2, ![704, 2048]⟩
abbrev S1x176x2048 : Shape := ⟨3, ![1, 176, 2048]⟩
abbrev S176x2048 : Shape := ⟨2, ![176, 2048]⟩

abbrev nBuf : Space → Nat
  | .hbm => 9
  | .vmem => 22
  | .smem => 1
  | _ => 0

abbrev bufTy : (tb : Table) → Fin (tcTables nBuf tb) → BufTy
  | .hbm, ⟨0, _⟩ => ⟨S4x2112x2048, .bf16⟩
  | .hbm, ⟨1, _⟩ => ⟨S3x2112x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S1x176x2048, .bf16⟩
  | .local _ .vmem, ⟨1, _⟩ => ⟨S1x176x2048, .bf16⟩
  | .local _ .vmem, ⟨2, _⟩ => ⟨S1x176x2048, .bf16⟩
  | .local _ .vmem, ⟨3, _⟩ => ⟨S1x176x2048, .bf16⟩
  | .local _ .vmem, ⟨4, _⟩ => ⟨S1x176x2048, .bf16⟩
  | .local _ .vmem, ⟨5, _⟩ => ⟨S1x176x2048, .bf16⟩
  | .local _ .vmem, ⟨6, _⟩ => ⟨S1x176x2048, .bf16⟩
  | .local _ .vmem, ⟨7, _⟩ => ⟨S1x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .vmem, ⟨18, _⟩ => ⟨S176x2048, .f32⟩
  | .local _ .vmem, ⟨19, _⟩ => ⟨S176x2048, .f32⟩
  | .local _ .vmem, ⟨20, _⟩ => ⟨S176x2048, .f32⟩
  | .local _ .vmem, ⟨21, _⟩ => ⟨S176x2048, .f32⟩
  | .local _ .smem, ⟨0, _⟩ => ⟨S1, .i32⟩
  | _, _ => ⟨S4x2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.addi c4_i32 arg0
  let c0_i32 : BitVec 32 := 0#32
  let c0_i32_0 : BitVec 32 := 0#32
  ![v0.toNat, v1.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.addi c4_i32 arg0
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.addi c4_i32 arg0
  let c2_i32 : BitVec 32 := 2#32
  let c0_i32 : BitVec 32 := 0#32
  let c0_i32_0 : BitVec 32 := 0#32
  ![c2_i32.toNat, v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SumUpRefIdeal.lean ====
abbrev S4x2112x2048 : Shape := ⟨3, ![4, 2112, 2048]⟩
abbrev S3x2112x2048 : Shape := ⟨3, ![3, 2112, 2048]⟩
abbrev S1 : Shape := ⟨1, ![1]⟩
abbrev S704x2048 : Shape := ⟨2, ![704, 2048]⟩
abbrev S4 : Shape := ⟨1, ![4]⟩
abbrev S4x1x1 : Shape := ⟨3, ![4, 1, 1]⟩
abbrev S_ : Shape := ⟨0, ![]⟩
abbrev S2112x2048 : Shape := ⟨2, ![2112, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x2112x2048, .bf16⟩
  | .hbm, ⟨1, _⟩ => ⟨S3x2112x2048, .bf16⟩
  | .hbm, ⟨2, _⟩ => ⟨S1, .i32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x2112x2048, .f32⟩
  | .hbm, ⟨12, _⟩ => ⟨S_, .f32⟩
  | .hbm, ⟨13, _⟩ => ⟨S_, .f32⟩
  | .hbm, ⟨14, _⟩ => ⟨S4x2112x2048, .i1⟩
  | .hbm, ⟨15, _⟩ => ⟨S4x2112x2048, .f32⟩
  | .hbm, ⟨16, _⟩ => ⟨S4x2112x2048, .f32⟩
  | .hbm, ⟨17, _⟩ => ⟨S_, .f32⟩
  | .hbm, ⟨18, _⟩ => ⟨S2112x2048, .f32⟩
  | .hbm, ⟨19, _⟩ => ⟨S3x2112x2048, .f32⟩
  | .hbm, ⟨20, _⟩ => ⟨S_, .f32⟩
  | .hbm, ⟨21, _⟩ => ⟨S2112x2048, .f32⟩
  | .hbm, ⟨22, _⟩ => ⟨S2112x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S_, .f32⟩
  | .hbm, ⟨28, _⟩ => ⟨S704x2048, .f32⟩
  | .hbm, ⟨29, _⟩ => ⟨S704x2048, .f32⟩
  | .hbm, ⟨30, _⟩ => ⟨S704x2048, .f32⟩
  | .hbm, ⟨31, _⟩ => ⟨S_, .f32⟩
  | .hbm, ⟨32, _⟩ => ⟨S704x2048, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S_, .f32⟩
  | .hbm, ⟨43, _⟩ => ⟨S704x2048, .f32⟩
  | .hbm, ⟨44, _⟩ => ⟨S704x2048, .f32⟩
  | .hbm, ⟨45, _⟩ => ⟨S704x2048, .f32⟩
  | .hbm, ⟨46, _⟩ => ⟨S_, .f32⟩
  | .hbm, ⟨47, _⟩ => ⟨S704x2048, .f32⟩
  | .hbm, ⟨48, _⟩ => ⟨S704x2048, .f32⟩
  | .hbm, ⟨49, _⟩ => ⟨S704x2048, .f32⟩
  | .hbm, ⟨50, _⟩ => ⟨S_, .f32⟩
  | .hbm, ⟨51, _⟩ => ⟨S704x2048, .f32⟩
  | .hbm, ⟨52, _⟩ => ⟨S704x2048, .f32⟩
  | .hbm, ⟨53, _⟩ => ⟨S704x2048, .f32⟩
  | .hbm, ⟨54, _⟩ => ⟨S_, .f32⟩
  | .hbm, ⟨55, _⟩ => ⟨S704x2048, .f32⟩
  | .hbm, ⟨56, _⟩ => ⟨S704x2048, .f32⟩
  | _, _ => ⟨S4x2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== SumDown.lean ====
abbrev S4x2112x2048 : Shape := ⟨3, ![4, 2112, 2048]⟩
abbrev S3x2112x2048 : Shape := ⟨3, ![3, 2112, 2048]⟩
abbrev S1 : Shape := ⟨1, ![1]⟩
abbrev S704x2048 : Shape := ⟨2, ![704, 2048]⟩
abbrev S1x176x2048 : Shape := ⟨3, ![1, 176, 2048]⟩
abbrev S176x2048 : Shape := ⟨2, ![176, 2048]⟩

abbrev nBuf : Space → Nat
  | .hbm => 9
  | .vmem => 22
  | .smem => 1
  | _ => 0

abbrev bufTy : (tb : Table) → Fin (tcTables nBuf tb) → BufTy
  | .hbm, ⟨0, _⟩ => ⟨S4x2112x2048, .bf16⟩
  | .hbm, ⟨1, _⟩ => ⟨S3x2112x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S1x176x2048, .bf16⟩
  | .local _ .vmem, ⟨1, _⟩ => ⟨S1x176x2048, .bf16⟩
  | .local _ .vmem, ⟨2, _⟩ => ⟨S1x176x2048, .bf16⟩
  | .local _ .vmem, ⟨3, _⟩ => ⟨S1x176x2048, .bf16⟩
  | .local _ .vmem, ⟨4, _⟩ => ⟨S1x176x2048, .bf16⟩
  | .local _ .vmem, ⟨5, _⟩ => ⟨S1x176x2048, .bf16⟩
  | .local _ .vmem, ⟨6, _⟩ => ⟨S1x176x2048, .bf16⟩
  | .local _ .vmem, ⟨7, _⟩ => ⟨S1x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .vmem, ⟨18, _⟩ => ⟨S176x2048, .f32⟩
  | .local _ .vmem, ⟨19, _⟩ => ⟨S176x2048, .f32⟩
  | .local _ .vmem, ⟨20, _⟩ => ⟨S176x2048, .f32⟩
  | .local _ .vmem, ⟨21, _⟩ => ⟨S176x2048, .f32⟩
  | .local _ .smem, ⟨0, _⟩ => ⟨S1, .i32⟩
  | _, _ => ⟨S4x2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.addi c8_i32 arg0
  let c0_i32 : BitVec 32 := 0#32
  let c0_i32_0 : BitVec 32 := 0#32
  ![v0.toNat, v1.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.addi c8_i32 arg0
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.addi c8_i32 arg0
  let c2_i32 : BitVec 32 := 2#32
  let c0_i32 : BitVec 32 := 0#32
  let c0_i32_0 : BitVec 32 := 0#32
  ![c2_i32.toNat, v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SumDownRefIdeal.lean ====
abbrev S4x2112x2048 : Shape := ⟨3, ![4, 2112, 2048]⟩
abbrev S3x2112x2048 : Shape := ⟨3, ![3, 2112, 2048]⟩
abbrev S1 : Shape := ⟨1, ![1]⟩
abbrev S704x2048 : Shape := ⟨2, ![704, 2048]⟩
abbrev S4 : Shape := ⟨1, ![4]⟩
abbrev S4x1x1 : Shape := ⟨3, ![4, 1, 1]⟩
abbrev S_ : Shape := ⟨0, ![]⟩
abbrev S2112x2048 : Shape := ⟨2, ![2112, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x2112x2048, .bf16⟩
  | .hbm, ⟨1, _⟩ => ⟨S3x2112x2048, .bf16⟩
  | .hbm, ⟨2, _⟩ => ⟨S1, .i32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x2112x2048, .f32⟩
  | .hbm, ⟨12, _⟩ => ⟨S_, .f32⟩
  | .hbm, ⟨13, _⟩ => ⟨S_, .f32⟩
  | .hbm, ⟨14, _⟩ => ⟨S4x2112x2048, .i1⟩
  | .hbm, ⟨15, _⟩ => ⟨S4x2112x2048, .f32⟩
  | .hbm, ⟨16, _⟩ => ⟨S4x2112x2048, .f32⟩
  | .hbm, ⟨17, _⟩ => ⟨S_, .f32⟩
  | .hbm, ⟨18, _⟩ => ⟨S2112x2048, .f32⟩
  | .hbm, ⟨19, _⟩ => ⟨S3x2112x2048, .f32⟩
  | .hbm, ⟨20, _⟩ => ⟨S_, .f32⟩
  | .hbm, ⟨21, _⟩ => ⟨S2112x2048, .f32⟩
  | .hbm, ⟨22, _⟩ => ⟨S2112x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S_, .f32⟩
  | .hbm, ⟨28, _⟩ => ⟨S704x2048, .f32⟩
  | .hbm, ⟨29, _⟩ => ⟨S704x2048, .f32⟩
  | .hbm, ⟨30, _⟩ => ⟨S704x2048, .f32⟩
  | .hbm, ⟨31, _⟩ => ⟨S_, .f32⟩
  | .hbm, ⟨32, _⟩ => ⟨S704x2048, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S_, .f32⟩
  | .hbm, ⟨43, _⟩ => ⟨S704x2048, .f32⟩
  | .hbm, ⟨44, _⟩ => ⟨S704x2048, .f32⟩
  | .hbm, ⟨45, _⟩ => ⟨S704x2048, .f32⟩
  | .hbm, ⟨46, _⟩ => ⟨S_, .f32⟩
  | .hbm, ⟨47, _⟩ => ⟨S704x2048, .f32⟩
  | .hbm, ⟨48, _⟩ => ⟨S704x2048, .f32⟩
  | .hbm, ⟨49, _⟩ => ⟨S704x2048, .f32⟩
  | .hbm, ⟨50, _⟩ => ⟨S_, .f32⟩
  | .hbm, ⟨51, _⟩ => ⟨S704x2048, .f32⟩
  | .hbm, ⟨52, _⟩ => ⟨S704x2048, .f32⟩
  | .hbm, ⟨53, _⟩ => ⟨S704x2048, .f32⟩
  | .hbm, ⟨54, _⟩ => ⟨S_, .f32⟩
  | .hbm, ⟨55, _⟩ => ⟨S704x2048, .f32⟩
  | .hbm, ⟨56, _⟩ => ⟨S704x2048, .f32⟩
  | _, _ => ⟨S4x2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Proof.RealMath.lean ====
/-
  Facts of extended-real arithmetic that the value claims share: the finite elements are the reals, a finite sum
  of finite elements is finite, and the two spellings of the logistic function (through the hyperbolic tangent
  and through the exponential) are one function.
-/
module

public import Idealize.ShloMosaic.PureOps.Ideal
public import Idealize.ShloMosaic.Lib.ReduceAll
public import Idealize.ShloMosaic.Lib.Pointwise

@[expose] public section

noncomputable section

namespace Cert.Proof.RealMath

open Idealize.ShloMosaic
open scoped BigOperators

/-- An extended real that is a real number. -/
def Fin' (x : EReal) : Prop := ∃ r : ℝ, x = (r : EReal)

theorem Fin'.of_ne {x : EReal} (h1 : x ≠ ⊤) (h2 : x ≠ ⊥) : Fin' x := by
  induction x using EReal.rec with
  | bot => exact absurd rfl h2
  | top => exact absurd rfl h1
  | coe r => exact ⟨r, rfl⟩

theorem Fin'.mul {x y : EReal} : Fin' x → Fin' y → Fin' (x * y) := by
  rintro ⟨a, rfl⟩ ⟨b, rfl⟩; exact ⟨a * b, by norm_cast⟩

theorem Fin'.add {x y : EReal} : Fin' x → Fin' y → Fin' (x + y) := by
  rintro ⟨a, rfl⟩ ⟨b, rfl⟩; exact ⟨a + b, by norm_cast⟩

/-- A finite sum of reals, read in the extended reals, is a real. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

theorem Fin'.sum {ι : Type} (s : Finset ι) {f : ι → EReal} (h : ∀ i, Fin' (f i)) : Fin' (∑ i ∈ s, f i) := by
  choose g hg using h
  exact ⟨∑ i ∈ s, g i, by rw [coe_sum]; exact Finset.sum_congr rfl fun i _ => hg i⟩

/-- The three float words the programs spell these functions with. -/
theorem w_half : Ideal.ofBits .f32 0x3F000000#32 = ((2⁻¹ : ℝ) : EReal) := by
  simp [Ideal.ofBits, Ideal.ieee, -EReal.coe_mul]; norm_num
theorem w_one : Ideal.ofBits .f32 0x3F800000#32 = 1 := by
  simp [Ideal.ofBits, Ideal.ieee, -EReal.coe_mul]; norm_num
theorem w_zero : Ideal.ofBits .f32 0x00000000#32 = 0 := by simp [Ideal.ofBits, Ideal.ieee]
theorem w_inf : Ideal.ofBits .f32 0x7F800000#32 = ⊤ := by simp [Ideal.ofBits, Ideal.ieee]

/-- On the reals, half the hyperbolic tangent of half the argument, plus a half, is the logistic function. -/
theorem real_tanh (x : ℝ) : 2⁻¹ * Real.tanh (2⁻¹ * x) + 2⁻¹ = (1 + Real.exp (-x))⁻¹ := by
  have e1 : Real.exp (-x) = Real.exp (-(2⁻¹ * x)) * Real.exp (-(2⁻¹ * x)) := by rw [← Real.exp_add]; congr 1; ring
  have e2 : Real.exp (2⁻¹ * x) * Real.exp (-(2⁻¹ * x)) = 1 := by rw [← Real.exp_add]; simp
  rw [Real.tanh_eq_sinh_div_cosh, Real.sinh_eq, Real.cosh_eq, e1]
  have h1 := Real.exp_pos (2⁻¹ * x)
  have h2 := Real.exp_pos (-(2⁻¹ * x))
  generalize Real.exp (2⁻¹ * x) = a at *
  generalize Real.exp (-(2⁻¹ * x)) = b at *
  have : a = b⁻¹ := eq_inv_of_mul_eq_one_left e2
  subst this
  field_simp
  ring

/-- The logistic function of a real, as the programs write it. -/
def sg (x : ℝ) : ℝ := (1 + Real.exp (-x))⁻¹

theorem sg_pos (x : ℝ) : 0 < sg x := by unfold sg; positivity

/-- The kernel's spelling at a real argument, -/
theorem tanh_form (x : ℝ) :
    Ideal.ofBits .f32 0x3F000000#32 * Ideal.tanh (Ideal.ofBits .f32 0x3F000000#32 * (x : EReal))
      + Ideal.ofBits .f32 0x3F000000#32 = (sg x : EReal) := by
  rw [w_half, ← EReal.coe_mul, Ideal.tanh_coe, ← EReal.coe_mul, ← EReal.coe_add, real_tanh]; rfl

/-- and the reference's. -/
theorem logistic_form (x : ℝ) :
    Ideal.div (Ideal.ofBits .f32 0x3F800000#32) (Ideal.ofBits .f32 0x3F800000#32 + Ideal.exp (-(x : EReal))) = (sg x : EReal) := by
  rw [w_one]; exact Ideal.logistic_coe x

/-- `|x| < ∞`, computed elementwise and joined over a whole array, says that every element is a real. -/
theorem finite_of_all {s t u : Shape} [Subsingleton t.Idx] {axes : List (Fin s.rank)} (x : FVec Ideal s .f32) (inf : FVec Ideal s .f32)
    (hinf : ∀ i, inf i = (⊤ : EReal)) (init : u.Idx → BitVec 1) (h : s.ReducesTo axes t) (hu : 0 < u.numel) (j : t.Idx)
    (e : Host.reduce IntOp.andi (cmpf .olt (Host.absf x) inf) init h hu j = 1#1) (i : s.Idx) : Fin' (x i) := by
  have h1 := Host.reduce_andi_all _ init h hu j e i
  have h2 : Ideal.cmp .olt (max (x i : EReal) (-(x i : EReal))) (inf i) = 1#1 := h1
  rw [hinf] at h2
  refine Fin'.of_ne ?_ ?_
  · intro hx; rw [hx] at h2; revert h2; simp [Ideal.cmp]
  · intro hx; rw [hx] at h2; revert h2; simp [Ideal.cmp]

end Cert.Proof.RealMath

end
-- ==== Proof.FfnMath.lean ====
/-
  The gate of the feed-forward layer's backward pass, one element at a time: with `d` the element of the product
  `df · w_downᵀ`, `g` the gate's and `u` the up projection's pre-activation, the kernel's two gradients are the ones
  that differentiating `silu(g) · u` gives.
-/
module

public import proofs.«01_k».proof.Proof.RealMath

@[expose] public section

noncomputable section

namespace Cert.Proof.FfnMath

open Idealize.ShloMosaic Cert.Proof.RealMath

/-- The logistic function as the kernel writes it. -/
abbrev kSig (g : EReal) : EReal :=
  Ideal.ofBits .f32 0x3F000000#32 * Ideal.tanh (Ideal.ofBits .f32 0x3F000000#32 * g) + Ideal.ofBits .f32 0x3F000000#32

/-- The logistic function as the reference writes it. -/
abbrev rSig (g : EReal) : EReal :=
  Ideal.div (Ideal.ofBits .f32 0x3F800000#32) (Ideal.ofBits .f32 0x3F800000#32 + Ideal.exp (-g))

theorem sig_eq {g : EReal} (hg : Fin' g) : kSig g = rSig g := by
  obtain ⟨r, rfl⟩ := hg
  exact (tanh_form r).trans (logistic_form r).symm

/-- The two forms of the logistic function agree at the infinities too. -/
theorem sig_all (g : EReal) : kSig g = rSig g := by
  induction g using EReal.rec with
  | coe r => exact sig_eq ⟨r, rfl⟩
  | top =>
    unfold kSig rSig
    rw [w_half, w_one, EReal.coe_mul_top_of_pos (by norm_num), Ideal.tanh_top, EReal.neg_top, Ideal.exp_bot, mul_one, add_zero, ← EReal.coe_add]
    norm_num [Ideal.div]
  | bot =>
    unfold kSig rSig
    rw [w_half, w_one, EReal.coe_mul_bot_of_pos (by norm_num), Ideal.tanh_bot, EReal.neg_bot, Ideal.exp_top,
      EReal.add_top_of_ne_bot (show (1 : EReal) ≠ ⊥ from EReal.coe_ne_bot 1), mul_neg, mul_one, ← EReal.coe_neg, ← EReal.coe_add]
    norm_num [Ideal.div]

/-- The gradient of the up projection: `d · (g · s)` against `(g · s) · d`. -/
theorem dhu_eq {d g : EReal} (hg : Fin' g) : d * (g * kSig g) = g * rSig g * d := by
  rw [sig_eq hg, mul_comm]

/-- The gradient of the gate: `d · u · (s · (1 + g · (1 − s)))` against `d · u · s + g · (d · u) · (s · (1 − s))`. -/
theorem dhg_eq {d g u : EReal} (hd : Fin' d) (hg : Fin' g) (hu : Fin' u) :
    d * u * (kSig g * (Ideal.ofBits .f32 0x3F800000#32 + g * (Ideal.ofBits .f32 0x3F800000#32 - kSig g)))
      = d * u * rSig g + g * (d * u) * (rSig g * (Ideal.ofBits .f32 0x3F800000#32 - rSig g)) := by
  obtain ⟨d, rfl⟩ := hd; obtain ⟨g, rfl⟩ := hg; obtain ⟨u, rfl⟩ := hu
  have e1 : kSig (g : EReal) = (sg g : EReal) := tanh_form g
  have e2 : rSig (g : EReal) = (sg g : EReal) := logistic_form g
  have e3 : (1 : EReal) = ((1 : ℝ) : EReal) := rfl
  rw [e1, e2, w_one, e3]
  simp only [← EReal.coe_mul, ← EReal.coe_add, ← EReal.coe_sub]
  congr 1; ring

end Cert.Proof.FfnMath

end
-- ==== Proof.FfnValue.lean ====
/-
  What the feed-forward layer's backward call leaves in its two result arrays: each entry is one function of a row of
  `df`, a row of `w_down`, and the entries of the gate's and the up projection's pre-activations there. The grid's blocks
  tile the arrays, and a block's entry reads the argument arrays where the block lies.
-/
module

public import proofs.«01_k».proof.Proof.FfnMath
public import proofs.«01_k».proof.Proof.Gen.FfnGateIdeal.Value
public import Idealize.ShloMosaic.Lib.Pipeline.Value

@[expose] public section

set_option maxRecDepth 16384

noncomputable section

namespace Cert.Proof.FfnValue

open Idealize.ShloMosaic Idealize.SL.Sem Cert.FfnGateIdeal Cert.FfnGateIdeal.Gen Cert.Proof.FfnMath
open Idealize.ShloMosaic.Pipeline (Dat)
open scoped BigOperators

variable (m : (ℓ : Loc nD τ sig) → Buf (Elt Ideal) ℓ)

/-- One entry of `df · w_downᵀ`. -/
def dact (df : S8192x2048.Idx → EReal) (wd : S5632x2048.Idx → EReal) (r : Fin 8192) (q : Fin 5632) : EReal :=
  ∑ k : Fin 2048, df (ix2 r k) * wd (ix2 q k)

/-- The gate's gradient, entry by entry. -/
def dhg (df : S8192x2048.Idx → EReal) (wd : S5632x2048.Idx → EReal) (hg hu : S8192x5632.Idx → EReal) (i : S8192x5632.Idx) : EReal :=
  dact df wd (i 0) (i 1) * hu i * (kSig (hg i) * (Ideal.ofBits .f32 0x3F800000#32 + hg i * (Ideal.ofBits .f32 0x3F800000#32 - kSig (hg i))))

/-- The up projection's gradient, entry by entry. -/
def dhu (df : S8192x2048.Idx → EReal) (wd : S5632x2048.Idx → EReal) (hg : S8192x5632.Idx → EReal) (i : S8192x5632.Idx) : EReal :=
  dact df wd (i 0) (i 1) * (hg i * kSig (hg i))

theorem pay4_apply (v0 : Vec Ideal S1024x2048 .bf16) (v1 : Vec Ideal S512x2048 .bf16) (v3 : Vec Ideal S1024x512 .bf16) (j : S1024x512.Idx) :
    k0_pay4 v0 v1 v3 j = (∑ k : Fin 2048, v0 (ix2 (j 0) k) * v1 (ix2 (j 1) k)) * (v3 j * kSig (v3 j)) := by
  unfold k0_pay4 k0_pay3 k0_pay2 k0_pay1
  pointwise

theorem pay5_apply (v0 : Vec Ideal S1024x2048 .bf16) (v1 : Vec Ideal S512x2048 .bf16) (v3 v5 : Vec Ideal S1024x512 .bf16) (j : S1024x512.Idx) :
    k0_pay5 v0 v1 v3 v5 j = (∑ k : Fin 2048, v0 (ix2 (j 0) k) * v1 (ix2 (j 1) k)) * v5 j
      * (kSig (v3 j) * (Ideal.ofBits .f32 0x3F800000#32 + v3 j * (Ideal.ofBits .f32 0x3F800000#32 - kSig (v3 j)))) := by
  unfold k0_pay5 k0_pay3 k0_pay2 k0_pay1
  pointwise

/-! ## Where the blocks lie -/

/-- Point `t` of the (8, 11) grid is row block `t / 11`, column block `t % 11`. -/
theorem index_row : ∀ t : Fin grid0.N, win0_0.index t 0 = t.val / 11 ∧ win0_0.index t 1 = 0 ∧ win0_1.index t 0 = t.val % 11 ∧ win0_1.index t 1 = 0
    ∧ win0_2.index t 0 = t.val / 11 ∧ win0_2.index t 1 = t.val % 11 ∧ win0_3.index t 0 = t.val / 11 ∧ win0_3.index t 1 = t.val % 11
    ∧ win0_4.index t 0 = t.val / 11 ∧ win0_4.index t 1 = t.val % 11 ∧ win0_5.index t 0 = t.val / 11 ∧ win0_5.index t 1 = t.val % 11 := by
  decide +kernel

theorem hz : (![0, 0] : Fin 2 → Nat) = fun _ => 0 := funext fun a => by fin_cases a <;> rfl

theorem lt88 (t : Fin cfg0.N) : t.val < 88 := lt_of_lt_of_eq t.isLt (show cfg0.N = 88 from N_0)

/-- The array index of entry `j` of point `t`'s block. -/
def at_ (t : Fin cfg0.N) (j : S1024x512.Idx) : S8192x5632.Idx :=
  ix2 ⟨t.val / 11 * 1024 + (j 0 : ℕ), by have h1 : (j 0 : ℕ) < 1024 := (j 0).isLt; have := lt88 t; omega⟩
      ⟨t.val % 11 * 512 + (j 1 : ℕ), by have h1 : (j 1 : ℕ) < 512 := (j 1).isLt; omega⟩

/-- An entry of a block of an array the size of the result, read where the block lies. -/
theorem idx4 (t : Fin cfg0.N) (j : S1024x512.Idx) : (win0_4.rect t).idx j = at_ t j := by
  obtain ⟨-, -, -, -, -, -, -, -, e0, e1, -⟩ := index_row t
  refine Shape.idx_ext₂ ?_ ?_
  · show win0_4.index t 0 * 1024 + 1 * (j 0 : ℕ) = t.val / 11 * 1024 + (j 0 : ℕ)
    rw [e0]; omega
  · show win0_4.index t 1 * 512 + 1 * (j 1 : ℕ) = t.val % 11 * 512 + (j 1 : ℕ)
    rw [e1]; omega

theorem idx5 (t : Fin cfg0.N) (j : S1024x512.Idx) : (win0_5.rect t).idx j = at_ t j := by
  obtain ⟨-, -, -, -, -, -, -, -, -, -, e0, e1⟩ := index_row t
  refine Shape.idx_ext₂ ?_ ?_
  · show win0_5.index t 0 * 1024 + 1 * (j 0 : ℕ) = t.val / 11 * 1024 + (j 0 : ℕ)
    rw [e0]; omega
  · show win0_5.index t 1 * 512 + 1 * (j 1 : ℕ) = t.val % 11 * 512 + (j 1 : ℕ)
    rw [e1]; omega

theorem iblk2 (c : Dev nD) (t : Fin cfg0.N) (j : S1024x512.Idx) :
    iblk m c 2 t j = m ((c.tc : Thread nD τ).loc main_arg2) (at_ t j) := by
  obtain ⟨-, -, -, -, e0, e1, -⟩ := index_row t
  refine (show _ = m ((c.tc : Thread nD τ).loc main_arg2) ((win0_2.rect t).idx j) from by rw [← V_main_arg2 m c]; rfl).trans (congrArg _ ?_)
  refine Shape.idx_ext₂ ?_ ?_
  · show win0_2.index t 0 * 1024 + 1 * (j 0 : ℕ) = t.val / 11 * 1024 + (j 0 : ℕ)
    rw [e0]; omega
  · show win0_2.index t 1 * 512 + 1 * (j 1 : ℕ) = t.val % 11 * 512 + (j 1 : ℕ)
    rw [e1]; omega

theorem iblk3 (c : Dev nD) (t : Fin cfg0.N) (j : S1024x512.Idx) :
    iblk m c 3 t j = m ((c.tc : Thread nD τ).loc main_arg3) (at_ t j) := by
  obtain ⟨-, -, -, -, -, -, e0, e1, -⟩ := index_row t
  refine (show _ = m ((c.tc : Thread nD τ).loc main_arg3) ((win0_3.rect t).idx j) from by rw [← V_main_arg3 m c]; rfl).trans (congrArg _ ?_)
  refine Shape.idx_ext₂ ?_ ?_
  · show win0_3.index t 0 * 1024 + 1 * (j 0 : ℕ) = t.val / 11 * 1024 + (j 0 : ℕ)
    rw [e0]; omega
  · show win0_3.index t 1 * 512 + 1 * (j 1 : ℕ) = t.val % 11 * 512 + (j 1 : ℕ)
    rw [e1]; omega

theorem iblk0 (c : Dev nD) (t : Fin cfg0.N) (j : S1024x512.Idx) (k : Fin 2048) :
    iblk m c 0 t (ix2 (j 0) k) = m ((c.tc : Thread nD τ).loc main_arg0) (ix2 (at_ t j 0) k) := by
  obtain ⟨e0, e1, -⟩ := index_row t
  refine (show _ = m ((c.tc : Thread nD τ).loc main_arg0) ((win0_0.rect t).idx (ix2 (j 0) k)) from by rw [← V_main_arg0 m c]; rfl).trans (congrArg _ ?_)
  refine Shape.idx_ext₂ ?_ ?_
  · show win0_0.index t 0 * 1024 + 1 * (j 0 : ℕ) = t.val / 11 * 1024 + (j 0 : ℕ)
    rw [e0]; omega
  · show win0_0.index t 1 * 2048 + 1 * (k : ℕ) = k
    rw [e1]; omega

theorem iblk1 (c : Dev nD) (t : Fin cfg0.N) (j : S1024x512.Idx) (k : Fin 2048) :
    iblk m c 1 t (ix2 (j 1) k) = m ((c.tc : Thread nD τ).loc main_arg1) (ix2 (at_ t j 1) k) := by
  obtain ⟨-, -, e0, e1, -⟩ := index_row t
  refine (show _ = m ((c.tc : Thread nD τ).loc main_arg1) ((win0_1.rect t).idx (ix2 (j 1) k)) from by rw [← V_main_arg1 m c]; rfl).trans (congrArg _ ?_)
  refine Shape.idx_ext₂ ?_ ?_
  · show win0_1.index t 0 * 512 + 1 * (j 1 : ℕ) = t.val % 11 * 512 + (j 1 : ℕ)
    rw [e0]; omega
  · show win0_1.index t 1 * 2048 + 1 * (k : ℕ) = k
    rw [e1]; omega

/-! ## The result arrays -/

/-- The gate's gradient as a function of the argument arrays of device `c`. -/
abbrev out4 (c : Dev nD) : Buf (Elt Ideal) ((c.tc : Thread nD τ).loc main_v0_0) :=
  dhg (m ((c.tc : Thread nD τ).loc main_arg0)) (m ((c.tc : Thread nD τ).loc main_arg1)) (m ((c.tc : Thread nD τ).loc main_arg2)) (m ((c.tc : Thread nD τ).loc main_arg3))

/-- The up projection's. -/
abbrev out5 (c : Dev nD) : Buf (Elt Ideal) ((c.tc : Thread nD τ).loc main_v0_1) :=
  dhu (m ((c.tc : Thread nD τ).loc main_arg0)) (m ((c.tc : Thread nD τ).loc main_arg1)) (m ((c.tc : Thread nD τ).loc main_arg2))

theorem flushed4_eq (c : Dev nD) (t : Fin cfg0.N) : (dats m 0 c).flushed 4 t = (win0_4.blk t).view.read (Elt Ideal) (out4 m c) := by
  rw [Value.flushed4]
  unfold out0_4
  rw [View.canon_unit_zero hz, View.ld_unit_zero hz, View.ld_unit_zero hz, View.ld_unit_zero hz, View.ld_unit_zero hz]
  funext j
  refine (pay5_apply _ _ _ _ j).trans ?_
  rw [iblk2, iblk3, Finset.sum_congr rfl fun k _ => by rw [iblk0, iblk1]]
  exact congrArg (out4 m c) (idx4 t j).symm

theorem flushed5_eq (c : Dev nD) (t : Fin cfg0.N) : (dats m 0 c).flushed 5 t = (win0_5.blk t).view.read (Elt Ideal) (out5 m c) := by
  rw [Value.flushed5]
  unfold out0_5
  rw [View.canon_unit_zero hz, View.ld_unit_zero hz, View.ld_unit_zero hz, View.ld_unit_zero hz]
  funext j
  refine (pay4_apply _ _ _ j).trans ?_
  rw [iblk2, Finset.sum_congr rfl fun k _ => by rw [iblk0, iblk1]]
  exact congrArg (out5 m c) (idx5 t j).symm

/-- Every index of the result arrays lies in the block of some point. -/
theorem hits (i : S8192x5632.Idx) : ∃ (t : Fin cfg0.N) (j : S1024x512.Idx), at_ t j = i := by
  have h0 : (i 0 : ℕ) < 8192 := (i 0).isLt
  have h1 : (i 1 : ℕ) < 5632 := (i 1).isLt
  have ht : (i 0 : ℕ) / 1024 * 11 + (i 1 : ℕ) / 512 < cfg0.N := by rw [show cfg0.N = 88 from N_0]; omega
  refine ⟨⟨_, ht⟩, ix2 ⟨(i 0 : ℕ) % 1024, by omega⟩ ⟨(i 1 : ℕ) % 512, by omega⟩, ?_⟩
  refine Shape.idx_ext₂ ?_ ?_
  · show ((i 0 : ℕ) / 1024 * 11 + (i 1 : ℕ) / 512) / 11 * 1024 + (i 0 : ℕ) % 1024 = (i 0 : ℕ); omega
  · show ((i 0 : ℕ) / 1024 * 11 + (i 1 : ℕ) / 512) % 11 * 512 + (i 1 : ℕ) % 512 = (i 1 : ℕ); omega

theorem cover4 (i : S8192x5632.Idx) : ∃ t : Fin cfg0.N, (cfg0.win 4).flush t = true ∧ i ∈ ((cfg0.win 4).blk t).view.set := by
  obtain ⟨t, j, rfl⟩ := hits i
  refine ⟨t, flush0_4 t, ?_⟩
  show at_ t j ∈ ((View.whole main_v0_0).slice (win0_4.rect t)).set
  rw [View.set_slice_whole, ← idx4]
  exact (win0_4.rect t).idx_mem j

theorem cover5 (i : S8192x5632.Idx) : ∃ t : Fin cfg0.N, (cfg0.win 5).flush t = true ∧ i ∈ ((cfg0.win 5).blk t).view.set := by
  obtain ⟨t, j, rfl⟩ := hits i
  refine ⟨t, flush0_5 t, ?_⟩
  show at_ t j ∈ ((View.whole main_v0_1).slice (win0_5.rect t)).set
  rw [View.set_slice_whole, ← idx5]
  exact (win0_5.rect t).idx_mem j

theorem final4 (c : Dev nD) : (dats m 0 c).arrAt 4 cfg0.N = out4 m c :=
  (dats m 0 c).arrAt_eq_of_cover 4 (out4 m c) (fun t _ => flushed4_eq m c t) cover4

theorem final5 (c : Dev nD) : (dats m 0 c).arrAt 5 cfg0.N = out5 m c :=
  (dats m 0 c).arrAt_eq_of_cover 5 (out5 m c) (fun t _ => flushed5_eq m c t) cover5

end Cert.Proof.FfnValue

end
-- ==== Proof.FfnClaims.lean ====
/-
  The claims about the feed-forward layer's backward call: the frames, and that at the ideal instance its two result
  arrays are the gradients of `(silu(g) · u) · w_down` with respect to `g` and `u`, for finite arguments.
-/
module

public import proofs.«01_k».proof.Defs
public import proofs.«01_k».proof.Proof.FfnValue
public import proofs.«01_k».proof.Proof.Gen.FfnGate.Frame
public import proofs.«01_k».proof.Proof.Gen.FfnGateRefIdeal.Run

@[expose] public section

set_option maxRecDepth 16384

noncomputable section

namespace Cert.Proof.FfnClaims

open Idealize.ShloMosaic Idealize.SL.Sem Cert.Proof.RealMath Cert.Proof.FfnMath
open scoped BigOperators

/-! ## The reference's two arrays, entry by entry -/

section Ref
open Cert.FfnGateRefIdeal Cert.FfnGateRefIdeal.Gen

variable (m : (ℓ : Loc nD τ sig) → Buf (Elt Ideal) ℓ) (ρ : Dev nD → PrngReg)

/-- The product `df · w_downᵀ` at an entry, -/
theorem ref_dot (df : FVec Ideal S8192x2048 .f32) (wd : FVec Ideal S5632x2048 .f32) (i : S8192x5632.Idx) :
    Host.dotGeneral (F := Ideal) dot_S8192x2048_S5632x2048_S8192x5632_1_1_0_0_n_n none df wd i
      = ∑ k : Fin 2048, df (ix2 (i 0) k) * wd (ix2 (i 1) k) := by
  pointwise

/-- the gate's gradient, -/
abbrev rHg (df : S8192x2048.Idx → EReal) (wd : S5632x2048.Idx → EReal) (hg hu : S8192x5632.Idx → EReal) (i : S8192x5632.Idx) : EReal :=
  (∑ k : Fin 2048, df (ix2 (i 0) k) * wd (ix2 (i 1) k)) * hu i * rSig (hg i)
    + hg i * ((∑ k : Fin 2048, df (ix2 (i 0) k) * wd (ix2 (i 1) k)) * hu i) * (rSig (hg i) * (Ideal.ofBits .f32 0x3F800000#32 - rSig (hg i)))

/-- and the up projection's. -/
abbrev rHu (df : S8192x2048.Idx → EReal) (wd : S5632x2048.Idx → EReal) (hg : S8192x5632.Idx → EReal) (i : S8192x5632.Idx) : EReal :=
  hg i * rSig (hg i) * ∑ k : Fin 2048, df (ix2 (i 0) k) * wd (ix2 (i 1) k)

/-- The reference's run leaves these two arrays and its arguments. -/
theorem ref_run : θ_run defs (onTc (τ := τ) (main (F := Ideal))) ⟨m, fun _ => 0, ρ⟩ fun r => ∀ c : Dev nD,
      r.2.mem ((c.tc : Thread nD τ).loc main_v11) = rHg (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v12) = rHu (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (Cert.FfnGateRefIdeal.Value.run (F := Ideal) m ρ)
  · clear h; funext i; pointwise; simp only [rHg, rSig, w_one]
  · clear h; funext i; pointwise; simp only [rHu, rSig, w_one]

end Ref

/-! ## The precondition: every entry of the four arguments is a real -/

instance : Subsingleton Cert.Pre_ffn_finite.S_.Idx := ⟨fun a b => funext fun i => i.elim0⟩

theorem and_one {x y : BitVec 1} : IntOp.andi x y = 1#1 → x = 1#1 ∧ y = 1#1 := by revert x y; decide

theorem finite [Cert.Pre_ffn_finite.Facts] (a : FVec Ideal Cert.Pre_ffn_finite.S8192x2048 .bf16) (b : FVec Ideal Cert.Pre_ffn_finite.S5632x2048 .bf16)
    (g u : FVec Ideal Cert.Pre_ffn_finite.S8192x5632 .bf16) (h : Cert.Pre_ffn_finite.fn (F := Ideal) a b g u = fun _ => 1#1) :
    (∀ i, Fin' (a i)) ∧ (∀ i, Fin' (b i)) ∧ (∀ i, Fin' (g i)) ∧ (∀ i, Fin' (u i)) := by
  have h0 := congrFun h (fun i => i.elim0)
  obtain ⟨h1, hu⟩ := and_one h0
  obtain ⟨h2, hg⟩ := and_one h1
  obtain ⟨ha, hb⟩ := and_one h2
  have hi : ∀ {s : Shape} (i : s.Idx), (fun _ : s.Idx => Ideal.ofBits .f32 0x7F800000#32) i = (⊤ : EReal) := fun _ => w_inf
  exact ⟨finite_of_all (s := Cert.Pre_ffn_finite.S8192x2048) a _ (fun i => hi i) _ _ _ _ ha,
    finite_of_all (s := Cert.Pre_ffn_finite.S5632x2048) b _ (fun i => hi i) _ _ _ _ hb,
    finite_of_all (s := Cert.Pre_ffn_finite.S8192x5632) g _ (fun i => hi i) _ _ _ _ hg,
    finite_of_all (s := Cert.Pre_ffn_finite.S8192x5632) u _ (fun i => hi i) _ _ _ _ hu⟩

/-! ## The claims -/

theorem frame_k : Cert.quiescent_FfnGate := fun m ρ _ => Cert.FfnGate.Gen.frame m ρ
theorem frame_ki : Cert.quiescent_FfnGateIdeal := fun m ρ _ => Cert.FfnGateIdeal.Gen.frame m ρ
theorem frame_r : Cert.quiescent_FfnGateRefIdeal := fun m ρ _ =>
  (θ_run Cert.FfnGateRefIdeal.defs _ _).mono (fun r h => ⟨fun c => (h c).2.2, sem_eq_zero_of_no_sems (by decide) r.2⟩)
    (Cert.FfnGateRefIdeal.Value.run (F := Ideal) m ρ)

theorem algebraic [hp : Cert.Pre_ffn_finite.Facts] : Cert.algebraic_FfnGateIdeal_FfnGateRefIdeal_pre_ffn_finite := by
  intro m ρ m' ρ' hpre hagree
  refine ⟨fun c => FfnValue.out4 m c, fun c => FfnValue.out5 m c, ?_, ?_⟩
  · exact (θ_run Cert.FfnGateIdeal.defs _ _).mono
      (fun _ h c => ⟨(h c).1.trans (FfnValue.final4 m c), (h c).2.1.trans (FfnValue.final5 m c), (h c).2.2⟩)
      (Cert.FfnGateIdeal.Value.run_blocks (F := Ideal) m ρ)
  · refine (θ_run Cert.FfnGateRefIdeal.defs _ _).mono (fun _ h c => ⟨(h c).1.trans ?_, (h c).2.1.trans ?_, (h c).2.2⟩) (ref_run m' ρ')
    · obtain ⟨ha, hb, hg, hu⟩ := finite _ _ _ _ (hpre c)
      rw [(hagree c).1, (hagree c).2.1, (hagree c).2.2.1, (hagree c).2.2.2]
      funext i
      exact (dhg_eq (Fin'.sum _ fun k => (ha _).mul (hb _)) (hg i) (hu i)).symm
    · obtain ⟨ha, hb, hg, hu⟩ := finite _ _ _ _ (hpre c)
      rw [(hagree c).1, (hagree c).2.1, (hagree c).2.2.1]
      funext i
      exact (dhu_eq (hg i)).symm

end Cert.Proof.FfnClaims

end
-- ==== Proof.DwMath.lean ====
/-
  A product taken over eight blocks of 1024 rows, one after the other, is the product over all 8192 rows: in the extended
  reals the order of a finite sum does not matter.
-/
module

public import Idealize.ShloMosaic.PureOps.Ideal
public import Idealize.ShloMosaic.Lib.Tactic

@[expose] public section

noncomputable section

namespace Cert.Proof.DwMath

open scoped BigOperators

/-- The sum of `g` over the first `n` blocks of 1024 indices. -/
def blocks (g : ℕ → EReal) (n : ℕ) : EReal := ∑ u ∈ Finset.range n, ∑ k : Fin 1024, g (1024 * u + k.val)

theorem blocks_one (g : ℕ → EReal) : blocks g 1 = ∑ k : Fin 1024, g (1024 * 0 + k.val) := by
  unfold blocks; rw [Finset.sum_range_one]

theorem blocks_succ (g : ℕ → EReal) (n : ℕ) : blocks g (n + 1) = blocks g n + ∑ k : Fin 1024, g (1024 * n + k.val) := by
  unfold blocks; rw [Finset.sum_range_succ]

theorem blocks_eq_range (g : ℕ → EReal) (n : ℕ) : blocks g n = ∑ k ∈ Finset.range (1024 * n), g k := by
  induction n with
  | zero => simp [blocks]
  | succ n ih =>
    rw [blocks_succ, ih, Nat.mul_succ, Finset.sum_range_add, Finset.sum_range (fun x => g (1024 * n + x))]

/-- All eight blocks are the whole sum. -/
theorem blocks_eight (g : ℕ → EReal) : blocks g 8 = ∑ k : Fin 8192, g k.val := by
  rw [blocks_eq_range, Finset.sum_range]

end Cert.Proof.DwMath

end
-- ==== Proof.DwFfnValue.lean ====
/-
  What the weight-gradient call of the feed-forward layer leaves in its result: entry (i, j) is the sum over all 8192 rows
  of the product of the two operands' entries in columns i and j. Each of the four column blocks is accumulated over eight
  row blocks in a scratch array, cleared at the first and written out at the last.
-/
module

public import proofs.«01_k».proof.Proof.DwMath
public import proofs.«01_k».proof.Proof.Gen.DwFfnIdeal.Value
public import Idealize.ShloMosaic.Lib.Pipeline.Value
public import Idealize.ShloMosaic.Lib.Pointwise

@[expose] public section

set_option maxRecDepth 16384

noncomputable section

namespace Cert.Proof.DwFfnValue

open Idealize.ShloMosaic Idealize.SL.Sem Cert.DwFfnIdeal Cert.DwFfnIdeal.Gen Cert.Proof.DwMath
open Idealize.ShloMosaic.Pipeline (Dat)
open scoped BigOperators

variable (m : (ℓ : Loc nD τ sig) → Buf (Elt Ideal) ℓ)

/-- The contribution of row `k` to entry `i` of the product (nothing beyond the last row). -/
def term (a : S8192x5632.Idx → EReal) (b : S8192x2048.Idx → EReal) (p : Fin 5632) (q : Fin 2048) (k : ℕ) : EReal :=
  if h : k < 8192 then a (ix2 ⟨k, h⟩ p) * b (ix2 ⟨k, h⟩ q) else 0

/-- The product of the transposed first operand with the second, entry by entry. -/
def dw (a : S8192x5632.Idx → EReal) (b : S8192x2048.Idx → EReal) (i : S5632x2048.Idx) : EReal :=
  ∑ k : Fin 8192, a (ix2 k (i 0)) * b (ix2 k (i 1))

theorem hz : (![0, 0] : Fin 2 → Nat) = fun _ => 0 := funext fun a => by fin_cases a <;> rfl

theorem pay1_apply (j : S1408x2048.Idx) : (k0_pay1 (F := Ideal)) j = 0 := by
  unfold k0_pay1
  pointwise

theorem pay2_apply (v3 : Vec Ideal S1408x2048 .f32) (v4 : Vec Ideal S1024x1408 .bf16) (v5 : Vec Ideal S1024x2048 .bf16) (j : S1408x2048.Idx) :
    k0_pay2 v3 v4 v5 j = v3 j + ∑ k : Fin 1024, v4 (ix2 k (j 0)) * v5 (ix2 k (j 1)) := by
  unfold k0_pay2
  pointwise

theorem pay3_apply (v : Vec Ideal S1408x2048 .f32) (j : S1408x2048.Idx) : (k0_pay3 v j : EReal) = v j := by
  unfold k0_pay3
  pointwise

/-! ## One point's step -/

section Steps
variable (c : Dev nD) (i : grid0.Coords) (a2 : Memref sig .tc .vmem S1024x1408 .bf16) (h2 : a2.IsWhole)
  (a3 : Memref sig .tc .vmem S1024x2048 .bf16) (h3 : a3.IsWhole) (a4 : Memref sig .tc .vmem S1408x2048 .bf16) (h4 : a4.IsWhole)
  (x0 : Vec Ideal S1024x1408 .bf16) (x1 : Vec Ideal S1024x2048 .bf16) (xs : Vec Ideal S1408x2048 .f32)

theorem sout_A (hc0 : cond0_0 i) (hc1 : ¬cond0_1 i) :
    sout0_A_0 c i a2 h2 a3 h3 a4 h4 scM0_0 (Memref.isWhole_whole _) hc0 hc1 x0 x1 = k0_pay2 k0_pay1 x0 x1 := by
  unfold sout0_A_0
  rw [View.read_writes_eq_canon _ _ _ (scover0_A_0 c i a2 h2 a3 h3 a4 h4 scM0_0 (Memref.isWhole_whole _) hc0 hc1 x0 x1)]
  unfold kernelRun0_A
  dsimp only
  sl_unfold_words
  rw [View.canon_cons_unit_zero (S := S1408x2048) hz, View.readCov_unit_zero (S := S1408x2048) _ hz]
  simp only [View.readAt_eq_ld, h2.read_unread, h3.read_unread, View.ld_unit_zero (S := S1024x1408) hz, View.ld_unit_zero (S := S1024x2048) hz]

theorem sout_B (hc0 : ¬cond0_0 i) (hc1 : ¬cond0_1 i) :
    sout0_B_0 c i a2 h2 a3 h3 a4 h4 scM0_0 (Memref.isWhole_whole _) hc0 hc1 x0 x1 xs = k0_pay2 xs x0 x1 := by
  unfold sout0_B_0
  rw [View.read_writes_eq_canon _ _ _ (scover0_B_0 c i a2 h2 a3 h3 a4 h4 scM0_0 (Memref.isWhole_whole _) hc0 hc1 x0 x1 xs)]
  unfold kernelRun0_B
  dsimp only
  sl_unfold_words
  rw [View.canon_unit_zero (S := S1408x2048) hz]
  simp only [View.readAt_eq_ld, h2.read_unread, h3.read_unread, (Memref.isWhole_whole _).read_unread, View.ld_unit_zero (S := S1024x1408) hz,
    View.ld_unit_zero (S := S1024x2048) hz, View.ld_unit_zero (S := S1408x2048) hz]

theorem sout_C (hc0 : ¬cond0_0 i) (hc1 : cond0_1 i) :
    sout0_C_0 c i a2 h2 a3 h3 a4 h4 scM0_0 (Memref.isWhole_whole _) hc0 hc1 x0 x1 xs = k0_pay2 xs x0 x1 := by
  unfold sout0_C_0
  rw [View.read_writes_eq_canon _ _ _ (scover0_C_0 c i a2 h2 a3 h3 a4 h4 scM0_0 (Memref.isWhole_whole _) hc0 hc1 x0 x1 xs)]
  unfold kernelRun0_C
  dsimp only
  sl_unfold_words
  rw [View.canon_unit_zero (S := S1408x2048) hz]
  simp only [View.readAt_eq_ld, h2.read_unread, h3.read_unread, (Memref.isWhole_whole _).read_unread, View.ld_unit_zero (S := S1024x1408) hz,
    View.ld_unit_zero (S := S1024x2048) hz, View.ld_unit_zero (S := S1408x2048) hz]

theorem out_C (hc0 : ¬cond0_0 i) (hc1 : cond0_1 i) :
    out0_C_2 c i a2 h2 a3 h3 a4 h4 scM0_0 (Memref.isWhole_whole _) hc0 hc1 x0 x1 xs = k0_pay3 (k0_pay2 xs x0 x1) := by
  unfold out0_C_2
  rw [View.read_writes_eq_canon _ _ _ (cover0_C_2 c i a2 h2 a3 h3 a4 h4 scM0_0 (Memref.isWhole_whole _) hc0 hc1 x0 x1 xs)]
  unfold kernelRun0_C
  dsimp only
  sl_unfold_words
  rw [View.canon_unit_zero (S := S1408x2048) hz, View.readCov_unit_zero (S := S1408x2048) _ hz]
  simp only [View.readAt_eq_ld, h2.read_unread, h3.read_unread, (Memref.isWhole_whole _).read_unread, View.ld_unit_zero (S := S1024x1408) hz,
    View.ld_unit_zero (S := S1024x2048) hz, View.ld_unit_zero (S := S1408x2048) hz]

end Steps

/-! ## Where the blocks lie -/

/-- Point `t` of the (4, 8) grid takes column block `t / 8` and row block `t % 8`. -/
theorem index_of : ∀ t : Fin grid0.N, win0_0.index t 0 = t.val % 8 ∧ win0_0.index t 1 = t.val / 8
    ∧ win0_1.index t 0 = t.val % 8 ∧ win0_1.index t 1 = 0 := by
  decide +kernel

theorem lt32 (t : Fin cfg0.N) : t.val < 32 := lt_of_lt_of_eq t.isLt (show cfg0.N = 32 from N_0)

theorem iblk0 (c : Dev nD) (t : Fin cfg0.N) (k : Fin 1024) (p : Fin 1408) (hk : 1024 * (t.val % 8) + k.val < 8192) (hp : t.val / 8 * 1408 + p.val < 5632) :
    iblk m c 0 t (ix2 k p) = m ((c.tc : Thread nD τ).loc main_arg0) (ix2 ⟨1024 * (t.val % 8) + k.val, hk⟩ ⟨t.val / 8 * 1408 + p.val, hp⟩) := by
  obtain ⟨e0, e1, -⟩ := index_of t
  refine (show _ = m ((c.tc : Thread nD τ).loc main_arg0) ((win0_0.rect t).idx (ix2 k p)) from by rw [← V_main_arg0 m c]; rfl).trans (congrArg _ ?_)
  refine Shape.idx_ext₂ ?_ ?_
  · show win0_0.index t 0 * 1024 + 1 * (k : ℕ) = 1024 * (t.val % 8) + k.val
    rw [e0]; omega
  · show win0_0.index t 1 * 1408 + 1 * (p : ℕ) = t.val / 8 * 1408 + p.val
    rw [e1]; omega

theorem iblk1 (c : Dev nD) (t : Fin cfg0.N) (k : Fin 1024) (q : Fin 2048) (hk : 1024 * (t.val % 8) + k.val < 8192) :
    iblk m c 1 t (ix2 k q) = m ((c.tc : Thread nD τ).loc main_arg1) (ix2 ⟨1024 * (t.val % 8) + k.val, hk⟩ q) := by
  obtain ⟨-, -, e0, e1⟩ := index_of t
  refine (show _ = m ((c.tc : Thread nD τ).loc main_arg1) ((win0_1.rect t).idx (ix2 k q)) from by rw [← V_main_arg1 m c]; rfl).trans (congrArg _ ?_)
  refine Shape.idx_ext₂ ?_ ?_
  · show win0_1.index t 0 * 1024 + 1 * (k : ℕ) = 1024 * (t.val % 8) + k.val
    rw [e0]; omega
  · show win0_1.index t 1 * 2048 + 1 * (q : ℕ) = q
    rw [e1]; omega

/-- Column `p` of the column block of point `t`. -/
def col (t : ℕ) (ht : t < 32) (p : Fin 1408) : Fin 5632 := ⟨t / 8 * 1408 + p.val, by have := p.isLt; omega⟩

/-- Row `k`'s contributions to entry `j` of point `t`'s block. -/
abbrev g (c : Dev nD) (t : ℕ) (ht : t < 32) (j : S1408x2048.Idx) : ℕ → EReal :=
  term (m ((c.tc : Thread nD τ).loc main_arg0)) (m ((c.tc : Thread nD τ).loc main_arg1)) (col t ht (j 0)) (j 1)

/-- A point adds its row block's contributions. -/
theorem step (c : Dev nD) (t : Fin cfg0.N) (xs : Vec Ideal S1408x2048 .f32) (j : S1408x2048.Idx) :
    k0_pay2 xs (iblk m c 0 t) (iblk m c 1 t) j = xs j + ∑ k : Fin 1024, g m c t.val (lt32 t) j (1024 * (t.val % 8) + k.val) := by
  rw [pay2_apply]
  congr 1
  refine Finset.sum_congr rfl fun k _ => ?_
  have hk : 1024 * (t.val % 8) + k.val < 8192 := by have := k.isLt; omega
  rw [iblk0 m c t k (j 0) hk (col t.val (lt32 t) (j 0)).isLt, iblk1 m c t k (j 1) hk]
  unfold g term
  rw [dif_pos hk]
  rfl

theorem g_congr (c : Dev nD) (t t' : ℕ) (ht : t < 32) (ht' : t' < 32) (e : t / 8 = t' / 8) (j : S1408x2048.Idx) : g m c t ht j = g m c t' ht' j := by
  have ec : col t ht (j 0) = col t' ht' (j 0) := Fin.ext (by show t / 8 * 1408 + _ = t' / 8 * 1408 + _; rw [e])
  unfold g; rw [ec]

/-! ## The accumulator, point by point -/

theorem acc_A (c : Dev nD) (t : Fin cfg0.N) (h0 : t.val % 8 = 0) :
    (outsAt0 m c t.val t.isLt).2 = k0_pay2 k0_pay1 (iblk m c 0 t) (iblk m c 1 t) := by
  have h1 : ¬t.val % 8 = 7 := by omega
  rw [outsAt0_A m c t h0 h1]
  dsimp only
  exact sout_A c _ _ _ _ _ _ _ _ _ _ _

theorem acc_BC (c : Dev nD) (t : Fin cfg0.N) (h0 : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    exact sout_C c _ _ _ _ _ _ _ _ _ _ _ _
  · rw [outsAt0_B m c t h0 h1]
    dsimp only
    exact sout_B c _ _ _ _ _ _ _ _ _ _ _ _

theorem res_C (c : Dev nD) (t : Fin cfg0.N) (h1 : t.val % 8 = 7) :
    (outsAt0 m c t.val t.isLt).1
      = k0_pay3 (k0_pay2 (outsAt0 m c (t.val - 1) (Nat.lt_of_le_of_lt (Nat.sub_le _ _) t.isLt)).2 (iblk m c 0 t) (iblk m c 1 t)) := by
  have h0 : ¬t.val % 8 = 0 := by omega
  rw [outsAt0_C m c t h0 h1]
  dsimp only
  exact out_C c _ _ _ _ _ _ _ _ _ _ _ _

/-- What the accumulator holds after point `n`: the contributions of the row blocks met since the column block began. -/
theorem acc_eq (c : Dev nD) (j : S1408x2048.Idx) : ∀ (n : ℕ) (h : n < cfg0.N) (h' : n < 32),
    (outsAt0 m c n h).2 j = blocks (g m c n h' j) (n % 8 + 1) := by
  intro n
  induction n with
  | zero =>
    intro h h'
    refine (congrFun (acc_A m c ⟨0, h⟩ rfl) j).trans ?_
    rw [step, pay1_apply, zero_add]
    exact (blocks_one _).symm
  | succ n ih =>
    intro h h'
    by_cases h0 : (n + 1) % 8 = 0
    · refine (congrFun (acc_A m c ⟨n + 1, h⟩ h0) j).trans ?_
      rw [step, pay1_apply, zero_add, blocks_succ, h0, blocks, Finset.range_zero, Finset.sum_empty, zero_add]
    · have e : (n + 1) % 8 = n % 8 + 1 := by omega
      refine (congrFun (acc_BC m c ⟨n + 1, h⟩ h0) j).trans ?_
      rw [step, blocks_succ _ ((n + 1) % 8), e]
      congr 1
      exact (ih (Nat.lt_of_succ_lt h) (by omega)).trans (by rw [g_congr m c n (n + 1) (by omega) h' (by omega) j])

/-- What the last point of a column block writes out: the contributions of all rows. -/
theorem out_eq (c : Dev nD) (j : S1408x2048.Idx) (n : ℕ) (h : n < cfg0.N) (h' : n < 32) (h1 : n % 8 = 7) :
    ((outsAt0 m c n h).1 j : EReal) = blocks (g m c n h' j) 8 := by
  refine (congrFun (res_C m c ⟨n, h⟩ h1) j).trans ?_
  rw [pay3_apply, step, blocks_succ _ 7, h1]
  congr 1
  refine (acc_eq m c j (n - 1) _ (by omega)).trans ?_
  rw [g_congr m c (n - 1) n (by omega) h' (by omega) j, show (n - 1) % 8 + 1 = 7 by omega]

/-- The result array after the run. -/
theorem result (c : Dev nD) (i : S5632x2048.Idx) :
    (Value.G2 m c i : EReal) = dw (m ((c.tc : Thread nD τ).loc main_arg0)) (m ((c.tc : Thread nD τ).loc main_arg1)) i := by
  have hi0 : (i 0).val < 5632 := (i 0).isLt
  have hi1 : (i 1).val < 2048 := (i 1).isLt
  have hp : Value.pt2Of i = 8 * ((i 0).val / 1408) + 7 := by
    show 8 * (1 * ((i 0).val / 1408 - 0) + 1 * ((i 1).val / 2048 - 0)) + 7 = _
    omega
  have hlt : Value.pt2Of i < cfg0.N := by rw [hp, show cfg0.N = 32 from N_0]; omega
  unfold Value.G2
  rw [dif_pos hlt, ← Value.outsAt0_sweep m c (Value.pt2Of i) hlt, out_eq m c _ _ hlt (by rw [hp]; omega) (by rw [hp]; omega), blocks_eight]
  unfold dw
  show (∑ k : Fin 8192, _ : EReal) = _
  refine Finset.sum_congr rfl fun k _ => ?_
  unfold g term
  rw [dif_pos k.isLt]
  have e0 : col (Value.pt2Of i) (by rw [hp]; omega) (Value.loc2Of i 0) = i 0 := by
    apply Fin.ext
    show Value.pt2Of i / 8 * 1408 + (i 0).val % 1408 = _
    rw [hp]; omega
  have e1 : Value.loc2Of i 1 = i 1 := by
    apply Fin.ext
    show (i 1).val % 2048 = _
    omega
  rw [e0, e1]

/-- The result as a function of the argument arrays of device `c`. -/
abbrev out (c : Dev nD) : Buf (Elt Ideal) ((c.tc : Thread nD τ).loc main_v0) :=
  dw (m ((c.tc : Thread nD τ).loc main_arg0)) (m ((c.tc : Thread nD τ).loc main_arg1))

theorem final (c : Dev nD) : Value.G2 m c = out m c := funext fun i => result m c i

end Cert.Proof.DwFfnValue

end
-- ==== Proof.DwOutValue.lean ====
/-
  What the weight-gradient call of the output projection leaves in its result: entry (i, j) is the sum over all 8192 rows
  of the product of the two operands' entries in columns i and j. Each of the two column blocks is accumulated over eight
  row blocks in a scratch array, cleared at the first and written out at the last.
-/
module

public import proofs.«01_k».proof.Proof.DwMath
public import proofs.«01_k».proof.Proof.Gen.DwOutIdeal.Value
public import Idealize.ShloMosaic.Lib.Pipeline.Value
public import Idealize.ShloMosaic.Lib.Pointwise

@[expose] public section

set_option maxRecDepth 16384

noncomputable section

namespace Cert.Proof.DwOutValue

open Idealize.ShloMosaic Idealize.SL.Sem Cert.DwOutIdeal Cert.DwOutIdeal.Gen Cert.Proof.DwMath
open Idealize.ShloMosaic.Pipeline (Dat)
open scoped BigOperators

variable (m : (ℓ : Loc nD τ sig) → Buf (Elt Ideal) ℓ)

/-- The contribution of row `k` to entry `i` of the product (nothing beyond the last row). -/
def term (a : S8192x2048.Idx → EReal) (b : S8192x2048.Idx → EReal) (p : Fin 2048) (q : Fin 2048) (k : ℕ) : EReal :=
  if h : k < 8192 then a (ix2 ⟨k, h⟩ p) * b (ix2 ⟨k, h⟩ q) else 0

/-- The product of the transposed first operand with the second, entry by entry. -/
def dw (a : S8192x2048.Idx → EReal) (b : S8192x2048.Idx → EReal) (i : S2048x2048.Idx) : EReal :=
  ∑ k : Fin 8192, a (ix2 k (i 0)) * b (ix2 k (i 1))

theorem hz : (![0, 0] : Fin 2 → Nat) = fun _ => 0 := funext fun a => by fin_cases a <;> rfl

theorem pay1_apply (j : S1024x2048.Idx) : (k0_pay1 (F := Ideal)) j = 0 := by
  unfold k0_pay1
  pointwise

theorem pay2_apply (v3 : Vec Ideal S1024x2048 .f32) (v4 : Vec Ideal S1024x1024 .bf16) (v5 : Vec Ideal S1024x2048 .bf16) (j : S1024x2048.Idx) :
    k0_pay2 v3 v4 v5 j = v3 j + ∑ k : Fin 1024, v4 (ix2 k (j 0)) * v5 (ix2 k (j 1)) := by
  unfold k0_pay2
  pointwise

theorem pay3_apply (v : Vec Ideal S1024x2048 .f32) (j : S1024x2048.Idx) : (k0_pay3 v j : EReal) = v j := by
  unfold k0_pay3
  pointwise

/-! ## One point's step -/

section Steps
variable (c : Dev nD) (i : grid0.Coords) (a2 : Memref sig .tc .vmem S1024x1024 .bf16) (h2 : a2.IsWhole)
  (a3 : Memref sig .tc .vmem S1024x2048 .bf16) (h3 : a3.IsWhole) (a4 : Memref sig .tc .vmem S1024x2048 .bf16) (h4 : a4.IsWhole)
  (x0 : Vec Ideal S1024x1024 .bf16) (x1 : Vec Ideal S1024x2048 .bf16) (xs : Vec Ideal S1024x2048 .f32)

theorem sout_A (hc0 : cond0_0 i) (hc1 : ¬cond0_1 i) :
    sout0_A_0 c i a2 h2 a3 h3 a4 h4 scM0_0 (Memref.isWhole_whole _) hc0 hc1 x0 x1 = k0_pay2 k0_pay1 x0 x1 := by
  unfold sout0_A_0
  rw [View.read_writes_eq_canon _ _ _ (scover0_A_0 c i a2 h2 a3 h3 a4 h4 scM0_0 (Memref.isWhole_whole _) hc0 hc1 x0 x1)]
  unfold kernelRun0_A
  dsimp only
  sl_unfold_words
  rw [View.canon_cons_unit_zero (S := S1024x2048) hz, View.readCov_unit_zero (S := S1024x2048) _ hz]
  simp only [View.readAt_eq_ld, h2.read_unread, h3.read_unread, View.ld_unit_zero (S := S1024x1024) hz, View.ld_unit_zero (S := S1024x2048) hz]

theorem sout_B (hc0 : ¬cond0_0 i) (hc1 : ¬cond0_1 i) :
    sout0_B_0 c i a2 h2 a3 h3 a4 h4 scM0_0 (Memref.isWhole_whole _) hc0 hc1 x0 x1 xs = k0_pay2 xs x0 x1 := by
  unfold sout0_B_0
  rw [View.read_writes_eq_canon _ _ _ (scover0_B_0 c i a2 h2 a3 h3 a4 h4 scM0_0 (Memref.isWhole_whole _) hc0 hc1 x0 x1 xs)]
  unfold kernelRun0_B
  dsimp only
  sl_unfold_words
  rw [View.canon_unit_zero (S := S1024x2048) hz]
  simp only [View.readAt_eq_ld, h2.read_unread, h3.read_unread, (Memref.isWhole_whole _).read_unread, View.ld_unit_zero (S := S1024x1024) hz,
    View.ld_unit_zero (S := S1024x2048) hz, View.ld_unit_zero (S := S1024x2048) hz]

theorem sout_C (hc0 : ¬cond0_0 i) (hc1 : cond0_1 i) :
    sout0_C_0 c i a2 h2 a3 h3 a4 h4 scM0_0 (Memref.isWhole_whole _) hc0 hc1 x0 x1 xs = k0_pay2 xs x0 x1 := by
  unfold sout0_C_0
  rw [View.read_writes_eq_canon _ _ _ (scover0_C_0 c i a2 h2 a3 h3 a4 h4 scM0_0 (Memref.isWhole_whole _) hc0 hc1 x0 x1 xs)]
  unfold kernelRun0_C
  dsimp only
  sl_unfold_words
  rw [View.canon_unit_zero (S := S1024x2048) hz]
  simp only [View.readAt_eq_ld, h2.read_unread, h3.read_unread, (Memref.isWhole_whole _).read_unread, View.ld_unit_zero (S := S1024x1024) hz,
    View.ld_unit_zero (S := S1024x2048) hz, View.ld_unit_zero (S := S1024x2048) hz]

theorem out_C (hc0 : ¬cond0_0 i) (hc1 : cond0_1 i) :
    out0_C_2 c i a2 h2 a3 h3 a4 h4 scM0_0 (Memref.isWhole_whole _) hc0 hc1 x0 x1 xs = k0_pay3 (k0_pay2 xs x0 x1) := by
  unfold out0_C_2
  rw [View.read_writes_eq_canon _ _ _ (cover0_C_2 c i a2 h2 a3 h3 a4 h4 scM0_0 (Memref.isWhole_whole _) hc0 hc1 x0 x1 xs)]
  unfold kernelRun0_C
  dsimp only
  sl_unfold_words
  rw [View.canon_unit_zero (S := S1024x2048) hz, View.readCov_unit_zero (S := S1024x2048) _ hz]
  simp only [View.readAt_eq_ld, h2.read_unread, h3.read_unread, (Memref.isWhole_whole _).read_unread, View.ld_unit_zero (S := S1024x1024) hz,
    View.ld_unit_zero (S := S1024x2048) hz, View.ld_unit_zero (S := S1024x2048) hz]

end Steps

/-! ## Where the blocks lie -/

/-- Point `t` of the (2, 8) grid takes column block `t / 8` and row block `t % 8`. -/
theorem index_of : ∀ t : Fin grid0.N, win0_0.index t 0 = t.val % 8 ∧ win0_0.index t 1 = t.val / 8
    ∧ win0_1.index t 0 = t.val % 8 ∧ win0_1.index t 1 = 0 := by
  decide +kernel

theorem lt_pts (t : Fin cfg0.N) : t.val < 16 := lt_of_lt_of_eq t.isLt (show cfg0.N = 16 from N_0)

theorem iblk0 (c : Dev nD) (t : Fin cfg0.N) (k : Fin 1024) (p : Fin 1024) (hk : 1024 * (t.val % 8) + k.val < 8192) (hp : t.val / 8 * 1024 + p.val < 2048) :
    iblk m c 0 t (ix2 k p) = m ((c.tc : Thread nD τ).loc main_arg0) (ix2 ⟨1024 * (t.val % 8) + k.val, hk⟩ ⟨t.val / 8 * 1024 + p.val, hp⟩) := by
  obtain ⟨e0, e1, -⟩ := index_of t
  refine (show _ = m ((c.tc : Thread nD τ).loc main_arg0) ((win0_0.rect t).idx (ix2 k p)) from by rw [← V_main_arg0 m c]; rfl).trans (congrArg _ ?_)
  refine Shape.idx_ext₂ ?_ ?_
  · show win0_0.index t 0 * 1024 + 1 * (k : ℕ) = 1024 * (t.val % 8) + k.val
    rw [e0]; omega
  · show win0_0.index t 1 * 1024 + 1 * (p : ℕ) = t.val / 8 * 1024 + p.val
    rw [e1]; omega

theorem iblk1 (c : Dev nD) (t : Fin cfg0.N) (k : Fin 1024) (q : Fin 2048) (hk : 1024 * (t.val % 8) + k.val < 8192) :
    iblk m c 1 t (ix2 k q) = m ((c.tc : Thread nD τ).loc main_arg1) (ix2 ⟨1024 * (t.val % 8) + k.val, hk⟩ q) := by
  obtain ⟨-, -, e0, e1⟩ := index_of t
  refine (show _ = m ((c.tc : Thread nD τ).loc main_arg1) ((win0_1.rect t).idx (ix2 k q)) from by rw [← V_main_arg1 m c]; rfl).trans (congrArg _ ?_)
  refine Shape.idx_ext₂ ?_ ?_
  · show win0_1.index t 0 * 1024 + 1 * (k : ℕ) = 1024 * (t.val % 8) + k.val
    rw [e0]; omega
  · show win0_1.index t 1 * 2048 + 1 * (q : ℕ) = q
    rw [e1]; omega

/-- Column `p` of the column block of point `t`. -/
def col (t : ℕ) (ht : t < 16) (p : Fin 1024) : Fin 2048 := ⟨t / 8 * 1024 + p.val, by have := p.isLt; omega⟩

/-- Row `k`'s contributions to entry `j` of point `t`'s block. -/
abbrev g (c : Dev nD) (t : ℕ) (ht : t < 16) (j : S1024x2048.Idx) : ℕ → EReal :=
  term (m ((c.tc : Thread nD τ).loc main_arg0)) (m ((c.tc : Thread nD τ).loc main_arg1)) (col t ht (j 0)) (j 1)

/-- A point adds its row block's contributions. -/
theorem step (c : Dev nD) (t : Fin cfg0.N) (xs : Vec Ideal S1024x2048 .f32) (j : S1024x2048.Idx) :
    k0_pay2 xs (iblk m c 0 t) (iblk m c 1 t) j = xs j + ∑ k : Fin 1024, g m c t.val (lt_pts t) j (1024 * (t.val % 8) + k.val) := by
  rw [pay2_apply]
  congr 1
  refine Finset.sum_congr rfl fun k _ => ?_
  have hk : 1024 * (t.val % 8) + k.val < 8192 := by have := k.isLt; omega
  rw [iblk0 m c t k (j 0) hk (col t.val (lt_pts t) (j 0)).isLt, iblk1 m c t k (j 1) hk]
  unfold g term
  rw [dif_pos hk]
  rfl

theorem g_congr (c : Dev nD) (t t' : ℕ) (ht : t < 16) (ht' : t' < 16) (e : t / 8 = t' / 8) (j : S1024x2048.Idx) : g m c t ht j = g m c t' ht' j := by
  have ec : col t ht (j 0) = col t' ht' (j 0) := Fin.ext (by show t / 8 * 1024 + _ = t' / 8 * 1024 + _; rw [e])
  unfold g; rw [ec]

/-! ## The accumulator, point by point -/

theorem acc_A (c : Dev nD) (t : Fin cfg0.N) (h0 : t.val % 8 = 0) :
    (outsAt0 m c t.val t.isLt).2 = k0_pay2 k0_pay1 (iblk m c 0 t) (iblk m c 1 t) := by
  have h1 : ¬t.val % 8 = 7 := by omega
  rw [outsAt0_A m c t h0 h1]
  dsimp only
  exact sout_A c _ _ _ _ _ _ _ _ _ _ _

theorem acc_BC (c : Dev nD) (t : Fin cfg0.N) (h0 : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    exact sout_C c _ _ _ _ _ _ _ _ _ _ _ _
  · rw [outsAt0_B m c t h0 h1]
    dsimp only
    exact sout_B c _ _ _ _ _ _ _ _ _ _ _ _

theorem res_C (c : Dev nD) (t : Fin cfg0.N) (h1 : t.val % 8 = 7) :
    (outsAt0 m c t.val t.isLt).1
      = k0_pay3 (k0_pay2 (outsAt0 m c (t.val - 1) (Nat.lt_of_le_of_lt (Nat.sub_le _ _) t.isLt)).2 (iblk m c 0 t) (iblk m c 1 t)) := by
  have h0 : ¬t.val % 8 = 0 := by omega
  rw [outsAt0_C m c t h0 h1]
  dsimp only
  exact out_C c _ _ _ _ _ _ _ _ _ _ _ _

/-- What the accumulator holds after point `n`: the contributions of the row blocks met since the column block began. -/
theorem acc_eq (c : Dev nD) (j : S1024x2048.Idx) : ∀ (n : ℕ) (h : n < cfg0.N) (h' : n < 16),
    (outsAt0 m c n h).2 j = blocks (g m c n h' j) (n % 8 + 1) := by
  intro n
  induction n with
  | zero =>
    intro h h'
    refine (congrFun (acc_A m c ⟨0, h⟩ rfl) j).trans ?_
    rw [step, pay1_apply, zero_add]
    exact (blocks_one _).symm
  | succ n ih =>
    intro h h'
    by_cases h0 : (n + 1) % 8 = 0
    · refine (congrFun (acc_A m c ⟨n + 1, h⟩ h0) j).trans ?_
      rw [step, pay1_apply, zero_add, blocks_succ, h0, blocks, Finset.range_zero, Finset.sum_empty, zero_add]
    · have e : (n + 1) % 8 = n % 8 + 1 := by omega
      refine (congrFun (acc_BC m c ⟨n + 1, h⟩ h0) j).trans ?_
      rw [step, blocks_succ _ ((n + 1) % 8), e]
      congr 1
      exact (ih (Nat.lt_of_succ_lt h) (by omega)).trans (by rw [g_congr m c n (n + 1) (by omega) h' (by omega) j])

/-- What the last point of a column block writes out: the contributions of all rows. -/
theorem out_eq (c : Dev nD) (j : S1024x2048.Idx) (n : ℕ) (h : n < cfg0.N) (h' : n < 16) (h1 : n % 8 = 7) :
    ((outsAt0 m c n h).1 j : EReal) = blocks (g m c n h' j) 8 := by
  refine (congrFun (res_C m c ⟨n, h⟩ h1) j).trans ?_
  rw [pay3_apply, step, blocks_succ _ 7, h1]
  congr 1
  refine (acc_eq m c j (n - 1) _ (by omega)).trans ?_
  rw [g_congr m c (n - 1) n (by omega) h' (by omega) j, show (n - 1) % 8 + 1 = 7 by omega]

/-- The result array after the run. -/
theorem result (c : Dev nD) (i : S2048x2048.Idx) :
    (Value.G2 m c i : EReal) = dw (m ((c.tc : Thread nD τ).loc main_arg0)) (m ((c.tc : Thread nD τ).loc main_arg1)) i := by
  have hi0 : (i 0).val < 2048 := (i 0).isLt
  have hi1 : (i 1).val < 2048 := (i 1).isLt
  have hp : Value.pt2Of i = 8 * ((i 0).val / 1024) + 7 := by
    show 8 * (1 * ((i 0).val / 1024 - 0) + 1 * ((i 1).val / 2048 - 0)) + 7 = _
    omega
  have hlt : Value.pt2Of i < cfg0.N := by rw [hp, show cfg0.N = 16 from N_0]; omega
  unfold Value.G2
  rw [dif_pos hlt, ← Value.outsAt0_sweep m c (Value.pt2Of i) hlt, out_eq m c _ _ hlt (by rw [hp]; omega) (by rw [hp]; omega), blocks_eight]
  unfold dw
  show (∑ k : Fin 8192, _ : EReal) = _
  refine Finset.sum_congr rfl fun k _ => ?_
  unfold g term
  rw [dif_pos k.isLt]
  have e0 : col (Value.pt2Of i) (by rw [hp]; omega) (Value.loc2Of i 0) = i 0 := by
    apply Fin.ext
    show Value.pt2Of i / 8 * 1024 + (i 0).val % 1024 = _
    rw [hp]; omega
  have e1 : Value.loc2Of i 1 = i 1 := by
    apply Fin.ext
    show (i 1).val % 2048 = _
    omega
  rw [e0, e1]

/-- The result as a function of the argument arrays of device `c`. -/
abbrev out (c : Dev nD) : Buf (Elt Ideal) ((c.tc : Thread nD τ).loc main_v0) :=
  dw (m ((c.tc : Thread nD τ).loc main_arg0)) (m ((c.tc : Thread nD τ).loc main_arg1))

theorem final (c : Dev nD) : Value.G2 m c = out m c := funext fun i => result m c i

end Cert.Proof.DwOutValue

end
-- ==== Proof.DwInValue.lean ====
/-
  What the weight-gradient call of the input projection leaves in its result: entry (i, j) is the sum over all 8192 rows
  of the product of the two operands' entries in columns i and j. Each of the four column blocks is accumulated over eight
  row blocks in a scratch array, cleared at the first and written out at the last.
-/
module

public import proofs.«01_k».proof.Proof.DwMath
public import proofs.«01_k».proof.Proof.Gen.DwInIdeal.Value
public import Idealize.ShloMosaic.Lib.Pipeline.Value
public import Idealize.ShloMosaic.Lib.Pointwise

@[expose] public section

set_option maxRecDepth 16384

noncomputable section

namespace Cert.Proof.DwInValue

open Idealize.ShloMosaic Idealize.SL.Sem Cert.DwInIdeal Cert.DwInIdeal.Gen Cert.Proof.DwMath
open Idealize.ShloMosaic.Pipeline (Dat)
open scoped BigOperators

variable (m : (ℓ : Loc nD τ sig) → Buf (Elt Ideal) ℓ)

/-- The contribution of row `k` to entry `i` of the product (nothing beyond the last row). -/
def term (a : S8192x5120.Idx → EReal) (b : S8192x2048.Idx → EReal) (p : Fin 5120) (q : Fin 2048) (k : ℕ) : EReal :=
  if h : k < 8192 then a (ix2 ⟨k, h⟩ p) * b (ix2 ⟨k, h⟩ q) else 0

/-- The product of the transposed first operand with the second, entry by entry. -/
def dw (a : S8192x5120.Idx → EReal) (b : S8192x2048.Idx → EReal) (i : S5120x2048.Idx) : EReal :=
  ∑ k : Fin 8192, a (ix2 k (i 0)) * b (ix2 k (i 1))

theorem hz : (![0, 0] : Fin 2 → Nat) = fun _ => 0 := funext fun a => by fin_cases a <;> rfl

theorem pay1_apply (j : S1280x2048.Idx) : (k0_pay1 (F := Ideal)) j = 0 := by
  unfold k0_pay1
  pointwise

theorem pay2_apply (v3 : Vec Ideal S1280x2048 .f32) (v4 : Vec Ideal S1024x1280 .bf16) (v5 : Vec Ideal S1024x2048 .bf16) (j : S1280x2048.Idx) :
    k0_pay2 v3 v4 v5 j = v3 j + ∑ k : Fin 1024, v4 (ix2 k (j 0)) * v5 (ix2 k (j 1)) := by
  unfold k0_pay2
  pointwise

theorem pay3_apply (v : Vec Ideal S1280x2048 .f32) (j : S1280x2048.Idx) : (k0_pay3 v j : EReal) = v j := by
  unfold k0_pay3
  pointwise

/-! ## One point's step -/

section Steps
variable (c : Dev nD) (i : grid0.Coords) (a2 : Memref sig .tc .vmem S1024x1280 .bf16) (h2 : a2.IsWhole)
  (a3 : Memref sig .tc .vmem S1024x2048 .bf16) (h3 : a3.IsWhole) (a4 : Memref sig .tc .vmem S1280x2048 .bf16) (h4 : a4.IsWhole)
  (x0 : Vec Ideal S1024x1280 .bf16) (x1 : Vec Ideal S1024x2048 .bf16) (xs : Vec Ideal S1280x2048 .f32)

theorem sout_A (hc0 : cond0_0 i) (hc1 : ¬cond0_1 i) :
    sout0_A_0 c i a2 h2 a3 h3 a4 h4 scM0_0 (Memref.isWhole_whole _) hc0 hc1 x0 x1 = k0_pay2 k0_pay1 x0 x1 := by
  unfold sout0_A_0
  rw [View.read_writes_eq_canon _ _ _ (scover0_A_0 c i a2 h2 a3 h3 a4 h4 scM0_0 (Memref.isWhole_whole _) hc0 hc1 x0 x1)]
  unfold kernelRun0_A
  dsimp only
  sl_unfold_words
  rw [View.canon_cons_unit_zero (S := S1280x2048) hz, View.readCov_unit_zero (S := S1280x2048) _ hz]
  simp only [View.readAt_eq_ld, h2.read_unread, h3.read_unread, View.ld_unit_zero (S := S1024x1280) hz, View.ld_unit_zero (S := S1024x2048) hz]

theorem sout_B (hc0 : ¬cond0_0 i) (hc1 : ¬cond0_1 i) :
    sout0_B_0 c i a2 h2 a3 h3 a4 h4 scM0_0 (Memref.isWhole_whole _) hc0 hc1 x0 x1 xs = k0_pay2 xs x0 x1 := by
  unfold sout0_B_0
  rw [View.read_writes_eq_canon _ _ _ (scover0_B_0 c i a2 h2 a3 h3 a4 h4 scM0_0 (Memref.isWhole_whole _) hc0 hc1 x0 x1 xs)]
  unfold kernelRun0_B
  dsimp only
  sl_unfold_words
  rw [View.canon_unit_zero (S := S1280x2048) hz]
  simp only [View.readAt_eq_ld, h2.read_unread, h3.read_unread, (Memref.isWhole_whole _).read_unread, View.ld_unit_zero (S := S1024x1280) hz,
    View.ld_unit_zero (S := S1024x2048) hz, View.ld_unit_zero (S := S1280x2048) hz]

theorem sout_C (hc0 : ¬cond0_0 i) (hc1 : cond0_1 i) :
    sout0_C_0 c i a2 h2 a3 h3 a4 h4 scM0_0 (Memref.isWhole_whole _) hc0 hc1 x0 x1 xs = k0_pay2 xs x0 x1 := by
  unfold sout0_C_0
  rw [View.read_writes_eq_canon _ _ _ (scover0_C_0 c i a2 h2 a3 h3 a4 h4 scM0_0 (Memref.isWhole_whole _) hc0 hc1 x0 x1 xs)]
  unfold kernelRun0_C
  dsimp only
  sl_unfold_words
  rw [View.canon_unit_zero (S := S1280x2048) hz]
  simp only [View.readAt_eq_ld, h2.read_unread, h3.read_unread, (Memref.isWhole_whole _).read_unread, View.ld_unit_zero (S := S1024x1280) hz,
    View.ld_unit_zero (S := S1024x2048) hz, View.ld_unit_zero (S := S1280x2048) hz]

theorem out_C (hc0 : ¬cond0_0 i) (hc1 : cond0_1 i) :
    out0_C_2 c i a2 h2 a3 h3 a4 h4 scM0_0 (Memref.isWhole_whole _) hc0 hc1 x0 x1 xs = k0_pay3 (k0_pay2 xs x0 x1) := by
  unfold out0_C_2
  rw [View.read_writes_eq_canon _ _ _ (cover0_C_2 c i a2 h2 a3 h3 a4 h4 scM0_0 (Memref.isWhole_whole _) hc0 hc1 x0 x1 xs)]
  unfold kernelRun0_C
  dsimp only
  sl_unfold_words
  rw [View.canon_unit_zero (S := S1280x2048) hz, View.readCov_unit_zero (S := S1280x2048) _ hz]
  simp only [View.readAt_eq_ld, h2.read_unread, h3.read_unread, (Memref.isWhole_whole _).read_unread, View.ld_unit_zero (S := S1024x1280) hz,
    View.ld_unit_zero (S := S1024x2048) hz, View.ld_unit_zero (S := S1280x2048) hz]

end Steps

/-! ## Where the blocks lie -/

/-- Point `t` of the (4, 8) grid takes column block `t / 8` and row block `t % 8`. -/
theorem index_of : ∀ t : Fin grid0.N, win0_0.index t 0 = t.val % 8 ∧ win0_0.index t 1 = t.val / 8
    ∧ win0_1.index t 0 = t.val % 8 ∧ win0_1.index t 1 = 0 := by
  decide +kernel

theorem lt_pts (t : Fin cfg0.N) : t.val < 32 := lt_of_lt_of_eq t.isLt (show cfg0.N = 32 from N_0)

theorem iblk0 (c : Dev nD) (t : Fin cfg0.N) (k : Fin 1024) (p : Fin 1280) (hk : 1024 * (t.val % 8) + k.val < 8192) (hp : t.val / 8 * 1280 + p.val < 5120) :
    iblk m c 0 t (ix2 k p) = m ((c.tc : Thread nD τ).loc main_arg0) (ix2 ⟨1024 * (t.val % 8) + k.val, hk⟩ ⟨t.val / 8 * 1280 + p.val, hp⟩) := by
  obtain ⟨e0, e1, -⟩ := index_of t
  refine (show _ = m ((c.tc : Thread nD τ).loc main_arg0) ((win0_0.rect t).idx (ix2 k p)) from by rw [← V_main_arg0 m c]; rfl).trans (congrArg _ ?_)
  refine Shape.idx_ext₂ ?_ ?_
  · show win0_0.index t 0 * 1024 + 1 * (k : ℕ) = 1024 * (t.val % 8) + k.val
    rw [e0]; omega
  · show win0_0.index t 1 * 1280 + 1 * (p : ℕ) = t.val / 8 * 1280 + p.val
    rw [e1]; omega

theorem iblk1 (c : Dev nD) (t : Fin cfg0.N) (k : Fin 1024) (q : Fin 2048) (hk : 1024 * (t.val % 8) + k.val < 8192) :
    iblk m c 1 t (ix2 k q) = m ((c.tc : Thread nD τ).loc main_arg1) (ix2 ⟨1024 * (t.val % 8) + k.val, hk⟩ q) := by
  obtain ⟨-, -, e0, e1⟩ := index_of t
  refine (show _ = m ((c.tc : Thread nD τ).loc main_arg1) ((win0_1.rect t).idx (ix2 k q)) from by rw [← V_main_arg1 m c]; rfl).trans (congrArg _ ?_)
  refine Shape.idx_ext₂ ?_ ?_
  · show win0_1.index t 0 * 1024 + 1 * (k : ℕ) = 1024 * (t.val % 8) + k.val
    rw [e0]; omega
  · show win0_1.index t 1 * 2048 + 1 * (q : ℕ) = q
    rw [e1]; omega

/-- Column `p` of the column block of point `t`. -/
def col (t : ℕ) (ht : t < 32) (p : Fin 1280) : Fin 5120 := ⟨t / 8 * 1280 + p.val, by have := p.isLt; omega⟩

/-- Row `k`'s contributions to entry `j` of point `t`'s block. -/
abbrev g (c : Dev nD) (t : ℕ) (ht : t < 32) (j : S1280x2048.Idx) : ℕ → EReal :=
  term (m ((c.tc : Thread nD τ).loc main_arg0)) (m ((c.tc : Thread nD τ).loc main_arg1)) (col t ht (j 0)) (j 1)

/-- A point adds its row block's contributions. -/
theorem step (c : Dev nD) (t : Fin cfg0.N) (xs : Vec Ideal S1280x2048 .f32) (j : S1280x2048.Idx) :
    k0_pay2 xs (iblk m c 0 t) (iblk m c 1 t) j = xs j + ∑ k : Fin 1024, g m c t.val (lt_pts t) j (1024 * (t.val % 8) + k.val) := by
  rw [pay2_apply]
  congr 1
  refine Finset.sum_congr rfl fun k _ => ?_
  have hk : 1024 * (t.val % 8) + k.val < 8192 := by have := k.isLt; omega
  rw [iblk0 m c t k (j 0) hk (col t.val (lt_pts t) (j 0)).isLt, iblk1 m c t k (j 1) hk]
  unfold g term
  rw [dif_pos hk]
  rfl

theorem g_congr (c : Dev nD) (t t' : ℕ) (ht : t < 32) (ht' : t' < 32) (e : t / 8 = t' / 8) (j : S1280x2048.Idx) : g m c t ht j = g m c t' ht' j := by
  have ec : col t ht (j 0) = col t' ht' (j 0) := Fin.ext (by show t / 8 * 1280 + _ = t' / 8 * 1280 + _; rw [e])
  unfold g; rw [ec]

/-! ## The accumulator, point by point -/

theorem acc_A (c : Dev nD) (t : Fin cfg0.N) (h0 : t.val % 8 = 0) :
    (outsAt0 m c t.val t.isLt).2 = k0_pay2 k0_pay1 (iblk m c 0 t) (iblk m c 1 t) := by
  have h1 : ¬t.val % 8 = 7 := by omega
  rw [outsAt0_A m c t h0 h1]
  dsimp only
  exact sout_A c _ _ _ _ _ _ _ _ _ _ _

theorem acc_BC (c : Dev nD) (t : Fin cfg0.N) (h0 : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    exact sout_C c _ _ _ _ _ _ _ _ _ _ _ _
  · rw [outsAt0_B m c t h0 h1]
    dsimp only
    exact sout_B c _ _ _ _ _ _ _ _ _ _ _ _

theorem res_C (c : Dev nD) (t : Fin cfg0.N) (h1 : t.val % 8 = 7) :
    (outsAt0 m c t.val t.isLt).1
      = k0_pay3 (k0_pay2 (outsAt0 m c (t.val - 1) (Nat.lt_of_le_of_lt (Nat.sub_le _ _) t.isLt)).2 (iblk m c 0 t) (iblk m c 1 t)) := by
  have h0 : ¬t.val % 8 = 0 := by omega
  rw [outsAt0_C m c t h0 h1]
  dsimp only
  exact out_C c _ _ _ _ _ _ _ _ _ _ _ _

/-- What the accumulator holds after point `n`: the contributions of the row blocks met since the column block began. -/
theorem acc_eq (c : Dev nD) (j : S1280x2048.Idx) : ∀ (n : ℕ) (h : n < cfg0.N) (h' : n < 32),
    (outsAt0 m c n h).2 j = blocks (g m c n h' j) (n % 8 + 1) := by
  intro n
  induction n with
  | zero =>
    intro h h'
    refine (congrFun (acc_A m c ⟨0, h⟩ rfl) j).trans ?_
    rw [step, pay1_apply, zero_add]
    exact (blocks_one _).symm
  | succ n ih =>
    intro h h'
    by_cases h0 : (n + 1) % 8 = 0
    · refine (congrFun (acc_A m c ⟨n + 1, h⟩ h0) j).trans ?_
      rw [step, pay1_apply, zero_add, blocks_succ, h0, blocks, Finset.range_zero, Finset.sum_empty, zero_add]
    · have e : (n + 1) % 8 = n % 8 + 1 := by omega
      refine (congrFun (acc_BC m c ⟨n + 1, h⟩ h0) j).trans ?_
      rw [step, blocks_succ _ ((n + 1) % 8), e]
      congr 1
      exact (ih (Nat.lt_of_succ_lt h) (by omega)).trans (by rw [g_congr m c n (n + 1) (by omega) h' (by omega) j])

/-- What the last point of a column block writes out: the contributions of all rows. -/
theorem out_eq (c : Dev nD) (j : S1280x2048.Idx) (n : ℕ) (h : n < cfg0.N) (h' : n < 32) (h1 : n % 8 = 7) :
    ((outsAt0 m c n h).1 j : EReal) = blocks (g m c n h' j) 8 := by
  refine (congrFun (res_C m c ⟨n, h⟩ h1) j).trans ?_
  rw [pay3_apply, step, blocks_succ _ 7, h1]
  congr 1
  refine (acc_eq m c j (n - 1) _ (by omega)).trans ?_
  rw [g_congr m c (n - 1) n (by omega) h' (by omega) j, show (n - 1) % 8 + 1 = 7 by omega]

/-- The result array after the run. -/
theorem result (c : Dev nD) (i : S5120x2048.Idx) :
    (Value.G2 m c i : EReal) = dw (m ((c.tc : Thread nD τ).loc main_arg0)) (m ((c.tc : Thread nD τ).loc main_arg1)) i := by
  have hi0 : (i 0).val < 5120 := (i 0).isLt
  have hi1 : (i 1).val < 2048 := (i 1).isLt
  have hp : Value.pt2Of i = 8 * ((i 0).val / 1280) + 7 := by
    show 8 * (1 * ((i 0).val / 1280 - 0) + 1 * ((i 1).val / 2048 - 0)) + 7 = _
    omega
  have hlt : Value.pt2Of i < cfg0.N := by rw [hp, show cfg0.N = 32 from N_0]; omega
  unfold Value.G2
  rw [dif_pos hlt, ← Value.outsAt0_sweep m c (Value.pt2Of i) hlt, out_eq m c _ _ hlt (by rw [hp]; omega) (by rw [hp]; omega), blocks_eight]
  unfold dw
  show (∑ k : Fin 8192, _ : EReal) = _
  refine Finset.sum_congr rfl fun k _ => ?_
  unfold g term
  rw [dif_pos k.isLt]
  have e0 : col (Value.pt2Of i) (by rw [hp]; omega) (Value.loc2Of i 0) = i 0 := by
    apply Fin.ext
    show Value.pt2Of i / 8 * 1280 + (i 0).val % 1280 = _
    rw [hp]; omega
  have e1 : Value.loc2Of i 1 = i 1 := by
    apply Fin.ext
    show (i 1).val % 2048 = _
    omega
  rw [e0, e1]

/-- The result as a function of the argument arrays of device `c`. -/
abbrev out (c : Dev nD) : Buf (Elt Ideal) ((c.tc : Thread nD τ).loc main_v0) :=
  dw (m ((c.tc : Thread nD τ).loc main_arg0)) (m ((c.tc : Thread nD τ).loc main_arg1))

theorem final (c : Dev nD) : Value.G2 m c = out m c := funext fun i => result m c i

end Cert.Proof.DwInValue

end
-- ==== Proof.OutBwdValue.lean ====
/-
  What the output projection's backward call leaves in its result: entry (i, j) is the product of row i of the first
  operand with row j of the second. The grid's blocks tile the result.
-/
module

public import proofs.«01_k».proof.Proof.Gen.OutBwdIdeal.Value
public import Idealize.ShloMosaic.Lib.Pipeline.Value
public import Idealize.ShloMosaic.Lib.Pointwise

@[expose] public section

set_option maxRecDepth 16384

noncomputable section

namespace Cert.Proof.OutBwdValue

open Idealize.ShloMosaic Idealize.SL.Sem Cert.OutBwdIdeal Cert.OutBwdIdeal.Gen
open Idealize.ShloMosaic.Pipeline (Dat)
open scoped BigOperators

variable (m : (ℓ : Loc nD τ sig) → Buf (Elt Ideal) ℓ)

/-- The product of the first operand with the transposed second, entry by entry. -/
def prod (a : S8192x2048.Idx → EReal) (b : S2048x2048.Idx → EReal) (i : S8192x2048.Idx) : EReal :=
  ∑ k : Fin 2048, a (ix2 (i 0) k) * b (ix2 (i 1) k)

theorem pay_apply (v0 : Vec Ideal S1024x2048 .bf16) (v1 : Vec Ideal S512x2048 .bf16) (j : S1024x512.Idx) :
    k0_pay1 v0 v1 j = ∑ k : Fin 2048, v0 (ix2 (j 0) k) * v1 (ix2 (j 1) k) := by
  unfold k0_pay1
  pointwise

theorem hz : (![0, 0] : Fin 2 → Nat) = fun _ => 0 := funext fun a => by fin_cases a <;> rfl

/-- Point `t` of the (8, 4) grid is row block `t / 4`, column block `t % 4`. -/
theorem index_of : ∀ t : Fin grid0.N, win0_0.index t 0 = t.val / 4 ∧ win0_0.index t 1 = 0 ∧ win0_1.index t 0 = t.val % 4 ∧ win0_1.index t 1 = 0
    ∧ win0_2.index t 0 = t.val / 4 ∧ win0_2.index t 1 = t.val % 4 := by
  decide +kernel

theorem lt_pts (t : Fin cfg0.N) : t.val < 32 := lt_of_lt_of_eq t.isLt (show cfg0.N = 32 from N_0)

/-- The array index of entry `j` of point `t`'s block. -/
def at_ (t : Fin cfg0.N) (j : S1024x512.Idx) : S8192x2048.Idx :=
  ix2 ⟨t.val / 4 * 1024 + (j 0 : ℕ), by have h1 : (j 0 : ℕ) < 1024 := (j 0).isLt; have := lt_pts t; omega⟩
      ⟨t.val % 4 * 512 + (j 1 : ℕ), by have h1 : (j 1 : ℕ) < 512 := (j 1).isLt; omega⟩

theorem idx2 (t : Fin cfg0.N) (j : S1024x512.Idx) : (win0_2.rect t).idx j = at_ t j := by
  obtain ⟨-, -, -, -, e0, e1⟩ := index_of t
  refine Shape.idx_ext₂ ?_ ?_
  · show win0_2.index t 0 * 1024 + 1 * (j 0 : ℕ) = t.val / 4 * 1024 + (j 0 : ℕ)
    rw [e0]; omega
  · show win0_2.index t 1 * 512 + 1 * (j 1 : ℕ) = t.val % 4 * 512 + (j 1 : ℕ)
    rw [e1]; omega

theorem iblk0 (c : Dev nD) (t : Fin cfg0.N) (j : S1024x512.Idx) (k : Fin 2048) :
    iblk m c 0 t (ix2 (j 0) k) = m ((c.tc : Thread nD τ).loc main_arg0) (ix2 (at_ t j 0) k) := by
  obtain ⟨e0, e1, -⟩ := index_of t
  refine (show _ = m ((c.tc : Thread nD τ).loc main_arg0) ((win0_0.rect t).idx (ix2 (j 0) k)) from by rw [← V_main_arg0 m c]; rfl).trans (congrArg _ ?_)
  refine Shape.idx_ext₂ ?_ ?_
  · show win0_0.index t 0 * 1024 + 1 * (j 0 : ℕ) = t.val / 4 * 1024 + (j 0 : ℕ)
    rw [e0]; omega
  · show win0_0.index t 1 * 2048 + 1 * (k : ℕ) = k
    rw [e1]; omega

theorem iblk1 (c : Dev nD) (t : Fin cfg0.N) (j : S1024x512.Idx) (k : Fin 2048) :
    iblk m c 1 t (ix2 (j 1) k) = m ((c.tc : Thread nD τ).loc main_arg1) (ix2 (at_ t j 1) k) := by
  obtain ⟨-, -, e0, e1, -⟩ := index_of t
  refine (show _ = m ((c.tc : Thread nD τ).loc main_arg1) ((win0_1.rect t).idx (ix2 (j 1) k)) from by rw [← V_main_arg1 m c]; rfl).trans (congrArg _ ?_)
  refine Shape.idx_ext₂ ?_ ?_
  · show win0_1.index t 0 * 512 + 1 * (j 1 : ℕ) = t.val % 4 * 512 + (j 1 : ℕ)
    rw [e0]; omega
  · show win0_1.index t 1 * 2048 + 1 * (k : ℕ) = k
    rw [e1]; omega

/-- The result as a function of the argument arrays of device `c`. -/
abbrev out (c : Dev nD) : Buf (Elt Ideal) ((c.tc : Thread nD τ).loc main_v0) :=
  prod (m ((c.tc : Thread nD τ).loc main_arg0)) (m ((c.tc : Thread nD τ).loc main_arg1))

theorem flushed_eq (c : Dev nD) (t : Fin cfg0.N) : (dats m 0 c).flushed 2 t = (win0_2.blk t).view.read (Elt Ideal) (out m c) := by
  rw [Value.flushed2]
  unfold out0_2
  rw [View.canon_unit_zero hz, View.ld_unit_zero hz, View.ld_unit_zero hz]
  funext j
  refine (pay_apply _ _ j).trans ?_
  rw [Finset.sum_congr rfl fun k _ => by rw [iblk0, iblk1]]
  exact congrArg (out m c) (idx2 t j).symm

theorem cover (i : S8192x2048.Idx) : ∃ t : Fin cfg0.N, (cfg0.win 2).flush t = true ∧ i ∈ ((cfg0.win 2).blk t).view.set := by
  have h0 : (i 0 : ℕ) < 8192 := (i 0).isLt
  have h1 : (i 1 : ℕ) < 2048 := (i 1).isLt
  have ht : (i 0 : ℕ) / 1024 * 4 + (i 1 : ℕ) / 512 < cfg0.N := by rw [show cfg0.N = 32 from N_0]; omega
  obtain ⟨t, j, rfl⟩ : ∃ (t : Fin cfg0.N) (j : S1024x512.Idx), at_ t j = i := by
    refine ⟨⟨_, ht⟩, ix2 ⟨(i 0 : ℕ) % 1024, by omega⟩ ⟨(i 1 : ℕ) % 512, by omega⟩, Shape.idx_ext₂ ?_ ?_⟩
    · show ((i 0 : ℕ) / 1024 * 4 + (i 1 : ℕ) / 512) / 4 * 1024 + (i 0 : ℕ) % 1024 = (i 0 : ℕ); omega
    · show ((i 0 : ℕ) / 1024 * 4 + (i 1 : ℕ) / 512) % 4 * 512 + (i 1 : ℕ) % 512 = (i 1 : ℕ); omega
  refine ⟨t, flush0_2 t, ?_⟩
  show at_ t j ∈ ((View.whole main_v0).slice (win0_2.rect t)).set
  rw [View.set_slice_whole, ← idx2]
  exact (win0_2.rect t).idx_mem j

theorem final (c : Dev nD) : (dats m 0 c).arrAt 2 cfg0.N = out m c :=
  (dats m 0 c).arrAt_eq_of_cover 2 (out m c) (fun t _ => flushed_eq m c t) cover

end Cert.Proof.OutBwdValue

end
-- ==== Proof.DwClaims.lean ====
/-
  The claims about the weight-gradient calls and about the output projection's backward call: the frames, and that at the
  ideal instance each leaves the gradient the reference computes.
-/
module

public import proofs.«01_k».proof.Defs
public import proofs.«01_k».proof.Proof.DwFfnValue
public import proofs.«01_k».proof.Proof.DwOutValue
public import proofs.«01_k».proof.Proof.DwInValue
public import proofs.«01_k».proof.Proof.OutBwdValue
public import proofs.«01_k».proof.Proof.Gen.DwFfn.Frame
public import proofs.«01_k».proof.Proof.Gen.DwOut.Frame
public import proofs.«01_k».proof.Proof.Gen.DwIn.Frame
public import proofs.«01_k».proof.Proof.Gen.OutBwd.Frame
public import proofs.«01_k».proof.Proof.Gen.DwFfnRefIdeal.Run
public import proofs.«01_k».proof.Proof.Gen.DwFfnTRefIdeal.Run
public import proofs.«01_k».proof.Proof.Gen.DwOutRefIdeal.Run
public import proofs.«01_k».proof.Proof.Gen.DwInRefIdeal.Run
public import proofs.«01_k».proof.Proof.Gen.OutBwdRefIdeal.Run

@[expose] public section

set_option maxRecDepth 16384

noncomputable section

namespace Cert.Proof.DwClaims

open Idealize.ShloMosaic Idealize.SL.Sem
open scoped BigOperators

/-! ## The references' products, entry by entry -/

theorem ref_ffn (a : FVec Ideal Cert.DwFfnRefIdeal.S8192x5632 .bf16) (b : FVec Ideal Cert.DwFfnRefIdeal.S8192x2048 .bf16) (i : Cert.DwFfnRefIdeal.S5632x2048.Idx) :
    (truncf (F := Ideal) .bf16 (transpose Cert.DwFfnRefIdeal.S5632x2048 [1, 0] (Host.dotGeneral Cert.DwFfnRefIdeal.dot_S8192x2048_S8192x5632_S2048x5632_0_0_1_1_n_n none (extf .f32 b Cert.DwFfnRefIdeal.Gen.bitsLt_bf16_f32) (extf .f32 a Cert.DwFfnRefIdeal.Gen.bitsLt_bf16_f32)) Cert.DwFfnRefIdeal.Gen.transposes_S2048x5632_S5632x2048_1_0) Cert.DwFfnRefIdeal.Gen.bitsLt_bf16_f32 i : EReal)
      = ∑ k : Fin 8192, a (ix2 k (i 0)) * b (ix2 k (i 1)) :=
  (show _ = ∑ k : Fin 8192, b (ix2 k (i 1)) * a (ix2 k (i 0)) by pointwise).trans (Finset.sum_congr rfl fun k _ => mul_comm _ _)

theorem ref_ffn_t (a : FVec Ideal Cert.DwFfnTRefIdeal.S8192x5632 .bf16) (b : FVec Ideal Cert.DwFfnTRefIdeal.S8192x2048 .bf16) (i : Cert.DwFfnTRefIdeal.S5632x2048.Idx) :
    (truncf (F := Ideal) .bf16 (transpose Cert.DwFfnTRefIdeal.S5632x2048 [1, 0] (transpose Cert.DwFfnTRefIdeal.S2048x5632 [1, 0] (Host.dotGeneral Cert.DwFfnTRefIdeal.dot_S8192x5632_S8192x2048_S5632x2048_0_0_1_1_n_n none (extf .f32 a Cert.DwFfnTRefIdeal.Gen.bitsLt_bf16_f32) (extf .f32 b Cert.DwFfnTRefIdeal.Gen.bitsLt_bf16_f32)) Cert.DwFfnTRefIdeal.Gen.transposes_S5632x2048_S2048x5632_1_0) Cert.DwFfnTRefIdeal.Gen.transposes_S2048x5632_S5632x2048_1_0) Cert.DwFfnTRefIdeal.Gen.bitsLt_bf16_f32 i : EReal)
      = ∑ k : Fin 8192, a (ix2 k (i 0)) * b (ix2 k (i 1)) := by
  pointwise

theorem ref_out (a : FVec Ideal Cert.DwOutRefIdeal.S8192x2048 .bf16) (b : FVec Ideal Cert.DwOutRefIdeal.S8192x2048 .bf16) (i : Cert.DwOutRefIdeal.S2048x2048.Idx) :
    (truncf (F := Ideal) .bf16 (transpose Cert.DwOutRefIdeal.S2048x2048 [1, 0] (Host.dotGeneral Cert.DwOutRefIdeal.dot_S8192x2048_S8192x2048_S2048x2048_0_0_1_1_n_n none (extf .f32 b Cert.DwOutRefIdeal.Gen.bitsLt_bf16_f32) (extf .f32 a Cert.DwOutRefIdeal.Gen.bitsLt_bf16_f32)) Cert.DwOutRefIdeal.Gen.transposes_S2048x2048_S2048x2048_1_0) Cert.DwOutRefIdeal.Gen.bitsLt_bf16_f32 i : EReal)
      = ∑ k : Fin 8192, a (ix2 k (i 0)) * b (ix2 k (i 1)) :=
  (show _ = ∑ k : Fin 8192, b (ix2 k (i 1)) * a (ix2 k (i 0)) by pointwise).trans (Finset.sum_congr rfl fun k _ => mul_comm _ _)

theorem ref_in (a : FVec Ideal Cert.DwInRefIdeal.S8192x5120 .bf16) (b : FVec Ideal Cert.DwInRefIdeal.S8192x2048 .bf16) (i : Cert.DwInRefIdeal.S5120x2048.Idx) :
    (truncf (F := Ideal) .bf16 (transpose Cert.DwInRefIdeal.S5120x2048 [1, 0] (transpose Cert.DwInRefIdeal.S2048x5120 [1, 0] (Host.dotGeneral Cert.DwInRefIdeal.dot_S8192x5120_S8192x2048_S5120x2048_0_0_1_1_n_n none (extf .f32 a Cert.DwInRefIdeal.Gen.bitsLt_bf16_f32) (extf .f32 b Cert.DwInRefIdeal.Gen.bitsLt_bf16_f32)) Cert.DwInRefIdeal.Gen.transposes_S5120x2048_S2048x5120_1_0) Cert.DwInRefIdeal.Gen.transposes_S2048x5120_S5120x2048_1_0) Cert.DwInRefIdeal.Gen.bitsLt_bf16_f32 i : EReal)
      = ∑ k : Fin 8192, a (ix2 k (i 0)) * b (ix2 k (i 1)) := by
  pointwise

theorem ref_bwd (a : FVec Ideal Cert.OutBwdRefIdeal.S8192x2048 .f32) (b : FVec Ideal Cert.OutBwdRefIdeal.S2048x2048 .f32) (i : Cert.OutBwdRefIdeal.S8192x2048.Idx) :
    Host.dotGeneral (F := Ideal) Cert.OutBwdRefIdeal.dot_S8192x2048_S2048x2048_S8192x2048_1_1_0_0_n_n none a b i = ∑ k : Fin 2048, a (ix2 (i 0) k) * b (ix2 (i 1) k) := by
  pointwise

/-! ## Frames -/

theorem frame_ffn : Cert.quiescent_DwFfn := fun m ρ _ => Cert.DwFfn.Gen.frame m ρ
theorem frame_ffn_i : Cert.quiescent_DwFfnIdeal := fun m ρ _ => Cert.DwFfnIdeal.Gen.frame m ρ
theorem frame_ffn_r : Cert.quiescent_DwFfnRefIdeal := fun m ρ _ =>
  (θ_run Cert.DwFfnRefIdeal.defs _ _).mono (fun r h => ⟨fun c => (h c).2, sem_eq_zero_of_no_sems (by decide) r.2⟩) (Cert.DwFfnRefIdeal.Value.run (F := Ideal) m ρ)
theorem frame_ffn_t : Cert.quiescent_DwFfnTRefIdeal := fun m ρ _ =>
  (θ_run Cert.DwFfnTRefIdeal.defs _ _).mono (fun r h => ⟨fun c => (h c).2, sem_eq_zero_of_no_sems (by decide) r.2⟩) (Cert.DwFfnTRefIdeal.Value.run (F := Ideal) m ρ)
theorem frame_out : Cert.quiescent_DwOut := fun m ρ _ => Cert.DwOut.Gen.frame m ρ
theorem frame_out_i : Cert.quiescent_DwOutIdeal := fun m ρ _ => Cert.DwOutIdeal.Gen.frame m ρ
theorem frame_out_r : Cert.quiescent_DwOutRefIdeal := fun m ρ _ =>
  (θ_run Cert.DwOutRefIdeal.defs _ _).mono (fun r h => ⟨fun c => (h c).2, sem_eq_zero_of_no_sems (by decide) r.2⟩) (Cert.DwOutRefIdeal.Value.run (F := Ideal) m ρ)
theorem frame_in : Cert.quiescent_DwIn := fun m ρ _ => Cert.DwIn.Gen.frame m ρ
theorem frame_in_i : Cert.quiescent_DwInIdeal := fun m ρ _ => Cert.DwInIdeal.Gen.frame m ρ
theorem frame_in_r : Cert.quiescent_DwInRefIdeal := fun m ρ _ =>
  (θ_run Cert.DwInRefIdeal.defs _ _).mono (fun r h => ⟨fun c => (h c).2, sem_eq_zero_of_no_sems (by decide) r.2⟩) (Cert.DwInRefIdeal.Value.run (F := Ideal) m ρ)
theorem frame_bwd : Cert.quiescent_OutBwd := fun m ρ _ => Cert.OutBwd.Gen.frame m ρ
theorem frame_bwd_i : Cert.quiescent_OutBwdIdeal := fun m ρ _ => Cert.OutBwdIdeal.Gen.frame m ρ
theorem frame_bwd_r : Cert.quiescent_OutBwdRefIdeal := fun m ρ _ =>
  (θ_run Cert.OutBwdRefIdeal.defs _ _).mono (fun r h => ⟨fun c => (h c).2, sem_eq_zero_of_no_sems (by decide) r.2⟩) (Cert.OutBwdRefIdeal.Value.run (F := Ideal) m ρ)

/-! ## Values -/

theorem ffn : Cert.algebraic_DwFfnIdeal_DwFfnRefIdeal := by
  intro m ρ m' ρ' _ hagree
  refine ⟨fun c => DwFfnValue.out m c, ?_, ?_⟩
  · exact (θ_run Cert.DwFfnIdeal.defs _ _).mono (fun _ h c => ⟨(h c).1.trans (DwFfnValue.final m c), (h c).2⟩) (Cert.DwFfnIdeal.Value.run (F := Ideal) m ρ)
  refine (θ_run Cert.DwFfnRefIdeal.defs _ _).mono (fun _ h c => ⟨(h c).1.trans ?_, (h c).2⟩) (Cert.DwFfnRefIdeal.Value.run (F := Ideal) m' ρ')
  rw [(hagree c).1, (hagree c).2]
  funext i
  exact ref_ffn _ _ i

theorem ffn_t : Cert.algebraic_DwFfnIdeal_DwFfnTRefIdeal := by
  intro m ρ m' ρ' _ hagree
  refine ⟨fun c => DwFfnValue.out m c, ?_, ?_⟩
  · exact (θ_run Cert.DwFfnIdeal.defs _ _).mono (fun _ h c => ⟨(h c).1.trans (DwFfnValue.final m c), (h c).2⟩) (Cert.DwFfnIdeal.Value.run (F := Ideal) m ρ)
  refine (θ_run Cert.DwFfnTRefIdeal.defs _ _).mono (fun _ h c => ⟨(h c).1.trans ?_, (h c).2⟩) (Cert.DwFfnTRefIdeal.Value.run (F := Ideal) m' ρ')
  rw [(hagree c).1, (hagree c).2]
  funext i
  exact ref_ffn_t _ _ i

theorem out : Cert.algebraic_DwOutIdeal_DwOutRefIdeal := by
  intro m ρ m' ρ' _ hagree
  refine ⟨fun c => DwOutValue.out m c, ?_, ?_⟩
  · exact (θ_run Cert.DwOutIdeal.defs _ _).mono (fun _ h c => ⟨(h c).1.trans (DwOutValue.final m c), (h c).2⟩) (Cert.DwOutIdeal.Value.run (F := Ideal) m ρ)
  refine (θ_run Cert.DwOutRefIdeal.defs _ _).mono (fun _ h c => ⟨(h c).1.trans ?_, (h c).2⟩) (Cert.DwOutRefIdeal.Value.run (F := Ideal) m' ρ')
  rw [(hagree c).1, (hagree c).2]
  funext i
  exact ref_out _ _ i

theorem inn : Cert.algebraic_DwInIdeal_DwInRefIdeal := by
  intro m ρ m' ρ' _ hagree
  refine ⟨fun c => DwInValue.out m c, ?_, ?_⟩
  · exact (θ_run Cert.DwInIdeal.defs _ _).mono (fun _ h c => ⟨(h c).1.trans (DwInValue.final m c), (h c).2⟩) (Cert.DwInIdeal.Value.run (F := Ideal) m ρ)
  refine (θ_run Cert.DwInRefIdeal.defs _ _).mono (fun _ h c => ⟨(h c).1.trans ?_, (h c).2⟩) (Cert.DwInRefIdeal.Value.run (F := Ideal) m' ρ')
  rw [(hagree c).1, (hagree c).2]
  funext i
  exact ref_in _ _ i

theorem bwd : Cert.algebraic_OutBwdIdeal_OutBwdRefIdeal := by
  intro m ρ m' ρ' _ hagree
  refine ⟨fun c => OutBwdValue.out m c, ?_, ?_⟩
  · exact (θ_run Cert.OutBwdIdeal.defs _ _).mono (fun _ h c => ⟨(h c).1.trans (OutBwdValue.final m c), (h c).2⟩) (Cert.OutBwdIdeal.Value.run_blocks (F := Ideal) m ρ)
  refine (θ_run Cert.OutBwdRefIdeal.defs _ _).mono (fun _ h c => ⟨(h c).1.trans ?_, (h c).2⟩) (Cert.OutBwdRefIdeal.Value.run (F := Ideal) m' ρ')
  rw [(hagree c).1, (hagree c).2]
  funext i
  exact ref_bwd _ _ i

end Cert.Proof.DwClaims

end
-- ==== Proof.MixBody.lean ====
/-
  The backward pass of the mixer: the body run once, its outputs and scratch at some contents.
-/
module

public import proofs.«01_k».proof.Proof.Gen.MixIdeal.Frame
public import proofs.«01_k».proof.Proof.Gen.MixIdeal.Loops
public import proofs.«01_k».proof.Proof.Gen.MixIdeal.Skeleton
public import Idealize.ShloMosaic.Lib.Pipeline.FrameSuffix
public import Idealize.ShloMosaic.Lib.Tactic

@[expose] public section

set_option maxRecDepth 16384
set_option maxHeartbeats 8000000

noncomputable section

namespace Cert.MixIdeal.Hand

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-- The body's triple, for any continuation: from the twenty operands it reads at their contents and the sixteen it writes
    at any, the kernel runs to its return and hands back the first as they were and the others at some contents. -/
theorem kernelRun (c : Dev nD) (i : grid0.Coords) (arg1 : Memref sig .tc .vmem S256x5120 .f32) (harg1 : arg1.IsWhole) (arg2 : Memref sig .tc .vmem S8x5120 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x2048 .f32) (harg13 : arg13.IsWhole) (arg14 : Memref sig .tc .vmem S4x1024 .f32) (harg14 : arg14.IsWhole) (arg15 : Memref sig .tc .vmem S8x128x128 .bf16) (harg15 : arg15.IsWhole) (arg16 : Memref sig .tc .vmem S8x128x128 .bf16) (harg16 : arg16.IsWhole) (arg17 : Memref sig .tc .vmem S1x1024 .f32) (harg17 : arg17.IsWhole) (arg18 : Memref sig .tc .vmem S3x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S256x5120 .bf16) (harg21 : arg21.IsWhole) (arg22 : Memref sig .tc .vmem S16x1024 .f32) (harg22 : arg22.IsWhole) (arg23 : Memref sig .tc .vmem S8x128x128 .f32) (harg23 : arg23.IsWhole) (arg24 : Memref sig .tc .vmem S8x128x128 .f32) (harg24 : arg24.IsWhole) (arg25 : Memref sig .tc .vmem S264x1024 .f32) (harg25 : arg25.IsWhole) (arg26 : Memref sig .tc .vmem S264x1024 .f32) (harg26 : arg26.IsWhole) (arg27 : Memref sig .tc .vmem S264x1024 .f32) (harg27 : arg27.IsWhole) (arg28 : Memref sig .tc .vmem S264x1024 .f32) (harg28 : arg28.IsWhole) (arg29 : Memref sig .tc .vmem S264x1024 .f32) (harg29 : arg29.IsWhole) (arg30 : Memref sig .tc .vmem S264x1024 .f32) (harg30 : arg30.IsWhole) (arg31 : Memref sig .tc .vmem S256x1024 .f32) (harg31 : arg31.IsWhole) (arg32 : Memref sig .tc .vmem S256x1024 .f32) (harg32 : arg32.IsWhole) (arg33 : Memref sig .tc .vmem S256x1024 .f32) (harg33 : arg33.IsWhole) (arg34 : Memref sig .tc .vmem S256x5120 .f32) (harg34 : arg34.IsWhole) (arg35 : Memref sig .tc .vmem S13x8x1024 .f32) (harg35 : arg35.IsWhole) (arg36 : Memref sig .tc .vmem S8x1024 .f32) (harg36 : arg36.IsWhole)
    (X1 : S256x5120.Idx → Elt F .f32) (X2 : S8x5120.Idx → Elt F .f32) (X3 : S256x1024.Idx → Elt F .f32) (X4 : S8x1024.Idx → Elt F .f32) (X5 : S256x1024.Idx → Elt F .f32) (X6 : S256x1024.Idx → Elt F .f32) (X7 : S256x1024.Idx → Elt F .f32) (X8 : S256x1024.Idx → Elt F .f32) (X9 : S256x1024.Idx → Elt F .f32) (X10 : S256x1024.Idx → Elt F .f32) (X11 : S256x1024.Idx → Elt F .f32) (X12 : S256x1024.Idx → Elt F .f32) (X13 : S256x2048.Idx → Elt F .f32) (X14 : S4x1024.Idx → Elt F .f32) (X15 : S8x128x128.Idx → Elt F .bf16) (X16 : S8x128x128.Idx → Elt F .bf16) (X17 : S1x1024.Idx → Elt F .f32) (X18 : S3x1024.Idx → Elt F .f32) (X19 : S1x1024.Idx → Elt F .f32) (X20 : S1x1024.Idx → Elt F .f32) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20
        ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20
        ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)) -∗ K ⟨⟩))
      ⊢ wp frame (wpE (defs₀ (F := F)) Variants.none c none) Set.univ
          (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  simp only [cc0_mix_bwd_eq_skeleton]; unfold cc0_mix_bwd_skel owns
  iintro ⟨⟨%f1, %h1, I1⟩, ⟨%f2, %h2, I2⟩, ⟨%f3, %h3, I3⟩, ⟨%f4, %h4, I4⟩, ⟨%f5, %h5, I5⟩, ⟨%f6, %h6, I6⟩, ⟨%f7, %h7, I7⟩, ⟨%f8, %h8, I8⟩, ⟨%f9, %h9, I9⟩, ⟨%f10, %h10, I10⟩, ⟨%f11, %h11, I11⟩, ⟨%f12, %h12, I12⟩, ⟨%f13, %h13, I13⟩, ⟨%f14, %h14, I14⟩, ⟨%f15, %h15, I15⟩, ⟨%f16, %h16, I16⟩, ⟨%f17, %h17, I17⟩, ⟨%f18, %h18, I18⟩, ⟨%f19, %h19, I19⟩, ⟨%f20, %h20, I20⟩, ⟨%d21, %f21, -, O21⟩, ⟨%d22, %f22, -, O22⟩, ⟨%d23, %f23, -, O23⟩, ⟨%d24, %f24, -, O24⟩, ⟨%d25, %f25, -, O25⟩, ⟨%d26, %f26, -, O26⟩, ⟨%d27, %f27, -, O27⟩, ⟨%d28, %f28, -, O28⟩, ⟨%d29, %f29, -, O29⟩, ⟨%d30, %f30, -, O30⟩, ⟨%d31, %f31, -, O31⟩, ⟨%d32, %f32, -, O32⟩, ⟨%d33, %f33, -, O33⟩, ⟨%d34, %f34, -, O34⟩, ⟨%d35, %f35, -, O35⟩, ⟨%d36, %f36, -, O36⟩, Hk⟩
  subst h1 h2 h3 h4 h5 h6 h7 h8 h9 h10 h11 h12 h13 h14 h15 h16 h17 h18 h19 h20
  by_cases k0_h1 : Scalar.cmpi .ne (Scalar.extui (Scalar.cmpi .eq (BitVec.ofNat 32 (i 0).val) 0#32) : BitVec 32) 0#32 = 1#1 <;> by_cases k0_h2 : k0_cond2 i = 1#1
  all_goals
    sl_exec_parts
    sl_step
    iapply Hk
    isplitl [I1]
    · iexists _; isplitr; swap; · iexact I1
      ipureintro; rfl
    isplitl [I2]
    · iexists _; isplitr; swap; · iexact I2
      ipureintro; rfl
    isplitl [I3]
    · iexists _; isplitr; swap; · iexact I3
      ipureintro; rfl
    isplitl [I4]
    · iexists _; isplitr; swap; · iexact I4
      ipureintro; rfl
    isplitl [I5]
    · iexists _; isplitr; swap; · iexact I5
      ipureintro; rfl
    isplitl [I6]
    · iexists _; isplitr; swap; · iexact I6
      ipureintro; rfl
    isplitl [I7]
    · iexists _; isplitr; swap; · iexact I7
      ipureintro; rfl
    isplitl [I8]
    · iexists _; isplitr; swap; · iexact I8
      ipureintro; rfl
    isplitl [I9]
    · iexists _; isplitr; swap; · iexact I9
      ipureintro; rfl
    isplitl [I10]
    · iexists _; isplitr; swap; · iexact I10
      ipureintro; rfl
    isplitl [I11]
    · iexists _; isplitr; swap; · iexact I11
      ipureintro; rfl
    isplitl [I12]
    · iexists _; isplitr; swap; · iexact I12
      ipureintro; rfl
    isplitl [I13]
    · iexists _; isplitr; swap; · iexact I13
      ipureintro; rfl
    isplitl [I14]
    · iexists _; isplitr; swap; · iexact I14
      ipureintro; rfl
    isplitl [I15]
    · iexists _; isplitr; swap; · iexact I15
      ipureintro; rfl
    isplitl [I16]
    · iexists _; isplitr; swap; · iexact I16
      ipureintro; rfl
    isplitl [I17]
    · iexists _; isplitr; swap; · iexact I17
      ipureintro; rfl
    isplitl [I18]
    · iexists _; isplitr; swap; · iexact I18
      ipureintro; rfl
    isplitl [I19]
    · iexists _; isplitr; swap; · iexact I19
      ipureintro; rfl
    isplitl [I20]
    · iexists _; isplitr; swap; · iexact I20
      ipureintro; rfl
    isplitl [O21]
    · iexists _, _; isplitr; swap; · iexact O21
      ipureintro; rfl
    isplitl [O22]
    · iexists _, _; isplitr; swap; · iexact O22
      ipureintro; rfl
    isplitl [O23]
    · iexists _, _; isplitr; swap; · iexact O23
      ipureintro; rfl
    isplitl [O24]
    · iexists _, _; isplitr; swap; · iexact O24
      ipureintro; rfl
    isplitl [O25]
    · iexists _, _; isplitr; swap; · iexact O25
      ipureintro; rfl
    isplitl [O26]
    · iexists _, _; isplitr; swap; · iexact O26
      ipureintro; rfl
    isplitl [O27]
    · iexists _, _; isplitr; swap; · iexact O27
      ipureintro; rfl
    isplitl [O28]
    · iexists _, _; isplitr; swap; · iexact O28
      ipureintro; rfl
    isplitl [O29]
    · iexists _, _; isplitr; swap; · iexact O29
      ipureintro; rfl
    isplitl [O30]
    · iexists _, _; isplitr; swap; · iexact O30
      ipureintro; rfl
    isplitl [O31]
    · iexists _, _; isplitr; swap; · iexact O31
      ipureintro; rfl
    isplitl [O32]
    · iexists _, _; isplitr; swap; · iexact O32
      ipureintro; rfl
    isplitl [O33]
    · iexists _, _; isplitr; swap; · iexact O33
      ipureintro; rfl
    isplitl [O34]
    · iexists _, _; isplitr; swap; · iexact O34
      ipureintro; rfl
    isplitl [O35]
    · iexists _, _; isplitr; swap; · iexact O35
      ipureintro; rfl
    iexists _, _; isplitr; swap; · iexact O36
    ipureintro; rfl

end Cert.MixIdeal.Hand

end
-- ==== Proof.MixFrame.lean ====
/-
  The frame of the mixer's backward call. Nothing is said of what the call computes: every window's staging copy and every
  scratch array is held at some contents before and after the body, whose run is MixBody's.
-/
module

public import proofs.«01_k».proof.Proof.MixBody
public import proofs.«01_k».proof.Proof.Gen.MixIdeal.Frame

@[expose] public section

set_option maxRecDepth 16384

noncomputable section

namespace Cert.MixIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.MixIdeal.Gen

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Every window is forgotten: nothing is said of its contents. -/
abbrev fgt : Fin cfg0.W → Bool := fun _ => true

/-- The proof data: the arrays as the region finds them, the scratch arrays at some contents throughout. -/
def dats (_ : Fin 1) (c : Dev nD) : Dat τ (Elt F) Unit ℕ (UR sig nD τ) ℕ cfg0 c where
  A w := V m c (Pipeline.arrRef spec0 w)
  after w t := Dat.unnamed (cfg := cfg0) w t
  Φ _ := Pipeline.ΦA spec0 c
  q w := if (spec0 w).isOut = true then fullShare else Pipeline.shareOf spec0 w
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ X, owns (c : Thread nD τ) (win0_0.stage (cfg0.slots t 0)) fullShare X)
    ∗ (∃ X, owns (c : Thread nD τ) (win0_1.stage (cfg0.slots t 1)) fullShare X)
    ∗ (∃ X, owns (c : Thread nD τ) (win0_2.stage (cfg0.slots t 2)) fullShare X)
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X)
    ∗ (∃ X, owns (c : Thread nD τ) (win0_6.stage (cfg0.slots t 6)) fullShare X)
    ∗ (∃ X, owns (c : Thread nD τ) (win0_7.stage (cfg0.slots t 7)) fullShare X)
    ∗ (∃ X, owns (c : Thread nD τ) (win0_8.stage (cfg0.slots t 8)) fullShare X)
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X)
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X)
    ∗ (∃ X, owns (c : Thread nD τ) (win0_16.stage (cfg0.slots t 16)) fullShare X)
    ∗ (∃ X, owns (c : Thread nD τ) (win0_17.stage (cfg0.slots t 17)) fullShare X)
    ∗ (∃ X, owns (c : Thread nD τ) (win0_18.stage (cfg0.slots t 18)) fullShare X)
    ∗ (∃ X, owns (c : Thread nD τ) (win0_19.stage (cfg0.slots t 19)) fullShare X)
    ∗ (∃ X, owns (c : Thread nD τ) (win0_20.stage (cfg0.slots t 20)) fullShare X)
    ∗ (∃ X, owns (c : Thread nD τ) (win0_21.stage (cfg0.slots t 21)) fullShare X)
    ∗ (∃ X, owns (c : Thread nD τ) (win0_22.stage (cfg0.slots t 22)) fullShare X)
    ∗ (∃ X, owns (c : Thread nD τ) (win0_23.stage (cfg0.slots t 23)) fullShare X))

def bodyPost (c : Dev nD) (t : Fin cfg0.N) : sProp 𝕄 :=
  iprop((dats m 0 c).Φ t.succ ∗ (dats m 0 c).owesAt () t.succ
    ∗ (∃ X, owns (c : Thread nD τ) (win0_0.stage (cfg0.slots t 0)) fullShare X)
    ∗ (∃ X, owns (c : Thread nD τ) (win0_1.stage (cfg0.slots t 1)) fullShare X)
    ∗ (∃ X, owns (c : Thread nD τ) (win0_2.stage (cfg0.slots t 2)) fullShare X)
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X)
    ∗ (∃ X, owns (c : Thread nD τ) (win0_6.stage (cfg0.slots t 6)) fullShare X)
    ∗ (∃ X, owns (c : Thread nD τ) (win0_7.stage (cfg0.slots t 7)) fullShare X)
    ∗ (∃ X, owns (c : Thread nD τ) (win0_8.stage (cfg0.slots t 8)) fullShare X)
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X)
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X)
    ∗ (∃ X, owns (c : Thread nD τ) (win0_16.stage (cfg0.slots t 16)) fullShare X)
    ∗ (∃ X, owns (c : Thread nD τ) (win0_17.stage (cfg0.slots t 17)) fullShare X)
    ∗ (∃ X, owns (c : Thread nD τ) (win0_18.stage (cfg0.slots t 18)) fullShare X)
    ∗ (∃ X, owns (c : Thread nD τ) (win0_19.stage (cfg0.slots t 19)) fullShare X)
    ∗ (∃ X, owns (c : Thread nD τ) (win0_20.stage (cfg0.slots t 20)) fullShare X)
    ∗ (∃ X, owns (c : Thread nD τ) (win0_21.stage (cfg0.slots t 21)) fullShare X)
    ∗ (∃ X, owns (c : Thread nD τ) (win0_22.stage (cfg0.slots t 22)) fullShare X)
    ∗ (∃ X, owns (c : Thread nD τ) (win0_23.stage (cfg0.slots t 23)) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  simp only [← owns_whole]
  iintro ⟨⟨⟨S0, S1, S2, S3, S4, S5, S6, S7, S8, S9, S10, S11⟩, Hg⟩, HO, ⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩, H20, H21, H22, H23⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) X0 X1 X2 X3 X4 X5 X6 X7 X8 X9 X10 X11 X12 X13 X14 X15 X16 X17 X18 X19 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iintro ⟨H0, H1, H2, H3, H4, H5, H6, H7, H8, H9, H10, H11, H12, H13, H14, H15, H16, H17, H18, H19, H20, H21, H22, H23, S0, S1, S2, S3, S4, S5, S6, S7, S8, S9, S10, S11⟩
  isplitl [S0 S1 S2 S3 S4 S5 S6 S7 S8 S9 S10 S11 Hg]
  · isplitl [S0 S1 S2 S3 S4 S5 S6 S7 S8 S9 S10 S11]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    iexact Hg
  isplitl [HO]; · iexact HO
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexact H20
  isplitl [H21]; · iexact H21
  isplitl [H22]; · iexact H22
  iexact H23

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ fgt := fun t =>
  triple_restated (sound_body m c t) (by rw [defs₀_row]) (by rw [bigSep_W0]; exact .rfl) (fun _ => by rw [bigSep_W0]; exact .rfl)

/-! ## The launch -/

/-- The host lines after the call write these buffers. -/
abbrev tailT : Finset (Ref sig .tc) := {main_v162, main_v163, main_v164, main_v165, main_v166, main_v167, main_v168, main_v169, main_v170, main_v171, main_v172, main_v173}

set_option maxHeartbeats 800000 in
theorem sfx_T : ∀ ops ∈ ([hostOps1] : List (List (HloOp τ sig (Elt F)))), ∀ op ∈ ops,
    ∀ b : Ref sig .tc, Proc.devRef .tc b ∈ op.writes → b ∈ tailT := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl
  all_goals
    intro b hb
    simp only [StableHlo.unary_writes, StableHlo.reshape_writes, Finset.mem_singleton] at hb
    rw [Proc.devRef_injective _ hb]
    simp only [tailT, Finset.mem_insert, Finset.mem_singleton, true_or, or_true]

set_option backward.isDefEq.respectTransparency.types false in
theorem run_main :
    θ_run defs (onTc (τ := τ) (main (F := F))) (s₀ m ρ)
      (fun r => Pipeline.RDat.FramePostR (cfgs 0) (fun c => (dats m 0 c).toRForget fgt) tailT (V m) r ∧ r.2.sem = fun _ => 0) :=
  Pipeline.θ_run_frame_around_T_forget_shared (Q' := _) cfgs (dats m) (0 : Fin 1) launch₀0 defs₀ Variants.none fgt tailT m ρ main
    (hbody := fun c => body_obligation m c)
    (hq := fun c w h => by dsimp only [dats]; rw [if_neg (by rw [show (spec0 w).isOut = false from h]; decide)])
    (howed := fun _ _ => rfl) (V₀ := V0 m) (opss := [hostOps1]) (hsub := sfx_sub) (hfresh := sfx_fresh) (hkeep := sfx_keeps) (hT := sfx_T)
    (hmain := hmain m Variants.none) (hA := A_eq m) (hΦ := fun _ _ => rfl)

variable {m} in
/-- An input window's array holds what the region found in it. -/
theorem kept {r : PUnit × MemSt nD τ sig (Elt F)}
    (h : Pipeline.RDat.FramePostR (cfgs 0) (fun c => (dats m 0 c).toRForget fgt) tailT (V m) r) (c : Dev nD) (w : Fin cfg0.W)
    (hin : (cfg0.win w).isOut = false) : r.2.mem ((cfg0.spec w).arr.view.loc (c.tc : Thread nD τ)) = (dats m 0 c).A w :=
  Pipeline.RDat.FramePostR.arr_in h c w hin

set_option maxHeartbeats 4000000 in
/-- The frame: the call terminates, its arguments are unchanged, and every counter is zero at the end. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
    ∧ r.2.sem = fun _ => 0) :=
  (θ_run defs _ _).mono (fun r h => ⟨fun c => ⟨(kept h.1 c 1 rfl).trans ((A_eq m c 1).trans (V_main_arg0 m c)),
      (kept h.1 c 13 rfl).trans ((A_eq m c 13).trans (V_main_arg1 m c)),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      (kept h.1 c 16 rfl).trans ((A_eq m c 16).trans (V_main_arg7 m c)),
      (kept h.1 c 17 rfl).trans ((A_eq m c 17).trans (V_main_arg8 m c)),
      (kept h.1 c 18 rfl).trans ((A_eq m c 18).trans (V_main_arg9 m c)),
      (kept h.1 c 19 rfl).trans ((A_eq m c 19).trans (V_main_arg10 m c)),
      (kept h.1 c 12 rfl).trans ((A_eq m c 12).trans (V_main_arg11 m c))⟩, h.2⟩) (run_main m ρ)

end Cert.MixIdeal.Hand

end
-- ==== Proof.MixClaims.lean ====
/-
  The claims about the mixer's backward call: the frames of the call at both instances and of its reference.
-/
module

public import proofs.«01_k».proof.Defs
public import proofs.«01_k».proof.Proof.MixFrame
public import proofs.«01_k».proof.Proof.Gen.Mix
public import proofs.«01_k».proof.Proof.Gen.MixRefIdeal.Run

@[expose] public section

set_option maxRecDepth 16384
set_option maxHeartbeats 4000000

noncomputable section

namespace Cert.Proof.MixClaims

open Idealize.ShloMosaic Idealize.SL.Sem

/-- The program and its idealisation have the same bodies. -/
theorem same_bodies : (Cert.Mix.defs₀ (F := Bits)) = Cert.MixIdeal.defs₀ (F := Bits) := by
  unfold Cert.Mix.defs₀ Cert.MixIdeal.defs₀
  refine congrArg Defs.onTc ?_
  funext l x
  match l, x with
  | 0, (t, s) => rfl

theorem same_defs : (Cert.Mix.defs (F := Bits)) = Cert.MixIdeal.defs (F := Bits) := congrArg (Pipeline.defs _) same_bodies

theorem frame_k : Cert.quiescent_Mix := fun m ρ _ => by
  rw [same_defs]
  exact Cert.MixIdeal.Hand.frame (F := Bits) m ρ
theorem frame_ki : Cert.quiescent_MixIdeal := fun m ρ _ => Cert.MixIdeal.Hand.frame (F := Ideal) m ρ
theorem frame_r : Cert.quiescent_MixRefIdeal := fun m ρ _ =>
  (θ_run Cert.MixRefIdeal.defs _ _).mono (fun r h => ⟨fun c => (h c).2.2.2.2.2.2.2.2.2.2.2, sem_eq_zero_of_no_sems (by decide) r.2⟩)
    (Cert.MixRefIdeal.Value.run (F := Ideal) m ρ)

end Cert.Proof.MixClaims

end
-- ==== Proof.RowWindows.lean ====
/-
  Windows of whole rows: reading the rows a, a+1, … of a matrix, and putting new rows there.
-/
module

public import Idealize.ShloMosaic.Lib.VecWindow
public import Idealize.ShloMosaic.Lib.Pointwise

@[expose] public section

noncomputable section

namespace Cert.Proof.RowWindows

open Idealize.ShloMosaic

variable {α : Type} {M N n : ℕ}

/-- Row `r` of the window of `n` rows from row `a` on is row `a + r`. -/
theorem window_rows (x : (⟨2, ![M, N]⟩ : Shape).Idx → α) (a : ℕ) (inb : ∀ b, (![a, 0] : Fin 2 → ℕ) b + (![n, N] : Fin 2 → ℕ) b ≤ (⟨2, ![M, N]⟩ : Shape).size b)
    (r : Fin n) (q : Fin N) (h : a + r.val < M) :
    VecWindow.window x ![a, 0] ![n, N] inb (ix2 r q) = x (ix2 ⟨a + r.val, h⟩ q) := by
  unfold VecWindow.window
  refine congrArg x (Shape.idx_ext₂ ?_ ?_)
  · show a + 1 * r.val = a + r.val
    omega
  · show 0 + 1 * q.val = q.val
    omega

/-- After putting `n` rows from row `a` on, a row among them is the new one. -/
theorem put_rows_in (x : (⟨2, ![M, N]⟩ : Shape).Idx → α) (a : ℕ) (w : (⟨2, ![n, N]⟩ : Shape).Idx → α) (p : Fin M) (q : Fin N) (h0 : a ≤ p.val) (h1 : p.val < a + n) :
    VecWindow.put (s := ⟨2, ![M, N]⟩) x ![a, 0] ![n, N] w (ix2 p q) = w (ix2 ⟨p.val - a, by omega⟩ q) := by
  unfold VecWindow.put
  have h : ∀ b : Fin 2, (![a, 0] : Fin 2 → ℕ) b ≤ (ix2 p q b).val ∧ (ix2 p q b).val < (![a, 0] : Fin 2 → ℕ) b + (![n, N] : Fin 2 → ℕ) b := by
    intro b
    match b with
    | ⟨0, _⟩ => exact ⟨h0, h1⟩
    | ⟨1, _⟩ => exact ⟨Nat.zero_le _, by show q.val < 0 + N; have := q.isLt; omega⟩
  refine (dif_pos h).trans (congrArg w (Shape.idx_ext₂ rfl rfl))

/-- A row outside is what it was. -/
theorem put_rows_out (x : (⟨2, ![M, N]⟩ : Shape).Idx → α) (a : ℕ) (w : (⟨2, ![n, N]⟩ : Shape).Idx → α) (p : Fin M) (q : Fin N) (h0 : p.val < a ∨ a + n ≤ p.val) :
    VecWindow.put (s := ⟨2, ![M, N]⟩) x ![a, 0] ![n, N] w (ix2 p q) = x (ix2 p q) := by
  unfold VecWindow.put
  refine dif_neg fun h => ?_
  have e : a ≤ p.val ∧ p.val < a + n := h (0 : Fin 2)
  omega

end Cert.Proof.RowWindows

end
-- ==== Proof.BlockSums.lean ====
/-
  A sum taken over blocks of `w` indices, one after the other, is the sum over all of them: in the extended reals the order
  of a finite sum does not matter.
-/
module

public import Idealize.ShloMosaic.PureOps.Ideal
public import Idealize.ShloMosaic.Lib.Tactic

@[expose] public section

noncomputable section

namespace Cert.Proof.BlockSums

open scoped BigOperators

/-- The sum of `g` over the first `n` blocks of `w` indices. -/
def blocks (w : ℕ) (g : ℕ → EReal) (n : ℕ) : EReal := ∑ u ∈ Finset.range n, ∑ k : Fin w, g (w * u + k.val)

theorem blocks_one (w : ℕ) (g : ℕ → EReal) : blocks w g 1 = ∑ k : Fin w, g (w * 0 + k.val) := by
  unfold blocks; rw [Finset.sum_range_one]

theorem blocks_succ (w : ℕ) (g : ℕ → EReal) (n : ℕ) : blocks w g (n + 1) = blocks w g n + ∑ k : Fin w, g (w * n + k.val) := by
  unfold blocks; rw [Finset.sum_range_succ]

theorem blocks_eq_range (w : ℕ) (g : ℕ → EReal) (n : ℕ) : blocks w g n = ∑ k ∈ Finset.range (w * n), g k := by
  induction n with
  | zero => simp [blocks]
  | succ n ih =>
    rw [blocks_succ, ih, Nat.mul_succ, Finset.sum_range_add, Finset.sum_range (fun x => g (w * n + x))]

end Cert.Proof.BlockSums

end
-- ==== Proof.MmResValue.lean ====
/-
  What the second feed-forward layer's down projection leaves in its result: the residual plus half the product. Each row
  block is accumulated in the result's block over four column blocks of the first operand; at the last, eight chunks of
  128 rows are scaled and the residual added.
-/
module

public import proofs.«01_k».proof.Proof.RowWindows
public import proofs.«01_k».proof.Proof.BlockSums
public import proofs.«01_k».proof.Proof.Gen.MmResIdeal.Value
public import Idealize.ShloMosaic.Lib.Pipeline.Value

@[expose] public section

set_option maxRecDepth 16384

noncomputable section

namespace Cert.Proof.MmResValue

open Idealize.ShloMosaic Idealize.ShloMosaic.TcCoe Idealize.SL.Sem Cert.MmResIdeal Cert.MmResIdeal.Gen Cert.Proof.RowWindows Cert.Proof.BlockSums
open Idealize.ShloMosaic.Pipeline (Dat)
open scoped BigOperators

variable (m : (ℓ : Loc nD τ sig) → Buf (Elt Ideal) ℓ)

/-- The float word of one half, as it is read. -/
abbrev half : EReal := Ideal.ofBits .f32 0x3F000000#32

/-- The contribution of contraction index `k` to entry (p, q) of the product (nothing beyond the last). -/
def term (a : S8192x5632.Idx → EReal) (b : S5632x2048.Idx → EReal) (p : Fin 8192) (q : Fin 2048) (k : ℕ) : EReal :=
  if h : k < 5632 then a (ix2 p ⟨k, h⟩) * b (ix2 ⟨k, h⟩ q) else 0

theorem hz : (![0, 0] : Fin 2 → Nat) = fun _ => 0 := funext fun a => by fin_cases a <;> rfl

theorem pay1_apply (j : S1024x2048.Idx) : (k0_pay1 (F := Ideal)) j = 0 := by
  unfold k0_pay1
  pointwise

theorem pay2_apply (v3 : Vec Ideal S1024x2048 .f32) (v5 : Vec Ideal S1024x1408 .bf16) (v6 : Vec Ideal S1408x2048 .bf16) (j : S1024x2048.Idx) :
    k0_pay2 v3 v5 v6 j = v3 j + ∑ k : Fin 1408, v5 (ix2 (j 0) k) * v6 (ix2 k (j 1)) := by
  unfold k0_pay2
  pointwise

theorem pay3_apply (v17 v19 : Vec Ideal S128x2048 .f32) (j : S128x2048.Idx) : k0_pay3 v17 v19 j = v17 j + half * v19 j := by
  unfold k0_pay3
  pointwise

/-! ## The chunk loop -/

section Chunks
variable (c : Dev nD) (i : grid0.Coords) (a2 : Memref sig .tc .vmem S1024x1408 .bf16) (h2 : a2.IsWhole)
  (a3 : Memref sig .tc .vmem S1408x2048 .bf16) (h3 : a3.IsWhole) (a4 : Memref sig .tc .vmem S1024x2048 .f32) (h4 : a4.IsWhole)
  (a5 : Memref sig .tc .vmem S1024x2048 .f32) (h5 : a5.IsWhole)

theorem chunk_inb (k : ℕ) (hk : k < 8) : ∀ b, (![128 * k, 0] : Fin 2 → ℕ) b + S128x2048.size b ≤ S1024x2048.size b := by
  intro b
  match b with
  | ⟨0, _⟩ => show 128 * k + 128 ≤ 1024; omega
  | ⟨1, _⟩ => show 0 + 2048 ≤ 2048; omega

/-- After `k` chunks the rows before `128 k` hold the residual plus half of what was there, the others what was there. -/
theorem chunks (hc : cond0_1 i) (X : BufTy.Contents (Elt Ideal) a4.view.ty) (G : BufTy.Contents (Elt Ideal) a5.view.ty) (p : Fin 1024) (q : Fin 2048) :
    ∀ k : ℕ, k ≤ 8 →
    a5.view.read (Elt Ideal) (a5.view.writes (Elt Ideal) G (pb_k0_t1 (F := Ideal) Variants.none c none i a2 h2 a3 h3 a4 h4 a5 h5 hc X G k)) (ix2 p q)
      = if p.val < 128 * k then a4.view.read (Elt Ideal) X (ix2 p q) + half * a5.view.read (Elt Ideal) G (ix2 p q) else a5.view.read (Elt Ideal) G (ix2 p q) := by
  intro k
  induction k generalizing p with
  | zero => intro _; rw [if_neg (by omega)]; rfl
  | succ k ih =>
    intro hk
    have htr : k0_t1_loop.trips = 8 := by decide +kernel
    have eo : k0_off1 ⟨k, by rw [htr]; omega⟩ = ![128 * k, 0] := k0_off1_eq _
    rw [show k + 1 = (⟨k, by rw [htr]; omega⟩ : Fin k0_t1_loop.trips).val + 1 from rfl, pb_k0_t1_succ]
    unfold tripL_k0_t1 trip_k0_t1
    dsimp only
    rw [List.cons_append, List.nil_append, View.read_writes_cons_put _ _ _ _ _ eo]
    by_cases h1 : 128 * k ≤ p.val ∧ p.val < 128 * k + 128
    · rw [put_rows_in _ _ _ p q h1.1 h1.2, pay3_apply, if_pos (by omega)]
      rw [View.readAt_unit _ _ _ eo (chunk_inb k (by omega)), View.readAt_unit _ _ _ eo (chunk_inb k (by omega))]
      have hp : 128 * k + (p.val - 128 * k) < 1024 := by have := p.isLt; omega
      have e : (⟨128 * k + (p.val - 128 * k), hp⟩ : Fin 1024) = p := Fin.ext (by show 128 * k + (p.val - 128 * k) = p.val; omega)
      rw [window_rows _ _ _ _ _ hp, window_rows _ _ _ _ _ hp, ih _ (by omega), e, if_neg (by omega)]
    · rw [put_rows_out _ _ _ p q (by omega), ih p (by omega)]
      by_cases h2 : p.val < 128 * k
      · rw [if_pos h2, if_pos (by omega)]
      · rw [if_neg h2, if_neg (by omega)]

end Chunks

/-! ## One point's step -/

section Steps
variable (c : Dev nD) (i : grid0.Coords) (a2 : Memref sig .tc .vmem S1024x1408 .bf16) (h2 : a2.IsWhole)
  (a3 : Memref sig .tc .vmem S1408x2048 .bf16) (h3 : a3.IsWhole) (a4 : Memref sig .tc .vmem S1024x2048 .f32) (h4 : a4.IsWhole)
  (a5 : Memref sig .tc .vmem S1024x2048 .f32) (h5 : a5.IsWhole)
  (x0 : Vec Ideal S1024x1408 .bf16) (x1 : Vec Ideal S1408x2048 .bf16) (x2 xo : Vec Ideal S1024x2048 .f32)

theorem out_A (hc0 : cond0_0 i) (hc1 : ¬cond0_1 i) : out0_A_3 c i a2 h2 a3 h3 a4 h4 a5 h5 hc0 hc1 x0 x1 x2 = k0_pay2 k0_pay1 x0 x1 := by
  unfold out0_A_3
  rw [View.read_writes_eq_canon _ _ _ (cover0_A_3 c i a2 h2 a3 h3 a4 h4 a5 h5 hc0 hc1 x0 x1 x2)]
  unfold kernelRun0_A
  dsimp only
  sl_unfold_words
  rw [View.canon_cons_unit_zero (S := S1024x2048) hz, View.readCov_unit_zero (S := S1024x2048) _ hz]
  simp only [View.readAt_eq_ld, h2.read_unread, h3.read_unread, View.ld_unit_zero (S := S1024x1408) hz, View.ld_unit_zero (S := S1408x2048) hz]

theorem out_B (hc0 : ¬cond0_0 i) (hc1 : ¬cond0_1 i) : out0_B_3 c i a2 h2 a3 h3 a4 h4 a5 h5 hc0 hc1 x0 x1 x2 xo = k0_pay2 xo x0 x1 := by
  unfold out0_B_3
  rw [View.read_writes_eq_canon _ _ _ (cover0_B_3 c i a2 h2 a3 h3 a4 h4 a5 h5 hc0 hc1 x0 x1 x2 xo)]
  unfold kernelRun0_B
  dsimp only
  sl_unfold_words
  rw [View.canon_unit_zero (S := S1024x2048) hz]
  simp only [View.readAt_eq_ld, h2.read_unread, h3.read_unread, h5.read_unread, View.ld_unit_zero (S := S1024x1408) hz, View.ld_unit_zero (S := S1408x2048) hz,
    View.ld_unit_zero (S := S1024x2048) hz]

theorem out_C (hc0 : ¬cond0_0 i) (hc1 : cond0_1 i) (j : S1024x2048.Idx) :
    out0_C_3 c i a2 h2 a3 h3 a4 h4 a5 h5 hc0 hc1 x0 x1 x2 xo j = x2 j + half * k0_pay2 xo x0 x1 j := by
  obtain ⟨p, q, rfl⟩ : ∃ p q, j = ix2 p q := ⟨j 0, j 1, eq_ix2 j⟩
  unfold out0_C_3
  rw [← View.read_writes_of_cover a5.view a5.view.junk _ _ _ (cover0_C_3 c i a2 h2 a3 h3 a4 h4 a5 h5 hc0 hc1 x0 x1 x2 xo)]
  unfold kernelRun0_C
  dsimp only
  sl_unfold_words
  rw [View.writes_append]
  rw [chunks c i a2 h2 a3 h3 a4 h4 a5 h5 hc1 _ _ p q _ (by decide +kernel), if_pos (by have := p.isLt; rw [show Scf.trips (0#32) (Scalar.addi 0#32 8#32) 1#32 = 8 from by decide +kernel]; omega)]
  rw [View.read_writes_full a5.view]
  simp only [View.readAt_eq_ld, h2.read_unread, h3.read_unread, h4.read_unread, h5.read_unread, View.ld_unit_zero (S := S1024x1408) hz, View.ld_unit_zero (S := S1408x2048) hz,
    View.ld_unit_zero (S := S1024x2048) hz]

end Steps

/-! ## Where the blocks lie -/

/-- Point `t` of the (8, 4) grid takes row block `t / 4` and contraction block `t % 4`. -/
theorem index_of : ∀ t : Fin grid0.N, win0_0.index t 0 = t.val / 4 ∧ win0_0.index t 1 = t.val % 4
    ∧ win0_1.index t 0 = t.val % 4 ∧ win0_1.index t 1 = 0 ∧ win0_2.index t 0 = t.val / 4 ∧ win0_2.index t 1 = 0
    ∧ win0_3.index t 0 = t.val / 4 ∧ win0_3.index t 1 = 0 := by
  decide +kernel

theorem lt_pts (t : Fin cfg0.N) : t.val < 32 := lt_of_lt_of_eq t.isLt (show cfg0.N = 32 from N_0)

/-- Row `p` of the row block of point `t`. -/
def row (t : ℕ) (ht : t < 32) (p : Fin 1024) : Fin 8192 := ⟨t / 4 * 1024 + p.val, by have := p.isLt; omega⟩

theorem iblk0 (c : Dev nD) (t : Fin cfg0.N) (p : Fin 1024) (k : Fin 1408) (hk : 1408 * (t.val % 4) + k.val < 5632) :
    iblk m c 0 t (ix2 p k) = m ((c.tc : Thread nD τ).loc main_arg0) (ix2 (row t.val (lt_pts t) p) ⟨1408 * (t.val % 4) + k.val, hk⟩) := by
  obtain ⟨e0, e1, -⟩ := index_of t
  refine (show _ = m ((c.tc : Thread nD τ).loc main_arg0) ((win0_0.rect t).idx (ix2 p k)) from by rw [← V_main_arg0 m c]; rfl).trans (congrArg _ ?_)
  refine Shape.idx_ext₂ ?_ ?_
  · show win0_0.index t 0 * 1024 + 1 * (p : ℕ) = t.val / 4 * 1024 + p.val
    rw [e0]; omega
  · show win0_0.index t 1 * 1408 + 1 * (k : ℕ) = 1408 * (t.val % 4) + k.val
    rw [e1]; omega

theorem iblk1 (c : Dev nD) (t : Fin cfg0.N) (k : Fin 1408) (q : Fin 2048) (hk : 1408 * (t.val % 4) + k.val < 5632) :
    iblk m c 1 t (ix2 k q) = m ((c.tc : Thread nD τ).loc main_arg1) (ix2 ⟨1408 * (t.val % 4) + k.val, hk⟩ q) := by
  obtain ⟨-, -, e0, e1, -⟩ := index_of t
  refine (show _ = m ((c.tc : Thread nD τ).loc main_arg1) ((win0_1.rect t).idx (ix2 k q)) from by rw [← V_main_arg1 m c]; rfl).trans (congrArg _ ?_)
  refine Shape.idx_ext₂ ?_ ?_
  · show win0_1.index t 0 * 1408 + 1 * (k : ℕ) = 1408 * (t.val % 4) + k.val
    rw [e0]; omega
  · show win0_1.index t 1 * 2048 + 1 * (q : ℕ) = q
    rw [e1]; omega

theorem iblk2 (c : Dev nD) (t : Fin cfg0.N) (p : Fin 1024) (q : Fin 2048) :
    iblk m c 2 t (ix2 p q) = m ((c.tc : Thread nD τ).loc main_arg2) (ix2 (row t.val (lt_pts t) p) q) := by
  obtain ⟨-, -, -, -, e0, e1, -⟩ := index_of t
  refine (show _ = m ((c.tc : Thread nD τ).loc main_arg2) ((win0_2.rect t).idx (ix2 p q)) from by rw [← V_main_arg2 m c]; rfl).trans (congrArg _ ?_)
  refine Shape.idx_ext₂ ?_ ?_
  · show win0_2.index t 0 * 1024 + 1 * (p : ℕ) = t.val / 4 * 1024 + p.val
    rw [e0]; omega
  · show win0_2.index t 1 * 2048 + 1 * (q : ℕ) = q
    rw [e1]; omega

/-- Contraction index `k`'s contribution to entry `j` of point `t`'s block. -/
abbrev g (c : Dev nD) (t : ℕ) (ht : t < 32) (j : S1024x2048.Idx) : ℕ → EReal :=
  term (m ((c.tc : Thread nD τ).loc main_arg0)) (m ((c.tc : Thread nD τ).loc main_arg1)) (row t ht (j 0)) (j 1)

/-- A point adds its contraction block's contributions. -/
theorem step (c : Dev nD) (t : Fin cfg0.N) (xs : Vec Ideal S1024x2048 .f32) (j : S1024x2048.Idx) :
    k0_pay2 xs (iblk m c 0 t) (iblk m c 1 t) j = xs j + ∑ k : Fin 1408, g m c t.val (lt_pts t) j (1408 * (t.val % 4) + k.val) := by
  rw [pay2_apply]
  congr 1
  refine Finset.sum_congr rfl fun k _ => ?_
  have hk : 1408 * (t.val % 4) + k.val < 5632 := by have := k.isLt; omega
  rw [iblk0 m c t (j 0) k hk, iblk1 m c t k (j 1) hk]
  unfold g term
  rw [dif_pos hk]

theorem g_congr (c : Dev nD) (t t' : ℕ) (ht : t < 32) (ht' : t' < 32) (e : t / 4 = t' / 4) (j : S1024x2048.Idx) : g m c t ht j = g m c t' ht' j := by
  have ec : row t ht (j 0) = row t' ht' (j 0) := Fin.ext (by show t / 4 * 1024 + _ = t' / 4 * 1024 + _; rw [e])
  unfold g; rw [ec]

/-! ## The block in place, point by point -/

theorem acc_A (c : Dev nD) (t : Fin cfg0.N) (h0 : t.val % 4 = 0) :
    outsAt0 m c t.val t.isLt = k0_pay2 k0_pay1 (iblk m c 0 t) (iblk m c 1 t) := by
  have h1 : ¬t.val % 4 = 3 := by omega
  rw [outsAt0_A m c t h0 h1]
  exact out_A c _ _ _ _ _ _ _ _ _ _ _ _ _ _

theorem acc_B (c : Dev nD) (t : Fin cfg0.N) (h0 : ¬t.val % 4 = 0) (h1 : ¬t.val % 4 = 3) :
    outsAt0 m c t.val t.isLt
      = k0_pay2 (outsAt0 m c (t.val - 1) (Nat.lt_of_le_of_lt (Nat.sub_le _ _) t.isLt)) (iblk m c 0 t) (iblk m c 1 t) := by
  rw [outsAt0_B m c t h0 h1]
  exact out_B c _ _ _ _ _ _ _ _ _ _ _ _ _ _ _

/-- The residual's block at point `t`. -/
abbrev resid (c : Dev nD) (t : Fin cfg0.N) : S1024x2048.Idx → EReal := iblk m c 2 t

theorem acc_C (c : Dev nD) (t : Fin cfg0.N) (h1 : t.val % 4 = 3) (j : S1024x2048.Idx) :
    outsAt0 m c t.val t.isLt j
      = resid m c t j + half * k0_pay2 (outsAt0 m c (t.val - 1) (Nat.lt_of_le_of_lt (Nat.sub_le _ _) t.isLt)) (iblk m c 0 t) (iblk m c 1 t) j := by
  have h0 : ¬t.val % 4 = 0 := by omega
  rw [outsAt0_C m c t h0 h1]
  exact out_C c _ _ _ _ _ _ _ _ _ _ _ _ _ _ _ _

/-- What the block holds after point `n`, unless it is the last of its row block: the contributions met since the row block began. -/
theorem acc_eq (c : Dev nD) (j : S1024x2048.Idx) : ∀ (n : ℕ) (h : n < cfg0.N) (h' : n < 32), ¬n % 4 = 3 →
    outsAt0 m c n h j = blocks 1408 (g m c n h' j) (n % 4 + 1) := by
  intro n
  induction n with
  | zero =>
    intro h h' _
    refine (congrFun (acc_A m c ⟨0, h⟩ rfl) j).trans ?_
    rw [step, pay1_apply, zero_add]
    exact (blocks_one _ _).symm
  | succ n ih =>
    intro h h' h1
    by_cases h0 : (n + 1) % 4 = 0
    · refine (congrFun (acc_A m c ⟨n + 1, h⟩ h0) j).trans ?_
      rw [step, pay1_apply, zero_add, blocks_succ, h0, blocks, Finset.range_zero, Finset.sum_empty, zero_add]
    · have e : (n + 1) % 4 = n % 4 + 1 := by omega
      refine (congrFun (acc_B m c ⟨n + 1, h⟩ h0 h1) j).trans ?_
      rw [step, blocks_succ _ _ ((n + 1) % 4), e]
      congr 1
      exact (ih (Nat.lt_of_succ_lt h) (by omega) (by omega)).trans (by rw [g_congr m c n (n + 1) (by omega) h' (by omega) j])

/-- The call's result as a function of its three arguments. -/
def res (a : S8192x5632.Idx → EReal) (b : S5632x2048.Idx → EReal) (x : S8192x2048.Idx → EReal) (i : S8192x2048.Idx) : EReal :=
  x i + half * ∑ k : Fin 5632, a (ix2 (i 0) k) * b (ix2 k (i 1))

/-- What the last point of a row block leaves: the residual plus half of the whole product. -/
theorem out_eq (c : Dev nD) (t : Fin cfg0.N) (h1 : t.val % 4 = 3) (p : Fin 1024) (q : Fin 2048) :
    outsAt0 m c t.val t.isLt (ix2 p q) = res (m ((c.tc : Thread nD τ).loc main_arg0)) (m ((c.tc : Thread nD τ).loc main_arg1))
      (m ((c.tc : Thread nD τ).loc main_arg2)) (ix2 (row t.val (lt_pts t) p) q) := by
  have hs := acc_eq m c (ix2 p q) (t.val - 1) (Nat.lt_of_le_of_lt (Nat.sub_le _ _) t.isLt) (by have := lt_pts t; omega) (by omega)
  rw [acc_C m c t h1, step, hs, show resid m c t (ix2 p q) = _ from iblk2 m c t p q, g_congr m c (t.val - 1) t.val (by have := lt_pts t; omega) (lt_pts t) (by omega) _, show (t.val - 1) % 4 + 1 = 3 by omega, h1,
    ← blocks_succ, blocks_eq_range, Finset.sum_range]
  unfold res
  congr 2

/-- The result as a function of the argument arrays of device `c`. -/
abbrev out (c : Dev nD) : Buf (Elt Ideal) ((c.tc : Thread nD τ).loc main_v0) :=
  res (m ((c.tc : Thread nD τ).loc main_arg0)) (m ((c.tc : Thread nD τ).loc main_arg1)) (m ((c.tc : Thread nD τ).loc main_arg2))

theorem idx3 (t : Fin cfg0.N) (p : Fin 1024) (q : Fin 2048) : (win0_3.rect t).idx (ix2 p q) = ix2 (row t.val (lt_pts t) p) q := by
  obtain ⟨-, -, -, -, -, -, e0, e1⟩ := index_of t
  refine Shape.idx_ext₂ ?_ ?_
  · show win0_3.index t 0 * 1024 + 1 * (p : ℕ) = t.val / 4 * 1024 + p.val
    rw [e0]; omega
  · show win0_3.index t 1 * 2048 + 1 * (q : ℕ) = q
    rw [e1]; omega

theorem flushed_eq (c : Dev nD) (t : Fin cfg0.N) (h1 : t.val % 4 = 3) :
    (dats m 0 c).flushed 3 t = (win0_3.blk t).view.read (Elt Ideal) (out m c) := by
  rw [Value.flushed3]
  funext j
  obtain ⟨p, q, rfl⟩ : ∃ p q, j = ix2 p q := ⟨j 0, j 1, eq_ix2 j⟩
  exact (out_eq m c t h1 p q).trans (congrArg (out m c) (idx3 t p q).symm)

theorem cover (i : S8192x2048.Idx) : ∃ t : Fin cfg0.N, (cfg0.win 3).flush t = true ∧ i ∈ ((cfg0.win 3).blk t).view.set := by
  have h0 : (i 0 : ℕ) < 8192 := (i 0).isLt
  have ht : (i 0 : ℕ) / 1024 * 4 + 3 < cfg0.N := by rw [show cfg0.N = 32 from N_0]; omega
  obtain ⟨t, p, q, h3, rfl⟩ : ∃ (t : Fin cfg0.N) (p : Fin 1024) (q : Fin 2048), t.val % 4 = 3 ∧ ix2 (row t.val (lt_pts t) p) q = i := by
    refine ⟨⟨_, ht⟩, ⟨(i 0 : ℕ) % 1024, by omega⟩, i 1, by show ((i 0 : ℕ) / 1024 * 4 + 3) % 4 = 3; omega, Shape.idx_ext₂ ?_ rfl⟩
    show ((i 0 : ℕ) / 1024 * 4 + 3) / 4 * 1024 + (i 0 : ℕ) % 1024 = (i 0 : ℕ); omega
  refine ⟨t, (flush0_3 t).mpr h3, ?_⟩
  show ix2 (row t.val (lt_pts t) p) q ∈ ((View.whole main_v0).slice (win0_3.rect t)).set
  rw [View.set_slice_whole, ← idx3]
  exact (win0_3.rect t).idx_mem _

theorem final (c : Dev nD) : (dats m 0 c).arrAt 3 cfg0.N = out m c :=
  (dats m 0 c).arrAt_eq_of_cover 3 (out m c) (fun t hf => flushed_eq m c t ((flush0_3 t).mp hf)) cover

end Cert.Proof.MmResValue

end
-- ==== Proof.MmResClaims.lean ====
/-
  The claims about the second feed-forward layer's down projection: the frames, and that at the ideal instance it leaves
  the residual plus half the product, as the reference does.
-/
module

public import proofs.«01_k».proof.Defs
public import proofs.«01_k».proof.Proof.MmResValue
public import proofs.«01_k».proof.Proof.Gen.MmRes.Frame
public import proofs.«01_k».proof.Proof.Gen.MmResRefIdeal.Run

@[expose] public section

set_option maxRecDepth 16384

noncomputable section

namespace Cert.Proof.MmResClaims

open Idealize.ShloMosaic Idealize.SL.Sem
open scoped BigOperators

theorem frame : Cert.quiescent_MmRes := fun m ρ _ => Cert.MmRes.Gen.frame m ρ
theorem frame_i : Cert.quiescent_MmResIdeal := fun m ρ _ => Cert.MmResIdeal.Gen.frame m ρ
theorem frame_r : Cert.quiescent_MmResRefIdeal := fun m ρ _ =>
  (θ_run Cert.MmResRefIdeal.defs _ _).mono (fun r h => ⟨fun c => (h c).2, sem_eq_zero_of_no_sems (by decide) r.2⟩) (Cert.MmResRefIdeal.Value.run (F := Ideal) m ρ)

open Cert.MmResRefIdeal Cert.MmResRefIdeal.Gen in
theorem ref (a : FVec Ideal S8192x5632 .bf16) (b : FVec Ideal S5632x2048 .bf16) (x : FVec Ideal S8192x2048 .f32) (i : S8192x2048.Idx) :
    addf (F := Ideal) x (mulf (broadcastInDim S8192x2048 ![] bcast_S_S8192x2048 (constant S_ .f32 0x3F000000#32)) (Host.dotGeneral dot_S8192x5632_S5632x2048_S8192x2048_1_0_0_1_n_n none (extf .f32 a bitsLt_bf16_f32) (extf .f32 b bitsLt_bf16_f32))) i
      = MmResValue.res a b x i := by
  unfold MmResValue.res
  pointwise

theorem value : Cert.algebraic_MmResIdeal_MmResRefIdeal := by
  intro m ρ m' ρ' _ hagree
  refine ⟨fun c => MmResValue.out m c, ?_, ?_⟩
  · exact (θ_run Cert.MmResIdeal.defs _ _).mono (fun _ h c => ⟨(h c).1.trans (MmResValue.final m c), (h c).2⟩) (Cert.MmResIdeal.Value.run_blocks (F := Ideal) m ρ)
  refine (θ_run Cert.MmResRefIdeal.defs _ _).mono (fun _ h c => ⟨(h c).1.trans ?_, (h c).2⟩) (Cert.MmResRefIdeal.Value.run (F := Ideal) m' ρ')
  rw [(hagree c).1, (hagree c).2.1, (hagree c).2.2]
  funext i
  exact ref _ _ _ i

end Cert.Proof.MmResClaims

end
-- ==== Proof.RmsFfnRing.lean ====
/-
  The two chunk rings of the RMS-norm backward call: the input `x` and the gradient `dx_in` lie in HBM and are
  copied in 128-row chunks into two slots of a scratch array each, chunk `k` of a row block into slot `k % 2`.

  This module names the pieces — chunk `b` of an array, slot `s` of a scratch array, the semaphore of slot `s` and
  ring `j` — and rewrites the body's computed slices to these names.
-/
module

public import proofs.«01_k».proof.Defs
public import proofs.«01_k».proof.Proof.Gen.RmsFfnIdeal.Launch
public import proofs.«01_k».proof.Proof.Gen.RmsFfnIdeal.Skeleton
public import proofs.«01_k».proof.Proof.Gen.RmsFfnIdeal.Loops
public import proofs.«01_k».proof.Proof.Gen.RmsFfnIdeal.Points
public import Idealize.ShloMosaic.Lib.Pipeline.Frame
public import Idealize.ShloMosaic.Lib.Ring
public import Idealize.ShloMosaic.Lib.Tactic

@[expose] public section

set_option maxRecDepth 16384

noncomputable section

namespace Cert.Proof.RmsFfnRing

open Cert.RmsFfnIdeal Cert.RmsFfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

abbrev 𝒱₀ : Variants := Variants.none

/-! ## Names: the two arrays in HBM, their scratch arrays, a chunk, a slot, a semaphore -/

abbrev xM : Memref sig .tc .hbm S8192x2048 .f32 := Memref.whole main_arg4
abbrev dM : Memref sig .tc .hbm S8192x2048 .f32 := Memref.whole main_arg6
abbrev xB : Memref sig .tc .vmem S2x128x2048 .f32 := Memref.whole cc0_scratch0
abbrev dB : Memref sig .tc .vmem S2x128x2048 .f32 := Memref.whole cc0_scratch1

abbrev chunkOff (b : Fin 64) : Fin 2 → Nat := ![128 * b.val, 0]
theorem chunkOff_inb (b : Fin 64) : ∀ a, chunkOff b a + S128x2048.size a ≤ S8192x2048.size a := by
  have := b.isLt; intro a; fin_cases a
  · show 128 * b.val + 128 ≤ 8192; omega
  · show 0 + 2048 ≤ 2048; omega
abbrev slotOff (s : Fin 2) : Fin 3 → Nat := ![s.val, 0, 0]
theorem slotOff_inb (s : Fin 2) : ∀ a, slotOff s a + S1x128x2048.size a ≤ S2x128x2048.size a := by
  have := s.isLt; intro a; fin_cases a
  · show s.val + 1 ≤ 2; omega
  · show 0 + 128 ≤ 128; omega
  · show 0 + 2048 ≤ 2048; omega
abbrev semOff (s j : Fin 2) : Fin 2 → Nat := ![s.val, j.val]
theorem semOff_inb (s j : Fin 2) : ∀ a, semOff s j a + S1x1.size a ≤ S2x2.size a := by
  have := s.isLt; have := j.isLt; intro a; fin_cases a
  · show s.val + 1 ≤ 2; omega
  · show j.val + 1 ≤ 2; omega

/-- Chunk `b` of an array in HBM: rows `128 b … 128 b + 127`. -/
def chunk (A : Memref sig .tc .hbm S8192x2048 .f32) (b : Fin 64) : Memref sig .tc .hbm S128x2048 .f32 :=
  A.slice (Rect.unit (s := S8192x2048) (chunkOff b) S128x2048.size (chunkOff_inb b)) (fun _ => rfl)
/-- Slot `s` of a scratch array. -/
def slot (B : Memref sig .tc .vmem S2x128x2048 .f32) (s : Fin 2) : Memref sig .tc .vmem S128x2048 .f32 :=
  (B.slice (Rect.unit (s := S2x128x2048) (slotOff s) S1x128x2048.size (slotOff_inb s)) (fun _ => rfl)).squeeze S128x2048 squeezes_S1x128x2048_S128x2048
/-- The semaphore of slot `s` of ring `j`. -/
def sem (s j : Fin 2) : DmaSems sig S_ :=
  (cc0_scratch2.slice (Rect.unit (s := S2x2) (semOff s j) S1x1.size (semOff_inb s j))).squeeze S_ squeezes_S1x1_S_

instance (s : Fin 2) : ClosedOff (slotOff s) := ⟨slotOff s, rfl⟩
instance (b : Fin 64) : ClosedOff (chunkOff b) := ⟨chunkOff b, rfl⟩

/-- Chunk `k` of row block `i`. -/
abbrev num (i : grid0.Coords) (k : ℕ) : Fin 64 := Ring.bk 64 (8 * (i 0).val + k)

theorem i0_lt (i : grid0.Coords) : (i 0).val < 8 := (i 0).isLt

/-! ## The body's computed offsets -/

theorem trips_eq : k0_t1_loop.trips = 8 := by decide

theorem off2_eq : ∀ k : Fin k0_t1_loop.trips, k0_off2 k = semOff (Ring.sl 2 (k.val + 1)) 0 := by decide +kernel
theorem off5_eq : ∀ k : Fin k0_t1_loop.trips, k0_off5 k = semOff (Ring.sl 2 (k.val + 1)) 1 := by decide +kernel
theorem off6_eq : ∀ k : Fin k0_t1_loop.trips, k0_off6 k = semOff (Ring.sl 2 k.val) 0 := by decide +kernel
theorem off9_eq : ∀ k : Fin k0_t1_loop.trips, k0_off9 k = semOff (Ring.sl 2 k.val) 1 := by decide +kernel
theorem off3_eq : ∀ k : Fin k0_t1_loop.trips, k0_off3 k = slotOff (Ring.sl 2 (k.val + 1)) := by decide +kernel
theorem off7_eq : ∀ k : Fin k0_t1_loop.trips, k0_off7 k = slotOff (Ring.sl 2 k.val) := by decide +kernel
theorem off10_eq : ∀ k : Fin k0_t1_loop.trips, k0_off10 k = ![(Ring.sl 2 k.val).val, 0, 0] := by decide +kernel
theorem off12_eq : ∀ k : Fin k0_t1_loop.trips, k0_off12 k = ![(Ring.sl 2 k.val).val, 64, 0] := by decide +kernel
theorem off11a_eq : ∀ k : Fin k0_t1_loop.trips, k0_off11 k 0#32 = ![128 * k.val, 0] := by decide +kernel
theorem off11b_eq : ∀ k : Fin k0_t1_loop.trips, k0_off11 k 64#32 = ![128 * k.val + 64, 0] := by decide +kernel
theorem off1_eq : ∀ i : grid0.Coords, k0_off1 i = chunkOff (num i 0) := by decide +kernel
theorem off4_eq : ∀ (i : grid0.Coords) (k : Fin k0_t1_loop.trips), k.val + 1 < 8 → k0_off4 i k = chunkOff (num i (k.val + 1)) := by decide +kernel
theorem off8_eq : ∀ (i : grid0.Coords) (k : Fin k0_t1_loop.trips), k0_off8 i k = chunkOff (num i k.val) := by decide +kernel
theorem cond5_eq : ∀ k : Fin k0_t1_loop.trips, k0_cond5 k = 1#1 ↔ k.val + 1 < 8 := by decide +kernel

theorem cond2_eq : ∀ i : grid0.Coords, k0_cond2 i = 1#1 ↔ (i 1).val = 10 := by decide +kernel
theorem cond3_eq : ∀ i : grid0.Coords, k0_cond3 i = 1#1 ↔ (i 1).val = 10 := by decide +kernel
theorem cond4_eq : ∀ i : grid0.Coords, k0_cond4 i = 1#1 ↔ (i 0).val = 0 := by decide +kernel

instance (k : Fin k0_t1_loop.trips) : ClosedOff (k0_off10 k) := ⟨![(Ring.sl 2 k.val).val, 0, 0], off10_eq k⟩
instance (k : Fin k0_t1_loop.trips) : ClosedOff (k0_off12 k) := ⟨![(Ring.sl 2 k.val).val, 64, 0], off12_eq k⟩

/-! ## The body's slices under these names -/

section Canon

theorem sem_congr {off : Fin 2 → Nat} {s j : Fin 2} (e : off = semOff s j) (hh) :
    (cc0_scratch2.slice (Rect.unit (s := S2x2) off S1x1.size hh)).squeeze S_ squeezes_S1x1_S_ = sem s j :=
  congrArg (fun A : DmaSems sig S1x1 => A.squeeze S_ squeezes_S1x1_S_) (SemArray.slice_unit_congr _ e _ _)
theorem slot_congr (B : Memref sig .tc .vmem S2x128x2048 .f32) {off : Fin 3 → Nat} {s : Fin 2} (e : off = slotOff s) (hh hs) :
    (B.slice (Rect.unit (s := S2x128x2048) off S1x128x2048.size hh) hs).squeeze S128x2048 squeezes_S1x128x2048_S128x2048 = slot B s :=
  congrArg (fun M : Memref sig .tc .vmem S1x128x2048 .f32 => M.squeeze S128x2048 squeezes_S1x128x2048_S128x2048) (Memref.slice_unit_congr _ e _ _ _ _)
theorem chunk_congr (A : Memref sig .tc .hbm S8192x2048 .f32) {off : Fin 2 → Nat} {b : Fin 64} (e : off = chunkOff b) (hh hs) :
    A.slice (Rect.unit (s := S8192x2048) off S128x2048.size hh) hs = chunk A b := Memref.slice_unit_congr _ e _ _ _ (fun _ => rfl)

@[sl_canon] theorem sem00 (hh) : (cc0_scratch2.slice (Rect.unit (s := S2x2) ![0, 0] S1x1.size hh)).squeeze S_ squeezes_S1x1_S_ = sem 0 0 := sem_congr (by decide) _
@[sl_canon] theorem sem01 (hh) : (cc0_scratch2.slice (Rect.unit (s := S2x2) ![0, 1] S1x1.size hh)).squeeze S_ squeezes_S1x1_S_ = sem 0 1 := sem_congr (by decide) _
@[sl_canon] theorem xslot0 (hh hs) : (xB.slice (Rect.unit (s := S2x128x2048) ![0, 0, 0] S1x128x2048.size hh) hs).squeeze S128x2048 squeezes_S1x128x2048_S128x2048 = slot xB 0 := slot_congr _ (by decide) _ _
@[sl_canon] theorem dslot0 (hh hs) : (dB.slice (Rect.unit (s := S2x128x2048) ![0, 0, 0] S1x128x2048.size hh) hs).squeeze S128x2048 squeezes_S1x128x2048_S128x2048 = slot dB 0 := slot_congr _ (by decide) _ _
@[sl_canon] theorem xchunk0 (i : grid0.Coords) (hh hs) : xM.slice (Rect.unit (s := S8192x2048) (k0_off1 i) S128x2048.size hh) hs = chunk xM (num i 0) := chunk_congr _ (off1_eq i) _ _
@[sl_canon] theorem dchunk0 (i : grid0.Coords) (hh hs) : dM.slice (Rect.unit (s := S8192x2048) (k0_off1 i) S128x2048.size hh) hs = chunk dM (num i 0) := chunk_congr _ (off1_eq i) _ _

@[sl_canon] theorem sem2 (k : Fin k0_t1_loop.trips) (hh) : (cc0_scratch2.slice (Rect.unit (s := S2x2) (k0_off2 k) S1x1.size hh)).squeeze S_ squeezes_S1x1_S_ = sem (Ring.sl 2 (k.val + 1)) 0 := sem_congr (off2_eq k) _
@[sl_canon] theorem sem5 (k : Fin k0_t1_loop.trips) (hh) : (cc0_scratch2.slice (Rect.unit (s := S2x2) (k0_off5 k) S1x1.size hh)).squeeze S_ squeezes_S1x1_S_ = sem (Ring.sl 2 (k.val + 1)) 1 := sem_congr (off5_eq k) _
@[sl_canon] theorem sem6 (k : Fin k0_t1_loop.trips) (hh) : (cc0_scratch2.slice (Rect.unit (s := S2x2) (k0_off6 k) S1x1.size hh)).squeeze S_ squeezes_S1x1_S_ = sem (Ring.sl 2 k.val) 0 := sem_congr (off6_eq k) _
@[sl_canon] theorem sem9 (k : Fin k0_t1_loop.trips) (hh) : (cc0_scratch2.slice (Rect.unit (s := S2x2) (k0_off9 k) S1x1.size hh)).squeeze S_ squeezes_S1x1_S_ = sem (Ring.sl 2 k.val) 1 := sem_congr (off9_eq k) _
@[sl_canon] theorem xslot3 (k : Fin k0_t1_loop.trips) (hh hs) : (xB.slice (Rect.unit (s := S2x128x2048) (k0_off3 k) S1x128x2048.size hh) hs).squeeze S128x2048 squeezes_S1x128x2048_S128x2048 = slot xB (Ring.sl 2 (k.val + 1)) := slot_congr _ (off3_eq k) _ _
@[sl_canon] theorem dslot3 (k : Fin k0_t1_loop.trips) (hh hs) : (dB.slice (Rect.unit (s := S2x128x2048) (k0_off3 k) S1x128x2048.size hh) hs).squeeze S128x2048 squeezes_S1x128x2048_S128x2048 = slot dB (Ring.sl 2 (k.val + 1)) := slot_congr _ (off3_eq k) _ _
@[sl_canon] theorem xslot7 (k : Fin k0_t1_loop.trips) (hh hs) : (xB.slice (Rect.unit (s := S2x128x2048) (k0_off7 k) S1x128x2048.size hh) hs).squeeze S128x2048 squeezes_S1x128x2048_S128x2048 = slot xB (Ring.sl 2 k.val) := slot_congr _ (off7_eq k) _ _
@[sl_canon] theorem dslot7 (k : Fin k0_t1_loop.trips) (hh hs) : (dB.slice (Rect.unit (s := S2x128x2048) (k0_off7 k) S1x128x2048.size hh) hs).squeeze S128x2048 squeezes_S1x128x2048_S128x2048 = slot dB (Ring.sl 2 k.val) := slot_congr _ (off7_eq k) _ _
@[sl_canon] theorem xchunk4 (i : grid0.Coords) (k : Fin k0_t1_loop.trips) (hk : k.val + 1 < 8) (hh hs) : xM.slice (Rect.unit (s := S8192x2048) (k0_off4 i k) S128x2048.size hh) hs = chunk xM (num i (k.val + 1)) := chunk_congr _ (off4_eq i k hk) _ _
@[sl_canon] theorem dchunk4 (i : grid0.Coords) (k : Fin k0_t1_loop.trips) (hk : k.val + 1 < 8) (hh hs) : dM.slice (Rect.unit (s := S8192x2048) (k0_off4 i k) S128x2048.size hh) hs = chunk dM (num i (k.val + 1)) := chunk_congr _ (off4_eq i k hk) _ _
@[sl_canon] theorem xchunk8 (i : grid0.Coords) (k : Fin k0_t1_loop.trips) (hh hs) : xM.slice (Rect.unit (s := S8192x2048) (k0_off8 i k) S128x2048.size hh) hs = chunk xM (num i k.val) := chunk_congr _ (off8_eq i k) _ _
@[sl_canon] theorem dchunk8 (i : grid0.Coords) (k : Fin k0_t1_loop.trips) (hh hs) : dM.slice (Rect.unit (s := S8192x2048) (k0_off8 i k) S128x2048.size hh) hs = chunk dM (num i k.val) := chunk_congr _ (off8_eq i k) _ _

end Canon

/-! ## The pieces: a chunk home, a slot held, its semaphore at zero, a slot in flight -/

section Pieces
variable (c : Dev nD)

abbrev cellP (s j : Fin 2) : sProp 𝕄 := semVal ((c : Thread nD τ), SemLoc.dma (sem s j).sem) 0
abbrev slotP (B : Memref sig .tc .vmem S2x128x2048 .f32) (s : Fin 2) (f : Buf (Elt F) ((slot B s).view.loc (c : Thread nD τ))) : sProp 𝕄 :=
  (slot B s).view.loc (c : Thread nD τ) ↦[(slot B s).view.set]{fullShare} f
/-- Chunk `b` of the array at contents `X`. -/
abbrev homeP (A : Memref sig .tc .hbm S8192x2048 .f32) (X : Buf (Elt F) (A.view.loc (c : Thread nD τ))) (b : Fin 64) : sProp 𝕄 :=
  (chunk A b).view.loc (c : Thread nD τ) ↦[(chunk A b).view.set]{fullShare} X
/-- What the copy of chunk `b` leaves in slot `s` over prior contents `f`. -/
abbrev landed (A : Memref sig .tc .hbm S8192x2048 .f32) (B : Memref sig .tc .vmem S2x128x2048 .f32) (X : Buf (Elt F) (A.view.loc (c : Thread nD τ)))
    (s : Fin 2) (b : Fin 64) (f : Buf (Elt F) ((slot B s).view.loc (c : Thread nD τ))) : Buf (Elt F) ((slot B s).view.loc (c : Thread nD τ)) :=
  (slot B s).view.writes (Elt F) f [⟨Rect.whole S128x2048, ReadAs.same.apply ((chunk A b).view.read (Elt F) X)⟩]
/-- Slot `s` of ring `j` in flight with chunk `b`, issued over `f`. -/
abbrev flightP (A : Memref sig .tc .hbm S8192x2048 .f32) (B : Memref sig .tc .vmem S2x128x2048 .f32) (j : Fin 2) (X : Buf (Elt F) (A.view.loc (c : Thread nD τ)))
    (s : Fin 2) (b : Fin 64) (f : Buf (Elt F) ((slot B s).view.loc (c : Thread nD τ))) : sProp 𝕄 :=
  Transfers.Flight countersEmb (c : Thread nD τ) (SemLoc.dma (sem s j).sem) () 32768 iprop(slotP c B s (landed c A B X s b f) ∗ homeP c A X b)

/-- All chunks but one. -/
abbrev others (A : Memref sig .tc .hbm S8192x2048 .f32) (X : Buf (Elt F) (A.view.loc (c : Thread nD τ))) (b : Fin 64) : sProp 𝕄 :=
  bigSep (Finset.univ.erase b) (homeP c A X)
/-- All chunks but two. -/
abbrev others2 (A : Memref sig .tc .hbm S8192x2048 .f32) (X : Buf (Elt F) (A.view.loc (c : Thread nD τ))) (b b' : Fin 64) : sProp 𝕄 :=
  bigSep ((Finset.univ.erase b).erase b') (homeP c A X)

theorem all_eq (A : Memref sig .tc .hbm S8192x2048 .f32) (X : Buf (Elt F) (A.view.loc (c : Thread nD τ))) (b : Fin 64) :
    bigSep Finset.univ (homeP c A X) = iprop(homeP c A X b ∗ others c A X b) := BI.bigSep_erase (Finset.mem_univ b)
theorem others_out (A : Memref sig .tc .hbm S8192x2048 .f32) (X : Buf (Elt F) (A.view.loc (c : Thread nD τ))) (b b' : Fin 64) (h : b' ≠ b) :
    others c A X b = iprop(homeP c A X b' ∗ others2 c A X b b') := BI.bigSep_erase (Finset.mem_erase.mpr ⟨h, Finset.mem_univ b'⟩)
theorem others_back (A : Memref sig .tc .hbm S8192x2048 .f32) (X : Buf (Elt F) (A.view.loc (c : Thread nD τ))) (b b' : Fin 64) (h : b' ≠ b) :
    others c A X b' = iprop(homeP c A X b ∗ others2 c A X b b') := by
  rw [others_out c A X b' b (Ne.symm h)]; unfold others2; rw [Finset.erase_right_comm]

theorem num_succ_ne (i : grid0.Coords) (k : ℕ) (hk : k + 1 < 8) : num i (k + 1) ≠ num i k := by
  have := i0_lt i
  intro h
  have h' := congrArg Fin.val h
  rw [Ring.bk_val (show 8 * (i 0).val + (k + 1) < 64 by omega), Ring.bk_val (show 8 * (i 0).val + k < 64 by omega)] at h'
  omega

theorem sl_succ2 (k : ℕ) : Ring.sl 2 (k + 1 + 1) = Ring.sl 2 k := by rw [show k + 1 + 1 = k + 2 from rfl, Ring.sl_add]

end Pieces

end Cert.Proof.RmsFfnRing

end
-- ==== Proof.RmsFfnTrip.lean ====
/-
  One trip of the chunk loop of the RMS-norm backward call: the next chunk's two copies are started into the free
  slots, the current chunk's copies are waited for, and the two 64-row halves of the chunk are worked on.
-/
module

public import proofs.«01_k».proof.Proof.RmsFfnRing

@[expose] public section

set_option maxRecDepth 16384

noncomputable section

namespace Cert.Proof.RmsFfnRing

open Cert.RmsFfnIdeal Cert.RmsFfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

section Trip

variable (c : Dev nD) (X : Buf (Elt F) (xM.view.loc (c : Thread nD τ))) (D : Buf (Elt F) (dM.view.loc (c : Thread nD τ)))
  (i : grid0.Coords)
  (arg2 : Memref sig .tc .vmem S1024x512 .bf16) (harg2 : arg2.IsWhole) (arg3 : Memref sig .tc .vmem S512x2048 .bf16) (harg3 : arg3.IsWhole)
  (arg4 : Memref sig .tc .vmem S1024x512 .bf16) (harg4 : arg4.IsWhole) (arg5 : Memref sig .tc .vmem S512x2048 .bf16) (harg5 : arg5.IsWhole)
  (arg7 : Memref sig .tc .vmem S1x2048 .f32) (harg7 : arg7.IsWhole)
  (arg9 : Memref sig .tc .vmem S1024x2048 .f32) (harg9 : arg9.IsWhole)
  (arg10 : Memref sig .tc .vmem S1024x2048 .bf16) (harg10 : arg10.IsWhole)
  (arg11 : Memref sig .tc .vmem S1x2048 .f32) (harg11 : arg11.IsWhole)
  (arg0 : BitVec 32) (h3 : k0_cond3 i = 1#1)
  (f7 : Buf (Elt F) (arg7.view.loc (c : Thread nD τ)))

/-- What the loop holds besides the rings, before trip `k`. -/
abbrev wins (f9 : Buf (Elt F) (arg9.view.loc (c : Thread nD τ))) (f10 : Buf (Elt F) (arg10.view.loc (c : Thread nD τ)))
    (f11 : Buf (Elt F) (arg11.view.loc (c : Thread nD τ))) : sProp 𝕄 :=
  iprop((arg7.view.loc (c : Thread nD τ) ↦[arg7.view.set]{fullShare} f7)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11)
    ∗ (∃ W, owes (c : Thread nD τ) 0 W))

/-- The rings with chunk `k` of the row block on its way into slot `k % 2` and the other slots free. -/
abbrev ringOn (k : ℕ) : sProp 𝕄 :=
  iprop(others c xM X (num i k) ∗ others c dM D (num i k)
    ∗ (∃ f, flightP c xM xB 0 X (Ring.sl 2 k) (num i k) f) ∗ (∃ f, flightP c dM dB 1 D (Ring.sl 2 k) (num i k) f)
    ∗ (∃ f, slotP c xB (Ring.sl 2 (k + 1)) f) ∗ (∃ f, slotP c dB (Ring.sl 2 (k + 1)) f)
    ∗ cellP c (Ring.sl 2 (k + 1)) 0 ∗ cellP c (Ring.sl 2 (k + 1)) 1)

/-- The rings after the last trip, which starts no copy. -/
abbrev ringEnd (k : ℕ) : sProp 𝕄 :=
  iprop(bigSep Finset.univ (homeP c xM X) ∗ bigSep Finset.univ (homeP c dM D)
    ∗ (∃ f, slotP (F := F) c xB (Ring.sl 2 k) f) ∗ (∃ f, slotP (F := F) c dB (Ring.sl 2 k) f)
    ∗ (∃ f, slotP (F := F) c xB (Ring.sl 2 (k + 1)) f) ∗ (∃ f, slotP (F := F) c dB (Ring.sl 2 (k + 1)) f)
    ∗ cellP (F := F) c (Ring.sl 2 k) 0 ∗ cellP (F := F) c (Ring.sl 2 k) 1 ∗ cellP (F := F) c (Ring.sl 2 (k + 1)) 0 ∗ cellP (F := F) c (Ring.sl 2 (k + 1)) 1)

/-- The rings before trip `k` of eight. -/
def ring (k : ℕ) : sProp 𝕄 := if k < 8 then ringOn c X D i k else ringEnd c X D 7

abbrev tripG (k : Fin k0_t1_loop.trips) : Prog (TpuEff nD τ sig (Elt F) Λ₀ .tc) Unit :=
  k0_t1_body (F := F) i arg2 harg2 arg3 harg3 arg4 harg4 arg5 harg5 xM (Memref.isWhole_whole _) arg7 harg7 dM (Memref.isWhole_whole _)
    arg9 harg9 arg10 harg10 arg11 harg11 xB (Memref.isWhole_whole _) dB (Memref.isWhole_whole _) cc0_scratch2 arg0 h3 k ()

/-- The contents of the three result windows. -/
abbrev Outs : Type := Buf (Elt F) (arg9.view.loc (c : Thread nD τ)) × Buf (Elt F) (arg10.view.loc (c : Thread nD τ)) × Buf (Elt F) (arg11.view.loc (c : Thread nD τ))

set_option backward.proofsInPublic true in
set_option maxHeartbeats 4000000 in
/-- ONE TRIP, what it stores to be found: `L` is what the three result windows hold after it. -/
def tripRun (k : Fin k0_t1_loop.trips) (f9 : Buf (Elt F) (arg9.view.loc (c : Thread nD τ))) (f10 : Buf (Elt F) (arg10.view.loc (c : Thread nD τ)))
    (f11 : Buf (Elt F) (arg11.view.loc (c : Thread nD τ))) :
    { L : Outs (F := F) c arg9 arg10 arg11 //
      (k.val + 1 < 8 → iprop(wins c arg7 arg9 arg10 arg11 f7 f9 f10 f11 ∗ ringOn c X D i k.val)
        ⊢ wp frame (wpE (defs₀ (F := F)) 𝒱₀ (c : Thread nD τ) none) Set.univ
            (tripG i arg2 harg2 arg3 harg3 arg4 harg4 arg5 harg5 arg7 harg7 arg9 harg9 arg10 harg10 arg11 harg11 arg0 h3 k)
          (fun _ => iprop(wins c arg7 arg9 arg10 arg11 f7 L.1 L.2.1 L.2.2 ∗ ringOn c X D i (k.val + 1))))
      ∧ (¬ k.val + 1 < 8 → iprop(wins c arg7 arg9 arg10 arg11 f7 f9 f10 f11 ∗ ringOn c X D i k.val)
        ⊢ wp frame (wpE (defs₀ (F := F)) 𝒱₀ (c : Thread nD τ) none) Set.univ
            (tripG i arg2 harg2 arg3 harg3 arg4 harg4 arg5 harg5 arg7 harg7 arg9 harg9 arg10 harg10 arg11 harg11 arg0 h3 k)
          (fun _ => iprop(wins c arg7 arg9 arg10 arg11 f7 L.1 L.2.1 L.2.2 ∗ ringEnd c X D k.val))) } := by
  refine ⟨⟨?_, ?_, ?_⟩, fun hk => ?run, fun hk => ?last⟩
  case run =>
    have h5 : k0_cond5 k = 1#1 := (cond5_eq k).mpr hk
    unfold ringOn
    rw [others_out c xM X _ _ (num_succ_ne i k.val hk), others_out c dM D _ _ (num_succ_ne i k.val hk),
      others_back c xM X _ _ (num_succ_ne i k.val hk), others_back c dM D _ _ (num_succ_ne i k.val hk), sl_succ2]
    iintro ⟨⟨H7, H9, H10, H11, ⟨%W, HW⟩⟩, ⟨Hx, Hxs⟩, ⟨Hd, Hds⟩, ⟨%fx, HFx⟩, ⟨%fd, HFd⟩, ⟨%gx, HSx⟩, ⟨%gd, HSd⟩, Hcx, Hcd⟩
    dsimp only [tripG]
    sl_unfold [k0_t1_body]
    sl_exec_parts
    sl_step
    isplitl [H7 H9 H10 H11 HW]
    · isplitl [H7]; · iexact H7
      isplitl [H9]; · iexact H9
      isplitl [H10]; · iexact H10
      isplitl [H11]; · iexact H11
      iexists _; iexact HW
    isplitl [HFx_src Hxs]
    · isplitl [HFx_src]; · iexact HFx_src
      iexact Hxs
    isplitl [HFd_src Hds]
    · isplitl [HFd_src]; · iexact HFd_src
      iexact Hds
    isplitl [Hcx]; · iexists gx; iexact Hcx
    isplitl [Hcd]; · iexists gd; iexact Hcd
    isplitl [HFx_dst]; · iexists _; iexact HFx_dst
    isplitl [HFd_dst]; · iexists _; iexact HFd_dst
    isplitl [HFx]; · iexact HFx
    iexact HFd
  case last =>
    have h5 : ¬ k0_cond5 k = 1#1 := fun h => hk ((cond5_eq k).mp h)
    unfold ringOn ringEnd
    rw [all_eq c xM X (num i k.val), all_eq c dM D (num i k.val)]
    iintro ⟨⟨H7, H9, H10, H11, ⟨%W, HW⟩⟩, Hxs, Hds, ⟨%fx, HFx⟩, ⟨%fd, HFd⟩, HSx, HSd, Hcx, Hcd⟩
    dsimp only [tripG]
    sl_unfold [k0_t1_body]
    sl_exec_parts
    sl_step
    isplitl [H7 H9 H10 H11 HW]
    · isplitl [H7]; · iexact H7
      isplitl [H9]; · iexact H9
      isplitl [H10]; · iexact H10
      isplitl [H11]; · iexact H11
      iexists _; iexact HW
    isplitl [HFx_src Hxs]
    · isplitl [HFx_src]; · iexact HFx_src
      iexact Hxs
    isplitl [HFd_src Hds]
    · isplitl [HFd_src]; · iexact HFd_src
      iexact Hds
    isplitl [HFx_dst]; · iexists _; iexact HFx_dst
    isplitl [HFd_dst]; · iexists _; iexact HFd_dst
    isplitl [HSx]; · iexact HSx
    isplitl [HSd]; · iexact HSd
    isplitl [HFx]; · iexact HFx
    isplitl [HFd]; · iexact HFd
    isplitl [Hcx]; · iexact Hcx
    iexact Hcd

/-- What trip `k` makes of the three result windows. -/
def tripOuts (k : Fin k0_t1_loop.trips) (o : Outs (F := F) c arg9 arg10 arg11) : Outs (F := F) c arg9 arg10 arg11 :=
  (tripRun c X D i arg2 harg2 arg3 harg3 arg4 harg4 arg5 harg5 arg7 harg7 arg9 harg9 arg10 harg10 arg11 harg11 arg0 h3 f7 k o.1 o.2.1 o.2.2).1

theorem trip_step (k : Fin k0_t1_loop.trips) (o : Outs (F := F) c arg9 arg10 arg11) :
    iprop(wins c arg7 arg9 arg10 arg11 f7 o.1 o.2.1 o.2.2 ∗ ring c X D i k.val)
      ⊢ wp frame (wpE (defs₀ (F := F)) 𝒱₀ (c : Thread nD τ) none) Set.univ
          (tripG i arg2 harg2 arg3 harg3 arg4 harg4 arg5 harg5 arg7 harg7 arg9 harg9 arg10 harg10 arg11 harg11 arg0 h3 k)
        (fun _ => iprop(wins c arg7 arg9 arg10 arg11 f7
            (tripOuts c X D i arg2 harg2 arg3 harg3 arg4 harg4 arg5 harg5 arg7 harg7 arg9 harg9 arg10 harg10 arg11 harg11 arg0 h3 f7 k o).1
            (tripOuts c X D i arg2 harg2 arg3 harg3 arg4 harg4 arg5 harg5 arg7 harg7 arg9 harg9 arg10 harg10 arg11 harg11 arg0 h3 f7 k o).2.1
            (tripOuts c X D i arg2 harg2 arg3 harg3 arg4 harg4 arg5 harg5 arg7 harg7 arg9 harg9 arg10 harg10 arg11 harg11 arg0 h3 f7 k o).2.2
          ∗ ring c X D i (k.val + 1))) := by
  have hk : k.val < 8 := lt_of_lt_of_eq k.isLt trips_eq
  have hr := (tripRun c X D i arg2 harg2 arg3 harg3 arg4 harg4 arg5 harg5 arg7 harg7 arg9 harg9 arg10 harg10 arg11 harg11 arg0 h3 f7 k o.1 o.2.1 o.2.2).2
  unfold tripOuts
  generalize (tripRun c X D i arg2 harg2 arg3 harg3 arg4 harg4 arg5 harg5 arg7 harg7 arg9 harg9 arg10 harg10 arg11 harg11 arg0 h3 f7 k o.1 o.2.1 o.2.2).1 = L at hr ⊢
  have e : ring c X D i k.val = ringOn c X D i k.val := if_pos hk
  rw [e]
  by_cases hl : k.val + 1 < 8
  · have e' : ring c X D i (k.val + 1) = ringOn c X D i (k.val + 1) := if_pos hl
    rw [e']
    exact hr.1 hl
  · have e' : ring c X D i (k.val + 1) = ringEnd c X D k.val :=
      (if_neg hl).trans (congrArg (ringEnd c X D) (show 7 = k.val by omega))
    rw [e']
    exact hr.2 hl

/-- The three result windows before trip `k`, from their contents at the loop's entry. -/
def outsAt (o : Outs (F := F) c arg9 arg10 arg11) : ℕ → Outs (F := F) c arg9 arg10 arg11
  | 0 => o
  | k + 1 =>
    if h : k < k0_t1_loop.trips then
      tripOuts c X D i arg2 harg2 arg3 harg3 arg4 harg4 arg5 harg5 arg7 harg7 arg9 harg9 arg10 harg10 arg11 harg11 arg0 h3 f7 ⟨k, h⟩ (outsAt o k)
    else outsAt o k

theorem outsAt_succ (o : Outs (F := F) c arg9 arg10 arg11) (k : Fin k0_t1_loop.trips) :
    outsAt c X D i arg2 harg2 arg3 harg3 arg4 harg4 arg5 harg5 arg7 harg7 arg9 harg9 arg10 harg10 arg11 harg11 arg0 h3 f7 o (k.val + 1)
      = tripOuts c X D i arg2 harg2 arg3 harg3 arg4 harg4 arg5 harg5 arg7 harg7 arg9 harg9 arg10 harg10 arg11 harg11 arg0 h3 f7 k
          (outsAt c X D i arg2 harg2 arg3 harg3 arg4 harg4 arg5 harg5 arg7 harg7 arg9 harg9 arg10 harg10 arg11 harg11 arg0 h3 f7 o k.val) := by
  rw [outsAt, dif_pos k.isLt]

/-- What the loop holds before trip `k`. -/
def inv (o : Outs (F := F) c arg9 arg10 arg11) (k : ℕ) : sProp 𝕄 :=
  iprop(wins c arg7 arg9 arg10 arg11 f7
      (outsAt c X D i arg2 harg2 arg3 harg3 arg4 harg4 arg5 harg5 arg7 harg7 arg9 harg9 arg10 harg10 arg11 harg11 arg0 h3 f7 o k).1
      (outsAt c X D i arg2 harg2 arg3 harg3 arg4 harg4 arg5 harg5 arg7 harg7 arg9 harg9 arg10 harg10 arg11 harg11 arg0 h3 f7 o k).2.1
      (outsAt c X D i arg2 harg2 arg3 harg3 arg4 harg4 arg5 harg5 arg7 harg7 arg9 harg9 arg10 harg10 arg11 harg11 arg0 h3 f7 o k).2.2
    ∗ ring c X D i k)

theorem inv_step (o : Outs (F := F) c arg9 arg10 arg11) (k : Fin k0_t1_loop.trips) :
    inv c X D i arg2 harg2 arg3 harg3 arg4 harg4 arg5 harg5 arg7 harg7 arg9 harg9 arg10 harg10 arg11 harg11 arg0 h3 f7 o k.val
      ⊢ wp frame (wpE (defs₀ (F := F)) 𝒱₀ (c : Thread nD τ) none) Set.univ
          (tripG i arg2 harg2 arg3 harg3 arg4 harg4 arg5 harg5 arg7 harg7 arg9 harg9 arg10 harg10 arg11 harg11 arg0 h3 k)
        (fun _ => inv c X D i arg2 harg2 arg3 harg3 arg4 harg4 arg5 harg5 arg7 harg7 arg9 harg9 arg10 harg10 arg11 harg11 arg0 h3 f7 o (k.val + 1)) := by
  unfold inv
  rw [outsAt_succ]
  exact trip_step c X D i arg2 harg2 arg3 harg3 arg4 harg4 arg5 harg5 arg7 harg7 arg9 harg9 arg10 harg10 arg11 harg11 arg0 h3 f7 k _

set_option warn.classDefReducibility false in
/-- THE LOOP'S INVARIANT. -/
def loopInv (o : Outs (F := F) c arg9 arg10 arg11) :
    LoopInvTy_k0_t1 (F := F) Unit ℕ (UD sig nD τ) ℕ 𝒱₀ c none Set.univ i arg2 harg2 arg3 harg3 arg4 harg4 arg5 harg5 xM (Memref.isWhole_whole _) arg7 harg7 dM (Memref.isWhole_whole _)
      arg9 harg9 arg10 harg10 arg11 harg11 xB (Memref.isWhole_whole _) dB (Memref.isWhole_whole _) cc0_scratch2 arg0 h3 where
  inv k _ := inv c X D i arg2 harg2 arg3 harg3 arg4 harg4 arg5 harg5 arg7 harg7 arg9 harg9 arg10 harg10 arg11 harg11 arg0 h3 f7 o k
  step k _ := inv_step c X D i arg2 harg2 arg3 harg3 arg4 harg4 arg5 harg5 arg7 harg7 arg9 harg9 arg10 harg10 arg11 harg11 arg0 h3 f7 o k

end Trip

end Cert.Proof.RmsFfnRing

end
-- ==== Proof.RmsRows.lean ====
/-
  The backward pass of the RMS norm on one row, as the kernels compute it: the reciprocal root mean square of the row, the
  gradient of the row's input, and the row's contribution to the gradient of the gain.
-/
module

public import Idealize.ShloMosaic.PureOps.Ideal

@[expose] public section

noncomputable section

namespace Cert.Proof.RmsRows

open Idealize.ShloMosaic
open scoped BigOperators

/-- The row length, read from its float word. -/
abbrev width : EReal := Ideal.ofBits .f32 0x45000000#32
/-- The norm's small constant, read from its float word. -/
abbrev eps : EReal := Ideal.ofBits .f32 0x358637BD#32

/-- The reciprocal root mean square of a row. -/
def rinv (x : Fin 2048 → EReal) : EReal := Ideal.rsqrt (Ideal.div (∑ u, x u * x u) width + eps)

/-- The gradient of the row's input: what came in, and what comes back through the norm. -/
def newDx (x g dn d : Fin 2048 → EReal) (q : Fin 2048) : EReal :=
  d q + rinv x * (g q * dn q - x q * rinv x * Ideal.div (∑ u, g u * dn u * (x u * rinv x)) width)

/-- The row's contribution to the gradient of the gain. -/
def gainTerm (x dn : Fin 2048 → EReal) (q : Fin 2048) : EReal := dn q * (x q * rinv x)

theorem newDx_congr {x x' g g' dn dn' d d' : Fin 2048 → EReal} (hx : x = x') (hg : g = g') (hn : dn = dn') (hd : d = d') (q : Fin 2048) :
    newDx x g dn d q = newDx x' g' dn' d' q := by
  rw [hx, hg, hn, hd]

theorem gainTerm_congr {x x' dn dn' : Fin 2048 → EReal} (hx : x = x') (hn : dn = dn') (q : Fin 2048) : gainTerm x dn q = gainTerm x' dn' q := by
  rw [hx, hn]

end Cert.Proof.RmsRows

end
-- ==== Proof.RmsFfnTripValue.lean ====
/-
  What one trip of the chunk loop computes: rows `128 k … 128 k + 127` of the block become the gradient of the norm's input,
  the same rows are stored in bf16, and the gain's gradient gains the sums over the two halves of the chunk.
-/
module

public import proofs.«01_k».proof.Proof.RmsFfnTrip
public import proofs.«01_k».proof.Proof.RowWindows
public import proofs.«01_k».proof.Proof.RmsRows
public import Idealize.ShloMosaic.Lib.Pointwise
public import Idealize.ShloMosaic.PureOps.Ideal

@[expose] public section

set_option maxRecDepth 16384

noncomputable section

namespace Cert.Proof.RmsFfnRing

open Cert.RmsFfnIdeal Cert.RmsFfnIdeal.Gen
open Idealize.ShloMosaic
open Idealize.ShloMosaic.TcCoe Idealize.ShloMosaic.Tactic
open Cert.Proof.RmsRows Cert.Proof.RowWindows
open scoped BigOperators

/-! ## The payloads of a half chunk -/

section Payloads
variable (x : Vec Ideal S1x64x2048 .f32) (g : Vec Ideal S1x2048 .f32) (dn : Vec Ideal S64x2048 .f32) (d : Vec Ideal S1x64x2048 .f32)

theorem dx_first (r : Fin 64) (q : Fin 2048) :
    k0_pay12 (k0_pay7 x) g dn d (ix2 r q)
      = newDx (fun u => x (ix3 0 r u)) (fun u => g (ix2 0 u)) (fun u => dn (ix2 r u)) (fun u => d (ix3 0 r u)) q := by
  unfold k0_pay12 k0_pay10 k0_pay9 k0_pay8 k0_pay7 newDx rinv
  pointwise

theorem dx_second (r : Fin 64) (q : Fin 2048) :
    k0_pay21 x g dn d (ix2 r q)
      = newDx (fun u => x (ix3 0 r u)) (fun u => g (ix2 0 u)) (fun u => dn (ix2 r u)) (fun u => d (ix3 0 r u)) q := by
  unfold k0_pay21 k0_pay19 k0_pay18 k0_pay17 k0_pay16 newDx rinv
  pointwise

theorem dxb_first (r : Fin 64) (q : Fin 2048) :
    (k0_pay13 (k0_pay7 x) g dn d (ix2 r q) : EReal)
      = newDx (fun u => x (ix3 0 r u)) (fun u => g (ix2 0 u)) (fun u => dn (ix2 r u)) (fun u => d (ix3 0 r u)) q := by
  have h : (k0_pay13 (k0_pay7 x) g dn d (ix2 r q) : EReal) = k0_pay12 (k0_pay7 x) g dn d (ix2 r q) := by
    unfold k0_pay13
    pointwise
  exact h.trans (dx_first x g dn d r q)

theorem dxb_second (r : Fin 64) (q : Fin 2048) :
    (k0_pay5 (k0_pay21 x g dn d) (ix2 r q) : EReal)
      = newDx (fun u => x (ix3 0 r u)) (fun u => g (ix2 0 u)) (fun u => dn (ix2 r u)) (fun u => d (ix3 0 r u)) q := by
  have h : (k0_pay5 (k0_pay21 x g dn d) (ix2 r q) : EReal) = k0_pay21 x g dn d (ix2 r q) := by
    unfold k0_pay5
    pointwise
  exact h.trans (dx_second x g dn d r q)

theorem dg_first (q : Fin 2048) :
    k0_pay11 (k0_pay7 x) dn (ix2 0 q) = ∑ r : Fin 64, gainTerm (fun u => x (ix3 0 r u)) (fun u => dn (ix2 r u)) q := by
  unfold k0_pay11 k0_pay10 k0_pay9 k0_pay8 k0_pay7 gainTerm rinv
  pointwise

theorem dg_second (q : Fin 2048) :
    k0_pay20 x dn (ix2 0 q) = ∑ r : Fin 64, gainTerm (fun u => x (ix3 0 r u)) (fun u => dn (ix2 r u)) q := by
  unfold k0_pay20 k0_pay19 k0_pay18 k0_pay17 k0_pay16 gainTerm rinv
  pointwise

theorem dg_add_first (s a : Vec Ideal S1x2048 .f32) (j : S1x2048.Idx) : k0_pay15 s (k0_pay14 a) j = a j + s j := by
  unfold k0_pay15 k0_pay14
  pointwise

theorem dg_add_second (s a : Vec Ideal S1x2048 .f32) (j : S1x2048.Idx) : k0_pay6 s a j = a j + s j := by
  unfold k0_pay6
  pointwise

end Payloads

/-! ## A load of a slot in which a chunk has landed -/

theorem slot_read {F : FTy → Type} [FloatOps F] (B : Memref sig .tc .vmem S2x128x2048 .f32) (s : Fin 2) (f : B.view.ty.Contents (Elt F)) (r : Fin 128) (q : Fin 2048) :
    B.view.read (Elt F) f (ix3 s r q) = (slot B s).view.read (Elt F) f (ix2 r q) := by
  refine congrArg (B.view.read (Elt F) f) ?_
  have e : Shape.reshapeEquiv squeezes_S1x128x2048_S128x2048.numel_eq (ix2 r q : S128x2048.Idx) = (ix3 (0 : Fin 1) r q : S1x128x2048.Idx) :=
    Shape.reshapeEquiv_eq_of_rowMajor _ (by
      rw [Shape.rowMajor_val_three, Shape.rowMajor_val_two]
      show (0 * 128 + r.val) * 2048 + q.val = r.val * 2048 + q.val
      omega)
  show _ = (Rect.unit (s := S2x128x2048) (slotOff s) S1x128x2048.size (slotOff_inb s)).emb (Shape.reshapeEquiv _ (ix2 r q))
  rw [e]
  funext a
  apply Fin.ext
  fin_cases a
  · show s.val = s.val + 1 * 0; omega
  · show r.val = 0 + 1 * r.val; omega
  · show q.val = 0 + 1 * q.val; omega

theorem slot_load {F : FTy → Type} [FloatOps F] (A : Memref sig .tc .hbm S8192x2048 .f32) (B : Memref sig .tc .vmem S2x128x2048 .f32)
    (X : A.view.ty.Contents (Elt F)) (s : Fin 2) (b : Fin 64) (f : (slot B s).view.ty.Contents (Elt F)) {off : Fin 3 → ℕ} (a : ℕ) (hoff : off = ![s.val, a, 0]) (ha : a + 64 ≤ 128)
    (inb : ∀ t, off t + S1x64x2048.size t ≤ S2x128x2048.size t) (r : Fin 64) (q : Fin 2048) :
    B.view.readAt (Elt F) (Rect.unit (s := S2x128x2048) off S1x64x2048.size inb).toLoadRect
        ((slot B s).view.writes (Elt F) f [⟨Rect.whole S128x2048, ReadAs.same.apply ((chunk A b).view.read (Elt F) X)⟩]) (ix3 (0 : Fin 1) r q : S1x64x2048.Idx)
      = A.view.read (Elt F) X (ix2 ⟨128 * b.val + (a + r.val), by have := b.isLt; have := r.isLt; omega⟩ q) := by
  subst hoff
  have hr := r.isLt
  refine Eq.trans (congrArg (B.view.read (Elt F) _) (?_ : _ = ix3 s (⟨a + r.val, by omega⟩ : Fin 128) q)) ?_
  · funext t
    apply Fin.ext
    fin_cases t
    · show s.val + 1 * 0 = s.val; omega
    · show a + 1 * r.val = a + r.val; omega
    · show 0 + 1 * q.val = q.val; omega
  refine (slot_read B s _ _ q).trans ?_
  refine (congrFun (View.read_writes_full (slot B s).view f (off := fun _ => 0) (fun t => by rw [Nat.zero_add]) _ []) _).trans ?_
  refine congrArg (A.view.read (Elt F) X) (funext fun t => Fin.ext ?_)
  fin_cases t
  · show 128 * b.val + 1 * (a + r.val) = 128 * b.val + (a + r.val); omega
  · show 0 + 1 * q.val = q.val; omega

/-! ## One trip -/

section Trip
variable (c : Dev nD) (X : Buf (Elt Ideal) (xM.view.loc (c : Thread nD τ))) (D : Buf (Elt Ideal) (dM.view.loc (c : Thread nD τ)))
  (i : grid0.Coords) (arg2 : Memref sig .tc .vmem S1024x512 .bf16) (harg2 : arg2.IsWhole) (arg3 : Memref sig .tc .vmem S512x2048 .bf16) (harg3 : arg3.IsWhole)
  (arg4 : Memref sig .tc .vmem S1024x512 .bf16) (harg4 : arg4.IsWhole) (arg5 : Memref sig .tc .vmem S512x2048 .bf16) (harg5 : arg5.IsWhole)
  (arg7 : Memref sig .tc .vmem S1x2048 .f32) (harg7 : arg7.IsWhole) (arg9 : Memref sig .tc .vmem S1024x2048 .f32) (harg9 : arg9.IsWhole)
  (arg10 : Memref sig .tc .vmem S1024x2048 .bf16) (harg10 : arg10.IsWhole) (arg11 : Memref sig .tc .vmem S1x2048 .f32) (harg11 : arg11.IsWhole)
  (arg0 : BitVec 32) (h3 : k0_cond3 i = 1#1) (f7 : Buf (Elt Ideal) (arg7.view.loc (c : Thread nD τ)))

/-- Row `p` of row block `i 0` of an array in HBM. -/
def rowOf (Y : S8192x2048.Idx → EReal) (i : grid0.Coords) (p : Fin 1024) : Fin 2048 → EReal :=
  fun u => Y (ix2 ⟨1024 * (i 0).val + p.val, by have : (i 0).val < 8 := (i 0).isLt; have := p.isLt; omega⟩ u)

theorem num_val (k : ℕ) (hk : k < 8) : (num i k).val = 8 * (i 0).val + k := by
  have : (i 0).val < 8 := (i 0).isLt
  show (8 * (i 0).val + k) % 64 = _
  omega

/-- The row block's gradient after the norm's backward pass, from what its rows held. -/
def newRow (A : S1024x2048.Idx → EReal) (p : Fin 1024) : Fin 2048 → EReal :=
  newDx (rowOf (xM.view.read (Elt Ideal) X) i p) (fun u => arg7.view.read (Elt Ideal) f7 (ix2 (0 : Fin 1) u)) (fun u => A (ix2 p u)) (rowOf (dM.view.read (Elt Ideal) D) i p)

theorem x_load (k : Fin k0_t1_loop.trips) {off : Fin 3 → ℕ} (a : ℕ) (hoff : off = ![(Ring.sl 2 k.val).val, a, 0]) (ha : a + 64 ≤ 128)
    (inb : ∀ t, off t + S1x64x2048.size t ≤ S2x128x2048.size t) (f) (r : Fin 64) (p : Fin 1024) (hp : p.val = 128 * k.val + (a + r.val)) :
    (fun u => xB.view.readAt (Elt Ideal) (Rect.unit (s := S2x128x2048) off S1x64x2048.size inb).toLoadRect
        ((slot xB (Ring.sl 2 k.val)).view.writes (Elt Ideal) f [⟨Rect.whole S128x2048, ReadAs.same.apply ((chunk xM (num i k.val)).view.read (Elt Ideal) X)⟩]) (ix3 (0 : Fin 1) r u : S1x64x2048.Idx))
      = rowOf (xM.view.read (Elt Ideal) X) i p := by
  funext u
  refine (slot_load xM xB X _ _ f a hoff ha inb r u).trans ?_
  have := num_val i k.val (lt_of_lt_of_eq k.isLt trips_eq)
  exact congrArg (xM.view.read (Elt Ideal) X) (congrArg (fun z => ix2 z u) (Fin.ext (by show 128 * (num i k.val).val + (a + r.val) = 1024 * (i 0).val + p.val; omega)))

theorem d_load (k : Fin k0_t1_loop.trips) {off : Fin 3 → ℕ} (a : ℕ) (hoff : off = ![(Ring.sl 2 k.val).val, a, 0]) (ha : a + 64 ≤ 128)
    (inb : ∀ t, off t + S1x64x2048.size t ≤ S2x128x2048.size t) (f) (r : Fin 64) (p : Fin 1024) (hp : p.val = 128 * k.val + (a + r.val)) :
    (fun u => dB.view.readAt (Elt Ideal) (Rect.unit (s := S2x128x2048) off S1x64x2048.size inb).toLoadRect
        ((slot dB (Ring.sl 2 k.val)).view.writes (Elt Ideal) f [⟨Rect.whole S128x2048, ReadAs.same.apply ((chunk dM (num i k.val)).view.read (Elt Ideal) D)⟩]) (ix3 (0 : Fin 1) r u : S1x64x2048.Idx))
      = rowOf (dM.view.read (Elt Ideal) D) i p := by
  funext u
  refine (slot_load dM dB D _ _ f a hoff ha inb r u).trans ?_
  have := num_val i k.val (lt_of_lt_of_eq k.isLt trips_eq)
  exact congrArg (dM.view.read (Elt Ideal) D) (congrArg (fun z => ix2 z u) (Fin.ext (by show 128 * (num i k.val).val + (a + r.val) = 1024 * (i 0).val + p.val; omega)))

theorem g_load (inb : ∀ t, (![0, 0] : Fin 2 → ℕ) t + S1x2048.size t ≤ S1x2048.size t) :
    (fun u => arg7.view.readAt (Elt Ideal) (Rect.unit (s := S1x2048) ![0, 0] S1x2048.size inb).toLoadRect f7 (ix2 (0 : Fin 1) u))
      = fun u => arg7.view.read (Elt Ideal) f7 (ix2 (0 : Fin 1) u) := by
  rw [View.readAt_full]

theorem rows_load (f9 : Buf (Elt Ideal) (arg9.view.loc (c : Thread nD τ))) {off : Fin 2 → ℕ} (a : ℕ) (hoff : off = ![a, 0])
    (inb : ∀ t, off t + S64x2048.size t ≤ S1024x2048.size t) (r : Fin 64) (p : Fin 1024) (hp : p.val = a + r.val) :
    (fun u => arg9.view.readAt (Elt Ideal) (Rect.unit (s := S1024x2048) off S64x2048.size inb).toLoadRect f9 (ix2 r u))
      = fun u => arg9.view.read (Elt Ideal) f9 (ix2 p u) := by
  subst hoff
  funext u
  refine (congrFun (View.readAt_unit arg9.view f9 inb rfl inb) _).trans ?_
  refine (window_rows _ a inb r u (by have := p.isLt; omega)).trans ?_
  exact congrArg (arg9.view.read (Elt Ideal) f9) (congrArg (fun z => ix2 z u) (Fin.ext hp.symm))

local notation "T" => tripOuts c X D i arg2 harg2 arg3 harg3 arg4 harg4 arg5 harg5 arg7 harg7 arg9 harg9 arg10 harg10 arg11 harg11 arg0 h3 f7

set_option maxHeartbeats 1000000 in
theorem trip_dx (k : Fin k0_t1_loop.trips) (o : Outs (F := Ideal) c arg9 arg10 arg11) (p : Fin 1024) (q : Fin 2048) :
    arg9.view.read (Elt Ideal) (T k o).1 (ix2 p q)
      = if p.val / 128 = k.val then newRow c X D i arg7 f7 (arg9.view.read (Elt Ideal) o.1) p q else arg9.view.read (Elt Ideal) o.1 (ix2 p q) := by
  unfold tripOuts tripRun
  dsimp only
  rw [View.read_writes_cons_put arg9.view o.1 _ _ _ (off11b_eq k)]
  by_cases h1 : 128 * k.val + 64 ≤ p.val ∧ p.val < 128 * k.val + 64 + 64
  · rw [if_pos (by omega)]
    refine (put_rows_in _ _ _ p q h1.1 h1.2).trans ?_
    refine (dx_second _ _ _ _ _ q).trans ?_
    exact newDx_congr
      (x_load c X i k 64 (off12_eq k) (by omega) _ _ ⟨p.val - (128 * k.val + 64), by omega⟩ p (by show p.val = 128 * k.val + (64 + (p.val - (128 * k.val + 64))); omega))
      (g_load c arg7 f7 _)
      (rows_load c arg9 o.1 (128 * k.val + 64) (off11b_eq k) _ ⟨p.val - (128 * k.val + 64), by omega⟩ p (by show p.val = 128 * k.val + 64 + (p.val - (128 * k.val + 64)); omega))
      (d_load c D i k 64 (off12_eq k) (by omega) _ _ ⟨p.val - (128 * k.val + 64), by omega⟩ p (by show p.val = 128 * k.val + (64 + (p.val - (128 * k.val + 64))); omega)) q
  refine (put_rows_out _ _ _ p q (by omega)).trans ?_
  unfold tripRun.sl.H9_1
  rw [View.read_writes_cons_put arg9.view o.1 _ _ _ (off11a_eq k)]
  by_cases h0 : 128 * k.val ≤ p.val ∧ p.val < 128 * k.val + 64
  · rw [if_pos (by omega)]
    refine (put_rows_in _ _ _ p q h0.1 h0.2).trans ?_
    refine (dx_first _ _ _ _ _ q).trans ?_
    exact newDx_congr
      (x_load c X i k 0 (off10_eq k) (by omega) _ _ ⟨p.val - (128 * k.val), by omega⟩ p (by show p.val = 128 * k.val + (0 + (p.val - (128 * k.val))); omega))
      (g_load c arg7 f7 _)
      (rows_load c arg9 o.1 (128 * k.val) (off11a_eq k) _ ⟨p.val - (128 * k.val), by omega⟩ p (by show p.val = 128 * k.val + (p.val - (128 * k.val)); omega))
      (d_load c D i k 0 (off10_eq k) (by omega) _ _ ⟨p.val - (128 * k.val), by omega⟩ p (by show p.val = 128 * k.val + (0 + (p.val - (128 * k.val))); omega)) q
  rw [if_neg (by omega)]
  exact put_rows_out _ _ _ p q (by omega)

set_option maxHeartbeats 1000000 in
theorem trip_dxb (k : Fin k0_t1_loop.trips) (o : Outs (F := Ideal) c arg9 arg10 arg11) (p : Fin 1024) (q : Fin 2048) :
    (arg10.view.read (Elt Ideal) (T k o).2.1 (ix2 p q) : EReal)
      = if p.val / 128 = k.val then newRow c X D i arg7 f7 (arg9.view.read (Elt Ideal) o.1) p q else arg10.view.read (Elt Ideal) o.2.1 (ix2 p q) := by
  unfold tripOuts tripRun
  dsimp only
  rw [View.read_writes_cons_put arg10.view o.2.1 _ _ _ (off11b_eq k)]
  by_cases h1 : 128 * k.val + 64 ≤ p.val ∧ p.val < 128 * k.val + 64 + 64
  · rw [if_pos (by omega)]
    refine (put_rows_in _ _ _ p q h1.1 h1.2).trans ?_
    refine (dxb_second _ _ _ _ _ q).trans ?_
    exact newDx_congr
      (x_load c X i k 64 (off12_eq k) (by omega) _ _ ⟨p.val - (128 * k.val + 64), by omega⟩ p (by show p.val = 128 * k.val + (64 + (p.val - (128 * k.val + 64))); omega))
      (g_load c arg7 f7 _)
      (rows_load c arg9 o.1 (128 * k.val + 64) (off11b_eq k) _ ⟨p.val - (128 * k.val + 64), by omega⟩ p (by show p.val = 128 * k.val + 64 + (p.val - (128 * k.val + 64)); omega))
      (d_load c D i k 64 (off12_eq k) (by omega) _ _ ⟨p.val - (128 * k.val + 64), by omega⟩ p (by show p.val = 128 * k.val + (64 + (p.val - (128 * k.val + 64))); omega)) q
  refine (put_rows_out _ _ _ p q (by omega)).trans ?_
  unfold tripRun.sl.H10_1
  rw [View.read_writes_cons_put arg10.view o.2.1 _ _ _ (off11a_eq k)]
  by_cases h0 : 128 * k.val ≤ p.val ∧ p.val < 128 * k.val + 64
  · rw [if_pos (by omega)]
    refine (put_rows_in _ _ _ p q h0.1 h0.2).trans ?_
    refine (dxb_first _ _ _ _ _ q).trans ?_
    exact newDx_congr
      (x_load c X i k 0 (off10_eq k) (by omega) _ _ ⟨p.val - (128 * k.val), by omega⟩ p (by show p.val = 128 * k.val + (0 + (p.val - (128 * k.val))); omega))
      (g_load c arg7 f7 _)
      (rows_load c arg9 o.1 (128 * k.val) (off11a_eq k) _ ⟨p.val - (128 * k.val), by omega⟩ p (by show p.val = 128 * k.val + (p.val - (128 * k.val)); omega))
      (d_load c D i k 0 (off10_eq k) (by omega) _ _ ⟨p.val - (128 * k.val), by omega⟩ p (by show p.val = 128 * k.val + (0 + (p.val - (128 * k.val))); omega)) q
  rw [if_neg (by omega)]
  exact put_rows_out _ _ _ p q (by omega)

/-- The contribution of row `p` of the block to entry `q` of the gain's gradient (nothing beyond the block). -/
def gterm (A : S1024x2048.Idx → EReal) (q : Fin 2048) (p : ℕ) : EReal :=
  if h : p < 1024 then gainTerm (rowOf (xM.view.read (Elt Ideal) X) i ⟨p, h⟩) (fun u => A (ix2 ⟨p, h⟩ u)) q else 0

set_option maxHeartbeats 1000000 in
theorem trip_dg (k : Fin k0_t1_loop.trips) (o : Outs (F := Ideal) c arg9 arg10 arg11) (q : Fin 2048) :
    arg11.view.read (Elt Ideal) (T k o).2.2 (ix2 (0 : Fin 1) q)
      = arg11.view.read (Elt Ideal) o.2.2 (ix2 (0 : Fin 1) q)
        + ∑ r : Fin 64, gterm c X i (arg9.view.read (Elt Ideal) o.1) q (128 * k.val + r.val)
        + ∑ r : Fin 64, gterm c X i (arg9.view.read (Elt Ideal) o.1) q (128 * k.val + 64 + r.val) := by
  have hk : k.val < 8 := lt_of_lt_of_eq k.isLt trips_eq
  unfold tripOuts tripRun
  dsimp only
  rw [View.read_writes_full]
  refine (dg_add_second _ _ _).trans ?_
  unfold tripRun.sl.v150 tripRun.sl.H11_1
  rw [View.readCov_full]
  refine congrArg₂ (· + ·) ?_ ?_
  · refine (dg_add_first _ _ _).trans (congrArg₂ (· + ·) ?_ ?_)
    · rw [View.readAt_full]
    · refine (dg_first _ _ q).trans (Finset.sum_congr rfl fun r _ => ?_)
      have hr := r.isLt
      unfold gterm
      rw [dif_pos (by omega)]
      exact gainTerm_congr
        (x_load c X i k 0 (off10_eq k) (by omega) _ _ r ⟨128 * k.val + r.val, by omega⟩ (by show 128 * k.val + r.val = 128 * k.val + (0 + r.val); omega))
        (rows_load c arg9 o.1 (128 * k.val) (off11a_eq k) _ r ⟨128 * k.val + r.val, by omega⟩ rfl) q
  · refine (dg_second _ _ q).trans (Finset.sum_congr rfl fun r _ => ?_)
    have hr := r.isLt
    unfold gterm
    rw [dif_pos (by omega)]
    exact gainTerm_congr
      (x_load c X i k 64 (off12_eq k) (by omega) _ _ r ⟨128 * k.val + 64 + r.val, by omega⟩ (by show 128 * k.val + 64 + r.val = 128 * k.val + (64 + r.val); omega))
      (rows_load c arg9 o.1 (128 * k.val + 64) (off11b_eq k) _ r ⟨128 * k.val + 64 + r.val, by omega⟩ rfl) q

end Trip

end Cert.Proof.RmsFfnRing

end
-- ==== Proof.RmsFfnBody.lean ====
/-
  One run of the RMS-norm backward call's body at a grid point, by what it does there: the first point of a row
  block zeroes the accumulator, every point adds two products into it, and the last point runs the chunk loop.
-/
module

public import proofs.«01_k».proof.Proof.RmsFfnTrip

@[expose] public section

set_option maxRecDepth 16384

noncomputable section

namespace Cert.Proof.RmsFfnRing

open Cert.RmsFfnIdeal Cert.RmsFfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

section Body

variable (c : Dev nD) (X : Buf (Elt F) (xM.view.loc (c : Thread nD τ))) (D : Buf (Elt F) (dM.view.loc (c : Thread nD τ)))
  (i : grid0.Coords)
  (arg2 : Memref sig .tc .vmem S1024x512 .bf16) (harg2 : arg2.IsWhole) (arg3 : Memref sig .tc .vmem S512x2048 .bf16) (harg3 : arg3.IsWhole)
  (arg4 : Memref sig .tc .vmem S1024x512 .bf16) (harg4 : arg4.IsWhole) (arg5 : Memref sig .tc .vmem S512x2048 .bf16) (harg5 : arg5.IsWhole)
  (arg7 : Memref sig .tc .vmem S1x2048 .f32) (harg7 : arg7.IsWhole)
  (arg9 : Memref sig .tc .vmem S1024x2048 .f32) (harg9 : arg9.IsWhole)
  (arg10 : Memref sig .tc .vmem S1024x2048 .bf16) (harg10 : arg10.IsWhole)
  (arg11 : Memref sig .tc .vmem S1x2048 .f32) (harg11 : arg11.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f7 : Buf (Elt F) (arg7.view.loc (c : Thread nD τ)))

/-- The four product operands' blocks. -/
abbrev blocks4 : sProp 𝕄 :=
  iprop((arg2.view.loc (c : Thread nD τ) ↦[arg2.view.set]{fullShare} f2) ∗ (arg3.view.loc (c : Thread nD τ) ↦[arg3.view.set]{fullShare} f3)
    ∗ (arg4.view.loc (c : Thread nD τ) ↦[arg4.view.set]{fullShare} f4) ∗ (arg5.view.loc (c : Thread nD τ) ↦[arg5.view.set]{fullShare} f5))

/-- The rings with nothing in flight. -/
abbrev ringOff : sProp 𝕄 :=
  iprop(bigSep Finset.univ (homeP c xM X) ∗ bigSep Finset.univ (homeP c dM D)
    ∗ (∃ f, slotP (F := F) c xB 0 f) ∗ (∃ f, slotP (F := F) c xB 1 f) ∗ (∃ f, slotP (F := F) c dB 0 f) ∗ (∃ f, slotP (F := F) c dB 1 f)
    ∗ cellP (F := F) c 0 0 ∗ cellP (F := F) c 0 1 ∗ cellP (F := F) c 1 0 ∗ cellP (F := F) c 1 1)

theorem sl2_0 : Ring.sl 2 0 = 0 := rfl
theorem sl2_1 : Ring.sl 2 1 = 1 := rfl
theorem sl2_7 : Ring.sl 2 7 = 1 := rfl
theorem sl2_8 : Ring.sl 2 8 = 0 := rfl

theorem ringEnd_off : ringEnd c X D 7 ⊢ ringOff c X D := by
  unfold ringEnd ringOff
  rw [show (7 : ℕ) + 1 = 8 from rfl, sl2_7, sl2_8]
  iintro ⟨HX, HD, Hx1, Hd1, Hx0, Hd0, Hc10, Hc11, Hc00, Hc01⟩
  isplitl [HX]; · iexact HX
  isplitl [HD]; · iexact HD
  isplitl [Hx0]; · iexact Hx0
  isplitl [Hx1]; · iexact Hx1
  isplitl [Hd0]; · iexact Hd0
  isplitl [Hd1]; · iexact Hd1
  isplitl [Hc00]; · iexact Hc00
  isplitl [Hc01]; · iexact Hc01
  isplitl [Hc10]; · iexact Hc10
  iexact Hc11

/-- One chunk of each array taken out of the idle rings. -/
theorem ringOff_split (b : Fin 64) : ringOff c X D ⊢
    iprop((homeP c xM X b ∗ others c xM X b) ∗ (homeP c dM D b ∗ others c dM D b)
    ∗ (∃ f, slotP (F := F) c xB 0 f) ∗ (∃ f, slotP (F := F) c xB 1 f) ∗ (∃ f, slotP (F := F) c dB 0 f) ∗ (∃ f, slotP (F := F) c dB 1 f)
    ∗ cellP (F := F) c 0 0 ∗ cellP (F := F) c 0 1 ∗ cellP (F := F) c 1 0 ∗ cellP (F := F) c 1 1) := by
  unfold ringOff
  rw [all_eq c xM X b, all_eq c dM D b]

abbrev bodyG : Prog (TpuEff nD τ sig (Elt F) Λ₀ .tc) PUnit :=
  cc0_ffn2_bwd_in (F := F) i arg2 harg2 arg3 harg3 arg4 harg4 arg5 harg5 xM (Memref.isWhole_whole _) arg7 harg7 dM (Memref.isWhole_whole _)
    arg9 harg9 arg10 harg10 arg11 harg11 xB (Memref.isWhole_whole _) dB (Memref.isWhole_whole _) cc0_scratch2

/-- The body takes the result windows from `o` to `o'`. -/
abbrev Runs (o o' : Outs (F := F) c arg9 arg10 arg11) : Prop :=
  iprop(blocks4 c arg2 arg3 arg4 arg5 f2 f3 f4 f5 ∗ wins c arg7 arg9 arg10 arg11 f7 o.1 o.2.1 o.2.2 ∗ ringOff c X D)
    ⊢ wp frame (wpE (defs₀ (F := F)) 𝒱₀ (c : Thread nD τ) none) Set.univ
        (bodyG i arg2 harg2 arg3 harg3 arg4 harg4 arg5 harg5 arg7 harg7 arg9 harg9 arg10 harg10 arg11 harg11)
      (fun _ => iprop(blocks4 c arg2 arg3 arg4 arg5 f2 f3 f4 f5 ∗ wins c arg7 arg9 arg10 arg11 f7 o'.1 o'.2.1 o'.2.2 ∗ ringOff c X D))

abbrev cond1 (i : grid0.Coords) : BitVec 1 := Scalar.cmpi .ne ((Scalar.extui (Scalar.cmpi .eq (BitVec.ofNat 32 (i 1).val) 0#32) : BitVec 32)) 0#32

set_option backward.proofsInPublic true in
set_option maxHeartbeats 4000000 in
/-- The first point of a row block. -/
def runA (h1 : cond1 i = 1#1) (h3 : ¬ k0_cond3 i = 1#1) (h2 : ¬ k0_cond2 i = 1#1) (o : Outs (F := F) c arg9 arg10 arg11) :
    { f9 : Buf (Elt F) (arg9.view.loc (c : Thread nD τ)) //
      Runs c X D i arg2 harg2 arg3 harg3 arg4 harg4 arg5 harg5 arg7 harg7 arg9 harg9 arg10 harg10 arg11 harg11 f2 f3 f4 f5 f7 o (f9, o.2.1, o.2.2) } := by
  refine ⟨?_, ?run⟩
  case run =>
    unfold Runs
    dsimp only
    iintro ⟨⟨H2, H3, H4, H5⟩, ⟨H7, H9, H10, H11, ⟨%W, HW⟩⟩, HR⟩
    dsimp only [bodyG]
    rw [cc0_ffn2_bwd_in_eq_skeleton]
    unfold cc0_ffn2_bwd_in_skel
    sl_exec
    sl_step
    isplitl [H2 H3 H4 H5]
    · isplitl [H2]; · iexact H2
      isplitl [H3]; · iexact H3
      isplitl [H4]; · iexact H4
      iexact H5
    isplitl [H7 H9 H10 H11 HW]
    · isplitl [H7]; · iexact H7
      isplitl [H9]; · iexact H9
      isplitl [H10]; · iexact H10
      isplitl [H11]; · iexact H11
      iexists _; iexact HW
    iexact HR

set_option backward.proofsInPublic true in
set_option maxHeartbeats 4000000 in
/-- A later point that is not the last. -/
def runB (h1 : ¬ cond1 i = 1#1) (h3 : ¬ k0_cond3 i = 1#1) (h2 : ¬ k0_cond2 i = 1#1) (o : Outs (F := F) c arg9 arg10 arg11) :
    { f9 : Buf (Elt F) (arg9.view.loc (c : Thread nD τ)) //
      Runs c X D i arg2 harg2 arg3 harg3 arg4 harg4 arg5 harg5 arg7 harg7 arg9 harg9 arg10 harg10 arg11 harg11 f2 f3 f4 f5 f7 o (f9, o.2.1, o.2.2) } := by
  refine ⟨?_, ?run⟩
  case run =>
    unfold Runs
    dsimp only
    iintro ⟨⟨H2, H3, H4, H5⟩, ⟨H7, H9, H10, H11, ⟨%W, HW⟩⟩, HR⟩
    dsimp only [bodyG]
    rw [cc0_ffn2_bwd_in_eq_skeleton]
    unfold cc0_ffn2_bwd_in_skel
    sl_exec
    sl_step
    isplitl [H2 H3 H4 H5]
    · isplitl [H2]; · iexact H2
      isplitl [H3]; · iexact H3
      isplitl [H4]; · iexact H4
      iexact H5
    isplitl [H7 H9 H10 H11 HW]
    · isplitl [H7]; · iexact H7
      isplitl [H9]; · iexact H9
      isplitl [H10]; · iexact H10
      isplitl [H11]; · iexact H11
      iexists _; iexact HW
    iexact HR

set_option maxHeartbeats 400000 in
/-- The chunk loop from its first chunk's copies in flight. -/
theorem loop_run (h3 : k0_cond3 i = 1#1) (f9 : Buf (Elt F) (arg9.view.loc (c : Thread nD τ)))
    (f10 : Buf (Elt F) (arg10.view.loc (c : Thread nD τ))) (f11 : Buf (Elt F) (arg11.view.loc (c : Thread nD τ))) :
    iprop(blocks4 c arg2 arg3 arg4 arg5 f2 f3 f4 f5 ∗ wins c arg7 arg9 arg10 arg11 f7 f9 f10 f11 ∗ ringOn c X D i 0)
      ⊢ wp frame (wpE (defs₀ (F := F)) 𝒱₀ (c : Thread nD τ) none) Set.univ (k0_t1_loop.for (k0_t1_ok i h3) PUnit.unit
          (k0_t1_body (F := F) i arg2 harg2 arg3 harg3 arg4 harg4 arg5 harg5 xM (Memref.isWhole_whole _) arg7 harg7 dM (Memref.isWhole_whole _)
            arg9 harg9 arg10 harg10 arg11 harg11 xB (Memref.isWhole_whole _) dB (Memref.isWhole_whole _) cc0_scratch2 (BitVec.ofNat 32 (i 0).val) h3)
          >>= fun __r => Pure.pure PUnit.unit)
        (fun _ => iprop(blocks4 c arg2 arg3 arg4 arg5 f2 f3 f4 f5
          ∗ wins c arg7 arg9 arg10 arg11 f7
            (outsAt c X D i arg2 harg2 arg3 harg3 arg4 harg4 arg5 harg5 arg7 harg7 arg9 harg9 arg10 harg10 arg11 harg11 (BitVec.ofNat 32 (i 0).val) h3 f7 (f9, f10, f11) 8).1
            (outsAt c X D i arg2 harg2 arg3 harg3 arg4 harg4 arg5 harg5 arg7 harg7 arg9 harg9 arg10 harg10 arg11 harg11 (BitVec.ofNat 32 (i 0).val) h3 f7 (f9, f10, f11) 8).2.1
            (outsAt c X D i arg2 harg2 arg3 harg3 arg4 harg4 arg5 harg5 arg7 harg7 arg9 harg9 arg10 harg10 arg11 harg11 (BitVec.ofNat 32 (i 0).val) h3 f7 (f9, f10, f11) 8).2.2
          ∗ ringOff c X D)) := by
  iintro ⟨HB, Hw, HR⟩
  sl_for (fun k _ => inv c X D i arg2 harg2 arg3 harg3 arg4 harg4 arg5 harg5 arg7 harg7 arg9 harg9 arg10 harg10 arg11 harg11 (BitVec.ofNat 32 (i 0).val) h3 f7 (f9, f10, f11) k) $$ [Hw HR]
  case region =>
    intro k _
    exact inv_step c X D i arg2 harg2 arg3 harg3 arg4 harg4 arg5 harg5 arg7 harg7 arg9 harg9 arg10 harg10 arg11 harg11 (BitVec.ofNat 32 (i 0).val) h3 f7 (f9, f10, f11) k
  · unfold inv
    rw [show ring c X D i 0 = ringOn c X D i 0 from if_pos (by decide)]
    isplitl [Hw]; · iexact Hw
    iexact HR
  iintro %_ HI
  unfold inv
  rw [show Scf.trips k0_t1_loop.lb k0_t1_loop.ub k0_t1_loop.st = 8 from trips_eq, show ring c X D i 8 = ringEnd c X D 7 from if_neg (by decide)]
  icases HI with ⟨Hw, HR⟩
  sl_step
  isplitl [HB]; · iexact HB
  isplitl [Hw]; · iexact Hw
  iapply (ringEnd_off c X D)
  iexact HR

attribute [local sl_canon] sl2_0 sl2_1 in
set_option backward.proofsInPublic true in
set_option maxHeartbeats 1000000 in
/-- The last point of the first row block. -/
def runC (h1 : ¬ cond1 i = 1#1) (h3 : k0_cond3 i = 1#1) (h2 : k0_cond2 i = 1#1) (h4 : k0_cond4 i = 1#1) (o : Outs (F := F) c arg9 arg10 arg11) :
    { o' : Outs (F := F) c arg9 arg10 arg11 //
      Runs c X D i arg2 harg2 arg3 harg3 arg4 harg4 arg5 harg5 arg7 harg7 arg9 harg9 arg10 harg10 arg11 harg11 f2 f3 f4 f5 f7 o
        (outsAt c X D i arg2 harg2 arg3 harg3 arg4 harg4 arg5 harg5 arg7 harg7 arg9 harg9 arg10 harg10 arg11 harg11 (BitVec.ofNat 32 (i 0).val) h3 f7 o' 8) } := by
  refine ⟨(?n9, o.2.1, ?n11), ?run⟩
  case run =>
    unfold Runs
    iintro ⟨⟨H2, H3, H4, H5⟩, ⟨H7, H9, H10, H11, ⟨%W, HW⟩⟩, HR⟩
    icases (ringOff_split c X D (num i 0)) $$ HR with ⟨⟨Hx, Hxs⟩, ⟨Hd, Hds⟩, ⟨%fx, Hx0⟩, Hx1, ⟨%fd, Hd0⟩, Hd1, Hc00, Hc01, Hc10, Hc11⟩
    dsimp only [bodyG]
    rw [cc0_ffn2_bwd_in_eq_skeleton]
    unfold cc0_ffn2_bwd_in_skel
    sl_exec
    iapply (loop_run c X D i arg2 harg2 arg3 harg3 arg4 harg4 arg5 harg5 arg7 harg7 arg9 harg9 arg10 harg10 arg11 harg11 f2 f3 f4 f5 f7 h3 _ _ _)
    isplitl [H2 H3 H4 H5]
    · isplitl [H2]; · iexact H2
      isplitl [H3]; · iexact H3
      isplitl [H4]; · iexact H4
      iexact H5
    isplitl [H7 H9 H10 H11 HW]
    · isplitl [H7]; · iexact H7
      isplitl [H9]; · iexact H9
      isplitl [H10]; · iexact H10
      isplitl [H11]; · iexact H11
      iexists _; iexact HW
    isplitl [Hxs]; · iexact Hxs
    isplitl [Hds]; · iexact Hds
    isplitl [Hc00]; · iexists fx; iexact Hc00
    isplitl [Hc01]; · iexists fd; iexact Hc01
    isplitl [Hx1]; · iexact Hx1
    isplitl [Hd1]; · iexact Hd1
    isplitl [Hc10]; · iexact Hc10
    iexact Hc11

attribute [local sl_canon] sl2_0 sl2_1 in
set_option backward.proofsInPublic true in
set_option maxHeartbeats 1000000 in
/-- The last point of a later row block. -/
def runD (h1 : ¬ cond1 i = 1#1) (h3 : k0_cond3 i = 1#1) (h2 : k0_cond2 i = 1#1) (h4 : ¬ k0_cond4 i = 1#1) (o : Outs (F := F) c arg9 arg10 arg11) :
    { o' : Outs (F := F) c arg9 arg10 arg11 //
      Runs c X D i arg2 harg2 arg3 harg3 arg4 harg4 arg5 harg5 arg7 harg7 arg9 harg9 arg10 harg10 arg11 harg11 f2 f3 f4 f5 f7 o
        (outsAt c X D i arg2 harg2 arg3 harg3 arg4 harg4 arg5 harg5 arg7 harg7 arg9 harg9 arg10 harg10 arg11 harg11 (BitVec.ofNat 32 (i 0).val) h3 f7 o' 8) } := by
  refine ⟨(?n9, o.2.1, ?n11), ?run⟩
  case run =>
    unfold Runs
    iintro ⟨⟨H2, H3, H4, H5⟩, ⟨H7, H9, H10, H11, ⟨%W, HW⟩⟩, HR⟩
    icases (ringOff_split c X D (num i 0)) $$ HR with ⟨⟨Hx, Hxs⟩, ⟨Hd, Hds⟩, ⟨%fx, Hx0⟩, Hx1, ⟨%fd, Hd0⟩, Hd1, Hc00, Hc01, Hc10, Hc11⟩
    dsimp only [bodyG]
    rw [cc0_ffn2_bwd_in_eq_skeleton]
    unfold cc0_ffn2_bwd_in_skel
    sl_exec
    iapply (loop_run c X D i arg2 harg2 arg3 harg3 arg4 harg4 arg5 harg5 arg7 harg7 arg9 harg9 arg10 harg10 arg11 harg11 f2 f3 f4 f5 f7 h3 _ _ _)
    isplitl [H2 H3 H4 H5]
    · isplitl [H2]; · iexact H2
      isplitl [H3]; · iexact H3
      isplitl [H4]; · iexact H4
      iexact H5
    isplitl [H7 H9 H10 H11 HW]
    · isplitl [H7]; · iexact H7
      isplitl [H9]; · iexact H9
      isplitl [H10]; · iexact H10
      isplitl [H11]; · iexact H11
      iexists _; iexact HW
    isplitl [Hxs]; · iexact Hxs
    isplitl [Hds]; · iexact Hds
    isplitl [Hc00]; · iexists fx; iexact Hc00
    isplitl [Hc01]; · iexists fd; iexact Hc01
    isplitl [Hx1]; · iexact Hx1
    isplitl [Hd1]; · iexact Hd1
    isplitl [Hc10]; · iexact Hc10
    iexact Hc11

end Body

end Cert.Proof.RmsFfnRing

end
-- ==== Proof.RmsFfnLoopValue.lean ====
/-
  What the chunk loop leaves after its eight trips: every row of the block is the gradient of the norm's input, the same rows
  lie in bf16, and the gain's gradient has gained the sum over all rows of the block.
-/
module

public import proofs.«01_k».proof.Proof.RmsFfnTripValue
public import proofs.«01_k».proof.Proof.BlockSums
public import proofs.«01_k».proof.Proof.RmsFfnBody

@[expose] public section

set_option maxRecDepth 16384

noncomputable section

namespace Cert.Proof.RmsFfnRing

open Cert.RmsFfnIdeal Cert.RmsFfnIdeal.Gen
open Idealize.ShloMosaic
open Idealize.ShloMosaic.TcCoe Idealize.ShloMosaic.Tactic
open Cert.Proof.RmsRows Cert.Proof.RowWindows Cert.Proof.BlockSums
open scoped BigOperators

section Loop
variable (c : Dev nD) (X : Buf (Elt Ideal) (xM.view.loc (c : Thread nD τ))) (D : Buf (Elt Ideal) (dM.view.loc (c : Thread nD τ)))
  (i : grid0.Coords) (arg2 : Memref sig .tc .vmem S1024x512 .bf16) (harg2 : arg2.IsWhole) (arg3 : Memref sig .tc .vmem S512x2048 .bf16) (harg3 : arg3.IsWhole)
  (arg4 : Memref sig .tc .vmem S1024x512 .bf16) (harg4 : arg4.IsWhole) (arg5 : Memref sig .tc .vmem S512x2048 .bf16) (harg5 : arg5.IsWhole)
  (arg7 : Memref sig .tc .vmem S1x2048 .f32) (harg7 : arg7.IsWhole) (arg9 : Memref sig .tc .vmem S1024x2048 .f32) (harg9 : arg9.IsWhole)
  (arg10 : Memref sig .tc .vmem S1024x2048 .bf16) (harg10 : arg10.IsWhole) (arg11 : Memref sig .tc .vmem S1x2048 .f32) (harg11 : arg11.IsWhole)
  (arg0 : BitVec 32) (h3 : k0_cond3 i = 1#1) (f7 : Buf (Elt Ideal) (arg7.view.loc (c : Thread nD τ)))

local notation "W" => outsAt c X D i arg2 harg2 arg3 harg3 arg4 harg4 arg5 harg5 arg7 harg7 arg9 harg9 arg10 harg10 arg11 harg11 arg0 h3 f7

theorem newRow_congr (A B : S1024x2048.Idx → EReal) (p : Fin 1024) (h : ∀ u, A (ix2 p u) = B (ix2 p u)) : newRow c X D i arg7 f7 A p = newRow c X D i arg7 f7 B p := by
  funext q
  exact newDx_congr rfl rfl (funext h) rfl q

theorem gterm_congr (A B : S1024x2048.Idx → EReal) (q : Fin 2048) (p : ℕ) (h : ∀ (hp : p < 1024) u, A (ix2 ⟨p, hp⟩ u) = B (ix2 ⟨p, hp⟩ u)) : gterm c X i A q p = gterm c X i B q p := by
  unfold gterm
  split
  · rename_i hp
    exact gainTerm_congr rfl (funext (h hp)) q
  · rfl

theorem outs_dx (o : Outs (F := Ideal) c arg9 arg10 arg11) (k : ℕ) (hk : k ≤ 8) (p : Fin 1024) (q : Fin 2048) :
    arg9.view.read (Elt Ideal) (W o k).1 (ix2 p q)
      = if p.val / 128 < k then newRow c X D i arg7 f7 (arg9.view.read (Elt Ideal) o.1) p q else arg9.view.read (Elt Ideal) o.1 (ix2 p q) := by
  induction k generalizing q with
  | zero => exact (if_neg (Nat.not_lt_zero _)).symm
  | succ k ih =>
    have hk' : k < k0_t1_loop.trips := lt_of_lt_of_eq (show k < 8 by omega) trips_eq.symm
    rw [show W o (k + 1) = _ from outsAt_succ c X D i arg2 harg2 arg3 harg3 arg4 harg4 arg5 harg5 arg7 harg7 arg9 harg9 arg10 harg10 arg11 harg11 arg0 h3 f7 o ⟨k, hk'⟩]
    rw [trip_dx]
    by_cases h : p.val / 128 = k
    · rw [if_pos h, if_pos (by omega)]
      exact congrFun (newRow_congr c X D i arg7 f7 _ _ p fun u => (ih (by omega) u).trans (if_neg (by omega))) q
    · rw [if_neg h, ih (by omega) q]
      by_cases h' : p.val / 128 < k
      · rw [if_pos h', if_pos (by omega)]
      · rw [if_neg h', if_neg (by omega)]

theorem outs_dxb (o : Outs (F := Ideal) c arg9 arg10 arg11) (k : ℕ) (hk : k ≤ 8) (p : Fin 1024) (q : Fin 2048) :
    (arg10.view.read (Elt Ideal) (W o k).2.1 (ix2 p q) : EReal)
      = if p.val / 128 < k then newRow c X D i arg7 f7 (arg9.view.read (Elt Ideal) o.1) p q else arg10.view.read (Elt Ideal) o.2.1 (ix2 p q) := by
  induction k with
  | zero => exact (if_neg (Nat.not_lt_zero _)).symm
  | succ k ih =>
    have hk' : k < k0_t1_loop.trips := lt_of_lt_of_eq (show k < 8 by omega) trips_eq.symm
    rw [show W o (k + 1) = _ from outsAt_succ c X D i arg2 harg2 arg3 harg3 arg4 harg4 arg5 harg5 arg7 harg7 arg9 harg9 arg10 harg10 arg11 harg11 arg0 h3 f7 o ⟨k, hk'⟩]
    rw [trip_dxb]
    by_cases h : p.val / 128 = k
    · rw [if_pos h, if_pos (by omega)]
      exact congrFun (newRow_congr c X D i arg7 f7 _ _ p fun u =>
        (outs_dx c X D i arg2 harg2 arg3 harg3 arg4 harg4 arg5 harg5 arg7 harg7 arg9 harg9 arg10 harg10 arg11 harg11 arg0 h3 f7 o k (by omega) p u).trans (if_neg (by omega))) q
    · rw [if_neg h, ih (by omega)]
      by_cases h' : p.val / 128 < k
      · rw [if_pos h', if_pos (by omega)]
      · rw [if_neg h', if_neg (by omega)]

theorem outs_dg (o : Outs (F := Ideal) c arg9 arg10 arg11) (k : ℕ) (hk : k ≤ 8) (q : Fin 2048) :
    arg11.view.read (Elt Ideal) (W o k).2.2 (ix2 (0 : Fin 1) q)
      = arg11.view.read (Elt Ideal) o.2.2 (ix2 (0 : Fin 1) q) + blocks 64 (gterm c X i (arg9.view.read (Elt Ideal) o.1) q) (2 * k) := by
  induction k with
  | zero => unfold blocks; rw [Nat.mul_zero, Finset.sum_range_zero, add_zero]; rfl
  | succ k ih =>
    have hk' : k < k0_t1_loop.trips := lt_of_lt_of_eq (show k < 8 by omega) trips_eq.symm
    rw [show W o (k + 1) = _ from outsAt_succ c X D i arg2 harg2 arg3 harg3 arg4 harg4 arg5 harg5 arg7 harg7 arg9 harg9 arg10 harg10 arg11 harg11 arg0 h3 f7 o ⟨k, hk'⟩]
    rw [trip_dg, ih (by omega), show 2 * (k + 1) = 2 * k + 1 + 1 by omega, blocks_succ, blocks_succ, ← add_assoc, ← add_assoc]
    have e : ∀ p : ℕ, 128 * k ≤ p → gterm c X i (arg9.view.read (Elt Ideal) (W o k).1) q p = gterm c X i (arg9.view.read (Elt Ideal) o.1) q p := fun p hp =>
      gterm_congr c X i _ _ q p fun hlt u =>
        (outs_dx c X D i arg2 harg2 arg3 harg3 arg4 harg4 arg5 harg5 arg7 harg7 arg9 harg9 arg10 harg10 arg11 harg11 arg0 h3 f7 o k (by omega) ⟨p, hlt⟩ u).trans
          (if_neg (by show ¬ p / 128 < k; omega))
    refine congrArg₂ (· + ·) (congrArg₂ (· + ·) rfl (Finset.sum_congr rfl fun r _ => ?_)) (Finset.sum_congr rfl fun r _ => ?_)
    · rw [show 64 * (2 * k) + r.val = 128 * k + r.val by omega]
      exact e _ (by show 128 * k ≤ 128 * k + r.val; omega)
    · rw [show 64 * (2 * k + 1) + r.val = 128 * k + 64 + r.val by omega]
      exact e _ (by show 128 * k ≤ 128 * k + 64 + r.val; omega)

/-- All eight trips. -/
theorem loop_dx (o : Outs (F := Ideal) c arg9 arg10 arg11) (p : Fin 1024) (q : Fin 2048) :
    arg9.view.read (Elt Ideal) (W o 8).1 (ix2 p q) = newRow c X D i arg7 f7 (arg9.view.read (Elt Ideal) o.1) p q :=
  (outs_dx c X D i arg2 harg2 arg3 harg3 arg4 harg4 arg5 harg5 arg7 harg7 arg9 harg9 arg10 harg10 arg11 harg11 arg0 h3 f7 o 8 le_rfl p q).trans
    (if_pos (by have := p.isLt; omega))

theorem loop_dxb (o : Outs (F := Ideal) c arg9 arg10 arg11) (p : Fin 1024) (q : Fin 2048) :
    (arg10.view.read (Elt Ideal) (W o 8).2.1 (ix2 p q) : EReal) = newRow c X D i arg7 f7 (arg9.view.read (Elt Ideal) o.1) p q :=
  (outs_dxb c X D i arg2 harg2 arg3 harg3 arg4 harg4 arg5 harg5 arg7 harg7 arg9 harg9 arg10 harg10 arg11 harg11 arg0 h3 f7 o 8 le_rfl p q).trans
    (if_pos (by have := p.isLt; omega))

theorem loop_dg (o : Outs (F := Ideal) c arg9 arg10 arg11) (q : Fin 2048) :
    arg11.view.read (Elt Ideal) (W o 8).2.2 (ix2 (0 : Fin 1) q)
      = arg11.view.read (Elt Ideal) o.2.2 (ix2 (0 : Fin 1) q) + ∑ p ∈ Finset.range 1024, gterm c X i (arg9.view.read (Elt Ideal) o.1) q p := by
  rw [outs_dg c X D i arg2 harg2 arg3 harg3 arg4 harg4 arg5 harg5 arg7 harg7 arg9 harg9 arg10 harg10 arg11 harg11 arg0 h3 f7 o 8 le_rfl q, blocks_eq_range]

end Loop

end Cert.Proof.RmsFfnRing

end
-- ==== Proof.RmsFfnBodyValue.lean ====
/-
  What one grid point of the call does to the reads of its windows: it adds the two products of the point to the block (from zero
  at the first point of a row block), and at the last point of a row block takes the block through the norm's backward pass.
-/
module

public import proofs.«01_k».proof.Proof.RmsFfnLoopValue

@[expose] public section

set_option maxRecDepth 16384

noncomputable section

namespace Cert.Proof.RmsFfnRing

open Cert.RmsFfnIdeal Cert.RmsFfnIdeal.Gen
open Idealize.ShloMosaic
open Idealize.ShloMosaic.TcCoe Idealize.ShloMosaic.Tactic
open Cert.Proof.RmsRows Cert.Proof.RowWindows Cert.Proof.BlockSums
open scoped BigOperators

/-- The two products of a point added to the block. -/
def step (P : S1024x2048.Idx → EReal) (a2 : S1024x512.Idx → EReal) (b3 : S512x2048.Idx → EReal) (a4 : S1024x512.Idx → EReal) (b5 : S512x2048.Idx → EReal) : S1024x2048.Idx → EReal :=
  fun j => P j + (∑ k : Fin 512, a2 (ix2 (j 0) k) * b3 (ix2 k (j 1))) + ∑ k : Fin 512, a4 (ix2 (j 0) k) * b5 (ix2 k (j 1))

theorem pays_eq (P : Vec Ideal S1024x2048 .f32) (a2 : Vec Ideal S1024x512 .bf16) (b3 : Vec Ideal S512x2048 .bf16) (a4 : Vec Ideal S1024x512 .bf16) (b5 : Vec Ideal S512x2048 .bf16) :
    k0_pay3 (k0_pay2 P a2 b3) a4 b5 = step P a2 b3 a4 b5 := by
  funext j
  unfold k0_pay3 k0_pay2 step
  pointwise

theorem pay1_zero : (k0_pay1 (F := Ideal)) = fun _ => (0 : EReal) := by
  funext j
  unfold k0_pay1
  pointwise

theorem pay4_zero : (k0_pay4 (F := Ideal)) = fun _ => (0 : EReal) := by
  funext j
  unfold k0_pay4
  pointwise

section Body
variable (c : Dev nD) (X : Buf (Elt Ideal) (xM.view.loc (c : Thread nD τ))) (D : Buf (Elt Ideal) (dM.view.loc (c : Thread nD τ)))
  (i : grid0.Coords) (arg2 : Memref sig .tc .vmem S1024x512 .bf16) (harg2 : arg2.IsWhole) (arg3 : Memref sig .tc .vmem S512x2048 .bf16) (harg3 : arg3.IsWhole)
  (arg4 : Memref sig .tc .vmem S1024x512 .bf16) (harg4 : arg4.IsWhole) (arg5 : Memref sig .tc .vmem S512x2048 .bf16) (harg5 : arg5.IsWhole)
  (arg7 : Memref sig .tc .vmem S1x2048 .f32) (harg7 : arg7.IsWhole) (arg9 : Memref sig .tc .vmem S1024x2048 .f32) (harg9 : arg9.IsWhole)
  (arg10 : Memref sig .tc .vmem S1024x2048 .bf16) (harg10 : arg10.IsWhole) (arg11 : Memref sig .tc .vmem S1x2048 .f32) (harg11 : arg11.IsWhole)
  (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ)))
  (f7 : Buf (Elt Ideal) (arg7.view.loc (c : Thread nD τ))) (o : Outs (F := Ideal) c arg9 arg10 arg11)

/-- The block after the point's two products, from `P`. -/
abbrev stepped (P : S1024x2048.Idx → EReal) : S1024x2048.Idx → EReal :=
  step P (arg2.view.read (Elt Ideal) f2) (arg3.view.read (Elt Ideal) f3) (arg4.view.read (Elt Ideal) f4) (arg5.view.read (Elt Ideal) f5)

theorem runA_val (h1 : cond1 i = 1#1) (h3 : ¬ k0_cond3 i = 1#1) (h2 : ¬ k0_cond2 i = 1#1) :
    arg9.view.read (Elt Ideal) (runA c X D i arg2 harg2 arg3 harg3 arg4 harg4 arg5 harg5 arg7 harg7 arg9 harg9 arg10 harg10 arg11 harg11 f2 f3 f4 f5 f7 h1 h3 h2 o).1
      = stepped c arg2 arg3 arg4 arg5 f2 f3 f4 f5 (fun _ => 0) := by
  unfold runA
  dsimp only
  rw [View.read_writes_full]
  unfold runA.sl.v13 runA.sl.H9_2
  rw [View.readCov_full]
  unfold runA.sl.v6 runA.sl.H9_1
  rw [View.readCov_full, View.readAt_full, View.readAt_full, View.readAt_full, View.readAt_full, pays_eq, pay1_zero]

theorem runB_val (h1 : ¬ cond1 i = 1#1) (h3 : ¬ k0_cond3 i = 1#1) (h2 : ¬ k0_cond2 i = 1#1) :
    arg9.view.read (Elt Ideal) (runB c X D i arg2 harg2 arg3 harg3 arg4 harg4 arg5 harg5 arg7 harg7 arg9 harg9 arg10 harg10 arg11 harg11 f2 f3 f4 f5 f7 h1 h3 h2 o).1
      = stepped c arg2 arg3 arg4 arg5 f2 f3 f4 f5 (arg9.view.read (Elt Ideal) o.1) := by
  unfold runB
  dsimp only
  rw [View.read_writes_full]
  unfold runB.sl.v13 runB.sl.H9_1
  rw [View.readCov_full, View.readAt_full, View.readAt_full, View.readAt_full, View.readAt_full, View.readAt_full, pays_eq]

theorem runC_val (h1 : ¬ cond1 i = 1#1) (h3 : k0_cond3 i = 1#1) (h2 : k0_cond2 i = 1#1) (h4 : k0_cond4 i = 1#1) :
    arg9.view.read (Elt Ideal) (runC c X D i arg2 harg2 arg3 harg3 arg4 harg4 arg5 harg5 arg7 harg7 arg9 harg9 arg10 harg10 arg11 harg11 f2 f3 f4 f5 f7 h1 h3 h2 h4 o).1.1
        = stepped c arg2 arg3 arg4 arg5 f2 f3 f4 f5 (arg9.view.read (Elt Ideal) o.1)
      ∧ arg11.view.read (Elt Ideal) (runC c X D i arg2 harg2 arg3 harg3 arg4 harg4 arg5 harg5 arg7 harg7 arg9 harg9 arg10 harg10 arg11 harg11 f2 f3 f4 f5 f7 h1 h3 h2 h4 o).1.2.2
        = fun _ => 0 := by
  unfold runC
  dsimp only
  constructor
  · unfold runC.sl.H9_2
    rw [View.read_writes_full]
    unfold runC.sl.v13 runC.sl.H9_1
    rw [View.readCov_full, View.readAt_full, View.readAt_full, View.readAt_full, View.readAt_full, View.readAt_full, pays_eq]
  · unfold runC.sl.H11_1
    rw [View.read_writes_full, pay4_zero]

theorem runD_val (h1 : ¬ cond1 i = 1#1) (h3 : k0_cond3 i = 1#1) (h2 : k0_cond2 i = 1#1) (h4 : ¬ k0_cond4 i = 1#1) :
    arg9.view.read (Elt Ideal) (runD c X D i arg2 harg2 arg3 harg3 arg4 harg4 arg5 harg5 arg7 harg7 arg9 harg9 arg10 harg10 arg11 harg11 f2 f3 f4 f5 f7 h1 h3 h2 h4 o).1.1
        = stepped c arg2 arg3 arg4 arg5 f2 f3 f4 f5 (arg9.view.read (Elt Ideal) o.1)
      ∧ (runD c X D i arg2 harg2 arg3 harg3 arg4 harg4 arg5 harg5 arg7 harg7 arg9 harg9 arg10 harg10 arg11 harg11 f2 f3 f4 f5 f7 h1 h3 h2 h4 o).1.2.2 = o.2.2 := by
  unfold runD
  dsimp only
  constructor
  · unfold runD.sl.H9_2
    rw [View.read_writes_full]
    unfold runD.sl.v13 runD.sl.H9_1
    rw [View.readCov_full, View.readAt_full, View.readAt_full, View.readAt_full, View.readAt_full, View.readAt_full, pays_eq]
  · rfl

/-- What a run leaves, in reads. -/
structure Post (o' : Outs (F := Ideal) c arg9 arg10 arg11) : Prop where
  first : (i 1).val = 0 → arg9.view.read (Elt Ideal) o'.1 = stepped c arg2 arg3 arg4 arg5 f2 f3 f4 f5 (fun _ => 0)
  later : (i 1).val ≠ 0 → (i 1).val ≠ 10 → arg9.view.read (Elt Ideal) o'.1 = stepped c arg2 arg3 arg4 arg5 f2 f3 f4 f5 (arg9.view.read (Elt Ideal) o.1)
  keep10 : (i 1).val ≠ 10 → o'.2.1 = o.2.1
  keep11 : (i 1).val ≠ 10 → o'.2.2 = o.2.2
  dx : (i 1).val = 10 → ∀ p q, arg9.view.read (Elt Ideal) o'.1 (ix2 p q)
    = newRow c X D i arg7 f7 (stepped c arg2 arg3 arg4 arg5 f2 f3 f4 f5 (arg9.view.read (Elt Ideal) o.1)) p q
  dxb : (i 1).val = 10 → ∀ p q, (arg10.view.read (Elt Ideal) o'.2.1 (ix2 p q) : EReal)
    = newRow c X D i arg7 f7 (stepped c arg2 arg3 arg4 arg5 f2 f3 f4 f5 (arg9.view.read (Elt Ideal) o.1)) p q
  dg : (i 1).val = 10 → ∀ q, arg11.view.read (Elt Ideal) o'.2.2 (ix2 (0 : Fin 1) q)
    = (if (i 0).val = 0 then 0 else arg11.view.read (Elt Ideal) o.2.2 (ix2 (0 : Fin 1) q))
      + ∑ p ∈ Finset.range 1024, gterm c X i (stepped c arg2 arg3 arg4 arg5 f2 f3 f4 f5 (arg9.view.read (Elt Ideal) o.1)) q p

theorem bcond1_eq : ∀ i : grid0.Coords, cond1 i = 1#1 ↔ (i 1).val = 0 := by decide +kernel

/-- After the chunk loop over a block that holds the row block's products. -/
theorem post_last (e : (i 1).val = 10) (h3 : k0_cond3 i = 1#1) (arg0 : BitVec 32) (z : Outs (F := Ideal) c arg9 arg10 arg11)
    (hz : arg9.view.read (Elt Ideal) z.1 = stepped c arg2 arg3 arg4 arg5 f2 f3 f4 f5 (arg9.view.read (Elt Ideal) o.1))
    (hg : ∀ q, arg11.view.read (Elt Ideal) z.2.2 (ix2 (0 : Fin 1) q) = if (i 0).val = 0 then 0 else arg11.view.read (Elt Ideal) o.2.2 (ix2 (0 : Fin 1) q)) :
    Post c X D i arg2 arg3 arg4 arg5 arg7 arg9 arg10 arg11 f2 f3 f4 f5 f7 o
      (outsAt c X D i arg2 harg2 arg3 harg3 arg4 harg4 arg5 harg5 arg7 harg7 arg9 harg9 arg10 harg10 arg11 harg11 arg0 h3 f7 z 8) where
  first h := by omega
  later _ h := absurd e h
  keep10 h := absurd e h
  keep11 h := absurd e h
  dx _ p q := by rw [loop_dx, hz]
  dxb _ p q := by rw [loop_dxb, hz]
  dg _ q := by rw [loop_dg, hz, hg]

/-- At the first point of a row block. -/
theorem post_first (e : (i 1).val = 0) (f9 : Buf (Elt Ideal) (arg9.view.loc (c : Thread nD τ)))
    (h : arg9.view.read (Elt Ideal) f9 = stepped c arg2 arg3 arg4 arg5 f2 f3 f4 f5 (fun _ => 0)) :
    Post c X D i arg2 arg3 arg4 arg5 arg7 arg9 arg10 arg11 f2 f3 f4 f5 f7 o (f9, o.2.1, o.2.2) where
  first _ := h
  later h' := absurd e h'
  keep10 _ := rfl
  keep11 _ := rfl
  dx h' := by omega
  dxb h' := by omega
  dg h' := by omega

/-- At a point between. -/
theorem post_later (e : (i 1).val ≠ 0) (e' : (i 1).val ≠ 10) (f9 : Buf (Elt Ideal) (arg9.view.loc (c : Thread nD τ)))
    (h : arg9.view.read (Elt Ideal) f9 = stepped c arg2 arg3 arg4 arg5 f2 f3 f4 f5 (arg9.view.read (Elt Ideal) o.1)) :
    Post c X D i arg2 arg3 arg4 arg5 arg7 arg9 arg10 arg11 f2 f3 f4 f5 f7 o (f9, o.2.1, o.2.2) where
  first h' := absurd h' e
  later _ _ := h
  keep10 _ := rfl
  keep11 _ := rfl
  dx h' := absurd h' e'
  dxb h' := absurd h' e'
  dg h' := absurd h' e'

/-- At every point the body runs, and leaves that. -/
theorem runs_post : ∃ o' : Outs (F := Ideal) c arg9 arg10 arg11,
    Runs c X D i arg2 harg2 arg3 harg3 arg4 harg4 arg5 harg5 arg7 harg7 arg9 harg9 arg10 harg10 arg11 harg11 f2 f3 f4 f5 f7 o o'
      ∧ Post c X D i arg2 arg3 arg4 arg5 arg7 arg9 arg10 arg11 f2 f3 f4 f5 f7 o o' := by
  by_cases e : (i 1).val = 10
  · have h3 := (cond3_eq i).mpr e
    have h2 := (cond2_eq i).mpr e
    have h1 : ¬ cond1 i = 1#1 := fun h => by have := (bcond1_eq i).mp h; omega
    by_cases h4 : k0_cond4 i = 1#1
    · refine ⟨_, (runC c X D i arg2 harg2 arg3 harg3 arg4 harg4 arg5 harg5 arg7 harg7 arg9 harg9 arg10 harg10 arg11 harg11 f2 f3 f4 f5 f7 h1 h3 h2 h4 o).2, ?_⟩
      have v := runC_val c X D i arg2 harg2 arg3 harg3 arg4 harg4 arg5 harg5 arg7 harg7 arg9 harg9 arg10 harg10 arg11 harg11 f2 f3 f4 f5 f7 o h1 h3 h2 h4
      exact post_last c X D i arg2 harg2 arg3 harg3 arg4 harg4 arg5 harg5 arg7 harg7 arg9 harg9 arg10 harg10 arg11 harg11 f2 f3 f4 f5 f7 o e h3 _ _ v.1
        (fun q => by rw [v.2, if_pos ((cond4_eq i).mp h4)])
    · refine ⟨_, (runD c X D i arg2 harg2 arg3 harg3 arg4 harg4 arg5 harg5 arg7 harg7 arg9 harg9 arg10 harg10 arg11 harg11 f2 f3 f4 f5 f7 h1 h3 h2 h4 o).2, ?_⟩
      have v := runD_val c X D i arg2 harg2 arg3 harg3 arg4 harg4 arg5 harg5 arg7 harg7 arg9 harg9 arg10 harg10 arg11 harg11 f2 f3 f4 f5 f7 o h1 h3 h2 h4
      exact post_last c X D i arg2 harg2 arg3 harg3 arg4 harg4 arg5 harg5 arg7 harg7 arg9 harg9 arg10 harg10 arg11 harg11 f2 f3 f4 f5 f7 o e h3 _ _ v.1
        (fun q => by rw [v.2, if_neg (fun h => h4 ((cond4_eq i).mpr h))])
  · have h3 : ¬ k0_cond3 i = 1#1 := fun h => e ((cond3_eq i).mp h)
    have h2 : ¬ k0_cond2 i = 1#1 := fun h => e ((cond2_eq i).mp h)
    by_cases h1 : cond1 i = 1#1
    · have v := runA_val c X D i arg2 harg2 arg3 harg3 arg4 harg4 arg5 harg5 arg7 harg7 arg9 harg9 arg10 harg10 arg11 harg11 f2 f3 f4 f5 f7 o h1 h3 h2
      have r := (runA c X D i arg2 harg2 arg3 harg3 arg4 harg4 arg5 harg5 arg7 harg7 arg9 harg9 arg10 harg10 arg11 harg11 f2 f3 f4 f5 f7 h1 h3 h2 o).2
      generalize (runA c X D i arg2 harg2 arg3 harg3 arg4 harg4 arg5 harg5 arg7 harg7 arg9 harg9 arg10 harg10 arg11 harg11 f2 f3 f4 f5 f7 h1 h3 h2 o).1 = z at v r
      exact ⟨_, r, post_first c X D i arg2 arg3 arg4 arg5 arg7 arg9 arg10 arg11 f2 f3 f4 f5 f7 o ((bcond1_eq i).mp h1) z v⟩
    · have v := runB_val c X D i arg2 harg2 arg3 harg3 arg4 harg4 arg5 harg5 arg7 harg7 arg9 harg9 arg10 harg10 arg11 harg11 f2 f3 f4 f5 f7 o h1 h3 h2
      have r := (runB c X D i arg2 harg2 arg3 harg3 arg4 harg4 arg5 harg5 arg7 harg7 arg9 harg9 arg10 harg10 arg11 harg11 f2 f3 f4 f5 f7 h1 h3 h2 o).2
      generalize (runB c X D i arg2 harg2 arg3 harg3 arg4 harg4 arg5 harg5 arg7 harg7 arg9 harg9 arg10 harg10 arg11 harg11 f2 f3 f4 f5 f7 h1 h3 h2 o).1 = z at v r
      exact ⟨_, r, post_later c X D i arg2 arg3 arg4 arg5 arg7 arg9 arg10 arg11 f2 f3 f4 f5 f7 o (fun h => h1 ((bcond1_eq i).mpr h)) e z v⟩

end Body

end Cert.Proof.RmsFfnRing

end
-- ==== Proof.RmsFfnBlocks.lean ====
/-
  Where the blocks of the RMS-norm backward call lie in its arrays, and what its result windows hold after each grid point,
  in the arrays' own coordinates: point `t` takes row block `t / 11` and contraction block `t % 11`.
-/
module

public import proofs.«01_k».proof.Proof.RmsFfnBodyValue
public import proofs.«01_k».proof.Proof.BlockSums
public import proofs.«01_k».proof.Proof.Gen.RmsFfnIdeal.Frame

@[expose] public section

set_option maxRecDepth 16384

noncomputable section

namespace Cert.Proof.RmsFfnRing

open Cert.RmsFfnIdeal Cert.RmsFfnIdeal.Gen
open Idealize.ShloMosaic
open Idealize.ShloMosaic.TcCoe Idealize.ShloMosaic.Tactic
open Cert.Proof.RmsRows Cert.Proof.RowWindows Cert.Proof.BlockSums
open scoped BigOperators

variable (m : (ℓ : Loc nD τ sig) → Buf (Elt Ideal) ℓ)

theorem index_of : ∀ t : Fin grid0.N, win0_0.index t 0 = t.val / 11 ∧ win0_0.index t 1 = t.val % 11
    ∧ win0_1.index t 0 = t.val % 11 ∧ win0_1.index t 1 = 0 ∧ win0_2.index t 0 = t.val / 11 ∧ win0_2.index t 1 = t.val % 11
    ∧ win0_3.index t 0 = t.val % 11 ∧ win0_3.index t 1 = 0 ∧ win0_4.index t 0 = 0 ∧ win0_4.index t 1 = 0
    ∧ win0_5.index t 0 = t.val / 11 ∧ win0_5.index t 1 = 0 ∧ win0_6.index t 0 = t.val / 11 ∧ win0_6.index t 1 = 0
    ∧ win0_7.index t 0 = 0 ∧ win0_7.index t 1 = 0 := by
  decide +kernel

theorem coords_of : ∀ t : Fin grid0.N, (grid0.coords t 0).val = t.val / 11 ∧ (grid0.coords t 1).val = t.val % 11 := by
  decide +kernel

theorem lt_pts (t : Fin cfg0.N) : t.val < 88 := lt_of_lt_of_eq t.isLt (show cfg0.N = 88 from N_0)

/-- Row `p` of row block `b` (of eight). -/
def row (b : ℕ) (p : Fin 1024) : Fin 8192 := ⟨(1024 * b + p.val) % 8192, Nat.mod_lt _ (by decide)⟩

theorem row_val (b : ℕ) (h : b < 8) (p : Fin 1024) : (row b p).val = 1024 * b + p.val := by
  have := p.isLt
  exact Nat.mod_eq_of_lt (by omega)

/-- Contraction index `k`'s contribution to entry `(p, q)` of a product. -/
def term (a : S8192x5632.Idx → EReal) (b : S5632x2048.Idx → EReal) (p : Fin 8192) (q : Fin 2048) (k : ℕ) : EReal :=
  if h : k < 5632 then a (ix2 p ⟨k, h⟩) * b (ix2 ⟨k, h⟩ q) else 0

variable (c : Dev nD)

abbrev a0V : S8192x5632.Idx → EReal := V m c main_arg0
abbrev b0V : S5632x2048.Idx → EReal := V m c main_arg1
abbrev a1V : S8192x5632.Idx → EReal := V m c main_arg2
abbrev b1V : S5632x2048.Idx → EReal := V m c main_arg3
abbrev xV : S8192x2048.Idx → EReal := V m c main_arg4
abbrev gV : S1x2048.Idx → EReal := V m c main_arg5
abbrev dV : S8192x2048.Idx → EReal := V m c main_arg6

theorem iblk0 (t : Fin cfg0.N) (p : Fin 1024) (k : Fin 512) (hk : 512 * (t.val % 11) + k.val < 5632) :
    iblk m c 0 t (ix2 p k) = a0V m c (ix2 (row (t.val / 11) p) ⟨512 * (t.val % 11) + k.val, hk⟩) := by
  obtain ⟨e0, e1, -⟩ := index_of t
  have hb : t.val / 11 < 8 := by have := lt_pts t; omega
  refine (show _ = a0V m c ((win0_0.rect t).idx (ix2 p k)) from rfl).trans (congrArg _ ?_)
  refine Shape.idx_ext₂ ?_ ?_
  · show win0_0.index t 0 * 1024 + 1 * (p : ℕ) = (row (t.val / 11) p).val
    rw [e0, row_val _ hb]; omega
  · show win0_0.index t 1 * 512 + 1 * (k : ℕ) = 512 * (t.val % 11) + k.val
    rw [e1]; omega

theorem iblk2 (t : Fin cfg0.N) (p : Fin 1024) (k : Fin 512) (hk : 512 * (t.val % 11) + k.val < 5632) :
    iblk m c 2 t (ix2 p k) = a1V m c (ix2 (row (t.val / 11) p) ⟨512 * (t.val % 11) + k.val, hk⟩) := by
  obtain ⟨-, -, -, -, e0, e1, -⟩ := index_of t
  have hb : t.val / 11 < 8 := by have := lt_pts t; omega
  refine (show _ = a1V m c ((win0_2.rect t).idx (ix2 p k)) from rfl).trans (congrArg _ ?_)
  refine Shape.idx_ext₂ ?_ ?_
  · show win0_2.index t 0 * 1024 + 1 * (p : ℕ) = (row (t.val / 11) p).val
    rw [e0, row_val _ hb]; omega
  · show win0_2.index t 1 * 512 + 1 * (k : ℕ) = 512 * (t.val % 11) + k.val
    rw [e1]; omega

theorem iblk1 (t : Fin cfg0.N) (k : Fin 512) (q : Fin 2048) (hk : 512 * (t.val % 11) + k.val < 5632) :
    iblk m c 1 t (ix2 k q) = b0V m c (ix2 ⟨512 * (t.val % 11) + k.val, hk⟩ q) := by
  obtain ⟨-, -, e0, e1, -⟩ := index_of t
  refine (show _ = b0V m c ((win0_1.rect t).idx (ix2 k q)) from rfl).trans (congrArg _ ?_)
  refine Shape.idx_ext₂ ?_ ?_
  · show win0_1.index t 0 * 512 + 1 * (k : ℕ) = 512 * (t.val % 11) + k.val
    rw [e0]; omega
  · show win0_1.index t 1 * 2048 + 1 * (q : ℕ) = q
    rw [e1]; omega

theorem iblk3 (t : Fin cfg0.N) (k : Fin 512) (q : Fin 2048) (hk : 512 * (t.val % 11) + k.val < 5632) :
    iblk m c 3 t (ix2 k q) = b1V m c (ix2 ⟨512 * (t.val % 11) + k.val, hk⟩ q) := by
  obtain ⟨-, -, -, -, -, -, e0, e1, -⟩ := index_of t
  refine (show _ = b1V m c ((win0_3.rect t).idx (ix2 k q)) from rfl).trans (congrArg _ ?_)
  refine Shape.idx_ext₂ ?_ ?_
  · show win0_3.index t 0 * 512 + 1 * (k : ℕ) = 512 * (t.val % 11) + k.val
    rw [e0]; omega
  · show win0_3.index t 1 * 2048 + 1 * (q : ℕ) = q
    rw [e1]; omega

theorem iblk4 (t : Fin cfg0.N) (q : Fin 2048) : iblk m c 4 t (ix2 (0 : Fin 1) q) = gV m c (ix2 (0 : Fin 1) q) := by
  obtain ⟨-, -, -, -, -, -, -, -, e0, e1, -⟩ := index_of t
  refine (show _ = gV m c ((win0_4.rect t).idx (ix2 (0 : Fin 1) q)) from rfl).trans (congrArg _ ?_)
  refine Shape.idx_ext₂ ?_ ?_
  · show win0_4.index t 0 * 1 + 1 * 0 = 0
    rw [e0]
  · show win0_4.index t 1 * 2048 + 1 * (q : ℕ) = q
    rw [e1]; omega

/-- The two products' first `n` contraction blocks, at row block `b`. -/
def accV (b n : ℕ) (j : S1024x2048.Idx) : EReal :=
  blocks 512 (term (a0V m c) (b0V m c) (row b (j 0)) (j 1)) n + blocks 512 (term (a1V m c) (b1V m c) (row b (j 0)) (j 1)) n

theorem accV_zero (b : ℕ) : accV m c b 0 = fun _ => 0 := by
  funext j
  unfold accV blocks
  rw [Finset.range_zero, Finset.sum_empty, Finset.sum_empty, add_zero]

/-- The products of a contraction block, in the arrays' coordinates. -/
theorem block_sum (n : ℕ) (hn : n < 11) (a : S1024x512.Idx → EReal) (b : S512x2048.Idx → EReal) (A : S8192x5632.Idx → EReal) (B : S5632x2048.Idx → EReal)
    (p : Fin 1024) (P : Fin 8192) (q : Fin 2048) (ha : ∀ (k : Fin 512) (hk : 512 * n + k.val < 5632), a (ix2 p k) = A (ix2 P ⟨512 * n + k.val, hk⟩))
    (hb : ∀ (k : Fin 512) (hk : 512 * n + k.val < 5632), b (ix2 k q) = B (ix2 ⟨512 * n + k.val, hk⟩ q)) :
    ∑ k : Fin 512, a (ix2 p k) * b (ix2 k q) = ∑ k : Fin 512, term A B P q (512 * n + k.val) := by
  refine Finset.sum_congr rfl fun k _ => ?_
  have hk : 512 * n + k.val < 5632 := by have := k.isLt; omega
  rw [ha k hk, hb k hk]
  unfold term; rw [dif_pos hk]

/-- A point adds its contraction block. -/
theorem acc_step (t : Fin cfg0.N) (b n : ℕ) (hb : b = t.val / 11) (hn : n = t.val % 11) :
    step (accV m c b n) (iblk m c 0 t) (iblk m c 1 t) (iblk m c 2 t) (iblk m c 3 t) = accV m c b (n + 1) := by
  subst hb hn
  have hn : t.val % 11 < 11 := Nat.mod_lt _ (by decide)
  funext j
  have e0 := block_sum (t.val % 11) hn (iblk m c 0 t) (iblk m c 1 t) (a0V m c) (b0V m c) (j 0) (row (t.val / 11) (j 0)) (j 1) (fun k hk => iblk0 m c t (j 0) k hk) (fun k hk => iblk1 m c t k (j 1) hk)
  have e1 := block_sum (t.val % 11) hn (iblk m c 2 t) (iblk m c 3 t) (a1V m c) (b1V m c) (j 0) (row (t.val / 11) (j 0)) (j 1) (fun k hk => iblk2 m c t (j 0) k hk) (fun k hk => iblk3 m c t k (j 1) hk)
  unfold step
  rw [e0, e1]
  unfold accV
  rw [blocks_succ, blocks_succ, add_assoc, add_add_add_comm]

/-- The gradient of the norm's input at row block `b`. -/
def dxV (b : ℕ) (j : S1024x2048.Idx) : EReal :=
  newDx (fun u => xV m c (ix2 (row b (j 0)) u)) (fun u => gV m c (ix2 (0 : Fin 1) u)) (fun u => accV m c b 11 (ix2 (j 0) u)) (fun u => dV m c (ix2 (row b (j 0)) u)) (j 1)

/-- Row `p`'s contribution to the gradient of the gain. -/
def gainV (b : ℕ) (q : Fin 2048) (p : ℕ) : EReal :=
  if h : p < 1024 then gainTerm (fun u => xV m c (ix2 (row b ⟨p, h⟩) u)) (fun u => accV m c b 11 (ix2 (⟨p, h⟩ : Fin 1024) u)) q else 0

/-- The gradient of the gain over the first `n` row blocks. -/
def dgV (n : ℕ) (q : Fin 2048) : EReal := ∑ b ∈ Finset.range n, ∑ p ∈ Finset.range 1024, gainV m c b q p

theorem dgV_zero (q : Fin 2048) : dgV m c 0 q = 0 := Finset.sum_range_zero _

theorem dgV_succ (n : ℕ) (q : Fin 2048) : dgV m c (n + 1) q = dgV m c n q + ∑ p ∈ Finset.range 1024, gainV m c n q p :=
  Finset.sum_range_succ _ _

theorem rowOf_eq (Y : S8192x2048.Idx → EReal) (t : Fin cfg0.N) (p : Fin 1024) :
    rowOf Y (grid0.coords t) p = fun u => Y (ix2 (row (t.val / 11) p) u) := by
  funext u
  have hb : t.val / 11 < 8 := by have := lt_pts t; omega
  unfold rowOf
  refine congrArg Y (Shape.idx_ext₂ ?_ rfl)
  show 1024 * (grid0.coords t 0).val + p.val = (row (t.val / 11) p).val
  rw [(coords_of t).1, row_val _ hb]

end Cert.Proof.RmsFfnRing

end
-- ==== Proof.RmsFfnPhi.lean ====
/-
  What the RMS-norm backward call holds between two grid points, in two readings: the launch's (two scratch
  arrays, four semaphores at zero, two arrays in HBM) and the chunk loop's (64 chunks of each array, two slots of
  each scratch array).
-/
module

public import proofs.«01_k».proof.Proof.RmsFfnBody
public import proofs.«01_k».proof.Proof.Gen.RmsFfnIdeal.Frame

@[expose] public section

set_option maxRecDepth 16384

noncomputable section

namespace Cert.Proof.RmsFfnRing

open Cert.RmsFfnIdeal Cert.RmsFfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (m : (ℓ : Loc nD τ sig) → Buf (Elt F) ℓ)

/-- The call's four semaphores: slot by ring. -/
abbrev osem : Fin 4 → SemLoc sig := ![.dma (sem 0 0).sem, .dma (sem 0 1).sem, .dma (sem 1 0).sem, .dma (sem 1 1).sem]
theorem ownSemFacts : Pipeline.OwnSemFacts spec0 osem := by decide

/-- The two arrays the call copies from HBM by itself. -/
abbrev hbm : Finset (Ref sig .tc) := {main_arg4, main_arg6}
theorem hbm_sub : hbm ⊆ Pipeline.restRefs sig spec0 := by
  intro b hb
  rcases Finset.mem_insert.mp hb with rfl | hb
  · exact Pipeline.mem_restRefs_of main_arg4 (by decide) (by decide)
  · rw [Finset.mem_singleton.mp hb]; exact Pipeline.mem_restRefs_of main_arg6 (by decide) (by decide)

/-- Chunk `b`'s elements and slot `s`'s. -/
abbrev chunkSet (b : Fin 64) : Finset S8192x2048.Idx := (Rect.unit (s := S8192x2048) (chunkOff b) S128x2048.size (chunkOff_inb b)).set
abbrev slotSet (s : Fin 2) : Finset S2x128x2048.Idx := (Rect.unit (s := S2x128x2048) (slotOff s) S1x128x2048.size (slotOff_inb s)).set

theorem mem_chunkSet (b : Fin 64) (y : S8192x2048.Idx) : y ∈ chunkSet b ↔ (y 0).val / 128 = b.val := by
  rw [Rect.mem_set_unit]
  have h1 : (y 1).val < 2048 := (y 1).isLt
  constructor
  · intro H; have a0 : 128 * b.val ≤ (y 0).val ∧ (y 0).val < 128 * b.val + 128 := H 0; omega
  · intro H i; fin_cases i
    · show 128 * b.val ≤ (y 0).val ∧ (y 0).val < 128 * b.val + 128; omega
    · show 0 ≤ (y 1).val ∧ (y 1).val < 0 + 2048; omega
theorem mem_slotSet (s : Fin 2) (y : S2x128x2048.Idx) : y ∈ slotSet s ↔ (y 0).val = s.val := by
  rw [Rect.mem_set_unit]
  have h1 : (y 1).val < 128 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 2048; omega
theorem chunkSet_disjoint : ∀ b b' : Fin 64, b ≠ b' → Disjoint (chunkSet b) (chunkSet b') := by
  intro b b' hne; rw [Finset.disjoint_left]; intro y hy hy'; rw [mem_chunkSet] at hy hy'; exact hne (Fin.ext (hy.symm.trans hy'))
theorem chunkSet_cover : (Finset.univ : Finset (Fin 64)).biUnion chunkSet = Finset.univ := by
  ext y
  simp only [Finset.mem_biUnion, Finset.mem_univ, true_and, iff_true]
  have h0 : (y 0).val < 8192 := (y 0).isLt
  exact ⟨⟨(y 0).val / 128, by omega⟩, by rw [mem_chunkSet]⟩
theorem slotSet_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 2)).biUnion slotSet = Finset.univ := by
  ext y
  simp only [Finset.mem_biUnion, Finset.mem_univ, true_and, iff_true]
  have h0 : (y 0).val < 2 := (y 0).isLt
  exact ⟨⟨(y 0).val, h0⟩, by rw [mem_slotSet]⟩

theorem xchunk_set (b : Fin 64) : (chunk xM b).view.set = chunkSet b := View.set_slice_whole _ _
theorem dchunk_set (b : Fin 64) : (chunk dM b).view.set = chunkSet b := View.set_slice_whole _ _
theorem xslot_set (s : Fin 2) : (slot xB s).view.set = slotSet s := (View.set_reshape _ _).trans (View.set_slice_whole _ _)
theorem dslot_set (s : Fin 2) : (slot dB s).view.set = slotSet s := (View.set_reshape _ _).trans (View.set_slice_whole _ _)

/-- Each array whole is its 64 chunks. -/
theorem x_eq (c : Dev nD) (X : Buf (Elt F) (xM.view.loc (c : Thread nD τ))) :
    (((c : Thread nD τ).loc main_arg4) ↦{fullShare} X : sProp 𝕄) = bigSep Finset.univ (homeP c xM X) := by
  rw [Ring.pointsTo_blocks (ℓ := (c : Thread nD τ).loc main_arg4) chunkSet chunkSet_disjoint chunkSet_cover]
  exact bigSep_congr fun b _ => by rw [← xchunk_set]; rfl
theorem d_eq (c : Dev nD) (D : Buf (Elt F) (dM.view.loc (c : Thread nD τ))) :
    (((c : Thread nD τ).loc main_arg6) ↦{fullShare} D : sProp 𝕄) = bigSep Finset.univ (homeP c dM D) := by
  rw [Ring.pointsTo_blocks (ℓ := (c : Thread nD τ).loc main_arg6) chunkSet chunkSet_disjoint chunkSet_cover]
  exact bigSep_congr fun b _ => by rw [← dchunk_set]; rfl

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

theorem xslot_eq (c : Dev nD) (s : Fin 2) (f) : slotP (F := F) c xB s f = (((c : Thread nD τ).loc cc0_scratch0) ↦[slotSet s]{fullShare} f : sProp 𝕄) :=
  congrArg (fun S => (_ ↦[S]{fullShare} f : sProp 𝕄)) (xslot_set s)
theorem dslot_eq (c : Dev nD) (s : Fin 2) (f) : slotP (F := F) c dB s f = (((c : Thread nD τ).loc cc0_scratch1) ↦[slotSet s]{fullShare} f : sProp 𝕄) :=
  congrArg (fun S => (_ ↦[S]{fullShare} f : sProp 𝕄)) (dslot_set s)

/-- Each scratch array whole is its two slots, and back. -/
theorem xbuf_split (c : Dev nD) :
    iprop(∃ f : Buf (Elt F) ((c : Thread nD τ).loc cc0_scratch0), ((c : Thread nD τ).loc cc0_scratch0) ↦{fullShare} f)
      ⊢ (iprop((∃ f, slotP (F := F) c xB 0 f) ∗ ∃ f, slotP (F := F) c xB 1 f) : sProp 𝕄) := by
  iintro ⟨%f, H⟩
  ihave H2 := (Entails.of_eq ((Ring.pointsTo_blocks (Ix := Unit) (Name := ℕ) (U := UD sig nD τ) (Lvl := ℕ) (q := fullShare) (ℓ := (c : Thread nD τ).loc cc0_scratch0) slotSet slotSet_disjoint slotSet_cover f).trans (bigSep_fin2 _))) $$ H
  icases H2 with ⟨H0, H1⟩
  isplitl [H0]
  · iexists f; iapply (Entails.of_eq (xslot_eq c 0 f).symm); iexact H0
  · iexists f; iapply (Entails.of_eq (xslot_eq c 1 f).symm); iexact H1
theorem xbuf_join (c : Dev nD) :
    iprop((∃ f, slotP (F := F) c xB 0 f) ∗ ∃ f, slotP (F := F) c xB 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) slotSet slotSet_disjoint slotSet_cover f0)
  irw [bigSep_fin2]
  isplitl [H0]
  · iexists f0; iapply (Entails.of_eq (xslot_eq c 0 f0)); iexact H0
  · iexists f1; iapply (Entails.of_eq (xslot_eq c 1 f1)); iexact H1
theorem dbuf_split (c : Dev nD) :
    iprop(∃ f : Buf (Elt F) ((c : Thread nD τ).loc cc0_scratch1), ((c : Thread nD τ).loc cc0_scratch1) ↦{fullShare} f)
      ⊢ (iprop((∃ f, slotP (F := F) c dB 0 f) ∗ ∃ f, slotP (F := F) c dB 1 f) : sProp 𝕄) := by
  iintro ⟨%f, H⟩
  ihave H2 := (Entails.of_eq ((Ring.pointsTo_blocks (Ix := Unit) (Name := ℕ) (U := UD sig nD τ) (Lvl := ℕ) (q := fullShare) (ℓ := (c : Thread nD τ).loc cc0_scratch1) slotSet slotSet_disjoint slotSet_cover f).trans (bigSep_fin2 _))) $$ H
  icases H2 with ⟨H0, H1⟩
  isplitl [H0]
  · iexists f; iapply (Entails.of_eq (dslot_eq c 0 f).symm); iexact H0
  · iexists f; iapply (Entails.of_eq (dslot_eq c 1 f).symm); iexact H1
theorem dbuf_join (c : Dev nD) :
    iprop((∃ f, slotP (F := F) c dB 0 f) ∗ ∃ f, slotP (F := F) c dB 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) slotSet slotSet_disjoint slotSet_cover f0)
  irw [bigSep_fin2]
  isplitl [H0]
  · iexists f0; iapply (Entails.of_eq (dslot_eq c 0 f0)); iexact H0
  · iexists f1; iapply (Entails.of_eq (dslot_eq c 1 f1)); iexact H1

theorem ownSems0_eq (c : Dev nD) : (Pipeline.ownSems0 (Ix := Unit) (Name := ℕ) (U := UD sig nD τ) (Lvl := ℕ) (Val := Elt F) (τ := τ) osem c : sProp 𝕄)
    = iprop(cellP c 0 0 ∗ cellP c 0 1 ∗ cellP c 1 0 ∗ cellP c 1 1) := by
  unfold Pipeline.ownSems0; rw [bigSep_fin4]; rfl

theorem hbm_eq (c : Dev nD) : (bigSep hbm (fun b => ((c.tc : Thread nD τ).loc b) ↦{fullShare} V m c b) : sProp 𝕄)
    = iprop((((c : Thread nD τ).loc main_arg4) ↦{fullShare} V m c main_arg4) ∗ (((c : Thread nD τ).loc main_arg6) ↦{fullShare} V m c main_arg6)) := by
  rw [show hbm = insert main_arg4 {main_arg6} from rfl, bigSep_insert (by decide), bigSep_singleton]
  rfl

/-- What is held between points, as the launch spells it. -/
abbrev Φ (c : Dev nD) : sProp 𝕄 := Pipeline.ΦD osem spec0 hbm (V m) c

theorem Φ_open (c : Dev nD) : Φ m c ⊢ iprop((∃ r, prngReg c r) ∗ ringOff c (V m c main_arg4) (V m c main_arg6)) := by
  unfold Φ ringOff
  rw [Pipeline.ΦD_eq, scopedRest0_eq, ownSems0_eq, hbm_eq, x_eq, d_eq]
  iintro ⟨⟨Hx, Hd⟩, Hr, ⟨H00, H01, H10, H11⟩, HX, HD⟩
  icases (xbuf_split c) $$ Hx with ⟨Hx0, Hx1⟩
  icases (dbuf_split c) $$ Hd with ⟨Hd0, Hd1⟩
  isplitl [Hr]; · iexact Hr
  isplitl [HX]; · iexact HX
  isplitl [HD]; · iexact HD
  isplitl [Hx0]; · iexact Hx0
  isplitl [Hx1]; · iexact Hx1
  isplitl [Hd0]; · iexact Hd0
  isplitl [Hd1]; · iexact Hd1
  isplitl [H00]; · iexact H00
  isplitl [H01]; · iexact H01
  isplitl [H10]; · iexact H10
  iexact H11

theorem Φ_close (c : Dev nD) : iprop((∃ r, prngReg c r) ∗ ringOff c (V m c main_arg4) (V m c main_arg6)) ⊢ Φ m c := by
  unfold Φ ringOff
  rw [Pipeline.ΦD_eq, scopedRest0_eq, ownSems0_eq, hbm_eq, x_eq, d_eq]
  iintro ⟨Hr, HX, HD, Hx0, Hx1, Hd0, Hd1, H00, H01, H10, H11⟩
  isplitl [Hx0 Hx1 Hd0 Hd1]
  · isplitl [Hx0 Hx1]
    · iapply (xbuf_join c)
      isplitl [Hx0]; · iexact Hx0
      iexact Hx1
    iapply (dbuf_join c)
    isplitl [Hd0]; · iexact Hd0
    iexact Hd1
  isplitl [Hr]; · iexact Hr
  isplitl [H00 H01 H10 H11]
  · isplitl [H00]; · iexact H00
    isplitl [H01]; · iexact H01
    isplitl [H10]; · iexact H10
    iexact H11
  isplitl [HX]; · iexact HX
  iexact HD

/-- A run of the body used with a continuation. -/
theorem runs_wand (c : Dev nD) (X : Buf (Elt F) (xM.view.loc (c : Thread nD τ))) (D : Buf (Elt F) (dM.view.loc (c : Thread nD τ)))
    (i : grid0.Coords)
    (arg2 : Memref sig .tc .vmem S1024x512 .bf16) (harg2 : arg2.IsWhole) (arg3 : Memref sig .tc .vmem S512x2048 .bf16) (harg3 : arg3.IsWhole)
    (arg4 : Memref sig .tc .vmem S1024x512 .bf16) (harg4 : arg4.IsWhole) (arg5 : Memref sig .tc .vmem S512x2048 .bf16) (harg5 : arg5.IsWhole)
    (arg7 : Memref sig .tc .vmem S1x2048 .f32) (harg7 : arg7.IsWhole)
    (arg9 : Memref sig .tc .vmem S1024x2048 .f32) (harg9 : arg9.IsWhole)
    (arg10 : Memref sig .tc .vmem S1024x2048 .bf16) (harg10 : arg10.IsWhole)
    (arg11 : Memref sig .tc .vmem S1x2048 .f32) (harg11 : arg11.IsWhole)
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f7 : Buf (Elt F) (arg7.view.loc (c : Thread nD τ))) (o o' : Outs (F := F) c arg9 arg10 arg11)
    (h : Runs c X D i arg2 harg2 arg3 harg3 arg4 harg4 arg5 harg5 arg7 harg7 arg9 harg9 arg10 harg10 arg11 harg11 f2 f3 f4 f5 f7 o o')
    (Q : PUnit → sProp 𝕄) :
    iprop((blocks4 c arg2 arg3 arg4 arg5 f2 f3 f4 f5 ∗ wins c arg7 arg9 arg10 arg11 f7 o.1 o.2.1 o.2.2 ∗ ringOff c X D)
        ∗ (∀ a, iprop(blocks4 c arg2 arg3 arg4 arg5 f2 f3 f4 f5 ∗ wins c arg7 arg9 arg10 arg11 f7 o'.1 o'.2.1 o'.2.2 ∗ ringOff c X D) -∗ Q a))
      ⊢ wp frame (wpE (defs₀ (F := F)) 𝒱₀ (c : Thread nD τ) none) Set.univ
        (bodyG i arg2 harg2 arg3 harg3 arg4 harg4 arg5 harg5 arg7 harg7 arg9 harg9 arg10 harg10 arg11 harg11) Q := by
  have e : ∀ (A A' B C : sProp 𝕄), (A ⊢ A') → (iprop(A' ∗ B) ⊢ C) → (iprop(A ∗ B) ⊢ C) := fun A A' B C h1 h2 => by
    refine BIBase.Entails.trans ?_ h2
    iintro ⟨HA, HB⟩
    isplitl [HA]; · iapply h1; iexact HA
    iexact HB
  exact e _ _ _ _ h (wp_wand_r _ _ _)

end Cert.Proof.RmsFfnRing

end
-- ==== Proof.RmsFfnFrame.lean ====
/-
  The frame of the RMS-norm backward call. Nothing is said of what it computes: every window's staging copy is held
  at some contents before and after the body, whose runs are RmsFfnBody's.
-/
module

public import proofs.«01_k».proof.Proof.RmsFfnPhi

@[expose] public section

set_option maxRecDepth 16384

noncomputable section

namespace Cert.Proof.RmsFfnRing

open Cert.RmsFfnIdeal Cert.RmsFfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose UD)

variable {F : FTy → Type} [FloatOps F] [∀ e, Nonempty (Elt F e)]

local notation "𝕄" => MT nD τ sig Unit (Elt F) ℕ (UD sig nD τ) ℕ

variable (m : (ℓ : Loc nD τ sig) → Buf (Elt F) ℓ) (ρ : Dev nD → PrngReg)

theorem cond1_eq : ∀ i : grid0.Coords, cond1 i = 1#1 ↔ (i 1).val = 0 := by decide +kernel
theorem cond23_eq : ∀ i : grid0.Coords, k0_cond2 i = 1#1 ↔ k0_cond3 i = 1#1 := by decide +kernel
theorem cond13_eq : ∀ i : grid0.Coords, k0_cond3 i = 1#1 → ¬ cond1 i = 1#1 := by decide +kernel

/-- At every point the body runs, to some contents of the result windows. -/
theorem runs_some (c : Dev nD) (X : Buf (Elt F) (xM.view.loc (c : Thread nD τ))) (D : Buf (Elt F) (dM.view.loc (c : Thread nD τ)))
    (i : grid0.Coords)
    (arg2 : Memref sig .tc .vmem S1024x512 .bf16) (harg2 : arg2.IsWhole) (arg3 : Memref sig .tc .vmem S512x2048 .bf16) (harg3 : arg3.IsWhole)
    (arg4 : Memref sig .tc .vmem S1024x512 .bf16) (harg4 : arg4.IsWhole) (arg5 : Memref sig .tc .vmem S512x2048 .bf16) (harg5 : arg5.IsWhole)
    (arg7 : Memref sig .tc .vmem S1x2048 .f32) (harg7 : arg7.IsWhole)
    (arg9 : Memref sig .tc .vmem S1024x2048 .f32) (harg9 : arg9.IsWhole)
    (arg10 : Memref sig .tc .vmem S1024x2048 .bf16) (harg10 : arg10.IsWhole)
    (arg11 : Memref sig .tc .vmem S1x2048 .f32) (harg11 : arg11.IsWhole)
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f7 : Buf (Elt F) (arg7.view.loc (c : Thread nD τ))) (o : Outs (F := F) c arg9 arg10 arg11) :
    ∃ o' : Outs (F := F) c arg9 arg10 arg11, Runs c X D i arg2 harg2 arg3 harg3 arg4 harg4 arg5 harg5 arg7 harg7 arg9 harg9 arg10 harg10 arg11 harg11 f2 f3 f4 f5 f7 o o' := by
  by_cases h3 : k0_cond3 i = 1#1
  · have h2 := (cond23_eq i).mpr h3
    have h1 := cond13_eq i h3
    by_cases h4 : k0_cond4 i = 1#1
    · exact ⟨_, (runC c X D i arg2 harg2 arg3 harg3 arg4 harg4 arg5 harg5 arg7 harg7 arg9 harg9 arg10 harg10 arg11 harg11 f2 f3 f4 f5 f7 h1 h3 h2 h4 o).2⟩
    · exact ⟨_, (runD c X D i arg2 harg2 arg3 harg3 arg4 harg4 arg5 harg5 arg7 harg7 arg9 harg9 arg10 harg10 arg11 harg11 f2 f3 f4 f5 f7 h1 h3 h2 h4 o).2⟩
  · have h2 : ¬ k0_cond2 i = 1#1 := fun h => h3 ((cond23_eq i).mp h)
    by_cases h1 : cond1 i = 1#1
    · exact ⟨_, (runA c X D i arg2 harg2 arg3 harg3 arg4 harg4 arg5 harg5 arg7 harg7 arg9 harg9 arg10 harg10 arg11 harg11 f2 f3 f4 f5 f7 h1 h3 h2 o).2⟩
    · exact ⟨_, (runB c X D i arg2 harg2 arg3 harg3 arg4 harg4 arg5 harg5 arg7 harg7 arg9 harg9 arg10 harg10 arg11 harg11 f2 f3 f4 f5 f7 h1 h3 h2 o).2⟩

/-- A window held at given contents is owned at some. -/
theorem owns_some (c : Dev nD) {sp : Space} {sh : Shape} {e : EltTy} (w : Memref sig .tc sp sh e) (f : Buf (Elt F) (w.view.loc (c : Thread nD τ))) :
    (w.view.loc (c : Thread nD τ) ↦[w.view.set]{fullShare} f : sProp 𝕄) ⊢ iprop(∃ X, ∃ g, ⌜w.view.read (Elt F) g = X⌝ ∗ (w.view.loc (c : Thread nD τ) ↦[w.view.set]{fullShare} g)) := by
  iintro H
  iexists _; iexists f
  isplitr
  · ipureintro; rfl
  iexact H

/-- Every window is forgotten: nothing is said of its contents. -/
abbrev fgt : Fin cfg0.W → Bool := fun _ => true

/-- The proof data of the frame alone. -/
def fdats (_ : Fin 1) (c : Dev nD) : Dat τ (Elt F) Unit ℕ (UD sig nD τ) ℕ cfg0 c where
  A w := V m c (Pipeline.arrRef spec0 w)
  after w t := Dat.unnamed (cfg := cfg0) w t
  Φ _ := Φ m c
  q _ := fullShare
  owed _ := 0

def fPre (c : Dev nD) (t : Fin cfg0.N) : sProp 𝕄 :=
  iprop((fdats m 0 c).Φ t.castSucc ∗ (fdats m 0 c).owesAt () t.castSucc
    ∗ (∃ X, owns (c : Thread nD τ) (win0_0.stage (cfg0.slots t 0)) fullShare X)
    ∗ (∃ X, owns (c : Thread nD τ) (win0_1.stage (cfg0.slots t 1)) fullShare X)
    ∗ (∃ X, owns (c : Thread nD τ) (win0_2.stage (cfg0.slots t 2)) fullShare X)
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X)
    ∗ (∃ X, owns (c : Thread nD τ) (win0_6.stage (cfg0.slots t 6)) fullShare X)
    ∗ (∃ X, owns (c : Thread nD τ) (win0_7.stage (cfg0.slots t 7)) fullShare X))

set_option maxHeartbeats 1000000 in
theorem f_body (c : Dev nD) (t : Fin cfg0.N) :
    fPre m c t ⊢ wp frame (wpE (defs₀ (F := F)) Variants.none c none) Set.univ (bodyAt0 t) (fun _ => fPre m c t) := by
  unfold fPre bodyAt0
  rw [show (fdats m 0 c).Φ t.castSucc = Φ m c from rfl]
  unfold Pipeline.Dat.owesAt Pipeline.owesWithin owns
  rw [show (fdats m 0 c).owed t.castSucc = 0 from rfl]
  iintro ⟨HΦ, ⟨%W, -, HW⟩, ⟨%_, %f0, -, H0⟩, ⟨%_, %f1, -, H1⟩, ⟨%_, %f2, -, H2⟩, ⟨%_, %f3, -, H3⟩, ⟨%_, %f4, -, H4⟩, ⟨%_, %f5, -, H5⟩, ⟨%_, %f6, -, H6⟩, ⟨%_, %f7, -, H7⟩⟩
  icases (Φ_open m c) $$ HΦ with ⟨Hr, HR⟩
  obtain ⟨o', ho⟩ := runs_some c (V m c main_arg4) (V m c main_arg6) (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7)) f0 f1 f2 f3 f4 (f5, f6, f7)
  iapply (runs_wand (h := ho))
  isplitl [HR H0 H1 H2 H3 H4 H5 H6 H7 HW]
  · isplitl [H0 H1 H2 H3]
    · isplitl [H0]; · iexact H0
      isplitl [H1]; · iexact H1
      isplitl [H2]; · iexact H2
      iexact H3
    isplitl [H4 H5 H6 H7 HW]
    · isplitl [H4]; · iexact H4
      isplitl [H5]; · iexact H5
      isplitl [H6]; · iexact H6
      isplitl [H7]; · iexact H7
      iexists W; iexact HW
    iexact HR
  iintro %_ ⟨⟨H0, H1, H2, H3⟩, ⟨H4, H5, H6, H7, ⟨%W', HW⟩⟩, HR⟩
  isplitl [Hr HR]
  · iapply (Φ_close m c)
    isplitl [Hr]; · iexact Hr
    iexact HR
  isplitl [HW]
  · iexists W'; isplitr; · ipureintro; exact fun _ _ => Or.inl trivial
    iexact HW
  isplitl [H0]; · iapply (owns_some c _ _); iexact H0
  isplitl [H1]; · iapply (owns_some c _ _); iexact H1
  isplitl [H2]; · iapply (owns_some c _ _); iexact H2
  isplitl [H3]; · iapply (owns_some c _ _); iexact H3
  isplitl [H4]; · iapply (owns_some c _ _); iexact H4
  isplitl [H5]; · iapply (owns_some c _ _); iexact H5
  isplitl [H6]; · iapply (owns_some c _ _); iexact H6
  iapply (owns_some c _ _); iexact H7

theorem defs₀_row (t : Fin cfg0.N) : defs₀ (F := F) .tc cfg0.body (cfg0.bodyArgs t (cfg0.slots t)) = bodyAt0 t := by
  unfold defs₀; rw [Defs.onTc_tc]

theorem f_obligation (c : Dev nD) :
    BodyObligationLoose (fdats (F := F) m 0 c) (defs₀ (F := F)) Variants.none () Set.univ fgt := fun t =>
  triple_restated (f_body m c t) (by rw [defs₀_row]) (by rw [bigSep_W0]; exact .rfl) (fun _ => by rw [bigSep_W0]; exact .rfl)

/-- @main up to the call, over this proof's algebra. -/
theorem hmainD : Pipeline.HMain (Ix := Unit) (Name := ℕ) (U := UD sig nD τ) (Lvl := ℕ) cfgs 0 defs₀ Variants.none m (main (F := F)) (V m) :=
  Pipeline.hmain_region cfgs 0 defs₀ Variants.none m main fun c => (main_chain c).trans rfl

set_option backward.isDefEq.respectTransparency.types false in
theorem f_run :
    θ_run defs (onTc (τ := τ) (main (F := F))) (s₀ m ρ)
      (fun r => Pipeline.RDat.FramePost (cfgs 0) (fun c => (fdats m 0 c).toRForget fgt) (V m) r ∧ r.2.sem = fun _ => 0) :=
  Pipeline.θ_run_frame_dma_forget (Q' := _) cfgs (fdats m) (0 : Fin 1) launch0 osem defs₀ Variants.none fgt ownSemFacts hbm hbm_sub m ρ main
    (hbody := fun c => f_obligation m c)
    (hshare := fun c => (fdats m 0 c).share_full fun _ => rfl)
    (howed := fun _ _ => rfl) (V := V m)
    (hmain := hmainD m) (hA := fun _ _ => rfl) (hin := fun _ => .rfl) (hout := fun _ => .rfl)

variable {m} in
theorem f_kept {r : PUnit × MemSt nD τ sig (Elt F)}
    (h : Pipeline.RDat.FramePost (cfgs 0) (fun c => (fdats m 0 c).toRForget fgt) (V m) r) (c : Dev nD) (w : Fin cfg0.W)
    (hin : (cfg0.win w).isOut = false) : r.2.mem ((cfg0.spec w).arr.view.loc (c.tc : Thread nD τ)) = (fdats m 0 c).A w :=
  Pipeline.RDat.FramePost.arr_in h c w hin

set_option maxHeartbeats 4000000 in
/-- The frame: the call terminates, its arguments are unchanged, and every counter is zero at the end. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun r h => ⟨fun c => ⟨f_kept h.1 c 0 rfl, f_kept h.1 c 1 rfl, f_kept h.1 c 2 rfl, f_kept h.1 c 3 rfl,
      (h.1 c).2 main_arg4 (Pipeline.mem_restRefs_of main_arg4 (by decide) (by decide)), f_kept h.1 c 4 rfl,
      (h.1 c).2 main_arg6 (Pipeline.mem_restRefs_of main_arg6 (by decide) (by decide))⟩, h.2⟩) (f_run m ρ)

end Cert.Proof.RmsFfnRing

end
-- ==== Proof.RmsFfnDat.lean ====
/-
  The RMS-norm backward call's run with its values: what each result window holds after each grid point, and that the body leaves it.
-/
module

public import proofs.«01_k».proof.Proof.RmsFfnBlocks
public import proofs.«01_k».proof.Proof.RmsFfnFrame
public import Idealize.ShloMosaic.Lib.Pipeline.TableIdle

@[expose] public section

set_option maxRecDepth 16384

noncomputable section

namespace Cert.Proof.RmsFfnRing

open Cert.RmsFfnIdeal Cert.RmsFfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose UD)
open Cert.Proof.RmsRows Cert.Proof.RowWindows Cert.Proof.BlockSums
open scoped BigOperators

local notation "𝕄" => MT nD τ sig Unit (Elt Ideal) ℕ (UD sig nD τ) ℕ

variable (m : (ℓ : Loc nD τ sig) → Buf (Elt Ideal) ℓ) (ρ : Dev nD → PrngReg)

/-- The first result's window: the products so far, and the finished block at the last point of a row block. -/
def aft5 (c : Dev nD) (t : ℕ) (j : S1024x2048.Idx) : EReal := if t % 11 = 10 then dxV m c (t / 11) j else accV m c (t / 11) (t % 11 + 1) j

/-- The gain's gradient over the row blocks that are finished. -/
def aft7 (c : Dev nD) (t : ℕ) (j : S1x2048.Idx) : EReal := dgV m c ((t + 1) / 11) (j 1)

/-- The proof data: the inputs' windows hold their blocks, the results' what has just been said. -/
def dats (_ : Fin 1) (c : Dev nD) : Dat τ (Elt Ideal) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => aft5 m c t.val
    | ⟨6, _⟩ => dxV m c (t.val / 11)
    | ⟨7, _⟩ => aft7 m c t.val
  Φ _ := Φ m c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = aft5 m c t.val := by dsimp only [dats]
theorem after6 (c : Dev nD) (t : Fin cfg0.N) : (dats m 0 c).after 6 t = dxV m c (t.val / 11) := by dsimp only [dats]
theorem after7 (c : Dev nD) (t : Fin cfg0.N) : (dats m 0 c).after 7 t = aft7 m c t.val := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- The block's own window is stored at every point; the other two only at the last point of a row block. -/
theorem idle5 (t : Fin cfg0.N) : cfg0.idle 5 (cfg0.grid.coords t) = false := rfl
theorem idle67 : ∀ t : Fin grid0.N, (idle0 6 (grid0.coords t) = true ↔ t.val % 11 ≠ 10) ∧ (idle0 7 (grid0.coords t) = true ↔ t.val % 11 ≠ 10) := by decide +kernel
theorem idle6 (t : Fin cfg0.N) : cfg0.idle 6 (cfg0.grid.coords t) = true ↔ t.val % 11 ≠ 10 := (idle67 t).1
theorem idle7 (t : Fin cfg0.N) : cfg0.idle 7 (cfg0.grid.coords t) = true ↔ t.val % 11 ≠ 10 := (idle67 t).2

/-- After the first point of a row block its window holds what the point before left. -/
theorem before5 (c : Dev nD) (t : Fin cfg0.N) (ht : t.val % 11 ≠ 0) (d) : (dats m 0 c).before 5 t d = accV m c (t.val / 11) (t.val % 11) := by
  have h0 : t.val ≠ 0 := by omega
  rw [(dats m 0 c).before_out_traj 5 rfl (fun _ _ => rfl) (fun t _ h => absurd (h.symm.trans (idle5 t)) (by decide)) t.val t rfl d, if_neg, after5]
  · funext j
    unfold aft5
    rw [if_neg (show ¬ (t.val - 1) % 11 = 10 by omega), show (t.val - 1) / 11 = t.val / 11 by omega, show (t.val - 1) % 11 + 1 = t.val % 11 by omega]
  · obtain ⟨n, e⟩ : ∃ n, t.val = n + 1 := ⟨t.val - 1, by omega⟩
    have hn : n < cfg0.N := by have := t.isLt; omega
    rw [e, cfg0.fresh_succ 5 n hn, idle5, Bool.false_and, Bool.or_false, flush0_5]
    show ¬ n % 11 = 10
    omega

/-- Once a row block is finished the gain's window is no longer fresh. -/
theorem fresh7 : ∀ n, 11 ≤ n → n ≤ 87 → cfg0.fresh 7 n = false := by
  intro n
  induction n with
  | zero => intro h; omega
  | succ n ih =>
    intro h h'
    have hn : n < cfg0.N := by rw [show cfg0.N = 88 from N_0]; omega
    rw [cfg0.fresh_succ 7 n hn]
    have hf : (cfg0.win 7).flush ⟨n, hn⟩ = false := by
      rw [Bool.eq_false_iff, Ne, flush0_7]; show ¬ n % 88 = 87; omega
    rw [hf, Bool.false_or]
    by_cases e : n = 10
    · have hi : cfg0.idle 7 (cfg0.grid.coords ⟨n, hn⟩) = false := by
        rw [Bool.eq_false_iff, Ne, idle7]; show ¬ n % 11 ≠ 10; omega
      rw [hi, Bool.false_and]
    · rw [ih (by omega) (by omega), Bool.and_false]

theorem before7 (c : Dev nD) (t : Fin cfg0.N) (ht : 11 ≤ t.val) (d) : (dats m 0 c).before 7 t d = fun j : S1x2048.Idx => dgV m c (t.val / 11) (j 1) := by
  rw [(dats m 0 c).before_out_traj 7 rfl (fun _ _ => rfl) ?_ t.val t rfl d, fresh7 t.val ht (by have := lt_pts t; omega), if_neg Bool.false_ne_true, after7]
  · funext j
    unfold aft7
    rw [show t.val - 1 + 1 = t.val by omega]
  · intro s hs hi _
    have hi := (idle7 s).mp hi
    rw [after7, after7]
    funext j
    unfold aft7
    rw [show (s.val + 1) / 11 = (s.val - 1 + 1) / 11 by omega]

end Cert.Proof.RmsFfnRing

end
-- ==== Proof.RmsFfnRun.lean ====
/-
  The body keeps the proof data of RmsFfnDat at every grid point, and so the call runs to the arrays they say.
-/
module

public import proofs.«01_k».proof.Proof.RmsFfnDat

@[expose] public section

set_option maxRecDepth 16384

noncomputable section

namespace Cert.Proof.RmsFfnRing

open Cert.RmsFfnIdeal Cert.RmsFfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose UD)
open Cert.Proof.RmsRows Cert.Proof.RowWindows Cert.Proof.BlockSums
open scoped BigOperators

local notation "𝕄" => MT nD τ sig Unit (Elt Ideal) ℕ (UD sig nD τ) ℕ

variable (m : (ℓ : Loc nD τ sig) → Buf (Elt Ideal) ℓ) (ρ : Dev nD → PrngReg)

section Vals
variable (c : Dev nD) (t : Fin cfg0.N)
  (arg2 : Memref sig .tc .vmem S1024x512 .bf16) (arg3 : Memref sig .tc .vmem S512x2048 .bf16) (arg4 : Memref sig .tc .vmem S1024x512 .bf16)
  (arg5 : Memref sig .tc .vmem S512x2048 .bf16) (arg7 : Memref sig .tc .vmem S1x2048 .f32) (arg9 : Memref sig .tc .vmem S1024x2048 .f32)
  (arg10 : Memref sig .tc .vmem S1024x2048 .bf16) (arg11 : Memref sig .tc .vmem S1x2048 .f32)
  (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ)))
  (f7 : Buf (Elt Ideal) (arg7.view.loc (c : Thread nD τ))) (o o' : Outs (F := Ideal) c arg9 arg10 arg11)
  (h2 : arg2.view.read (Elt Ideal) f2 = iblk m c 0 t) (h3 : arg3.view.read (Elt Ideal) f3 = iblk m c 1 t)
  (h4 : arg4.view.read (Elt Ideal) f4 = iblk m c 2 t) (h5 : arg5.view.read (Elt Ideal) f5 = iblk m c 3 t)
  (h7 : arg7.view.read (Elt Ideal) f7 = iblk m c 4 t)
  (h9 : t.val % 11 ≠ 0 → arg9.view.read (Elt Ideal) o.1 = accV m c (t.val / 11) (t.val % 11))
  (h11 : 11 ≤ t.val → arg11.view.read (Elt Ideal) o.2.2 = fun j : S1x2048.Idx => dgV m c (t.val / 11) (j 1))
  (hp : Post c (V m c main_arg4) (V m c main_arg6) (grid0.coords t) arg2 arg3 arg4 arg5 arg7 arg9 arg10 arg11 f2 f3 f4 f5 f7 o o')

include h2 h3 h4 h5 in
theorem stepped_eq (P : S1024x2048.Idx → EReal) (hP : P = accV m c (t.val / 11) (t.val % 11)) :
    stepped c arg2 arg3 arg4 arg5 f2 f3 f4 f5 P = accV m c (t.val / 11) (t.val % 11 + 1) := by
  unfold stepped
  rw [h2, h3, h4, h5, hP]
  exact acc_step m c t _ _ rfl rfl

include h7 in
theorem newRow_eq (p : Fin 1024) (q : Fin 2048) :
    newRow c (V m c main_arg4) (V m c main_arg6) (grid0.coords t) arg7 f7 (accV m c (t.val / 11) 11) p q = dxV m c (t.val / 11) (ix2 p q) := by
  unfold newRow dxV
  refine newDx_congr ?_ ?_ rfl ?_ q
  · exact rowOf_eq (xV m c) t p
  · rw [h7]; funext u; exact iblk4 m c t u
  · exact rowOf_eq (dV m c) t p

theorem gterm_eq (q : Fin 2048) (p : ℕ) :
    gterm c (V m c main_arg4) (grid0.coords t) (accV m c (t.val / 11) 11) q p = gainV m c (t.val / 11) q p := by
  unfold gterm gainV
  split
  · exact gainTerm_congr (rowOf_eq (xV m c) t _) rfl q
  · rfl

include h2 h3 h4 h5 h7 h9 hp in
theorem post_5 : arg9.view.read (Elt Ideal) o'.1 = aft5 m c t.val := by
  obtain ⟨-, c1⟩ := coords_of t
  by_cases e : t.val % 11 = 10
  · funext j
    obtain ⟨p, q, rfl⟩ : ∃ p q, j = ix2 p q := ⟨j 0, j 1, eq_ix2 j⟩
    rw [hp.dx (by rw [c1, e]) p q, stepped_eq m c t arg2 arg3 arg4 arg5 f2 f3 f4 f5 h2 h3 h4 h5 _ (h9 (by omega)), e, newRow_eq m c t arg7 f7 h7]
    unfold aft5; rw [if_pos e]
  · refine Eq.trans ?_ (show accV m c (t.val / 11) (t.val % 11 + 1) = aft5 m c t.val from by funext j; unfold aft5; rw [if_neg e])
    by_cases z : t.val % 11 = 0
    · rw [hp.first (by rw [c1, z])]
      exact stepped_eq m c t arg2 arg3 arg4 arg5 f2 f3 f4 f5 h2 h3 h4 h5 _ (by rw [z, accV_zero])
    · rw [hp.later (by rw [c1]; exact z) (by rw [c1]; exact e)]
      exact stepped_eq m c t arg2 arg3 arg4 arg5 f2 f3 f4 f5 h2 h3 h4 h5 _ (h9 z)

include h2 h3 h4 h5 h7 h9 hp in
theorem post_6 (e : t.val % 11 = 10) : arg10.view.read (Elt Ideal) o'.2.1 = dxV m c (t.val / 11) := by
  obtain ⟨-, c1⟩ := coords_of t
  funext j
  obtain ⟨p, q, rfl⟩ : ∃ p q, j = ix2 p q := ⟨j 0, j 1, eq_ix2 j⟩
  refine (hp.dxb (by rw [c1, e]) p q).trans ?_
  rw [stepped_eq m c t arg2 arg3 arg4 arg5 f2 f3 f4 f5 h2 h3 h4 h5 _ (h9 (by omega)), e, newRow_eq m c t arg7 f7 h7]

include h2 h3 h4 h5 h9 h11 hp in
theorem post_7 (e : t.val % 11 = 10) : arg11.view.read (Elt Ideal) o'.2.2 = aft7 m c t.val := by
  obtain ⟨c0, c1⟩ := coords_of t
  funext j
  obtain ⟨p, q, rfl⟩ : ∃ (p : Fin 1) (q : Fin 2048), j = ix2 p q := ⟨j 0, j 1, eq_ix2 j⟩
  obtain rfl : p = 0 := Subsingleton.elim _ _
  refine (hp.dg (by rw [c1, e]) q).trans ?_
  rw [stepped_eq m c t arg2 arg3 arg4 arg5 f2 f3 f4 f5 h2 h3 h4 h5 _ (h9 (by omega)), e, c0]
  show _ = dgV m c ((t.val + 1) / 11) q
  rw [show (t.val + 1) / 11 = t.val / 11 + 1 by omega, dgV_succ]
  refine congrArg₂ (fun a b : EReal => a + b) ?_ (Finset.sum_congr rfl fun p _ => gterm_eq m c t q p)
  by_cases z : t.val / 11 = 0
  · rw [if_pos z, z, dgV_zero]
  · rw [if_neg z, h11 (by omega)]; rfl

end Vals

abbrev held (c : Dev nD) (t : Fin cfg0.N) (w : Fin cfg0.W) : sProp 𝕄 :=
  iprop(∃ d, owns (c : Thread nD τ) ((cfg0.win w).stage (cfg0.slots t w)) fullShare ((dats m 0 c).before w t d))

abbrev left (c : Dev nD) (t : Fin cfg0.N) (w : Fin cfg0.W) : sProp 𝕄 :=
  owns (c : Thread nD τ) ((cfg0.win w).stage (cfg0.slots t w)) fullShare ((dats m 0 c).after w t)

/-- A result window stored only at some points: as found where it is not. -/
def leftIdle (c : Dev nD) (t : Fin cfg0.N) (w : Fin cfg0.W) : sProp 𝕄 :=
  match cfg0.idle w (cfg0.grid.coords t) with
  | true => match (cfg0.win w).flush t with
    | false => held m c t w
    | true => left m c t w
  | false => left m c t w

theorem leftIdle_pos (c : Dev nD) (t : Fin cfg0.N) (w : Fin cfg0.W) (h : cfg0.idle w (cfg0.grid.coords t) = false) : left m c t w ⊢ leftIdle m c t w := by
  unfold leftIdle; rw [h]

theorem leftIdle_neg (c : Dev nD) (t : Fin cfg0.N) (w : Fin cfg0.W) (h : cfg0.idle w (cfg0.grid.coords t) = true) (hf : (cfg0.win w).flush t = false) :
    held m c t w ⊢ leftIdle m c t w := by
  unfold leftIdle; rw [h, hf]

def bPre (c : Dev nD) (t : Fin cfg0.N) : sProp 𝕄 :=
  iprop((dats m 0 c).Φ t.castSucc ∗ (dats m 0 c).owesAt () t.castSucc
    ∗ held m c t 0 ∗ held m c t 1 ∗ held m c t 2 ∗ held m c t 3 ∗ held m c t 4 ∗ held m c t 5 ∗ held m c t 6 ∗ held m c t 7)

def bPost (c : Dev nD) (t : Fin cfg0.N) : sProp 𝕄 :=
  iprop((dats m 0 c).Φ t.succ ∗ (dats m 0 c).owesAt () t.succ
    ∗ left m c t 0 ∗ left m c t 1 ∗ left m c t 2 ∗ left m c t 3 ∗ left m c t 4 ∗ left m c t 5 ∗ leftIdle m c t 6 ∗ leftIdle m c t 7)

theorem owns_read (c : Dev nD) {sp : Space} {sh : Shape} {e : EltTy} (w : Memref sig .tc sp sh e) (f : Buf (Elt Ideal) (w.view.loc (c : Thread nD τ))) (X)
    (h : w.view.read (Elt Ideal) f = X) : (w.view.loc (c : Thread nD τ) ↦[w.view.set]{fullShare} f : sProp 𝕄) ⊢ owns (c : Thread nD τ) w fullShare X := by
  iintro H
  unfold owns
  iexists f
  isplitr
  · ipureintro; exact h
  iexact H

theorem held_intro (c : Dev nD) (t : Fin cfg0.N) (w : Fin cfg0.W) (d) : owns (c : Thread nD τ) ((cfg0.win w).stage (cfg0.slots t w)) fullShare ((dats m 0 c).before w t d) ⊢ held m c t w := by
  iintro H
  iexists d
  iexact H

set_option maxHeartbeats 2000000 in
theorem body_at (c : Dev nD) (t : Fin cfg0.N) :
    bPre m c t ⊢ wp Idealize.ShloMosaic.frame (wpE (defs₀ (F := Ideal)) Variants.none c none) Set.univ (bodyAt0 t) (fun _ => bPost m c t) := by
  unfold bPre bodyAt0 held
  rw [show (dats m 0 c).Φ t.castSucc = Φ m c from rfl]
  unfold Pipeline.Dat.owesAt Pipeline.owesWithin owns
  rw [show (dats m 0 c).owed t.castSucc = 0 from rfl]
  iintro ⟨HΦ, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩⟩
  icases (Φ_open m c) $$ HΦ with ⟨Hr, HR⟩
  rw [before0] at e0; rw [before1] at e1; rw [before2] at e2; rw [before3] at e3; rw [before4] at e4
  obtain ⟨o', ho, hp⟩ := runs_post c (V m c main_arg4) (V m c main_arg6) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) f0 f1 f2 f3 f4 (f5, f6, f7)
  have h9 : t.val % 11 ≠ 0 → (win0_5.stage (cfg0.slots t 5)).view.read (Elt Ideal) f5 = accV m c (t.val / 11) (t.val % 11) := fun h => e5.trans (before5 m c t h d5)
  have h11 : 11 ≤ t.val → (win0_7.stage (cfg0.slots t 7)).view.read (Elt Ideal) f7 = fun j : S1x2048.Idx => dgV m c (t.val / 11) (j 1) := fun h => e7.trans (before7 m c t h d7)
  have r5 := post_5 m c t _ _ _ _ _ _ _ _ f0 f1 f2 f3 f4 (f5, f6, f7) o' e0 e1 e2 e3 e4 h9 hp
  have r6 := post_6 m c t _ _ _ _ _ _ _ _ f0 f1 f2 f3 f4 (f5, f6, f7) o' e0 e1 e2 e3 e4 h9 hp
  have r7 := post_7 m c t _ _ _ _ _ _ _ _ f0 f1 f2 f3 f4 (f5, f6, f7) o' e0 e1 e2 e3 h9 h11 hp
  have k10 : t.val % 11 ≠ 10 → o'.2.1 = f6 := fun h => hp.keep10 (by rw [(coords_of t).2]; exact h)
  have k11 : t.val % 11 ≠ 10 → o'.2.2 = f7 := fun h => hp.keep11 (by rw [(coords_of t).2]; exact h)
  clear hp
  iapply (runs_wand (h := ho))
  isplitl [HR H0 H1 H2 H3 H4 H5 H6 H7 HW]
  · isplitl [H0 H1 H2 H3]
    · isplitl [H0]; · iexact H0
      isplitl [H1]; · iexact H1
      isplitl [H2]; · iexact H2
      iexact H3
    isplitl [H4 H5 H6 H7 HW]
    · isplitl [H4]; · iexact H4
      isplitl [H5]; · iexact H5
      isplitl [H6]; · iexact H6
      isplitl [H7]; · iexact H7
      iexists W; iexact HW
    iexact HR
  iintro %_ ⟨⟨H0, H1, H2, H3⟩, ⟨H4, H5, H6, H7, ⟨%W', HW⟩⟩, HR⟩
  unfold bPost
  rw [show (dats m 0 c).Φ t.succ = Φ m c from rfl]
  unfold Pipeline.Dat.owesAt Pipeline.owesWithin
  rw [show (dats m 0 c).owed t.succ = 0 from rfl]
  isplitl [Hr HR]
  · iapply (Φ_close m c)
    isplitl [Hr]; · iexact Hr
    iexact HR
  isplitl [HW]
  · iexists W'; isplitr; · ipureintro; exact fun _ _ => Or.inl trivial
    iexact HW
  isplitl [H0]; · iapply (owns_read c _ _ _ (e0.trans (after0 m c t).symm)); iexact H0
  isplitl [H1]; · iapply (owns_read c _ _ _ (e1.trans (after1 m c t).symm)); iexact H1
  isplitl [H2]; · iapply (owns_read c _ _ _ (e2.trans (after2 m c t).symm)); iexact H2
  isplitl [H3]; · iapply (owns_read c _ _ _ (e3.trans (after3 m c t).symm)); iexact H3
  isplitl [H4]; · iapply (owns_read c _ _ _ (e4.trans (after4 m c t).symm)); iexact H4
  isplitl [H5]; · iapply (owns_read c _ _ _ (r5.trans (after5 m c t).symm)); iexact H5
  by_cases e : t.val % 11 = 10
  · isplitl [H6]
    · iapply (leftIdle_pos m c t 6 (by rw [Bool.eq_false_iff, Ne, idle6]; exact fun h => h e))
      iapply (owns_read c _ _ _ ((r6 e).trans (after6 m c t).symm)); iexact H6
    · iapply (leftIdle_pos m c t 7 (by rw [Bool.eq_false_iff, Ne, idle7]; exact fun h => h e))
      iapply (owns_read c _ _ _ ((r7 e).trans (after7 m c t).symm)); iexact H7
  · isplitl [H6]
    · iapply (leftIdle_neg m c t 6 ((idle6 t).mpr e) (by rw [Bool.eq_false_iff, Ne, flush0_6]; exact e))
      iapply (held_intro m c t 6 d6)
      iapply (owns_read c _ _ _ ((congrArg _ (k10 e)).trans e6)); iexact H6
    · iapply (leftIdle_neg m c t 7 ((idle7 t).mpr e) (by rw [Bool.eq_false_iff, Ne, flush0_7]; omega))
      iapply (held_intro m c t 7 d7)
      iapply (owns_read c _ _ _ ((congrArg _ (k11 e)).trans e7)); iexact H7

theorem obligation (c : Dev nD) : BodyObligationLoose (dats m 0 c) (defs₀ (F := Ideal)) Variants.none () Set.univ := fun t =>
  triple_restated (body_at m c t) (by rw [defs₀_row]) (by rw [bigSep_W0]; exact .rfl) (fun _ => by rw [bigSep_W0]; exact .rfl)

set_option backward.isDefEq.respectTransparency.types false in
theorem run_main :
    θ_run defs (onTc (τ := τ) (main (F := Ideal))) (s₀ m ρ)
      (fun r => Pipeline.FramePost cfgs (dats m) (0 : Fin 1) (V m) r ∧ r.2.sem = fun _ => 0) :=
  Pipeline.θ_run_frame_dma (Q' := _) cfgs (dats m) (0 : Fin 1) launch0 osem defs₀ Variants.none ownSemFacts hbm hbm_sub m ρ main
    (hbody := fun c => obligation m c)
    (hshare := fun c => (dats m 0 c).share_full fun _ => rfl)
    (howed := fun _ _ => rfl) (V := V m)
    (hmain := hmainD m) (hA := fun _ _ => rfl) (hin := fun _ => .rfl) (hout := fun _ => .rfl)

end Cert.Proof.RmsFfnRing

end
-- ==== Proof.RmsFfnFinal.lean ====
/-
  The three arrays the RMS-norm backward call leaves, as functions of its arguments.
-/
module

public import proofs.«01_k».proof.Proof.RmsFfnRun

@[expose] public section

set_option maxRecDepth 16384

noncomputable section

namespace Cert.Proof.RmsFfnRing

open Cert.RmsFfnIdeal Cert.RmsFfnIdeal.Gen
open Idealize.ShloMosaic Idealize.SL.Sem
open Idealize.ShloMosaic.TcCoe Idealize.ShloMosaic.Tactic
open Idealize.ShloMosaic.Pipeline (Dat Cfg Window)
open Cert.Proof.RmsRows Cert.Proof.RowWindows Cert.Proof.BlockSums
open scoped BigOperators

/-- A row of the gradient of the norm's result: the two products. -/
def back (a0 : S8192x5632.Idx → EReal) (b0 : S5632x2048.Idx → EReal) (a1 : S8192x5632.Idx → EReal) (b1 : S5632x2048.Idx → EReal) (p : Fin 8192) (q : Fin 2048) : EReal :=
  (∑ k : Fin 5632, a0 (ix2 p k) * b0 (ix2 k q)) + ∑ k : Fin 5632, a1 (ix2 p k) * b1 (ix2 k q)

/-- The gradient of the norm's input. -/
def resDx (a0 : S8192x5632.Idx → EReal) (b0 : S5632x2048.Idx → EReal) (a1 : S8192x5632.Idx → EReal) (b1 : S5632x2048.Idx → EReal)
    (x : S8192x2048.Idx → EReal) (g : S1x2048.Idx → EReal) (d : S8192x2048.Idx → EReal) (i : S8192x2048.Idx) : EReal :=
  newDx (fun u => x (ix2 (i 0) u)) (fun u => g (ix2 (0 : Fin 1) u)) (back a0 b0 a1 b1 (i 0)) (fun u => d (ix2 (i 0) u)) (i 1)

/-- The gradient of the gain: the rows' contributions. -/
def resDg (a0 : S8192x5632.Idx → EReal) (b0 : S5632x2048.Idx → EReal) (a1 : S8192x5632.Idx → EReal) (b1 : S5632x2048.Idx → EReal)
    (x : S8192x2048.Idx → EReal) (i : S1x2048.Idx) : EReal :=
  ∑ p : Fin 8192, gainTerm (fun u => x (ix2 p u)) (back a0 b0 a1 b1 p) (i 1)

variable (m : (ℓ : Loc nD τ sig) → Buf (Elt Ideal) ℓ) (ρ : Dev nD → PrngReg) (c : Dev nD)

theorem whole_sum (a : S8192x5632.Idx → EReal) (b : S5632x2048.Idx → EReal) (p : Fin 8192) (q : Fin 2048) :
    blocks 512 (term a b p q) 11 = ∑ k : Fin 5632, a (ix2 p k) * b (ix2 k q) := by
  rw [blocks_eq_range, Finset.sum_range]
  refine Finset.sum_congr rfl fun k _ => ?_
  unfold term
  rw [dif_pos k.isLt]

theorem accV_all (b : ℕ) (p : Fin 1024) : (fun u => accV m c b 11 (ix2 p u)) = back (a0V m c) (b0V m c) (a1V m c) (b1V m c) (row b p) := by
  funext u
  unfold accV back
  rw [← whole_sum, ← whole_sum]
  rfl

abbrev outDx (c : Dev nD) : S8192x2048.Idx → EReal := resDx (a0V m c) (b0V m c) (a1V m c) (b1V m c) (xV m c) (gV m c) (dV m c)
abbrev outDg (c : Dev nD) : S1x2048.Idx → EReal := resDg (a0V m c) (b0V m c) (a1V m c) (b1V m c) (xV m c)

theorem dxV_eq (b : ℕ) (p : Fin 1024) (q : Fin 2048) : dxV m c b (ix2 p q) = outDx m c (ix2 (row b p) q) := by
  unfold dxV outDx resDx
  exact newDx_congr rfl rfl (accV_all m c b p) rfl q

theorem dgV_all (q : Fin 2048) : dgV m c 8 q = outDg m c (ix2 (0 : Fin 1) q) := by
  have e : dgV m c 8 q = blocks 1024 (fun n => if h : n < 8192 then gainTerm (fun u => xV m c (ix2 (⟨n, h⟩ : Fin 8192) u)) (back (a0V m c) (b0V m c) (a1V m c) (b1V m c) ⟨n, h⟩) q else 0) 8 := by
    unfold dgV blocks
    refine Finset.sum_congr rfl fun b hb => ?_
    have hb := Finset.mem_range.mp hb
    rw [Finset.sum_range]
    refine Finset.sum_congr rfl fun p _ => ?_
    have h : 1024 * b + p.val < 8192 := by have := p.isLt; omega
    have hr : row b p = ⟨1024 * b + p.val, h⟩ := Fin.ext (row_val b hb p)
    refine Eq.trans ?_ (dif_pos h).symm
    unfold gainV
    rw [dif_pos p.isLt, ← hr]
    exact gainTerm_congr rfl (accV_all m c b p) q
  rw [e, blocks_eq_range, Finset.sum_range]
  refine Finset.sum_congr rfl fun p _ => ?_
  exact dif_pos p.isLt

/-! ## The arrays at the end -/

theorem idx5 (t : Fin cfg0.N) (p : Fin 1024) (q : Fin 2048) : (win0_5.rect t).idx (ix2 p q) = ix2 (row (t.val / 11) p) q := by
  obtain ⟨-, -, -, -, -, -, -, -, -, -, e0, e1, -⟩ := index_of t
  have hb : t.val / 11 < 8 := by have := lt_pts t; omega
  refine Shape.idx_ext₂ ?_ ?_
  · show win0_5.index t 0 * 1024 + 1 * (p : ℕ) = (row (t.val / 11) p).val
    rw [e0, row_val _ hb]; omega
  · show win0_5.index t 1 * 2048 + 1 * (q : ℕ) = q
    rw [e1]; omega

theorem idx6 (t : Fin cfg0.N) (p : Fin 1024) (q : Fin 2048) : (win0_6.rect t).idx (ix2 p q) = ix2 (row (t.val / 11) p) q := by
  obtain ⟨-, -, -, -, -, -, -, -, -, -, -, -, e0, e1, -⟩ := index_of t
  have hb : t.val / 11 < 8 := by have := lt_pts t; omega
  refine Shape.idx_ext₂ ?_ ?_
  · show win0_6.index t 0 * 1024 + 1 * (p : ℕ) = (row (t.val / 11) p).val
    rw [e0, row_val _ hb]; omega
  · show win0_6.index t 1 * 2048 + 1 * (q : ℕ) = q
    rw [e1]; omega

theorem idx7 (t : Fin cfg0.N) (q : Fin 2048) : (win0_7.rect t).idx (ix2 (0 : Fin 1) q) = ix2 (0 : Fin 1) q := by
  obtain ⟨-, -, -, -, -, -, -, -, -, -, -, -, -, -, e0, e1⟩ := index_of t
  refine Shape.idx_ext₂ ?_ ?_
  · show win0_7.index t 0 * 1 + 1 * 0 = 0
    rw [e0]
  · show win0_7.index t 1 * 2048 + 1 * (q : ℕ) = q
    rw [e1]; omega

theorem flushed5 (t : Fin cfg0.N) (h : t.val % 11 = 10) : (dats m 0 c).flushed 5 t = (win0_5.blk t).view.read (Elt Ideal) (outDx m c) := by
  show (cfg0.win 5).cut (grid0.coords t) ((dats m 0 c).after 5 t) = _
  rw [after5]
  funext j
  obtain ⟨p, q, rfl⟩ : ∃ p q, j = ix2 p q := ⟨j 0, j 1, eq_ix2 j⟩
  refine (show _ = aft5 m c t.val (ix2 p q) from rfl).trans ?_
  unfold aft5
  rw [if_pos h]
  exact (dxV_eq m c _ p q).trans (congrArg (outDx m c) (idx5 t p q).symm)

theorem flushed6 (t : Fin cfg0.N) : (dats m 0 c).flushed 6 t = (win0_6.blk t).view.read (Elt Ideal) (outDx m c) := by
  show (cfg0.win 6).cut (grid0.coords t) ((dats m 0 c).after 6 t) = _
  rw [after6]
  funext j
  obtain ⟨p, q, rfl⟩ : ∃ p q, j = ix2 p q := ⟨j 0, j 1, eq_ix2 j⟩
  exact (dxV_eq m c _ p q).trans (congrArg (outDx m c) (idx6 t p q).symm)

theorem flushed7 (t : Fin cfg0.N) (h : t.val % 88 = 87) : (dats m 0 c).flushed 7 t = (win0_7.blk t).view.read (Elt Ideal) (outDg m c) := by
  show (cfg0.win 7).cut (grid0.coords t) ((dats m 0 c).after 7 t) = _
  rw [after7]
  funext j
  obtain ⟨p, q, rfl⟩ : ∃ (p : Fin 1) (q : Fin 2048), j = ix2 p q := ⟨j 0, j 1, eq_ix2 j⟩
  obtain rfl : p = 0 := Subsingleton.elim _ _
  refine (show _ = dgV m c ((t.val + 1) / 11) q from rfl).trans ?_
  rw [show (t.val + 1) / 11 = 8 by have := lt_pts t; omega]
  exact (dgV_all m c q).trans (congrArg (outDg m c) (idx7 t q).symm)

/-- The last point of the row block an entry lies in. -/
theorem at_row (i : S8192x2048.Idx) : ∃ (t : Fin cfg0.N) (p : Fin 1024) (q : Fin 2048), t.val % 11 = 10 ∧ ix2 (row (t.val / 11) p) q = i := by
  have h0 : (i 0 : ℕ) < 8192 := (i 0).isLt
  have ht : (i 0 : ℕ) / 1024 * 11 + 10 < cfg0.N := by rw [show cfg0.N = 88 from N_0]; omega
  refine ⟨⟨_, ht⟩, ⟨(i 0 : ℕ) % 1024, by omega⟩, i 1, by show ((i 0 : ℕ) / 1024 * 11 + 10) % 11 = 10; omega, Shape.idx_ext₂ ?_ rfl⟩
  show (row (((i 0 : ℕ) / 1024 * 11 + 10) / 11) ⟨(i 0 : ℕ) % 1024, _⟩).val = (i 0 : ℕ)
  rw [row_val _ (by omega)]
  show 1024 * (((i 0 : ℕ) / 1024 * 11 + 10) / 11) + (i 0 : ℕ) % 1024 = (i 0 : ℕ)
  omega

theorem cover5 (i : S8192x2048.Idx) : ∃ t : Fin cfg0.N, (cfg0.win 5).flush t = true ∧ i ∈ ((cfg0.win 5).blk t).view.set := by
  obtain ⟨t, p, q, h, rfl⟩ := at_row i
  refine ⟨t, (flush0_5 t).mpr h, ?_⟩
  show ix2 (row (t.val / 11) p) q ∈ ((View.whole main_v0_0).slice (win0_5.rect t)).set
  rw [View.set_slice_whole, ← idx5]
  exact (win0_5.rect t).idx_mem _

theorem cover6 (i : S8192x2048.Idx) : ∃ t : Fin cfg0.N, (cfg0.win 6).flush t = true ∧ i ∈ ((cfg0.win 6).blk t).view.set := by
  obtain ⟨t, p, q, h, rfl⟩ := at_row i
  refine ⟨t, (flush0_6 t).mpr h, ?_⟩
  show ix2 (row (t.val / 11) p) q ∈ ((View.whole main_v0_1).slice (win0_6.rect t)).set
  rw [View.set_slice_whole, ← idx6]
  exact (win0_6.rect t).idx_mem _

theorem cover7 (i : S1x2048.Idx) : ∃ t : Fin cfg0.N, (cfg0.win 7).flush t = true ∧ i ∈ ((cfg0.win 7).blk t).view.set := by
  obtain ⟨t, q, h, rfl⟩ : ∃ (t : Fin cfg0.N) (q : Fin 2048), t.val % 88 = 87 ∧ ix2 (0 : Fin 1) q = i :=
    ⟨⟨87, by rw [show cfg0.N = 88 from N_0]; decide⟩, i 1, rfl, Shape.idx_ext₂ (by have : (i 0 : ℕ) < 1 := (i 0).isLt; show 0 = (i 0 : ℕ); omega) rfl⟩
  refine ⟨t, (flush0_7 t).mpr h, ?_⟩
  show ix2 (0 : Fin 1) q ∈ ((View.whole main_v0_2).slice (win0_7.rect t)).set
  rw [View.set_slice_whole, ← idx7 t]
  exact (win0_7.rect t).idx_mem _

theorem final5 : (dats m 0 c).arrAt 5 cfg0.N = outDx m c :=
  (dats m 0 c).arrAt_eq_of_cover 5 (outDx m c) (fun t hf => flushed5 m c t ((flush0_5 t).mp hf)) cover5

theorem final6 : (dats m 0 c).arrAt 6 cfg0.N = outDx m c :=
  (dats m 0 c).arrAt_eq_of_cover 6 (outDx m c) (fun t _ => flushed6 m c t) cover6

theorem final7 : (dats m 0 c).arrAt 7 cfg0.N = outDg m c :=
  (dats m 0 c).arrAt_eq_of_cover 7 (outDg m c) (fun t hf => flushed7 m c t ((flush0_7 t).mp hf)) cover7

variable {m} in
theorem arr_kept {r : PUnit × MemSt nD τ sig (Elt Ideal)} (h : Pipeline.FramePost cfgs (dats m) (0 : Fin 1) (V m) r) (c : Dev nD) (w : Fin cfg0.W)
    (hin : (cfg0.win w).isOut = false) : r.2.mem ((cfg0.spec w).arr.view.loc (c.tc : Thread nD τ)) = V m c (Pipeline.arrRef spec0 w) :=
  ((h c).1 w).trans (((dats m 0 c).arrAt_in w hin _).trans (A_eq m c w))

set_option maxHeartbeats 4000000 in
/-- The run, with its results. -/
theorem run_values : θ_run defs (onTc (τ := τ) (main (F := Ideal))) (s₀ m ρ) (fun r => ∀ c : Dev nD,
      r.2.mem ((c.tc : Thread nD τ).loc main_v0_0) = outDx m c
      ∧ r.2.mem ((c.tc : Thread nD τ).loc main_v0_1) = outDx m c
      ∧ r.2.mem ((c.tc : Thread nD τ).loc main_v0_2) = outDg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 5).trans (final5 m c), ((h.1 c).1 6).trans (final6 m c), ((h.1 c).1 7).trans (final7 m c),
    arr_kept h.1 c 0 rfl, arr_kept h.1 c 1 rfl, arr_kept h.1 c 2 rfl, arr_kept h.1 c 3 rfl,
    (h.1 c).2 main_arg4 (Pipeline.mem_restRefs_of main_arg4 (by decide) (by decide)), arr_kept h.1 c 4 rfl,
    (h.1 c).2 main_arg6 (Pipeline.mem_restRefs_of main_arg6 (by decide) (by decide))⟩) (run_main m ρ)

end Cert.Proof.RmsFfnRing

end
-- ==== Proof.RmsMath.lean ====
/-
  The backward pass of the RMS norm of one row, as the kernel computes it and as the chain rule writes it. They agree over
  the extended reals at every row: where the row's mean square is infinite both norms are zero, and elsewhere they differ by
  distributing one positive real number.
-/
module

public import proofs.«01_k».proof.Proof.RmsRows

@[expose] public section

noncomputable section

namespace Cert.Proof.RmsRows

open Idealize.ShloMosaic
open scoped BigOperators

theorem width_eq : width = ((2048 : ℝ) : EReal) := by
  unfold width
  simp [Ideal.ofBits, Ideal.ieee]
  norm_num
  rw [← EReal.coe_mul]
  norm_num

theorem mhalf_eq : Ideal.ofBits .f32 0xBF000000#32 = ((-2⁻¹ : ℝ) : EReal) := by
  simp [Ideal.ofBits, Ideal.ieee]
  norm_num
  rw [← EReal.coe_mul]
  norm_num

theorem eps_eq : ∃ e : ℝ, 0 < e ∧ eps = (e : EReal) := by
  refine ⟨8796093 * (1 / 8796093022208), by norm_num, ?_⟩
  unfold eps
  simp [Ideal.ofBits, Ideal.ieee]
  norm_num
  try (rw [← EReal.coe_mul]; norm_num)

/-- The mean square with the small constant. -/
def msq (x : Fin 2048 → EReal) : EReal := Ideal.div (∑ u, x u * x u) width + eps

/-- The chain rule's second term: the derivative of the reciprocal root, times half the row's share of the mean square. -/
def meanTerm (x g dn : Fin 2048 → EReal) : EReal :=
  Ideal.div ((∑ u, x u * (dn u * g u)) * (Ideal.ofBits .f32 0xBF000000#32 * Ideal.div (Ideal.rsqrt (msq x)) (msq x))) width

/-- The gradient of the norm's input as the chain rule writes it. -/
def chainDx (x g dn d : Fin 2048 → EReal) (q : Fin 2048) : EReal :=
  d q + dn q * g q * Ideal.rsqrt (msq x) + x q * meanTerm x g dn + meanTerm x g dn * x q

theorem rinv_eq (x : Fin 2048 → EReal) : rinv x = Ideal.rsqrt (msq x) := rfl

/-- The reciprocal root is zero, or a positive real whose cube is its quotient by the mean square. -/
theorem rinv_cases (x : Fin 2048 → EReal) :
    (Ideal.rsqrt (msq x) = 0 ∧ Ideal.div (Ideal.rsqrt (msq x)) (msq x) = 0)
      ∨ ∃ r : ℝ, 0 < r ∧ Ideal.rsqrt (msq x) = (r : EReal) ∧ Ideal.div (Ideal.rsqrt (msq x)) (msq x) = ((r * r * r : ℝ) : EReal) := by
  obtain ⟨e, he, hee⟩ := eps_eq
  have hs : 0 ≤ ∑ u, x u * x u := Finset.sum_nonneg fun u _ => by
    induction x u using EReal.rec with
    | bot => simp
    | top => simp
    | coe a => rw [← EReal.coe_mul]; exact_mod_cast mul_self_nonneg a
  unfold msq
  rw [width_eq, hee, Ideal.div_coe (by norm_num)]
  generalize ∑ u, x u * x u = s at hs
  induction s using EReal.rec with
  | bot => exact absurd hs (by simp)
  | top =>
    left
    have h : (⊤ : EReal) * ((1 / 2048 : ℝ) : EReal) + (e : EReal) = ⊤ := by
      rw [EReal.top_mul_coe_of_pos (by norm_num), EReal.top_add_coe]
    rw [h]
    simp [Ideal.div]
  | coe a =>
    right
    have ha : 0 ≤ a := by exact_mod_cast hs
    rw [← EReal.coe_mul, ← EReal.coe_add]
    have hv : 0 < a * (1 / 2048) + e := by positivity
    generalize a * (1 / 2048) + e = v at hv
    have hr : 0 < (Real.sqrt v)⁻¹ := inv_pos.mpr (Real.sqrt_pos.mpr hv)
    have e1 : Ideal.rsqrt (v : EReal) = (((Real.sqrt v)⁻¹ : ℝ) : EReal) := by
      rw [Ideal.rsqrt_coe, if_neg (not_lt.mpr hv.le), if_neg hv.ne']
    refine ⟨_, hr, e1, ?_⟩
    rw [e1, Ideal.div_coe hv.ne', ← EReal.coe_mul]
    congr 1
    have hq : Real.sqrt v * Real.sqrt v = v := Real.mul_self_sqrt hv.le
    have hne : Real.sqrt v ≠ 0 := (Real.sqrt_pos.mpr hv).ne'
    rw [mul_assoc, ← mul_inv, hq, one_div]

theorem sum_mul_real {r : ℝ} (hr : 0 < r) {n : ℕ} (f : Fin n → EReal) : ∑ u, f u * (r : EReal) = (∑ u, f u) * (r : EReal) := by
  have h : ∀ s : Finset (Fin n), ∑ u ∈ s, f u * (r : EReal) = (∑ u ∈ s, f u) * (r : EReal) := by
    intro s
    induction s using Finset.cons_induction with
    | empty => simp
    | cons a s ha ih =>
      rw [Finset.sum_cons, Finset.sum_cons, ih, EReal.right_distrib_of_nonneg_of_ne_top (by exact_mod_cast hr.le) (EReal.coe_ne_top r)]
  exact h _

theorem double (z : EReal) : z + z = z * ((2 : ℝ) : EReal) := by
  induction z using EReal.rec with
  | bot => rw [EReal.bot_mul_coe_of_pos (by norm_num)]; rfl
  | top => rw [EReal.top_mul_coe_of_pos (by norm_num)]; rfl
  | coe a => rw [← EReal.coe_add, ← EReal.coe_mul]; congr 1; ring

/-- The two agree, at every row. -/
theorem newDx_eq (x g dn d : Fin 2048 → EReal) (q : Fin 2048) : newDx x g dn d q = chainDx x g dn d q := by
  unfold newDx chainDx meanTerm
  rw [rinv_eq, width_eq, mhalf_eq, Ideal.div_coe (by norm_num), Ideal.div_coe (by norm_num)]
  rcases rinv_cases x with ⟨h1, h2⟩ | ⟨r, hr, h1, h2⟩
  · rw [h2, h1]
    simp
  · rw [h2, h1]
    have hS : ∑ u, g u * dn u * (x u * (r : EReal)) = (∑ u, x u * (dn u * g u)) * (r : EReal) := by
      rw [← sum_mul_real hr]
      refine Finset.sum_congr rfl fun u _ => ?_
      ac_rfl
    rw [hS]
    generalize ∑ u, x u * (dn u * g u) = S
    have hK : (r : EReal) * (g q * dn q - x q * (r : EReal) * (S * (r : EReal) * ((1 / 2048 : ℝ) : EReal)))
        = dn q * g q * (r : EReal) + x q * S * ((-(r * r * r * (1 / 2048)) : ℝ) : EReal) := by
      rw [sub_eq_add_neg, EReal.left_distrib_of_nonneg_of_ne_top (by exact_mod_cast hr.le) (EReal.coe_ne_top r)]
      congr 1
      · ac_rfl
      · rw [EReal.coe_neg, mul_neg, mul_neg]
        congr 1
        rw [EReal.coe_mul, EReal.coe_mul, EReal.coe_mul]
        ac_rfl
    have hz : x q * (S * (((-2⁻¹ : ℝ) : EReal) * ((r * r * r : ℝ) : EReal)) * ((1 / 2048 : ℝ) : EReal))
          + S * (((-2⁻¹ : ℝ) : EReal) * ((r * r * r : ℝ) : EReal)) * ((1 / 2048 : ℝ) : EReal) * x q
        = x q * S * ((-(r * r * r * (1 / 2048)) : ℝ) : EReal) := by
      have hc : S * (((-2⁻¹ : ℝ) : EReal) * ((r * r * r : ℝ) : EReal)) * ((1 / 2048 : ℝ) : EReal) * x q
          = x q * (S * (((-2⁻¹ : ℝ) : EReal) * ((r * r * r : ℝ) : EReal)) * ((1 / 2048 : ℝ) : EReal)) := mul_comm _ _
      rw [hc, double, show x q * S * ((-(r * r * r * (1 / 2048)) : ℝ) : EReal)
        = x q * S * (((-2⁻¹ : ℝ) : EReal) * ((r * r * r : ℝ) : EReal) * ((1 / 2048 : ℝ) : EReal) * ((2 : ℝ) : EReal)) from by
          rw [← EReal.coe_mul, ← EReal.coe_mul, ← EReal.coe_mul]; congr 2; ring]
      ac_rfl
    rw [hK, add_assoc (d q + _), hz, add_assoc]

end Cert.Proof.RmsRows

end
-- ==== Proof.RmsFfnClaims.lean ====
/-
  The claims about the RMS norm's backward call: the frames, and that at the ideal instance it leaves what the chain rule
  leaves, of any arguments.
-/
module

public import proofs.«01_k».proof.Defs
public import proofs.«01_k».proof.Proof.RmsFfnFinal
public import proofs.«01_k».proof.Proof.RmsFfnFrame
public import proofs.«01_k».proof.Proof.Gen.RmsFfn
public import proofs.«01_k».proof.Proof.RmsMath
public import proofs.«01_k».proof.Proof.Gen.RmsFfnRefIdeal.Run

@[expose] public section

set_option maxRecDepth 16384

noncomputable section

namespace Cert.Proof.RmsFfnClaims

open Idealize.ShloMosaic Idealize.SL.Sem
open Idealize.ShloMosaic.TcCoe
open Cert.Proof.RmsRows
open scoped BigOperators

/-- The program and its idealization have the same text at every float type, so the frame's proof, over any, serves both. -/
theorem same_bodies : (Cert.RmsFfn.defs₀ (F := Bits)) = Cert.RmsFfnIdeal.defs₀ (F := Bits) := by
  unfold Cert.RmsFfn.defs₀ Cert.RmsFfnIdeal.defs₀
  refine congrArg Defs.onTc ?_
  funext l x
  match l, x with
  | 0, (t, s) => rfl

theorem same_defs : (Cert.RmsFfn.defs (F := Bits)) = Cert.RmsFfnIdeal.defs (F := Bits) := congrArg (Pipeline.defs _) same_bodies

theorem frame : Cert.quiescent_RmsFfn := fun m ρ _ => by
  rw [same_defs]
  exact Cert.Proof.RmsFfnRing.frame (F := Bits) m ρ
theorem frame_i : Cert.quiescent_RmsFfnIdeal := fun m ρ _ => Cert.Proof.RmsFfnRing.frame m ρ
theorem frame_r : Cert.quiescent_RmsFfnRefIdeal := fun m ρ _ =>
  (θ_run Cert.RmsFfnRefIdeal.defs _ _).mono (fun r h => ⟨fun c => (h c).2.2.2, sem_eq_zero_of_no_sems (by decide) r.2⟩) (Cert.RmsFfnRefIdeal.Value.run (F := Ideal) m ρ)

section Reference
open Cert.RmsFfnRefIdeal Cert.RmsFfnRefIdeal.Gen

/-- The gradient of the norm's result. -/
theorem ref_dn (a0 : FVec Ideal S8192x5632 .bf16) (b0 : FVec Ideal S5632x2048 .bf16) (a1 : FVec Ideal S8192x5632 .bf16) (b1 : FVec Ideal S5632x2048 .bf16) (i : S8192x2048.Idx) :
    (addf (Host.dotGeneral dot_S8192x5632_S2048x5632_S8192x2048_1_1_0_0_n_n none (extf .f32 a1 bitsLt_bf16_f32) (transpose S2048x5632 [1, 0] (extf .f32 b1 bitsLt_bf16_f32) transposes_S5632x2048_S2048x5632_1_0)) (Host.dotGeneral dot_S8192x5632_S2048x5632_S8192x2048_1_1_0_0_n_n none (extf .f32 a0 bitsLt_bf16_f32) (transpose S2048x5632 [1, 0] (extf .f32 b0 bitsLt_bf16_f32) transposes_S5632x2048_S2048x5632_1_0)) : FVec Ideal S8192x2048 .f32) i = RmsFfnRing.back a0 b0 a1 b1 (i 0) (i 1) := by
  unfold RmsFfnRing.back
  rw [add_comm]
  pointwise

/-- The chain rule through the norm, in its input. -/
theorem ref_dx (x d : FVec Ideal S8192x2048 .f32) (g : FVec Ideal S1x2048 .f32) (dn : FVec Ideal S8192x2048 .f32) (i : S8192x2048.Idx) :
    (addf (addf (addf d (mulf (mulf dn (broadcastInDim S8192x2048 ![0, 1] bcast_S1x2048_S8192x2048_0_1 g)) (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))))))) (mulf x (broadcastInDim S8192x2048 ![0] bcast_S8192_S8192x2048_0 (Host.reduceAdd (Host.divf (mulf (shapeCast _ (Host.reduceAdd (mulf x (mulf dn (broadcastInDim S8192x2048 ![0, 1] bcast_S1x2048_S8192x2048_0_1 g))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x1 ![] bcast_S_S8192x1 (constant S_ .f32 0x45000000#32))) (constant S_ .f32 0x00000000#32) reducesTo_S8192x1_S8192_d1 h_S_)))) (mulf (broadcastInDim S8192x2048 ![0] bcast_S8192_S8192x2048_0 (Host.reduceAdd (Host.divf (mulf (shapeCast _ (Host.reduceAdd (mulf x (mulf dn (broadcastInDim S8192x2048 ![0, 1] bcast_S1x2048_S8192x2048_0_1 g))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x1 ![] bcast_S_S8192x1 (constant S_ .f32 0x45000000#32))) (constant S_ .f32 0x00000000#32) reducesTo_S8192x1_S8192_d1 h_S_)) x) : FVec Ideal S8192x2048 .f32) i
      = chainDx (fun u => x (ix2 (i 0) u)) (fun u => g (ix2 (0 : Fin 1) u)) (fun u => dn (ix2 (i 0) u)) (fun u => d (ix2 (i 0) u)) (i 1) := by
  obtain ⟨p, q, rfl⟩ : ∃ (p : Fin 8192) (q : Fin 2048), i = ix2 p q := ⟨i 0, i 1, eq_ix2 i⟩
  unfold chainDx meanTerm msq
  pointwise
  simp only [Fin.sum_univ_one]

/-- The chain rule through the norm, in its gain. -/
theorem ref_dg (x : FVec Ideal S8192x2048 .f32) (dn : FVec Ideal S8192x2048 .f32) (i : S1x2048.Idx) :
    (shapeCast _ (Host.reduceAdd (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) dn) (constant S_ .f32 0x00000000#32) reducesTo_S8192x2048_S2048_d0 h_S_) shapeCasts_S2048_S1x2048 : FVec Ideal S1x2048 .f32) i = ∑ p : Fin 8192, x (ix2 p (i 1)) * rinv (fun u => x (ix2 p u)) * dn (ix2 p (i 1)) := by
  unfold rinv
  pointwise

end Reference

theorem dx_eq (x d : Cert.RmsFfnIdeal.S8192x2048.Idx → EReal) (g : Cert.RmsFfnIdeal.S1x2048.Idx → EReal) (dn : Cert.RmsFfnIdeal.S8192x2048.Idx → EReal)
    (a0 : Cert.RmsFfnIdeal.S8192x5632.Idx → EReal) (b0 : Cert.RmsFfnIdeal.S5632x2048.Idx → EReal) (a1 : Cert.RmsFfnIdeal.S8192x5632.Idx → EReal) (b1 : Cert.RmsFfnIdeal.S5632x2048.Idx → EReal)
    (h : ∀ i, dn i = RmsFfnRing.back a0 b0 a1 b1 (i 0) (i 1)) (i : Cert.RmsFfnIdeal.S8192x2048.Idx) :
    chainDx (fun u => x (ix2 (i 0) u)) (fun u => g (ix2 (0 : Fin 1) u)) (fun u => dn (ix2 (i 0) u)) (fun u => d (ix2 (i 0) u)) (i 1)
      = RmsFfnRing.resDx a0 b0 a1 b1 x g d i := by
  unfold RmsFfnRing.resDx
  refine Eq.trans ?_ (newDx_eq _ _ _ _ _).symm
  exact congrArg (fun r => chainDx _ _ r _ _) (funext fun u => h (ix2 (i 0) u))

theorem dg_eq (x : Cert.RmsFfnIdeal.S8192x2048.Idx → EReal) (dn : Cert.RmsFfnIdeal.S8192x2048.Idx → EReal)
    (a0 : Cert.RmsFfnIdeal.S8192x5632.Idx → EReal) (b0 : Cert.RmsFfnIdeal.S5632x2048.Idx → EReal) (a1 : Cert.RmsFfnIdeal.S8192x5632.Idx → EReal) (b1 : Cert.RmsFfnIdeal.S5632x2048.Idx → EReal)
    (h : ∀ i, dn i = RmsFfnRing.back a0 b0 a1 b1 (i 0) (i 1)) (i : Cert.RmsFfnIdeal.S1x2048.Idx) :
    ∑ p : Fin 8192, x (ix2 p (i 1)) * rinv (fun u => x (ix2 p u)) * dn (ix2 p (i 1)) = RmsFfnRing.resDg a0 b0 a1 b1 x i := by
  unfold RmsFfnRing.resDg
  refine Finset.sum_congr rfl fun p _ => ?_
  rw [h, mul_comm]
  rfl

/-- The value claim, of any arguments. -/
theorem value : Cert.algebraic_RmsFfnIdeal_RmsFfnRefIdeal := by
  intro m ρ m' ρ' _ hagree
  refine ⟨fun c => RmsFfnRing.outDx m c, fun c => RmsFfnRing.outDx m c, fun c => RmsFfnRing.outDg m c, RmsFfnRing.run_values m ρ, ?_⟩
  refine (θ_run Cert.RmsFfnRefIdeal.defs _ _).mono (fun _ h c => ⟨(h c).1.trans ?_, (h c).2.1.trans ?_, (h c).2.2.1.trans ?_, (h c).2.2.2⟩) (Cert.RmsFfnRefIdeal.Value.run (F := Ideal) m' ρ')
  · unfold Cert.RmsFfnRefIdeal.Value.res_main_v45
    rw [(hagree c).1, (hagree c).2.1, (hagree c).2.2.1, (hagree c).2.2.2.1, (hagree c).2.2.2.2.1, (hagree c).2.2.2.2.2.1, (hagree c).2.2.2.2.2.2]
    funext i
    exact (ref_dx _ _ _ _ i).trans (dx_eq _ _ _ _ _ _ _ _ (fun i => ref_dn _ _ _ _ i) i)
  · unfold Cert.RmsFfnRefIdeal.Value.res_main_v46
    rw [(hagree c).1, (hagree c).2.1, (hagree c).2.2.1, (hagree c).2.2.2.1, (hagree c).2.2.2.2.1, (hagree c).2.2.2.2.2.1, (hagree c).2.2.2.2.2.2]
    funext i
    exact (ref_dx _ _ _ _ i).trans (dx_eq _ _ _ _ _ _ _ _ (fun i => ref_dn _ _ _ _ i) i)
  · rw [(hagree c).1, (hagree c).2.1, (hagree c).2.2.1, (hagree c).2.2.2.1, (hagree c).2.2.2.2.1]
    funext i
    exact (ref_dg _ _ i).trans (dg_eq _ _ _ _ _ _ (fun i => ref_dn _ _ _ _ i) i)

end Cert.Proof.RmsFfnClaims

end
-- ==== Proof.RmsInRing.lean ====
/-
  The two chunk rings of the RMS-norm backward call: the input `x` and the gradient `dx_in` lie in HBM and are
  copied in 128-row chunks into two slots of a scratch array each, chunk `k` of a row block into slot `k % 2`.

  This module names the pieces — chunk `b` of an array, slot `s` of a scratch array, the semaphore of slot `s` and
  ring `j` — and rewrites the body's computed slices to these names.
-/
module

public import proofs.«01_k».proof.Defs
public import proofs.«01_k».proof.Proof.Gen.RmsInIdeal.Launch
public import proofs.«01_k».proof.Proof.Gen.RmsInIdeal.Skeleton
public import proofs.«01_k».proof.Proof.Gen.RmsInIdeal.Loops
public import proofs.«01_k».proof.Proof.Gen.RmsInIdeal.Points
public import Idealize.ShloMosaic.Lib.Pipeline.Frame
public import Idealize.ShloMosaic.Lib.Ring
public import Idealize.ShloMosaic.Lib.Tactic

@[expose] public section

set_option maxRecDepth 16384

noncomputable section

namespace Cert.Proof.RmsInRing

open Cert.RmsInIdeal Cert.RmsInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

abbrev 𝒱₀ : Variants := Variants.none

/-! ## Names: the two arrays in HBM, their scratch arrays, a chunk, a slot, a semaphore -/

abbrev xM : Memref sig .tc .hbm S8192x2048 .f32 := Memref.whole main_arg2
abbrev dM : Memref sig .tc .hbm S8192x2048 .f32 := Memref.whole main_arg4
abbrev xB : Memref sig .tc .vmem S2x128x2048 .f32 := Memref.whole cc0_scratch0
abbrev dB : Memref sig .tc .vmem S2x128x2048 .f32 := Memref.whole cc0_scratch1

abbrev chunkOff (b : Fin 64) : Fin 2 → Nat := ![128 * b.val, 0]
theorem chunkOff_inb (b : Fin 64) : ∀ a, chunkOff b a + S128x2048.size a ≤ S8192x2048.size a := by
  have := b.isLt; intro a; fin_cases a
  · show 128 * b.val + 128 ≤ 8192; omega
  · show 0 + 2048 ≤ 2048; omega
abbrev slotOff (s : Fin 2) : Fin 3 → Nat := ![s.val, 0, 0]
theorem slotOff_inb (s : Fin 2) : ∀ a, slotOff s a + S1x128x2048.size a ≤ S2x128x2048.size a := by
  have := s.isLt; intro a; fin_cases a
  · show s.val + 1 ≤ 2; omega
  · show 0 + 128 ≤ 128; omega
  · show 0 + 2048 ≤ 2048; omega
abbrev semOff (s j : Fin 2) : Fin 2 → Nat := ![s.val, j.val]
theorem semOff_inb (s j : Fin 2) : ∀ a, semOff s j a + S1x1.size a ≤ S2x2.size a := by
  have := s.isLt; have := j.isLt; intro a; fin_cases a
  · show s.val + 1 ≤ 2; omega
  · show j.val + 1 ≤ 2; omega

/-- Chunk `b` of an array in HBM: rows `128 b … 128 b + 127`. -/
def chunk (A : Memref sig .tc .hbm S8192x2048 .f32) (b : Fin 64) : Memref sig .tc .hbm S128x2048 .f32 :=
  A.slice (Rect.unit (s := S8192x2048) (chunkOff b) S128x2048.size (chunkOff_inb b)) (fun _ => rfl)
/-- Slot `s` of a scratch array. -/
def slot (B : Memref sig .tc .vmem S2x128x2048 .f32) (s : Fin 2) : Memref sig .tc .vmem S128x2048 .f32 :=
  (B.slice (Rect.unit (s := S2x128x2048) (slotOff s) S1x128x2048.size (slotOff_inb s)) (fun _ => rfl)).squeeze S128x2048 squeezes_S1x128x2048_S128x2048
/-- The semaphore of slot `s` of ring `j`. -/
def sem (s j : Fin 2) : DmaSems sig S_ :=
  (cc0_scratch2.slice (Rect.unit (s := S2x2) (semOff s j) S1x1.size (semOff_inb s j))).squeeze S_ squeezes_S1x1_S_

instance (s : Fin 2) : ClosedOff (slotOff s) := ⟨slotOff s, rfl⟩
instance (b : Fin 64) : ClosedOff (chunkOff b) := ⟨chunkOff b, rfl⟩

/-- Chunk `k` of row block `i`. -/
abbrev num (i : grid0.Coords) (k : ℕ) : Fin 64 := Ring.bk 64 (8 * (i 0).val + k)

theorem i0_lt (i : grid0.Coords) : (i 0).val < 8 := (i 0).isLt

/-! ## The body's computed offsets -/

theorem trips_eq : k0_t1_loop.trips = 8 := by decide

theorem off2_eq : ∀ k : Fin k0_t1_loop.trips, k0_off2 k = semOff (Ring.sl 2 (k.val + 1)) 0 := by decide +kernel
theorem off5_eq : ∀ k : Fin k0_t1_loop.trips, k0_off5 k = semOff (Ring.sl 2 (k.val + 1)) 1 := by decide +kernel
theorem off6_eq : ∀ k : Fin k0_t1_loop.trips, k0_off6 k = semOff (Ring.sl 2 k.val) 0 := by decide +kernel
theorem off9_eq : ∀ k : Fin k0_t1_loop.trips, k0_off9 k = semOff (Ring.sl 2 k.val) 1 := by decide +kernel
theorem off3_eq : ∀ k : Fin k0_t1_loop.trips, k0_off3 k = slotOff (Ring.sl 2 (k.val + 1)) := by decide +kernel
theorem off7_eq : ∀ k : Fin k0_t1_loop.trips, k0_off7 k = slotOff (Ring.sl 2 k.val) := by decide +kernel
theorem off10_eq : ∀ k : Fin k0_t1_loop.trips, k0_off10 k = ![(Ring.sl 2 k.val).val, 0, 0] := by decide +kernel
theorem off12_eq : ∀ k : Fin k0_t1_loop.trips, k0_off12 k = ![(Ring.sl 2 k.val).val, 64, 0] := by decide +kernel
theorem off11a_eq : ∀ k : Fin k0_t1_loop.trips, k0_off11 k 0#32 = ![128 * k.val, 0] := by decide +kernel
theorem off11b_eq : ∀ k : Fin k0_t1_loop.trips, k0_off11 k 64#32 = ![128 * k.val + 64, 0] := by decide +kernel
theorem off1_eq : ∀ i : grid0.Coords, k0_off1 i = chunkOff (num i 0) := by decide +kernel
theorem off4_eq : ∀ (i : grid0.Coords) (k : Fin k0_t1_loop.trips), k.val + 1 < 8 → k0_off4 i k = chunkOff (num i (k.val + 1)) := by decide +kernel
theorem off8_eq : ∀ (i : grid0.Coords) (k : Fin k0_t1_loop.trips), k0_off8 i k = chunkOff (num i k.val) := by decide +kernel
theorem cond5_eq : ∀ k : Fin k0_t1_loop.trips, k0_cond5 k = 1#1 ↔ k.val + 1 < 8 := by decide +kernel

theorem cond2_eq : ∀ i : grid0.Coords, k0_cond2 i = 1#1 ↔ (i 1).val = 4 := by decide +kernel
theorem cond3_eq : ∀ i : grid0.Coords, k0_cond3 i = 1#1 ↔ (i 1).val = 4 := by decide +kernel
theorem cond4_eq : ∀ i : grid0.Coords, k0_cond4 i = 1#1 ↔ (i 0).val = 0 := by decide +kernel

instance (k : Fin k0_t1_loop.trips) : ClosedOff (k0_off10 k) := ⟨![(Ring.sl 2 k.val).val, 0, 0], off10_eq k⟩
instance (k : Fin k0_t1_loop.trips) : ClosedOff (k0_off12 k) := ⟨![(Ring.sl 2 k.val).val, 64, 0], off12_eq k⟩

/-! ## The body's slices under these names -/

section Canon

theorem sem_congr {off : Fin 2 → Nat} {s j : Fin 2} (e : off = semOff s j) (hh) :
    (cc0_scratch2.slice (Rect.unit (s := S2x2) off S1x1.size hh)).squeeze S_ squeezes_S1x1_S_ = sem s j :=
  congrArg (fun A : DmaSems sig S1x1 => A.squeeze S_ squeezes_S1x1_S_) (SemArray.slice_unit_congr _ e _ _)
theorem slot_congr (B : Memref sig .tc .vmem S2x128x2048 .f32) {off : Fin 3 → Nat} {s : Fin 2} (e : off = slotOff s) (hh hs) :
    (B.slice (Rect.unit (s := S2x128x2048) off S1x128x2048.size hh) hs).squeeze S128x2048 squeezes_S1x128x2048_S128x2048 = slot B s :=
  congrArg (fun M : Memref sig .tc .vmem S1x128x2048 .f32 => M.squeeze S128x2048 squeezes_S1x128x2048_S128x2048) (Memref.slice_unit_congr _ e _ _ _ _)
theorem chunk_congr (A : Memref sig .tc .hbm S8192x2048 .f32) {off : Fin 2 → Nat} {b : Fin 64} (e : off = chunkOff b) (hh hs) :
    A.slice (Rect.unit (s := S8192x2048) off S128x2048.size hh) hs = chunk A b := Memref.slice_unit_congr _ e _ _ _ (fun _ => rfl)

@[sl_canon] theorem sem00 (hh) : (cc0_scratch2.slice (Rect.unit (s := S2x2) ![0, 0] S1x1.size hh)).squeeze S_ squeezes_S1x1_S_ = sem 0 0 := sem_congr (by decide) _
@[sl_canon] theorem sem01 (hh) : (cc0_scratch2.slice (Rect.unit (s := S2x2) ![0, 1] S1x1.size hh)).squeeze S_ squeezes_S1x1_S_ = sem 0 1 := sem_congr (by decide) _
@[sl_canon] theorem xslot0 (hh hs) : (xB.slice (Rect.unit (s := S2x128x2048) ![0, 0, 0] S1x128x2048.size hh) hs).squeeze S128x2048 squeezes_S1x128x2048_S128x2048 = slot xB 0 := slot_congr _ (by decide) _ _
@[sl_canon] theorem dslot0 (hh hs) : (dB.slice (Rect.unit (s := S2x128x2048) ![0, 0, 0] S1x128x2048.size hh) hs).squeeze S128x2048 squeezes_S1x128x2048_S128x2048 = slot dB 0 := slot_congr _ (by decide) _ _
@[sl_canon] theorem xchunk0 (i : grid0.Coords) (hh hs) : xM.slice (Rect.unit (s := S8192x2048) (k0_off1 i) S128x2048.size hh) hs = chunk xM (num i 0) := chunk_congr _ (off1_eq i) _ _
@[sl_canon] theorem dchunk0 (i : grid0.Coords) (hh hs) : dM.slice (Rect.unit (s := S8192x2048) (k0_off1 i) S128x2048.size hh) hs = chunk dM (num i 0) := chunk_congr _ (off1_eq i) _ _

@[sl_canon] theorem sem2 (k : Fin k0_t1_loop.trips) (hh) : (cc0_scratch2.slice (Rect.unit (s := S2x2) (k0_off2 k) S1x1.size hh)).squeeze S_ squeezes_S1x1_S_ = sem (Ring.sl 2 (k.val + 1)) 0 := sem_congr (off2_eq k) _
@[sl_canon] theorem sem5 (k : Fin k0_t1_loop.trips) (hh) : (cc0_scratch2.slice (Rect.unit (s := S2x2) (k0_off5 k) S1x1.size hh)).squeeze S_ squeezes_S1x1_S_ = sem (Ring.sl 2 (k.val + 1)) 1 := sem_congr (off5_eq k) _
@[sl_canon] theorem sem6 (k : Fin k0_t1_loop.trips) (hh) : (cc0_scratch2.slice (Rect.unit (s := S2x2) (k0_off6 k) S1x1.size hh)).squeeze S_ squeezes_S1x1_S_ = sem (Ring.sl 2 k.val) 0 := sem_congr (off6_eq k) _
@[sl_canon] theorem sem9 (k : Fin k0_t1_loop.trips) (hh) : (cc0_scratch2.slice (Rect.unit (s := S2x2) (k0_off9 k) S1x1.size hh)).squeeze S_ squeezes_S1x1_S_ = sem (Ring.sl 2 k.val) 1 := sem_congr (off9_eq k) _
@[sl_canon] theorem xslot3 (k : Fin k0_t1_loop.trips) (hh hs) : (xB.slice (Rect.unit (s := S2x128x2048) (k0_off3 k) S1x128x2048.size hh) hs).squeeze S128x2048 squeezes_S1x128x2048_S128x2048 = slot xB (Ring.sl 2 (k.val + 1)) := slot_congr _ (off3_eq k) _ _
@[sl_canon] theorem dslot3 (k : Fin k0_t1_loop.trips) (hh hs) : (dB.slice (Rect.unit (s := S2x128x2048) (k0_off3 k) S1x128x2048.size hh) hs).squeeze S128x2048 squeezes_S1x128x2048_S128x2048 = slot dB (Ring.sl 2 (k.val + 1)) := slot_congr _ (off3_eq k) _ _
@[sl_canon] theorem xslot7 (k : Fin k0_t1_loop.trips) (hh hs) : (xB.slice (Rect.unit (s := S2x128x2048) (k0_off7 k) S1x128x2048.size hh) hs).squeeze S128x2048 squeezes_S1x128x2048_S128x2048 = slot xB (Ring.sl 2 k.val) := slot_congr _ (off7_eq k) _ _
@[sl_canon] theorem dslot7 (k : Fin k0_t1_loop.trips) (hh hs) : (dB.slice (Rect.unit (s := S2x128x2048) (k0_off7 k) S1x128x2048.size hh) hs).squeeze S128x2048 squeezes_S1x128x2048_S128x2048 = slot dB (Ring.sl 2 k.val) := slot_congr _ (off7_eq k) _ _
@[sl_canon] theorem xchunk4 (i : grid0.Coords) (k : Fin k0_t1_loop.trips) (hk : k.val + 1 < 8) (hh hs) : xM.slice (Rect.unit (s := S8192x2048) (k0_off4 i k) S128x2048.size hh) hs = chunk xM (num i (k.val + 1)) := chunk_congr _ (off4_eq i k hk) _ _
@[sl_canon] theorem dchunk4 (i : grid0.Coords) (k : Fin k0_t1_loop.trips) (hk : k.val + 1 < 8) (hh hs) : dM.slice (Rect.unit (s := S8192x2048) (k0_off4 i k) S128x2048.size hh) hs = chunk dM (num i (k.val + 1)) := chunk_congr _ (off4_eq i k hk) _ _
@[sl_canon] theorem xchunk8 (i : grid0.Coords) (k : Fin k0_t1_loop.trips) (hh hs) : xM.slice (Rect.unit (s := S8192x2048) (k0_off8 i k) S128x2048.size hh) hs = chunk xM (num i k.val) := chunk_congr _ (off8_eq i k) _ _
@[sl_canon] theorem dchunk8 (i : grid0.Coords) (k : Fin k0_t1_loop.trips) (hh hs) : dM.slice (Rect.unit (s := S8192x2048) (k0_off8 i k) S128x2048.size hh) hs = chunk dM (num i k.val) := chunk_congr _ (off8_eq i k) _ _

end Canon

/-! ## The pieces: a chunk home, a slot held, its semaphore at zero, a slot in flight -/

section Pieces
variable (c : Dev nD)

abbrev cellP (s j : Fin 2) : sProp 𝕄 := semVal ((c : Thread nD τ), SemLoc.dma (sem s j).sem) 0
abbrev slotP (B : Memref sig .tc .vmem S2x128x2048 .f32) (s : Fin 2) (f : Buf (Elt F) ((slot B s).view.loc (c : Thread nD τ))) : sProp 𝕄 :=
  (slot B s).view.loc (c : Thread nD τ) ↦[(slot B s).view.set]{fullShare} f
/-- Chunk `b` of the array at contents `X`. -/
abbrev homeP (A : Memref sig .tc .hbm S8192x2048 .f32) (X : Buf (Elt F) (A.view.loc (c : Thread nD τ))) (b : Fin 64) : sProp 𝕄 :=
  (chunk A b).view.loc (c : Thread nD τ) ↦[(chunk A b).view.set]{fullShare} X
/-- What the copy of chunk `b` leaves in slot `s` over prior contents `f`. -/
abbrev landed (A : Memref sig .tc .hbm S8192x2048 .f32) (B : Memref sig .tc .vmem S2x128x2048 .f32) (X : Buf (Elt F) (A.view.loc (c : Thread nD τ)))
    (s : Fin 2) (b : Fin 64) (f : Buf (Elt F) ((slot B s).view.loc (c : Thread nD τ))) : Buf (Elt F) ((slot B s).view.loc (c : Thread nD τ)) :=
  (slot B s).view.writes (Elt F) f [⟨Rect.whole S128x2048, ReadAs.same.apply ((chunk A b).view.read (Elt F) X)⟩]
/-- Slot `s` of ring `j` in flight with chunk `b`, issued over `f`. -/
abbrev flightP (A : Memref sig .tc .hbm S8192x2048 .f32) (B : Memref sig .tc .vmem S2x128x2048 .f32) (j : Fin 2) (X : Buf (Elt F) (A.view.loc (c : Thread nD τ)))
    (s : Fin 2) (b : Fin 64) (f : Buf (Elt F) ((slot B s).view.loc (c : Thread nD τ))) : sProp 𝕄 :=
  Transfers.Flight countersEmb (c : Thread nD τ) (SemLoc.dma (sem s j).sem) () 32768 iprop(slotP c B s (landed c A B X s b f) ∗ homeP c A X b)

/-- All chunks but one. -/
abbrev others (A : Memref sig .tc .hbm S8192x2048 .f32) (X : Buf (Elt F) (A.view.loc (c : Thread nD τ))) (b : Fin 64) : sProp 𝕄 :=
  bigSep (Finset.univ.erase b) (homeP c A X)
/-- All chunks but two. -/
abbrev others2 (A : Memref sig .tc .hbm S8192x2048 .f32) (X : Buf (Elt F) (A.view.loc (c : Thread nD τ))) (b b' : Fin 64) : sProp 𝕄 :=
  bigSep ((Finset.univ.erase b).erase b') (homeP c A X)

theorem all_eq (A : Memref sig .tc .hbm S8192x2048 .f32) (X : Buf (Elt F) (A.view.loc (c : Thread nD τ))) (b : Fin 64) :
    bigSep Finset.univ (homeP c A X) = iprop(homeP c A X b ∗ others c A X b) := BI.bigSep_erase (Finset.mem_univ b)
theorem others_out (A : Memref sig .tc .hbm S8192x2048 .f32) (X : Buf (Elt F) (A.view.loc (c : Thread nD τ))) (b b' : Fin 64) (h : b' ≠ b) :
    others c A X b = iprop(homeP c A X b' ∗ others2 c A X b b') := BI.bigSep_erase (Finset.mem_erase.mpr ⟨h, Finset.mem_univ b'⟩)
theorem others_back (A : Memref sig .tc .hbm S8192x2048 .f32) (X : Buf (Elt F) (A.view.loc (c : Thread nD τ))) (b b' : Fin 64) (h : b' ≠ b) :
    others c A X b' = iprop(homeP c A X b ∗ others2 c A X b b') := by
  rw [others_out c A X b' b (Ne.symm h)]; unfold others2; rw [Finset.erase_right_comm]

theorem num_succ_ne (i : grid0.Coords) (k : ℕ) (hk : k + 1 < 8) : num i (k + 1) ≠ num i k := by
  have := i0_lt i
  intro h
  have h' := congrArg Fin.val h
  rw [Ring.bk_val (show 8 * (i 0).val + (k + 1) < 64 by omega), Ring.bk_val (show 8 * (i 0).val + k < 64 by omega)] at h'
  omega

theorem sl_succ2 (k : ℕ) : Ring.sl 2 (k + 1 + 1) = Ring.sl 2 k := by rw [show k + 1 + 1 = k + 2 from rfl, Ring.sl_add]

end Pieces

end Cert.Proof.RmsInRing

end
-- ==== Proof.RmsInTrip.lean ====
/-
  One trip of the chunk loop of the RMS-norm backward call: the next chunk's two copies are started into the free
  slots, the current chunk's copies are waited for, and the two 64-row halves of the chunk are worked on.
-/
module

public import proofs.«01_k».proof.Proof.RmsInRing

@[expose] public section

set_option maxRecDepth 16384

noncomputable section

namespace Cert.Proof.RmsInRing

open Cert.RmsInIdeal Cert.RmsInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

section Trip

variable (c : Dev nD) (X : Buf (Elt F) (xM.view.loc (c : Thread nD τ))) (D : Buf (Elt F) (dM.view.loc (c : Thread nD τ)))
  (i : grid0.Coords)
  (arg2 : Memref sig .tc .vmem S1024x1024 .bf16) (harg2 : arg2.IsWhole) (arg3 : Memref sig .tc .vmem S1024x2048 .bf16) (harg3 : arg3.IsWhole)
  (arg7 : Memref sig .tc .vmem S1x2048 .f32) (harg7 : arg7.IsWhole)
  (arg9 : Memref sig .tc .vmem S1024x2048 .f32) (harg9 : arg9.IsWhole)
  (arg10 : Memref sig .tc .vmem S1024x2048 .bf16) (harg10 : arg10.IsWhole)
  (arg11 : Memref sig .tc .vmem S1x2048 .f32) (harg11 : arg11.IsWhole)
  (arg0 : BitVec 32) (h3 : k0_cond3 i = 1#1)
  (f7 : Buf (Elt F) (arg7.view.loc (c : Thread nD τ)))

/-- What the loop holds besides the rings, before trip `k`. -/
abbrev wins (f9 : Buf (Elt F) (arg9.view.loc (c : Thread nD τ))) (f10 : Buf (Elt F) (arg10.view.loc (c : Thread nD τ)))
    (f11 : Buf (Elt F) (arg11.view.loc (c : Thread nD τ))) : sProp 𝕄 :=
  iprop((arg7.view.loc (c : Thread nD τ) ↦[arg7.view.set]{fullShare} f7)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11)
    ∗ (∃ W, owes (c : Thread nD τ) 0 W))

/-- The rings with chunk `k` of the row block on its way into slot `k % 2` and the other slots free. -/
abbrev ringOn (k : ℕ) : sProp 𝕄 :=
  iprop(others c xM X (num i k) ∗ others c dM D (num i k)
    ∗ (∃ f, flightP c xM xB 0 X (Ring.sl 2 k) (num i k) f) ∗ (∃ f, flightP c dM dB 1 D (Ring.sl 2 k) (num i k) f)
    ∗ (∃ f, slotP c xB (Ring.sl 2 (k + 1)) f) ∗ (∃ f, slotP c dB (Ring.sl 2 (k + 1)) f)
    ∗ cellP c (Ring.sl 2 (k + 1)) 0 ∗ cellP c (Ring.sl 2 (k + 1)) 1)

/-- The rings after the last trip, which starts no copy. -/
abbrev ringEnd (k : ℕ) : sProp 𝕄 :=
  iprop(bigSep Finset.univ (homeP c xM X) ∗ bigSep Finset.univ (homeP c dM D)
    ∗ (∃ f, slotP (F := F) c xB (Ring.sl 2 k) f) ∗ (∃ f, slotP (F := F) c dB (Ring.sl 2 k) f)
    ∗ (∃ f, slotP (F := F) c xB (Ring.sl 2 (k + 1)) f) ∗ (∃ f, slotP (F := F) c dB (Ring.sl 2 (k + 1)) f)
    ∗ cellP (F := F) c (Ring.sl 2 k) 0 ∗ cellP (F := F) c (Ring.sl 2 k) 1 ∗ cellP (F := F) c (Ring.sl 2 (k + 1)) 0 ∗ cellP (F := F) c (Ring.sl 2 (k + 1)) 1)

/-- The rings before trip `k` of eight. -/
def ring (k : ℕ) : sProp 𝕄 := if k < 8 then ringOn c X D i k else ringEnd c X D 7

abbrev tripG (k : Fin k0_t1_loop.trips) : Prog (TpuEff nD τ sig (Elt F) Λ₀ .tc) Unit :=
  k0_t1_body (F := F) i arg2 harg2 arg3 harg3 xM (Memref.isWhole_whole _) arg7 harg7 dM (Memref.isWhole_whole _)
    arg9 harg9 arg10 harg10 arg11 harg11 xB (Memref.isWhole_whole _) dB (Memref.isWhole_whole _) cc0_scratch2 arg0 h3 k ()

/-- The contents of the three result windows. -/
abbrev Outs : Type := Buf (Elt F) (arg9.view.loc (c : Thread nD τ)) × Buf (Elt F) (arg10.view.loc (c : Thread nD τ)) × Buf (Elt F) (arg11.view.loc (c : Thread nD τ))

set_option backward.proofsInPublic true in
set_option maxHeartbeats 4000000 in
/-- ONE TRIP, what it stores to be found: `L` is what the three result windows hold after it. -/
def tripRun (k : Fin k0_t1_loop.trips) (f9 : Buf (Elt F) (arg9.view.loc (c : Thread nD τ))) (f10 : Buf (Elt F) (arg10.view.loc (c : Thread nD τ)))
    (f11 : Buf (Elt F) (arg11.view.loc (c : Thread nD τ))) :
    { L : Outs (F := F) c arg9 arg10 arg11 //
      (k.val + 1 < 8 → iprop(wins c arg7 arg9 arg10 arg11 f7 f9 f10 f11 ∗ ringOn c X D i k.val)
        ⊢ wp frame (wpE (defs₀ (F := F)) 𝒱₀ (c : Thread nD τ) none) Set.univ
            (tripG i arg2 harg2 arg3 harg3 arg7 harg7 arg9 harg9 arg10 harg10 arg11 harg11 arg0 h3 k)
          (fun _ => iprop(wins c arg7 arg9 arg10 arg11 f7 L.1 L.2.1 L.2.2 ∗ ringOn c X D i (k.val + 1))))
      ∧ (¬ k.val + 1 < 8 → iprop(wins c arg7 arg9 arg10 arg11 f7 f9 f10 f11 ∗ ringOn c X D i k.val)
        ⊢ wp frame (wpE (defs₀ (F := F)) 𝒱₀ (c : Thread nD τ) none) Set.univ
            (tripG i arg2 harg2 arg3 harg3 arg7 harg7 arg9 harg9 arg10 harg10 arg11 harg11 arg0 h3 k)
          (fun _ => iprop(wins c arg7 arg9 arg10 arg11 f7 L.1 L.2.1 L.2.2 ∗ ringEnd c X D k.val))) } := by
  refine ⟨⟨?_, ?_, ?_⟩, fun hk => ?run, fun hk => ?last⟩
  case run =>
    have h5 : k0_cond5 k = 1#1 := (cond5_eq k).mpr hk
    unfold ringOn
    rw [others_out c xM X _ _ (num_succ_ne i k.val hk), others_out c dM D _ _ (num_succ_ne i k.val hk),
      others_back c xM X _ _ (num_succ_ne i k.val hk), others_back c dM D _ _ (num_succ_ne i k.val hk), sl_succ2]
    iintro ⟨⟨H7, H9, H10, H11, ⟨%W, HW⟩⟩, ⟨Hx, Hxs⟩, ⟨Hd, Hds⟩, ⟨%fx, HFx⟩, ⟨%fd, HFd⟩, ⟨%gx, HSx⟩, ⟨%gd, HSd⟩, Hcx, Hcd⟩
    dsimp only [tripG]
    sl_unfold [k0_t1_body]
    sl_exec_parts
    sl_step
    isplitl [H7 H9 H10 H11 HW]
    · isplitl [H7]; · iexact H7
      isplitl [H9]; · iexact H9
      isplitl [H10]; · iexact H10
      isplitl [H11]; · iexact H11
      iexists _; iexact HW
    isplitl [HFx_src Hxs]
    · isplitl [HFx_src]; · iexact HFx_src
      iexact Hxs
    isplitl [HFd_src Hds]
    · isplitl [HFd_src]; · iexact HFd_src
      iexact Hds
    isplitl [Hcx]; · iexists gx; iexact Hcx
    isplitl [Hcd]; · iexists gd; iexact Hcd
    isplitl [HFx_dst]; · iexists _; iexact HFx_dst
    isplitl [HFd_dst]; · iexists _; iexact HFd_dst
    isplitl [HFx]; · iexact HFx
    iexact HFd
  case last =>
    have h5 : ¬ k0_cond5 k = 1#1 := fun h => hk ((cond5_eq k).mp h)
    unfold ringOn ringEnd
    rw [all_eq c xM X (num i k.val), all_eq c dM D (num i k.val)]
    iintro ⟨⟨H7, H9, H10, H11, ⟨%W, HW⟩⟩, Hxs, Hds, ⟨%fx, HFx⟩, ⟨%fd, HFd⟩, HSx, HSd, Hcx, Hcd⟩
    dsimp only [tripG]
    sl_unfold [k0_t1_body]
    sl_exec_parts
    sl_step
    isplitl [H7 H9 H10 H11 HW]
    · isplitl [H7]; · iexact H7
      isplitl [H9]; · iexact H9
      isplitl [H10]; · iexact H10
      isplitl [H11]; · iexact H11
      iexists _; iexact HW
    isplitl [HFx_src Hxs]
    · isplitl [HFx_src]; · iexact HFx_src
      iexact Hxs
    isplitl [HFd_src Hds]
    · isplitl [HFd_src]; · iexact HFd_src
      iexact Hds
    isplitl [HFx_dst]; · iexists _; iexact HFx_dst
    isplitl [HFd_dst]; · iexists _; iexact HFd_dst
    isplitl [HSx]; · iexact HSx
    isplitl [HSd]; · iexact HSd
    isplitl [HFx]; · iexact HFx
    isplitl [HFd]; · iexact HFd
    isplitl [Hcx]; · iexact Hcx
    iexact Hcd

/-- What trip `k` makes of the three result windows. -/
def tripOuts (k : Fin k0_t1_loop.trips) (o : Outs (F := F) c arg9 arg10 arg11) : Outs (F := F) c arg9 arg10 arg11 :=
  (tripRun c X D i arg2 harg2 arg3 harg3 arg7 harg7 arg9 harg9 arg10 harg10 arg11 harg11 arg0 h3 f7 k o.1 o.2.1 o.2.2).1

theorem trip_step (k : Fin k0_t1_loop.trips) (o : Outs (F := F) c arg9 arg10 arg11) :
    iprop(wins c arg7 arg9 arg10 arg11 f7 o.1 o.2.1 o.2.2 ∗ ring c X D i k.val)
      ⊢ wp frame (wpE (defs₀ (F := F)) 𝒱₀ (c : Thread nD τ) none) Set.univ
          (tripG i arg2 harg2 arg3 harg3 arg7 harg7 arg9 harg9 arg10 harg10 arg11 harg11 arg0 h3 k)
        (fun _ => iprop(wins c arg7 arg9 arg10 arg11 f7
            (tripOuts c X D i arg2 harg2 arg3 harg3 arg7 harg7 arg9 harg9 arg10 harg10 arg11 harg11 arg0 h3 f7 k o).1
            (tripOuts c X D i arg2 harg2 arg3 harg3 arg7 harg7 arg9 harg9 arg10 harg10 arg11 harg11 arg0 h3 f7 k o).2.1
            (tripOuts c X D i arg2 harg2 arg3 harg3 arg7 harg7 arg9 harg9 arg10 harg10 arg11 harg11 arg0 h3 f7 k o).2.2
          ∗ ring c X D i (k.val + 1))) := by
  have hk : k.val < 8 := lt_of_lt_of_eq k.isLt trips_eq
  have hr := (tripRun c X D i arg2 harg2 arg3 harg3 arg7 harg7 arg9 harg9 arg10 harg10 arg11 harg11 arg0 h3 f7 k o.1 o.2.1 o.2.2).2
  unfold tripOuts
  generalize (tripRun c X D i arg2 harg2 arg3 harg3 arg7 harg7 arg9 harg9 arg10 harg10 arg11 harg11 arg0 h3 f7 k o.1 o.2.1 o.2.2).1 = L at hr ⊢
  have e : ring c X D i k.val = ringOn c X D i k.val := if_pos hk
  rw [e]
  by_cases hl : k.val + 1 < 8
  · have e' : ring c X D i (k.val + 1) = ringOn c X D i (k.val + 1) := if_pos hl
    rw [e']
    exact hr.1 hl
  · have e' : ring c X D i (k.val + 1) = ringEnd c X D k.val :=
      (if_neg hl).trans (congrArg (ringEnd c X D) (show 7 = k.val by omega))
    rw [e']
    exact hr.2 hl

/-- The three result windows before trip `k`, from their contents at the loop's entry. -/
def outsAt (o : Outs (F := F) c arg9 arg10 arg11) : ℕ → Outs (F := F) c arg9 arg10 arg11
  | 0 => o
  | k + 1 =>
    if h : k < k0_t1_loop.trips then
      tripOuts c X D i arg2 harg2 arg3 harg3 arg7 harg7 arg9 harg9 arg10 harg10 arg11 harg11 arg0 h3 f7 ⟨k, h⟩ (outsAt o k)
    else outsAt o k

theorem outsAt_succ (o : Outs (F := F) c arg9 arg10 arg11) (k : Fin k0_t1_loop.trips) :
    outsAt c X D i arg2 harg2 arg3 harg3 arg7 harg7 arg9 harg9 arg10 harg10 arg11 harg11 arg0 h3 f7 o (k.val + 1)
      = tripOuts c X D i arg2 harg2 arg3 harg3 arg7 harg7 arg9 harg9 arg10 harg10 arg11 harg11 arg0 h3 f7 k
          (outsAt c X D i arg2 harg2 arg3 harg3 arg7 harg7 arg9 harg9 arg10 harg10 arg11 harg11 arg0 h3 f7 o k.val) := by
  rw [outsAt, dif_pos k.isLt]

/-- What the loop holds before trip `k`. -/
def inv (o : Outs (F := F) c arg9 arg10 arg11) (k : ℕ) : sProp 𝕄 :=
  iprop(wins c arg7 arg9 arg10 arg11 f7
      (outsAt c X D i arg2 harg2 arg3 harg3 arg7 harg7 arg9 harg9 arg10 harg10 arg11 harg11 arg0 h3 f7 o k).1
      (outsAt c X D i arg2 harg2 arg3 harg3 arg7 harg7 arg9 harg9 arg10 harg10 arg11 harg11 arg0 h3 f7 o k).2.1
      (outsAt c X D i arg2 harg2 arg3 harg3 arg7 harg7 arg9 harg9 arg10 harg10 arg11 harg11 arg0 h3 f7 o k).2.2
    ∗ ring c X D i k)

theorem inv_step (o : Outs (F := F) c arg9 arg10 arg11) (k : Fin k0_t1_loop.trips) :
    inv c X D i arg2 harg2 arg3 harg3 arg7 harg7 arg9 harg9 arg10 harg10 arg11 harg11 arg0 h3 f7 o k.val
      ⊢ wp frame (wpE (defs₀ (F := F)) 𝒱₀ (c : Thread nD τ) none) Set.univ
          (tripG i arg2 harg2 arg3 harg3 arg7 harg7 arg9 harg9 arg10 harg10 arg11 harg11 arg0 h3 k)
        (fun _ => inv c X D i arg2 harg2 arg3 harg3 arg7 harg7 arg9 harg9 arg10 harg10 arg11 harg11 arg0 h3 f7 o (k.val + 1)) := by
  unfold inv
  rw [outsAt_succ]
  exact trip_step c X D i arg2 harg2 arg3 harg3 arg7 harg7 arg9 harg9 arg10 harg10 arg11 harg11 arg0 h3 f7 k _

set_option warn.classDefReducibility false in
/-- THE LOOP'S INVARIANT. -/
def loopInv (o : Outs (F := F) c arg9 arg10 arg11) :
    LoopInvTy_k0_t1 (F := F) Unit ℕ (UD sig nD τ) ℕ 𝒱₀ c none Set.univ i arg2 harg2 arg3 harg3 xM (Memref.isWhole_whole _) arg7 harg7 dM (Memref.isWhole_whole _)
      arg9 harg9 arg10 harg10 arg11 harg11 xB (Memref.isWhole_whole _) dB (Memref.isWhole_whole _) cc0_scratch2 arg0 h3 where
  inv k _ := inv c X D i arg2 harg2 arg3 harg3 arg7 harg7 arg9 harg9 arg10 harg10 arg11 harg11 arg0 h3 f7 o k
  step k _ := inv_step c X D i arg2 harg2 arg3 harg3 arg7 harg7 arg9 harg9 arg10 harg10 arg11 harg11 arg0 h3 f7 o k

end Trip

end Cert.Proof.RmsInRing

end
-- ==== Proof.RmsInTripValue.lean ====
/-
  What one trip of the chunk loop computes: rows `128 k … 128 k + 127` of the block become the gradient of the norm's input,
  the same rows are stored in bf16, and the gain's gradient gains the sums over the two halves of the chunk.
-/
module

public import proofs.«01_k».proof.Proof.RmsInTrip
public import proofs.«01_k».proof.Proof.RowWindows
public import proofs.«01_k».proof.Proof.RmsRows
public import Idealize.ShloMosaic.Lib.Pointwise
public import Idealize.ShloMosaic.PureOps.Ideal

@[expose] public section

set_option maxRecDepth 16384

noncomputable section

namespace Cert.Proof.RmsInRing

open Cert.RmsInIdeal Cert.RmsInIdeal.Gen
open Idealize.ShloMosaic
open Idealize.ShloMosaic.TcCoe Idealize.ShloMosaic.Tactic
open Cert.Proof.RmsRows Cert.Proof.RowWindows
open scoped BigOperators

/-- The float word of one half, as it is read. -/
abbrev half : EReal := Ideal.ofBits .f32 0x3F000000#32

/-! ## The payloads of a half chunk -/

section Payloads
variable (x : Vec Ideal S1x64x2048 .f32) (g : Vec Ideal S1x2048 .f32) (dn : Vec Ideal S64x2048 .f32) (d : Vec Ideal S1x64x2048 .f32)

theorem dx_first (r : Fin 64) (q : Fin 2048) :
    k0_pay11 (k0_pay6 x) g dn d (ix2 r q)
      = newDx (fun u => x (ix3 0 r u)) (fun u => g (ix2 0 u)) (fun u => dn (ix2 r u)) (fun u => d (ix3 0 r u)) q := by
  unfold k0_pay11 k0_pay9 k0_pay8 k0_pay7 k0_pay6 newDx rinv
  pointwise

theorem dx_second (r : Fin 64) (q : Fin 2048) :
    k0_pay20 x g dn d (ix2 r q)
      = newDx (fun u => x (ix3 0 r u)) (fun u => g (ix2 0 u)) (fun u => dn (ix2 r u)) (fun u => d (ix3 0 r u)) q := by
  unfold k0_pay20 k0_pay18 k0_pay17 k0_pay16 k0_pay15 newDx rinv
  pointwise

theorem dxb_first (r : Fin 64) (q : Fin 2048) :
    (k0_pay12 (k0_pay6 x) g dn d (ix2 r q) : EReal)
      = half * newDx (fun u => x (ix3 0 r u)) (fun u => g (ix2 0 u)) (fun u => dn (ix2 r u)) (fun u => d (ix3 0 r u)) q := by
  have h : (k0_pay12 (k0_pay6 x) g dn d (ix2 r q) : EReal) = half * k0_pay11 (k0_pay6 x) g dn d (ix2 r q) := by
    unfold k0_pay12
    pointwise
  exact h.trans (congrArg (fun z : EReal => half * z) (dx_first x g dn d r q))

theorem dxb_second (r : Fin 64) (q : Fin 2048) :
    (k0_pay4 (k0_pay20 x g dn d) (ix2 r q) : EReal)
      = half * newDx (fun u => x (ix3 0 r u)) (fun u => g (ix2 0 u)) (fun u => dn (ix2 r u)) (fun u => d (ix3 0 r u)) q := by
  have h : (k0_pay4 (k0_pay20 x g dn d) (ix2 r q) : EReal) = half * k0_pay20 x g dn d (ix2 r q) := by
    unfold k0_pay4
    pointwise
  exact h.trans (congrArg (fun z : EReal => half * z) (dx_second x g dn d r q))

theorem dg_first (q : Fin 2048) :
    k0_pay10 (k0_pay6 x) dn (ix2 0 q) = ∑ r : Fin 64, gainTerm (fun u => x (ix3 0 r u)) (fun u => dn (ix2 r u)) q := by
  unfold k0_pay10 k0_pay9 k0_pay8 k0_pay7 k0_pay6 gainTerm rinv
  pointwise

theorem dg_second (q : Fin 2048) :
    k0_pay19 x dn (ix2 0 q) = ∑ r : Fin 64, gainTerm (fun u => x (ix3 0 r u)) (fun u => dn (ix2 r u)) q := by
  unfold k0_pay19 k0_pay18 k0_pay17 k0_pay16 k0_pay15 gainTerm rinv
  pointwise

theorem dg_add_first (s a : Vec Ideal S1x2048 .f32) (j : S1x2048.Idx) : k0_pay14 s (k0_pay13 a) j = a j + s j := by
  unfold k0_pay14 k0_pay13
  pointwise

theorem dg_add_second (s a : Vec Ideal S1x2048 .f32) (j : S1x2048.Idx) : k0_pay5 s a j = a j + s j := by
  unfold k0_pay5
  pointwise

end Payloads

/-! ## A load of a slot in which a chunk has landed -/

theorem slot_read {F : FTy → Type} [FloatOps F] (B : Memref sig .tc .vmem S2x128x2048 .f32) (s : Fin 2) (f : B.view.ty.Contents (Elt F)) (r : Fin 128) (q : Fin 2048) :
    B.view.read (Elt F) f (ix3 s r q) = (slot B s).view.read (Elt F) f (ix2 r q) := by
  refine congrArg (B.view.read (Elt F) f) ?_
  have e : Shape.reshapeEquiv squeezes_S1x128x2048_S128x2048.numel_eq (ix2 r q : S128x2048.Idx) = (ix3 (0 : Fin 1) r q : S1x128x2048.Idx) :=
    Shape.reshapeEquiv_eq_of_rowMajor _ (by
      rw [Shape.rowMajor_val_three, Shape.rowMajor_val_two]
      show (0 * 128 + r.val) * 2048 + q.val = r.val * 2048 + q.val
      omega)
  show _ = (Rect.unit (s := S2x128x2048) (slotOff s) S1x128x2048.size (slotOff_inb s)).emb (Shape.reshapeEquiv _ (ix2 r q))
  rw [e]
  funext a
  apply Fin.ext
  fin_cases a
  · show s.val = s.val + 1 * 0; omega
  · show r.val = 0 + 1 * r.val; omega
  · show q.val = 0 + 1 * q.val; omega

theorem slot_load {F : FTy → Type} [FloatOps F] (A : Memref sig .tc .hbm S8192x2048 .f32) (B : Memref sig .tc .vmem S2x128x2048 .f32)
    (X : A.view.ty.Contents (Elt F)) (s : Fin 2) (b : Fin 64) (f : (slot B s).view.ty.Contents (Elt F)) {off : Fin 3 → ℕ} (a : ℕ) (hoff : off = ![s.val, a, 0]) (ha : a + 64 ≤ 128)
    (inb : ∀ t, off t + S1x64x2048.size t ≤ S2x128x2048.size t) (r : Fin 64) (q : Fin 2048) :
    B.view.readAt (Elt F) (Rect.unit (s := S2x128x2048) off S1x64x2048.size inb).toLoadRect
        ((slot B s).view.writes (Elt F) f [⟨Rect.whole S128x2048, ReadAs.same.apply ((chunk A b).view.read (Elt F) X)⟩]) (ix3 (0 : Fin 1) r q : S1x64x2048.Idx)
      = A.view.read (Elt F) X (ix2 ⟨128 * b.val + (a + r.val), by have := b.isLt; have := r.isLt; omega⟩ q) := by
  subst hoff
  have hr := r.isLt
  refine Eq.trans (congrArg (B.view.read (Elt F) _) (?_ : _ = ix3 s (⟨a + r.val, by omega⟩ : Fin 128) q)) ?_
  · funext t
    apply Fin.ext
    fin_cases t
    · show s.val + 1 * 0 = s.val; omega
    · show a + 1 * r.val = a + r.val; omega
    · show 0 + 1 * q.val = q.val; omega
  refine (slot_read B s _ _ q).trans ?_
  refine (congrFun (View.read_writes_full (slot B s).view f (off := fun _ => 0) (fun t => by rw [Nat.zero_add]) _ []) _).trans ?_
  refine congrArg (A.view.read (Elt F) X) (funext fun t => Fin.ext ?_)
  fin_cases t
  · show 128 * b.val + 1 * (a + r.val) = 128 * b.val + (a + r.val); omega
  · show 0 + 1 * q.val = q.val; omega

/-! ## One trip -/

section Trip
variable (c : Dev nD) (X : Buf (Elt Ideal) (xM.view.loc (c : Thread nD τ))) (D : Buf (Elt Ideal) (dM.view.loc (c : Thread nD τ)))
  (i : grid0.Coords) (arg2 : Memref sig .tc .vmem S1024x1024 .bf16) (harg2 : arg2.IsWhole) (arg3 : Memref sig .tc .vmem S1024x2048 .bf16) (harg3 : arg3.IsWhole)
  (arg7 : Memref sig .tc .vmem S1x2048 .f32) (harg7 : arg7.IsWhole) (arg9 : Memref sig .tc .vmem S1024x2048 .f32) (harg9 : arg9.IsWhole)
  (arg10 : Memref sig .tc .vmem S1024x2048 .bf16) (harg10 : arg10.IsWhole) (arg11 : Memref sig .tc .vmem S1x2048 .f32) (harg11 : arg11.IsWhole)
  (arg0 : BitVec 32) (h3 : k0_cond3 i = 1#1) (f7 : Buf (Elt Ideal) (arg7.view.loc (c : Thread nD τ)))

/-- Row `p` of row block `i 0` of an array in HBM. -/
def rowOf (Y : S8192x2048.Idx → EReal) (i : grid0.Coords) (p : Fin 1024) : Fin 2048 → EReal :=
  fun u => Y (ix2 ⟨1024 * (i 0).val + p.val, by have : (i 0).val < 8 := (i 0).isLt; have := p.isLt; omega⟩ u)

theorem num_val (k : ℕ) (hk : k < 8) : (num i k).val = 8 * (i 0).val + k := by
  have : (i 0).val < 8 := (i 0).isLt
  show (8 * (i 0).val + k) % 64 = _
  omega

/-- The row block's gradient after the norm's backward pass, from what its rows held. -/
def newRow (A : S1024x2048.Idx → EReal) (p : Fin 1024) : Fin 2048 → EReal :=
  newDx (rowOf (xM.view.read (Elt Ideal) X) i p) (fun u => arg7.view.read (Elt Ideal) f7 (ix2 (0 : Fin 1) u)) (fun u => A (ix2 p u)) (rowOf (dM.view.read (Elt Ideal) D) i p)

theorem x_load (k : Fin k0_t1_loop.trips) {off : Fin 3 → ℕ} (a : ℕ) (hoff : off = ![(Ring.sl 2 k.val).val, a, 0]) (ha : a + 64 ≤ 128)
    (inb : ∀ t, off t + S1x64x2048.size t ≤ S2x128x2048.size t) (f) (r : Fin 64) (p : Fin 1024) (hp : p.val = 128 * k.val + (a + r.val)) :
    (fun u => xB.view.readAt (Elt Ideal) (Rect.unit (s := S2x128x2048) off S1x64x2048.size inb).toLoadRect
        ((slot xB (Ring.sl 2 k.val)).view.writes (Elt Ideal) f [⟨Rect.whole S128x2048, ReadAs.same.apply ((chunk xM (num i k.val)).view.read (Elt Ideal) X)⟩]) (ix3 (0 : Fin 1) r u : S1x64x2048.Idx))
      = rowOf (xM.view.read (Elt Ideal) X) i p := by
  funext u
  refine (slot_load xM xB X _ _ f a hoff ha inb r u).trans ?_
  have := num_val i k.val (lt_of_lt_of_eq k.isLt trips_eq)
  exact congrArg (xM.view.read (Elt Ideal) X) (congrArg (fun z => ix2 z u) (Fin.ext (by show 128 * (num i k.val).val + (a + r.val) = 1024 * (i 0).val + p.val; omega)))

theorem d_load (k : Fin k0_t1_loop.trips) {off : Fin 3 → ℕ} (a : ℕ) (hoff : off = ![(Ring.sl 2 k.val).val, a, 0]) (ha : a + 64 ≤ 128)
    (inb : ∀ t, off t + S1x64x2048.size t ≤ S2x128x2048.size t) (f) (r : Fin 64) (p : Fin 1024) (hp : p.val = 128 * k.val + (a + r.val)) :
    (fun u => dB.view.readAt (Elt Ideal) (Rect.unit (s := S2x128x2048) off S1x64x2048.size inb).toLoadRect
        ((slot dB (Ring.sl 2 k.val)).view.writes (Elt Ideal) f [⟨Rect.whole S128x2048, ReadAs.same.apply ((chunk dM (num i k.val)).view.read (Elt Ideal) D)⟩]) (ix3 (0 : Fin 1) r u : S1x64x2048.Idx))
      = rowOf (dM.view.read (Elt Ideal) D) i p := by
  funext u
  refine (slot_load dM dB D _ _ f a hoff ha inb r u).trans ?_
  have := num_val i k.val (lt_of_lt_of_eq k.isLt trips_eq)
  exact congrArg (dM.view.read (Elt Ideal) D) (congrArg (fun z => ix2 z u) (Fin.ext (by show 128 * (num i k.val).val + (a + r.val) = 1024 * (i 0).val + p.val; omega)))

theorem g_load (inb : ∀ t, (![0, 0] : Fin 2 → ℕ) t + S1x2048.size t ≤ S1x2048.size t) :
    (fun u => arg7.view.readAt (Elt Ideal) (Rect.unit (s := S1x2048) ![0, 0] S1x2048.size inb).toLoadRect f7 (ix2 (0 : Fin 1) u))
      = fun u => arg7.view.read (Elt Ideal) f7 (ix2 (0 : Fin 1) u) := by
  rw [View.readAt_full]

theorem rows_load (f9 : Buf (Elt Ideal) (arg9.view.loc (c : Thread nD τ))) {off : Fin 2 → ℕ} (a : ℕ) (hoff : off = ![a, 0])
    (inb : ∀ t, off t + S64x2048.size t ≤ S1024x2048.size t) (r : Fin 64) (p : Fin 1024) (hp : p.val = a + r.val) :
    (fun u => arg9.view.readAt (Elt Ideal) (Rect.unit (s := S1024x2048) off S64x2048.size inb).toLoadRect f9 (ix2 r u))
      = fun u => arg9.view.read (Elt Ideal) f9 (ix2 p u) := by
  subst hoff
  funext u
  refine (congrFun (View.readAt_unit arg9.view f9 inb rfl inb) _).trans ?_
  refine (window_rows _ a inb r u (by have := p.isLt; omega)).trans ?_
  exact congrArg (arg9.view.read (Elt Ideal) f9) (congrArg (fun z => ix2 z u) (Fin.ext hp.symm))

local notation "T" => tripOuts c X D i arg2 harg2 arg3 harg3 arg7 harg7 arg9 harg9 arg10 harg10 arg11 harg11 arg0 h3 f7

set_option maxHeartbeats 1000000 in
theorem trip_dx (k : Fin k0_t1_loop.trips) (o : Outs (F := Ideal) c arg9 arg10 arg11) (p : Fin 1024) (q : Fin 2048) :
    arg9.view.read (Elt Ideal) (T k o).1 (ix2 p q)
      = if p.val / 128 = k.val then newRow c X D i arg7 f7 (arg9.view.read (Elt Ideal) o.1) p q else arg9.view.read (Elt Ideal) o.1 (ix2 p q) := by
  unfold tripOuts tripRun
  dsimp only
  rw [View.read_writes_cons_put arg9.view o.1 _ _ _ (off11b_eq k)]
  by_cases h1 : 128 * k.val + 64 ≤ p.val ∧ p.val < 128 * k.val + 64 + 64
  · rw [if_pos (by omega)]
    refine (put_rows_in _ _ _ p q h1.1 h1.2).trans ?_
    refine (dx_second _ _ _ _ _ q).trans ?_
    exact newDx_congr
      (x_load c X i k 64 (off12_eq k) (by omega) _ _ ⟨p.val - (128 * k.val + 64), by omega⟩ p (by show p.val = 128 * k.val + (64 + (p.val - (128 * k.val + 64))); omega))
      (g_load c arg7 f7 _)
      (rows_load c arg9 o.1 (128 * k.val + 64) (off11b_eq k) _ ⟨p.val - (128 * k.val + 64), by omega⟩ p (by show p.val = 128 * k.val + 64 + (p.val - (128 * k.val + 64)); omega))
      (d_load c D i k 64 (off12_eq k) (by omega) _ _ ⟨p.val - (128 * k.val + 64), by omega⟩ p (by show p.val = 128 * k.val + (64 + (p.val - (128 * k.val + 64))); omega)) q
  refine (put_rows_out _ _ _ p q (by omega)).trans ?_
  unfold tripRun.sl.H9_1
  rw [View.read_writes_cons_put arg9.view o.1 _ _ _ (off11a_eq k)]
  by_cases h0 : 128 * k.val ≤ p.val ∧ p.val < 128 * k.val + 64
  · rw [if_pos (by omega)]
    refine (put_rows_in _ _ _ p q h0.1 h0.2).trans ?_
    refine (dx_first _ _ _ _ _ q).trans ?_
    exact newDx_congr
      (x_load c X i k 0 (off10_eq k) (by omega) _ _ ⟨p.val - (128 * k.val), by omega⟩ p (by show p.val = 128 * k.val + (0 + (p.val - (128 * k.val))); omega))
      (g_load c arg7 f7 _)
      (rows_load c arg9 o.1 (128 * k.val) (off11a_eq k) _ ⟨p.val - (128 * k.val), by omega⟩ p (by show p.val = 128 * k.val + (p.val - (128 * k.val)); omega))
      (d_load c D i k 0 (off10_eq k) (by omega) _ _ ⟨p.val - (128 * k.val), by omega⟩ p (by show p.val = 128 * k.val + (0 + (p.val - (128 * k.val))); omega)) q
  rw [if_neg (by omega)]
  exact put_rows_out _ _ _ p q (by omega)

set_option maxHeartbeats 1000000 in
theorem trip_dxb (k : Fin k0_t1_loop.trips) (o : Outs (F := Ideal) c arg9 arg10 arg11) (p : Fin 1024) (q : Fin 2048) :
    (arg10.view.read (Elt Ideal) (T k o).2.1 (ix2 p q) : EReal)
      = if p.val / 128 = k.val then half * newRow c X D i arg7 f7 (arg9.view.read (Elt Ideal) o.1) p q else arg10.view.read (Elt Ideal) o.2.1 (ix2 p q) := by
  unfold tripOuts tripRun
  dsimp only
  rw [View.read_writes_cons_put arg10.view o.2.1 _ _ _ (off11b_eq k)]
  by_cases h1 : 128 * k.val + 64 ≤ p.val ∧ p.val < 128 * k.val + 64 + 64
  · rw [if_pos (by omega)]
    refine (put_rows_in _ _ _ p q h1.1 h1.2).trans ?_
    refine (dxb_second _ _ _ _ _ q).trans ?_
    refine congrArg (fun z : EReal => half * z) ?_
    exact newDx_congr
      (x_load c X i k 64 (off12_eq k) (by omega) _ _ ⟨p.val - (128 * k.val + 64), by omega⟩ p (by show p.val = 128 * k.val + (64 + (p.val - (128 * k.val + 64))); omega))
      (g_load c arg7 f7 _)
      (rows_load c arg9 o.1 (128 * k.val + 64) (off11b_eq k) _ ⟨p.val - (128 * k.val + 64), by omega⟩ p (by show p.val = 128 * k.val + 64 + (p.val - (128 * k.val + 64)); omega))
      (d_load c D i k 64 (off12_eq k) (by omega) _ _ ⟨p.val - (128 * k.val + 64), by omega⟩ p (by show p.val = 128 * k.val + (64 + (p.val - (128 * k.val + 64))); omega)) q
  refine (put_rows_out _ _ _ p q (by omega)).trans ?_
  unfold tripRun.sl.H10_1
  rw [View.read_writes_cons_put arg10.view o.2.1 _ _ _ (off11a_eq k)]
  by_cases h0 : 128 * k.val ≤ p.val ∧ p.val < 128 * k.val + 64
  · rw [if_pos (by omega)]
    refine (put_rows_in _ _ _ p q h0.1 h0.2).trans ?_
    refine (dxb_first _ _ _ _ _ q).trans ?_
    refine congrArg (fun z : EReal => half * z) ?_
    exact newDx_congr
      (x_load c X i k 0 (off10_eq k) (by omega) _ _ ⟨p.val - (128 * k.val), by omega⟩ p (by show p.val = 128 * k.val + (0 + (p.val - (128 * k.val))); omega))
      (g_load c arg7 f7 _)
      (rows_load c arg9 o.1 (128 * k.val) (off11a_eq k) _ ⟨p.val - (128 * k.val), by omega⟩ p (by show p.val = 128 * k.val + (p.val - (128 * k.val)); omega))
      (d_load c D i k 0 (off10_eq k) (by omega) _ _ ⟨p.val - (128 * k.val), by omega⟩ p (by show p.val = 128 * k.val + (0 + (p.val - (128 * k.val))); omega)) q
  rw [if_neg (by omega)]
  exact put_rows_out _ _ _ p q (by omega)

/-- The contribution of row `p` of the block to entry `q` of the gain's gradient (nothing beyond the block). -/
def gterm (A : S1024x2048.Idx → EReal) (q : Fin 2048) (p : ℕ) : EReal :=
  if h : p < 1024 then gainTerm (rowOf (xM.view.read (Elt Ideal) X) i ⟨p, h⟩) (fun u => A (ix2 ⟨p, h⟩ u)) q else 0

set_option maxHeartbeats 1000000 in
theorem trip_dg (k : Fin k0_t1_loop.trips) (o : Outs (F := Ideal) c arg9 arg10 arg11) (q : Fin 2048) :
    arg11.view.read (Elt Ideal) (T k o).2.2 (ix2 (0 : Fin 1) q)
      = arg11.view.read (Elt Ideal) o.2.2 (ix2 (0 : Fin 1) q)
        + ∑ r : Fin 64, gterm c X i (arg9.view.read (Elt Ideal) o.1) q (128 * k.val + r.val)
        + ∑ r : Fin 64, gterm c X i (arg9.view.read (Elt Ideal) o.1) q (128 * k.val + 64 + r.val) := by
  have hk : k.val < 8 := lt_of_lt_of_eq k.isLt trips_eq
  unfold tripOuts tripRun
  dsimp only
  rw [View.read_writes_full]
  refine (dg_add_second _ _ _).trans ?_
  unfold tripRun.sl.v143 tripRun.sl.H11_1
  rw [View.readCov_full]
  refine congrArg₂ (· + ·) ?_ ?_
  · refine (dg_add_first _ _ _).trans (congrArg₂ (· + ·) ?_ ?_)
    · rw [View.readAt_full]
    · refine (dg_first _ _ q).trans (Finset.sum_congr rfl fun r _ => ?_)
      have hr := r.isLt
      unfold gterm
      rw [dif_pos (by omega)]
      exact gainTerm_congr
        (x_load c X i k 0 (off10_eq k) (by omega) _ _ r ⟨128 * k.val + r.val, by omega⟩ (by show 128 * k.val + r.val = 128 * k.val + (0 + r.val); omega))
        (rows_load c arg9 o.1 (128 * k.val) (off11a_eq k) _ r ⟨128 * k.val + r.val, by omega⟩ rfl) q
  · refine (dg_second _ _ q).trans (Finset.sum_congr rfl fun r _ => ?_)
    have hr := r.isLt
    unfold gterm
    rw [dif_pos (by omega)]
    exact gainTerm_congr
      (x_load c X i k 64 (off12_eq k) (by omega) _ _ r ⟨128 * k.val + 64 + r.val, by omega⟩ (by show 128 * k.val + 64 + r.val = 128 * k.val + (64 + r.val); omega))
      (rows_load c arg9 o.1 (128 * k.val + 64) (off11b_eq k) _ r ⟨128 * k.val + 64 + r.val, by omega⟩ rfl) q

end Trip

end Cert.Proof.RmsInRing

end
-- ==== Proof.RmsInBody.lean ====
/-
  One run of the RMS-norm backward call's body at a grid point, by what it does there: the first point of a row
  block zeroes the accumulator, every point adds two products into it, and the last point runs the chunk loop.
-/
module

public import proofs.«01_k».proof.Proof.RmsInTrip

@[expose] public section

set_option maxRecDepth 16384

noncomputable section

namespace Cert.Proof.RmsInRing

open Cert.RmsInIdeal Cert.RmsInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

section Body

variable (c : Dev nD) (X : Buf (Elt F) (xM.view.loc (c : Thread nD τ))) (D : Buf (Elt F) (dM.view.loc (c : Thread nD τ)))
  (i : grid0.Coords)
  (arg2 : Memref sig .tc .vmem S1024x1024 .bf16) (harg2 : arg2.IsWhole) (arg3 : Memref sig .tc .vmem S1024x2048 .bf16) (harg3 : arg3.IsWhole)
  (arg7 : Memref sig .tc .vmem S1x2048 .f32) (harg7 : arg7.IsWhole)
  (arg9 : Memref sig .tc .vmem S1024x2048 .f32) (harg9 : arg9.IsWhole)
  (arg10 : Memref sig .tc .vmem S1024x2048 .bf16) (harg10 : arg10.IsWhole)
  (arg11 : Memref sig .tc .vmem S1x2048 .f32) (harg11 : arg11.IsWhole)
  (f2 : Buf (Elt F) (arg2.view.loc (c : Thread nD τ))) (f3 : Buf (Elt F) (arg3.view.loc (c : Thread nD τ)))
  (f7 : Buf (Elt F) (arg7.view.loc (c : Thread nD τ)))

/-- The two product operands' blocks. -/
abbrev blocks2 : sProp 𝕄 :=
  iprop((arg2.view.loc (c : Thread nD τ) ↦[arg2.view.set]{fullShare} f2) ∗ (arg3.view.loc (c : Thread nD τ) ↦[arg3.view.set]{fullShare} f3))

/-- The rings with nothing in flight. -/
abbrev ringOff : sProp 𝕄 :=
  iprop(bigSep Finset.univ (homeP c xM X) ∗ bigSep Finset.univ (homeP c dM D)
    ∗ (∃ f, slotP (F := F) c xB 0 f) ∗ (∃ f, slotP (F := F) c xB 1 f) ∗ (∃ f, slotP (F := F) c dB 0 f) ∗ (∃ f, slotP (F := F) c dB 1 f)
    ∗ cellP (F := F) c 0 0 ∗ cellP (F := F) c 0 1 ∗ cellP (F := F) c 1 0 ∗ cellP (F := F) c 1 1)

theorem sl2_0 : Ring.sl 2 0 = 0 := rfl
theorem sl2_1 : Ring.sl 2 1 = 1 := rfl
theorem sl2_7 : Ring.sl 2 7 = 1 := rfl
theorem sl2_8 : Ring.sl 2 8 = 0 := rfl

theorem ringEnd_off : ringEnd c X D 7 ⊢ ringOff c X D := by
  unfold ringEnd ringOff
  rw [show (7 : ℕ) + 1 = 8 from rfl, sl2_7, sl2_8]
  iintro ⟨HX, HD, Hx1, Hd1, Hx0, Hd0, Hc10, Hc11, Hc00, Hc01⟩
  isplitl [HX]; · iexact HX
  isplitl [HD]; · iexact HD
  isplitl [Hx0]; · iexact Hx0
  isplitl [Hx1]; · iexact Hx1
  isplitl [Hd0]; · iexact Hd0
  isplitl [Hd1]; · iexact Hd1
  isplitl [Hc00]; · iexact Hc00
  isplitl [Hc01]; · iexact Hc01
  isplitl [Hc10]; · iexact Hc10
  iexact Hc11

/-- One chunk of each array taken out of the idle rings. -/
theorem ringOff_split (b : Fin 64) : ringOff c X D ⊢
    iprop((homeP c xM X b ∗ others c xM X b) ∗ (homeP c dM D b ∗ others c dM D b)
    ∗ (∃ f, slotP (F := F) c xB 0 f) ∗ (∃ f, slotP (F := F) c xB 1 f) ∗ (∃ f, slotP (F := F) c dB 0 f) ∗ (∃ f, slotP (F := F) c dB 1 f)
    ∗ cellP (F := F) c 0 0 ∗ cellP (F := F) c 0 1 ∗ cellP (F := F) c 1 0 ∗ cellP (F := F) c 1 1) := by
  unfold ringOff
  rw [all_eq c xM X b, all_eq c dM D b]

abbrev bodyG : Prog (TpuEff nD τ sig (Elt F) Λ₀ .tc) PUnit :=
  cc0_in_proj_bwd (F := F) i arg2 harg2 arg3 harg3 xM (Memref.isWhole_whole _) arg7 harg7 dM (Memref.isWhole_whole _)
    arg9 harg9 arg10 harg10 arg11 harg11 xB (Memref.isWhole_whole _) dB (Memref.isWhole_whole _) cc0_scratch2

/-- The body takes the result windows from `o` to `o'`. -/
abbrev Runs (o o' : Outs (F := F) c arg9 arg10 arg11) : Prop :=
  iprop(blocks2 c arg2 arg3 f2 f3 ∗ wins c arg7 arg9 arg10 arg11 f7 o.1 o.2.1 o.2.2 ∗ ringOff c X D)
    ⊢ wp frame (wpE (defs₀ (F := F)) 𝒱₀ (c : Thread nD τ) none) Set.univ
        (bodyG i arg2 harg2 arg3 harg3 arg7 harg7 arg9 harg9 arg10 harg10 arg11 harg11)
      (fun _ => iprop(blocks2 c arg2 arg3 f2 f3 ∗ wins c arg7 arg9 arg10 arg11 f7 o'.1 o'.2.1 o'.2.2 ∗ ringOff c X D))

abbrev cond1 (i : grid0.Coords) : BitVec 1 := Scalar.cmpi .ne ((Scalar.extui (Scalar.cmpi .eq (BitVec.ofNat 32 (i 1).val) 0#32) : BitVec 32)) 0#32

set_option backward.proofsInPublic true in
set_option maxHeartbeats 4000000 in
/-- The first point of a row block. -/
def runA (h1 : cond1 i = 1#1) (h3 : ¬ k0_cond3 i = 1#1) (h2 : ¬ k0_cond2 i = 1#1) (o : Outs (F := F) c arg9 arg10 arg11) :
    { f9 : Buf (Elt F) (arg9.view.loc (c : Thread nD τ)) //
      Runs c X D i arg2 harg2 arg3 harg3 arg7 harg7 arg9 harg9 arg10 harg10 arg11 harg11 f2 f3 f7 o (f9, o.2.1, o.2.2) } := by
  refine ⟨?_, ?run⟩
  case run =>
    unfold Runs
    dsimp only
    iintro ⟨⟨H2, H3⟩, ⟨H7, H9, H10, H11, ⟨%W, HW⟩⟩, HR⟩
    dsimp only [bodyG]
    rw [cc0_in_proj_bwd_eq_skeleton]
    unfold cc0_in_proj_bwd_skel
    sl_exec
    sl_step
    isplitl [H2 H3]
    · isplitl [H2]; · iexact H2
      iexact H3
    isplitl [H7 H9 H10 H11 HW]
    · isplitl [H7]; · iexact H7
      isplitl [H9]; · iexact H9
      isplitl [H10]; · iexact H10
      isplitl [H11]; · iexact H11
      iexists _; iexact HW
    iexact HR

set_option backward.proofsInPublic true in
set_option maxHeartbeats 4000000 in
/-- A later point that is not the last. -/
def runB (h1 : ¬ cond1 i = 1#1) (h3 : ¬ k0_cond3 i = 1#1) (h2 : ¬ k0_cond2 i = 1#1) (o : Outs (F := F) c arg9 arg10 arg11) :
    { f9 : Buf (Elt F) (arg9.view.loc (c : Thread nD τ)) //
      Runs c X D i arg2 harg2 arg3 harg3 arg7 harg7 arg9 harg9 arg10 harg10 arg11 harg11 f2 f3 f7 o (f9, o.2.1, o.2.2) } := by
  refine ⟨?_, ?run⟩
  case run =>
    unfold Runs
    dsimp only
    iintro ⟨⟨H2, H3⟩, ⟨H7, H9, H10, H11, ⟨%W, HW⟩⟩, HR⟩
    dsimp only [bodyG]
    rw [cc0_in_proj_bwd_eq_skeleton]
    unfold cc0_in_proj_bwd_skel
    sl_exec
    sl_step
    isplitl [H2 H3]
    · isplitl [H2]; · iexact H2
      iexact H3
    isplitl [H7 H9 H10 H11 HW]
    · isplitl [H7]; · iexact H7
      isplitl [H9]; · iexact H9
      isplitl [H10]; · iexact H10
      isplitl [H11]; · iexact H11
      iexists _; iexact HW
    iexact HR

set_option maxHeartbeats 400000 in
/-- The chunk loop from its first chunk's copies in flight. -/
theorem loop_run (h3 : k0_cond3 i = 1#1) (f9 : Buf (Elt F) (arg9.view.loc (c : Thread nD τ)))
    (f10 : Buf (Elt F) (arg10.view.loc (c : Thread nD τ))) (f11 : Buf (Elt F) (arg11.view.loc (c : Thread nD τ))) :
    iprop(blocks2 c arg2 arg3 f2 f3 ∗ wins c arg7 arg9 arg10 arg11 f7 f9 f10 f11 ∗ ringOn c X D i 0)
      ⊢ wp frame (wpE (defs₀ (F := F)) 𝒱₀ (c : Thread nD τ) none) Set.univ (k0_t1_loop.for (k0_t1_ok i h3) PUnit.unit
          (k0_t1_body (F := F) i arg2 harg2 arg3 harg3 xM (Memref.isWhole_whole _) arg7 harg7 dM (Memref.isWhole_whole _)
            arg9 harg9 arg10 harg10 arg11 harg11 xB (Memref.isWhole_whole _) dB (Memref.isWhole_whole _) cc0_scratch2 (BitVec.ofNat 32 (i 0).val) h3)
          >>= fun __r => Pure.pure PUnit.unit)
        (fun _ => iprop(blocks2 c arg2 arg3 f2 f3
          ∗ wins c arg7 arg9 arg10 arg11 f7
            (outsAt c X D i arg2 harg2 arg3 harg3 arg7 harg7 arg9 harg9 arg10 harg10 arg11 harg11 (BitVec.ofNat 32 (i 0).val) h3 f7 (f9, f10, f11) 8).1
            (outsAt c X D i arg2 harg2 arg3 harg3 arg7 harg7 arg9 harg9 arg10 harg10 arg11 harg11 (BitVec.ofNat 32 (i 0).val) h3 f7 (f9, f10, f11) 8).2.1
            (outsAt c X D i arg2 harg2 arg3 harg3 arg7 harg7 arg9 harg9 arg10 harg10 arg11 harg11 (BitVec.ofNat 32 (i 0).val) h3 f7 (f9, f10, f11) 8).2.2
          ∗ ringOff c X D)) := by
  iintro ⟨HB, Hw, HR⟩
  sl_for (fun k _ => inv c X D i arg2 harg2 arg3 harg3 arg7 harg7 arg9 harg9 arg10 harg10 arg11 harg11 (BitVec.ofNat 32 (i 0).val) h3 f7 (f9, f10, f11) k) $$ [Hw HR]
  case region =>
    intro k _
    exact inv_step c X D i arg2 harg2 arg3 harg3 arg7 harg7 arg9 harg9 arg10 harg10 arg11 harg11 (BitVec.ofNat 32 (i 0).val) h3 f7 (f9, f10, f11) k
  · unfold inv
    rw [show ring c X D i 0 = ringOn c X D i 0 from if_pos (by decide)]
    isplitl [Hw]; · iexact Hw
    iexact HR
  iintro %_ HI
  unfold inv
  rw [show Scf.trips k0_t1_loop.lb k0_t1_loop.ub k0_t1_loop.st = 8 from trips_eq, show ring c X D i 8 = ringEnd c X D 7 from if_neg (by decide)]
  icases HI with ⟨Hw, HR⟩
  sl_step
  isplitl [HB]; · iexact HB
  isplitl [Hw]; · iexact Hw
  iapply (ringEnd_off c X D)
  iexact HR

attribute [local sl_canon] sl2_0 sl2_1 in
set_option backward.proofsInPublic true in
set_option maxHeartbeats 1000000 in
/-- The last point of the first row block. -/
def runC (h1 : ¬ cond1 i = 1#1) (h3 : k0_cond3 i = 1#1) (h2 : k0_cond2 i = 1#1) (h4 : k0_cond4 i = 1#1) (o : Outs (F := F) c arg9 arg10 arg11) :
    { o' : Outs (F := F) c arg9 arg10 arg11 //
      Runs c X D i arg2 harg2 arg3 harg3 arg7 harg7 arg9 harg9 arg10 harg10 arg11 harg11 f2 f3 f7 o
        (outsAt c X D i arg2 harg2 arg3 harg3 arg7 harg7 arg9 harg9 arg10 harg10 arg11 harg11 (BitVec.ofNat 32 (i 0).val) h3 f7 o' 8) } := by
  refine ⟨(?n9, o.2.1, ?n11), ?run⟩
  case run =>
    unfold Runs
    iintro ⟨⟨H2, H3⟩, ⟨H7, H9, H10, H11, ⟨%W, HW⟩⟩, HR⟩
    icases (ringOff_split c X D (num i 0)) $$ HR with ⟨⟨Hx, Hxs⟩, ⟨Hd, Hds⟩, ⟨%fx, Hx0⟩, Hx1, ⟨%fd, Hd0⟩, Hd1, Hc00, Hc01, Hc10, Hc11⟩
    dsimp only [bodyG]
    rw [cc0_in_proj_bwd_eq_skeleton]
    unfold cc0_in_proj_bwd_skel
    sl_exec
    iapply (loop_run c X D i arg2 harg2 arg3 harg3 arg7 harg7 arg9 harg9 arg10 harg10 arg11 harg11 f2 f3 f7 h3 _ _ _)
    isplitl [H2 H3]
    · isplitl [H2]; · iexact H2
      iexact H3
    isplitl [H7 H9 H10 H11 HW]
    · isplitl [H7]; · iexact H7
      isplitl [H9]; · iexact H9
      isplitl [H10]; · iexact H10
      isplitl [H11]; · iexact H11
      iexists _; iexact HW
    isplitl [Hxs]; · iexact Hxs
    isplitl [Hds]; · iexact Hds
    isplitl [Hc00]; · iexists fx; iexact Hc00
    isplitl [Hc01]; · iexists fd; iexact Hc01
    isplitl [Hx1]; · iexact Hx1
    isplitl [Hd1]; · iexact Hd1
    isplitl [Hc10]; · iexact Hc10
    iexact Hc11

attribute [local sl_canon] sl2_0 sl2_1 in
set_option backward.proofsInPublic true in
set_option maxHeartbeats 1000000 in
/-- The last point of a later row block. -/
def runD (h1 : ¬ cond1 i = 1#1) (h3 : k0_cond3 i = 1#1) (h2 : k0_cond2 i = 1#1) (h4 : ¬ k0_cond4 i = 1#1) (o : Outs (F := F) c arg9 arg10 arg11) :
    { o' : Outs (F := F) c arg9 arg10 arg11 //
      Runs c X D i arg2 harg2 arg3 harg3 arg7 harg7 arg9 harg9 arg10 harg10 arg11 harg11 f2 f3 f7 o
        (outsAt c X D i arg2 harg2 arg3 harg3 arg7 harg7 arg9 harg9 arg10 harg10 arg11 harg11 (BitVec.ofNat 32 (i 0).val) h3 f7 o' 8) } := by
  refine ⟨(?n9, o.2.1, ?n11), ?run⟩
  case run =>
    unfold Runs
    iintro ⟨⟨H2, H3⟩, ⟨H7, H9, H10, H11, ⟨%W, HW⟩⟩, HR⟩
    icases (ringOff_split c X D (num i 0)) $$ HR with ⟨⟨Hx, Hxs⟩, ⟨Hd, Hds⟩, ⟨%fx, Hx0⟩, Hx1, ⟨%fd, Hd0⟩, Hd1, Hc00, Hc01, Hc10, Hc11⟩
    dsimp only [bodyG]
    rw [cc0_in_proj_bwd_eq_skeleton]
    unfold cc0_in_proj_bwd_skel
    sl_exec
    iapply (loop_run c X D i arg2 harg2 arg3 harg3 arg7 harg7 arg9 harg9 arg10 harg10 arg11 harg11 f2 f3 f7 h3 _ _ _)
    isplitl [H2 H3]
    · isplitl [H2]; · iexact H2
      iexact H3
    isplitl [H7 H9 H10 H11 HW]
    · isplitl [H7]; · iexact H7
      isplitl [H9]; · iexact H9
      isplitl [H10]; · iexact H10
      isplitl [H11]; · iexact H11
      iexists _; iexact HW
    isplitl [Hxs]; · iexact Hxs
    isplitl [Hds]; · iexact Hds
    isplitl [Hc00]; · iexists fx; iexact Hc00
    isplitl [Hc01]; · iexists fd; iexact Hc01
    isplitl [Hx1]; · iexact Hx1
    isplitl [Hd1]; · iexact Hd1
    isplitl [Hc10]; · iexact Hc10
    iexact Hc11

end Body

end Cert.Proof.RmsInRing

end
-- ==== Proof.RmsInLoopValue.lean ====
/-
  What the chunk loop leaves after its eight trips: every row of the block is the gradient of the norm's input, the same rows
  lie in bf16, and the gain's gradient has gained the sum over all rows of the block.
-/
module

public import proofs.«01_k».proof.Proof.RmsInTripValue
public import proofs.«01_k».proof.Proof.BlockSums
public import proofs.«01_k».proof.Proof.RmsInBody

@[expose] public section

set_option maxRecDepth 16384

noncomputable section

namespace Cert.Proof.RmsInRing

open Cert.RmsInIdeal Cert.RmsInIdeal.Gen
open Idealize.ShloMosaic
open Idealize.ShloMosaic.TcCoe Idealize.ShloMosaic.Tactic
open Cert.Proof.RmsRows Cert.Proof.RowWindows Cert.Proof.BlockSums
open scoped BigOperators

section Loop
variable (c : Dev nD) (X : Buf (Elt Ideal) (xM.view.loc (c : Thread nD τ))) (D : Buf (Elt Ideal) (dM.view.loc (c : Thread nD τ)))
  (i : grid0.Coords) (arg2 : Memref sig .tc .vmem S1024x1024 .bf16) (harg2 : arg2.IsWhole) (arg3 : Memref sig .tc .vmem S1024x2048 .bf16) (harg3 : arg3.IsWhole)
  (arg7 : Memref sig .tc .vmem S1x2048 .f32) (harg7 : arg7.IsWhole) (arg9 : Memref sig .tc .vmem S1024x2048 .f32) (harg9 : arg9.IsWhole)
  (arg10 : Memref sig .tc .vmem S1024x2048 .bf16) (harg10 : arg10.IsWhole) (arg11 : Memref sig .tc .vmem S1x2048 .f32) (harg11 : arg11.IsWhole)
  (arg0 : BitVec 32) (h3 : k0_cond3 i = 1#1) (f7 : Buf (Elt Ideal) (arg7.view.loc (c : Thread nD τ)))

local notation "W" => outsAt c X D i arg2 harg2 arg3 harg3 arg7 harg7 arg9 harg9 arg10 harg10 arg11 harg11 arg0 h3 f7

theorem newRow_congr (A B : S1024x2048.Idx → EReal) (p : Fin 1024) (h : ∀ u, A (ix2 p u) = B (ix2 p u)) : newRow c X D i arg7 f7 A p = newRow c X D i arg7 f7 B p := by
  funext q
  exact newDx_congr rfl rfl (funext h) rfl q

theorem gterm_congr (A B : S1024x2048.Idx → EReal) (q : Fin 2048) (p : ℕ) (h : ∀ (hp : p < 1024) u, A (ix2 ⟨p, hp⟩ u) = B (ix2 ⟨p, hp⟩ u)) : gterm c X i A q p = gterm c X i B q p := by
  unfold gterm
  split
  · rename_i hp
    exact gainTerm_congr rfl (funext (h hp)) q
  · rfl

theorem outs_dx (o : Outs (F := Ideal) c arg9 arg10 arg11) (k : ℕ) (hk : k ≤ 8) (p : Fin 1024) (q : Fin 2048) :
    arg9.view.read (Elt Ideal) (W o k).1 (ix2 p q)
      = if p.val / 128 < k then newRow c X D i arg7 f7 (arg9.view.read (Elt Ideal) o.1) p q else arg9.view.read (Elt Ideal) o.1 (ix2 p q) := by
  induction k generalizing q with
  | zero => exact (if_neg (Nat.not_lt_zero _)).symm
  | succ k ih =>
    have hk' : k < k0_t1_loop.trips := lt_of_lt_of_eq (show k < 8 by omega) trips_eq.symm
    rw [show W o (k + 1) = _ from outsAt_succ c X D i arg2 harg2 arg3 harg3 arg7 harg7 arg9 harg9 arg10 harg10 arg11 harg11 arg0 h3 f7 o ⟨k, hk'⟩]
    rw [trip_dx]
    by_cases h : p.val / 128 = k
    · rw [if_pos h, if_pos (by omega)]
      exact congrFun (newRow_congr c X D i arg7 f7 _ _ p fun u => (ih (by omega) u).trans (if_neg (by omega))) q
    · rw [if_neg h, ih (by omega) q]
      by_cases h' : p.val / 128 < k
      · rw [if_pos h', if_pos (by omega)]
      · rw [if_neg h', if_neg (by omega)]

theorem outs_dxb (o : Outs (F := Ideal) c arg9 arg10 arg11) (k : ℕ) (hk : k ≤ 8) (p : Fin 1024) (q : Fin 2048) :
    (arg10.view.read (Elt Ideal) (W o k).2.1 (ix2 p q) : EReal)
      = if p.val / 128 < k then half * newRow c X D i arg7 f7 (arg9.view.read (Elt Ideal) o.1) p q else arg10.view.read (Elt Ideal) o.2.1 (ix2 p q) := by
  induction k with
  | zero => exact (if_neg (Nat.not_lt_zero _)).symm
  | succ k ih =>
    have hk' : k < k0_t1_loop.trips := lt_of_lt_of_eq (show k < 8 by omega) trips_eq.symm
    rw [show W o (k + 1) = _ from outsAt_succ c X D i arg2 harg2 arg3 harg3 arg7 harg7 arg9 harg9 arg10 harg10 arg11 harg11 arg0 h3 f7 o ⟨k, hk'⟩]
    rw [trip_dxb]
    by_cases h : p.val / 128 = k
    · rw [if_pos h, if_pos (by omega)]
      exact congrArg (fun z : EReal => half * z) <| congrFun (newRow_congr c X D i arg7 f7 _ _ p fun u =>
        (outs_dx c X D i arg2 harg2 arg3 harg3 arg7 harg7 arg9 harg9 arg10 harg10 arg11 harg11 arg0 h3 f7 o k (by omega) p u).trans (if_neg (by omega))) q
    · rw [if_neg h, ih (by omega)]
      by_cases h' : p.val / 128 < k
      · rw [if_pos h', if_pos (by omega)]
      · rw [if_neg h', if_neg (by omega)]

theorem outs_dg (o : Outs (F := Ideal) c arg9 arg10 arg11) (k : ℕ) (hk : k ≤ 8) (q : Fin 2048) :
    arg11.view.read (Elt Ideal) (W o k).2.2 (ix2 (0 : Fin 1) q)
      = arg11.view.read (Elt Ideal) o.2.2 (ix2 (0 : Fin 1) q) + blocks 64 (gterm c X i (arg9.view.read (Elt Ideal) o.1) q) (2 * k) := by
  induction k with
  | zero => unfold blocks; rw [Nat.mul_zero, Finset.sum_range_zero, add_zero]; rfl
  | succ k ih =>
    have hk' : k < k0_t1_loop.trips := lt_of_lt_of_eq (show k < 8 by omega) trips_eq.symm
    rw [show W o (k + 1) = _ from outsAt_succ c X D i arg2 harg2 arg3 harg3 arg7 harg7 arg9 harg9 arg10 harg10 arg11 harg11 arg0 h3 f7 o ⟨k, hk'⟩]
    rw [trip_dg, ih (by omega), show 2 * (k + 1) = 2 * k + 1 + 1 by omega, blocks_succ, blocks_succ, ← add_assoc, ← add_assoc]
    have e : ∀ p : ℕ, 128 * k ≤ p → gterm c X i (arg9.view.read (Elt Ideal) (W o k).1) q p = gterm c X i (arg9.view.read (Elt Ideal) o.1) q p := fun p hp =>
      gterm_congr c X i _ _ q p fun hlt u =>
        (outs_dx c X D i arg2 harg2 arg3 harg3 arg7 harg7 arg9 harg9 arg10 harg10 arg11 harg11 arg0 h3 f7 o k (by omega) ⟨p, hlt⟩ u).trans
          (if_neg (by show ¬ p / 128 < k; omega))
    refine congrArg₂ (· + ·) (congrArg₂ (· + ·) rfl (Finset.sum_congr rfl fun r _ => ?_)) (Finset.sum_congr rfl fun r _ => ?_)
    · rw [show 64 * (2 * k) + r.val = 128 * k + r.val by omega]
      exact e _ (by show 128 * k ≤ 128 * k + r.val; omega)
    · rw [show 64 * (2 * k + 1) + r.val = 128 * k + 64 + r.val by omega]
      exact e _ (by show 128 * k ≤ 128 * k + 64 + r.val; omega)

/-- All eight trips. -/
theorem loop_dx (o : Outs (F := Ideal) c arg9 arg10 arg11) (p : Fin 1024) (q : Fin 2048) :
    arg9.view.read (Elt Ideal) (W o 8).1 (ix2 p q) = newRow c X D i arg7 f7 (arg9.view.read (Elt Ideal) o.1) p q :=
  (outs_dx c X D i arg2 harg2 arg3 harg3 arg7 harg7 arg9 harg9 arg10 harg10 arg11 harg11 arg0 h3 f7 o 8 le_rfl p q).trans
    (if_pos (by have := p.isLt; omega))

theorem loop_dxb (o : Outs (F := Ideal) c arg9 arg10 arg11) (p : Fin 1024) (q : Fin 2048) :
    (arg10.view.read (Elt Ideal) (W o 8).2.1 (ix2 p q) : EReal) = half * newRow c X D i arg7 f7 (arg9.view.read (Elt Ideal) o.1) p q :=
  (outs_dxb c X D i arg2 harg2 arg3 harg3 arg7 harg7 arg9 harg9 arg10 harg10 arg11 harg11 arg0 h3 f7 o 8 le_rfl p q).trans
    (if_pos (by have := p.isLt; omega))

theorem loop_dg (o : Outs (F := Ideal) c arg9 arg10 arg11) (q : Fin 2048) :
    arg11.view.read (Elt Ideal) (W o 8).2.2 (ix2 (0 : Fin 1) q)
      = arg11.view.read (Elt Ideal) o.2.2 (ix2 (0 : Fin 1) q) + ∑ p ∈ Finset.range 1024, gterm c X i (arg9.view.read (Elt Ideal) o.1) q p := by
  rw [outs_dg c X D i arg2 harg2 arg3 harg3 arg7 harg7 arg9 harg9 arg10 harg10 arg11 harg11 arg0 h3 f7 o 8 le_rfl q, blocks_eq_range]

end Loop

end Cert.Proof.RmsInRing

end
-- ==== Proof.RmsInBodyValue.lean ====
/-
  What one grid point of the call does to the reads of its windows: it adds the product of the point to the block (from zero
  at the first point of a row block), and at the last point of a row block takes the block through the norm's backward pass.
-/
module

public import proofs.«01_k».proof.Proof.RmsInLoopValue

@[expose] public section

set_option maxRecDepth 16384

noncomputable section

namespace Cert.Proof.RmsInRing

open Cert.RmsInIdeal Cert.RmsInIdeal.Gen
open Idealize.ShloMosaic
open Idealize.ShloMosaic.TcCoe Idealize.ShloMosaic.Tactic
open Cert.Proof.RmsRows Cert.Proof.RowWindows Cert.Proof.BlockSums
open scoped BigOperators

/-- The product of a point added to the block. -/
def step (P : S1024x2048.Idx → EReal) (a2 : S1024x1024.Idx → EReal) (b3 : S1024x2048.Idx → EReal) : S1024x2048.Idx → EReal :=
  fun j => P j + ∑ k : Fin 1024, a2 (ix2 (j 0) k) * b3 (ix2 k (j 1))

theorem pays_eq (P : Vec Ideal S1024x2048 .f32) (a2 : Vec Ideal S1024x1024 .bf16) (b3 : Vec Ideal S1024x2048 .bf16) :
    k0_pay2 P a2 b3 = step P a2 b3 := by
  funext j
  unfold k0_pay2 step
  pointwise

theorem pay1_zero : (k0_pay1 (F := Ideal)) = fun _ => (0 : EReal) := by
  funext j
  unfold k0_pay1
  pointwise

theorem pay3_zero : (k0_pay3 (F := Ideal)) = fun _ => (0 : EReal) := by
  funext j
  unfold k0_pay3
  pointwise

section Body
variable (c : Dev nD) (X : Buf (Elt Ideal) (xM.view.loc (c : Thread nD τ))) (D : Buf (Elt Ideal) (dM.view.loc (c : Thread nD τ)))
  (i : grid0.Coords) (arg2 : Memref sig .tc .vmem S1024x1024 .bf16) (harg2 : arg2.IsWhole) (arg3 : Memref sig .tc .vmem S1024x2048 .bf16) (harg3 : arg3.IsWhole)
  (arg7 : Memref sig .tc .vmem S1x2048 .f32) (harg7 : arg7.IsWhole) (arg9 : Memref sig .tc .vmem S1024x2048 .f32) (harg9 : arg9.IsWhole)
  (arg10 : Memref sig .tc .vmem S1024x2048 .bf16) (harg10 : arg10.IsWhole) (arg11 : Memref sig .tc .vmem S1x2048 .f32) (harg11 : arg11.IsWhole)
  (f2 : Buf (Elt Ideal) (arg2.view.loc (c : Thread nD τ))) (f3 : Buf (Elt Ideal) (arg3.view.loc (c : Thread nD τ)))
  (f7 : Buf (Elt Ideal) (arg7.view.loc (c : Thread nD τ))) (o : Outs (F := Ideal) c arg9 arg10 arg11)

/-- The block after the point's product, from `P`. -/
abbrev stepped (P : S1024x2048.Idx → EReal) : S1024x2048.Idx → EReal :=
  step P (arg2.view.read (Elt Ideal) f2) (arg3.view.read (Elt Ideal) f3)

theorem runA_val (h1 : cond1 i = 1#1) (h3 : ¬ k0_cond3 i = 1#1) (h2 : ¬ k0_cond2 i = 1#1) :
    arg9.view.read (Elt Ideal) (runA c X D i arg2 harg2 arg3 harg3 arg7 harg7 arg9 harg9 arg10 harg10 arg11 harg11 f2 f3 f7 h1 h3 h2 o).1
      = stepped c arg2 arg3 f2 f3 (fun _ => 0) := by
  unfold runA
  dsimp only
  rw [View.read_writes_full]
  unfold runA.sl.v6 runA.sl.H9_1
  rw [View.readCov_full, View.readAt_full, View.readAt_full, pays_eq, pay1_zero]

theorem runB_val (h1 : ¬ cond1 i = 1#1) (h3 : ¬ k0_cond3 i = 1#1) (h2 : ¬ k0_cond2 i = 1#1) :
    arg9.view.read (Elt Ideal) (runB c X D i arg2 harg2 arg3 harg3 arg7 harg7 arg9 harg9 arg10 harg10 arg11 harg11 f2 f3 f7 h1 h3 h2 o).1
      = stepped c arg2 arg3 f2 f3 (arg9.view.read (Elt Ideal) o.1) := by
  unfold runB
  dsimp only
  rw [View.read_writes_full]
  rw [View.readAt_full, View.readAt_full, View.readAt_full, pays_eq]

theorem runC_val (h1 : ¬ cond1 i = 1#1) (h3 : k0_cond3 i = 1#1) (h2 : k0_cond2 i = 1#1) (h4 : k0_cond4 i = 1#1) :
    arg9.view.read (Elt Ideal) (runC c X D i arg2 harg2 arg3 harg3 arg7 harg7 arg9 harg9 arg10 harg10 arg11 harg11 f2 f3 f7 h1 h3 h2 h4 o).1.1
        = stepped c arg2 arg3 f2 f3 (arg9.view.read (Elt Ideal) o.1)
      ∧ arg11.view.read (Elt Ideal) (runC c X D i arg2 harg2 arg3 harg3 arg7 harg7 arg9 harg9 arg10 harg10 arg11 harg11 f2 f3 f7 h1 h3 h2 h4 o).1.2.2
        = fun _ => 0 := by
  unfold runC
  dsimp only
  constructor
  · unfold runC.sl.H9_1
    rw [View.read_writes_full]
    rw [View.readAt_full, View.readAt_full, View.readAt_full, pays_eq]
  · unfold runC.sl.H11_1
    rw [View.read_writes_full, pay3_zero]

theorem runD_val (h1 : ¬ cond1 i = 1#1) (h3 : k0_cond3 i = 1#1) (h2 : k0_cond2 i = 1#1) (h4 : ¬ k0_cond4 i = 1#1) :
    arg9.view.read (Elt Ideal) (runD c X D i arg2 harg2 arg3 harg3 arg7 harg7 arg9 harg9 arg10 harg10 arg11 harg11 f2 f3 f7 h1 h3 h2 h4 o).1.1
        = stepped c arg2 arg3 f2 f3 (arg9.view.read (Elt Ideal) o.1)
      ∧ (runD c X D i arg2 harg2 arg3 harg3 arg7 harg7 arg9 harg9 arg10 harg10 arg11 harg11 f2 f3 f7 h1 h3 h2 h4 o).1.2.2 = o.2.2 := by
  unfold runD
  dsimp only
  constructor
  · unfold runD.sl.H9_1
    rw [View.read_writes_full]
    rw [View.readAt_full, View.readAt_full, View.readAt_full, pays_eq]
  · rfl

/-- What a run leaves, in reads. -/
structure Post (o' : Outs (F := Ideal) c arg9 arg10 arg11) : Prop where
  first : (i 1).val = 0 → arg9.view.read (Elt Ideal) o'.1 = stepped c arg2 arg3 f2 f3 (fun _ => 0)
  later : (i 1).val ≠ 0 → (i 1).val ≠ 4 → arg9.view.read (Elt Ideal) o'.1 = stepped c arg2 arg3 f2 f3 (arg9.view.read (Elt Ideal) o.1)
  keep10 : (i 1).val ≠ 4 → o'.2.1 = o.2.1
  keep11 : (i 1).val ≠ 4 → o'.2.2 = o.2.2
  dx : (i 1).val = 4 → ∀ p q, arg9.view.read (Elt Ideal) o'.1 (ix2 p q)
    = newRow c X D i arg7 f7 (stepped c arg2 arg3 f2 f3 (arg9.view.read (Elt Ideal) o.1)) p q
  dxb : (i 1).val = 4 → ∀ p q, (arg10.view.read (Elt Ideal) o'.2.1 (ix2 p q) : EReal)
    = half * newRow c X D i arg7 f7 (stepped c arg2 arg3 f2 f3 (arg9.view.read (Elt Ideal) o.1)) p q
  dg : (i 1).val = 4 → ∀ q, arg11.view.read (Elt Ideal) o'.2.2 (ix2 (0 : Fin 1) q)
    = (if (i 0).val = 0 then 0 else arg11.view.read (Elt Ideal) o.2.2 (ix2 (0 : Fin 1) q))
      + ∑ p ∈ Finset.range 1024, gterm c X i (stepped c arg2 arg3 f2 f3 (arg9.view.read (Elt Ideal) o.1)) q p

theorem bcond1_eq : ∀ i : grid0.Coords, cond1 i = 1#1 ↔ (i 1).val = 0 := by decide +kernel

/-- After the chunk loop over a block that holds the row block's products. -/
theorem post_last (e : (i 1).val = 4) (h3 : k0_cond3 i = 1#1) (arg0 : BitVec 32) (z : Outs (F := Ideal) c arg9 arg10 arg11)
    (hz : arg9.view.read (Elt Ideal) z.1 = stepped c arg2 arg3 f2 f3 (arg9.view.read (Elt Ideal) o.1))
    (hg : ∀ q, arg11.view.read (Elt Ideal) z.2.2 (ix2 (0 : Fin 1) q) = if (i 0).val = 0 then 0 else arg11.view.read (Elt Ideal) o.2.2 (ix2 (0 : Fin 1) q)) :
    Post c X D i arg2 arg3 arg7 arg9 arg10 arg11 f2 f3 f7 o
      (outsAt c X D i arg2 harg2 arg3 harg3 arg7 harg7 arg9 harg9 arg10 harg10 arg11 harg11 arg0 h3 f7 z 8) where
  first h := by omega
  later _ h := absurd e h
  keep10 h := absurd e h
  keep11 h := absurd e h
  dx _ p q := by rw [loop_dx, hz]
  dxb _ p q := by rw [loop_dxb, hz]
  dg _ q := by rw [loop_dg, hz, hg]

/-- At the first point of a row block. -/
theorem post_first (e : (i 1).val = 0) (f9 : Buf (Elt Ideal) (arg9.view.loc (c : Thread nD τ)))
    (h : arg9.view.read (Elt Ideal) f9 = stepped c arg2 arg3 f2 f3 (fun _ => 0)) :
    Post c X D i arg2 arg3 arg7 arg9 arg10 arg11 f2 f3 f7 o (f9, o.2.1, o.2.2) where
  first _ := h
  later h' := absurd e h'
  keep10 _ := rfl
  keep11 _ := rfl
  dx h' := by omega
  dxb h' := by omega
  dg h' := by omega

/-- At a point between. -/
theorem post_later (e : (i 1).val ≠ 0) (e' : (i 1).val ≠ 4) (f9 : Buf (Elt Ideal) (arg9.view.loc (c : Thread nD τ)))
    (h : arg9.view.read (Elt Ideal) f9 = stepped c arg2 arg3 f2 f3 (arg9.view.read (Elt Ideal) o.1)) :
    Post c X D i arg2 arg3 arg7 arg9 arg10 arg11 f2 f3 f7 o (f9, o.2.1, o.2.2) where
  first h' := absurd h' e
  later _ _ := h
  keep10 _ := rfl
  keep11 _ := rfl
  dx h' := absurd h' e'
  dxb h' := absurd h' e'
  dg h' := absurd h' e'

/-- At every point the body runs, and leaves that. -/
theorem runs_post : ∃ o' : Outs (F := Ideal) c arg9 arg10 arg11,
    Runs c X D i arg2 harg2 arg3 harg3 arg7 harg7 arg9 harg9 arg10 harg10 arg11 harg11 f2 f3 f7 o o'
      ∧ Post c X D i arg2 arg3 arg7 arg9 arg10 arg11 f2 f3 f7 o o' := by
  by_cases e : (i 1).val = 4
  · have h3 := (cond3_eq i).mpr e
    have h2 := (cond2_eq i).mpr e
    have h1 : ¬ cond1 i = 1#1 := fun h => by have := (bcond1_eq i).mp h; omega
    by_cases h4 : k0_cond4 i = 1#1
    · refine ⟨_, (runC c X D i arg2 harg2 arg3 harg3 arg7 harg7 arg9 harg9 arg10 harg10 arg11 harg11 f2 f3 f7 h1 h3 h2 h4 o).2, ?_⟩
      have v := runC_val c X D i arg2 harg2 arg3 harg3 arg7 harg7 arg9 harg9 arg10 harg10 arg11 harg11 f2 f3 f7 o h1 h3 h2 h4
      exact post_last c X D i arg2 harg2 arg3 harg3 arg7 harg7 arg9 harg9 arg10 harg10 arg11 harg11 f2 f3 f7 o e h3 _ _ v.1
        (fun q => by rw [v.2, if_pos ((cond4_eq i).mp h4)])
    · refine ⟨_, (runD c X D i arg2 harg2 arg3 harg3 arg7 harg7 arg9 harg9 arg10 harg10 arg11 harg11 f2 f3 f7 h1 h3 h2 h4 o).2, ?_⟩
      have v := runD_val c X D i arg2 harg2 arg3 harg3 arg7 harg7 arg9 harg9 arg10 harg10 arg11 harg11 f2 f3 f7 o h1 h3 h2 h4
      exact post_last c X D i arg2 harg2 arg3 harg3 arg7 harg7 arg9 harg9 arg10 harg10 arg11 harg11 f2 f3 f7 o e h3 _ _ v.1
        (fun q => by rw [v.2, if_neg (fun h => h4 ((cond4_eq i).mpr h))])
  · have h3 : ¬ k0_cond3 i = 1#1 := fun h => e ((cond3_eq i).mp h)
    have h2 : ¬ k0_cond2 i = 1#1 := fun h => e ((cond2_eq i).mp h)
    by_cases h1 : cond1 i = 1#1
    · have v := runA_val c X D i arg2 harg2 arg3 harg3 arg7 harg7 arg9 harg9 arg10 harg10 arg11 harg11 f2 f3 f7 o h1 h3 h2
      have r := (runA c X D i arg2 harg2 arg3 harg3 arg7 harg7 arg9 harg9 arg10 harg10 arg11 harg11 f2 f3 f7 h1 h3 h2 o).2
      generalize (runA c X D i arg2 harg2 arg3 harg3 arg7 harg7 arg9 harg9 arg10 harg10 arg11 harg11 f2 f3 f7 h1 h3 h2 o).1 = z at v r
      exact ⟨_, r, post_first c X D i arg2 arg3 arg7 arg9 arg10 arg11 f2 f3 f7 o ((bcond1_eq i).mp h1) z v⟩
    · have v := runB_val c X D i arg2 harg2 arg3 harg3 arg7 harg7 arg9 harg9 arg10 harg10 arg11 harg11 f2 f3 f7 o h1 h3 h2
      have r := (runB c X D i arg2 harg2 arg3 harg3 arg7 harg7 arg9 harg9 arg10 harg10 arg11 harg11 f2 f3 f7 h1 h3 h2 o).2
      generalize (runB c X D i arg2 harg2 arg3 harg3 arg7 harg7 arg9 harg9 arg10 harg10 arg11 harg11 f2 f3 f7 h1 h3 h2 o).1 = z at v r
      exact ⟨_, r, post_later c X D i arg2 arg3 arg7 arg9 arg10 arg11 f2 f3 f7 o (fun h => h1 ((bcond1_eq i).mpr h)) e z v⟩

end Body

end Cert.Proof.RmsInRing

end
-- ==== Proof.RmsInBlocks.lean ====
/-
  Where the blocks of the RMS-norm backward call lie in its arrays, and what its result windows hold after each grid point,
  in the arrays' own coordinates: point `t` takes row block `t / 5` and contraction block `t % 5`.
-/
module

public import proofs.«01_k».proof.Proof.RmsInBodyValue
public import proofs.«01_k».proof.Proof.BlockSums
public import proofs.«01_k».proof.Proof.Gen.RmsInIdeal.Frame

@[expose] public section

set_option maxRecDepth 16384

noncomputable section

namespace Cert.Proof.RmsInRing

open Cert.RmsInIdeal Cert.RmsInIdeal.Gen
open Idealize.ShloMosaic
open Idealize.ShloMosaic.TcCoe Idealize.ShloMosaic.Tactic
open Cert.Proof.RmsRows Cert.Proof.RowWindows Cert.Proof.BlockSums
open scoped BigOperators

variable (m : (ℓ : Loc nD τ sig) → Buf (Elt Ideal) ℓ)

theorem index_of : ∀ t : Fin grid0.N, win0_0.index t 0 = t.val / 5 ∧ win0_0.index t 1 = t.val % 5
    ∧ win0_1.index t 0 = t.val % 5 ∧ win0_1.index t 1 = 0 ∧ win0_2.index t 0 = 0 ∧ win0_2.index t 1 = 0
    ∧ win0_3.index t 0 = t.val / 5 ∧ win0_3.index t 1 = 0 ∧ win0_4.index t 0 = t.val / 5 ∧ win0_4.index t 1 = 0
    ∧ win0_5.index t 0 = 0 ∧ win0_5.index t 1 = 0 := by
  decide +kernel

theorem coords_of : ∀ t : Fin grid0.N, (grid0.coords t 0).val = t.val / 5 ∧ (grid0.coords t 1).val = t.val % 5 := by
  decide +kernel

theorem lt_pts (t : Fin cfg0.N) : t.val < 40 := lt_of_lt_of_eq t.isLt (show cfg0.N = 40 from N_0)

/-- Row `p` of row block `b` (of eight). -/
def row (b : ℕ) (p : Fin 1024) : Fin 8192 := ⟨(1024 * b + p.val) % 8192, Nat.mod_lt _ (by decide)⟩

theorem row_val (b : ℕ) (h : b < 8) (p : Fin 1024) : (row b p).val = 1024 * b + p.val := by
  have := p.isLt
  exact Nat.mod_eq_of_lt (by omega)

/-- Contraction index `k`'s contribution to entry `(p, q)` of a product. -/
def term (a : S8192x5120.Idx → EReal) (b : S5120x2048.Idx → EReal) (p : Fin 8192) (q : Fin 2048) (k : ℕ) : EReal :=
  if h : k < 5120 then a (ix2 p ⟨k, h⟩) * b (ix2 ⟨k, h⟩ q) else 0

variable (c : Dev nD)

abbrev a0V : S8192x5120.Idx → EReal := V m c main_arg0
abbrev b0V : S5120x2048.Idx → EReal := V m c main_arg1
abbrev xV : S8192x2048.Idx → EReal := V m c main_arg2
abbrev gV : S1x2048.Idx → EReal := V m c main_arg3
abbrev dV : S8192x2048.Idx → EReal := V m c main_arg4

theorem iblk0 (t : Fin cfg0.N) (p : Fin 1024) (k : Fin 1024) (hk : 1024 * (t.val % 5) + k.val < 5120) :
    iblk m c 0 t (ix2 p k) = a0V m c (ix2 (row (t.val / 5) p) ⟨1024 * (t.val % 5) + k.val, hk⟩) := by
  obtain ⟨e0, e1, -⟩ := index_of t
  have hb : t.val / 5 < 8 := by have := lt_pts t; omega
  refine (show _ = a0V m c ((win0_0.rect t).idx (ix2 p k)) from rfl).trans (congrArg _ ?_)
  refine Shape.idx_ext₂ ?_ ?_
  · show win0_0.index t 0 * 1024 + 1 * (p : ℕ) = (row (t.val / 5) p).val
    rw [e0, row_val _ hb]; omega
  · show win0_0.index t 1 * 1024 + 1 * (k : ℕ) = 1024 * (t.val % 5) + k.val
    rw [e1]; omega

theorem iblk1 (t : Fin cfg0.N) (k : Fin 1024) (q : Fin 2048) (hk : 1024 * (t.val % 5) + k.val < 5120) :
    iblk m c 1 t (ix2 k q) = b0V m c (ix2 ⟨1024 * (t.val % 5) + k.val, hk⟩ q) := by
  obtain ⟨-, -, e0, e1, -⟩ := index_of t
  refine (show _ = b0V m c ((win0_1.rect t).idx (ix2 k q)) from rfl).trans (congrArg _ ?_)
  refine Shape.idx_ext₂ ?_ ?_
  · show win0_1.index t 0 * 1024 + 1 * (k : ℕ) = 1024 * (t.val % 5) + k.val
    rw [e0]; omega
  · show win0_1.index t 1 * 2048 + 1 * (q : ℕ) = q
    rw [e1]; omega

theorem iblk2 (t : Fin cfg0.N) (q : Fin 2048) : iblk m c 2 t (ix2 (0 : Fin 1) q) = gV m c (ix2 (0 : Fin 1) q) := by
  obtain ⟨-, -, -, -, e0, e1, -⟩ := index_of t
  refine (show _ = gV m c ((win0_2.rect t).idx (ix2 (0 : Fin 1) q)) from rfl).trans (congrArg _ ?_)
  refine Shape.idx_ext₂ ?_ ?_
  · show win0_2.index t 0 * 1 + 1 * 0 = 0
    rw [e0]
  · show win0_2.index t 1 * 2048 + 1 * (q : ℕ) = q
    rw [e1]; omega

/-- The product's first `n` contraction blocks, at row block `b`. -/
def accV (b n : ℕ) (j : S1024x2048.Idx) : EReal :=
  blocks 1024 (term (a0V m c) (b0V m c) (row b (j 0)) (j 1)) n

theorem accV_zero (b : ℕ) : accV m c b 0 = fun _ => 0 := by
  funext j
  unfold accV blocks
  rw [Finset.range_zero, Finset.sum_empty]

/-- The products of a contraction block, in the arrays' coordinates. -/
theorem block_sum (n : ℕ) (hn : n < 5) (a : S1024x1024.Idx → EReal) (b : S1024x2048.Idx → EReal) (A : S8192x5120.Idx → EReal) (B : S5120x2048.Idx → EReal)
    (p : Fin 1024) (P : Fin 8192) (q : Fin 2048) (ha : ∀ (k : Fin 1024) (hk : 1024 * n + k.val < 5120), a (ix2 p k) = A (ix2 P ⟨1024 * n + k.val, hk⟩))
    (hb : ∀ (k : Fin 1024) (hk : 1024 * n + k.val < 5120), b (ix2 k q) = B (ix2 ⟨1024 * n + k.val, hk⟩ q)) :
    ∑ k : Fin 1024, a (ix2 p k) * b (ix2 k q) = ∑ k : Fin 1024, term A B P q (1024 * n + k.val) := by
  refine Finset.sum_congr rfl fun k _ => ?_
  have hk : 1024 * n + k.val < 5120 := by have := k.isLt; omega
  rw [ha k hk, hb k hk]
  unfold term; rw [dif_pos hk]

/-- A point adds its contraction block. -/
theorem acc_step (t : Fin cfg0.N) (b n : ℕ) (hb : b = t.val / 5) (hn : n = t.val % 5) :
    step (accV m c b n) (iblk m c 0 t) (iblk m c 1 t) = accV m c b (n + 1) := by
  subst hb hn
  have hn : t.val % 5 < 5 := Nat.mod_lt _ (by decide)
  funext j
  have e0 := block_sum (t.val % 5) hn (iblk m c 0 t) (iblk m c 1 t) (a0V m c) (b0V m c) (j 0) (row (t.val / 5) (j 0)) (j 1) (fun k hk => iblk0 m c t (j 0) k hk) (fun k hk => iblk1 m c t k (j 1) hk)
  unfold step
  rw [e0]
  unfold accV
  rw [blocks_succ]

/-- The gradient of the norm's input at row block `b`. -/
def dxV (b : ℕ) (j : S1024x2048.Idx) : EReal :=
  newDx (fun u => xV m c (ix2 (row b (j 0)) u)) (fun u => gV m c (ix2 (0 : Fin 1) u)) (fun u => accV m c b 5 (ix2 (j 0) u)) (fun u => dV m c (ix2 (row b (j 0)) u)) (j 1)

/-- Row `p`'s contribution to the gradient of the gain. -/
def gainV (b : ℕ) (q : Fin 2048) (p : ℕ) : EReal :=
  if h : p < 1024 then gainTerm (fun u => xV m c (ix2 (row b ⟨p, h⟩) u)) (fun u => accV m c b 5 (ix2 (⟨p, h⟩ : Fin 1024) u)) q else 0

/-- The gradient of the gain over the first `n` row blocks. -/
def dgV (n : ℕ) (q : Fin 2048) : EReal := ∑ b ∈ Finset.range n, ∑ p ∈ Finset.range 1024, gainV m c b q p

theorem dgV_zero (q : Fin 2048) : dgV m c 0 q = 0 := Finset.sum_range_zero _

theorem dgV_succ (n : ℕ) (q : Fin 2048) : dgV m c (n + 1) q = dgV m c n q + ∑ p ∈ Finset.range 1024, gainV m c n q p :=
  Finset.sum_range_succ _ _

theorem rowOf_eq (Y : S8192x2048.Idx → EReal) (t : Fin cfg0.N) (p : Fin 1024) :
    rowOf Y (grid0.coords t) p = fun u => Y (ix2 (row (t.val / 5) p) u) := by
  funext u
  have hb : t.val / 5 < 8 := by have := lt_pts t; omega
  unfold rowOf
  refine congrArg Y (Shape.idx_ext₂ ?_ rfl)
  show 1024 * (grid0.coords t 0).val + p.val = (row (t.val / 5) p).val
  rw [(coords_of t).1, row_val _ hb]

end Cert.Proof.RmsInRing

end
-- ==== Proof.RmsInPhi.lean ====
/-
  What the RMS-norm backward call holds between two grid points, in two readings: the launch's (two scratch
  arrays, four semaphores at zero, two arrays in HBM) and the chunk loop's (64 chunks of each array, two slots of
  each scratch array).
-/
module

public import proofs.«01_k».proof.Proof.RmsInBody
public import proofs.«01_k».proof.Proof.Gen.RmsInIdeal.Frame

@[expose] public section

set_option maxRecDepth 16384

noncomputable section

namespace Cert.Proof.RmsInRing

open Cert.RmsInIdeal Cert.RmsInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (m : (ℓ : Loc nD τ sig) → Buf (Elt F) ℓ)

/-- The call's four semaphores: slot by ring. -/
abbrev osem : Fin 4 → SemLoc sig := ![.dma (sem 0 0).sem, .dma (sem 0 1).sem, .dma (sem 1 0).sem, .dma (sem 1 1).sem]
theorem ownSemFacts : Pipeline.OwnSemFacts spec0 osem := by decide

/-- The two arrays the call copies from HBM by itself. -/
abbrev hbm : Finset (Ref sig .tc) := {main_arg2, main_arg4}
theorem hbm_sub : hbm ⊆ Pipeline.restRefs sig spec0 := by
  intro b hb
  rcases Finset.mem_insert.mp hb with rfl | hb
  · exact Pipeline.mem_restRefs_of main_arg2 (by decide) (by decide)
  · rw [Finset.mem_singleton.mp hb]; exact Pipeline.mem_restRefs_of main_arg4 (by decide) (by decide)

/-- Chunk `b`'s elements and slot `s`'s. -/
abbrev chunkSet (b : Fin 64) : Finset S8192x2048.Idx := (Rect.unit (s := S8192x2048) (chunkOff b) S128x2048.size (chunkOff_inb b)).set
abbrev slotSet (s : Fin 2) : Finset S2x128x2048.Idx := (Rect.unit (s := S2x128x2048) (slotOff s) S1x128x2048.size (slotOff_inb s)).set

theorem mem_chunkSet (b : Fin 64) (y : S8192x2048.Idx) : y ∈ chunkSet b ↔ (y 0).val / 128 = b.val := by
  rw [Rect.mem_set_unit]
  have h1 : (y 1).val < 2048 := (y 1).isLt
  constructor
  · intro H; have a0 : 128 * b.val ≤ (y 0).val ∧ (y 0).val < 128 * b.val + 128 := H 0; omega
  · intro H i; fin_cases i
    · show 128 * b.val ≤ (y 0).val ∧ (y 0).val < 128 * b.val + 128; omega
    · show 0 ≤ (y 1).val ∧ (y 1).val < 0 + 2048; omega
theorem mem_slotSet (s : Fin 2) (y : S2x128x2048.Idx) : y ∈ slotSet s ↔ (y 0).val = s.val := by
  rw [Rect.mem_set_unit]
  have h1 : (y 1).val < 128 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 2048; omega
theorem chunkSet_disjoint : ∀ b b' : Fin 64, b ≠ b' → Disjoint (chunkSet b) (chunkSet b') := by
  intro b b' hne; rw [Finset.disjoint_left]; intro y hy hy'; rw [mem_chunkSet] at hy hy'; exact hne (Fin.ext (hy.symm.trans hy'))
theorem chunkSet_cover : (Finset.univ : Finset (Fin 64)).biUnion chunkSet = Finset.univ := by
  ext y
  simp only [Finset.mem_biUnion, Finset.mem_univ, true_and, iff_true]
  have h0 : (y 0).val < 8192 := (y 0).isLt
  exact ⟨⟨(y 0).val / 128, by omega⟩, by rw [mem_chunkSet]⟩
theorem slotSet_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 2)).biUnion slotSet = Finset.univ := by
  ext y
  simp only [Finset.mem_biUnion, Finset.mem_univ, true_and, iff_true]
  have h0 : (y 0).val < 2 := (y 0).isLt
  exact ⟨⟨(y 0).val, h0⟩, by rw [mem_slotSet]⟩

theorem xchunk_set (b : Fin 64) : (chunk xM b).view.set = chunkSet b := View.set_slice_whole _ _
theorem dchunk_set (b : Fin 64) : (chunk dM b).view.set = chunkSet b := View.set_slice_whole _ _
theorem xslot_set (s : Fin 2) : (slot xB s).view.set = slotSet s := (View.set_reshape _ _).trans (View.set_slice_whole _ _)
theorem dslot_set (s : Fin 2) : (slot dB s).view.set = slotSet s := (View.set_reshape _ _).trans (View.set_slice_whole _ _)

/-- Each array whole is its 64 chunks. -/
theorem x_eq (c : Dev nD) (X : Buf (Elt F) (xM.view.loc (c : Thread nD τ))) :
    (((c : Thread nD τ).loc main_arg2) ↦{fullShare} X : sProp 𝕄) = bigSep Finset.univ (homeP c xM X) := by
  rw [Ring.pointsTo_blocks (ℓ := (c : Thread nD τ).loc main_arg2) chunkSet chunkSet_disjoint chunkSet_cover]
  exact bigSep_congr fun b _ => by rw [← xchunk_set]; rfl
theorem d_eq (c : Dev nD) (D : Buf (Elt F) (dM.view.loc (c : Thread nD τ))) :
    (((c : Thread nD τ).loc main_arg4) ↦{fullShare} D : sProp 𝕄) = bigSep Finset.univ (homeP c dM D) := by
  rw [Ring.pointsTo_blocks (ℓ := (c : Thread nD τ).loc main_arg4) chunkSet chunkSet_disjoint chunkSet_cover]
  exact bigSep_congr fun b _ => by rw [← dchunk_set]; rfl

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

theorem xslot_eq (c : Dev nD) (s : Fin 2) (f) : slotP (F := F) c xB s f = (((c : Thread nD τ).loc cc0_scratch0) ↦[slotSet s]{fullShare} f : sProp 𝕄) :=
  congrArg (fun S => (_ ↦[S]{fullShare} f : sProp 𝕄)) (xslot_set s)
theorem dslot_eq (c : Dev nD) (s : Fin 2) (f) : slotP (F := F) c dB s f = (((c : Thread nD τ).loc cc0_scratch1) ↦[slotSet s]{fullShare} f : sProp 𝕄) :=
  congrArg (fun S => (_ ↦[S]{fullShare} f : sProp 𝕄)) (dslot_set s)

/-- Each scratch array whole is its two slots, and back. -/
theorem xbuf_split (c : Dev nD) :
    iprop(∃ f : Buf (Elt F) ((c : Thread nD τ).loc cc0_scratch0), ((c : Thread nD τ).loc cc0_scratch0) ↦{fullShare} f)
      ⊢ (iprop((∃ f, slotP (F := F) c xB 0 f) ∗ ∃ f, slotP (F := F) c xB 1 f) : sProp 𝕄) := by
  iintro ⟨%f, H⟩
  ihave H2 := (Entails.of_eq ((Ring.pointsTo_blocks (Ix := Unit) (Name := ℕ) (U := UD sig nD τ) (Lvl := ℕ) (q := fullShare) (ℓ := (c : Thread nD τ).loc cc0_scratch0) slotSet slotSet_disjoint slotSet_cover f).trans (bigSep_fin2 _))) $$ H
  icases H2 with ⟨H0, H1⟩
  isplitl [H0]
  · iexists f; iapply (Entails.of_eq (xslot_eq c 0 f).symm); iexact H0
  · iexists f; iapply (Entails.of_eq (xslot_eq c 1 f).symm); iexact H1
theorem xbuf_join (c : Dev nD) :
    iprop((∃ f, slotP (F := F) c xB 0 f) ∗ ∃ f, slotP (F := F) c xB 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) slotSet slotSet_disjoint slotSet_cover f0)
  irw [bigSep_fin2]
  isplitl [H0]
  · iexists f0; iapply (Entails.of_eq (xslot_eq c 0 f0)); iexact H0
  · iexists f1; iapply (Entails.of_eq (xslot_eq c 1 f1)); iexact H1
theorem dbuf_split (c : Dev nD) :
    iprop(∃ f : Buf (Elt F) ((c : Thread nD τ).loc cc0_scratch1), ((c : Thread nD τ).loc cc0_scratch1) ↦{fullShare} f)
      ⊢ (iprop((∃ f, slotP (F := F) c dB 0 f) ∗ ∃ f, slotP (F := F) c dB 1 f) : sProp 𝕄) := by
  iintro ⟨%f, H⟩
  ihave H2 := (Entails.of_eq ((Ring.pointsTo_blocks (Ix := Unit) (Name := ℕ) (U := UD sig nD τ) (Lvl := ℕ) (q := fullShare) (ℓ := (c : Thread nD τ).loc cc0_scratch1) slotSet slotSet_disjoint slotSet_cover f).trans (bigSep_fin2 _))) $$ H
  icases H2 with ⟨H0, H1⟩
  isplitl [H0]
  · iexists f; iapply (Entails.of_eq (dslot_eq c 0 f).symm); iexact H0
  · iexists f; iapply (Entails.of_eq (dslot_eq c 1 f).symm); iexact H1
theorem dbuf_join (c : Dev nD) :
    iprop((∃ f, slotP (F := F) c dB 0 f) ∗ ∃ f, slotP (F := F) c dB 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) slotSet slotSet_disjoint slotSet_cover f0)
  irw [bigSep_fin2]
  isplitl [H0]
  · iexists f0; iapply (Entails.of_eq (dslot_eq c 0 f0)); iexact H0
  · iexists f1; iapply (Entails.of_eq (dslot_eq c 1 f1)); iexact H1

theorem ownSems0_eq (c : Dev nD) : (Pipeline.ownSems0 (Ix := Unit) (Name := ℕ) (U := UD sig nD τ) (Lvl := ℕ) (Val := Elt F) (τ := τ) osem c : sProp 𝕄)
    = iprop(cellP c 0 0 ∗ cellP c 0 1 ∗ cellP c 1 0 ∗ cellP c 1 1) := by
  unfold Pipeline.ownSems0; rw [bigSep_fin4]; rfl

theorem hbm_eq (c : Dev nD) : (bigSep hbm (fun b => ((c.tc : Thread nD τ).loc b) ↦{fullShare} V m c b) : sProp 𝕄)
    = iprop((((c : Thread nD τ).loc main_arg2) ↦{fullShare} V m c main_arg2) ∗ (((c : Thread nD τ).loc main_arg4) ↦{fullShare} V m c main_arg4)) := by
  rw [show hbm = insert main_arg2 {main_arg4} from rfl, bigSep_insert (by decide), bigSep_singleton]
  rfl

/-- What is held between points, as the launch spells it. -/
abbrev Φ (c : Dev nD) : sProp 𝕄 := Pipeline.ΦD osem spec0 hbm (V m) c

theorem Φ_open (c : Dev nD) : Φ m c ⊢ iprop((∃ r, prngReg c r) ∗ ringOff c (V m c main_arg2) (V m c main_arg4)) := by
  unfold Φ ringOff
  rw [Pipeline.ΦD_eq, scopedRest0_eq, ownSems0_eq, hbm_eq, x_eq, d_eq]
  iintro ⟨⟨Hx, Hd⟩, Hr, ⟨H00, H01, H10, H11⟩, HX, HD⟩
  icases (xbuf_split c) $$ Hx with ⟨Hx0, Hx1⟩
  icases (dbuf_split c) $$ Hd with ⟨Hd0, Hd1⟩
  isplitl [Hr]; · iexact Hr
  isplitl [HX]; · iexact HX
  isplitl [HD]; · iexact HD
  isplitl [Hx0]; · iexact Hx0
  isplitl [Hx1]; · iexact Hx1
  isplitl [Hd0]; · iexact Hd0
  isplitl [Hd1]; · iexact Hd1
  isplitl [H00]; · iexact H00
  isplitl [H01]; · iexact H01
  isplitl [H10]; · iexact H10
  iexact H11

theorem Φ_close (c : Dev nD) : iprop((∃ r, prngReg c r) ∗ ringOff c (V m c main_arg2) (V m c main_arg4)) ⊢ Φ m c := by
  unfold Φ ringOff
  rw [Pipeline.ΦD_eq, scopedRest0_eq, ownSems0_eq, hbm_eq, x_eq, d_eq]
  iintro ⟨Hr, HX, HD, Hx0, Hx1, Hd0, Hd1, H00, H01, H10, H11⟩
  isplitl [Hx0 Hx1 Hd0 Hd1]
  · isplitl [Hx0 Hx1]
    · iapply (xbuf_join c)
      isplitl [Hx0]; · iexact Hx0
      iexact Hx1
    iapply (dbuf_join c)
    isplitl [Hd0]; · iexact Hd0
    iexact Hd1
  isplitl [Hr]; · iexact Hr
  isplitl [H00 H01 H10 H11]
  · isplitl [H00]; · iexact H00
    isplitl [H01]; · iexact H01
    isplitl [H10]; · iexact H10
    iexact H11
  isplitl [HX]; · iexact HX
  iexact HD

/-- A run of the body used with a continuation. -/
theorem runs_wand (c : Dev nD) (X : Buf (Elt F) (xM.view.loc (c : Thread nD τ))) (D : Buf (Elt F) (dM.view.loc (c : Thread nD τ)))
    (i : grid0.Coords)
    (arg2 : Memref sig .tc .vmem S1024x1024 .bf16) (harg2 : arg2.IsWhole) (arg3 : Memref sig .tc .vmem S1024x2048 .bf16) (harg3 : arg3.IsWhole)
    (arg7 : Memref sig .tc .vmem S1x2048 .f32) (harg7 : arg7.IsWhole)
    (arg9 : Memref sig .tc .vmem S1024x2048 .f32) (harg9 : arg9.IsWhole)
    (arg10 : Memref sig .tc .vmem S1024x2048 .bf16) (harg10 : arg10.IsWhole)
    (arg11 : Memref sig .tc .vmem S1x2048 .f32) (harg11 : arg11.IsWhole)
    (f2 : Buf (Elt F) (arg2.view.loc (c : Thread nD τ))) (f3 : Buf (Elt F) (arg3.view.loc (c : Thread nD τ)))
    (f7 : Buf (Elt F) (arg7.view.loc (c : Thread nD τ))) (o o' : Outs (F := F) c arg9 arg10 arg11)
    (h : Runs c X D i arg2 harg2 arg3 harg3 arg7 harg7 arg9 harg9 arg10 harg10 arg11 harg11 f2 f3 f7 o o')
    (Q : PUnit → sProp 𝕄) :
    iprop((blocks2 c arg2 arg3 f2 f3 ∗ wins c arg7 arg9 arg10 arg11 f7 o.1 o.2.1 o.2.2 ∗ ringOff c X D)
        ∗ (∀ a, iprop(blocks2 c arg2 arg3 f2 f3 ∗ wins c arg7 arg9 arg10 arg11 f7 o'.1 o'.2.1 o'.2.2 ∗ ringOff c X D) -∗ Q a))
      ⊢ wp frame (wpE (defs₀ (F := F)) 𝒱₀ (c : Thread nD τ) none) Set.univ
        (bodyG i arg2 harg2 arg3 harg3 arg7 harg7 arg9 harg9 arg10 harg10 arg11 harg11) Q := by
  have e : ∀ (A A' B C : sProp 𝕄), (A ⊢ A') → (iprop(A' ∗ B) ⊢ C) → (iprop(A ∗ B) ⊢ C) := fun A A' B C h1 h2 => by
    refine BIBase.Entails.trans ?_ h2
    iintro ⟨HA, HB⟩
    isplitl [HA]; · iapply h1; iexact HA
    iexact HB
  exact e _ _ _ _ h (wp_wand_r _ _ _)

end Cert.Proof.RmsInRing

end
-- ==== Proof.RmsInFrame.lean ====
/-
  The frame of the RMS-norm backward call. Nothing is said of what it computes: every window's staging copy is held
  at some contents before and after the body, whose runs are RmsInBody's.
-/
module

public import proofs.«01_k».proof.Proof.RmsInPhi

@[expose] public section

set_option maxRecDepth 16384

noncomputable section

namespace Cert.Proof.RmsInRing

open Cert.RmsInIdeal Cert.RmsInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose UD)

variable {F : FTy → Type} [FloatOps F] [∀ e, Nonempty (Elt F e)]

local notation "𝕄" => MT nD τ sig Unit (Elt F) ℕ (UD sig nD τ) ℕ

variable (m : (ℓ : Loc nD τ sig) → Buf (Elt F) ℓ) (ρ : Dev nD → PrngReg)

theorem cond1_eq : ∀ i : grid0.Coords, cond1 i = 1#1 ↔ (i 1).val = 0 := by decide +kernel
theorem cond23_eq : ∀ i : grid0.Coords, k0_cond2 i = 1#1 ↔ k0_cond3 i = 1#1 := by decide +kernel
theorem cond13_eq : ∀ i : grid0.Coords, k0_cond3 i = 1#1 → ¬ cond1 i = 1#1 := by decide +kernel

/-- At every point the body runs, to some contents of the result windows. -/
theorem runs_some (c : Dev nD) (X : Buf (Elt F) (xM.view.loc (c : Thread nD τ))) (D : Buf (Elt F) (dM.view.loc (c : Thread nD τ)))
    (i : grid0.Coords)
    (arg2 : Memref sig .tc .vmem S1024x1024 .bf16) (harg2 : arg2.IsWhole) (arg3 : Memref sig .tc .vmem S1024x2048 .bf16) (harg3 : arg3.IsWhole)
    (arg7 : Memref sig .tc .vmem S1x2048 .f32) (harg7 : arg7.IsWhole)
    (arg9 : Memref sig .tc .vmem S1024x2048 .f32) (harg9 : arg9.IsWhole)
    (arg10 : Memref sig .tc .vmem S1024x2048 .bf16) (harg10 : arg10.IsWhole)
    (arg11 : Memref sig .tc .vmem S1x2048 .f32) (harg11 : arg11.IsWhole)
    (f2 : Buf (Elt F) (arg2.view.loc (c : Thread nD τ))) (f3 : Buf (Elt F) (arg3.view.loc (c : Thread nD τ)))
    (f7 : Buf (Elt F) (arg7.view.loc (c : Thread nD τ))) (o : Outs (F := F) c arg9 arg10 arg11) :
    ∃ o' : Outs (F := F) c arg9 arg10 arg11, Runs c X D i arg2 harg2 arg3 harg3 arg7 harg7 arg9 harg9 arg10 harg10 arg11 harg11 f2 f3 f7 o o' := by
  by_cases h3 : k0_cond3 i = 1#1
  · have h2 := (cond23_eq i).mpr h3
    have h1 := cond13_eq i h3
    by_cases h4 : k0_cond4 i = 1#1
    · exact ⟨_, (runC c X D i arg2 harg2 arg3 harg3 arg7 harg7 arg9 harg9 arg10 harg10 arg11 harg11 f2 f3 f7 h1 h3 h2 h4 o).2⟩
    · exact ⟨_, (runD c X D i arg2 harg2 arg3 harg3 arg7 harg7 arg9 harg9 arg10 harg10 arg11 harg11 f2 f3 f7 h1 h3 h2 h4 o).2⟩
  · have h2 : ¬ k0_cond2 i = 1#1 := fun h => h3 ((cond23_eq i).mp h)
    by_cases h1 : cond1 i = 1#1
    · exact ⟨_, (runA c X D i arg2 harg2 arg3 harg3 arg7 harg7 arg9 harg9 arg10 harg10 arg11 harg11 f2 f3 f7 h1 h3 h2 o).2⟩
    · exact ⟨_, (runB c X D i arg2 harg2 arg3 harg3 arg7 harg7 arg9 harg9 arg10 harg10 arg11 harg11 f2 f3 f7 h1 h3 h2 o).2⟩

/-- A window held at given contents is owned at some. -/
theorem owns_some (c : Dev nD) {sp : Space} {sh : Shape} {e : EltTy} (w : Memref sig .tc sp sh e) (f : Buf (Elt F) (w.view.loc (c : Thread nD τ))) :
    (w.view.loc (c : Thread nD τ) ↦[w.view.set]{fullShare} f : sProp 𝕄) ⊢ iprop(∃ X, ∃ g, ⌜w.view.read (Elt F) g = X⌝ ∗ (w.view.loc (c : Thread nD τ) ↦[w.view.set]{fullShare} g)) := by
  iintro H
  iexists _; iexists f
  isplitr
  · ipureintro; rfl
  iexact H

/-- Every window is forgotten: nothing is said of its contents. -/
abbrev fgt : Fin cfg0.W → Bool := fun _ => true

/-- The proof data of the frame alone. -/
def fdats (_ : Fin 1) (c : Dev nD) : Dat τ (Elt F) Unit ℕ (UD sig nD τ) ℕ cfg0 c where
  A w := V m c (Pipeline.arrRef spec0 w)
  after w t := Dat.unnamed (cfg := cfg0) w t
  Φ _ := Φ m c
  q _ := fullShare
  owed _ := 0

def fPre (c : Dev nD) (t : Fin cfg0.N) : sProp 𝕄 :=
  iprop((fdats m 0 c).Φ t.castSucc ∗ (fdats m 0 c).owesAt () t.castSucc
    ∗ (∃ X, owns (c : Thread nD τ) (win0_0.stage (cfg0.slots t 0)) fullShare X)
    ∗ (∃ X, owns (c : Thread nD τ) (win0_1.stage (cfg0.slots t 1)) fullShare X)
    ∗ (∃ X, owns (c : Thread nD τ) (win0_2.stage (cfg0.slots t 2)) fullShare X)
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X))

set_option maxHeartbeats 1000000 in
theorem f_body (c : Dev nD) (t : Fin cfg0.N) :
    fPre m c t ⊢ wp frame (wpE (defs₀ (F := F)) Variants.none c none) Set.univ (bodyAt0 t) (fun _ => fPre m c t) := by
  unfold fPre bodyAt0
  rw [show (fdats m 0 c).Φ t.castSucc = Φ m c from rfl]
  unfold Pipeline.Dat.owesAt Pipeline.owesWithin owns
  rw [show (fdats m 0 c).owed t.castSucc = 0 from rfl]
  iintro ⟨HΦ, ⟨%W, -, HW⟩, ⟨%_, %f0, -, H0⟩, ⟨%_, %f1, -, H1⟩, ⟨%_, %f2, -, H2⟩, ⟨%_, %f3, -, H3⟩, ⟨%_, %f4, -, H4⟩, ⟨%_, %f5, -, H5⟩⟩
  icases (Φ_open m c) $$ HΦ with ⟨Hr, HR⟩
  obtain ⟨o', ho⟩ := runs_some c (V m c main_arg2) (V m c main_arg4) (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) f0 f1 f2 (f3, f4, f5)
  iapply (runs_wand (h := ho))
  isplitl [HR H0 H1 H2 H3 H4 H5 HW]
  · isplitl [H0 H1]
    · isplitl [H0]; · iexact H0
      iexact H1
    isplitl [H2 H3 H4 H5 HW]
    · isplitl [H2]; · iexact H2
      isplitl [H3]; · iexact H3
      isplitl [H4]; · iexact H4
      isplitl [H5]; · iexact H5
      iexists W; iexact HW
    iexact HR
  iintro %_ ⟨⟨H0, H1⟩, ⟨H2, H3, H4, H5, ⟨%W', HW⟩⟩, HR⟩
  isplitl [Hr HR]
  · iapply (Φ_close m c)
    isplitl [Hr]; · iexact Hr
    iexact HR
  isplitl [HW]
  · iexists W'; isplitr; · ipureintro; exact fun _ _ => Or.inl trivial
    iexact HW
  isplitl [H0]; · iapply (owns_some c _ _); iexact H0
  isplitl [H1]; · iapply (owns_some c _ _); iexact H1
  isplitl [H2]; · iapply (owns_some c _ _); iexact H2
  isplitl [H3]; · iapply (owns_some c _ _); iexact H3
  isplitl [H4]; · iapply (owns_some c _ _); iexact H4
  iapply (owns_some c _ _); iexact H5

theorem defs₀_row (t : Fin cfg0.N) : defs₀ (F := F) .tc cfg0.body (cfg0.bodyArgs t (cfg0.slots t)) = bodyAt0 t := by
  unfold defs₀; rw [Defs.onTc_tc]

theorem f_obligation (c : Dev nD) :
    BodyObligationLoose (fdats (F := F) m 0 c) (defs₀ (F := F)) Variants.none () Set.univ fgt := fun t =>
  triple_restated (f_body m c t) (by rw [defs₀_row]) (by rw [bigSep_W0]; exact .rfl) (fun _ => by rw [bigSep_W0]; exact .rfl)

/-- @main up to the call, over this proof's algebra. -/
theorem hmainD : Pipeline.HMain (Ix := Unit) (Name := ℕ) (U := UD sig nD τ) (Lvl := ℕ) cfgs 0 defs₀ Variants.none m (main (F := F)) (V m) :=
  Pipeline.hmain_region cfgs 0 defs₀ Variants.none m main fun c => (main_chain c).trans rfl

set_option backward.isDefEq.respectTransparency.types false in
theorem f_run :
    θ_run defs (onTc (τ := τ) (main (F := F))) (s₀ m ρ)
      (fun r => Pipeline.RDat.FramePost (cfgs 0) (fun c => (fdats m 0 c).toRForget fgt) (V m) r ∧ r.2.sem = fun _ => 0) :=
  Pipeline.θ_run_frame_dma_forget (Q' := _) cfgs (fdats m) (0 : Fin 1) launch0 osem defs₀ Variants.none fgt ownSemFacts hbm hbm_sub m ρ main
    (hbody := fun c => f_obligation m c)
    (hshare := fun c => (fdats m 0 c).share_full fun _ => rfl)
    (howed := fun _ _ => rfl) (V := V m)
    (hmain := hmainD m) (hA := fun _ _ => rfl) (hin := fun _ => .rfl) (hout := fun _ => .rfl)

variable {m} in
theorem f_kept {r : PUnit × MemSt nD τ sig (Elt F)}
    (h : Pipeline.RDat.FramePost (cfgs 0) (fun c => (fdats m 0 c).toRForget fgt) (V m) r) (c : Dev nD) (w : Fin cfg0.W)
    (hin : (cfg0.win w).isOut = false) : r.2.mem ((cfg0.spec w).arr.view.loc (c.tc : Thread nD τ)) = (fdats m 0 c).A w :=
  Pipeline.RDat.FramePost.arr_in h c w hin

set_option maxHeartbeats 4000000 in
/-- The frame: the call terminates, its arguments are unchanged, and every counter is zero at the end. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨f_kept h.1 c 0 rfl, f_kept h.1 c 1 rfl,
      (h.1 c).2 main_arg2 (Pipeline.mem_restRefs_of main_arg2 (by decide) (by decide)), f_kept h.1 c 2 rfl,
      (h.1 c).2 main_arg4 (Pipeline.mem_restRefs_of main_arg4 (by decide) (by decide))⟩, h.2⟩) (f_run m ρ)

end Cert.Proof.RmsInRing

end
-- ==== Proof.RmsInDat.lean ====
/-
  The RMS-norm backward call's run with its values: what each result window holds after each grid point, and that the body leaves it.
-/
module

public import proofs.«01_k».proof.Proof.RmsInBlocks
public import proofs.«01_k».proof.Proof.RmsInFrame
public import Idealize.ShloMosaic.Lib.Pipeline.TableIdle

@[expose] public section

set_option maxRecDepth 16384

noncomputable section

namespace Cert.Proof.RmsInRing

open Cert.RmsInIdeal Cert.RmsInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose UD)
open Cert.Proof.RmsRows Cert.Proof.RowWindows Cert.Proof.BlockSums
open scoped BigOperators

local notation "𝕄" => MT nD τ sig Unit (Elt Ideal) ℕ (UD sig nD τ) ℕ

variable (m : (ℓ : Loc nD τ sig) → Buf (Elt Ideal) ℓ) (ρ : Dev nD → PrngReg)

/-- The first result's window: the product so far, and the finished block at the last point of a row block. -/
def aft3 (c : Dev nD) (t : ℕ) (j : S1024x2048.Idx) : EReal := if t % 5 = 4 then dxV m c (t / 5) j else accV m c (t / 5) (t % 5 + 1) j

/-- The gain's gradient over the row blocks that are finished. -/
def aft5 (c : Dev nD) (t : ℕ) (j : S1x2048.Idx) : EReal := dgV m c ((t + 1) / 5) (j 1)

/-- Half of the finished block. -/
def dxbV (c : Dev nD) (b : ℕ) (j : S1024x2048.Idx) : EReal := half * dxV m c b j

/-- The proof data: the inputs' windows hold their blocks, the results' what has just been said. -/
def dats (_ : Fin 1) (c : Dev nD) : Dat τ (Elt Ideal) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => aft3 m c t.val
    | ⟨4, _⟩ => dxbV m c (t.val / 5)
    | ⟨5, _⟩ => aft5 m c t.val
  Φ _ := Φ m c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = aft3 m c t.val := by dsimp only [dats]
theorem after4 (c : Dev nD) (t : Fin cfg0.N) : (dats m 0 c).after 4 t = dxbV m c (t.val / 5) := by dsimp only [dats]
theorem after5 (c : Dev nD) (t : Fin cfg0.N) : (dats m 0 c).after 5 t = aft5 m c t.val := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- The block's own window is stored at every point; the other two only at the last point of a row block. -/
theorem idle3 (t : Fin cfg0.N) : cfg0.idle 3 (cfg0.grid.coords t) = false := rfl
theorem idleRes : ∀ t : Fin grid0.N, (idle0 4 (grid0.coords t) = true ↔ t.val % 5 ≠ 4) ∧ (idle0 5 (grid0.coords t) = true ↔ t.val % 5 ≠ 4) := by decide +kernel
theorem idle4 (t : Fin cfg0.N) : cfg0.idle 4 (cfg0.grid.coords t) = true ↔ t.val % 5 ≠ 4 := (idleRes t).1
theorem idle5 (t : Fin cfg0.N) : cfg0.idle 5 (cfg0.grid.coords t) = true ↔ t.val % 5 ≠ 4 := (idleRes t).2

/-- After the first point of a row block its window holds what the point before left. -/
theorem before3 (c : Dev nD) (t : Fin cfg0.N) (ht : t.val % 5 ≠ 0) (d) : (dats m 0 c).before 3 t d = accV m c (t.val / 5) (t.val % 5) := by
  have h0 : t.val ≠ 0 := by omega
  rw [(dats m 0 c).before_out_traj 3 rfl (fun _ _ => rfl) (fun t _ h => absurd (h.symm.trans (idle3 t)) (by decide)) t.val t rfl d, if_neg, after3]
  · funext j
    unfold aft3
    rw [if_neg (show ¬ (t.val - 1) % 5 = 4 by omega), show (t.val - 1) / 5 = t.val / 5 by omega, show (t.val - 1) % 5 + 1 = t.val % 5 by omega]
  · obtain ⟨n, e⟩ : ∃ n, t.val = n + 1 := ⟨t.val - 1, by omega⟩
    have hn : n < cfg0.N := by have := t.isLt; omega
    rw [e, cfg0.fresh_succ 3 n hn, idle3, Bool.false_and, Bool.or_false, flush0_3]
    show ¬ n % 5 = 4
    omega

/-- Once a row block is finished the gain's window is no longer fresh. -/
theorem fresh5 : ∀ n, 5 ≤ n → n ≤ 39 → cfg0.fresh 5 n = false := by
  intro n
  induction n with
  | zero => intro h; omega
  | succ n ih =>
    intro h h'
    have hn : n < cfg0.N := by rw [show cfg0.N = 40 from N_0]; omega
    rw [cfg0.fresh_succ 5 n hn]
    have hf : (cfg0.win 5).flush ⟨n, hn⟩ = false := by
      rw [Bool.eq_false_iff, Ne, flush0_5]; show ¬ n % 40 = 39; omega
    rw [hf, Bool.false_or]
    by_cases e : n = 4
    · have hi : cfg0.idle 5 (cfg0.grid.coords ⟨n, hn⟩) = false := by
        rw [Bool.eq_false_iff, Ne, idle5]; show ¬ n % 5 ≠ 4; omega
      rw [hi, Bool.false_and]
    · rw [ih (by omega) (by omega), Bool.and_false]

theorem before5 (c : Dev nD) (t : Fin cfg0.N) (ht : 5 ≤ t.val) (d) : (dats m 0 c).before 5 t d = fun j : S1x2048.Idx => dgV m c (t.val / 5) (j 1) := by
  rw [(dats m 0 c).before_out_traj 5 rfl (fun _ _ => rfl) ?_ t.val t rfl d, fresh5 t.val ht (by have := lt_pts t; omega), if_neg Bool.false_ne_true, after5]
  · funext j
    unfold aft5
    rw [show t.val - 1 + 1 = t.val by omega]
  · intro s hs hi _
    have hi := (idle5 s).mp hi
    rw [after5, after5]
    funext j
    unfold aft5
    rw [show (s.val + 1) / 5 = (s.val - 1 + 1) / 5 by omega]

end Cert.Proof.RmsInRing

end
-- ==== Proof.RmsInRun.lean ====
/-
  The body keeps the proof data of RmsInDat at every grid point, and so the call runs to the arrays they say.
-/
module

public import proofs.«01_k».proof.Proof.RmsInDat

@[expose] public section

set_option maxRecDepth 16384

noncomputable section

namespace Cert.Proof.RmsInRing

open Cert.RmsInIdeal Cert.RmsInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose UD)
open Cert.Proof.RmsRows Cert.Proof.RowWindows Cert.Proof.BlockSums
open scoped BigOperators

local notation "𝕄" => MT nD τ sig Unit (Elt Ideal) ℕ (UD sig nD τ) ℕ

variable (m : (ℓ : Loc nD τ sig) → Buf (Elt Ideal) ℓ) (ρ : Dev nD → PrngReg)

section Vals
variable (c : Dev nD) (t : Fin cfg0.N)
  (arg2 : Memref sig .tc .vmem S1024x1024 .bf16) (arg3 : Memref sig .tc .vmem S1024x2048 .bf16) (arg4 : Memref sig .tc .vmem S1024x1024 .bf16)
  (arg5 : Memref sig .tc .vmem S1024x2048 .bf16) (arg7 : Memref sig .tc .vmem S1x2048 .f32) (arg9 : Memref sig .tc .vmem S1024x2048 .f32)
  (arg10 : Memref sig .tc .vmem S1024x2048 .bf16) (arg11 : Memref sig .tc .vmem S1x2048 .f32)
  (f2 : Buf (Elt Ideal) (arg2.view.loc (c : Thread nD τ))) (f3 : Buf (Elt Ideal) (arg3.view.loc (c : Thread nD τ)))
  (f7 : Buf (Elt Ideal) (arg7.view.loc (c : Thread nD τ))) (o o' : Outs (F := Ideal) c arg9 arg10 arg11)
  (h2 : arg2.view.read (Elt Ideal) f2 = iblk m c 0 t) (h3 : arg3.view.read (Elt Ideal) f3 = iblk m c 1 t)
  (h7 : arg7.view.read (Elt Ideal) f7 = iblk m c 2 t)
  (h9 : t.val % 5 ≠ 0 → arg9.view.read (Elt Ideal) o.1 = accV m c (t.val / 5) (t.val % 5))
  (h11 : 5 ≤ t.val → arg11.view.read (Elt Ideal) o.2.2 = fun j : S1x2048.Idx => dgV m c (t.val / 5) (j 1))
  (hp : Post c (V m c main_arg2) (V m c main_arg4) (grid0.coords t) arg2 arg3 arg7 arg9 arg10 arg11 f2 f3 f7 o o')

include h2 h3 in
theorem stepped_eq (P : S1024x2048.Idx → EReal) (hP : P = accV m c (t.val / 5) (t.val % 5)) :
    stepped c arg2 arg3 f2 f3 P = accV m c (t.val / 5) (t.val % 5 + 1) := by
  unfold stepped
  rw [h2, h3, hP]
  exact acc_step m c t _ _ rfl rfl

include h7 in
theorem newRow_eq (p : Fin 1024) (q : Fin 2048) :
    newRow c (V m c main_arg2) (V m c main_arg4) (grid0.coords t) arg7 f7 (accV m c (t.val / 5) 5) p q = dxV m c (t.val / 5) (ix2 p q) := by
  unfold newRow dxV
  refine newDx_congr ?_ ?_ rfl ?_ q
  · exact rowOf_eq (xV m c) t p
  · rw [h7]; funext u; exact iblk2 m c t u
  · exact rowOf_eq (dV m c) t p

theorem gterm_eq (q : Fin 2048) (p : ℕ) :
    gterm c (V m c main_arg2) (grid0.coords t) (accV m c (t.val / 5) 5) q p = gainV m c (t.val / 5) q p := by
  unfold gterm gainV
  split
  · exact gainTerm_congr (rowOf_eq (xV m c) t _) rfl q
  · rfl

include h2 h3 h7 h9 hp in
theorem post_3 : arg9.view.read (Elt Ideal) o'.1 = aft3 m c t.val := by
  obtain ⟨-, c1⟩ := coords_of t
  by_cases e : t.val % 5 = 4
  · funext j
    obtain ⟨p, q, rfl⟩ : ∃ p q, j = ix2 p q := ⟨j 0, j 1, eq_ix2 j⟩
    rw [hp.dx (by rw [c1, e]) p q, stepped_eq m c t arg2 arg3 f2 f3 h2 h3 _ (h9 (by omega)), e, newRow_eq m c t arg7 f7 h7]
    unfold aft3; rw [if_pos e]
  · refine Eq.trans ?_ (show accV m c (t.val / 5) (t.val % 5 + 1) = aft3 m c t.val from by funext j; unfold aft3; rw [if_neg e])
    by_cases z : t.val % 5 = 0
    · rw [hp.first (by rw [c1, z])]
      exact stepped_eq m c t arg2 arg3 f2 f3 h2 h3 _ (by rw [z, accV_zero])
    · rw [hp.later (by rw [c1]; exact z) (by rw [c1]; exact e)]
      exact stepped_eq m c t arg2 arg3 f2 f3 h2 h3 _ (h9 z)

include h2 h3 h7 h9 hp in
theorem post_4 (e : t.val % 5 = 4) : arg10.view.read (Elt Ideal) o'.2.1 = dxbV m c (t.val / 5) := by
  obtain ⟨-, c1⟩ := coords_of t
  funext j
  obtain ⟨p, q, rfl⟩ : ∃ p q, j = ix2 p q := ⟨j 0, j 1, eq_ix2 j⟩
  refine (hp.dxb (by rw [c1, e]) p q).trans ?_
  rw [stepped_eq m c t arg2 arg3 f2 f3 h2 h3 _ (h9 (by omega)), e, newRow_eq m c t arg7 f7 h7]
  rfl

include h2 h3 h9 h11 hp in
theorem post_5 (e : t.val % 5 = 4) : arg11.view.read (Elt Ideal) o'.2.2 = aft5 m c t.val := by
  obtain ⟨c0, c1⟩ := coords_of t
  funext j
  obtain ⟨p, q, rfl⟩ : ∃ (p : Fin 1) (q : Fin 2048), j = ix2 p q := ⟨j 0, j 1, eq_ix2 j⟩
  obtain rfl : p = 0 := Subsingleton.elim _ _
  refine (hp.dg (by rw [c1, e]) q).trans ?_
  rw [stepped_eq m c t arg2 arg3 f2 f3 h2 h3 _ (h9 (by omega)), e, c0]
  show _ = dgV m c ((t.val + 1) / 5) q
  rw [show (t.val + 1) / 5 = t.val / 5 + 1 by omega, dgV_succ]
  refine congrArg₂ (fun a b : EReal => a + b) ?_ (Finset.sum_congr rfl fun p _ => gterm_eq m c t q p)
  by_cases z : t.val / 5 = 0
  · rw [if_pos z, z, dgV_zero]
  · rw [if_neg z, h11 (by omega)]; rfl

end Vals

abbrev held (c : Dev nD) (t : Fin cfg0.N) (w : Fin cfg0.W) : sProp 𝕄 :=
  iprop(∃ d, owns (c : Thread nD τ) ((cfg0.win w).stage (cfg0.slots t w)) fullShare ((dats m 0 c).before w t d))

abbrev left (c : Dev nD) (t : Fin cfg0.N) (w : Fin cfg0.W) : sProp 𝕄 :=
  owns (c : Thread nD τ) ((cfg0.win w).stage (cfg0.slots t w)) fullShare ((dats m 0 c).after w t)

/-- A result window stored only at some points: as found where it is not. -/
def leftIdle (c : Dev nD) (t : Fin cfg0.N) (w : Fin cfg0.W) : sProp 𝕄 :=
  match cfg0.idle w (cfg0.grid.coords t) with
  | true => match (cfg0.win w).flush t with
    | false => held m c t w
    | true => left m c t w
  | false => left m c t w

theorem leftIdle_pos (c : Dev nD) (t : Fin cfg0.N) (w : Fin cfg0.W) (h : cfg0.idle w (cfg0.grid.coords t) = false) : left m c t w ⊢ leftIdle m c t w := by
  unfold leftIdle; rw [h]

theorem leftIdle_neg (c : Dev nD) (t : Fin cfg0.N) (w : Fin cfg0.W) (h : cfg0.idle w (cfg0.grid.coords t) = true) (hf : (cfg0.win w).flush t = false) :
    held m c t w ⊢ leftIdle m c t w := by
  unfold leftIdle; rw [h, hf]

def bPre (c : Dev nD) (t : Fin cfg0.N) : sProp 𝕄 :=
  iprop((dats m 0 c).Φ t.castSucc ∗ (dats m 0 c).owesAt () t.castSucc
    ∗ held m c t 0 ∗ held m c t 1 ∗ held m c t 2 ∗ held m c t 3 ∗ held m c t 4 ∗ held m c t 5)

def bPost (c : Dev nD) (t : Fin cfg0.N) : sProp 𝕄 :=
  iprop((dats m 0 c).Φ t.succ ∗ (dats m 0 c).owesAt () t.succ
    ∗ left m c t 0 ∗ left m c t 1 ∗ left m c t 2 ∗ left m c t 3 ∗ leftIdle m c t 4 ∗ leftIdle m c t 5)

theorem owns_read (c : Dev nD) {sp : Space} {sh : Shape} {e : EltTy} (w : Memref sig .tc sp sh e) (f : Buf (Elt Ideal) (w.view.loc (c : Thread nD τ))) (X)
    (h : w.view.read (Elt Ideal) f = X) : (w.view.loc (c : Thread nD τ) ↦[w.view.set]{fullShare} f : sProp 𝕄) ⊢ owns (c : Thread nD τ) w fullShare X := by
  iintro H
  unfold owns
  iexists f
  isplitr
  · ipureintro; exact h
  iexact H

theorem held_intro (c : Dev nD) (t : Fin cfg0.N) (w : Fin cfg0.W) (d) : owns (c : Thread nD τ) ((cfg0.win w).stage (cfg0.slots t w)) fullShare ((dats m 0 c).before w t d) ⊢ held m c t w := by
  iintro H
  iexists d
  iexact H

set_option maxHeartbeats 2000000 in
theorem body_at (c : Dev nD) (t : Fin cfg0.N) :
    bPre m c t ⊢ wp Idealize.ShloMosaic.frame (wpE (defs₀ (F := Ideal)) Variants.none c none) Set.univ (bodyAt0 t) (fun _ => bPost m c t) := by
  unfold bPre bodyAt0 held
  rw [show (dats m 0 c).Φ t.castSucc = Φ m c from rfl]
  unfold Pipeline.Dat.owesAt Pipeline.owesWithin owns
  rw [show (dats m 0 c).owed t.castSucc = 0 from rfl]
  iintro ⟨HΦ, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  icases (Φ_open m c) $$ HΦ with ⟨Hr, HR⟩
  rw [before0] at e0; rw [before1] at e1; rw [before2] at e2
  obtain ⟨o', ho, hp⟩ := runs_post c (V m c main_arg2) (V m c main_arg4) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) f0 f1 f2 (f3, f4, f5)
  have h9 : t.val % 5 ≠ 0 → (win0_3.stage (cfg0.slots t 3)).view.read (Elt Ideal) f3 = accV m c (t.val / 5) (t.val % 5) := fun h => e3.trans (before3 m c t h d3)
  have h11 : 5 ≤ t.val → (win0_5.stage (cfg0.slots t 5)).view.read (Elt Ideal) f5 = fun j : S1x2048.Idx => dgV m c (t.val / 5) (j 1) := fun h => e5.trans (before5 m c t h d5)
  have r3 := post_3 m c t _ _ _ _ _ _ f0 f1 f2 (f3, f4, f5) o' e0 e1 e2 h9 hp
  have r4 := post_4 m c t _ _ _ _ _ _ f0 f1 f2 (f3, f4, f5) o' e0 e1 e2 h9 hp
  have r5 := post_5 m c t _ _ _ _ _ _ f0 f1 f2 (f3, f4, f5) o' e0 e1 h9 h11 hp
  have k10 : t.val % 5 ≠ 4 → o'.2.1 = f4 := fun h => hp.keep10 (by rw [(coords_of t).2]; exact h)
  have k11 : t.val % 5 ≠ 4 → o'.2.2 = f5 := fun h => hp.keep11 (by rw [(coords_of t).2]; exact h)
  clear hp
  iapply (runs_wand (h := ho))
  isplitl [HR H0 H1 H2 H3 H4 H5 HW]
  · isplitl [H0 H1]
    · isplitl [H0]; · iexact H0
      iexact H1
    isplitl [H2 H3 H4 H5 HW]
    · isplitl [H2]; · iexact H2
      isplitl [H3]; · iexact H3
      isplitl [H4]; · iexact H4
      isplitl [H5]; · iexact H5
      iexists W; iexact HW
    iexact HR
  iintro %_ ⟨⟨H0, H1⟩, ⟨H2, H3, H4, H5, ⟨%W', HW⟩⟩, HR⟩
  unfold bPost
  rw [show (dats m 0 c).Φ t.succ = Φ m c from rfl]
  unfold Pipeline.Dat.owesAt Pipeline.owesWithin
  rw [show (dats m 0 c).owed t.succ = 0 from rfl]
  isplitl [Hr HR]
  · iapply (Φ_close m c)
    isplitl [Hr]; · iexact Hr
    iexact HR
  isplitl [HW]
  · iexists W'; isplitr; · ipureintro; exact fun _ _ => Or.inl trivial
    iexact HW
  isplitl [H0]; · iapply (owns_read c _ _ _ (e0.trans (after0 m c t).symm)); iexact H0
  isplitl [H1]; · iapply (owns_read c _ _ _ (e1.trans (after1 m c t).symm)); iexact H1
  isplitl [H2]; · iapply (owns_read c _ _ _ (e2.trans (after2 m c t).symm)); iexact H2
  isplitl [H3]; · iapply (owns_read c _ _ _ (r3.trans (after3 m c t).symm)); iexact H3
  by_cases e : t.val % 5 = 4
  · isplitl [H4]
    · iapply (leftIdle_pos m c t 4 (by rw [Bool.eq_false_iff, Ne, idle4]; exact fun h => h e))
      iapply (owns_read c _ _ _ ((r4 e).trans (after4 m c t).symm)); iexact H4
    · iapply (leftIdle_pos m c t 5 (by rw [Bool.eq_false_iff, Ne, idle5]; exact fun h => h e))
      iapply (owns_read c _ _ _ ((r5 e).trans (after5 m c t).symm)); iexact H5
  · isplitl [H4]
    · iapply (leftIdle_neg m c t 4 ((idle4 t).mpr e) (by rw [Bool.eq_false_iff, Ne, flush0_4]; exact e))
      iapply (held_intro m c t 4 d4)
      iapply (owns_read c _ _ _ ((congrArg _ (k10 e)).trans e4)); iexact H4
    · iapply (leftIdle_neg m c t 5 ((idle5 t).mpr e) (by rw [Bool.eq_false_iff, Ne, flush0_5]; omega))
      iapply (held_intro m c t 5 d5)
      iapply (owns_read c _ _ _ ((congrArg _ (k11 e)).trans e5)); iexact H5

theorem obligation (c : Dev nD) : BodyObligationLoose (dats m 0 c) (defs₀ (F := Ideal)) Variants.none () Set.univ := fun t =>
  triple_restated (body_at m c t) (by rw [defs₀_row]) (by rw [bigSep_W0]; exact .rfl) (fun _ => by rw [bigSep_W0]; exact .rfl)

set_option backward.isDefEq.respectTransparency.types false in
theorem run_main :
    θ_run defs (onTc (τ := τ) (main (F := Ideal))) (s₀ m ρ)
      (fun r => Pipeline.FramePost cfgs (dats m) (0 : Fin 1) (V m) r ∧ r.2.sem = fun _ => 0) :=
  Pipeline.θ_run_frame_dma (Q' := _) cfgs (dats m) (0 : Fin 1) launch0 osem defs₀ Variants.none ownSemFacts hbm hbm_sub m ρ main
    (hbody := fun c => obligation m c)
    (hshare := fun c => (dats m 0 c).share_full fun _ => rfl)
    (howed := fun _ _ => rfl) (V := V m)
    (hmain := hmainD m) (hA := fun _ _ => rfl) (hin := fun _ => .rfl) (hout := fun _ => .rfl)

end Cert.Proof.RmsInRing

end
-- ==== Proof.RmsInFinal.lean ====
/-
  The three arrays the RMS-norm backward call leaves, as functions of its arguments.
-/
module

public import proofs.«01_k».proof.Proof.RmsInRun

@[expose] public section

set_option maxRecDepth 16384

noncomputable section

namespace Cert.Proof.RmsInRing

open Cert.RmsInIdeal Cert.RmsInIdeal.Gen
open Idealize.ShloMosaic Idealize.SL.Sem
open Idealize.ShloMosaic.TcCoe Idealize.ShloMosaic.Tactic
open Idealize.ShloMosaic.Pipeline (Dat Cfg Window)
open Cert.Proof.RmsRows Cert.Proof.RowWindows Cert.Proof.BlockSums
open scoped BigOperators

/-- A row of the gradient of the norm's result: the product. -/
def back (a0 : S8192x5120.Idx → EReal) (b0 : S5120x2048.Idx → EReal) (p : Fin 8192) (q : Fin 2048) : EReal :=
  ∑ k : Fin 5120, a0 (ix2 p k) * b0 (ix2 k q)

/-- The gradient of the norm's input. -/
def resDx (a0 : S8192x5120.Idx → EReal) (b0 : S5120x2048.Idx → EReal)
    (x : S8192x2048.Idx → EReal) (g : S1x2048.Idx → EReal) (d : S8192x2048.Idx → EReal) (i : S8192x2048.Idx) : EReal :=
  newDx (fun u => x (ix2 (i 0) u)) (fun u => g (ix2 (0 : Fin 1) u)) (back a0 b0 (i 0)) (fun u => d (ix2 (i 0) u)) (i 1)

/-- The gradient of the gain: the rows' contributions. -/
def resDg (a0 : S8192x5120.Idx → EReal) (b0 : S5120x2048.Idx → EReal)
    (x : S8192x2048.Idx → EReal) (i : S1x2048.Idx) : EReal :=
  ∑ p : Fin 8192, gainTerm (fun u => x (ix2 p u)) (back a0 b0 p) (i 1)

variable (m : (ℓ : Loc nD τ sig) → Buf (Elt Ideal) ℓ) (ρ : Dev nD → PrngReg) (c : Dev nD)

theorem whole_sum (a : S8192x5120.Idx → EReal) (b : S5120x2048.Idx → EReal) (p : Fin 8192) (q : Fin 2048) :
    blocks 1024 (term a b p q) 5 = ∑ k : Fin 5120, a (ix2 p k) * b (ix2 k q) := by
  rw [blocks_eq_range, Finset.sum_range]
  refine Finset.sum_congr rfl fun k _ => ?_
  unfold term
  rw [dif_pos k.isLt]

theorem accV_all (b : ℕ) (p : Fin 1024) : (fun u => accV m c b 5 (ix2 p u)) = back (a0V m c) (b0V m c) (row b p) := by
  funext u
  unfold accV back
  rw [← whole_sum]
  rfl

abbrev outDx (c : Dev nD) : S8192x2048.Idx → EReal := resDx (a0V m c) (b0V m c) (xV m c) (gV m c) (dV m c)
/-- Half of the gradient of the norm's input. -/
abbrev outDxb (c : Dev nD) (i : S8192x2048.Idx) : EReal := half * outDx m c i
abbrev outDg (c : Dev nD) : S1x2048.Idx → EReal := resDg (a0V m c) (b0V m c) (xV m c)

theorem dxV_eq (b : ℕ) (p : Fin 1024) (q : Fin 2048) : dxV m c b (ix2 p q) = outDx m c (ix2 (row b p) q) := by
  unfold dxV outDx resDx
  exact newDx_congr rfl rfl (accV_all m c b p) rfl q

theorem dgV_all (q : Fin 2048) : dgV m c 8 q = outDg m c (ix2 (0 : Fin 1) q) := by
  have e : dgV m c 8 q = blocks 1024 (fun n => if h : n < 8192 then gainTerm (fun u => xV m c (ix2 (⟨n, h⟩ : Fin 8192) u)) (back (a0V m c) (b0V m c) ⟨n, h⟩) q else 0) 8 := by
    unfold dgV blocks
    refine Finset.sum_congr rfl fun b hb => ?_
    have hb := Finset.mem_range.mp hb
    rw [Finset.sum_range]
    refine Finset.sum_congr rfl fun p _ => ?_
    have h : 1024 * b + p.val < 8192 := by have := p.isLt; omega
    have hr : row b p = ⟨1024 * b + p.val, h⟩ := Fin.ext (row_val b hb p)
    refine Eq.trans ?_ (dif_pos h).symm
    unfold gainV
    rw [dif_pos p.isLt, ← hr]
    exact gainTerm_congr rfl (accV_all m c b p) q
  rw [e, blocks_eq_range, Finset.sum_range]
  refine Finset.sum_congr rfl fun p _ => ?_
  exact dif_pos p.isLt

/-!  The arrays at the end -/

theorem idx3 (t : Fin cfg0.N) (p : Fin 1024) (q : Fin 2048) : (win0_3.rect t).idx (ix2 p q) = ix2 (row (t.val / 5) p) q := by
  obtain ⟨-, -, -, -, -, -, e0, e1, -⟩ := index_of t
  have hb : t.val / 5 < 8 := by have := lt_pts t; omega
  refine Shape.idx_ext₂ ?_ ?_
  · show win0_3.index t 0 * 1024 + 1 * (p : ℕ) = (row (t.val / 5) p).val
    rw [e0, row_val _ hb]; omega
  · show win0_3.index t 1 * 2048 + 1 * (q : ℕ) = q
    rw [e1]; omega

theorem idx4 (t : Fin cfg0.N) (p : Fin 1024) (q : Fin 2048) : (win0_4.rect t).idx (ix2 p q) = ix2 (row (t.val / 5) p) q := by
  obtain ⟨-, -, -, -, -, -, -, -, e0, e1, -⟩ := index_of t
  have hb : t.val / 5 < 8 := by have := lt_pts t; omega
  refine Shape.idx_ext₂ ?_ ?_
  · show win0_4.index t 0 * 1024 + 1 * (p : ℕ) = (row (t.val / 5) p).val
    rw [e0, row_val _ hb]; omega
  · show win0_4.index t 1 * 2048 + 1 * (q : ℕ) = q
    rw [e1]; omega

theorem idx5 (t : Fin cfg0.N) (q : Fin 2048) : (win0_5.rect t).idx (ix2 (0 : Fin 1) q) = ix2 (0 : Fin 1) q := by
  obtain ⟨-, -, -, -, -, -, -, -, -, -, e0, e1⟩ := index_of t
  refine Shape.idx_ext₂ ?_ ?_
  · show win0_5.index t 0 * 1 + 1 * 0 = 0
    rw [e0]
  · show win0_5.index t 1 * 2048 + 1 * (q : ℕ) = q
    rw [e1]; omega

theorem flushed3 (t : Fin cfg0.N) (h : t.val % 5 = 4) : (dats m 0 c).flushed 3 t = (win0_3.blk t).view.read (Elt Ideal) (outDx m c) := by
  show (cfg0.win 3).cut (grid0.coords t) ((dats m 0 c).after 3 t) = _
  rw [after3]
  funext j
  obtain ⟨p, q, rfl⟩ : ∃ p q, j = ix2 p q := ⟨j 0, j 1, eq_ix2 j⟩
  refine (show _ = aft3 m c t.val (ix2 p q) from rfl).trans ?_
  unfold aft3
  rw [if_pos h]
  exact (dxV_eq m c _ p q).trans (congrArg (outDx m c) (idx3 t p q).symm)

theorem flushed4 (t : Fin cfg0.N) : (dats m 0 c).flushed 4 t = (win0_4.blk t).view.read (Elt Ideal) (outDxb m c) := by
  show (cfg0.win 4).cut (grid0.coords t) ((dats m 0 c).after 4 t) = _
  rw [after4]
  funext j
  obtain ⟨p, q, rfl⟩ : ∃ p q, j = ix2 p q := ⟨j 0, j 1, eq_ix2 j⟩
  exact (congrArg (fun z : EReal => half * z) (dxV_eq m c _ p q)).trans (congrArg (outDxb m c) (idx4 t p q).symm)

theorem flushed5 (t : Fin cfg0.N) (h : t.val % 40 = 39) : (dats m 0 c).flushed 5 t = (win0_5.blk t).view.read (Elt Ideal) (outDg m c) := by
  show (cfg0.win 5).cut (grid0.coords t) ((dats m 0 c).after 5 t) = _
  rw [after5]
  funext j
  obtain ⟨p, q, rfl⟩ : ∃ (p : Fin 1) (q : Fin 2048), j = ix2 p q := ⟨j 0, j 1, eq_ix2 j⟩
  obtain rfl : p = 0 := Subsingleton.elim _ _
  refine (show _ = dgV m c ((t.val + 1) / 5) q from rfl).trans ?_
  rw [show (t.val + 1) / 5 = 8 by have := lt_pts t; omega]
  exact (dgV_all m c q).trans (congrArg (outDg m c) (idx5 t q).symm)

/-- The last point of the row block an entry lies in. -/
theorem at_row (i : S8192x2048.Idx) : ∃ (t : Fin cfg0.N) (p : Fin 1024) (q : Fin 2048), t.val % 5 = 4 ∧ ix2 (row (t.val / 5) p) q = i := by
  have h0 : (i 0 : ℕ) < 8192 := (i 0).isLt
  have ht : (i 0 : ℕ) / 1024 * 5 + 4 < cfg0.N := by rw [show cfg0.N = 40 from N_0]; omega
  refine ⟨⟨_, ht⟩, ⟨(i 0 : ℕ) % 1024, by omega⟩, i 1, by show ((i 0 : ℕ) / 1024 * 5 + 4) % 5 = 4; omega, Shape.idx_ext₂ ?_ rfl⟩
  show (row (((i 0 : ℕ) / 1024 * 5 + 4) / 5) ⟨(i 0 : ℕ) % 1024, _⟩).val = (i 0 : ℕ)
  rw [row_val _ (by omega)]
  show 1024 * (((i 0 : ℕ) / 1024 * 5 + 4) / 5) + (i 0 : ℕ) % 1024 = (i 0 : ℕ)
  omega

theorem cover3 (i : S8192x2048.Idx) : ∃ t : Fin cfg0.N, (cfg0.win 3).flush t = true ∧ i ∈ ((cfg0.win 3).blk t).view.set := by
  obtain ⟨t, p, q, h, rfl⟩ := at_row i
  refine ⟨t, (flush0_3 t).mpr h, ?_⟩
  show ix2 (row (t.val / 5) p) q ∈ ((View.whole main_v0_0).slice (win0_3.rect t)).set
  rw [View.set_slice_whole, ← idx3]
  exact (win0_3.rect t).idx_mem _

theorem cover4 (i : S8192x2048.Idx) : ∃ t : Fin cfg0.N, (cfg0.win 4).flush t = true ∧ i ∈ ((cfg0.win 4).blk t).view.set := by
  obtain ⟨t, p, q, h, rfl⟩ := at_row i
  refine ⟨t, (flush0_4 t).mpr h, ?_⟩
  show ix2 (row (t.val / 5) p) q ∈ ((View.whole main_v0_1).slice (win0_4.rect t)).set
  rw [View.set_slice_whole, ← idx4]
  exact (win0_4.rect t).idx_mem _

theorem cover5 (i : S1x2048.Idx) : ∃ t : Fin cfg0.N, (cfg0.win 5).flush t = true ∧ i ∈ ((cfg0.win 5).blk t).view.set := by
  obtain ⟨t, q, h, rfl⟩ : ∃ (t : Fin cfg0.N) (q : Fin 2048), t.val % 40 = 39 ∧ ix2 (0 : Fin 1) q = i :=
    ⟨⟨39, by rw [show cfg0.N = 40 from N_0]; decide⟩, i 1, rfl, Shape.idx_ext₂ (by have : (i 0 : ℕ) < 1 := (i 0).isLt; show 0 = (i 0 : ℕ); omega) rfl⟩
  refine ⟨t, (flush0_5 t).mpr h, ?_⟩
  show ix2 (0 : Fin 1) q ∈ ((View.whole main_v0_2).slice (win0_5.rect t)).set
  rw [View.set_slice_whole, ← idx5 t]
  exact (win0_5.rect t).idx_mem _

theorem final3 : (dats m 0 c).arrAt 3 cfg0.N = outDx m c :=
  (dats m 0 c).arrAt_eq_of_cover 3 (outDx m c) (fun t hf => flushed3 m c t ((flush0_3 t).mp hf)) cover3

theorem final4 : (dats m 0 c).arrAt 4 cfg0.N = outDxb m c :=
  (dats m 0 c).arrAt_eq_of_cover 4 (outDxb m c) (fun t _ => flushed4 m c t) cover4

theorem final5 : (dats m 0 c).arrAt 5 cfg0.N = outDg m c :=
  (dats m 0 c).arrAt_eq_of_cover 5 (outDg m c) (fun t hf => flushed5 m c t ((flush0_5 t).mp hf)) cover5

variable {m} in
theorem arr_kept {r : PUnit × MemSt nD τ sig (Elt Ideal)} (h : Pipeline.FramePost cfgs (dats m) (0 : Fin 1) (V m) r) (c : Dev nD) (w : Fin cfg0.W)
    (hin : (cfg0.win w).isOut = false) : r.2.mem ((cfg0.spec w).arr.view.loc (c.tc : Thread nD τ)) = V m c (Pipeline.arrRef spec0 w) :=
  ((h c).1 w).trans (((dats m 0 c).arrAt_in w hin _).trans (A_eq m c w))

set_option maxHeartbeats 4000000 in
/-- The run, with its results. -/
theorem run_values : θ_run defs (onTc (τ := τ) (main (F := Ideal))) (s₀ m ρ) (fun r => ∀ c : Dev nD,
      r.2.mem ((c.tc : Thread nD τ).loc main_v0_0) = outDx m c
      ∧ r.2.mem ((c.tc : Thread nD τ).loc main_v0_1) = outDxb m c
      ∧ r.2.mem ((c.tc : Thread nD τ).loc main_v0_2) = outDg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 3).trans (final3 m c), ((h.1 c).1 4).trans (final4 m c), ((h.1 c).1 5).trans (final5 m c),
    arr_kept h.1 c 0 rfl, arr_kept h.1 c 1 rfl,
    (h.1 c).2 main_arg2 (Pipeline.mem_restRefs_of main_arg2 (by decide) (by decide)), arr_kept h.1 c 2 rfl,
    (h.1 c).2 main_arg4 (Pipeline.mem_restRefs_of main_arg4 (by decide) (by decide))⟩) (run_main m ρ)

end Cert.Proof.RmsInRing

end
-- ==== Proof.RmsInClaims.lean ====
/-
  The claims about the RMS norm's backward call for the in-projection: the frames, and that at the ideal instance it leaves what the chain rule
  leaves, of any arguments.
-/
module

public import proofs.«01_k».proof.Defs
public import proofs.«01_k».proof.Proof.RmsInFinal
public import proofs.«01_k».proof.Proof.RmsInFrame
public import proofs.«01_k».proof.Proof.Gen.RmsIn
public import proofs.«01_k».proof.Proof.RmsMath
public import proofs.«01_k».proof.Proof.Gen.RmsInRefIdeal.Run

@[expose] public section

set_option maxRecDepth 16384

noncomputable section

namespace Cert.Proof.RmsInClaims

open Idealize.ShloMosaic Idealize.SL.Sem
open Idealize.ShloMosaic.TcCoe
open Cert.Proof.RmsRows
open scoped BigOperators

/-- The program and its idealization have the same text at every float type, so the frame's proof, over any, serves both. -/
theorem same_bodies : (Cert.RmsIn.defs₀ (F := Bits)) = Cert.RmsInIdeal.defs₀ (F := Bits) := by
  unfold Cert.RmsIn.defs₀ Cert.RmsInIdeal.defs₀
  refine congrArg Defs.onTc ?_
  funext l x
  match l, x with
  | 0, (t, s) => rfl

theorem same_defs : (Cert.RmsIn.defs (F := Bits)) = Cert.RmsInIdeal.defs (F := Bits) := congrArg (Pipeline.defs _) same_bodies

theorem frame : Cert.quiescent_RmsIn := fun m ρ _ => by
  rw [same_defs]
  exact Cert.Proof.RmsInRing.frame (F := Bits) m ρ
theorem frame_i : Cert.quiescent_RmsInIdeal := fun m ρ _ => Cert.Proof.RmsInRing.frame m ρ
theorem frame_r : Cert.quiescent_RmsInRefIdeal := fun m ρ _ =>
  (θ_run Cert.RmsInRefIdeal.defs _ _).mono (fun r h => ⟨fun c => (h c).2.2.2, sem_eq_zero_of_no_sems (by decide) r.2⟩) (Cert.RmsInRefIdeal.Value.run (F := Ideal) m ρ)

section Reference
open Cert.RmsInRefIdeal Cert.RmsInRefIdeal.Gen

/-- The gradient of the norm's result. -/
theorem ref_dn (a0 : FVec Ideal S8192x5120 .bf16) (b0 : FVec Ideal S5120x2048 .bf16) (i : S8192x2048.Idx) :
    ((Host.dotGeneral dot_S8192x5120_S2048x5120_S8192x2048_1_1_0_0_n_n none (extf .f32 a0 bitsLt_bf16_f32) (transpose S2048x5120 [1, 0] (extf .f32 b0 bitsLt_bf16_f32) transposes_S5120x2048_S2048x5120_1_0)) : FVec Ideal S8192x2048 .f32) i = RmsInRing.back a0 b0 (i 0) (i 1) := by
  unfold RmsInRing.back
  pointwise

/-- The chain rule through the norm, in its input. -/
theorem ref_dx (x d : FVec Ideal S8192x2048 .f32) (g : FVec Ideal S1x2048 .f32) (dn : FVec Ideal S8192x2048 .f32) (i : S8192x2048.Idx) :
    (addf (addf (addf d (mulf (mulf dn (broadcastInDim S8192x2048 ![0, 1] bcast_S1x2048_S8192x2048_0_1 g)) (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))))))) (mulf x (broadcastInDim S8192x2048 ![0] bcast_S8192_S8192x2048_0 (Host.reduceAdd (Host.divf (mulf (shapeCast _ (Host.reduceAdd (mulf x (mulf dn (broadcastInDim S8192x2048 ![0, 1] bcast_S1x2048_S8192x2048_0_1 g))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x1 ![] bcast_S_S8192x1 (constant S_ .f32 0x45000000#32))) (constant S_ .f32 0x00000000#32) reducesTo_S8192x1_S8192_d1 h_S_)))) (mulf (broadcastInDim S8192x2048 ![0] bcast_S8192_S8192x2048_0 (Host.reduceAdd (Host.divf (mulf (shapeCast _ (Host.reduceAdd (mulf x (mulf dn (broadcastInDim S8192x2048 ![0, 1] bcast_S1x2048_S8192x2048_0_1 g))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x1 ![] bcast_S_S8192x1 (constant S_ .f32 0x45000000#32))) (constant S_ .f32 0x00000000#32) reducesTo_S8192x1_S8192_d1 h_S_)) x) : FVec Ideal S8192x2048 .f32) i
      = chainDx (fun u => x (ix2 (i 0) u)) (fun u => g (ix2 (0 : Fin 1) u)) (fun u => dn (ix2 (i 0) u)) (fun u => d (ix2 (i 0) u)) (i 1) := by
  obtain ⟨p, q, rfl⟩ : ∃ (p : Fin 8192) (q : Fin 2048), i = ix2 p q := ⟨i 0, i 1, eq_ix2 i⟩
  unfold chainDx meanTerm msq
  pointwise
  simp only [Fin.sum_univ_one]

/-- The chain rule through the norm, in its gain. -/
theorem ref_dg (x : FVec Ideal S8192x2048 .f32) (dn : FVec Ideal S8192x2048 .f32) (i : S1x2048.Idx) :
    (shapeCast _ (Host.reduceAdd (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) dn) (constant S_ .f32 0x00000000#32) reducesTo_S8192x2048_S2048_d0 h_S_) shapeCasts_S2048_S1x2048 : FVec Ideal S1x2048 .f32) i = ∑ p : Fin 8192, x (ix2 p (i 1)) * rinv (fun u => x (ix2 p u)) * dn (ix2 p (i 1)) := by
  unfold rinv
  pointwise

end Reference

theorem dx_eq (x d : Cert.RmsInIdeal.S8192x2048.Idx → EReal) (g : Cert.RmsInIdeal.S1x2048.Idx → EReal) (dn : Cert.RmsInIdeal.S8192x2048.Idx → EReal)
    (a0 : Cert.RmsInIdeal.S8192x5120.Idx → EReal) (b0 : Cert.RmsInIdeal.S5120x2048.Idx → EReal)
    (h : ∀ i, dn i = RmsInRing.back a0 b0 (i 0) (i 1)) (i : Cert.RmsInIdeal.S8192x2048.Idx) :
    chainDx (fun u => x (ix2 (i 0) u)) (fun u => g (ix2 (0 : Fin 1) u)) (fun u => dn (ix2 (i 0) u)) (fun u => d (ix2 (i 0) u)) (i 1)
      = RmsInRing.resDx a0 b0 x g d i := by
  unfold RmsInRing.resDx
  refine Eq.trans ?_ (newDx_eq _ _ _ _ _).symm
  exact congrArg (fun r => chainDx _ _ r _ _) (funext fun u => h (ix2 (i 0) u))

theorem dg_eq (x : Cert.RmsInIdeal.S8192x2048.Idx → EReal) (dn : Cert.RmsInIdeal.S8192x2048.Idx → EReal)
    (a0 : Cert.RmsInIdeal.S8192x5120.Idx → EReal) (b0 : Cert.RmsInIdeal.S5120x2048.Idx → EReal)
    (h : ∀ i, dn i = RmsInRing.back a0 b0 (i 0) (i 1)) (i : Cert.RmsInIdeal.S1x2048.Idx) :
    ∑ p : Fin 8192, x (ix2 p (i 1)) * rinv (fun u => x (ix2 p u)) * dn (ix2 p (i 1)) = RmsInRing.resDg a0 b0 x i := by
  unfold RmsInRing.resDg
  refine Finset.sum_congr rfl fun p _ => ?_
  rw [h, mul_comm]
  rfl

/-- The value claim, of any arguments. -/
theorem value : Cert.algebraic_RmsInIdeal_RmsInRefIdeal := by
  intro m ρ m' ρ' _ hagree
  refine ⟨fun c => RmsInRing.outDx m c, fun c => RmsInRing.outDxb m c, fun c => RmsInRing.outDg m c, RmsInRing.run_values m ρ, ?_⟩
  refine (θ_run Cert.RmsInRefIdeal.defs _ _).mono (fun _ h c => ⟨(h c).1.trans ?_, (h c).2.1.trans ?_, (h c).2.2.1.trans ?_, (h c).2.2.2⟩) (Cert.RmsInRefIdeal.Value.run (F := Ideal) m' ρ')
  · unfold Cert.RmsInRefIdeal.Value.res_main_v39
    rw [(hagree c).1, (hagree c).2.1, (hagree c).2.2.1, (hagree c).2.2.2.1, (hagree c).2.2.2.2]
    funext i
    exact (ref_dx _ _ _ _ i).trans (dx_eq _ _ _ _ _ _ (fun i => ref_dn _ _ i) i)
  · unfold Cert.RmsInRefIdeal.Value.res_main_v42
    rw [(hagree c).1, (hagree c).2.1, (hagree c).2.2.1, (hagree c).2.2.2.1, (hagree c).2.2.2.2]
    funext i
    exact congrArg (fun z : EReal => RmsInRing.half * z) ((ref_dx _ _ _ _ i).trans (dx_eq _ _ _ _ _ _ (fun i => ref_dn _ _ i) i))
  · rw [(hagree c).1, (hagree c).2.1, (hagree c).2.2.1]
    funext i
    exact (ref_dg _ _ i).trans (dg_eq _ _ _ _ (fun i => ref_dn _ _ i) i)

end Cert.Proof.RmsInClaims

end
-- ==== Proof.NormProjBody.lean ====
/-
  The body of the call that norms a row block and projects it twice, at any float values. At the first column tile of a row
  block it norms the block's rows, 128 at a time, into a scratch buffer and into the first result's window; at every column
  tile it multiplies the normed rows by the two weight tiles and stores both products and their gated product.
-/
module

public import proofs.«01_k».proof.Proof.RowWindows
public import proofs.«01_k».proof.Proof.Gen.NormProjIdeal.Frame
public import proofs.«01_k».proof.Proof.Gen.NormProjIdeal.Loops
public import proofs.«01_k».proof.Proof.Gen.NormProjIdeal.Launch
public import proofs.«01_k».proof.Proof.Gen.NormProjIdeal.Skeleton
public import proofs.«01_k».proof.Proof.Gen.NormProjIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Proof.NormProj

open Cert.NormProjIdeal Cert.NormProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.RowWindows

variable {F : FTy → Type} [FloatOps F]

local notation "𝕄" => MT nD τ sig Unit (Elt F) ℕ (UR sig nD τ) ℕ

/-- The normed rows of a block: each row by the chunk of 128 rows it lies in. -/
def normed (X : Vec F S1024x2048 .f32) (g : Vec F S1x2048 .f32) : Vec F S1024x2048 .bf16 := fun j =>
  k0_pay1 (fun u : S128x2048.Idx => X (ix2 ⟨128 * ((j 0).val / 128) + (u 0).val, by
    have h : (j 0).val < 1024 := (j 0).isLt; have h' : (u 0).val < 128 := (u 0).isLt; omega⟩ (u 1))) g
    (ix2 ⟨(j 0).val % 128, Nat.mod_lt _ (by decide)⟩ (j 1))

theorem pay2_eq (v27 : Vec F S128x2048 .f32) (v38 : Vec F S1x2048 .f32) : k0_pay2 v27 v38 = k0_pay1 v27 v38 := by
  unfold k0_pay2
  dsimp only
  exact shapeCast_self _ _

theorem hz : (![0, 0] : Fin 2 → Nat) = fun _ => 0 := funext fun a => by fin_cases a <;> rfl

theorem chunk_inb (k : ℕ) (hk : k < 8) : ∀ b, (![128 * k, 0] : Fin 2 → ℕ) b + S128x2048.size b ≤ S1024x2048.size b := by
  intro b
  match b with
  | ⟨0, _⟩ => show 128 * k + 128 ≤ 1024; omega
  | ⟨1, _⟩ => show 0 + 2048 ≤ 2048; omega

/-- Putting chunk `k`'s normed rows where the rows before it are normed leaves the rows up to the next chunk normed. -/
theorem put_chunk (X : Vec F S1024x2048 .f32) (g : Vec F S1x2048 .f32) (k : ℕ) (hk : k < 8) (B : S1024x2048.Idx → Elt F .bf16)
    (hB : ∀ p q, p.val < 128 * k → B (ix2 p q) = normed X g (ix2 p q)) (p : Fin 1024) (q : Fin 2048) (hp : p.val < 128 * (k + 1)) :
    VecWindow.put (s := S1024x2048) B ![128 * k, 0] S128x2048.size (k0_pay1 (VecWindow.window (s := S1024x2048) X ![128 * k, 0] S128x2048.size (chunk_inb k hk)) g) (ix2 p q)
      = normed X g (ix2 p q) := by
  by_cases h : 128 * k ≤ p.val
  · refine (put_rows_in B (128 * k) _ p q h (by omega)).trans ?_
    unfold normed
    have ek : p.val / 128 = k := by omega
    refine congr (congrArg (fun v => k0_pay1 v g) (funext fun u => ?_)) ?_
    · obtain ⟨r, s, rfl⟩ : ∃ r s, u = ix2 r s := ⟨u 0, u 1, eq_ix2 u⟩
      have hr := r.isLt
      refine (window_rows X (128 * k) (chunk_inb k hk) r s (by omega)).trans ?_
      refine congrArg X (Shape.idx_ext₂ ?_ rfl)
      show 128 * k + r.val = 128 * (p.val / 128) + r.val
      rw [ek]
    · refine Shape.idx_ext₂ ?_ rfl
      show p.val - 128 * k = p.val % 128
      omega
  · exact (put_rows_out B (128 * k) _ p q (by omega)).trans (hB p q (by omega))

section Body
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S512x2048 .bf16) (harg4 : arg4.IsWhole) (arg5 : Memref sig .tc .vmem S512x2048 .bf16) (harg5 : arg5.IsWhole)
  (arg6 : Memref sig .tc .vmem S1024x2048 .bf16) (harg6 : arg6.IsWhole) (arg7 : Memref sig .tc .vmem S1024x512 .bf16) (harg7 : arg7.IsWhole)
  (arg8 : Memref sig .tc .vmem S1024x512 .bf16) (harg8 : arg8.IsWhole) (arg9 : Memref sig .tc .vmem S1024x512 .bf16) (harg9 : arg9.IsWhole)
  (arg10 : Memref sig .tc .vmem S1024x2048 .bf16) (harg10 : arg10.IsWhole)

theorem trips_eq : k0_t1_loop.trips = 8 := by decide +kernel

/-- After `k` chunks both buffers hold the normed rows of the chunks done. -/
theorem chunks (hc : k0_cond1 i = 1#1) (X : BufTy.Contents (Elt F) arg2.view.ty) (G : BufTy.Contents (Elt F) arg3.view.ty)
    (f6 : BufTy.Contents (Elt F) arg6.view.ty) (f10 : BufTy.Contents (Elt F) arg10.view.ty) : ∀ k : ℕ, k ≤ 8 → ∀ (p : Fin 1024) (q : Fin 2048), p.val < 128 * k →
    arg6.view.read (Elt F) (arg6.view.writes (Elt F) f6 (pb_k0_t1 (F := F) Variants.none c none i arg2 harg2 arg3 harg3 arg4 harg4 arg5 harg5 arg6 harg6 arg7 harg7 arg8 harg8 arg9 harg9 arg10 harg10 hc X G k).1) (ix2 p q)
      = normed (arg2.view.read (Elt F) X) (arg3.view.read (Elt F) G) (ix2 p q)
    ∧ arg10.view.read (Elt F) (arg10.view.writes (Elt F) f10 (pb_k0_t1 (F := F) Variants.none c none i arg2 harg2 arg3 harg3 arg4 harg4 arg5 harg5 arg6 harg6 arg7 harg7 arg8 harg8 arg9 harg9 arg10 harg10 hc X G k).2) (ix2 p q)
      = normed (arg2.view.read (Elt F) X) (arg3.view.read (Elt F) G) (ix2 p q) := by
  intro k
  induction k with
  | zero => intro _ p q h; omega
  | succ k ih =>
    intro hk p q hp
    have eo : k0_off1 ⟨k, by rw [trips_eq]; omega⟩ = ![128 * k, 0] := k0_off1_eq _
    rw [show k + 1 = (⟨k, by rw [trips_eq]; omega⟩ : Fin k0_t1_loop.trips).val + 1 from rfl, pb_k0_t1_succ]
    unfold tripL_k0_t1 trip_k0_t1
    dsimp only
    rw [List.cons_append, List.nil_append, List.cons_append, List.nil_append, View.read_writes_cons_put _ _ _ _ _ eo, View.read_writes_cons_put _ _ _ _ _ eo]
    rw [View.readAt_unit _ _ _ eo (chunk_inb k (by omega)), View.readAt_full, pay2_eq]
    exact ⟨put_chunk _ _ k (by omega) _ (fun p q h => (ih (by omega) p q h).1) p q hp, put_chunk _ _ k (by omega) _ (fun p q h => (ih (by omega) p q h).2) p q hp⟩

/-- All the chunks done, both buffers hold the normed rows of the block. -/
theorem all_chunks (hc : k0_cond1 i = 1#1) (X : BufTy.Contents (Elt F) arg2.view.ty) (G : BufTy.Contents (Elt F) arg3.view.ty)
    (f6 : BufTy.Contents (Elt F) arg6.view.ty) (f10 : BufTy.Contents (Elt F) arg10.view.ty) (k : ℕ) (hk : k = 8) :
    arg6.view.read (Elt F) (arg6.view.writes (Elt F) f6 (pb_k0_t1 (F := F) Variants.none c none i arg2 harg2 arg3 harg3 arg4 harg4 arg5 harg5 arg6 harg6 arg7 harg7 arg8 harg8 arg9 harg9 arg10 harg10 hc X G k).1)
      = normed (arg2.view.read (Elt F) X) (arg3.view.read (Elt F) G)
    ∧ arg10.view.read (Elt F) (arg10.view.writes (Elt F) f10 (pb_k0_t1 (F := F) Variants.none c none i arg2 harg2 arg3 harg3 arg4 harg4 arg5 harg5 arg6 harg6 arg7 harg7 arg8 harg8 arg9 harg9 arg10 harg10 hc X G k).2)
      = normed (arg2.view.read (Elt F) X) (arg3.view.read (Elt F) G) := by
  subst hk
  have h := chunks c i arg2 harg2 arg3 harg3 arg4 harg4 arg5 harg5 arg6 harg6 arg7 harg7 arg8 harg8 arg9 harg9 arg10 harg10 hc X G f6 f10 8 le_rfl
  constructor <;> funext j <;> rw [eq_ix2 j]
  · exact (h _ _ (j 0).isLt).1
  · exact (h _ _ (j 0).isLt).2

/-- The body on whole buffers. -/
abbrev body := cc0_ffn2_up (F := F) i arg2 harg2 arg3 harg3 arg4 harg4 arg5 harg5 arg6 harg6 arg7 harg7 arg8 harg8 arg9 harg9 arg10 harg10

/-- At a later column tile: the scratch holds the normed rows, which the body reads and leaves. -/
theorem body_later (hc : ¬k0_cond1 i = 1#1) (wg wu : Vec F S512x2048 .bf16) (n : Vec F S1024x2048 .bf16) (E : Set ℕ) (K : PUnit → sProp 𝕄) :
    iprop(owns (c : Thread nD τ) arg4 fullShare wg ∗ owns (c : Thread nD τ) arg5 fullShare wu
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare n
        ∗ (iprop(owns (c : Thread nD τ) arg4 fullShare wg ∗ owns (c : Thread nD τ) arg5 fullShare wu
            ∗ owns (c : Thread nD τ) arg7 fullShare (k0_pay5 n wg) ∗ owns (c : Thread nD τ) arg8 fullShare (k0_pay6 n wu)
            ∗ owns (c : Thread nD τ) arg9 fullShare (k0_pay7 n wg wu) ∗ owns (c : Thread nD τ) arg10 fullShare n) -∗ K ⟨⟩))
      ⊢ wp Idealize.ShloMosaic.frame (wpE (defs₀ (F := F)) Variants.none c none) E (body i arg2 harg2 arg3 harg3 arg4 harg4 arg5 harg5 arg6 harg6 arg7 harg7 arg8 harg8 arg9 harg9 arg10 harg10) K := by
  unfold body
  simp only [cc0_ffn2_up_eq_skeleton]; unfold cc0_ffn2_up_skel
  unfold owns
  iintro ⟨⟨%f4, %hf4, H4⟩, ⟨%f5, %hf5, H5⟩, ⟨%d7, %f7, -, H7⟩, ⟨%d8, %f8, -, H8⟩, ⟨%d9, %f9, -, H9⟩, ⟨%f10, %hf10, H10⟩, Hk⟩
  subst hf4 hf5 hf10
  sl_exec (disch := sl_exact hc)
  sl_step
  iapply Hk
  isplitl [H4]; · iexists f4; isplitr; · ipureintro; rfl
                  iexact H4
  isplitl [H5]; · iexists f5; isplitr; · ipureintro; rfl
                  iexact H5
  isplitl [H7]
  · iexists _; isplitr
    swap; · iexact H7
    ipureintro; rw [View.read_writes_full, View.readAt_full, View.readAt_full]
  isplitl [H8]
  · iexists _; isplitr
    swap; · iexact H8
    ipureintro; rw [View.read_writes_full, View.readAt_full, View.readAt_full]
  isplitl [H9]
  · iexists _; isplitr
    swap; · iexact H9
    ipureintro; rw [View.read_writes_full, View.readAt_full, View.readAt_full, View.readAt_full]
  iexists f10; isplitr; · ipureintro; rfl
  iexact H10

/-- At the first column tile: the body norms the rows and goes on with them. -/
theorem body_first (hc : k0_cond1 i = 1#1) (X : Vec F S1024x2048 .f32) (g : Vec F S1x2048 .f32) (wg wu : Vec F S512x2048 .bf16) (E : Set ℕ) (K : PUnit → sProp 𝕄) :
    iprop(owns (c : Thread nD τ) arg2 fullShare X ∗ owns (c : Thread nD τ) arg3 fullShare g
        ∗ owns (c : Thread nD τ) arg4 fullShare wg ∗ owns (c : Thread nD τ) arg5 fullShare wu ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg2 fullShare X ∗ owns (c : Thread nD τ) arg3 fullShare g
            ∗ owns (c : Thread nD τ) arg4 fullShare wg ∗ owns (c : Thread nD τ) arg5 fullShare wu ∗ owns (c : Thread nD τ) arg6 fullShare (normed X g)
            ∗ owns (c : Thread nD τ) arg7 fullShare (k0_pay5 (normed X g) wg) ∗ owns (c : Thread nD τ) arg8 fullShare (k0_pay6 (normed X g) wu)
            ∗ owns (c : Thread nD τ) arg9 fullShare (k0_pay7 (normed X g) wg wu) ∗ owns (c : Thread nD τ) arg10 fullShare (normed X g)) -∗ K ⟨⟩))
      ⊢ wp Idealize.ShloMosaic.frame (wpE (defs₀ (F := F)) Variants.none c none) E (body i arg2 harg2 arg3 harg3 arg4 harg4 arg5 harg5 arg6 harg6 arg7 harg7 arg8 harg8 arg9 harg9 arg10 harg10) K := by
  unfold body
  simp only [cc0_ffn2_up_eq_skeleton]; unfold cc0_ffn2_up_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf2 hf3 hf4 hf5
  sl_exec (disch := sl_exact hc)
  sl_step
  iapply Hk
  have hall := all_chunks c i arg2 harg2 arg3 harg3 arg4 harg4 arg5 harg5 arg6 harg6 arg7 harg7 arg8 harg8 arg9 harg9 arg10 harg10 hc f2 f3 f6 f10 (Scf.trips k0_t1_loop.lb k0_t1_loop.ub k0_t1_loop.st) (by decide +kernel)
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro; exact hall.1
  isplitl [H7]
  · iexists _; isplitr
    swap; · iexact H7
    ipureintro; sl_unfold_words; rw [View.read_writes_full, View.readAt_full, View.readAt_full, hall.2]
  isplitl [H8]
  · iexists _; isplitr
    swap; · iexact H8
    ipureintro; sl_unfold_words; rw [View.read_writes_full, View.readAt_full, View.readAt_full, hall.2]
  isplitl [H9]
  · iexists _; isplitr
    swap; · iexact H9
    ipureintro; sl_unfold_words; rw [View.read_writes_full, View.readAt_full, View.readAt_full, View.readAt_full, hall.2]
  iexists _; isplitr
  swap; · iexact H10
  ipureintro; exact hall.2

end Body

end Cert.Proof.NormProj

end
-- ==== Proof.NormProjRun.lean ====
/-
  The run of the call that norms a row block and projects it twice, at any float values: what every window holds after each
  grid point, what the scratch buffer holds between points, that the body keeps both, and the frame that follows.
-/
module

public import proofs.«01_k».proof.Proof.NormProjBody
public import Idealize.ShloMosaic.Lib.Pipeline.TableIdle
public import Idealize.ShloMosaic.Lib.Claim

@[expose] public section

set_option maxRecDepth 16384

noncomputable section

namespace Cert.Proof.NormProj

open Cert.NormProjIdeal Cert.NormProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_pts (t : Fin cfg0.N) : t.val < 88 := lt_of_lt_of_eq t.isLt (show cfg0.N = 88 from N_0)

/-- The body norms at the first column tile of a row block. -/
theorem first_iff : ∀ t : Fin cfg0.N, k0_cond1 (grid0.coords t) = 1#1 ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

/-- The first point of row block `b`. -/
def pt (b : ℕ) : Fin cfg0.N := ⟨11 * b % 88, lt_of_lt_of_eq (Nat.mod_lt _ (by decide)) (show 88 = cfg0.N from N_0.symm)⟩

theorem pt_eq (t : Fin cfg0.N) (h : t.val % 11 = 0) : pt (t.val / 11) = t :=
  Fin.ext (by have := lt_pts t; show 11 * (t.val / 11) % 88 = t.val; omega)

/-- The normed rows of row block `b`. -/
def nrm (c : Dev nD) (b : ℕ) : Vec F S1024x2048 .bf16 := normed (iblk m c 0 (pt b)) (iblk m c 1 (pt b))

/-- The scratch buffer. -/
abbrev scM : Memref sig .tc .vmem S1024x2048 .bf16 := Memref.whole cc0_scratch0

theorem PhiA_eq (c : Dev nD) : (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; rfl

/-- Within a row block the scratch holds its normed rows; between row blocks anything. -/
def PhiS (c : Dev nD) (n : ℕ) : sProp 𝕄 :=
  if n % 11 = 0 then Pipeline.ΦA spec0 c else iprop(owns (c : Thread nD τ) scM fullShare (nrm m c (n / 11)) ∗ (∃ r, prngReg c r))

/-- The proof data: the inputs' windows hold their blocks, the results' the normed rows and the products of this point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => nrm m c (t.val / 11)
    | ⟨5, _⟩ => k0_pay5 (nrm m c (t.val / 11)) (iblk m c 2 t)
    | ⟨6, _⟩ => k0_pay6 (nrm m c (t.val / 11)) (iblk m c 3 t)
    | ⟨7, _⟩ => k0_pay7 (nrm m c (t.val / 11)) (iblk m c 2 t) (iblk m c 3 t)
  Φ t := PhiS m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = nrm m c (t.val / 11) := by dsimp only [dats]
theorem after5 (c : Dev nD) (t : Fin cfg0.N) : (dats m 0 c).after 5 t = k0_pay5 (nrm m c (t.val / 11)) (iblk m c 2 t) := by dsimp only [dats]
theorem after6 (c : Dev nD) (t : Fin cfg0.N) : (dats m 0 c).after 6 t = k0_pay6 (nrm m c (t.val / 11)) (iblk m c 3 t) := by dsimp only [dats]
theorem after7 (c : Dev nD) (t : Fin cfg0.N) : (dats m 0 c).after 7 t = k0_pay7 (nrm m c (t.val / 11)) (iblk m c 2 t) (iblk m c 3 t) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- The normed rows' window is stored at the first column tile only. -/
theorem idle_iff : ∀ t : Fin grid0.N, (idle0 4 (grid0.coords t) = true ↔ t.val % 11 ≠ 0) := by decide +kernel
theorem idle4 (t : Fin cfg0.N) : cfg0.idle 4 (cfg0.grid.coords t) = true ↔ t.val % 11 ≠ 0 := idle_iff t

/-- After the first column tile the window is no longer fresh, until it is written back. -/
theorem fresh4 : ∀ n, n ≤ 87 → n % 11 ≠ 0 → cfg0.fresh 4 n = false := by
  intro n
  induction n with
  | zero => intro _ h; omega
  | succ n ih =>
    intro h h'
    have hn : n < cfg0.N := by rw [show cfg0.N = 88 from N_0]; omega
    rw [cfg0.fresh_succ 4 n hn]
    have hf : (cfg0.win 4).flush ⟨n, hn⟩ = false := by
      rw [Bool.eq_false_iff, Ne, flush0_4]; show ¬ n % 11 = 10; omega
    rw [hf, Bool.false_or]
    by_cases e : n % 11 = 0
    · have hi : cfg0.idle 4 (cfg0.grid.coords ⟨n, hn⟩) = false := by
        rw [Bool.eq_false_iff, Ne, idle4]; show ¬ n % 11 ≠ 0; omega
      rw [hi, Bool.false_and]
    · rw [ih (by omega) e, Bool.and_false]

theorem before4 (c : Dev nD) (t : Fin cfg0.N) (ht : t.val % 11 ≠ 0) (d) : (dats m 0 c).before 4 t d = nrm m c (t.val / 11) := by
  rw [(dats m 0 c).before_out_traj 4 rfl (fun _ _ => rfl) ?_ t.val t rfl d, fresh4 t.val (by have := lt_pts t; omega) ht, if_neg Bool.false_ne_true, after4]
  · show nrm m c ((t.val - 1) / 11) = _
    rw [show (t.val - 1) / 11 = t.val / 11 by omega]
  · intro s hs hi _
    have hi := (idle4 s).mp hi
    rw [after4, after4]
    show nrm m c (s.val / 11) = nrm m c ((s.val - 1) / 11)
    rw [show s.val / 11 = (s.val - 1) / 11 by omega]

abbrev held (c : Dev nD) (t : Fin cfg0.N) (w : Fin cfg0.W) : sProp 𝕄 :=
  iprop(∃ d, owns (c : Thread nD τ) ((cfg0.win w).stage (cfg0.slots t w)) fullShare ((dats m 0 c).before w t d))

abbrev left (c : Dev nD) (t : Fin cfg0.N) (w : Fin cfg0.W) : sProp 𝕄 :=
  owns (c : Thread nD τ) ((cfg0.win w).stage (cfg0.slots t w)) fullShare ((dats m 0 c).after w t)

/-- The window stored only at some points: where it is not and is not written back either, as found. -/
def leftIdle (c : Dev nD) (t : Fin cfg0.N) (w : Fin cfg0.W) : sProp 𝕄 :=
  match cfg0.idle w (cfg0.grid.coords t) with
  | true => match (cfg0.win w).flush t with
    | false => held m c t w
    | true => left m c t w
  | false => left m c t w

theorem leftIdle_intro (c : Dev nD) (t : Fin cfg0.N) (w : Fin cfg0.W) (h : ∃ d, (dats m 0 c).before w t d = (dats m 0 c).after w t) : left m c t w ⊢ leftIdle m c t w := by
  unfold leftIdle
  obtain ⟨d, h⟩ := h
  split
  · split
    · unfold left held
      rw [← h]
      iintro H
      iexists d; iexact H
    · exact .rfl
  · exact .rfl

theorem leftIdle_live (c : Dev nD) (t : Fin cfg0.N) (w : Fin cfg0.W) (h : cfg0.idle w (cfg0.grid.coords t) = false) : left m c t w ⊢ leftIdle m c t w := by
  unfold leftIdle; rw [h]

def bPre (c : Dev nD) (t : Fin cfg0.N) : sProp 𝕄 :=
  iprop((dats m 0 c).Φ t.castSucc ∗ (dats m 0 c).owesAt () t.castSucc
    ∗ held m c t 0 ∗ held m c t 1 ∗ held m c t 2 ∗ held m c t 3 ∗ held m c t 4 ∗ held m c t 5 ∗ held m c t 6 ∗ held m c t 7)

def bPost (c : Dev nD) (t : Fin cfg0.N) : sProp 𝕄 :=
  iprop((dats m 0 c).Φ t.succ ∗ (dats m 0 c).owesAt () t.succ
    ∗ left m c t 0 ∗ left m c t 1 ∗ left m c t 2 ∗ left m c t 3 ∗ leftIdle m c t 4 ∗ left m c t 5 ∗ left m c t 6 ∗ left m c t 7)

/-- The scratch at the row block's normed rows is the invariant after the point. -/
theorem Phi_next (c : Dev nD) (t : Fin cfg0.N) :
    iprop(owns (c : Thread nD τ) scM fullShare (nrm m c (t.val / 11)) ∗ (∃ r, prngReg c r)) ⊢ (dats m 0 c).Φ t.succ := by
  rw [show (dats m 0 c).Φ t.succ = PhiS m c (t.val + 1) from rfl]
  unfold PhiS
  split
  · rw [PhiA_eq]
    iintro ⟨H, Hg⟩
    isplitl [H]
    · iexists _; iexact H
    iexact Hg
  · rw [show (t.val + 1) / 11 = t.val / 11 by omega]

set_option maxHeartbeats 2000000 in
theorem body_at (c : Dev nD) (t : Fin cfg0.N) :
    bPre m c t ⊢ wp Idealize.ShloMosaic.frame (wpE (defs₀ (F := F)) Variants.none c none) Set.univ (bodyAt0 t) (fun _ => bPost m c t) := by
  unfold bPre bPost bodyAt0 held
  simp only [before0, before1, before2, before3, after0, after1, after2, after3, after5, after6, after7, left]
  rw [show (dats m 0 c).owesAt () t.succ = (dats m 0 c).owesAt () t.castSucc from rfl]
  rw [show (dats m 0 c).Φ t.castSucc = PhiS m c t.val from rfl]
  by_cases h : t.val % 11 = 0
  · have hn : nrm m c (t.val / 11) = normed (iblk m c 0 t) (iblk m c 1 t) := by unfold nrm; rw [pt_eq t h]
    unfold PhiS
    rw [if_pos h, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ ((first_iff t).mpr h) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS]; · iexact HS
    rw [← hn]
    iintro ⟨H0, H1, H2, H3, H4, H5, H6, H7, HS⟩
    isplitl [HS Hg]
    · iapply (Phi_next m c t)
      isplitl [HS]; · iexact HS
      iexact Hg
    isplitl [Ho]; · iexact Ho
    isplitl [H0]; · iexact H0
    isplitl [H1]; · iexact H1
    isplitl [H2]; · iexact H2
    isplitl [H3]; · iexact H3
    isplitl [H4]
    · iapply (leftIdle_live m c t 4 (by rw [Bool.eq_false_iff, Ne, idle4]; exact fun e => e h))
      rw [left, after4]; iexact H4
    isplitl [H5]; · iexact H5
    isplitl [H6]; · iexact H6
    iexact H7
  · simp only [before4 m c t h]
    unfold PhiS
    rw [if_neg h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (fun e => h ((first_iff t).mp e)) (iblk m c 2 t) (iblk m c 3 t) (nrm m c (t.val / 11)) Set.univ _)
    isplitl [H2]; · iexact H2
    isplitl [H3]; · iexact H3
    isplitl [H5]; · iexists _; iexact H5
    isplitl [H6]; · iexists _; iexact H6
    isplitl [H7]; · iexists _; iexact H7
    isplitl [HS]; · iexact HS
    iintro ⟨H2, H3, H5, H6, H7, HS⟩
    isplitl [HS Hg]
    · iapply (Phi_next m c t)
      isplitl [HS]; · iexact HS
      iexact Hg
    isplitl [Ho]; · iexact Ho
    isplitl [H0]; · iexact H0
    isplitl [H1]; · iexact H1
    isplitl [H2]; · iexact H2
    isplitl [H3]; · iexact H3
    isplitl [H4]
    · iapply (leftIdle_intro m c t 4 ⟨d4, (before4 m c t h d4).trans (after4 m c t).symm⟩)
      rw [left, after4]; iexact H4
    isplitl [H5]; · iexact H5
    isplitl [H6]; · iexact H6
    iexact H7

theorem defs₀_row (t : Fin cfg0.N) : defs₀ (F := F) .tc cfg0.body (cfg0.bodyArgs t (cfg0.slots t)) = bodyAt0 t := by
  unfold defs₀; rw [Defs.onTc_tc]

theorem obligation (c : Dev nD) : BodyObligationLoose (dats m 0 c) (defs₀ (F := F)) Variants.none () Set.univ := fun t =>
  triple_restated (body_at m c t) (by rw [defs₀_row]) (by rw [bigSep_W0]; exact .rfl) (fun _ => by rw [bigSep_W0]; exact .rfl)

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => obligation m c) (hshare := fun c => (dats m 0 c).share_full fun _ => rfl)
    (howed := fun _ _ => rfl) (V := V m) (hmain := hmain m Variants.none) (hA := A_eq m) (hin := fun _ => .rfl) (hout := fun _ => .rfl)

/-- The frame: every argument array ends as it began, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Proof.NormProj

end
-- ==== Proof.NormProjFinal.lean ====
/-
  The four arrays the norm-and-project call leaves, as functions of its arguments: the normed rows, the two projections,
  and their gated product.
-/
module

public import proofs.«01_k».proof.Proof.NormProjRun
public import proofs.«01_k».proof.Proof.RmsRows
public import proofs.«01_k».proof.Proof.FfnMath

@[expose] public section

set_option maxRecDepth 16384

noncomputable section

namespace Cert.Proof.NormProj

open Cert.NormProjIdeal Cert.NormProjIdeal.Gen
open Idealize.ShloMosaic Idealize.SL.Sem
open Idealize.ShloMosaic.TcCoe Idealize.ShloMosaic.Tactic
open Idealize.ShloMosaic.Pipeline (Dat Cfg Window)
open Cert.Proof.RmsRows Cert.Proof.FfnMath
open scoped BigOperators

/-- The normed rows. -/
def resN (x : S8192x2048.Idx → EReal) (g : S1x2048.Idx → EReal) (i : S8192x2048.Idx) : EReal :=
  x i * rinv (fun u => x (ix2 (i 0) u)) * g (ix2 (0 : Fin 1) (i 1))

/-- The normed rows times a projection's transpose. -/
def resH (x : S8192x2048.Idx → EReal) (g : S1x2048.Idx → EReal) (w : S5632x2048.Idx → EReal) (i : S8192x5632.Idx) : EReal :=
  ∑ k : Fin 2048, resN x g (ix2 (i 0) k) * w (ix2 (i 1) k)

/-- The gated product. -/
def resA (x : S8192x2048.Idx → EReal) (g : S1x2048.Idx → EReal) (wg wu : S5632x2048.Idx → EReal) (i : S8192x5632.Idx) : EReal :=
  resH x g wg i * kSig (resH x g wg i) * resH x g wu i

/-! ## What the body computes -/

theorem pay1_apply (v27 : Vec Ideal S128x2048 .f32) (v38 : Vec Ideal S1x2048 .f32) (p : Fin 128) (q : Fin 2048) :
    k0_pay1 v27 v38 (ix2 p q) = v27 (ix2 p q) * rinv (fun u => v27 (ix2 p u)) * v38 (ix2 (0 : Fin 1) q) := by
  unfold k0_pay1 rinv
  pointwise

theorem pay3_apply (n : Vec Ideal S1024x2048 .bf16) (w : Vec Ideal S512x2048 .bf16) (p : Fin 1024) (q : Fin 512) :
    k0_pay3 n w (ix2 p q) = ∑ k : Fin 2048, n (ix2 p k) * w (ix2 q k) := by
  unfold k0_pay3
  pointwise

theorem pay4_apply (n : Vec Ideal S1024x2048 .bf16) (w : Vec Ideal S512x2048 .bf16) (p : Fin 1024) (q : Fin 512) :
    k0_pay4 n w (ix2 p q) = ∑ k : Fin 2048, n (ix2 p k) * w (ix2 q k) := pay3_apply n w p q

theorem pay7_apply (n : Vec Ideal S1024x2048 .bf16) (wg wu : Vec Ideal S512x2048 .bf16) (p : Fin 1024) (q : Fin 512) :
    k0_pay7 n wg wu (ix2 p q)
      = k0_pay3 n wg (ix2 p q) * kSig (k0_pay3 n wg (ix2 p q)) * k0_pay4 n wu (ix2 p q) := by
  unfold k0_pay7
  generalize k0_pay3 n wg = a
  generalize k0_pay4 n wu = b
  pointwise

/-! ## The windows -/

theorem index_of : ∀ t : Fin grid0.N, win0_0.index t 0 = t.val / 11 ∧ win0_0.index t 1 = 0 ∧ win0_1.index t 0 = 0 ∧ win0_1.index t 1 = 0
    ∧ win0_2.index t 0 = t.val % 11 ∧ win0_2.index t 1 = 0 ∧ win0_3.index t 0 = t.val % 11 ∧ win0_3.index t 1 = 0
    ∧ win0_4.index t 0 = t.val / 11 ∧ win0_4.index t 1 = 0 ∧ win0_5.index t 0 = t.val / 11 ∧ win0_5.index t 1 = t.val % 11
    ∧ win0_6.index t 0 = t.val / 11 ∧ win0_6.index t 1 = t.val % 11 ∧ win0_7.index t 0 = t.val / 11 ∧ win0_7.index t 1 = t.val % 11 := by
  decide +kernel

/-- Row `p` of row block `b` (of eight). -/
def row (b : ℕ) (p : Fin 1024) : Fin 8192 := ⟨(1024 * b + p.val) % 8192, Nat.mod_lt _ (by decide)⟩

theorem row_val (b : ℕ) (h : b < 8) (p : Fin 1024) : (row b p).val = 1024 * b + p.val := by
  have := p.isLt
  exact Nat.mod_eq_of_lt (by omega)

/-- Column `q` of column tile `b` (of eleven). -/
def col (b : ℕ) (q : Fin 512) : Fin 5632 := ⟨(512 * b + q.val) % 5632, Nat.mod_lt _ (by decide)⟩

theorem col_val (b : ℕ) (h : b < 11) (q : Fin 512) : (col b q).val = 512 * b + q.val := by
  have := q.isLt
  exact Nat.mod_eq_of_lt (by omega)

variable (m : (ℓ : Loc nD τ sig) → Buf (Elt Ideal) ℓ) (ρ : Dev nD → PrngReg) (c : Dev nD)

abbrev xV : S8192x2048.Idx → EReal := V m c main_arg0
abbrev gV : S1x2048.Idx → EReal := V m c main_arg1
abbrev wgV : S5632x2048.Idx → EReal := V m c main_arg2
abbrev wuV : S5632x2048.Idx → EReal := V m c main_arg3

theorem iblk0 (t : Fin cfg0.N) (p : Fin 1024) (q : Fin 2048) : iblk m c 0 t (ix2 p q) = xV m c (ix2 (row (t.val / 11) p) q) := by
  obtain ⟨e0, e1, -⟩ := index_of t
  have hb : t.val / 11 < 8 := by have := lt_pts t; omega
  refine (show _ = xV m c ((win0_0.rect t).idx (ix2 p q)) from rfl).trans (congrArg _ ?_)
  refine Shape.idx_ext₂ ?_ ?_
  · show win0_0.index t 0 * 1024 + 1 * (p : ℕ) = (row (t.val / 11) p).val
    rw [e0, row_val _ hb]; omega
  · show win0_0.index t 1 * 2048 + 1 * (q : ℕ) = q
    rw [e1]; omega

theorem iblk1 (t : Fin cfg0.N) (q : Fin 2048) : iblk m c 1 t (ix2 (0 : Fin 1) q) = gV m c (ix2 (0 : Fin 1) q) := by
  obtain ⟨-, -, e0, e1, -⟩ := index_of t
  refine (show _ = gV m c ((win0_1.rect t).idx (ix2 (0 : Fin 1) q)) from rfl).trans (congrArg _ ?_)
  refine Shape.idx_ext₂ ?_ ?_
  · show win0_1.index t 0 * 1 + 1 * 0 = 0
    rw [e0]
  · show win0_1.index t 1 * 2048 + 1 * (q : ℕ) = q
    rw [e1]; omega

theorem iblk2 (t : Fin cfg0.N) (p : Fin 512) (q : Fin 2048) : iblk m c 2 t (ix2 p q) = wgV m c (ix2 (col (t.val % 11) p) q) := by
  obtain ⟨-, -, -, -, e0, e1, -⟩ := index_of t
  have hb : t.val % 11 < 11 := Nat.mod_lt _ (by decide)
  refine (show _ = wgV m c ((win0_2.rect t).idx (ix2 p q)) from rfl).trans (congrArg _ ?_)
  refine Shape.idx_ext₂ ?_ ?_
  · show win0_2.index t 0 * 512 + 1 * (p : ℕ) = (col (t.val % 11) p).val
    rw [e0, col_val _ hb]; omega
  · show win0_2.index t 1 * 2048 + 1 * (q : ℕ) = q
    rw [e1]; omega

theorem iblk3 (t : Fin cfg0.N) (p : Fin 512) (q : Fin 2048) : iblk m c 3 t (ix2 p q) = wuV m c (ix2 (col (t.val % 11) p) q) := by
  obtain ⟨-, -, -, -, -, -, e0, e1, -⟩ := index_of t
  have hb : t.val % 11 < 11 := Nat.mod_lt _ (by decide)
  refine (show _ = wuV m c ((win0_3.rect t).idx (ix2 p q)) from rfl).trans (congrArg _ ?_)
  refine Shape.idx_ext₂ ?_ ?_
  · show win0_3.index t 0 * 512 + 1 * (p : ℕ) = (col (t.val % 11) p).val
    rw [e0, col_val _ hb]; omega
  · show win0_3.index t 1 * 2048 + 1 * (q : ℕ) = q
    rw [e1]; omega

abbrev outN (c : Dev nD) : S8192x2048.Idx → EReal := resN (xV m c) (gV m c)
abbrev outHg (c : Dev nD) : S8192x5632.Idx → EReal := resH (xV m c) (gV m c) (wgV m c)
abbrev outHu (c : Dev nD) : S8192x5632.Idx → EReal := resH (xV m c) (gV m c) (wuV m c)
abbrev outA (c : Dev nD) : S8192x5632.Idx → EReal := resA (xV m c) (gV m c) (wgV m c) (wuV m c)

/-- A row of a normed block, whichever chunk of 128 rows it was normed in. -/
theorem normed_apply (X : Vec Ideal S1024x2048 .f32) (g : Vec Ideal S1x2048 .f32) (p : Fin 1024) (q : Fin 2048) :
    normed X g (ix2 p q) = X (ix2 p q) * rinv (fun u => X (ix2 p u)) * g (ix2 (0 : Fin 1) q) := by
  unfold normed
  refine (pay1_apply _ _ _ _).trans ?_
  have e : ∀ (h : 128 * (p.val / 128) + p.val % 128 < 1024), (⟨128 * (p.val / 128) + p.val % 128, h⟩ : Fin 1024) = p :=
    fun h => Fin.ext (Nat.div_add_mod p.val 128)
  simp only [ix2_0, ix2_1, e]

theorem nrm_apply (b : ℕ) (hb : b < 8) (p : Fin 1024) (q : Fin 2048) : nrm m c b (ix2 p q) = outN m c (ix2 (row b p) q) := by
  have e : (pt b).val / 11 = b := by show 11 * b % 88 / 11 = b; omega
  unfold nrm
  rw [normed_apply]
  simp only [iblk0, iblk1, e]
  rfl

theorem hg_apply (t : Fin cfg0.N) (p : Fin 1024) (q : Fin 512) :
    k0_pay3 (nrm m c (t.val / 11)) (iblk m c 2 t) (ix2 p q) = outHg m c (ix2 (row (t.val / 11) p) (col (t.val % 11) q)) := by
  have hb : t.val / 11 < 8 := by have := lt_pts t; omega
  rw [pay3_apply]
  refine Finset.sum_congr rfl fun k _ => ?_
  rw [nrm_apply m c _ hb, iblk2]
  rfl

theorem hu_apply (t : Fin cfg0.N) (p : Fin 1024) (q : Fin 512) :
    k0_pay4 (nrm m c (t.val / 11)) (iblk m c 3 t) (ix2 p q) = outHu m c (ix2 (row (t.val / 11) p) (col (t.val % 11) q)) := by
  have hb : t.val / 11 < 8 := by have := lt_pts t; omega
  rw [pay4_apply]
  refine Finset.sum_congr rfl fun k _ => ?_
  rw [nrm_apply m c _ hb, iblk3]
  rfl

/-! ## The arrays at the end -/

theorem idx4 (t : Fin cfg0.N) (p : Fin 1024) (q : Fin 2048) : (win0_4.rect t).idx (ix2 p q) = ix2 (row (t.val / 11) p) q := by
  obtain ⟨-, -, -, -, -, -, -, -, e0, e1, -⟩ := index_of t
  have hb : t.val / 11 < 8 := by have := lt_pts t; omega
  refine Shape.idx_ext₂ ?_ ?_
  · show win0_4.index t 0 * 1024 + 1 * (p : ℕ) = (row (t.val / 11) p).val
    rw [e0, row_val _ hb]; omega
  · show win0_4.index t 1 * 2048 + 1 * (q : ℕ) = q
    rw [e1]; omega

theorem idx5 (t : Fin cfg0.N) (p : Fin 1024) (q : Fin 512) : (win0_5.rect t).idx (ix2 p q) = ix2 (row (t.val / 11) p) (col (t.val % 11) q) := by
  obtain ⟨-, -, -, -, -, -, -, -, -, -, e0, e1, -⟩ := index_of t
  have hb : t.val / 11 < 8 := by have := lt_pts t; omega
  refine Shape.idx_ext₂ ?_ ?_
  · show win0_5.index t 0 * 1024 + 1 * (p : ℕ) = (row (t.val / 11) p).val
    rw [e0, row_val _ hb]; omega
  · show win0_5.index t 1 * 512 + 1 * (q : ℕ) = (col (t.val % 11) q).val
    rw [e1, col_val _ (Nat.mod_lt _ (by decide))]; omega

theorem idx6 (t : Fin cfg0.N) (p : Fin 1024) (q : Fin 512) : (win0_6.rect t).idx (ix2 p q) = ix2 (row (t.val / 11) p) (col (t.val % 11) q) :=
  (show _ = (win0_5.rect t).idx (ix2 p q) from rfl).trans (idx5 t p q)

theorem idx7 (t : Fin cfg0.N) (p : Fin 1024) (q : Fin 512) : (win0_7.rect t).idx (ix2 p q) = ix2 (row (t.val / 11) p) (col (t.val % 11) q) :=
  (show _ = (win0_5.rect t).idx (ix2 p q) from rfl).trans (idx5 t p q)

theorem flushed4 (t : Fin cfg0.N) : (dats m 0 c).flushed 4 t = (win0_4.blk t).view.read (Elt Ideal) (outN m c) := by
  show (cfg0.win 4).cut (grid0.coords t) ((dats m 0 c).after 4 t) = _
  rw [after4]
  funext j
  obtain ⟨p, q, rfl⟩ : ∃ p q, j = ix2 p q := ⟨j 0, j 1, eq_ix2 j⟩
  exact (nrm_apply m c _ (by have := lt_pts t; omega) p q).trans (congrArg (outN m c) (idx4 t p q).symm)

theorem flushed5 (t : Fin cfg0.N) : (dats m 0 c).flushed 5 t = (win0_5.blk t).view.read (Elt Ideal) (outHg m c) := by
  show (cfg0.win 5).cut (grid0.coords t) ((dats m 0 c).after 5 t) = _
  rw [after5]
  funext j
  obtain ⟨p, q, rfl⟩ : ∃ p q, j = ix2 p q := ⟨j 0, j 1, eq_ix2 j⟩
  exact (hg_apply m c t p q).trans (congrArg (outHg m c) (idx5 t p q).symm)

theorem flushed6 (t : Fin cfg0.N) : (dats m 0 c).flushed 6 t = (win0_6.blk t).view.read (Elt Ideal) (outHu m c) := by
  show (cfg0.win 6).cut (grid0.coords t) ((dats m 0 c).after 6 t) = _
  rw [after6]
  funext j
  obtain ⟨p, q, rfl⟩ : ∃ p q, j = ix2 p q := ⟨j 0, j 1, eq_ix2 j⟩
  exact (hu_apply m c t p q).trans (congrArg (outHu m c) (idx6 t p q).symm)

theorem flushed7 (t : Fin cfg0.N) : (dats m 0 c).flushed 7 t = (win0_7.blk t).view.read (Elt Ideal) (outA m c) := by
  show (cfg0.win 7).cut (grid0.coords t) ((dats m 0 c).after 7 t) = _
  rw [after7]
  funext j
  obtain ⟨p, q, rfl⟩ : ∃ p q, j = ix2 p q := ⟨j 0, j 1, eq_ix2 j⟩
  refine (pay7_apply _ _ _ p q).trans ?_
  rw [hg_apply, hu_apply]
  exact congrArg (outA m c) (idx7 t p q).symm

/-- The last point of the row block an entry lies in. -/
theorem at_row (i : S8192x2048.Idx) : ∃ (t : Fin cfg0.N) (p : Fin 1024) (q : Fin 2048), t.val % 11 = 10 ∧ ix2 (row (t.val / 11) p) q = i := by
  have h0 : (i 0 : ℕ) < 8192 := (i 0).isLt
  have ht : (i 0 : ℕ) / 1024 * 11 + 10 < cfg0.N := by rw [show cfg0.N = 88 from N_0]; omega
  refine ⟨⟨_, ht⟩, ⟨(i 0 : ℕ) % 1024, by omega⟩, i 1, by show ((i 0 : ℕ) / 1024 * 11 + 10) % 11 = 10; omega, Shape.idx_ext₂ ?_ rfl⟩
  show (row (((i 0 : ℕ) / 1024 * 11 + 10) / 11) ⟨(i 0 : ℕ) % 1024, _⟩).val = (i 0 : ℕ)
  rw [row_val _ (by omega)]
  show 1024 * (((i 0 : ℕ) / 1024 * 11 + 10) / 11) + (i 0 : ℕ) % 1024 = (i 0 : ℕ)
  omega

/-- The point whose tile an entry lies in. -/
theorem at_tile (i : S8192x5632.Idx) : ∃ (t : Fin cfg0.N) (p : Fin 1024) (q : Fin 512), ix2 (row (t.val / 11) p) (col (t.val % 11) q) = i := by
  have h0 : (i 0 : ℕ) < 8192 := (i 0).isLt
  have h1 : (i 1 : ℕ) < 5632 := (i 1).isLt
  have ht : (i 0 : ℕ) / 1024 * 11 + (i 1 : ℕ) / 512 < cfg0.N := by rw [show cfg0.N = 88 from N_0]; omega
  refine ⟨⟨_, ht⟩, ⟨(i 0 : ℕ) % 1024, by omega⟩, ⟨(i 1 : ℕ) % 512, by omega⟩, Shape.idx_ext₂ ?_ ?_⟩
  · show (row (((i 0 : ℕ) / 1024 * 11 + (i 1 : ℕ) / 512) / 11) ⟨(i 0 : ℕ) % 1024, _⟩).val = (i 0 : ℕ)
    rw [row_val _ (by omega)]
    show 1024 * (((i 0 : ℕ) / 1024 * 11 + (i 1 : ℕ) / 512) / 11) + (i 0 : ℕ) % 1024 = (i 0 : ℕ)
    omega
  · show (col (((i 0 : ℕ) / 1024 * 11 + (i 1 : ℕ) / 512) % 11) ⟨(i 1 : ℕ) % 512, _⟩).val = (i 1 : ℕ)
    rw [col_val _ (by omega)]
    show 512 * (((i 0 : ℕ) / 1024 * 11 + (i 1 : ℕ) / 512) % 11) + (i 1 : ℕ) % 512 = (i 1 : ℕ)
    omega

theorem cover4 (i : S8192x2048.Idx) : ∃ t : Fin cfg0.N, (cfg0.win 4).flush t = true ∧ i ∈ ((cfg0.win 4).blk t).view.set := by
  obtain ⟨t, p, q, h, rfl⟩ := at_row i
  refine ⟨t, (flush0_4 t).mpr h, ?_⟩
  show ix2 (row (t.val / 11) p) q ∈ ((View.whole main_v0_0).slice (win0_4.rect t)).set
  rw [View.set_slice_whole, ← idx4]
  exact (win0_4.rect t).idx_mem _

theorem cover5 (i : S8192x5632.Idx) : ∃ t : Fin cfg0.N, (cfg0.win 5).flush t = true ∧ i ∈ ((cfg0.win 5).blk t).view.set := by
  obtain ⟨t, p, q, rfl⟩ := at_tile i
  refine ⟨t, flush0_5 t, ?_⟩
  show _ ∈ ((View.whole main_v0_1).slice (win0_5.rect t)).set
  rw [View.set_slice_whole, ← idx5]
  exact (win0_5.rect t).idx_mem _

theorem cover6 (i : S8192x5632.Idx) : ∃ t : Fin cfg0.N, (cfg0.win 6).flush t = true ∧ i ∈ ((cfg0.win 6).blk t).view.set := by
  obtain ⟨t, p, q, rfl⟩ := at_tile i
  refine ⟨t, flush0_6 t, ?_⟩
  show _ ∈ ((View.whole main_v0_2).slice (win0_6.rect t)).set
  rw [View.set_slice_whole, ← idx6]
  exact (win0_6.rect t).idx_mem _

theorem cover7 (i : S8192x5632.Idx) : ∃ t : Fin cfg0.N, (cfg0.win 7).flush t = true ∧ i ∈ ((cfg0.win 7).blk t).view.set := by
  obtain ⟨t, p, q, rfl⟩ := at_tile i
  refine ⟨t, flush0_7 t, ?_⟩
  show _ ∈ ((View.whole main_v0_3).slice (win0_7.rect t)).set
  rw [View.set_slice_whole, ← idx7]
  exact (win0_7.rect t).idx_mem _

theorem final4 : (dats m 0 c).arrAt 4 cfg0.N = outN m c := (dats m 0 c).arrAt_eq_of_cover 4 (outN m c) (fun t _ => flushed4 m c t) cover4
theorem final5 : (dats m 0 c).arrAt 5 cfg0.N = outHg m c := (dats m 0 c).arrAt_eq_of_cover 5 (outHg m c) (fun t _ => flushed5 m c t) cover5
theorem final6 : (dats m 0 c).arrAt 6 cfg0.N = outHu m c := (dats m 0 c).arrAt_eq_of_cover 6 (outHu m c) (fun t _ => flushed6 m c t) cover6
theorem final7 : (dats m 0 c).arrAt 7 cfg0.N = outA m c := (dats m 0 c).arrAt_eq_of_cover 7 (outA m c) (fun t _ => flushed7 m c t) cover7

variable {m} in
theorem arr_kept {r : PUnit × MemSt nD τ sig (Elt Ideal)} (h : Pipeline.FramePost cfgs (dats m) (0 : Fin 1) (V m) r) (c : Dev nD) (w : Fin cfg0.W)
    (hin : (cfg0.win w).isOut = false) : r.2.mem ((cfg0.spec w).arr.view.loc (c.tc : Thread nD τ)) = V m c (Pipeline.arrRef spec0 w) :=
  ((h c).1 w).trans (((dats m 0 c).arrAt_in w hin _).trans (A_eq m c w))

set_option maxHeartbeats 4000000 in
/-- The run, with its results. -/
theorem run_values : θ_run defs (onTc (τ := τ) (main (F := Ideal))) (s₀ m ρ) (fun r => ∀ c : Dev nD,
      r.2.mem ((c.tc : Thread nD τ).loc main_v0_0) = outN m c
      ∧ r.2.mem ((c.tc : Thread nD τ).loc main_v0_1) = outHg m c
      ∧ r.2.mem ((c.tc : Thread nD τ).loc main_v0_2) = outHu m c
      ∧ r.2.mem ((c.tc : Thread nD τ).loc main_v0_3) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final4 m c), ((h.1 c).1 5).trans (final5 m c), ((h.1 c).1 6).trans (final6 m c),
    ((h.1 c).1 7).trans (final7 m c), arr_kept h.1 c 0 rfl, arr_kept h.1 c 1 rfl, arr_kept h.1 c 2 rfl, arr_kept h.1 c 3 rfl⟩) (run_main m ρ)

end Cert.Proof.NormProj

end
-- ==== Proof.NormProjClaims.lean ====
/-
  The claims about the call that norms the rows and projects them twice: the frames, and that at the ideal instance it leaves
  the reference's four arrays, of any arguments.
-/
module

public import proofs.«01_k».proof.Defs
public import proofs.«01_k».proof.Proof.NormProjFinal
public import proofs.«01_k».proof.Proof.Gen.NormProj
public import proofs.«01_k».proof.Proof.Gen.NormProjRefIdeal.Run

@[expose] public section

set_option maxRecDepth 16384

noncomputable section

namespace Cert.Proof.NormProjClaims

open Idealize.ShloMosaic Idealize.SL.Sem
open Idealize.ShloMosaic.TcCoe
open Cert.Proof.RmsRows Cert.Proof.FfnMath Cert.Proof.RealMath
open scoped BigOperators

/-- The program and its idealization have the same text at every float type, so the frame's proof, over any, serves both. -/
theorem same_bodies : (Cert.NormProj.defs₀ (F := Bits)) = Cert.NormProjIdeal.defs₀ (F := Bits) := by
  unfold Cert.NormProj.defs₀ Cert.NormProjIdeal.defs₀
  refine congrArg Defs.onTc ?_
  funext l x
  match l, x with
  | 0, (t, s) => rfl

theorem same_defs : (Cert.NormProj.defs (F := Bits)) = Cert.NormProjIdeal.defs (F := Bits) := congrArg (Pipeline.defs _) same_bodies

theorem frame : Cert.quiescent_NormProj := fun m ρ _ => by
  rw [same_defs]
  exact Cert.Proof.NormProj.frame (F := Bits) m ρ
theorem frame_i : Cert.quiescent_NormProjIdeal := fun m ρ _ => Cert.Proof.NormProj.frame m ρ
theorem frame_r : Cert.quiescent_NormProjRefIdeal := fun m ρ _ =>
  (θ_run Cert.NormProjRefIdeal.defs _ _).mono (fun r h => ⟨fun c => (h c).2.2.2.2, sem_eq_zero_of_no_sems (by decide) r.2⟩) (Cert.NormProjRefIdeal.Value.run (F := Ideal) m ρ)

section Reference
open Cert.NormProjRefIdeal Cert.NormProjRefIdeal.Gen

/-- The reference's normed rows. -/
theorem ref_n (x : FVec Ideal S8192x2048 .f32) (g : FVec Ideal S1x2048 .f32) :
    (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 g))
      = NormProj.resN x g := by
  funext i
  obtain ⟨p, q, rfl⟩ : ∃ (p : Fin 8192) (q : Fin 2048), i = ix2 p q := ⟨i 0, i 1, eq_ix2 i⟩
  unfold NormProj.resN rinv
  pointwise

/-- The reference's projection of the normed rows. -/
theorem ref_h (x : S8192x2048.Idx → EReal) (g : S1x2048.Idx → EReal) (w : FVec Ideal S5632x2048 .bf16) :
    (Host.dotGeneral (F := Ideal) dot_S8192x2048_S2048x5632_S8192x5632_1_0_0_1_n_n none (φ₁ := .f32) (NormProj.resN x g) (transpose S2048x5632 [1, 0] (extf .f32 w bitsLt_bf16_f32) transposes_S5632x2048_S2048x5632_1_0) : FVec Ideal S8192x5632 .f32)
      = NormProj.resH x g w := by
  funext i
  unfold NormProj.resH
  generalize NormProj.resN x g = n
  pointwise

/-- The reference's gated product. -/
theorem ref_a (x : S8192x2048.Idx → EReal) (g : S1x2048.Idx → EReal) (wg wu : S5632x2048.Idx → EReal) (i : S8192x5632.Idx) :
    (truncf .bf16 (mulf (mulf (NormProj.resH x g wg : FVec Ideal S8192x5632 .f32) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (NormProj.resH x g wg : FVec Ideal S8192x5632 .f32)))))) (NormProj.resH x g wu : FVec Ideal S8192x5632 .f32)) bitsLt_bf16_f32 : FVec Ideal S8192x5632 .bf16) i
      = NormProj.resA x g wg wu i := by
  unfold NormProj.resA
  rw [sig_all]
  unfold rSig
  generalize NormProj.resH x g wg = a
  generalize NormProj.resH x g wu = b
  pointwise

end Reference

/-- The value claim, of any arguments. -/
theorem value : Cert.algebraic_NormProjIdeal_NormProjRefIdeal := by
  intro m ρ m' ρ' _ hagree
  refine ⟨fun c => NormProj.outN m c, fun c => NormProj.outHg m c, fun c => NormProj.outHu m c, fun c => NormProj.outA m c, NormProj.run_values m ρ, ?_⟩
  refine (θ_run Cert.NormProjRefIdeal.defs _ _).mono (fun _ h c => ⟨(h c).1.trans ?_, (h c).2.1.trans ?_, (h c).2.2.1.trans ?_, (h c).2.2.2.1.trans ?_, (h c).2.2.2.2⟩) (Cert.NormProjRefIdeal.Value.run (F := Ideal) m' ρ')
  · rw [(hagree c).1, (hagree c).2.1, ref_n]
    rfl
  · rw [(hagree c).1, (hagree c).2.1, (hagree c).2.2.1, ref_n, ref_h]
    rfl
  · rw [(hagree c).1, (hagree c).2.1, (hagree c).2.2.2, ref_n, ref_h]
    rfl
  · rw [(hagree c).1, (hagree c).2.1, (hagree c).2.2.1, (hagree c).2.2.2, ref_n, ref_h, ref_h]
    funext i
    exact ref_a _ _ _ _ i

end Cert.Proof.NormProjClaims

end
-- ==== Proof.Tiles.lean ====
/-
  Where a tile's entries lie in an array: entry `q` of tile `b` along an axis cut into tiles of one width.
-/
module

public import Idealize.ShloMosaic.PureOps.Ideal

@[expose] public section

namespace Cert.Proof.Tiles

/-- Entry `q` of tile `b`, of width `w`, along an axis of length `n`. -/
def spot (w n : ℕ) [NeZero n] (b : ℕ) (q : Fin w) : Fin n := ⟨(w * b + q.val) % n, Nat.mod_lt _ (NeZero.pos n)⟩

theorem spot_val {w n : ℕ} [NeZero n] (b : ℕ) (h : w * b + w ≤ n) (q : Fin w) : (spot w n b q).val = w * b + q.val :=
  Nat.mod_eq_of_lt (lt_of_lt_of_le (Nat.add_lt_add_left q.isLt _) h)

/-- Every place along the axis is an entry of the tile it lies in. -/
theorem spot_of {w n : ℕ} [NeZero n] (hw : 0 < w) (a : Fin n) : spot w n (a.val / w) ⟨a.val % w, Nat.mod_lt _ hw⟩ = a :=
  Fin.ext ((congrArg (· % n) (Nat.div_add_mod a.val w)).trans (Nat.mod_eq_of_lt a.isLt))

end Cert.Proof.Tiles
-- ==== Proof.UpActValue.lean ====
/-
  What the first feed-forward layer's up projection leaves: the product with the normed rows, and its gated product with the
  gate's pre-activation.
-/
module

public import proofs.«01_k».proof.Proof.FfnMath
public import proofs.«01_k».proof.Proof.Tiles
public import proofs.«01_k».proof.Proof.Gen.UpActIdeal.Value
public import Idealize.ShloMosaic.Lib.Pipeline.Value

@[expose] public section

set_option maxRecDepth 16384

noncomputable section

namespace Cert.Proof.UpActValue

open Idealize.ShloMosaic Idealize.SL.Sem Cert.UpActIdeal Cert.UpActIdeal.Gen Cert.Proof.FfnMath Cert.Proof.Tiles
open Idealize.ShloMosaic.TcCoe
open Idealize.ShloMosaic.Pipeline (Dat)
open scoped BigOperators

/-- The up projection's pre-activation. -/
def resH (n : S8192x2048.Idx → EReal) (w : S5632x2048.Idx → EReal) (i : S8192x5632.Idx) : EReal :=
  ∑ k : Fin 2048, n (ix2 (i 0) k) * w (ix2 (i 1) k)

/-- The gated product. -/
def resA (n : S8192x2048.Idx → EReal) (w : S5632x2048.Idx → EReal) (g : S8192x5632.Idx → EReal) (i : S8192x5632.Idx) : EReal :=
  g i * kSig (g i) * resH n w i

theorem pay2_apply (n : Vec Ideal S1024x2048 .bf16) (w : Vec Ideal S512x2048 .bf16) (j : S1024x512.Idx) :
    k0_pay2 n w j = ∑ k : Fin 2048, n (ix2 (j 0) k) * w (ix2 (j 1) k) := by
  unfold k0_pay2 k0_pay1
  pointwise

theorem pay3_apply (n : Vec Ideal S1024x2048 .bf16) (w : Vec Ideal S512x2048 .bf16) (g : Vec Ideal S1024x512 .bf16) (j : S1024x512.Idx) :
    k0_pay3 n w g j = g j * kSig (g j) * ∑ k : Fin 2048, n (ix2 (j 0) k) * w (ix2 (j 1) k) := by
  unfold k0_pay3 k0_pay1
  pointwise

/-- Point `t` of the (8, 11) grid is row block `t / 11`, column tile `t % 11`. -/
theorem index_of : ∀ t : Fin grid0.N, win0_0.index t 0 = t.val / 11 ∧ win0_0.index t 1 = 0 ∧ win0_1.index t 0 = t.val % 11 ∧ win0_1.index t 1 = 0
    ∧ win0_2.index t 0 = t.val / 11 ∧ win0_2.index t 1 = t.val % 11 := by
  decide +kernel

theorem lt_pts (t : Fin cfg0.N) : t.val < 88 := lt_of_lt_of_eq t.isLt (show cfg0.N = 88 from N_0)

theorem hz : (![0, 0] : Fin 2 → Nat) = fun _ => 0 := funext fun a => by fin_cases a <;> rfl

abbrev row (t : Fin cfg0.N) (p : Fin 1024) : Fin 8192 := spot 1024 8192 (t.val / 11) p
abbrev col (t : Fin cfg0.N) (q : Fin 512) : Fin 5632 := spot 512 5632 (t.val % 11) q

theorem row_val (t : Fin cfg0.N) (p : Fin 1024) : (row t p).val = 1024 * (t.val / 11) + p.val := spot_val _ (by have := lt_pts t; omega) p
theorem col_val (t : Fin cfg0.N) (q : Fin 512) : (col t q).val = 512 * (t.val % 11) + q.val := spot_val _ (by omega) q

/-- The array index of entry `j` of point `t`'s tile. -/
abbrev at_ (t : Fin cfg0.N) (j : S1024x512.Idx) : S8192x5632.Idx := ix2 (row t (j 0)) (col t (j 1))

theorem idx2 (t : Fin cfg0.N) (j : S1024x512.Idx) : (win0_2.rect t).idx j = at_ t j := by
  obtain ⟨-, -, -, -, e0, e1⟩ := index_of t
  refine Shape.idx_ext₂ ?_ ?_
  · refine Eq.trans ?_ (row_val t (j 0)).symm
    show win0_2.index t 0 * 1024 + 1 * (j 0 : ℕ) = 1024 * (t.val / 11) + (j 0 : ℕ)
    rw [e0]; omega
  · refine Eq.trans ?_ (col_val t (j 1)).symm
    show win0_2.index t 1 * 512 + 1 * (j 1 : ℕ) = 512 * (t.val % 11) + (j 1 : ℕ)
    rw [e1]; omega

theorem idx3 (t : Fin cfg0.N) (j : S1024x512.Idx) : (win0_3.rect t).idx j = at_ t j := (show _ = (win0_2.rect t).idx j from rfl).trans (idx2 t j)
theorem idx4 (t : Fin cfg0.N) (j : S1024x512.Idx) : (win0_4.rect t).idx j = at_ t j := (show _ = (win0_2.rect t).idx j from rfl).trans (idx2 t j)

variable (m : (ℓ : Loc nD τ sig) → Buf (Elt Ideal) ℓ) (c : Dev nD)

theorem iblk0 (t : Fin cfg0.N) (p : Fin 1024) (k : Fin 2048) : iblk m c 0 t (ix2 p k) = V m c main_arg0 (ix2 (row t p) k) := by
  obtain ⟨e0, e1, -⟩ := index_of t
  refine (show _ = V m c main_arg0 ((win0_0.rect t).idx (ix2 p k)) from rfl).trans (congrArg _ ?_)
  refine Shape.idx_ext₂ ?_ ?_
  · show win0_0.index t 0 * 1024 + 1 * (p : ℕ) = (row t p).val
    rw [e0, row_val]; omega
  · show win0_0.index t 1 * 2048 + 1 * (k : ℕ) = k
    rw [e1]; omega

theorem iblk1 (t : Fin cfg0.N) (q : Fin 512) (k : Fin 2048) : iblk m c 1 t (ix2 q k) = V m c main_arg1 (ix2 (col t q) k) := by
  obtain ⟨-, -, e0, e1, -⟩ := index_of t
  refine (show _ = V m c main_arg1 ((win0_1.rect t).idx (ix2 q k)) from rfl).trans (congrArg _ ?_)
  refine Shape.idx_ext₂ ?_ ?_
  · show win0_1.index t 0 * 512 + 1 * (q : ℕ) = (col t q).val
    rw [e0, col_val]; omega
  · show win0_1.index t 1 * 2048 + 1 * (k : ℕ) = k
    rw [e1]; omega

theorem iblk2 (t : Fin cfg0.N) (j : S1024x512.Idx) : iblk m c 2 t j = V m c main_arg2 (at_ t j) :=
  (show _ = V m c main_arg2 ((win0_2.rect t).idx j) from rfl).trans (congrArg _ (idx2 t j))

/-! ## The result arrays -/

abbrev out3 : S8192x5632.Idx → EReal := resH (V m c main_arg0) (V m c main_arg1)
abbrev out4 : S8192x5632.Idx → EReal := resA (V m c main_arg0) (V m c main_arg1) (V m c main_arg2)

theorem prod (t : Fin cfg0.N) (j : S1024x512.Idx) (n : Vec Ideal S1024x2048 .bf16) (w : Vec Ideal S512x2048 .bf16)
    (hn : n = iblk m c 0 t) (hw : w = iblk m c 1 t) :
    ∑ k : Fin 2048, n (ix2 (j 0) k) * w (ix2 (j 1) k) = out3 m c (at_ t j) :=
  Finset.sum_congr rfl fun k _ => congrArg₂ (fun u v : EReal => u * v) ((congrFun hn _).trans (iblk0 m c t _ k)) ((congrFun hw _).trans (iblk1 m c t _ k))

theorem flushed3_eq (t : Fin cfg0.N) : (dats m 0 c).flushed 3 t = (win0_3.blk t).view.read (Elt Ideal) (out3 m c) := by
  rw [Value.flushed3]
  unfold out0_3
  rw [View.canon_unit_zero hz, View.ld_unit_zero hz, View.ld_unit_zero hz]
  funext j
  refine (pay2_apply _ _ j).trans ?_
  exact (prod m c t j _ _ rfl rfl).trans (congrArg (out3 m c) (idx3 t j).symm)

theorem flushed4_eq (t : Fin cfg0.N) : (dats m 0 c).flushed 4 t = (win0_4.blk t).view.read (Elt Ideal) (out4 m c) := by
  rw [Value.flushed4]
  unfold out0_4
  rw [View.canon_unit_zero hz, View.ld_unit_zero hz, View.ld_unit_zero hz, View.ld_unit_zero hz]
  funext j
  refine (pay3_apply _ _ _ j).trans ?_
  rw [iblk2, prod m c t j _ _ rfl rfl]
  exact congrArg (out4 m c) (idx4 t j).symm

/-- The point whose tile an entry lies in. -/
theorem hits (i : S8192x5632.Idx) : ∃ (t : Fin cfg0.N) (j : S1024x512.Idx), at_ t j = i := by
  have h0 : (i 0 : ℕ) < 8192 := (i 0).isLt
  have h1 : (i 1 : ℕ) < 5632 := (i 1).isLt
  have ht : (i 0 : ℕ) / 1024 * 11 + (i 1 : ℕ) / 512 < cfg0.N := by rw [show cfg0.N = 88 from N_0]; omega
  have e0 : ((i 0 : ℕ) / 1024 * 11 + (i 1 : ℕ) / 512) / 11 = (i 0 : ℕ) / 1024 := by omega
  have e1 : ((i 0 : ℕ) / 1024 * 11 + (i 1 : ℕ) / 512) % 11 = (i 1 : ℕ) / 512 := by omega
  refine ⟨⟨_, ht⟩, ix2 ⟨(i 0 : ℕ) % 1024, by omega⟩ ⟨(i 1 : ℕ) % 512, by omega⟩, Shape.idx_ext₂ (congrArg Fin.val ?_) (congrArg Fin.val ?_)⟩
  · show spot 1024 8192 (((i 0 : ℕ) / 1024 * 11 + (i 1 : ℕ) / 512) / 11) _ = i 0
    rw [e0]; exact spot_of (w := 1024) (n := 8192) (by decide) (i 0)
  · show spot 512 5632 (((i 0 : ℕ) / 1024 * 11 + (i 1 : ℕ) / 512) % 11) _ = i 1
    rw [e1]; exact spot_of (w := 512) (n := 5632) (by decide) (i 1)

theorem cover3 (i : S8192x5632.Idx) : ∃ t : Fin cfg0.N, (cfg0.win 3).flush t = true ∧ i ∈ ((cfg0.win 3).blk t).view.set := by
  obtain ⟨t, j, rfl⟩ := hits i
  refine ⟨t, flush0_3 t, ?_⟩
  show at_ t j ∈ ((View.whole main_v0_0).slice (win0_3.rect t)).set
  rw [View.set_slice_whole, ← idx3]
  exact (win0_3.rect t).idx_mem j

theorem cover4 (i : S8192x5632.Idx) : ∃ t : Fin cfg0.N, (cfg0.win 4).flush t = true ∧ i ∈ ((cfg0.win 4).blk t).view.set := by
  obtain ⟨t, j, rfl⟩ := hits i
  refine ⟨t, flush0_4 t, ?_⟩
  show at_ t j ∈ ((View.whole main_v0_1).slice (win0_4.rect t)).set
  rw [View.set_slice_whole, ← idx4]
  exact (win0_4.rect t).idx_mem j

theorem final3 : (dats m 0 c).arrAt 3 cfg0.N = out3 m c := (dats m 0 c).arrAt_eq_of_cover 3 (out3 m c) (fun t _ => flushed3_eq m c t) cover3
theorem final4 : (dats m 0 c).arrAt 4 cfg0.N = out4 m c := (dats m 0 c).arrAt_eq_of_cover 4 (out4 m c) (fun t _ => flushed4_eq m c t) cover4

end Cert.Proof.UpActValue

end
-- ==== Proof.UpActClaims.lean ====
/-
  The claims about the first feed-forward layer's up projection: the frames, and that at the ideal instance its two result
  arrays are the product and the gated product, of any arguments.
-/
module

public import proofs.«01_k».proof.Defs
public import proofs.«01_k».proof.Proof.UpActValue
public import proofs.«01_k».proof.Proof.Gen.UpAct.Frame
public import proofs.«01_k».proof.Proof.Gen.UpActRefIdeal.Run

@[expose] public section

set_option maxRecDepth 16384

noncomputable section

namespace Cert.Proof.UpActClaims

open Idealize.ShloMosaic Idealize.SL.Sem Cert.Proof.RealMath Cert.Proof.FfnMath
open scoped BigOperators

section Ref
open Cert.UpActRefIdeal Cert.UpActRefIdeal.Gen

variable (m : (ℓ : Loc nD τ sig) → Buf (Elt Ideal) ℓ) (ρ : Dev nD → PrngReg)

/-- The reference's run leaves these two arrays and its arguments. -/
theorem ref_run : θ_run defs (onTc (τ := τ) (main (F := Ideal))) ⟨m, fun _ => 0, ρ⟩ fun r => ∀ c : Dev nD,
      r.2.mem ((c.tc : Thread nD τ).loc main_v4) = UpActValue.resH (m ((c.tc : Thread nD τ).loc main_arg0)) (m ((c.tc : Thread nD τ).loc main_arg1))
      ∧ r.2.mem ((c.tc : Thread nD τ).loc main_v8) = UpActValue.resA (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Cert.UpActRefIdeal.Value.run (F := Ideal) m ρ)
  · clear h; funext i; pointwise; simp only [UpActValue.resH]
  · clear h; funext i; pointwise; simp only [UpActValue.resA, UpActValue.resH, sig_all, rSig, w_one]

end Ref

/-! ## The claims -/

theorem frame_k : Cert.quiescent_UpAct := fun m ρ _ => Cert.UpAct.Gen.frame m ρ
theorem frame_ki : Cert.quiescent_UpActIdeal := fun m ρ _ => Cert.UpActIdeal.Gen.frame m ρ
theorem frame_r : Cert.quiescent_UpActRefIdeal := fun m ρ _ =>
  (θ_run Cert.UpActRefIdeal.defs _ _).mono (fun r h => ⟨fun c => (h c).2.2, sem_eq_zero_of_no_sems (by decide) r.2⟩)
    (Cert.UpActRefIdeal.Value.run (F := Ideal) m ρ)

theorem algebraic : Cert.algebraic_UpActIdeal_UpActRefIdeal := by
  intro m ρ m' ρ' _ hagree
  refine ⟨fun c => UpActValue.out3 m c, fun c => UpActValue.out4 m c, ?_, ?_⟩
  · exact (θ_run Cert.UpActIdeal.defs _ _).mono
      (fun _ h c => ⟨(h c).1.trans (UpActValue.final3 m c), (h c).2.1.trans (UpActValue.final4 m c), (h c).2.2⟩)
      (Cert.UpActIdeal.Value.run_blocks (F := Ideal) m ρ)
  · refine (θ_run Cert.UpActRefIdeal.defs _ _).mono (fun _ h c => ⟨(h c).1.trans ?_, (h c).2.1.trans ?_, (h c).2.2⟩) (ref_run m' ρ')
    · rw [(hagree c).1, (hagree c).2.1]
    · rw [(hagree c).1, (hagree c).2.1, (hagree c).2.2]

end Cert.Proof.UpActClaims

end
-- ==== Proof.NormGateRun.lean ====
/-
  The run of the first feed-forward layer's call that norms a row block and projects it once, at any float values: its body
  at the first column tile of a row block, where it norms the rows, and at the later ones; what every window and the scratch
  buffer hold between grid points; and the frame that follows. What one row block's norming leaves is shared with the call
  that projects twice.
-/
module

public import proofs.«01_k».proof.Proof.NormProjBody
public import proofs.«01_k».proof.Proof.Gen.NormGateIdeal.Frame
public import proofs.«01_k».proof.Proof.Gen.NormGateIdeal.Loops
public import proofs.«01_k».proof.Proof.Gen.NormGateIdeal.Launch
public import proofs.«01_k».proof.Proof.Gen.NormGateIdeal.Skeleton
public import proofs.«01_k».proof.Proof.Gen.NormGateIdeal.Points
public import Idealize.ShloMosaic.Lib.Pipeline.TableIdle
public import Idealize.ShloMosaic.Lib.Claim

@[expose] public section

set_option maxRecDepth 16384

noncomputable section

namespace Cert.Proof.NormGate

open Cert.NormGateIdeal Cert.NormGateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.Proof.NormProj (normed put_chunk chunk_inb)

variable {F : FTy → Type} [FloatOps F]

local notation "𝕄" => MT nD τ sig Unit (Elt F) ℕ (UR sig nD τ) ℕ

/-- A chunk is normed as in the call that projects twice. -/
theorem pay1_eq (v : Vec F S128x2048 .f32) (g : Vec F S1x2048 .f32) : k0_pay1 v g = Cert.NormProjIdeal.Gen.k0_pay1 v g := rfl

theorem pay2_eq (v : Vec F S128x2048 .f32) (g : Vec F S1x2048 .f32) : k0_pay2 v g = Cert.NormProjIdeal.Gen.k0_pay1 v g := by
  unfold k0_pay2
  dsimp only
  exact shapeCast_self _ _

/-! ## The body -/

section Body
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S512x2048 .bf16) (harg4 : arg4.IsWhole) (arg5 : Memref sig .tc .vmem S1024x2048 .bf16) (harg5 : arg5.IsWhole)
  (arg6 : Memref sig .tc .vmem S1024x512 .bf16) (harg6 : arg6.IsWhole) (arg7 : Memref sig .tc .vmem S1024x2048 .bf16) (harg7 : arg7.IsWhole)

theorem trips_eq : k0_t1_loop.trips = 8 := by decide +kernel

/-- After `k` chunks both buffers hold the normed rows of the chunks done. -/
theorem chunks (hc : k0_cond1 i = 1#1) (X : BufTy.Contents (Elt F) arg2.view.ty) (G : BufTy.Contents (Elt F) arg3.view.ty)
    (f5 : BufTy.Contents (Elt F) arg5.view.ty) (f7 : BufTy.Contents (Elt F) arg7.view.ty) : ∀ k : ℕ, k ≤ 8 → ∀ (p : Fin 1024) (q : Fin 2048), p.val < 128 * k →
    arg5.view.read (Elt F) (arg5.view.writes (Elt F) f5 (pb_k0_t1 (F := F) Variants.none c none i arg2 harg2 arg3 harg3 arg4 harg4 arg5 harg5 arg6 harg6 arg7 harg7 hc X G k).1) (ix2 p q)
      = normed (arg2.view.read (Elt F) X) (arg3.view.read (Elt F) G) (ix2 p q)
    ∧ arg7.view.read (Elt F) (arg7.view.writes (Elt F) f7 (pb_k0_t1 (F := F) Variants.none c none i arg2 harg2 arg3 harg3 arg4 harg4 arg5 harg5 arg6 harg6 arg7 harg7 hc X G k).2) (ix2 p q)
      = normed (arg2.view.read (Elt F) X) (arg3.view.read (Elt F) G) (ix2 p q) := by
  intro k
  induction k with
  | zero => intro _ p q h; omega
  | succ k ih =>
    intro hk p q hp
    have eo : k0_off1 ⟨k, by rw [trips_eq]; omega⟩ = ![128 * k, 0] := k0_off1_eq _
    rw [show k + 1 = (⟨k, by rw [trips_eq]; omega⟩ : Fin k0_t1_loop.trips).val + 1 from rfl, pb_k0_t1_succ]
    unfold tripL_k0_t1 trip_k0_t1
    dsimp only
    rw [List.cons_append, List.nil_append, List.cons_append, List.nil_append, View.read_writes_cons_put _ _ _ _ _ eo, View.read_writes_cons_put _ _ _ _ _ eo]
    rw [View.readAt_unit _ _ _ eo (chunk_inb k (by omega)), View.readAt_full, pay1_eq, pay2_eq]
    exact ⟨put_chunk _ _ k (by omega) _ (fun p q h => (ih (by omega) p q h).1) p q hp, put_chunk _ _ k (by omega) _ (fun p q h => (ih (by omega) p q h).2) p q hp⟩

/-- All the chunks done, both buffers hold the normed rows of the block. -/
theorem all_chunks (hc : k0_cond1 i = 1#1) (X : BufTy.Contents (Elt F) arg2.view.ty) (G : BufTy.Contents (Elt F) arg3.view.ty)
    (f5 : BufTy.Contents (Elt F) arg5.view.ty) (f7 : BufTy.Contents (Elt F) arg7.view.ty) (k : ℕ) (hk : k = 8) :
    arg5.view.read (Elt F) (arg5.view.writes (Elt F) f5 (pb_k0_t1 (F := F) Variants.none c none i arg2 harg2 arg3 harg3 arg4 harg4 arg5 harg5 arg6 harg6 arg7 harg7 hc X G k).1)
      = normed (arg2.view.read (Elt F) X) (arg3.view.read (Elt F) G)
    ∧ arg7.view.read (Elt F) (arg7.view.writes (Elt F) f7 (pb_k0_t1 (F := F) Variants.none c none i arg2 harg2 arg3 harg3 arg4 harg4 arg5 harg5 arg6 harg6 arg7 harg7 hc X G k).2)
      = normed (arg2.view.read (Elt F) X) (arg3.view.read (Elt F) G) := by
  subst hk
  have h := chunks c i arg2 harg2 arg3 harg3 arg4 harg4 arg5 harg5 arg6 harg6 arg7 harg7 hc X G f5 f7 8 le_rfl
  constructor <;> funext j <;> rw [eq_ix2 j]
  · exact (h _ _ (j 0).isLt).1
  · exact (h _ _ (j 0).isLt).2

/-- The body on whole buffers. -/
abbrev body := cc0_ffn1_gate (F := F) i arg2 harg2 arg3 harg3 arg4 harg4 arg5 harg5 arg6 harg6 arg7 harg7

/-- At a later column tile: the scratch holds the normed rows, which the body reads and leaves. -/
theorem body_later (hc : ¬k0_cond1 i = 1#1) (w : Vec F S512x2048 .bf16) (n : Vec F S1024x2048 .bf16) (E : Set ℕ) (K : PUnit → sProp 𝕄) :
    iprop(owns (c : Thread nD τ) arg4 fullShare w ∗ (∃ d, owns (c : Thread nD τ) arg6 fullShare d) ∗ owns (c : Thread nD τ) arg7 fullShare n
        ∗ (iprop(owns (c : Thread nD τ) arg4 fullShare w ∗ owns (c : Thread nD τ) arg6 fullShare (k0_pay3 n w) ∗ owns (c : Thread nD τ) arg7 fullShare n) -∗ K ⟨⟩))
      ⊢ wp Idealize.ShloMosaic.frame (wpE (defs₀ (F := F)) Variants.none c none) E (body i arg2 harg2 arg3 harg3 arg4 harg4 arg5 harg5 arg6 harg6 arg7 harg7) K := by
  unfold body
  simp only [cc0_ffn1_gate_eq_skeleton]; unfold cc0_ffn1_gate_skel
  unfold owns
  iintro ⟨⟨%f4, %hf4, H4⟩, ⟨%d6, %f6, -, H6⟩, ⟨%f7, %hf7, H7⟩, Hk⟩
  subst hf4 hf7
  sl_exec (disch := sl_exact hc)
  sl_step
  iapply Hk
  isplitl [H4]; · iexists f4; isplitr; · ipureintro; rfl
                  iexact H4
  isplitl [H6]
  · iexists _; isplitr
    swap; · iexact H6
    ipureintro; rw [View.read_writes_full, View.readAt_full, View.readAt_full]
  iexists f7; isplitr; · ipureintro; rfl
  iexact H7

/-- At the first column tile: the body norms the rows and goes on with them. -/
theorem body_first (hc : k0_cond1 i = 1#1) (X : Vec F S1024x2048 .f32) (g : Vec F S1x2048 .f32) (w : Vec F S512x2048 .bf16) (E : Set ℕ) (K : PUnit → sProp 𝕄) :
    iprop(owns (c : Thread nD τ) arg2 fullShare X ∗ owns (c : Thread nD τ) arg3 fullShare g ∗ owns (c : Thread nD τ) arg4 fullShare w
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare X ∗ owns (c : Thread nD τ) arg3 fullShare g ∗ owns (c : Thread nD τ) arg4 fullShare w
            ∗ owns (c : Thread nD τ) arg5 fullShare (normed X g) ∗ owns (c : Thread nD τ) arg6 fullShare (k0_pay3 (normed X g) w)
            ∗ owns (c : Thread nD τ) arg7 fullShare (normed X g)) -∗ K ⟨⟩))
      ⊢ wp Idealize.ShloMosaic.frame (wpE (defs₀ (F := F)) Variants.none c none) E (body i arg2 harg2 arg3 harg3 arg4 harg4 arg5 harg5 arg6 harg6 arg7 harg7) K := by
  unfold body
  simp only [cc0_ffn1_gate_eq_skeleton]; unfold cc0_ffn1_gate_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf2 hf3 hf4
  sl_exec (disch := sl_exact hc)
  sl_step
  iapply Hk
  have hall := all_chunks c i arg2 harg2 arg3 harg3 arg4 harg4 arg5 harg5 arg6 harg6 arg7 harg7 hc f2 f3 f5 f7 (Scf.trips k0_t1_loop.lb k0_t1_loop.ub k0_t1_loop.st) (by decide +kernel)
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro; exact hall.1
  isplitl [H6]
  · iexists _; isplitr
    swap; · iexact H6
    ipureintro; sl_unfold_words; rw [View.read_writes_full, View.readAt_full, View.readAt_full, hall.2]
  iexists _; isplitr
  swap; · iexact H7
  ipureintro; exact hall.2

end Body

/-! ## The run -/

variable (m : (ℓ : Loc nD τ sig) → Buf (Elt F) ℓ) (ρ : Dev nD → PrngReg)

theorem lt_pts (t : Fin cfg0.N) : t.val < 88 := lt_of_lt_of_eq t.isLt (show cfg0.N = 88 from N_0)

/-- The body norms at the first column tile of a row block. -/
theorem first_iff : ∀ t : Fin cfg0.N, k0_cond1 (grid0.coords t) = 1#1 ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

/-- The first point of row block `b`. -/
def pt (b : ℕ) : Fin cfg0.N := ⟨11 * b % 88, lt_of_lt_of_eq (Nat.mod_lt _ (by decide)) (show 88 = cfg0.N from N_0.symm)⟩

theorem pt_eq (t : Fin cfg0.N) (h : t.val % 11 = 0) : pt (t.val / 11) = t :=
  Fin.ext (by have := lt_pts t; show 11 * (t.val / 11) % 88 = t.val; omega)

/-- The normed rows of row block `b`. -/
def nrm (c : Dev nD) (b : ℕ) : Vec F S1024x2048 .bf16 := normed (iblk m c 0 (pt b)) (iblk m c 1 (pt b))

/-- The scratch buffer. -/
abbrev scM : Memref sig .tc .vmem S1024x2048 .bf16 := Memref.whole cc0_scratch0

theorem PhiA_eq (c : Dev nD) : (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; rfl

/-- Within a row block the scratch holds its normed rows; between row blocks anything. -/
def PhiS (c : Dev nD) (n : ℕ) : sProp 𝕄 :=
  if n % 11 = 0 then Pipeline.ΦA spec0 c else iprop(owns (c : Thread nD τ) scM fullShare (nrm m c (n / 11)) ∗ (∃ r, prngReg c r))

/-- The proof data: the inputs' windows hold their blocks, the results' the normed rows and the product of this point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => nrm m c (t.val / 11)
    | ⟨4, _⟩ => k0_pay3 (nrm m c (t.val / 11)) (iblk m c 2 t)
  Φ t := PhiS m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = nrm m c (t.val / 11) := by dsimp only [dats]
theorem after4 (c : Dev nD) (t : Fin cfg0.N) : (dats m 0 c).after 4 t = k0_pay3 (nrm m c (t.val / 11)) (iblk m c 2 t) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

/-- The normed rows' window is stored at the first column tile only. -/
theorem idle_iff : ∀ t : Fin grid0.N, (idle0 3 (grid0.coords t) = true ↔ t.val % 11 ≠ 0) := by decide +kernel
theorem idle3 (t : Fin cfg0.N) : cfg0.idle 3 (cfg0.grid.coords t) = true ↔ t.val % 11 ≠ 0 := idle_iff t

/-- After the first column tile the window is no longer fresh, until it is written back. -/
theorem fresh3 : ∀ n, n ≤ 87 → n % 11 ≠ 0 → cfg0.fresh 3 n = false := by
  intro n
  induction n with
  | zero => intro _ h; omega
  | succ n ih =>
    intro h h'
    have hn : n < cfg0.N := by rw [show cfg0.N = 88 from N_0]; omega
    rw [cfg0.fresh_succ 3 n hn]
    have hf : (cfg0.win 3).flush ⟨n, hn⟩ = false := by
      rw [Bool.eq_false_iff, Ne, flush0_3]; show ¬ n % 11 = 10; omega
    rw [hf, Bool.false_or]
    by_cases e : n % 11 = 0
    · have hi : cfg0.idle 3 (cfg0.grid.coords ⟨n, hn⟩) = false := by
        rw [Bool.eq_false_iff, Ne, idle3]; show ¬ n % 11 ≠ 0; omega
      rw [hi, Bool.false_and]
    · rw [ih (by omega) e, Bool.and_false]

theorem before3 (c : Dev nD) (t : Fin cfg0.N) (ht : t.val % 11 ≠ 0) (d) : (dats m 0 c).before 3 t d = nrm m c (t.val / 11) := by
  rw [(dats m 0 c).before_out_traj 3 rfl (fun _ _ => rfl) ?_ t.val t rfl d, fresh3 t.val (by have := lt_pts t; omega) ht, if_neg Bool.false_ne_true, after3]
  · show nrm m c ((t.val - 1) / 11) = _
    rw [show (t.val - 1) / 11 = t.val / 11 by omega]
  · intro s hs hi _
    have hi := (idle3 s).mp hi
    rw [after3, after3]
    show nrm m c (s.val / 11) = nrm m c ((s.val - 1) / 11)
    rw [show s.val / 11 = (s.val - 1) / 11 by omega]

abbrev held (c : Dev nD) (t : Fin cfg0.N) (w : Fin cfg0.W) : sProp 𝕄 :=
  iprop(∃ d, owns (c : Thread nD τ) ((cfg0.win w).stage (cfg0.slots t w)) fullShare ((dats m 0 c).before w t d))

abbrev left (c : Dev nD) (t : Fin cfg0.N) (w : Fin cfg0.W) : sProp 𝕄 :=
  owns (c : Thread nD τ) ((cfg0.win w).stage (cfg0.slots t w)) fullShare ((dats m 0 c).after w t)

/-- The window stored only at some points: where it is not and is not written back either, as found. -/
def leftIdle (c : Dev nD) (t : Fin cfg0.N) (w : Fin cfg0.W) : sProp 𝕄 :=
  match cfg0.idle w (cfg0.grid.coords t) with
  | true => match (cfg0.win w).flush t with
    | false => held m c t w
    | true => left m c t w
  | false => left m c t w

theorem leftIdle_intro (c : Dev nD) (t : Fin cfg0.N) (w : Fin cfg0.W) (h : ∃ d, (dats m 0 c).before w t d = (dats m 0 c).after w t) : left m c t w ⊢ leftIdle m c t w := by
  unfold leftIdle
  obtain ⟨d, h⟩ := h
  split
  · split
    · unfold left held
      rw [← h]
      iintro H
      iexists d; iexact H
    · exact .rfl
  · exact .rfl

theorem leftIdle_live (c : Dev nD) (t : Fin cfg0.N) (w : Fin cfg0.W) (h : cfg0.idle w (cfg0.grid.coords t) = false) : left m c t w ⊢ leftIdle m c t w := by
  unfold leftIdle; rw [h]

def bPre (c : Dev nD) (t : Fin cfg0.N) : sProp 𝕄 :=
  iprop((dats m 0 c).Φ t.castSucc ∗ (dats m 0 c).owesAt () t.castSucc ∗ held m c t 0 ∗ held m c t 1 ∗ held m c t 2 ∗ held m c t 3 ∗ held m c t 4)

def bPost (c : Dev nD) (t : Fin cfg0.N) : sProp 𝕄 :=
  iprop((dats m 0 c).Φ t.succ ∗ (dats m 0 c).owesAt () t.succ ∗ left m c t 0 ∗ left m c t 1 ∗ left m c t 2 ∗ leftIdle m c t 3 ∗ left m c t 4)

/-- The scratch at the row block's normed rows is the invariant after the point. -/
theorem Phi_next (c : Dev nD) (t : Fin cfg0.N) :
    iprop(owns (c : Thread nD τ) scM fullShare (nrm m c (t.val / 11)) ∗ (∃ r, prngReg c r)) ⊢ (dats m 0 c).Φ t.succ := by
  rw [show (dats m 0 c).Φ t.succ = PhiS m c (t.val + 1) from rfl]
  unfold PhiS
  split
  · rw [PhiA_eq]
    iintro ⟨H, Hg⟩
    isplitl [H]
    · iexists _; iexact H
    iexact Hg
  · rw [show (t.val + 1) / 11 = t.val / 11 by omega]

set_option maxHeartbeats 2000000 in
theorem body_at (c : Dev nD) (t : Fin cfg0.N) :
    bPre m c t ⊢ wp Idealize.ShloMosaic.frame (wpE (defs₀ (F := F)) Variants.none c none) Set.univ (bodyAt0 t) (fun _ => bPost m c t) := by
  unfold bPre bPost bodyAt0 held
  simp only [before0, before1, before2, after0, after1, after2, after4, left]
  rw [show (dats m 0 c).owesAt () t.succ = (dats m 0 c).owesAt () t.castSucc from rfl]
  rw [show (dats m 0 c).Φ t.castSucc = PhiS m c t.val from rfl]
  by_cases h : t.val % 11 = 0
  · have hn : nrm m c (t.val / 11) = normed (iblk m c 0 t) (iblk m c 1 t) := by unfold nrm; rw [pt_eq t h]
    unfold PhiS
    rw [if_pos h, PhiA_eq]
    iintro ⟨⟨HS, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ ((first_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    rw [← hn]
    iintro ⟨H0, H1, H2, H3, H4, HS⟩
    isplitl [HS Hg]
    · iapply (Phi_next m c t)
      isplitl [HS]; · iexact HS
      iexact Hg
    isplitl [Ho]; · iexact Ho
    isplitl [H0]; · iexact H0
    isplitl [H1]; · iexact H1
    isplitl [H2]; · iexact H2
    isplitl [H3]
    · iapply (leftIdle_live m c t 3 (by rw [Bool.eq_false_iff, Ne, idle3]; exact fun e => e h))
      rw [left, after3]; iexact H3
    iexact H4
  · simp only [before3 m c t h]
    unfold PhiS
    rw [if_neg h]
    iintro ⟨⟨HS, Hg⟩, Ho, ⟨%d0, H0⟩, ⟨%d1, H1⟩, ⟨%d2, H2⟩, ⟨%d3, H3⟩, ⟨%d4, H4⟩⟩
    iapply (body_later c (grid0.coords t) _ _ _ _ _ _ _ _ _ _ _ _ (fun e => h ((first_iff t).mp e)) (iblk m c 2 t) (nrm m c (t.val / 11)) Set.univ _)
    isplitl [H2]; · iexact H2
    isplitl [H4]; · iexists _; iexact H4
    isplitl [HS]; · iexact HS
    iintro ⟨H2, H4, HS⟩
    isplitl [HS Hg]
    · iapply (Phi_next m c t)
      isplitl [HS]; · iexact HS
      iexact Hg
    isplitl [Ho]; · iexact Ho
    isplitl [H0]; · iexact H0
    isplitl [H1]; · iexact H1
    isplitl [H2]; · iexact H2
    isplitl [H3]
    · iapply (leftIdle_intro m c t 3 ⟨d3, (before3 m c t h d3).trans (after3 m c t).symm⟩)
      rw [left, after3]; iexact H3
    iexact H4

theorem defs₀_row (t : Fin cfg0.N) : defs₀ (F := F) .tc cfg0.body (cfg0.bodyArgs t (cfg0.slots t)) = bodyAt0 t := by
  unfold defs₀; rw [Defs.onTc_tc]

theorem obligation (c : Dev nD) : BodyObligationLoose (dats m 0 c) (defs₀ (F := F)) Variants.none () Set.univ := fun t =>
  triple_restated (body_at m c t) (by rw [defs₀_row]) (by rw [bigSep_W0]; exact .rfl) (fun _ => by rw [bigSep_W0]; exact .rfl)

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => obligation m c) (hshare := fun c => (dats m 0 c).share_full fun _ => rfl)
    (howed := fun _ _ => rfl) (V := V m) (hmain := hmain m Variants.none) (hA := A_eq m) (hin := fun _ => .rfl) (hout := fun _ => .rfl)

/-- The frame: every argument array ends as it began, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Proof.NormGate

end
-- ==== Proof.NormGateClaims.lean ====
/-
  The claims about the first feed-forward layer's call that norms the rows and projects them once: the frames, and that at the
  ideal instance it leaves the normed rows and their projection, of any arguments.
-/
module

public import proofs.«01_k».proof.Defs
public import proofs.«01_k».proof.Proof.NormGateRun
public import proofs.«01_k».proof.Proof.NormProjClaims
public import proofs.«01_k».proof.Proof.Tiles
public import proofs.«01_k».proof.Proof.Gen.NormGate
public import proofs.«01_k».proof.Proof.Gen.NormGateRefIdeal.Run

@[expose] public section

set_option maxRecDepth 16384

noncomputable section

namespace Cert.Proof.NormGate

open Idealize.ShloMosaic Idealize.SL.Sem
open Idealize.ShloMosaic.TcCoe Idealize.ShloMosaic.Tactic
open Idealize.ShloMosaic.Pipeline (Dat Cfg Window)
open Cert.Proof.RmsRows Cert.Proof.Tiles
open Cert.Proof.NormProj (resN resH normed normed_apply)
open scoped BigOperators

section Value
open Cert.NormGateIdeal Cert.NormGateIdeal.Gen

theorem pay3_apply (n : Vec Ideal S1024x2048 .bf16) (w : Vec Ideal S512x2048 .bf16) (p : Fin 1024) (q : Fin 512) :
    k0_pay3 n w (ix2 p q) = ∑ k : Fin 2048, n (ix2 p k) * w (ix2 q k) := by
  unfold k0_pay3
  pointwise

theorem index_of : ∀ t : Fin grid0.N, win0_0.index t 0 = t.val / 11 ∧ win0_0.index t 1 = 0 ∧ win0_1.index t 0 = 0 ∧ win0_1.index t 1 = 0
    ∧ win0_2.index t 0 = t.val % 11 ∧ win0_2.index t 1 = 0 ∧ win0_4.index t 0 = t.val / 11 ∧ win0_4.index t 1 = t.val % 11 := by
  decide +kernel

/-- Row `p` of row block `b`, and column `q` of column tile `b`. -/
abbrev row (b : ℕ) (p : Fin 1024) : Fin 8192 := spot 1024 8192 b p
abbrev col (b : ℕ) (q : Fin 512) : Fin 5632 := spot 512 5632 b q

theorem row_val (t : Fin cfg0.N) (p : Fin 1024) : (row (t.val / 11) p).val = 1024 * (t.val / 11) + p.val := spot_val _ (by have := lt_pts t; omega) p
theorem col_val (t : Fin cfg0.N) (q : Fin 512) : (col (t.val % 11) q).val = 512 * (t.val % 11) + q.val := spot_val _ (by omega) q

variable (m : (ℓ : Loc nD τ sig) → Buf (Elt Ideal) ℓ) (ρ : Dev nD → PrngReg) (c : Dev nD)

abbrev xV : S8192x2048.Idx → EReal := V m c main_arg0
abbrev gV : S1x2048.Idx → EReal := V m c main_arg1
abbrev wV : S5632x2048.Idx → EReal := V m c main_arg2

/-- Every row block's place in its array, -/
theorem idx0 (t : Fin cfg0.N) (p : Fin 1024) (q : Fin 2048) : (win0_0.rect t).idx (ix2 p q) = ix2 (row (t.val / 11) p) q := by
  obtain ⟨e0, e1, -⟩ := index_of t
  refine Shape.idx_ext₂ ?_ ?_
  · show win0_0.index t 0 * 1024 + 1 * (p : ℕ) = (row (t.val / 11) p).val
    rw [e0, row_val]; omega
  · show win0_0.index t 1 * 2048 + 1 * (q : ℕ) = q
    rw [e1]; omega

theorem idx3 (t : Fin cfg0.N) (p : Fin 1024) (q : Fin 2048) : (win0_3.rect t).idx (ix2 p q) = ix2 (row (t.val / 11) p) q :=
  (show _ = (win0_0.rect t).idx (ix2 p q) from rfl).trans (idx0 t p q)

/-- and every tile's. -/
theorem idx4 (t : Fin cfg0.N) (p : Fin 1024) (q : Fin 512) : (win0_4.rect t).idx (ix2 p q) = ix2 (row (t.val / 11) p) (col (t.val % 11) q) := by
  obtain ⟨-, -, -, -, -, -, e0, e1⟩ := index_of t
  refine Shape.idx_ext₂ ?_ ?_
  · show win0_4.index t 0 * 1024 + 1 * (p : ℕ) = (row (t.val / 11) p).val
    rw [e0, row_val]; omega
  · show win0_4.index t 1 * 512 + 1 * (q : ℕ) = (col (t.val % 11) q).val
    rw [e1, col_val]; omega

theorem iblk0 (t : Fin cfg0.N) (p : Fin 1024) (q : Fin 2048) : iblk m c 0 t (ix2 p q) = xV m c (ix2 (row (t.val / 11) p) q) :=
  (show _ = xV m c ((win0_0.rect t).idx (ix2 p q)) from rfl).trans (congrArg _ (idx0 t p q))

theorem iblk1 (t : Fin cfg0.N) (q : Fin 2048) : iblk m c 1 t (ix2 (0 : Fin 1) q) = gV m c (ix2 (0 : Fin 1) q) := by
  obtain ⟨-, -, e0, e1, -⟩ := index_of t
  refine (show _ = gV m c ((win0_1.rect t).idx (ix2 (0 : Fin 1) q)) from rfl).trans (congrArg _ ?_)
  refine Shape.idx_ext₂ ?_ ?_
  · show win0_1.index t 0 * 1 + 1 * 0 = 0
    rw [e0]
  · show win0_1.index t 1 * 2048 + 1 * (q : ℕ) = q
    rw [e1]; omega

theorem iblk2 (t : Fin cfg0.N) (p : Fin 512) (q : Fin 2048) : iblk m c 2 t (ix2 p q) = wV m c (ix2 (col (t.val % 11) p) q) := by
  obtain ⟨-, -, -, -, e0, e1, -⟩ := index_of t
  refine (show _ = wV m c ((win0_2.rect t).idx (ix2 p q)) from rfl).trans (congrArg _ ?_)
  refine Shape.idx_ext₂ ?_ ?_
  · show win0_2.index t 0 * 512 + 1 * (p : ℕ) = (col (t.val % 11) p).val
    rw [e0, col_val]; omega
  · show win0_2.index t 1 * 2048 + 1 * (q : ℕ) = q
    rw [e1]; omega

abbrev outN (c : Dev nD) : S8192x2048.Idx → EReal := resN (xV m c) (gV m c)
abbrev outH (c : Dev nD) : S8192x5632.Idx → EReal := resH (xV m c) (gV m c) (wV m c)

theorem nrm_apply (t : Fin cfg0.N) (p : Fin 1024) (q : Fin 2048) : nrm m c (t.val / 11) (ix2 p q) = outN m c (ix2 (row (t.val / 11) p) q) := by
  have e : (pt (t.val / 11)).val / 11 = t.val / 11 := by have := lt_pts t; show 11 * (t.val / 11) % 88 / 11 = t.val / 11; omega
  unfold nrm
  rw [normed_apply]
  simp only [iblk0, iblk1, e]
  rfl

theorem h_apply (t : Fin cfg0.N) (p : Fin 1024) (q : Fin 512) :
    k0_pay3 (nrm m c (t.val / 11)) (iblk m c 2 t) (ix2 p q) = outH m c (ix2 (row (t.val / 11) p) (col (t.val % 11) q)) := by
  rw [pay3_apply]
  refine Finset.sum_congr rfl fun k _ => ?_
  rw [nrm_apply, iblk2]
  rfl

/-! ## The arrays at the end -/

theorem flushed3 (t : Fin cfg0.N) : (dats m 0 c).flushed 3 t = (win0_3.blk t).view.read (Elt Ideal) (outN m c) := by
  show (cfg0.win 3).cut (grid0.coords t) ((dats m 0 c).after 3 t) = _
  rw [after3]
  funext j
  obtain ⟨p, q, rfl⟩ : ∃ p q, j = ix2 p q := ⟨j 0, j 1, eq_ix2 j⟩
  exact (nrm_apply m c t p q).trans (congrArg (outN m c) (idx3 t p q).symm)

theorem flushed4 (t : Fin cfg0.N) : (dats m 0 c).flushed 4 t = (win0_4.blk t).view.read (Elt Ideal) (outH m c) := by
  show (cfg0.win 4).cut (grid0.coords t) ((dats m 0 c).after 4 t) = _
  rw [after4]
  funext j
  obtain ⟨p, q, rfl⟩ : ∃ p q, j = ix2 p q := ⟨j 0, j 1, eq_ix2 j⟩
  exact (h_apply m c t p q).trans (congrArg (outH m c) (idx4 t p q).symm)

/-- The last point of the row block an entry lies in. -/
theorem at_row (i : S8192x2048.Idx) : ∃ (t : Fin cfg0.N) (p : Fin 1024) (q : Fin 2048), t.val % 11 = 10 ∧ ix2 (row (t.val / 11) p) q = i := by
  obtain ⟨a, b, rfl⟩ : ∃ (a : Fin 8192) (b : Fin 2048), i = ix2 a b := ⟨i 0, i 1, eq_ix2 i⟩
  have ht : a.val / 1024 * 11 + 10 < cfg0.N := by rw [show cfg0.N = 88 from N_0]; omega
  refine ⟨⟨_, ht⟩, ⟨a.val % 1024, Nat.mod_lt _ (by decide)⟩, b, by show (a.val / 1024 * 11 + 10) % 11 = 10; omega, congrArg (ix2 · b) ?_⟩
  show row ((a.val / 1024 * 11 + 10) / 11) _ = a
  rw [show (a.val / 1024 * 11 + 10) / 11 = a.val / 1024 by omega]
  exact spot_of (by decide) a

/-- The point whose tile an entry lies in. -/
theorem at_tile (i : S8192x5632.Idx) : ∃ (t : Fin cfg0.N) (p : Fin 1024) (q : Fin 512), ix2 (row (t.val / 11) p) (col (t.val % 11) q) = i := by
  obtain ⟨a, b, rfl⟩ : ∃ (a : Fin 8192) (b : Fin 5632), i = ix2 a b := ⟨i 0, i 1, eq_ix2 i⟩
  have ht : a.val / 1024 * 11 + b.val / 512 < cfg0.N := by rw [show cfg0.N = 88 from N_0]; omega
  refine ⟨⟨_, ht⟩, ⟨a.val % 1024, Nat.mod_lt _ (by decide)⟩, ⟨b.val % 512, Nat.mod_lt _ (by decide)⟩, congrArg₂ ix2 ?_ ?_⟩
  · show row ((a.val / 1024 * 11 + b.val / 512) / 11) _ = a
    rw [show (a.val / 1024 * 11 + b.val / 512) / 11 = a.val / 1024 by omega]
    exact spot_of (by decide) a
  · show col ((a.val / 1024 * 11 + b.val / 512) % 11) _ = b
    rw [show (a.val / 1024 * 11 + b.val / 512) % 11 = b.val / 512 by omega]
    exact spot_of (by decide) b

theorem cover3 (i : S8192x2048.Idx) : ∃ t : Fin cfg0.N, (cfg0.win 3).flush t = true ∧ i ∈ ((cfg0.win 3).blk t).view.set := by
  obtain ⟨t, p, q, h, rfl⟩ := at_row i
  refine ⟨t, (flush0_3 t).mpr h, ?_⟩
  show _ ∈ ((View.whole main_v0_0).slice (win0_3.rect t)).set
  rw [View.set_slice_whole, ← idx3]
  exact (win0_3.rect t).idx_mem _

theorem cover4 (i : S8192x5632.Idx) : ∃ t : Fin cfg0.N, (cfg0.win 4).flush t = true ∧ i ∈ ((cfg0.win 4).blk t).view.set := by
  obtain ⟨t, p, q, rfl⟩ := at_tile i
  refine ⟨t, flush0_4 t, ?_⟩
  show _ ∈ ((View.whole main_v0_1).slice (win0_4.rect t)).set
  rw [View.set_slice_whole, ← idx4]
  exact (win0_4.rect t).idx_mem _

theorem final3 : (dats m 0 c).arrAt 3 cfg0.N = outN m c := (dats m 0 c).arrAt_eq_of_cover 3 (outN m c) (fun t _ => flushed3 m c t) cover3
theorem final4 : (dats m 0 c).arrAt 4 cfg0.N = outH m c := (dats m 0 c).arrAt_eq_of_cover 4 (outH m c) (fun t _ => flushed4 m c t) cover4

variable {m} in
theorem arr_kept {r : PUnit × MemSt nD τ sig (Elt Ideal)} (h : Pipeline.FramePost cfgs (dats m) (0 : Fin 1) (V m) r) (c : Dev nD) (w : Fin cfg0.W)
    (hin : (cfg0.win w).isOut = false) : r.2.mem ((cfg0.spec w).arr.view.loc (c.tc : Thread nD τ)) = V m c (Pipeline.arrRef spec0 w) :=
  ((h c).1 w).trans (((dats m 0 c).arrAt_in w hin _).trans (A_eq m c w))

set_option maxHeartbeats 4000000 in
/-- The run, with its results. -/
theorem run_values : θ_run defs (onTc (τ := τ) (main (F := Ideal))) (s₀ m ρ) (fun r => ∀ c : Dev nD,
      r.2.mem ((c.tc : Thread nD τ).loc main_v0_0) = outN m c
      ∧ r.2.mem ((c.tc : Thread nD τ).loc main_v0_1) = outH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c),
    arr_kept h.1 c 0 rfl, arr_kept h.1 c 1 rfl, arr_kept h.1 c 2 rfl⟩) (run_main m ρ)

end Value

section Reference
open Cert.NormGateRefIdeal Cert.NormGateRefIdeal.Gen

/-- The reference's projection of the normed rows. -/
theorem ref_h (x : S8192x2048.Idx → EReal) (g : S1x2048.Idx → EReal) (w : FVec Ideal S5632x2048 .bf16) :
    truncf .bf16 (Host.dotGeneral (F := Ideal) dot_S8192x2048_S2048x5632_S8192x5632_1_0_0_1_n_n none (φ₁ := .f32) (resN x g) (transpose S2048x5632 [1, 0] (extf .f32 w bitsLt_bf16_f32) transposes_S5632x2048_S2048x5632_1_0)) bitsLt_bf16_f32
      = resH x g w := by
  funext i
  unfold resH
  generalize resN x g = n
  pointwise

end Reference

/-! ## The claims -/

/-- The program and its idealization have the same text at every float type, so the frame's proof, over any, serves both. -/
theorem same_bodies : (Cert.NormGate.defs₀ (F := Bits)) = Cert.NormGateIdeal.defs₀ (F := Bits) := by
  unfold Cert.NormGate.defs₀ Cert.NormGateIdeal.defs₀
  refine congrArg Defs.onTc ?_
  funext l x
  match l, x with
  | 0, (t, s) => rfl

theorem same_defs : (Cert.NormGate.defs (F := Bits)) = Cert.NormGateIdeal.defs (F := Bits) := congrArg (Pipeline.defs _) same_bodies

theorem frame_k : Cert.quiescent_NormGate := fun m ρ _ => by
  rw [same_defs]
  exact frame (F := Bits) m ρ
theorem frame_ki : Cert.quiescent_NormGateIdeal := fun m ρ _ => frame m ρ
theorem frame_r : Cert.quiescent_NormGateRefIdeal := fun m ρ _ =>
  (θ_run Cert.NormGateRefIdeal.defs _ _).mono (fun r h => ⟨fun c => (h c).2.2, sem_eq_zero_of_no_sems (by decide) r.2⟩) (Cert.NormGateRefIdeal.Value.run (F := Ideal) m ρ)

/-- The value claim, of any arguments. -/
theorem value : Cert.algebraic_NormGateIdeal_NormGateRefIdeal := by
  intro m ρ m' ρ' _ hagree
  refine ⟨fun c => outN m c, fun c => outH m c, run_values m ρ, ?_⟩
  refine (θ_run Cert.NormGateRefIdeal.defs _ _).mono (fun _ h c => ⟨(h c).1.trans ?_, (h c).2.1.trans ?_, (h c).2.2⟩) (Cert.NormGateRefIdeal.Value.run (F := Ideal) m' ρ')
  · rw [(hagree c).1, (hagree c).2.1]
    exact NormProjClaims.ref_n _ _
  · rw [(hagree c).1, (hagree c).2.1, (hagree c).2.2, NormProjClaims.ref_n]
    exact ref_h _ _ _

end Cert.Proof.NormGate

end
-- ==== Proof.InProjRun.lean ====
/-
  The run of the input projection's call that norms a row block and projects it once, at any float values: its body
  at the first column tile of a row block, where it norms the rows, and at the later ones; what every window and the scratch
  buffer hold between grid points; and the frame that follows. What one row block's norming leaves is shared with the call
  that projects twice.
-/
module

public import proofs.«01_k».proof.Proof.NormProjBody
public import proofs.«01_k».proof.Proof.Gen.InProjIdeal.Frame
public import proofs.«01_k».proof.Proof.Gen.InProjIdeal.Loops
public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.TableIdle
public import Idealize.ShloMosaic.Lib.Claim

@[expose] public section

set_option maxRecDepth 16384

noncomputable section

namespace Cert.Proof.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.Proof.NormProj (normed put_chunk chunk_inb)

variable {F : FTy → Type} [FloatOps F]

local notation "𝕄" => MT nD τ sig Unit (Elt F) ℕ (UR sig nD τ) ℕ

/-- A chunk is normed as in the call that projects twice. -/
theorem pay1_eq (v : Vec F S128x2048 .f32) (g : Vec F S1x2048 .f32) : k0_pay1 v g = Cert.NormProjIdeal.Gen.k0_pay1 v g := rfl

theorem pay2_eq (v : Vec F S128x2048 .f32) (g : Vec F S1x2048 .f32) : k0_pay2 v g = Cert.NormProjIdeal.Gen.k0_pay1 v g := by
  unfold k0_pay2
  dsimp only
  exact shapeCast_self _ _

/-! ## The body -/

section Body
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S1024x1024 .f32) (harg6 : arg6.IsWhole) (arg7 : Memref sig .tc .vmem S1024x2048 .bf16) (harg7 : arg7.IsWhole)

theorem trips_eq : k0_t1_loop.trips = 8 := by decide +kernel

/-- After `k` chunks both buffers hold the normed rows of the chunks done. -/
theorem chunks (hc : k0_cond1 i = 1#1) (X : BufTy.Contents (Elt F) arg2.view.ty) (G : BufTy.Contents (Elt F) arg3.view.ty)
    (f5 : BufTy.Contents (Elt F) arg5.view.ty) (f7 : BufTy.Contents (Elt F) arg7.view.ty) : ∀ k : ℕ, k ≤ 8 → ∀ (p : Fin 1024) (q : Fin 2048), p.val < 128 * k →
    arg5.view.read (Elt F) (arg5.view.writes (Elt F) f5 (pb_k0_t1 (F := F) Variants.none c none i arg2 harg2 arg3 harg3 arg4 harg4 arg5 harg5 arg6 harg6 arg7 harg7 hc X G k).1) (ix2 p q)
      = normed (arg2.view.read (Elt F) X) (arg3.view.read (Elt F) G) (ix2 p q)
    ∧ arg7.view.read (Elt F) (arg7.view.writes (Elt F) f7 (pb_k0_t1 (F := F) Variants.none c none i arg2 harg2 arg3 harg3 arg4 harg4 arg5 harg5 arg6 harg6 arg7 harg7 hc X G k).2) (ix2 p q)
      = normed (arg2.view.read (Elt F) X) (arg3.view.read (Elt F) G) (ix2 p q) := by
  intro k
  induction k with
  | zero => intro _ p q h; omega
  | succ k ih =>
    intro hk p q hp
    have eo : k0_off1 ⟨k, by rw [trips_eq]; omega⟩ = ![128 * k, 0] := k0_off1_eq _
    rw [show k + 1 = (⟨k, by rw [trips_eq]; omega⟩ : Fin k0_t1_loop.trips).val + 1 from rfl, pb_k0_t1_succ]
    unfold tripL_k0_t1 trip_k0_t1
    dsimp only
    rw [List.cons_append, List.nil_append, List.cons_append, List.nil_append, View.read_writes_cons_put _ _ _ _ _ eo, View.read_writes_cons_put _ _ _ _ _ eo]
    rw [View.readAt_unit _ _ _ eo (chunk_inb k (by omega)), View.readAt_full, pay1_eq, pay2_eq]
    exact ⟨put_chunk _ _ k (by omega) _ (fun p q h => (ih (by omega) p q h).1) p q hp, put_chunk _ _ k (by omega) _ (fun p q h => (ih (by omega) p q h).2) p q hp⟩

/-- All the chunks done, both buffers hold the normed rows of the block. -/
theorem all_chunks (hc : k0_cond1 i = 1#1) (X : BufTy.Contents (Elt F) arg2.view.ty) (G : BufTy.Contents (Elt F) arg3.view.ty)
    (f5 : BufTy.Contents (Elt F) arg5.view.ty) (f7 : BufTy.Contents (Elt F) arg7.view.ty) (k : ℕ) (hk : k = 8) :
    arg5.view.read (Elt F) (arg5.view.writes (Elt F) f5 (pb_k0_t1 (F := F) Variants.none c none i arg2 harg2 arg3 harg3 arg4 harg4 arg5 harg5 arg6 harg6 arg7 harg7 hc X G k).1)
      = normed (arg2.view.read (Elt F) X) (arg3.view.read (Elt F) G)
    ∧ arg7.view.read (Elt F) (arg7.view.writes (Elt F) f7 (pb_k0_t1 (F := F) Variants.none c none i arg2 harg2 arg3 harg3 arg4 harg4 arg5 harg5 arg6 harg6 arg7 harg7 hc X G k).2)
      = normed (arg2.view.read (Elt F) X) (arg3.view.read (Elt F) G) := by
  subst hk
  have h := chunks c i arg2 harg2 arg3 harg3 arg4 harg4 arg5 harg5 arg6 harg6 arg7 harg7 hc X G f5 f7 8 le_rfl
  constructor <;> funext j <;> rw [eq_ix2 j]
  · exact (h _ _ (j 0).isLt).1
  · exact (h _ _ (j 0).isLt).2

/-- The body on whole buffers. -/
abbrev body := cc0_in_proj (F := F) i arg2 harg2 arg3 harg3 arg4 harg4 arg5 harg5 arg6 harg6 arg7 harg7

/-- At a later column tile: the scratch holds the normed rows, which the body reads and leaves. -/
theorem body_later (hc : ¬k0_cond1 i = 1#1) (w : Vec F S1024x2048 .bf16) (n : Vec F S1024x2048 .bf16) (E : Set ℕ) (K : PUnit → sProp 𝕄) :
    iprop(owns (c : Thread nD τ) arg4 fullShare w ∗ (∃ d, owns (c : Thread nD τ) arg6 fullShare d) ∗ owns (c : Thread nD τ) arg7 fullShare n
        ∗ (iprop(owns (c : Thread nD τ) arg4 fullShare w ∗ owns (c : Thread nD τ) arg6 fullShare (k0_pay3 n w) ∗ owns (c : Thread nD τ) arg7 fullShare n) -∗ K ⟨⟩))
      ⊢ wp Idealize.ShloMosaic.frame (wpE (defs₀ (F := F)) Variants.none c none) E (body i arg2 harg2 arg3 harg3 arg4 harg4 arg5 harg5 arg6 harg6 arg7 harg7) K := by
  unfold body
  simp only [cc0_in_proj_eq_skeleton]; unfold cc0_in_proj_skel
  unfold owns
  iintro ⟨⟨%f4, %hf4, H4⟩, ⟨%d6, %f6, -, H6⟩, ⟨%f7, %hf7, H7⟩, Hk⟩
  subst hf4 hf7
  sl_exec (disch := sl_exact hc)
  sl_step
  iapply Hk
  isplitl [H4]; · iexists f4; isplitr; · ipureintro; rfl
                  iexact H4
  isplitl [H6]
  · iexists _; isplitr
    swap; · iexact H6
    ipureintro; rw [View.read_writes_full, View.readAt_full, View.readAt_full]
  iexists f7; isplitr; · ipureintro; rfl
  iexact H7

/-- At the first column tile: the body norms the rows and goes on with them. -/
theorem body_first (hc : k0_cond1 i = 1#1) (X : Vec F S1024x2048 .f32) (g : Vec F S1x2048 .f32) (w : Vec F S1024x2048 .bf16) (E : Set ℕ) (K : PUnit → sProp 𝕄) :
    iprop(owns (c : Thread nD τ) arg2 fullShare X ∗ owns (c : Thread nD τ) arg3 fullShare g ∗ owns (c : Thread nD τ) arg4 fullShare w
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare X ∗ owns (c : Thread nD τ) arg3 fullShare g ∗ owns (c : Thread nD τ) arg4 fullShare w
            ∗ owns (c : Thread nD τ) arg5 fullShare (normed X g) ∗ owns (c : Thread nD τ) arg6 fullShare (k0_pay3 (normed X g) w)
            ∗ owns (c : Thread nD τ) arg7 fullShare (normed X g)) -∗ K ⟨⟩))
      ⊢ wp Idealize.ShloMosaic.frame (wpE (defs₀ (F := F)) Variants.none c none) E (body i arg2 harg2 arg3 harg3 arg4 harg4 arg5 harg5 arg6 harg6 arg7 harg7) K := by
  unfold body
  simp only [cc0_in_proj_eq_skeleton]; unfold cc0_in_proj_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf2 hf3 hf4
  sl_exec (disch := sl_exact hc)
  sl_step
  iapply Hk
  have hall := all_chunks c i arg2 harg2 arg3 harg3 arg4 harg4 arg5 harg5 arg6 harg6 arg7 harg7 hc f2 f3 f5 f7 (Scf.trips k0_t1_loop.lb k0_t1_loop.ub k0_t1_loop.st) (by decide +kernel)
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro; exact hall.1
  isplitl [H6]
  · iexists _; isplitr
    swap; · iexact H6
    ipureintro; sl_unfold_words; rw [View.read_writes_full, View.readAt_full, View.readAt_full, hall.2]
  iexists _; isplitr
  swap; · iexact H7
  ipureintro; exact hall.2

end Body

/-! ## The run -/

variable (m : (ℓ : Loc nD τ sig) → Buf (Elt F) ℓ) (ρ : Dev nD → PrngReg)

theorem lt_pts (t : Fin cfg0.N) : t.val < 40 := lt_of_lt_of_eq t.isLt (show cfg0.N = 40 from N_0)

/-- The body norms at the first column tile of a row block. -/
theorem first_iff : ∀ t : Fin cfg0.N, k0_cond1 (grid0.coords t) = 1#1 ↔ t.val % 5 = 0 :=
  (fun t => by
    have ht : t.val < 40 := Nat.lt_of_lt_of_eq t.isLt N_0
    have e0 : (grid0.coords t 0).val = t.val / 5 % 8 := Pipeline.Grid.coords_val t 0 (by decide) rfl
    have e1 : (grid0.coords t 1).val = t.val / 1 % 5 := Pipeline.Grid.coords_val t 1 (by decide) rfl
    simp only [k0_cond1, e0, e1]
    word_cmp
   : ∀ t : Fin grid0.N, k0_cond1 (grid0.coords t) = 1#1 ↔ t.val % 5 = 0)

/-- The first point of row block `b`. -/
def pt (b : ℕ) : Fin cfg0.N := ⟨5 * b % 40, lt_of_lt_of_eq (Nat.mod_lt _ (by decide)) (show 40 = cfg0.N from N_0.symm)⟩

theorem pt_eq (t : Fin cfg0.N) (h : t.val % 5 = 0) : pt (t.val / 5) = t :=
  Fin.ext (by have := lt_pts t; show 5 * (t.val / 5) % 40 = t.val; omega)

/-- The normed rows of row block `b`. -/
def nrm (c : Dev nD) (b : ℕ) : Vec F S1024x2048 .bf16 := normed (iblk m c 0 (pt b)) (iblk m c 1 (pt b))

/-- The scratch buffer. -/
abbrev scM : Memref sig .tc .vmem S1024x2048 .bf16 := Memref.whole cc0_scratch0

theorem PhiA_eq (c : Dev nD) : (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; rfl

/-- Within a row block the scratch holds its normed rows; between row blocks anything. -/
def PhiS (c : Dev nD) (n : ℕ) : sProp 𝕄 :=
  if n % 5 = 0 then Pipeline.ΦA spec0 c else iprop(owns (c : Thread nD τ) scM fullShare (nrm m c (n / 5)) ∗ (∃ r, prngReg c r))

/-- The proof data: the inputs' windows hold their blocks, the results' the normed rows and the product of this point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => nrm m c (t.val / 5)
    | ⟨4, _⟩ => k0_pay3 (nrm m c (t.val / 5)) (iblk m c 2 t)
  Φ t := PhiS m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = nrm m c (t.val / 5) := by dsimp only [dats]
theorem after4 (c : Dev nD) (t : Fin cfg0.N) : (dats m 0 c).after 4 t = k0_pay3 (nrm m c (t.val / 5)) (iblk m c 2 t) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

/-- The normed rows' window is stored at the first column tile only. -/
theorem idle_iff : ∀ t : Fin grid0.N, (idle0 3 (grid0.coords t) = true ↔ t.val % 5 ≠ 0) := by decide +kernel
theorem idle3 (t : Fin cfg0.N) : cfg0.idle 3 (cfg0.grid.coords t) = true ↔ t.val % 5 ≠ 0 := idle_iff t

/-- After the first column tile the window is no longer fresh, until it is written back. -/
theorem fresh3 : ∀ n, n ≤ 39 → n % 5 ≠ 0 → cfg0.fresh 3 n = false := by
  intro n
  induction n with
  | zero => intro _ h; omega
  | succ n ih =>
    intro h h'
    have hn : n < cfg0.N := by rw [show cfg0.N = 40 from N_0]; omega
    rw [cfg0.fresh_succ 3 n hn]
    have hf : (cfg0.win 3).flush ⟨n, hn⟩ = false := by
      rw [Bool.eq_false_iff, Ne, flush0_3]; show ¬ n % 5 = 4; omega
    rw [hf, Bool.false_or]
    by_cases e : n % 5 = 0
    · have hi : cfg0.idle 3 (cfg0.grid.coords ⟨n, hn⟩) = false := by
        rw [Bool.eq_false_iff, Ne, idle3]; show ¬ n % 5 ≠ 0; omega
      rw [hi, Bool.false_and]
    · rw [ih (by omega) e, Bool.and_false]

theorem before3 (c : Dev nD) (t : Fin cfg0.N) (ht : t.val % 5 ≠ 0) (d) : (dats m 0 c).before 3 t d = nrm m c (t.val / 5) := by
  rw [(dats m 0 c).before_out_traj 3 rfl (fun _ _ => rfl) ?_ t.val t rfl d, fresh3 t.val (by have := lt_pts t; omega) ht, if_neg Bool.false_ne_true, after3]
  · show nrm m c ((t.val - 1) / 5) = _
    rw [show (t.val - 1) / 5 = t.val / 5 by omega]
  · intro s hs hi _
    have hi := (idle3 s).mp hi
    rw [after3, after3]
    show nrm m c (s.val / 5) = nrm m c ((s.val - 1) / 5)
    rw [show s.val / 5 = (s.val - 1) / 5 by omega]

abbrev held (c : Dev nD) (t : Fin cfg0.N) (w : Fin cfg0.W) : sProp 𝕄 :=
  iprop(∃ d, owns (c : Thread nD τ) ((cfg0.win w).stage (cfg0.slots t w)) fullShare ((dats m 0 c).before w t d))

abbrev left (c : Dev nD) (t : Fin cfg0.N) (w : Fin cfg0.W) : sProp 𝕄 :=
  owns (c : Thread nD τ) ((cfg0.win w).stage (cfg0.slots t w)) fullShare ((dats m 0 c).after w t)

/-- The window stored only at some points: where it is not and is not written back either, as found. -/
def leftIdle (c : Dev nD) (t : Fin cfg0.N) (w : Fin cfg0.W) : sProp 𝕄 :=
  match cfg0.idle w (cfg0.grid.coords t) with
  | true => match (cfg0.win w).flush t with
    | false => held m c t w
    | true => left m c t w
  | false => left m c t w

theorem leftIdle_intro (c : Dev nD) (t : Fin cfg0.N) (w : Fin cfg0.W) (h : ∃ d, (dats m 0 c).before w t d = (dats m 0 c).after w t) : left m c t w ⊢ leftIdle m c t w := by
  unfold leftIdle
  obtain ⟨d, h⟩ := h
  split
  · split
    · unfold left held
      rw [← h]
      iintro H
      iexists d; iexact H
    · exact .rfl
  · exact .rfl

theorem leftIdle_live (c : Dev nD) (t : Fin cfg0.N) (w : Fin cfg0.W) (h : cfg0.idle w (cfg0.grid.coords t) = false) : left m c t w ⊢ leftIdle m c t w := by
  unfold leftIdle; rw [h]

def bPre (c : Dev nD) (t : Fin cfg0.N) : sProp 𝕄 :=
  iprop((dats m 0 c).Φ t.castSucc ∗ (dats m 0 c).owesAt () t.castSucc ∗ held m c t 0 ∗ held m c t 1 ∗ held m c t 2 ∗ held m c t 3 ∗ held m c t 4)

def bPost (c : Dev nD) (t : Fin cfg0.N) : sProp 𝕄 :=
  iprop((dats m 0 c).Φ t.succ ∗ (dats m 0 c).owesAt () t.succ ∗ left m c t 0 ∗ left m c t 1 ∗ left m c t 2 ∗ leftIdle m c t 3 ∗ left m c t 4)

/-- The scratch at the row block's normed rows is the invariant after the point. -/
theorem Phi_next (c : Dev nD) (t : Fin cfg0.N) :
    iprop(owns (c : Thread nD τ) scM fullShare (nrm m c (t.val / 5)) ∗ (∃ r, prngReg c r)) ⊢ (dats m 0 c).Φ t.succ := by
  rw [show (dats m 0 c).Φ t.succ = PhiS m c (t.val + 1) from rfl]
  unfold PhiS
  split
  · rw [PhiA_eq]
    iintro ⟨H, Hg⟩
    isplitl [H]
    · iexists _; iexact H
    iexact Hg
  · rw [show (t.val + 1) / 5 = t.val / 5 by omega]

set_option maxHeartbeats 2000000 in
theorem body_at (c : Dev nD) (t : Fin cfg0.N) :
    bPre m c t ⊢ wp Idealize.ShloMosaic.frame (wpE (defs₀ (F := F)) Variants.none c none) Set.univ (bodyAt0 t) (fun _ => bPost m c t) := by
  unfold bPre bPost bodyAt0 held
  simp only [before0, before1, before2, after0, after1, after2, after4, left]
  rw [show (dats m 0 c).owesAt () t.succ = (dats m 0 c).owesAt () t.castSucc from rfl]
  rw [show (dats m 0 c).Φ t.castSucc = PhiS m c t.val from rfl]
  by_cases h : t.val % 5 = 0
  · have hn : nrm m c (t.val / 5) = normed (iblk m c 0 t) (iblk m c 1 t) := by unfold nrm; rw [pt_eq t h]
    unfold PhiS
    rw [if_pos h, PhiA_eq]
    iintro ⟨⟨HS, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ ((first_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    rw [← hn]
    iintro ⟨H0, H1, H2, H3, H4, HS⟩
    isplitl [HS Hg]
    · iapply (Phi_next m c t)
      isplitl [HS]; · iexact HS
      iexact Hg
    isplitl [Ho]; · iexact Ho
    isplitl [H0]; · iexact H0
    isplitl [H1]; · iexact H1
    isplitl [H2]; · iexact H2
    isplitl [H3]
    · iapply (leftIdle_live m c t 3 (by rw [Bool.eq_false_iff, Ne, idle3]; exact fun e => e h))
      rw [left, after3]; iexact H3
    iexact H4
  · simp only [before3 m c t h]
    unfold PhiS
    rw [if_neg h]
    iintro ⟨⟨HS, Hg⟩, Ho, ⟨%d0, H0⟩, ⟨%d1, H1⟩, ⟨%d2, H2⟩, ⟨%d3, H3⟩, ⟨%d4, H4⟩⟩
    iapply (body_later c (grid0.coords t) _ _ _ _ _ _ _ _ _ _ _ _ (fun e => h ((first_iff t).mp e)) (iblk m c 2 t) (nrm m c (t.val / 5)) Set.univ _)
    isplitl [H2]; · iexact H2
    isplitl [H4]; · iexists _; iexact H4
    isplitl [HS]; · iexact HS
    iintro ⟨H2, H4, HS⟩
    isplitl [HS Hg]
    · iapply (Phi_next m c t)
      isplitl [HS]; · iexact HS
      iexact Hg
    isplitl [Ho]; · iexact Ho
    isplitl [H0]; · iexact H0
    isplitl [H1]; · iexact H1
    isplitl [H2]; · iexact H2
    isplitl [H3]
    · iapply (leftIdle_intro m c t 3 ⟨d3, (before3 m c t h d3).trans (after3 m c t).symm⟩)
      rw [left, after3]; iexact H3
    iexact H4

theorem defs₀_row (t : Fin cfg0.N) : defs₀ (F := F) .tc cfg0.body (cfg0.bodyArgs t (cfg0.slots t)) = bodyAt0 t := by
  unfold defs₀; rw [Defs.onTc_tc]

theorem obligation (c : Dev nD) : BodyObligationLoose (dats m 0 c) (defs₀ (F := F)) Variants.none () Set.univ := fun t =>
  triple_restated (body_at m c t) (by rw [defs₀_row]) (by rw [bigSep_W0]; exact .rfl) (fun _ => by rw [bigSep_W0]; exact .rfl)

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => obligation m c) (hshare := fun c => (dats m 0 c).share_full fun _ => rfl)
    (howed := fun _ _ => rfl) (V := V m) (hmain := hmain m Variants.none) (hA := A_eq m) (hin := fun _ => .rfl) (hout := fun _ => .rfl)

/-- The frame: every argument array ends as it began, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Proof.InProj

end
-- ==== Proof.InProjClaims.lean ====
/-
  The claims about the input projection's call, which norms the rows and projects them: the frames, and that at the
  ideal instance it leaves the normed rows and their projection, of any arguments.
-/
module

public import proofs.«01_k».proof.Defs
public import proofs.«01_k».proof.Proof.InProjRun
public import proofs.«01_k».proof.Proof.NormProjClaims
public import proofs.«01_k».proof.Proof.Tiles
public import proofs.«01_k».proof.Proof.Gen.InProj
public import proofs.«01_k».proof.Proof.Gen.InProjRefIdeal.Run

@[expose] public section

set_option maxRecDepth 16384

noncomputable section

namespace Cert.Proof.InProj

open Idealize.ShloMosaic Idealize.SL.Sem
open Idealize.ShloMosaic.TcCoe Idealize.ShloMosaic.Tactic
open Idealize.ShloMosaic.Pipeline (Dat Cfg Window)
open Cert.Proof.RmsRows Cert.Proof.Tiles
open Cert.Proof.NormProj (resN normed normed_apply)
open scoped BigOperators

section Value
open Cert.InProjIdeal Cert.InProjIdeal.Gen

theorem pay3_apply (n : Vec Ideal S1024x2048 .bf16) (w : Vec Ideal S1024x2048 .bf16) (p : Fin 1024) (q : Fin 1024) :
    k0_pay3 n w (ix2 p q) = ∑ k : Fin 2048, n (ix2 p k) * w (ix2 q k) := by
  unfold k0_pay3
  pointwise

theorem index_of : ∀ t : Fin grid0.N, win0_0.index t 0 = t.val / 5 ∧ win0_0.index t 1 = 0 ∧ win0_1.index t 0 = 0 ∧ win0_1.index t 1 = 0
    ∧ win0_2.index t 0 = t.val % 5 ∧ win0_2.index t 1 = 0 ∧ win0_4.index t 0 = t.val / 5 ∧ win0_4.index t 1 = t.val % 5 := by
  decide +kernel

/-- Row `p` of row block `b`, and column `q` of column tile `b`. -/
abbrev row (b : ℕ) (p : Fin 1024) : Fin 8192 := spot 1024 8192 b p
abbrev col (b : ℕ) (q : Fin 1024) : Fin 5120 := spot 1024 5120 b q

theorem row_val (t : Fin cfg0.N) (p : Fin 1024) : (row (t.val / 5) p).val = 1024 * (t.val / 5) + p.val := spot_val _ (by have := lt_pts t; omega) p
theorem col_val (t : Fin cfg0.N) (q : Fin 1024) : (col (t.val % 5) q).val = 1024 * (t.val % 5) + q.val := spot_val _ (by omega) q

variable (m : (ℓ : Loc nD τ sig) → Buf (Elt Ideal) ℓ) (ρ : Dev nD → PrngReg) (c : Dev nD)

abbrev xV : S8192x2048.Idx → EReal := V m c main_arg0
abbrev gV : S1x2048.Idx → EReal := V m c main_arg1
abbrev wV : S5120x2048.Idx → EReal := V m c main_arg2

/-- Every row block's place in its array, -/
theorem idx0 (t : Fin cfg0.N) (p : Fin 1024) (q : Fin 2048) : (win0_0.rect t).idx (ix2 p q) = ix2 (row (t.val / 5) p) q := by
  obtain ⟨e0, e1, -⟩ := index_of t
  refine Shape.idx_ext₂ ?_ ?_
  · show win0_0.index t 0 * 1024 + 1 * (p : ℕ) = (row (t.val / 5) p).val
    rw [e0, row_val]; omega
  · show win0_0.index t 1 * 2048 + 1 * (q : ℕ) = q
    rw [e1]; omega

theorem idx3 (t : Fin cfg0.N) (p : Fin 1024) (q : Fin 2048) : (win0_3.rect t).idx (ix2 p q) = ix2 (row (t.val / 5) p) q :=
  (show _ = (win0_0.rect t).idx (ix2 p q) from rfl).trans (idx0 t p q)

/-- and every tile's. -/
theorem idx4 (t : Fin cfg0.N) (p : Fin 1024) (q : Fin 1024) : (win0_4.rect t).idx (ix2 p q) = ix2 (row (t.val / 5) p) (col (t.val % 5) q) := by
  obtain ⟨-, -, -, -, -, -, e0, e1⟩ := index_of t
  refine Shape.idx_ext₂ ?_ ?_
  · show win0_4.index t 0 * 1024 + 1 * (p : ℕ) = (row (t.val / 5) p).val
    rw [e0, row_val]; omega
  · show win0_4.index t 1 * 1024 + 1 * (q : ℕ) = (col (t.val % 5) q).val
    rw [e1, col_val]; omega

theorem iblk0 (t : Fin cfg0.N) (p : Fin 1024) (q : Fin 2048) : iblk m c 0 t (ix2 p q) = xV m c (ix2 (row (t.val / 5) p) q) :=
  (show _ = xV m c ((win0_0.rect t).idx (ix2 p q)) from rfl).trans (congrArg _ (idx0 t p q))

theorem iblk1 (t : Fin cfg0.N) (q : Fin 2048) : iblk m c 1 t (ix2 (0 : Fin 1) q) = gV m c (ix2 (0 : Fin 1) q) := by
  obtain ⟨-, -, e0, e1, -⟩ := index_of t
  refine (show _ = gV m c ((win0_1.rect t).idx (ix2 (0 : Fin 1) q)) from rfl).trans (congrArg _ ?_)
  refine Shape.idx_ext₂ ?_ ?_
  · show win0_1.index t 0 * 1 + 1 * 0 = 0
    rw [e0]
  · show win0_1.index t 1 * 2048 + 1 * (q : ℕ) = q
    rw [e1]; omega

theorem iblk2 (t : Fin cfg0.N) (p : Fin 1024) (q : Fin 2048) : iblk m c 2 t (ix2 p q) = wV m c (ix2 (col (t.val % 5) p) q) := by
  obtain ⟨-, -, -, -, e0, e1, -⟩ := index_of t
  refine (show _ = wV m c ((win0_2.rect t).idx (ix2 p q)) from rfl).trans (congrArg _ ?_)
  refine Shape.idx_ext₂ ?_ ?_
  · show win0_2.index t 0 * 1024 + 1 * (p : ℕ) = (col (t.val % 5) p).val
    rw [e0, col_val]; omega
  · show win0_2.index t 1 * 2048 + 1 * (q : ℕ) = q
    rw [e1]; omega

/-- The normed rows times the projection's transpose. -/
def resH (x : S8192x2048.Idx → EReal) (g : S1x2048.Idx → EReal) (w : S5120x2048.Idx → EReal) (i : S8192x5120.Idx) : EReal :=
  ∑ k : Fin 2048, resN x g (ix2 (i 0) k) * w (ix2 (i 1) k)

abbrev outN (c : Dev nD) : S8192x2048.Idx → EReal := resN (xV m c) (gV m c)
abbrev outH (c : Dev nD) : S8192x5120.Idx → EReal := resH (xV m c) (gV m c) (wV m c)

theorem nrm_apply (t : Fin cfg0.N) (p : Fin 1024) (q : Fin 2048) : nrm m c (t.val / 5) (ix2 p q) = outN m c (ix2 (row (t.val / 5) p) q) := by
  have e : (pt (t.val / 5)).val / 5 = t.val / 5 := by have := lt_pts t; show 5 * (t.val / 5) % 40 / 5 = t.val / 5; omega
  unfold nrm
  rw [normed_apply]
  simp only [iblk0, iblk1, e]
  rfl

theorem h_apply (t : Fin cfg0.N) (p : Fin 1024) (q : Fin 1024) :
    k0_pay3 (nrm m c (t.val / 5)) (iblk m c 2 t) (ix2 p q) = outH m c (ix2 (row (t.val / 5) p) (col (t.val % 5) q)) := by
  rw [pay3_apply]
  refine Finset.sum_congr rfl fun k _ => ?_
  rw [nrm_apply, iblk2]
  rfl

/-! ## The arrays at the end -/

theorem flushed3 (t : Fin cfg0.N) : (dats m 0 c).flushed 3 t = (win0_3.blk t).view.read (Elt Ideal) (outN m c) := by
  show (cfg0.win 3).cut (grid0.coords t) ((dats m 0 c).after 3 t) = _
  rw [after3]
  funext j
  obtain ⟨p, q, rfl⟩ : ∃ p q, j = ix2 p q := ⟨j 0, j 1, eq_ix2 j⟩
  exact (nrm_apply m c t p q).trans (congrArg (outN m c) (idx3 t p q).symm)

theorem flushed4 (t : Fin cfg0.N) : (dats m 0 c).flushed 4 t = (win0_4.blk t).view.read (Elt Ideal) (outH m c) := by
  show (cfg0.win 4).cut (grid0.coords t) ((dats m 0 c).after 4 t) = _
  rw [after4]
  funext j
  obtain ⟨p, q, rfl⟩ : ∃ p q, j = ix2 p q := ⟨j 0, j 1, eq_ix2 j⟩
  exact (h_apply m c t p q).trans (congrArg (outH m c) (idx4 t p q).symm)

/-- The last point of the row block an entry lies in. -/
theorem at_row (i : S8192x2048.Idx) : ∃ (t : Fin cfg0.N) (p : Fin 1024) (q : Fin 2048), t.val % 5 = 4 ∧ ix2 (row (t.val / 5) p) q = i := by
  obtain ⟨a, b, rfl⟩ : ∃ (a : Fin 8192) (b : Fin 2048), i = ix2 a b := ⟨i 0, i 1, eq_ix2 i⟩
  have ht : a.val / 1024 * 5 + 4 < cfg0.N := by rw [show cfg0.N = 40 from N_0]; omega
  refine ⟨⟨_, ht⟩, ⟨a.val % 1024, Nat.mod_lt _ (by decide)⟩, b, by show (a.val / 1024 * 5 + 4) % 5 = 4; omega, congrArg (ix2 · b) ?_⟩
  show row ((a.val / 1024 * 5 + 4) / 5) _ = a
  rw [show (a.val / 1024 * 5 + 4) / 5 = a.val / 1024 by omega]
  exact spot_of (by decide) a

/-- The point whose tile an entry lies in. -/
theorem at_tile (i : S8192x5120.Idx) : ∃ (t : Fin cfg0.N) (p : Fin 1024) (q : Fin 1024), ix2 (row (t.val / 5) p) (col (t.val % 5) q) = i := by
  obtain ⟨a, b, rfl⟩ : ∃ (a : Fin 8192) (b : Fin 5120), i = ix2 a b := ⟨i 0, i 1, eq_ix2 i⟩
  have ht : a.val / 1024 * 5 + b.val / 1024 < cfg0.N := by rw [show cfg0.N = 40 from N_0]; omega
  refine ⟨⟨_, ht⟩, ⟨a.val % 1024, Nat.mod_lt _ (by decide)⟩, ⟨b.val % 1024, Nat.mod_lt _ (by decide)⟩, congrArg₂ ix2 ?_ ?_⟩
  · show row ((a.val / 1024 * 5 + b.val / 1024) / 5) _ = a
    rw [show (a.val / 1024 * 5 + b.val / 1024) / 5 = a.val / 1024 by omega]
    exact spot_of (by decide) a
  · show col ((a.val / 1024 * 5 + b.val / 1024) % 5) _ = b
    rw [show (a.val / 1024 * 5 + b.val / 1024) % 5 = b.val / 1024 by omega]
    exact spot_of (by decide) b

theorem cover3 (i : S8192x2048.Idx) : ∃ t : Fin cfg0.N, (cfg0.win 3).flush t = true ∧ i ∈ ((cfg0.win 3).blk t).view.set := by
  obtain ⟨t, p, q, h, rfl⟩ := at_row i
  refine ⟨t, (flush0_3 t).mpr h, ?_⟩
  show _ ∈ ((View.whole main_v0_0).slice (win0_3.rect t)).set
  rw [View.set_slice_whole, ← idx3]
  exact (win0_3.rect t).idx_mem _

theorem cover4 (i : S8192x5120.Idx) : ∃ t : Fin cfg0.N, (cfg0.win 4).flush t = true ∧ i ∈ ((cfg0.win 4).blk t).view.set := by
  obtain ⟨t, p, q, rfl⟩ := at_tile i
  refine ⟨t, flush0_4 t, ?_⟩
  show _ ∈ ((View.whole main_v0_1).slice (win0_4.rect t)).set
  rw [View.set_slice_whole, ← idx4]
  exact (win0_4.rect t).idx_mem _

theorem final3 : (dats m 0 c).arrAt 3 cfg0.N = outN m c := (dats m 0 c).arrAt_eq_of_cover 3 (outN m c) (fun t _ => flushed3 m c t) cover3
theorem final4 : (dats m 0 c).arrAt 4 cfg0.N = outH m c := (dats m 0 c).arrAt_eq_of_cover 4 (outH m c) (fun t _ => flushed4 m c t) cover4

variable {m} in
theorem arr_kept {r : PUnit × MemSt nD τ sig (Elt Ideal)} (h : Pipeline.FramePost cfgs (dats m) (0 : Fin 1) (V m) r) (c : Dev nD) (w : Fin cfg0.W)
    (hin : (cfg0.win w).isOut = false) : r.2.mem ((cfg0.spec w).arr.view.loc (c.tc : Thread nD τ)) = V m c (Pipeline.arrRef spec0 w) :=
  ((h c).1 w).trans (((dats m 0 c).arrAt_in w hin _).trans (A_eq m c w))

set_option maxHeartbeats 4000000 in
/-- The run, with its results. -/
theorem run_values : θ_run defs (onTc (τ := τ) (main (F := Ideal))) (s₀ m ρ) (fun r => ∀ c : Dev nD,
      r.2.mem ((c.tc : Thread nD τ).loc main_v0_0) = outN m c
      ∧ r.2.mem ((c.tc : Thread nD τ).loc main_v0_1) = outH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c),
    arr_kept h.1 c 0 rfl, arr_kept h.1 c 1 rfl, arr_kept h.1 c 2 rfl⟩) (run_main m ρ)

end Value

section Reference
open Cert.InProjRefIdeal Cert.InProjRefIdeal.Gen

/-- The reference's projection of the normed rows. -/
theorem ref_h (x : S8192x2048.Idx → EReal) (g : S1x2048.Idx → EReal) (w : FVec Ideal S5120x2048 .bf16) :
    Host.dotGeneral (F := Ideal) dot_S8192x2048_S2048x5120_S8192x5120_1_0_0_1_n_n none (φ₁ := .f32) (resN x g) (transpose S2048x5120 [1, 0] (extf .f32 w bitsLt_bf16_f32) transposes_S5120x2048_S2048x5120_1_0)
      = resH x g w := by
  funext i
  unfold resH
  generalize resN x g = n
  pointwise

end Reference

/-! ## The claims -/

/-- The program and its idealization have the same text at every float type, so the frame's proof, over any, serves both. -/
theorem same_bodies : (Cert.InProj.defs₀ (F := Bits)) = Cert.InProjIdeal.defs₀ (F := Bits) := by
  unfold Cert.InProj.defs₀ Cert.InProjIdeal.defs₀
  refine congrArg Defs.onTc ?_
  funext l x
  match l, x with
  | 0, (t, s) => rfl

theorem same_defs : (Cert.InProj.defs (F := Bits)) = Cert.InProjIdeal.defs (F := Bits) := congrArg (Pipeline.defs _) same_bodies

theorem frame_k : Cert.quiescent_InProj := fun m ρ _ => by
  rw [same_defs]
  exact frame (F := Bits) m ρ
theorem frame_ki : Cert.quiescent_InProjIdeal := fun m ρ _ => frame m ρ
theorem frame_r : Cert.quiescent_InProjRefIdeal := fun m ρ _ =>
  (θ_run Cert.InProjRefIdeal.defs _ _).mono (fun r h => ⟨fun c => (h c).2.2, sem_eq_zero_of_no_sems (by decide) r.2⟩) (Cert.InProjRefIdeal.Value.run (F := Ideal) m ρ)

/-- The value claim, of any arguments. -/
theorem value : Cert.algebraic_InProjIdeal_InProjRefIdeal := by
  intro m ρ m' ρ' _ hagree
  refine ⟨fun c => outN m c, fun c => outH m c, run_values m ρ, ?_⟩
  refine (θ_run Cert.InProjRefIdeal.defs _ _).mono (fun _ h c => ⟨(h c).1.trans ?_, (h c).2.1.trans ?_, (h c).2.2⟩) (Cert.InProjRefIdeal.Value.run (F := Ideal) m' ρ')
  · rw [(hagree c).1, (hagree c).2.1]
    exact NormProjClaims.ref_n _ _
  · rw [(hagree c).1, (hagree c).2.1, (hagree c).2.2, NormProjClaims.ref_n]
    exact ref_h _ _ _

end Cert.Proof.InProj

end
-- ==== Proof.OutProjValue.lean ====
/-
  What the mixing layer's output projection leaves in its result: the residual plus the product. Each row block is accumulated
  in the result's block over two column blocks of the first operand; at the last, the residual is added to eight chunks of
  128 rows.
-/
module

public import proofs.«01_k».proof.Proof.RowWindows
public import proofs.«01_k».proof.Proof.BlockSums
public import proofs.«01_k».proof.Proof.Gen.OutProjIdeal.Value
public import Idealize.ShloMosaic.Lib.Pipeline.Value

@[expose] public section

set_option maxRecDepth 16384

noncomputable section

namespace Cert.Proof.OutProjValue

open Idealize.ShloMosaic Idealize.ShloMosaic.TcCoe Idealize.SL.Sem Cert.OutProjIdeal Cert.OutProjIdeal.Gen Cert.Proof.RowWindows Cert.Proof.BlockSums
open Idealize.ShloMosaic.Pipeline (Dat)
open scoped BigOperators

variable (m : (ℓ : Loc nD τ sig) → Buf (Elt Ideal) ℓ)

/-- The contribution of contraction index `k` to entry (p, q) of the product (nothing beyond the last). -/
def term (a : S8192x2048.Idx → EReal) (b : S2048x2048.Idx → EReal) (p : Fin 8192) (q : Fin 2048) (k : ℕ) : EReal :=
  if h : k < 2048 then a (ix2 p ⟨k, h⟩) * b (ix2 ⟨k, h⟩ q) else 0

theorem hz : (![0, 0] : Fin 2 → Nat) = fun _ => 0 := funext fun a => by fin_cases a <;> rfl

theorem pay1_apply (j : S1024x2048.Idx) : (k0_pay1 (F := Ideal)) j = 0 := by
  unfold k0_pay1
  pointwise

theorem pay2_apply (v3 : Vec Ideal S1024x2048 .f32) (v5 : Vec Ideal S1024x1024 .bf16) (v6 : Vec Ideal S1024x2048 .bf16) (j : S1024x2048.Idx) :
    k0_pay2 v3 v5 v6 j = v3 j + ∑ k : Fin 1024, v5 (ix2 (j 0) k) * v6 (ix2 k (j 1)) := by
  unfold k0_pay2
  pointwise

theorem pay3_apply (v17 v19 : Vec Ideal S128x2048 .f32) (j : S128x2048.Idx) : k0_pay3 v17 v19 j = v17 j + v19 j := by
  unfold k0_pay3
  pointwise

/-! ## The chunk loop -/

section Chunks
variable (c : Dev nD) (i : grid0.Coords) (a2 : Memref sig .tc .vmem S1024x1024 .bf16) (h2 : a2.IsWhole)
  (a3 : Memref sig .tc .vmem S1024x2048 .bf16) (h3 : a3.IsWhole) (a4 : Memref sig .tc .vmem S1024x2048 .f32) (h4 : a4.IsWhole)
  (a5 : Memref sig .tc .vmem S1024x2048 .f32) (h5 : a5.IsWhole)

theorem chunk_inb (k : ℕ) (hk : k < 8) : ∀ b, (![128 * k, 0] : Fin 2 → ℕ) b + S128x2048.size b ≤ S1024x2048.size b := by
  intro b
  match b with
  | ⟨0, _⟩ => show 128 * k + 128 ≤ 1024; omega
  | ⟨1, _⟩ => show 0 + 2048 ≤ 2048; omega

/-- After `k` chunks the rows before `128 k` hold the residual plus what was there, the others what was there. -/
theorem chunks (hc : cond0_1 i) (X : BufTy.Contents (Elt Ideal) a4.view.ty) (G : BufTy.Contents (Elt Ideal) a5.view.ty) (p : Fin 1024) (q : Fin 2048) :
    ∀ k : ℕ, k ≤ 8 →
    a5.view.read (Elt Ideal) (a5.view.writes (Elt Ideal) G (pb_k0_t1 (F := Ideal) Variants.none c none i a2 h2 a3 h3 a4 h4 a5 h5 hc X G k)) (ix2 p q)
      = if p.val < 128 * k then a4.view.read (Elt Ideal) X (ix2 p q) + a5.view.read (Elt Ideal) G (ix2 p q) else a5.view.read (Elt Ideal) G (ix2 p q) := by
  intro k
  induction k generalizing p with
  | zero => intro _; rw [if_neg (by omega)]; rfl
  | succ k ih =>
    intro hk
    have htr : k0_t1_loop.trips = 8 := by decide +kernel
    have eo : k0_off1 ⟨k, by rw [htr]; omega⟩ = ![128 * k, 0] := k0_off1_eq _
    rw [show k + 1 = (⟨k, by rw [htr]; omega⟩ : Fin k0_t1_loop.trips).val + 1 from rfl, pb_k0_t1_succ]
    unfold tripL_k0_t1 trip_k0_t1
    dsimp only
    rw [List.cons_append, List.nil_append, View.read_writes_cons_put _ _ _ _ _ eo]
    by_cases h1 : 128 * k ≤ p.val ∧ p.val < 128 * k + 128
    · rw [put_rows_in _ _ _ p q h1.1 h1.2, pay3_apply, if_pos (by omega)]
      rw [View.readAt_unit _ _ _ eo (chunk_inb k (by omega)), View.readAt_unit _ _ _ eo (chunk_inb k (by omega))]
      have hp : 128 * k + (p.val - 128 * k) < 1024 := by have := p.isLt; omega
      have e : (⟨128 * k + (p.val - 128 * k), hp⟩ : Fin 1024) = p := Fin.ext (by show 128 * k + (p.val - 128 * k) = p.val; omega)
      rw [window_rows _ _ _ _ _ hp, window_rows _ _ _ _ _ hp, ih _ (by omega), e, if_neg (by omega)]
    · rw [put_rows_out _ _ _ p q (by omega), ih p (by omega)]
      by_cases h2 : p.val < 128 * k
      · rw [if_pos h2, if_pos (by omega)]
      · rw [if_neg h2, if_neg (by omega)]

end Chunks

/-! ## One point's step -/

section Steps
variable (c : Dev nD) (i : grid0.Coords) (a2 : Memref sig .tc .vmem S1024x1024 .bf16) (h2 : a2.IsWhole)
  (a3 : Memref sig .tc .vmem S1024x2048 .bf16) (h3 : a3.IsWhole) (a4 : Memref sig .tc .vmem S1024x2048 .f32) (h4 : a4.IsWhole)
  (a5 : Memref sig .tc .vmem S1024x2048 .f32) (h5 : a5.IsWhole)
  (x0 : Vec Ideal S1024x1024 .bf16) (x1 : Vec Ideal S1024x2048 .bf16) (x2 xo : Vec Ideal S1024x2048 .f32)

theorem out_A (hc0 : cond0_0 i) (hc1 : ¬cond0_1 i) : out0_A_3 c i a2 h2 a3 h3 a4 h4 a5 h5 hc0 hc1 x0 x1 x2 = k0_pay2 k0_pay1 x0 x1 := by
  unfold out0_A_3
  rw [View.read_writes_eq_canon _ _ _ (cover0_A_3 c i a2 h2 a3 h3 a4 h4 a5 h5 hc0 hc1 x0 x1 x2)]
  unfold kernelRun0_A
  dsimp only
  sl_unfold_words
  rw [View.canon_cons_unit_zero (S := S1024x2048) hz, View.readCov_unit_zero (S := S1024x2048) _ hz]
  simp only [View.readAt_eq_ld, h2.read_unread, h3.read_unread, View.ld_unit_zero (S := S1024x1024) hz, View.ld_unit_zero (S := S1024x2048) hz]

theorem out_B (hc0 : ¬cond0_0 i) (hc1 : cond0_1 i) (j : S1024x2048.Idx) :
    out0_B_3 c i a2 h2 a3 h3 a4 h4 a5 h5 hc0 hc1 x0 x1 x2 xo j = x2 j + k0_pay2 xo x0 x1 j := by
  obtain ⟨p, q, rfl⟩ : ∃ p q, j = ix2 p q := ⟨j 0, j 1, eq_ix2 j⟩
  unfold out0_B_3
  rw [← View.read_writes_of_cover a5.view a5.view.junk _ _ _ (cover0_B_3 c i a2 h2 a3 h3 a4 h4 a5 h5 hc0 hc1 x0 x1 x2 xo)]
  unfold kernelRun0_B
  dsimp only
  sl_unfold_words
  rw [View.writes_append]
  rw [chunks c i a2 h2 a3 h3 a4 h4 a5 h5 hc1 _ _ p q _ (by decide +kernel), if_pos (by have := p.isLt; rw [show Scf.trips (0#32) (Scalar.addi 0#32 8#32) 1#32 = 8 from by decide +kernel]; omega)]
  rw [View.read_writes_full a5.view]
  simp only [View.readAt_eq_ld, h2.read_unread, h3.read_unread, h4.read_unread, h5.read_unread, View.ld_unit_zero (S := S1024x1024) hz, View.ld_unit_zero (S := S1024x2048) hz,
    View.ld_unit_zero (S := S1024x2048) hz]

end Steps

/-! ## Where the blocks lie -/

/-- Point `t` of the (8, 2) grid takes row block `t / 2` and contraction block `t % 4`. -/
theorem index_of : ∀ t : Fin grid0.N, win0_0.index t 0 = t.val / 2 ∧ win0_0.index t 1 = t.val % 2
    ∧ win0_1.index t 0 = t.val % 2 ∧ win0_1.index t 1 = 0 ∧ win0_2.index t 0 = t.val / 2 ∧ win0_2.index t 1 = 0
    ∧ win0_3.index t 0 = t.val / 2 ∧ win0_3.index t 1 = 0 := by
  decide +kernel

theorem lt_pts (t : Fin cfg0.N) : t.val < 16 := lt_of_lt_of_eq t.isLt (show cfg0.N = 16 from N_0)

/-- Row `p` of the row block of point `t`. -/
def row (t : ℕ) (ht : t < 16) (p : Fin 1024) : Fin 8192 := ⟨t / 2 * 1024 + p.val, by have := p.isLt; omega⟩

theorem iblk0 (c : Dev nD) (t : Fin cfg0.N) (p : Fin 1024) (k : Fin 1024) (hk : 1024 * (t.val % 2) + k.val < 2048) :
    iblk m c 0 t (ix2 p k) = m ((c.tc : Thread nD τ).loc main_arg0) (ix2 (row t.val (lt_pts t) p) ⟨1024 * (t.val % 2) + k.val, hk⟩) := by
  obtain ⟨e0, e1, -⟩ := index_of t
  refine (show _ = m ((c.tc : Thread nD τ).loc main_arg0) ((win0_0.rect t).idx (ix2 p k)) from by rw [← V_main_arg0 m c]; rfl).trans (congrArg _ ?_)
  refine Shape.idx_ext₂ ?_ ?_
  · show win0_0.index t 0 * 1024 + 1 * (p : ℕ) = t.val / 2 * 1024 + p.val
    rw [e0]; omega
  · show win0_0.index t 1 * 1024 + 1 * (k : ℕ) = 1024 * (t.val % 2) + k.val
    rw [e1]; omega

theorem iblk1 (c : Dev nD) (t : Fin cfg0.N) (k : Fin 1024) (q : Fin 2048) (hk : 1024 * (t.val % 2) + k.val < 2048) :
    iblk m c 1 t (ix2 k q) = m ((c.tc : Thread nD τ).loc main_arg1) (ix2 ⟨1024 * (t.val % 2) + k.val, hk⟩ q) := by
  obtain ⟨-, -, e0, e1, -⟩ := index_of t
  refine (show _ = m ((c.tc : Thread nD τ).loc main_arg1) ((win0_1.rect t).idx (ix2 k q)) from by rw [← V_main_arg1 m c]; rfl).trans (congrArg _ ?_)
  refine Shape.idx_ext₂ ?_ ?_
  · show win0_1.index t 0 * 1024 + 1 * (k : ℕ) = 1024 * (t.val % 2) + k.val
    rw [e0]; omega
  · show win0_1.index t 1 * 2048 + 1 * (q : ℕ) = q
    rw [e1]; omega

theorem iblk2 (c : Dev nD) (t : Fin cfg0.N) (p : Fin 1024) (q : Fin 2048) :
    iblk m c 2 t (ix2 p q) = m ((c.tc : Thread nD τ).loc main_arg2) (ix2 (row t.val (lt_pts t) p) q) := by
  obtain ⟨-, -, -, -, e0, e1, -⟩ := index_of t
  refine (show _ = m ((c.tc : Thread nD τ).loc main_arg2) ((win0_2.rect t).idx (ix2 p q)) from by rw [← V_main_arg2 m c]; rfl).trans (congrArg _ ?_)
  refine Shape.idx_ext₂ ?_ ?_
  · show win0_2.index t 0 * 1024 + 1 * (p : ℕ) = t.val / 2 * 1024 + p.val
    rw [e0]; omega
  · show win0_2.index t 1 * 2048 + 1 * (q : ℕ) = q
    rw [e1]; omega

/-- Contraction index `k`'s contribution to entry `j` of point `t`'s block. -/
abbrev g (c : Dev nD) (t : ℕ) (ht : t < 16) (j : S1024x2048.Idx) : ℕ → EReal :=
  term (m ((c.tc : Thread nD τ).loc main_arg0)) (m ((c.tc : Thread nD τ).loc main_arg1)) (row t ht (j 0)) (j 1)

/-- A point adds its contraction block's contributions. -/
theorem step (c : Dev nD) (t : Fin cfg0.N) (xs : Vec Ideal S1024x2048 .f32) (j : S1024x2048.Idx) :
    k0_pay2 xs (iblk m c 0 t) (iblk m c 1 t) j = xs j + ∑ k : Fin 1024, g m c t.val (lt_pts t) j (1024 * (t.val % 2) + k.val) := by
  rw [pay2_apply]
  congr 1
  refine Finset.sum_congr rfl fun k _ => ?_
  have hk : 1024 * (t.val % 2) + k.val < 2048 := by have := k.isLt; omega
  rw [iblk0 m c t (j 0) k hk, iblk1 m c t k (j 1) hk]
  unfold g term
  rw [dif_pos hk]

theorem g_congr (c : Dev nD) (t t' : ℕ) (ht : t < 16) (ht' : t' < 16) (e : t / 2 = t' / 2) (j : S1024x2048.Idx) : g m c t ht j = g m c t' ht' j := by
  have ec : row t ht (j 0) = row t' ht' (j 0) := Fin.ext (by show t / 2 * 1024 + _ = t' / 2 * 1024 + _; rw [e])
  unfold g; rw [ec]

/-! ## The block in place, point by point -/

theorem acc_A (c : Dev nD) (t : Fin cfg0.N) (h0 : t.val % 2 = 0) :
    outsAt0 m c t.val t.isLt = k0_pay2 k0_pay1 (iblk m c 0 t) (iblk m c 1 t) := by
  have h1 : ¬t.val % 2 = 1 := by omega
  rw [outsAt0_A m c t h0 h1]
  exact out_A c _ _ _ _ _ _ _ _ _ _ _ _ _ _

/-- The residual's block at point `t`. -/
abbrev resid (c : Dev nD) (t : Fin cfg0.N) : S1024x2048.Idx → EReal := iblk m c 2 t

theorem acc_B (c : Dev nD) (t : Fin cfg0.N) (h1 : t.val % 2 = 1) (j : S1024x2048.Idx) :
    outsAt0 m c t.val t.isLt j
      = resid m c t j + k0_pay2 (outsAt0 m c (t.val - 1) (Nat.lt_of_le_of_lt (Nat.sub_le _ _) t.isLt)) (iblk m c 0 t) (iblk m c 1 t) j := by
  have h0 : ¬t.val % 2 = 0 := by omega
  rw [outsAt0_B m c t h0 h1]
  exact out_B c _ _ _ _ _ _ _ _ _ _ _ _ _ _ _ _

/-- What the block holds after the first point of a row block: that contraction block's contributions. -/
theorem acc_eq (c : Dev nD) (j : S1024x2048.Idx) (t : Fin cfg0.N) (h0 : t.val % 2 = 0) :
    outsAt0 m c t.val t.isLt j = blocks 1024 (g m c t.val (lt_pts t) j) 1 := by
  refine (congrFun (acc_A m c t h0) j).trans ?_
  rw [step, pay1_apply, zero_add, h0]
  exact (blocks_one _ _).symm

/-- The call's result as a function of its three arguments. -/
def res (a : S8192x2048.Idx → EReal) (b : S2048x2048.Idx → EReal) (x : S8192x2048.Idx → EReal) (i : S8192x2048.Idx) : EReal :=
  x i + ∑ k : Fin 2048, a (ix2 (i 0) k) * b (ix2 k (i 1))

/-- What the last point of a row block leaves: the residual plus the whole product. -/
theorem out_eq (c : Dev nD) (t : Fin cfg0.N) (h1 : t.val % 2 = 1) (p : Fin 1024) (q : Fin 2048) :
    outsAt0 m c t.val t.isLt (ix2 p q) = res (m ((c.tc : Thread nD τ).loc main_arg0)) (m ((c.tc : Thread nD τ).loc main_arg1))
      (m ((c.tc : Thread nD τ).loc main_arg2)) (ix2 (row t.val (lt_pts t) p) q) := by
  have hs := acc_eq m c (ix2 p q) ⟨t.val - 1, Nat.lt_of_le_of_lt (Nat.sub_le _ _) t.isLt⟩ (by show (t.val - 1) % 2 = 0; omega)
  rw [acc_B m c t h1, step, hs, show resid m c t (ix2 p q) = _ from iblk2 m c t p q, g_congr m c (t.val - 1) t.val (by have := lt_pts t; omega) (lt_pts t) (by omega) _, h1,
    ← blocks_succ, blocks_eq_range, Finset.sum_range]
  unfold res
  congr 2
  funext k
  exact dif_pos k.isLt

/-- The result as a function of the argument arrays of device `c`. -/
abbrev out (c : Dev nD) : Buf (Elt Ideal) ((c.tc : Thread nD τ).loc main_v0) :=
  res (m ((c.tc : Thread nD τ).loc main_arg0)) (m ((c.tc : Thread nD τ).loc main_arg1)) (m ((c.tc : Thread nD τ).loc main_arg2))

theorem idx3 (t : Fin cfg0.N) (p : Fin 1024) (q : Fin 2048) : (win0_3.rect t).idx (ix2 p q) = ix2 (row t.val (lt_pts t) p) q := by
  obtain ⟨-, -, -, -, -, -, e0, e1⟩ := index_of t
  refine Shape.idx_ext₂ ?_ ?_
  · show win0_3.index t 0 * 1024 + 1 * (p : ℕ) = t.val / 2 * 1024 + p.val
    rw [e0]; omega
  · show win0_3.index t 1 * 2048 + 1 * (q : ℕ) = q
    rw [e1]; omega

theorem flushed_eq (c : Dev nD) (t : Fin cfg0.N) (h1 : t.val % 2 = 1) :
    (dats m 0 c).flushed 3 t = (win0_3.blk t).view.read (Elt Ideal) (out m c) := by
  rw [Value.flushed3]
  funext j
  obtain ⟨p, q, rfl⟩ : ∃ p q, j = ix2 p q := ⟨j 0, j 1, eq_ix2 j⟩
  exact (out_eq m c t h1 p q).trans (congrArg (out m c) (idx3 t p q).symm)

theorem cover (i : S8192x2048.Idx) : ∃ t : Fin cfg0.N, (cfg0.win 3).flush t = true ∧ i ∈ ((cfg0.win 3).blk t).view.set := by
  have h0 : (i 0 : ℕ) < 8192 := (i 0).isLt
  have ht : (i 0 : ℕ) / 1024 * 2 + 1 < cfg0.N := by rw [show cfg0.N = 16 from N_0]; omega
  obtain ⟨t, p, q, h3, rfl⟩ : ∃ (t : Fin cfg0.N) (p : Fin 1024) (q : Fin 2048), t.val % 2 = 1 ∧ ix2 (row t.val (lt_pts t) p) q = i := by
    refine ⟨⟨_, ht⟩, ⟨(i 0 : ℕ) % 1024, by omega⟩, i 1, by show ((i 0 : ℕ) / 1024 * 2 + 1) % 2 = 1; omega, Shape.idx_ext₂ ?_ rfl⟩
    show ((i 0 : ℕ) / 1024 * 2 + 1) / 2 * 1024 + (i 0 : ℕ) % 1024 = (i 0 : ℕ); omega
  refine ⟨t, (flush0_3 t).mpr h3, ?_⟩
  show ix2 (row t.val (lt_pts t) p) q ∈ ((View.whole main_v0).slice (win0_3.rect t)).set
  rw [View.set_slice_whole, ← idx3]
  exact (win0_3.rect t).idx_mem _

theorem final (c : Dev nD) : (dats m 0 c).arrAt 3 cfg0.N = out m c :=
  (dats m 0 c).arrAt_eq_of_cover 3 (out m c) (fun t hf => flushed_eq m c t ((flush0_3 t).mp hf)) cover

end Cert.Proof.OutProjValue

end
-- ==== Proof.OutProjClaims.lean ====
/-
  The claims about the mixing layer's output projection: the frames, and that at the ideal instance it leaves
  the residual plus the product, as the reference does.
-/
module

public import proofs.«01_k».proof.Defs
public import proofs.«01_k».proof.Proof.OutProjValue
public import proofs.«01_k».proof.Proof.Gen.OutProj.Frame
public import proofs.«01_k».proof.Proof.Gen.OutProjRefIdeal.Run

@[expose] public section

set_option maxRecDepth 16384

noncomputable section

namespace Cert.Proof.OutProjClaims

open Idealize.ShloMosaic Idealize.SL.Sem
open scoped BigOperators

theorem frame : Cert.quiescent_OutProj := fun m ρ _ => Cert.OutProj.Gen.frame m ρ
theorem frame_i : Cert.quiescent_OutProjIdeal := fun m ρ _ => Cert.OutProjIdeal.Gen.frame m ρ
theorem frame_r : Cert.quiescent_OutProjRefIdeal := fun m ρ _ =>
  (θ_run Cert.OutProjRefIdeal.defs _ _).mono (fun r h => ⟨fun c => (h c).2, sem_eq_zero_of_no_sems (by decide) r.2⟩) (Cert.OutProjRefIdeal.Value.run (F := Ideal) m ρ)

open Cert.OutProjRefIdeal Cert.OutProjRefIdeal.Gen in
theorem ref (a : FVec Ideal S8192x2048 .bf16) (b : FVec Ideal S2048x2048 .bf16) (x : FVec Ideal S8192x2048 .f32) (i : S8192x2048.Idx) :
    addf (F := Ideal) x (Host.dotGeneral dot_S8192x2048_S2048x2048_S8192x2048_1_0_0_1_n_n none (extf .f32 a bitsLt_bf16_f32) (extf .f32 b bitsLt_bf16_f32)) i
      = OutProjValue.res a b x i := by
  unfold OutProjValue.res
  pointwise

theorem value : Cert.algebraic_OutProjIdeal_OutProjRefIdeal := by
  intro m ρ m' ρ' _ hagree
  refine ⟨fun c => OutProjValue.out m c, ?_, ?_⟩
  · exact (θ_run Cert.OutProjIdeal.defs _ _).mono (fun _ h c => ⟨(h c).1.trans (OutProjValue.final m c), (h c).2⟩) (Cert.OutProjIdeal.Value.run_blocks (F := Ideal) m ρ)
  refine (θ_run Cert.OutProjRefIdeal.defs _ _).mono (fun _ h c => ⟨(h c).1.trans ?_, (h c).2⟩) (Cert.OutProjRefIdeal.Value.run (F := Ideal) m' ρ')
  rw [(hagree c).1, (hagree c).2.1, (hagree c).2.2]
  funext i
  exact ref _ _ _ i

end Cert.Proof.OutProjClaims

end
-- ==== Proof.AdamWClaims.lean ====
/-
  The claims about the optimiser's update of the mixer's input projection: the frames, and that at the ideal instance its three
  result arrays are those of one AdamW step, of any arguments.
-/
module

public import proofs.«01_k».proof.Defs
public import proofs.«01_k».proof.Proof.Gen.AdamWIdeal.Value
public import proofs.«01_k».proof.Proof.Gen.AdamW.Frame
public import proofs.«01_k».proof.Proof.Gen.AdamWRefIdeal.Run

@[expose] public section

set_option maxRecDepth 16384

noncomputable section

namespace Cert.Proof.AdamWClaims

open Idealize.ShloMosaic Idealize.SL.Sem

section Ref
open Cert.AdamWRefIdeal Cert.AdamWRefIdeal.Gen Cert.AdamWIdeal.Value

variable (m : (ℓ : Loc nD τ sig) → Buf (Elt Ideal) ℓ) (ρ : Dev nD → PrngReg)

/-- The reference's run leaves the step, the two moments and its arguments. -/
theorem ref_run : θ_run defs (onTc (τ := τ) (main (F := Ideal))) ⟨m, fun _ => 0, ρ⟩ fun r => ∀ c : Dev nD,
      r.2.mem ((c.tc : Thread nD τ).loc main_v23) = G4 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = G5 (F := Ideal) (m ((c.tc : Thread nD τ).loc main_arg1)) (m ((c.tc : Thread nD τ).loc main_arg2))
      ∧ r.2.mem ((c.tc : Thread nD τ).loc main_v10) = G6 (F := Ideal) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by clear h; funext i; rfl), (h c).2.1.trans (by clear h; funext i; rfl),
    (h c).2.2.1.trans (by clear h; funext i; rfl), (h c).2.2.2⟩) (Cert.AdamWRefIdeal.Value.run (F := Ideal) m ρ)

end Ref

theorem frame_k : Cert.quiescent_AdamW := fun m ρ _ => Cert.AdamW.Gen.frame m ρ
theorem frame_ki : Cert.quiescent_AdamWIdeal := fun m ρ _ => Cert.AdamWIdeal.Gen.frame m ρ
theorem frame_r : Cert.quiescent_AdamWRefIdeal := fun m ρ _ =>
  (θ_run Cert.AdamWRefIdeal.defs _ _).mono (fun r h => ⟨fun c => (h c).2.2.2, sem_eq_zero_of_no_sems (by decide) r.2⟩)
    (Cert.AdamWRefIdeal.Value.run (F := Ideal) m ρ)

theorem value : Cert.algebraic_AdamWIdeal_AdamWRefIdeal := by
  intro m ρ m' ρ' _ hagree
  refine ⟨_, _, _, Cert.AdamWIdeal.Value.run (F := Ideal) m ρ, ?_⟩
  refine (θ_run Cert.AdamWRefIdeal.defs _ _).mono (fun _ h c => ⟨(h c).1.trans ?_, (h c).2.1.trans ?_, (h c).2.2.1.trans ?_, (h c).2.2.2⟩) (ref_run m' ρ')
  · rw [(hagree c).1, (hagree c).2.1, (hagree c).2.2.1, (hagree c).2.2.2]
  · rw [(hagree c).2.1, (hagree c).2.2.1]
  · rw [(hagree c).2.1, (hagree c).2.2.2]

end Cert.Proof.AdamWClaims

end
-- ==== Proof.SumGateValue.lean ====
/-
  What the optimiser's call with the sum over the chips leaves in its four results: the gradient summed over the four chips,
  and its AdamW step. Point `t` of the grid takes row block `t`; the own slab is chosen by the chip's number, which is prefetched.
-/
module

public import proofs.«01_k».proof.Proof.RowWindows
public import proofs.«01_k».proof.Proof.Gen.SumGateIdeal.Frame
public import proofs.«01_k».proof.Proof.Gen.SumGate.Frame
public import Idealize.ShloMosaic.Lib.Pipeline.Value
public import proofs.«01_k».proof.Defs

@[expose] public section

set_option maxRecDepth 16384

noncomputable section

namespace Cert.Proof.SumGateValue

open Idealize.ShloMosaic Idealize.ShloMosaic.TcCoe Idealize.SL.Sem Cert.SumGateIdeal Cert.SumGateIdeal.Gen Cert.Proof.RowWindows
open Idealize.ShloMosaic.Pipeline (Dat)
open scoped BigOperators

/-! ## The side condition of the prefetched number -/

section Side
variable {F : FTy → Type} [FloatOps F] (m : (ℓ : Loc nD τ sig) → Buf (Elt F) ℓ)

/-- The chip's number. -/
abbrev chip : BitVec 32 := m (((0 : Dev nD).tc : Thread nD τ).loc main_arg2) (ix1 0)

theorem at_tbl : (tbl m).at 0 (Rect.unit (s := S1) ![0] S1.size Facts₀.inb_S1_S1_0) Facts₀.numel1_S1 = chip m := by
  unfold Pipeline.Prefetch.Contents.at
  refine congrArg (m (((0 : Dev nD).tc : Thread nD τ).loc main_arg2)) (show _ = (ix1 0 : S1.Idx) from ?_)
  funext a
  match a with
  | ⟨0, _⟩ => exact Subsingleton.elim (α := Fin 1) _ _

theorem ix_own (i : grid0.Coords) : cc0_transform_0 Facts₀.inb_S1_S1_0 Facts₀.numel1_S1 (tbl m) i = ![(chip m).toNat, (cc0_transform_1 i) 1, 0] := by
  unfold cc0_transform_0 cc0_transform_1
  dsimp only
  rw [at_tbl]
  rfl

theorem ok (h : (chip m).toNat < 4) : Ok m := by
  intro i
  rw [ix_own]
  generalize (chip m).toNat = k at h
  have h1 := hinb0_1 i 1
  have hb : ∀ a, ((![k, (cc0_transform_1 i) 1, 0] : Fin 3 → ℕ) a + 1) * S1x176x2048.size a ≤ S4x2112x2048.size a := by
    intro a
    match a with
    | ⟨0, _⟩ => show (k + 1) * 1 ≤ 4; omega
    | ⟨1, _⟩ => exact h1
    | ⟨2, _⟩ => show (0 + 1) * 2048 ≤ 2048; omega
  exact ⟨hb, .inr (Affine.block_words_dvd (of_decide_eq_true rfl) (by decide))⟩

end Side

/-! ## One point's results -/

section Step
variable (c : Dev nD) (i : grid0.Coords) (a2 : Memref sig .tc .vmem S1x176x2048 .bf16) (h2 : a2.IsWhole) (a3 : Memref sig .tc .vmem S1x176x2048 .bf16) (h3 : a3.IsWhole)
  (a4 : Memref sig .tc .vmem S1x176x2048 .bf16) (h4 : a4.IsWhole) (a5 : Memref sig .tc .vmem S1x176x2048 .bf16) (h5 : a5.IsWhole)
  (a6 : Memref sig .tc .vmem S176x2048 .f32) (h6 : a6.IsWhole) (a7 : Memref sig .tc .vmem S176x2048 .f32) (h7 : a7.IsWhole)
  (a8 : Memref sig .tc .vmem S176x2048 .f32) (h8 : a8.IsWhole) (a9 : Memref sig .tc .vmem S176x2048 .f32) (h9 : a9.IsWhole)
  (a10 : Memref sig .tc .vmem S176x2048 .f32) (h10 : a10.IsWhole) (a11 : Memref sig .tc .vmem S176x2048 .f32) (h11 : a11.IsWhole)
  (a12 : Memref sig .tc .vmem S176x2048 .f32) (h12 : a12.IsWhole)
  (x0 x1 x2 x3 : Vec Ideal S1x176x2048 .bf16) (x4 x5 x6 : Vec Ideal S176x2048 .f32) (xt : TbBuf0 (F := Ideal) c tbM0_0)

theorem hz2 : (![0, 0] : Fin 2 → Nat) = fun _ => 0 := funext fun a => by fin_cases a <;> rfl
theorem hz3 : (![0, 0, 0] : Fin 3 → Nat) = fun _ => 0 := funext fun a => by fin_cases a <;> rfl

theorem out_7 : out0_A_7 c i a2 h2 a3 h3 a4 h4 a5 h5 a6 h6 a7 h7 a8 h8 a9 h9 a10 h10 a11 h11 a12 h12 x0 x1 x2 x3 x4 x5 x6 xt = k0_pay2 x0 x1 x2 x3 := by
  unfold out0_A_7
  rw [View.read_writes_eq_canon _ _ _ (cover0_A_7 c i a2 h2 a3 h3 a4 h4 a5 h5 a6 h6 a7 h7 a8 h8 a9 h9 a10 h10 a11 h11 a12 h12 x0 x1 x2 x3 x4 x5 x6 xt)]
  unfold kernelRun0_A
  dsimp only
  sl_unfold_words
  rw [View.canon_unit_zero (S := S176x2048) hz2]
  simp only [View.readAt_eq_ld, h2.read_unread, h3.read_unread, h4.read_unread, h5.read_unread, View.ld_unit_zero (S := S1x176x2048) hz3]

theorem out_8 : out0_A_8 c i a2 h2 a3 h3 a4 h4 a5 h5 a6 h6 a7 h7 a8 h8 a9 h9 a10 h10 a11 h11 a12 h12 x0 x1 x2 x3 x4 x5 x6 xt
    = k0_pay1 x4 (k0_pay4 x0 x1 x2 x3 x6) (k0_pay5 x0 x1 x2 x3 x5) (Scalar.ofBits .f32 0x3C231ACC#32) := by
  unfold out0_A_8
  rw [View.read_writes_eq_canon _ _ _ (cover0_A_8 c i a2 h2 a3 h3 a4 h4 a5 h5 a6 h6 a7 h7 a8 h8 a9 h9 a10 h10 a11 h11 a12 h12 x0 x1 x2 x3 x4 x5 x6 xt)]
  unfold kernelRun0_A
  dsimp only
  sl_unfold_words
  rw [View.canon_unit_zero (S := S176x2048) hz2]
  simp only [View.readAt_eq_ld, h2.read_unread, h3.read_unread, h4.read_unread, h5.read_unread, h6.read_unread, h7.read_unread, h8.read_unread,
    View.ld_unit_zero (S := S1x176x2048) hz3, View.ld_unit_zero (S := S176x2048) hz2]

theorem out_9 : out0_A_9 c i a2 h2 a3 h3 a4 h4 a5 h5 a6 h6 a7 h7 a8 h8 a9 h9 a10 h10 a11 h11 a12 h12 x0 x1 x2 x3 x4 x5 x6 xt = k0_pay3 x0 x1 x2 x3 x5 := by
  unfold out0_A_9
  rw [View.read_writes_eq_canon _ _ _ (cover0_A_9 c i a2 h2 a3 h3 a4 h4 a5 h5 a6 h6 a7 h7 a8 h8 a9 h9 a10 h10 a11 h11 a12 h12 x0 x1 x2 x3 x4 x5 x6 xt)]
  unfold kernelRun0_A
  dsimp only
  sl_unfold_words
  rw [View.canon_unit_zero (S := S176x2048) hz2]
  simp only [View.readAt_eq_ld, h2.read_unread, h3.read_unread, h4.read_unread, h5.read_unread, h7.read_unread,
    View.ld_unit_zero (S := S1x176x2048) hz3, View.ld_unit_zero (S := S176x2048) hz2]

theorem out_10 : out0_A_10 c i a2 h2 a3 h3 a4 h4 a5 h5 a6 h6 a7 h7 a8 h8 a9 h9 a10 h10 a11 h11 a12 h12 x0 x1 x2 x3 x4 x5 x6 xt = k0_pay4 x0 x1 x2 x3 x6 := by
  unfold out0_A_10
  rw [View.read_writes_eq_canon _ _ _ (cover0_A_10 c i a2 h2 a3 h3 a4 h4 a5 h5 a6 h6 a7 h7 a8 h8 a9 h9 a10 h10 a11 h11 a12 h12 x0 x1 x2 x3 x4 x5 x6 xt)]
  unfold kernelRun0_A
  dsimp only
  sl_unfold_words
  rw [View.canon_unit_zero (S := S176x2048) hz2]
  simp only [View.readAt_eq_ld, h2.read_unread, h3.read_unread, h4.read_unread, h5.read_unread, h8.read_unread,
    View.ld_unit_zero (S := S1x176x2048) hz3, View.ld_unit_zero (S := S176x2048) hz2]

end Step

/-! ## The step, entry by entry -/

/-- The first moment of an entry from its gradient, -/
abbrev mom1 (g x : EReal) : EReal := Ideal.ofBits .f32 0x3F666666#32 * x + Ideal.ofBits .f32 0x3DCCCCCD#32 * g
/-- the second, -/
abbrev mom2 (g x : EReal) : EReal := Ideal.ofBits .f32 0x3F7FBE77#32 * x + Ideal.ofBits .f32 0x3A83126F#32 * (g * g)
/-- and the weight's step from the weight and the new moments. -/
abbrev delta (w a b : EReal) : EReal :=
  Ideal.ofBits .f32 0xBA83126F#32 * (Ideal.div (Ideal.div a (Ideal.ofBits .f32 0x3F26BD02#32))
    (Ideal.sqrt (Ideal.div b (Ideal.ofBits .f32 0x3C231ACC#32)) + Ideal.ofBits .f32 0x322BCC77#32) + Ideal.ofBits .f32 0x3C23D70A#32 * w)

section Pays
variable (x0 x1 x2 x3 : Vec Ideal S1x176x2048 .bf16) (x4 x5 x6 : Vec Ideal S176x2048 .f32) (p : Fin 176) (q : Fin 2048)

theorem pay2_apply : k0_pay2 x0 x1 x2 x3 (ix2 p q) = x0 (ix3 0 p q) + x1 (ix3 0 p q) + x2 (ix3 0 p q) + x3 (ix3 0 p q) := by
  unfold k0_pay2
  pointwise

theorem pay3_apply : k0_pay3 x0 x1 x2 x3 x5 (ix2 p q) = mom1 (k0_pay2 x0 x1 x2 x3 (ix2 p q)) (x5 (ix2 p q)) := rfl
theorem pay4_apply : k0_pay4 x0 x1 x2 x3 x6 (ix2 p q) = mom2 (k0_pay2 x0 x1 x2 x3 (ix2 p q)) (x6 (ix2 p q)) := rfl
theorem pay1_apply : k0_pay1 x4 (k0_pay4 x0 x1 x2 x3 x6) (k0_pay5 x0 x1 x2 x3 x5) (Scalar.ofBits .f32 0x3C231ACC#32) (ix2 p q)
    = delta (x4 (ix2 p q)) (k0_pay3 x0 x1 x2 x3 x5 (ix2 p q)) (k0_pay4 x0 x1 x2 x3 x6 (ix2 p q)) := rfl

end Pays

/-! ## Where the blocks lie -/

/-- Point `t` takes row block `t` of the shards, and of the slabs the block that lies there from the first row on. -/
theorem index_of : ∀ t : Fin grid0.N, cc0_transform_4 (grid0.coords t) 0 = t.val ∧ cc0_transform_4 (grid0.coords t) 1 = 0
    ∧ cc0_transform_1 (grid0.coords t) 0 = 0 ∧ cc0_transform_1 (grid0.coords t) 1 = 0 + t.val ∧ cc0_transform_1 (grid0.coords t) 2 = 0
    ∧ cc0_transform_2 (grid0.coords t) 0 = 1 ∧ cc0_transform_2 (grid0.coords t) 1 = 0 + t.val ∧ cc0_transform_2 (grid0.coords t) 2 = 0
    ∧ cc0_transform_3 (grid0.coords t) 0 = 2 ∧ cc0_transform_3 (grid0.coords t) 1 = 0 + t.val ∧ cc0_transform_3 (grid0.coords t) 2 = 0 := by
  decide +kernel

section Values
variable (m : (ℓ : Loc nD τ sig) → Buf (Elt Ideal) ℓ) (hO : Ok m) (c : Dev nD) (t : Fin (cfgM m hO).N) (p : Fin 176) (q : Fin 2048)

theorem lt_pts : t.val < 4 := lt_of_lt_of_eq t.isLt (show (cfgM m hO).N = 4 from N_0)

/-- Row `p` of point `t`'s block. -/
def row : Fin 704 := ⟨t.val * 176 + p.val, by have := p.isLt; have := lt_pts m hO t; omega⟩

/-- A shard's row in the slab, where the shard lies from row `o` on. -/
def slab (o : ℕ) (ho : o + 704 ≤ 2112) (r : Fin 704) : Fin 2112 := ⟨o + r.val, by have := r.isLt; omega⟩

theorem idx4 : (((cfgM m hO).win 4).rect t).idx (ix2 p q) = ix2 (row m hO t p) q := by
  obtain ⟨e0, e1, -⟩ := index_of t
  refine Shape.idx_ext₂ ?_ ?_
  · show cc0_transform_4 (grid0.coords t) 0 * 176 + 1 * (p : ℕ) = t.val * 176 + p.val
    rw [e0]; omega
  · show cc0_transform_4 (grid0.coords t) 1 * 2048 + 1 * (q : ℕ) = q
    rw [e1]; omega

theorem iblk4 : iblk m hO c 4 t (ix2 p q) = m ((c.tc : Thread nD τ).loc main_arg3) (ix2 (row m hO t p) q) :=
  (show _ = m ((c.tc : Thread nD τ).loc main_arg3) ((((cfgM m hO).win 4).rect t).idx (ix2 p q)) from by rw [← V_main_arg3 m c]; rfl).trans (congrArg _ (idx4 m hO t p q))
theorem iblk5 : iblk m hO c 5 t (ix2 p q) = m ((c.tc : Thread nD τ).loc main_arg4) (ix2 (row m hO t p) q) :=
  (show _ = m ((c.tc : Thread nD τ).loc main_arg4) ((((cfgM m hO).win 4).rect t).idx (ix2 p q)) from by rw [← V_main_arg4 m c]; rfl).trans (congrArg _ (idx4 m hO t p q))
theorem iblk6 : iblk m hO c 6 t (ix2 p q) = m ((c.tc : Thread nD τ).loc main_arg5) (ix2 (row m hO t p) q) :=
  (show _ = m ((c.tc : Thread nD τ).loc main_arg5) ((((cfgM m hO).win 4).rect t).idx (ix2 p q)) from by rw [← V_main_arg5 m c]; rfl).trans (congrArg _ (idx4 m hO t p q))

/-- A slab's entry under a block, from the block's place: block `n` of a shard from block `b` of the slab on. -/
theorem slab_ext {k' : ℕ} {j : (⟨3, ![k', 2112, 2048]⟩ : Shape).Idx} (k : Fin k') (o : ℕ) (ho : o + 704 ≤ 2112) (r : Fin 704) (ob n a b d : ℕ) (hob : o = ob * 176)
    (hr : r.val = n * 176 + p.val) (ea : a = k.val) (eb : b = ob + n) (ed : d = 0)
    (h0 : (j 0).val = a * 1 + 1 * 0) (h1 : (j 1).val = b * 176 + 1 * p.val) (h2 : (j 2).val = d * 2048 + 1 * q.val) : j = ix3 k (slab o ho r) q := by
  have e0 : a * 1 + 1 * 0 = k.val := by omega
  have e2 : d * 2048 + 1 * q.val = q.val := by omega
  have e1 : b * 176 + 1 * p.val = (slab o ho r).val := by simp only [slab]; omega
  funext x
  match x with
  | ⟨0, _⟩ => exact Fin.ext (h0.trans e0)
  | ⟨1, _⟩ => exact Fin.ext (h1.trans e1)
  | ⟨2, _⟩ => exact Fin.ext (h2.trans e2)

theorem iblk1 : iblk m hO c 1 t (ix3 0 p q) = m ((c.tc : Thread nD τ).loc main_arg1) (ix3 0 (slab 0 (by decide) (row m hO t p)) q) := by
  obtain ⟨-, -, e0, e1, e2, -⟩ := index_of t
  exact (show _ = m ((c.tc : Thread nD τ).loc main_arg1) ((((cfgM m hO).win 1).rect t).idx (ix3 0 p q)) from by rw [← V_main_arg1 m c]; rfl).trans
    (congrArg _ (slab_ext p q (0 : Fin 3) 0 (by decide) _ 0 t.val _ _ _ rfl rfl e0 e1 e2 rfl rfl rfl))
theorem iblk2 : iblk m hO c 2 t (ix3 0 p q) = m ((c.tc : Thread nD τ).loc main_arg1) (ix3 1 (slab 0 (by decide) (row m hO t p)) q) := by
  obtain ⟨-, -, -, -, -, e0, e1, e2, -⟩ := index_of t
  exact (show _ = m ((c.tc : Thread nD τ).loc main_arg1) ((((cfgM m hO).win 2).rect t).idx (ix3 0 p q)) from by rw [← V_main_arg1 m c]; rfl).trans
    (congrArg _ (slab_ext p q (1 : Fin 3) 0 (by decide) _ 0 t.val _ _ _ rfl rfl e0 e1 e2 rfl rfl rfl))
theorem iblk3 : iblk m hO c 3 t (ix3 0 p q) = m ((c.tc : Thread nD τ).loc main_arg1) (ix3 2 (slab 0 (by decide) (row m hO t p)) q) := by
  obtain ⟨-, -, -, -, -, -, -, -, e0, e1, e2⟩ := index_of t
  exact (show _ = m ((c.tc : Thread nD τ).loc main_arg1) ((((cfgM m hO).win 3).rect t).idx (ix3 0 p q)) from by rw [← V_main_arg1 m c]; rfl).trans
    (congrArg _ (slab_ext p q (2 : Fin 3) 0 (by decide) _ 0 t.val _ _ _ rfl rfl e0 e1 e2 rfl rfl rfl))
theorem iblk0 (h : (chip m).toNat < 4) : iblk m hO c 0 t (ix3 0 p q) = m ((c.tc : Thread nD τ).loc main_arg0) (ix3 ⟨(chip m).toNat, h⟩ (slab 0 (by decide) (row m hO t p)) q) := by
  obtain ⟨-, -, -, e1, -⟩ := index_of t
  have e := ix_own m (grid0.coords t)
  exact (show _ = m ((c.tc : Thread nD τ).loc main_arg0) ((((cfgM m hO).win 0).rect t).idx (ix3 0 p q)) from by rw [← V_main_arg0 m c]; rfl).trans
    (congrArg _ (slab_ext p q (⟨(chip m).toNat, h⟩ : Fin 4) 0 (by decide) _ 0 t.val _ _ _ rfl rfl (congrFun e 0) ((congrFun e 1).trans e1) (congrFun e 2) rfl rfl rfl))

/-! ## The four results -/

/-- The gradient of an entry, summed over the four chips, of a shard from row `o` of the slab on. -/
def grad (o : ℕ) (ho : o + 704 ≤ 2112) (own : S4x2112x2048.Idx → EReal) (oth : S3x2112x2048.Idx → EReal) (k : Fin 4) (i : S704x2048.Idx) : EReal :=
  own (ix3 k (slab o ho (i 0)) (i 1)) + oth (ix3 0 (slab o ho (i 0)) (i 1)) + oth (ix3 1 (slab o ho (i 0)) (i 1)) + oth (ix3 2 (slab o ho (i 0)) (i 1))

variable (h : (chip m).toNat < 4)

abbrev G7 (c : Dev nD) : Buf (Elt Ideal) ((c.tc : Thread nD τ).loc main_v0_0) :=
  grad 0 (by decide) (m ((c.tc : Thread nD τ).loc main_arg0)) (m ((c.tc : Thread nD τ).loc main_arg1)) ⟨(chip m).toNat, h⟩
abbrev G9 (c : Dev nD) : Buf (Elt Ideal) ((c.tc : Thread nD τ).loc main_v0_2) := fun i => mom1 (G7 m h c i) (m ((c.tc : Thread nD τ).loc main_arg4) i)
abbrev G10 (c : Dev nD) : Buf (Elt Ideal) ((c.tc : Thread nD τ).loc main_v0_3) := fun i => mom2 (G7 m h c i) (m ((c.tc : Thread nD τ).loc main_arg5) i)
abbrev G8 (c : Dev nD) : Buf (Elt Ideal) ((c.tc : Thread nD τ).loc main_v0_1) := fun i => delta (m ((c.tc : Thread nD τ).loc main_arg3) i) (G9 m h c i) (G10 m h c i)

theorem g7 : k0_pay2 (iblk m hO c 0 t) (iblk m hO c 1 t) (iblk m hO c 2 t) (iblk m hO c 3 t) (ix2 p q) = G7 m h c (ix2 (row m hO t p) q) :=
  (pay2_apply _ _ _ _ p q).trans (congrArg₂ (fun a b : EReal => a + b) (congrArg₂ (fun a b : EReal => a + b)
    (congrArg₂ (fun a b : EReal => a + b) (iblk0 m hO c t p q h) (iblk1 m hO c t p q)) (iblk2 m hO c t p q)) (iblk3 m hO c t p q))

theorem g9 : k0_pay3 (iblk m hO c 0 t) (iblk m hO c 1 t) (iblk m hO c 2 t) (iblk m hO c 3 t) (iblk m hO c 5 t) (ix2 p q) = G9 m h c (ix2 (row m hO t p) q) :=
  (pay3_apply _ _ _ _ _ p q).trans (congrArg₂ mom1 (g7 m hO c t p q h) (iblk5 m hO c t p q))

theorem g10 : k0_pay4 (iblk m hO c 0 t) (iblk m hO c 1 t) (iblk m hO c 2 t) (iblk m hO c 3 t) (iblk m hO c 6 t) (ix2 p q) = G10 m h c (ix2 (row m hO t p) q) :=
  (pay4_apply _ _ _ _ _ p q).trans (congrArg₂ mom2 (g7 m hO c t p q h) (iblk6 m hO c t p q))

theorem outs7 : (outsAt0 m hO c t).1 (ix2 p q) = G7 m h c (ix2 (row m hO t p) q) := by
  refine (congrFun ?_ _).trans (g7 m hO c t p q h)
  unfold outsAt0
  dsimp only
  exact out_7 ..
theorem outs9 : (outsAt0 m hO c t).2.2.1 (ix2 p q) = G9 m h c (ix2 (row m hO t p) q) := by
  refine (congrFun ?_ _).trans (g9 m hO c t p q h)
  unfold outsAt0
  dsimp only
  exact out_9 ..
theorem outs10 : (outsAt0 m hO c t).2.2.2 (ix2 p q) = G10 m h c (ix2 (row m hO t p) q) := by
  refine (congrFun ?_ _).trans (g10 m hO c t p q h)
  unfold outsAt0
  dsimp only
  exact out_10 ..
theorem outs8 : (outsAt0 m hO c t).2.1 (ix2 p q) = G8 m h c (ix2 (row m hO t p) q) := by
  refine (congrFun ?_ _).trans ((pay1_apply (iblk m hO c 0 t) (iblk m hO c 1 t) (iblk m hO c 2 t) (iblk m hO c 3 t) (iblk m hO c 4 t) (iblk m hO c 5 t) (iblk m hO c 6 t) p q).trans ?_)
  · unfold outsAt0
    dsimp only
    exact out_8 ..
  · exact (congrArg₂ (delta _) (g9 m hO c t p q h) (g10 m hO c t p q h)).trans (congrArg (fun w => delta w _ _) (iblk4 m hO c t p q))

theorem cover (i : S704x2048.Idx) : ∃ (t : Fin (cfgM m hO).N) (p : Fin 176) (q : Fin 2048), (((cfgM m hO).win 4).rect t).idx (ix2 p q) = i := by
  have h0 : (i 0 : ℕ) < 704 := (i 0).isLt
  have ht : (i 0 : ℕ) / 176 < (cfgM m hO).N := by rw [show (cfgM m hO).N = 4 from N_0]; omega
  refine ⟨⟨_, ht⟩, ⟨(i 0 : ℕ) % 176, by omega⟩, i 1, (idx4 m hO _ _ _).trans (Shape.idx_ext₂ ?_ rfl)⟩
  show (i 0 : ℕ) / 176 * 176 + (i 0 : ℕ) % 176 = (i 0 : ℕ); omega

theorem mem_blk (i : S704x2048.Idx) : ∃ t : Fin (cfgM m hO).N, i ∈ (((cfgM m hO).win 4).rect t).set := by
  obtain ⟨t, p, q, rfl⟩ := cover m hO i
  exact ⟨t, (((cfgM m hO).win 4).rect t).idx_mem _⟩

theorem final7 : (dats m hO 0 c).arrAt 7 (cfgM m hO).N = G7 m h c := by
  refine (dats m hO 0 c).arrAt_eq_of_cover 7 (G7 m h c) (fun t _ => funext (fun j : S176x2048.Idx => ?_)) fun i => ?_
  · obtain ⟨p, q, rfl⟩ : ∃ p q, j = ix2 p q := ⟨j 0, j 1, eq_ix2 j⟩
    exact ((congrFun (after0_7 m hO c t) (ix2 p q)).trans (outs7 m hO c t p q h)).trans (congrArg (G7 m h c) (idx4 m hO t p q).symm)
  · obtain ⟨t, ht⟩ := mem_blk m hO i
    refine ⟨t, flush0_7 (adm m hO) t, ?_⟩
    exact (congrArg (fun s => i ∈ s) (View.set_slice_whole (b := main_v0_0) (((cfgM m hO).win 4).rect t))).mpr ht

theorem final8 : (dats m hO 0 c).arrAt 8 (cfgM m hO).N = G8 m h c := by
  refine (dats m hO 0 c).arrAt_eq_of_cover 8 (G8 m h c) (fun t _ => funext (fun j : S176x2048.Idx => ?_)) fun i => ?_
  · obtain ⟨p, q, rfl⟩ : ∃ p q, j = ix2 p q := ⟨j 0, j 1, eq_ix2 j⟩
    exact ((congrFun (after0_8 m hO c t) (ix2 p q)).trans (outs8 m hO c t p q h)).trans (congrArg (G8 m h c) (idx4 m hO t p q).symm)
  · obtain ⟨t, ht⟩ := mem_blk m hO i
    refine ⟨t, flush0_8 (adm m hO) t, ?_⟩
    exact (congrArg (fun s => i ∈ s) (View.set_slice_whole (b := main_v0_1) (((cfgM m hO).win 4).rect t))).mpr ht

theorem final9 : (dats m hO 0 c).arrAt 9 (cfgM m hO).N = G9 m h c := by
  refine (dats m hO 0 c).arrAt_eq_of_cover 9 (G9 m h c) (fun t _ => funext (fun j : S176x2048.Idx => ?_)) fun i => ?_
  · obtain ⟨p, q, rfl⟩ : ∃ p q, j = ix2 p q := ⟨j 0, j 1, eq_ix2 j⟩
    exact ((congrFun (after0_9 m hO c t) (ix2 p q)).trans (outs9 m hO c t p q h)).trans (congrArg (G9 m h c) (idx4 m hO t p q).symm)
  · obtain ⟨t, ht⟩ := mem_blk m hO i
    refine ⟨t, flush0_9 (adm m hO) t, ?_⟩
    exact (congrArg (fun s => i ∈ s) (View.set_slice_whole (b := main_v0_2) (((cfgM m hO).win 4).rect t))).mpr ht

theorem final10 : (dats m hO 0 c).arrAt 10 (cfgM m hO).N = G10 m h c := by
  refine (dats m hO 0 c).arrAt_eq_of_cover 10 (G10 m h c) (fun t _ => funext (fun j : S176x2048.Idx => ?_)) fun i => ?_
  · obtain ⟨p, q, rfl⟩ : ∃ p q, j = ix2 p q := ⟨j 0, j 1, eq_ix2 j⟩
    exact ((congrFun (after0_10 m hO c t) (ix2 p q)).trans (outs10 m hO c t p q h)).trans (congrArg (G10 m h c) (idx4 m hO t p q).symm)
  · obtain ⟨t, ht⟩ := mem_blk m hO i
    refine ⟨t, flush0_10 (adm m hO) t, ?_⟩
    exact (congrArg (fun s => i ∈ s) (View.set_slice_whole (b := main_v0_3) (((cfgM m hO).win 4).rect t))).mpr ht

end Values

end Cert.Proof.SumGateValue

end
-- ==== Proof.SumGateClaims.lean ====
/-
  The claims about the optimiser's call with the sum over the chips: the frames, and that at the ideal instance its four result
  arrays are the gradient summed over the chips and one AdamW step from it, of any slabs, for any chip of the mesh.
-/
module

public import proofs.«01_k».proof.Proof.SumGateValue
public import proofs.«01_k».proof.Proof.Gen.SumGateRefIdeal.Run
public import proofs.«01_k».proof.Proof.Gen.Pre_chip_in_mesh
public import Idealize.ShloMosaic.Lib.ReduceAll

@[expose] public section

set_option maxRecDepth 16384

noncomputable section

namespace Cert.Proof.SumGateClaims

open Idealize.ShloMosaic Idealize.SL.Sem Cert.Proof.SumGateValue
open scoped BigOperators

/-! ## The precondition -/

/-- The precondition says that the chip's number is one of the mesh's. -/
theorem chip_lt {F : FTy → Type} [FloatOps F] (own oth w a b) (ch : IVec Cert.Pre_chip_in_mesh.S1 32)
    (e : Cert.Pre_chip_in_mesh.fn (F := F) own oth ch w a b = fun _ => 1#1) : (ch (ix1 0)).toNat < 4 := by
  haveI : Subsingleton (Cert.Pre_chip_in_mesh.S_).Idx := ⟨fun a b => funext fun d => d.elim0⟩
  have h1 := Host.reduce_andi_all _ _ _ _ ix0 (congrFun e ix0) (ix1 0)
  have h2 : IntOp.andi (IntOp.cmpi .sge (ch (ix1 0)) 0#32) (IntOp.cmpi .slt (ch (ix1 0)) 4#32) = 1#1 := h1
  generalize ch (ix1 0) = k at h2 ⊢
  have h3 : (0#32).sle k = true ∧ k.slt 4#32 = true := by
    revert h2
    unfold IntOp.andi IntOp.cmpi
    cases h : (0#32).sle k <;> cases h' : k.slt 4#32 <;> simp
  simp only [BitVec.sle, BitVec.slt, decide_eq_true_eq, BitVec.toInt_eq_toNat_cond] at h3
  obtain ⟨a, b⟩ := h3
  have := k.isLt
  simp at a b
  split at a <;> omega

section Ref
open Cert.SumGateRefIdeal Cert.SumGateRefIdeal.Gen

/-- The reference's gradient. -/
def refGrad (o : ℕ) (hs : S2112x2048.Slices ![o, 0] S704x2048) (own : FVec Ideal S4x2112x2048 .bf16) (oth : FVec Ideal S3x2112x2048 .bf16) (ch : IVec S1 32) : FVec Ideal S704x2048 .f32 :=
  extractStridedSlice S704x2048 ![o, 0] (addf (Host.reduceAdd (select (broadcastInDim S4x2112x2048 ![0, 1, 2] bcast_S4x1x1_S4x2112x2048_0_1_2 (cmpi .eq (broadcastInDim S4x1x1 ![0] bcast_S4_S4x1x1_0 (iotaInDim S4 32 0)) (broadcastInDim S4x1x1 ![] bcast_S_S4x1x1 (shapeCast _ ch shapeCasts_S1_S_)))) (extf .f32 own bitsLt_bf16_f32) (broadcastInDim S4x2112x2048 ![] bcast_S_S4x2112x2048 (id (constant S_ .f32 0x00000000#32)))) (constant S_ .f32 0x00000000#32) reducesTo_S4x2112x2048_S2112x2048_d0 h_S_) (Host.reduceAdd (extf .f32 oth bitsLt_bf16_f32) (constant S_ .f32 0x00000000#32) reducesTo_S3x2112x2048_S2112x2048_d0 h_S_)) hs

theorem refGrad_apply (o : ℕ) (ho : o + 704 ≤ 2112) (hs : S2112x2048.Slices ![o, 0] S704x2048) (own oth ch) (h : (ch (ix1 0)).toNat < 4) (i : S704x2048.Idx) :
    refGrad o hs own oth ch i = grad o ho own oth ⟨(ch (ix1 0)).toNat, h⟩ i := by
  unfold refGrad
  pointwise
  have e : ∀ x : Fin 4, Scalar.select (IntOp.cmpi CmpIPredicate.eq (BitVec.ofNat 32 x.val) (ch (ix1 0))) (own (ix3 x (slab o ho (i 0)) (i 1))) (0 : EReal)
      = if x = ⟨(ch (ix1 0)).toNat, h⟩ then own (ix3 x (slab o ho (i 0)) (i 1)) else 0 := by
    intro x
    generalize ch (ix1 0) = k at h ⊢
    have hx : (BitVec.ofNat 32 x.val = k) ↔ x = ⟨k.toNat, h⟩ := by
      constructor
      · rintro rfl; exact Fin.ext (by have := x.isLt; simp; omega)
      · rintro rfl; simp
    by_cases hk : x = ⟨k.toNat, h⟩
    · simp [Scalar.select, IntOp.cmpi, hx.mpr hk, hk]
    · have := mt hx.mp hk
      simp [Scalar.select, IntOp.cmpi, beq_eq_false_iff_ne.mpr this, hk]
  have z : (id (constant (F := Ideal) S_ FTy.f32 0#32) ix0 : EReal) = 0 := Ideal.ofBits_zero_f32
  rw [z]
  refine (congrArg₂ (fun a b : EReal => a + b) ((Finset.sum_congr rfl fun x _ => e x).trans (Finset.sum_ite_eq' _ _ _))
    (Fin.sum_univ_three fun x : Fin 3 => oth (ix3 x (slab o ho (i 0)) (i 1)))).trans ?_
  simp only [Finset.mem_univ, if_true, grad, add_assoc]

variable (m : (ℓ : Loc nD τ sig) → Buf (Elt Ideal) ℓ) (ρ : Dev nD → PrngReg)

/-- The reference's gradient on a device. -/
abbrev RG (c : Dev nD) : S704x2048.Idx → EReal :=
  refGrad 0 slices_S2112x2048_S704x2048_0_0 (m ((c.tc : Thread nD τ).loc main_arg0)) (m ((c.tc : Thread nD τ).loc main_arg1)) (m ((c.tc : Thread nD τ).loc main_arg2))

/-- The reference's run leaves the gradient, the step and the two moments from it, and its arguments. -/
theorem ref_run : θ_run defs (onTc (τ := τ) (main (F := Ideal))) ⟨m, fun _ => 0, ρ⟩ fun r => ∀ c : Dev nD,
      r.2.mem ((c.tc : Thread nD τ).loc main_v11) = RG m c
      ∧ r.2.mem ((c.tc : Thread nD τ).loc main_v35) = (fun i => delta (m ((c.tc : Thread nD τ).loc main_arg3) i)
          (mom1 (RG m c i) (m ((c.tc : Thread nD τ).loc main_arg4) i)) (mom2 (RG m c i) (m ((c.tc : Thread nD τ).loc main_arg5) i)))
      ∧ r.2.mem ((c.tc : Thread nD τ).loc main_v16) = (fun i => mom1 (RG m c i) (m ((c.tc : Thread nD τ).loc main_arg4) i))
      ∧ r.2.mem ((c.tc : Thread nD τ).loc main_v22) = (fun i => mom2 (RG m c i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1, (h c).2.1.trans (by clear h; funext i; rfl),
    (h c).2.2.1.trans (by clear h; funext i; rfl), (h c).2.2.2.1.trans (by clear h; funext i; rfl), (h c).2.2.2.2⟩)
    (Cert.SumGateRefIdeal.Value.run (F := Ideal) m ρ)

end Ref

section Run
open Cert.SumGateIdeal Cert.SumGateIdeal.Gen
variable (m : (ℓ : Loc nD τ sig) → Buf (Elt Ideal) ℓ) (ρ : Dev nD → PrngReg) (h : (chip m).toNat < 4)

/-- The kernel's run leaves the gradient, the step, the two moments and its arguments. -/
theorem run : θ_run defs (onTc (τ := τ) (main (F := Ideal))) ⟨m, fun _ => 0, ρ⟩ fun r => ∀ c : Dev nD,
      r.2.mem ((c.tc : Thread nD τ).loc main_v0_0) = G7 m h c
      ∧ r.2.mem ((c.tc : Thread nD τ).loc main_v0_1) = G8 m h c
      ∧ r.2.mem ((c.tc : Thread nD τ).loc main_v0_2) = G9 m h c
      ∧ r.2.mem ((c.tc : Thread nD τ).loc main_v0_3) = G10 m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ hr c => ⟨((hr.1 c).1 7).trans (final7 m (ok m h) c h), ((hr.1 c).1 8).trans (final8 m (ok m h) c h),
      ((hr.1 c).1 9).trans (final9 m (ok m h) c h), ((hr.1 c).1 10).trans (final10 m (ok m h) c h), hr.2 c⟩)
    (θ_run_and (run_main m ρ (ok m h)) (unchanged m ρ (ok m h)))

end Run

theorem frame_k : Cert.quiescent_SumGate := fun m ρ h => Cert.SumGate.Gen.frame m ρ (ok (F := Bits) m (chip_lt _ _ _ _ _ _ (h 0)))
theorem frame_ki : Cert.quiescent_SumGateIdeal := fun m ρ h => Cert.SumGateIdeal.Gen.frame m ρ (ok m (chip_lt _ _ _ _ _ _ (h 0)))
theorem frame_r : Cert.quiescent_SumGateRefIdeal := fun m ρ _ =>
  (θ_run Cert.SumGateRefIdeal.defs _ _).mono (fun r h => ⟨fun c => (h c).2.2.2.2, sem_eq_zero_of_no_sems (by decide) r.2⟩)
    (Cert.SumGateRefIdeal.Value.run (F := Ideal) m ρ)

/-- The two gradients agree where the arguments do. -/
theorem grad_eq {m : (ℓ : Loc Cert.SumGateIdeal.nD Cert.SumGateIdeal.τ Cert.SumGateIdeal.sig) → Buf (Elt Ideal) ℓ}
    {m' : (ℓ : Loc Cert.SumGateRefIdeal.nD Cert.SumGateRefIdeal.τ Cert.SumGateRefIdeal.sig) → Buf (Elt Ideal) ℓ}
    (h : (chip m).toNat < 4) (c : Dev 1)
    (e0 : m' ((c.tc : Thread Cert.SumGateRefIdeal.nD Cert.SumGateRefIdeal.τ).loc Cert.SumGateRefIdeal.main_arg0) = m ((c.tc : Thread Cert.SumGateIdeal.nD Cert.SumGateIdeal.τ).loc Cert.SumGateIdeal.main_arg0))
    (e1 : m' ((c.tc : Thread Cert.SumGateRefIdeal.nD Cert.SumGateRefIdeal.τ).loc Cert.SumGateRefIdeal.main_arg1) = m ((c.tc : Thread Cert.SumGateIdeal.nD Cert.SumGateIdeal.τ).loc Cert.SumGateIdeal.main_arg1))
    (e2 : m' ((c.tc : Thread Cert.SumGateRefIdeal.nD Cert.SumGateRefIdeal.τ).loc Cert.SumGateRefIdeal.main_arg2) = m ((c.tc : Thread Cert.SumGateIdeal.nD Cert.SumGateIdeal.τ).loc Cert.SumGateIdeal.main_arg2)) :
    RG m' c = G7 m h c := by
  obtain rfl : c = 0 := Subsingleton.elim _ _
  unfold RG
  rw [e0, e1, e2]
  exact funext (refGrad_apply 0 (by decide) _ _ _ _ h)

theorem value : Cert.algebraic_SumGateIdeal_SumGateRefIdeal := by
  intro m ρ m' ρ' hpre hagree
  have h : (chip m).toNat < 4 := chip_lt _ _ _ _ _ _ (hpre 0)
  refine ⟨_, _, _, _, run m ρ h, ?_⟩
  refine (θ_run Cert.SumGateRefIdeal.defs _ _).mono (fun _ hr c => ?_) (ref_run m' ρ')
  have g := grad_eq h c (hagree c).1 (hagree c).2.1 (hagree c).2.2.1
  refine ⟨(hr c).1.trans g, (hr c).2.1.trans ?_, (hr c).2.2.1.trans ?_, (hr c).2.2.2.1.trans ?_, (hr c).2.2.2.2⟩
  · rw [g, (hagree c).2.2.2.1, (hagree c).2.2.2.2.1, (hagree c).2.2.2.2.2]; rfl
  · rw [g, (hagree c).2.2.2.2.1]; rfl
  · rw [g, (hagree c).2.2.2.2.2]; rfl

end Cert.Proof.SumGateClaims

end
-- ==== Proof.SumUpValue.lean ====
/-
  The optimiser's call with the sum over the chips for the up product's weight: as `SumGateValue`, whose lemmas about the
  step and the shards are used; the weight lies in the slabs from row 704 on.
-/
module

public import proofs.«01_k».proof.Proof.SumGateValue
public import proofs.«01_k».proof.Proof.Gen.SumUpIdeal.Frame
public import proofs.«01_k».proof.Proof.Gen.SumUp.Frame

@[expose] public section

set_option maxRecDepth 16384

noncomputable section

namespace Cert.Proof.SumUpValue

open Idealize.ShloMosaic Idealize.ShloMosaic.TcCoe Idealize.SL.Sem Cert.SumUpIdeal Cert.SumUpIdeal.Gen Cert.Proof.RowWindows
open Idealize.ShloMosaic.Pipeline (Dat)
open Cert.Proof.SumGateValue (slab slab_ext grad mom1 mom2 delta)
open scoped BigOperators

/-! ## The side condition of the prefetched number -/

section Side
variable {F : FTy → Type} [FloatOps F] (m : (ℓ : Loc nD τ sig) → Buf (Elt F) ℓ)

/-- The chip's number. -/
abbrev chip : BitVec 32 := m (((0 : Dev nD).tc : Thread nD τ).loc main_arg2) (ix1 0)

theorem ix_own (i : grid0.Coords) : cc0_transform_0 Facts₀.inb_S1_S1_0 Facts₀.numel1_S1 (tbl m) i = ![(chip m).toNat, (cc0_transform_1 i) 1, 0] := by
  unfold cc0_transform_0 cc0_transform_1
  dsimp only
  rw [show (tbl m).at 0 (Rect.unit (s := S1) ![0] S1.size Facts₀.inb_S1_S1_0) Facts₀.numel1_S1 = chip m from SumGateValue.at_tbl (F := F) m]
  rfl

theorem ok (h : (chip m).toNat < 4) : Ok m := by
  intro i
  rw [ix_own]
  generalize (chip m).toNat = k at h
  have h1 := hinb0_1 i 1
  have hb : ∀ a, ((![k, (cc0_transform_1 i) 1, 0] : Fin 3 → ℕ) a + 1) * S1x176x2048.size a ≤ S4x2112x2048.size a := by
    intro a
    match a with
    | ⟨0, _⟩ => show (k + 1) * 1 ≤ 4; omega
    | ⟨1, _⟩ => exact h1
    | ⟨2, _⟩ => show (0 + 1) * 2048 ≤ 2048; omega
  exact ⟨hb, .inr (Affine.block_words_dvd (of_decide_eq_true rfl) (by decide))⟩

end Side

/-! ## One point's results -/

section Step
variable (c : Dev nD) (i : grid0.Coords) (a2 : Memref sig .tc .vmem S1x176x2048 .bf16) (h2 : a2.IsWhole) (a3 : Memref sig .tc .vmem S1x176x2048 .bf16) (h3 : a3.IsWhole)
  (a4 : Memref sig .tc .vmem S1x176x2048 .bf16) (h4 : a4.IsWhole) (a5 : Memref sig .tc .vmem S1x176x2048 .bf16) (h5 : a5.IsWhole)
  (a6 : Memref sig .tc .vmem S176x2048 .f32) (h6 : a6.IsWhole) (a7 : Memref sig .tc .vmem S176x2048 .f32) (h7 : a7.IsWhole)
  (a8 : Memref sig .tc .vmem S176x2048 .f32) (h8 : a8.IsWhole) (a9 : Memref sig .tc .vmem S176x2048 .f32) (h9 : a9.IsWhole)
  (a10 : Memref sig .tc .vmem S176x2048 .f32) (h10 : a10.IsWhole) (a11 : Memref sig .tc .vmem S176x2048 .f32) (h11 : a11.IsWhole)
  (a12 : Memref sig .tc .vmem S176x2048 .f32) (h12 : a12.IsWhole)
  (x0 x1 x2 x3 : Vec Ideal S1x176x2048 .bf16) (x4 x5 x6 : Vec Ideal S176x2048 .f32) (xt : TbBuf0 (F := Ideal) c tbM0_0)

theorem out_7 : out0_A_7 c i a2 h2 a3 h3 a4 h4 a5 h5 a6 h6 a7 h7 a8 h8 a9 h9 a10 h10 a11 h11 a12 h12 x0 x1 x2 x3 x4 x5 x6 xt = k0_pay2 x0 x1 x2 x3 := by
  unfold out0_A_7
  rw [View.read_writes_eq_canon _ _ _ (cover0_A_7 c i a2 h2 a3 h3 a4 h4 a5 h5 a6 h6 a7 h7 a8 h8 a9 h9 a10 h10 a11 h11 a12 h12 x0 x1 x2 x3 x4 x5 x6 xt)]
  unfold kernelRun0_A
  dsimp only
  sl_unfold_words
  rw [View.canon_unit_zero (S := S176x2048) SumGateValue.hz2]
  simp only [View.readAt_eq_ld, h2.read_unread, h3.read_unread, h4.read_unread, h5.read_unread, View.ld_unit_zero (S := S1x176x2048) SumGateValue.hz3]

theorem out_8 : out0_A_8 c i a2 h2 a3 h3 a4 h4 a5 h5 a6 h6 a7 h7 a8 h8 a9 h9 a10 h10 a11 h11 a12 h12 x0 x1 x2 x3 x4 x5 x6 xt
    = k0_pay1 x4 (k0_pay4 x0 x1 x2 x3 x6) (k0_pay5 x0 x1 x2 x3 x5) (Scalar.ofBits .f32 0x3C231ACC#32) := by
  unfold out0_A_8
  rw [View.read_writes_eq_canon _ _ _ (cover0_A_8 c i a2 h2 a3 h3 a4 h4 a5 h5 a6 h6 a7 h7 a8 h8 a9 h9 a10 h10 a11 h11 a12 h12 x0 x1 x2 x3 x4 x5 x6 xt)]
  unfold kernelRun0_A
  dsimp only
  sl_unfold_words
  rw [View.canon_unit_zero (S := S176x2048) SumGateValue.hz2]
  simp only [View.readAt_eq_ld, h2.read_unread, h3.read_unread, h4.read_unread, h5.read_unread, h6.read_unread, h7.read_unread, h8.read_unread,
    View.ld_unit_zero (S := S1x176x2048) SumGateValue.hz3, View.ld_unit_zero (S := S176x2048) SumGateValue.hz2]

theorem out_9 : out0_A_9 c i a2 h2 a3 h3 a4 h4 a5 h5 a6 h6 a7 h7 a8 h8 a9 h9 a10 h10 a11 h11 a12 h12 x0 x1 x2 x3 x4 x5 x6 xt = k0_pay3 x0 x1 x2 x3 x5 := by
  unfold out0_A_9
  rw [View.read_writes_eq_canon _ _ _ (cover0_A_9 c i a2 h2 a3 h3 a4 h4 a5 h5 a6 h6 a7 h7 a8 h8 a9 h9 a10 h10 a11 h11 a12 h12 x0 x1 x2 x3 x4 x5 x6 xt)]
  unfold kernelRun0_A
  dsimp only
  sl_unfold_words
  rw [View.canon_unit_zero (S := S176x2048) SumGateValue.hz2]
  simp only [View.readAt_eq_ld, h2.read_unread, h3.read_unread, h4.read_unread, h5.read_unread, h7.read_unread,
    View.ld_unit_zero (S := S1x176x2048) SumGateValue.hz3, View.ld_unit_zero (S := S176x2048) SumGateValue.hz2]

theorem out_10 : out0_A_10 c i a2 h2 a3 h3 a4 h4 a5 h5 a6 h6 a7 h7 a8 h8 a9 h9 a10 h10 a11 h11 a12 h12 x0 x1 x2 x3 x4 x5 x6 xt = k0_pay4 x0 x1 x2 x3 x6 := by
  unfold out0_A_10
  rw [View.read_writes_eq_canon _ _ _ (cover0_A_10 c i a2 h2 a3 h3 a4 h4 a5 h5 a6 h6 a7 h7 a8 h8 a9 h9 a10 h10 a11 h11 a12 h12 x0 x1 x2 x3 x4 x5 x6 xt)]
  unfold kernelRun0_A
  dsimp only
  sl_unfold_words
  rw [View.canon_unit_zero (S := S176x2048) SumGateValue.hz2]
  simp only [View.readAt_eq_ld, h2.read_unread, h3.read_unread, h4.read_unread, h5.read_unread, h8.read_unread,
    View.ld_unit_zero (S := S1x176x2048) SumGateValue.hz3, View.ld_unit_zero (S := S176x2048) SumGateValue.hz2]

end Step

/-! ## Where the blocks lie -/

/-- Point `t` takes row block `t` of the shards, and of the slabs the block that lies there from the weight's first row on. -/
theorem index_of : ∀ t : Fin grid0.N, cc0_transform_1 (grid0.coords t) 0 = 0 ∧ cc0_transform_1 (grid0.coords t) 1 = 4 + t.val ∧ cc0_transform_1 (grid0.coords t) 2 = 0
    ∧ cc0_transform_2 (grid0.coords t) 0 = 1 ∧ cc0_transform_2 (grid0.coords t) 1 = 4 + t.val ∧ cc0_transform_2 (grid0.coords t) 2 = 0
    ∧ cc0_transform_3 (grid0.coords t) 0 = 2 ∧ cc0_transform_3 (grid0.coords t) 1 = 4 + t.val ∧ cc0_transform_3 (grid0.coords t) 2 = 0 := by
  decide +kernel

section Values
variable (m : (ℓ : Loc nD τ sig) → Buf (Elt Ideal) ℓ) (hO : Ok m) (c : Dev nD) (t : Fin (cfgM m hO).N) (p : Fin 176) (q : Fin 2048)

theorem lt_pts : t.val < 4 := lt_of_lt_of_eq t.isLt (show (cfgM m hO).N = 4 from N_0)

/-- Row `p` of point `t`'s block. -/
def row : Fin 704 := ⟨t.val * 176 + p.val, by have := p.isLt; have := lt_pts m hO t; omega⟩

variable (h : (chip m).toNat < 4)

include h in
theorem idx4 : (((cfgM m hO).win 4).rect t).idx (ix2 p q) = ix2 (row m hO t p) q := SumGateValue.idx4 m (SumGateValue.ok m h) t p q
include h in
theorem iblk4 : iblk m hO c 4 t (ix2 p q) = m ((c.tc : Thread nD τ).loc main_arg3) (ix2 (row m hO t p) q) := SumGateValue.iblk4 m (SumGateValue.ok m h) c t p q
include h in
theorem iblk5 : iblk m hO c 5 t (ix2 p q) = m ((c.tc : Thread nD τ).loc main_arg4) (ix2 (row m hO t p) q) := SumGateValue.iblk5 m (SumGateValue.ok m h) c t p q
include h in
theorem iblk6 : iblk m hO c 6 t (ix2 p q) = m ((c.tc : Thread nD τ).loc main_arg5) (ix2 (row m hO t p) q) := SumGateValue.iblk6 m (SumGateValue.ok m h) c t p q

theorem iblk1 : iblk m hO c 1 t (ix3 0 p q) = m ((c.tc : Thread nD τ).loc main_arg1) (ix3 0 (slab 704 (by decide) (row m hO t p)) q) := by
  obtain ⟨e0, e1, e2, -⟩ := index_of t
  exact (show _ = m ((c.tc : Thread nD τ).loc main_arg1) ((((cfgM m hO).win 1).rect t).idx (ix3 0 p q)) from by rw [← V_main_arg1 m c]; rfl).trans
    (congrArg _ (slab_ext p q (0 : Fin 3) 704 (by decide) _ 4 t.val _ _ _ rfl rfl e0 e1 e2 rfl rfl rfl))
theorem iblk2 : iblk m hO c 2 t (ix3 0 p q) = m ((c.tc : Thread nD τ).loc main_arg1) (ix3 1 (slab 704 (by decide) (row m hO t p)) q) := by
  obtain ⟨-, -, -, e0, e1, e2, -⟩ := index_of t
  exact (show _ = m ((c.tc : Thread nD τ).loc main_arg1) ((((cfgM m hO).win 2).rect t).idx (ix3 0 p q)) from by rw [← V_main_arg1 m c]; rfl).trans
    (congrArg _ (slab_ext p q (1 : Fin 3) 704 (by decide) _ 4 t.val _ _ _ rfl rfl e0 e1 e2 rfl rfl rfl))
theorem iblk3 : iblk m hO c 3 t (ix3 0 p q) = m ((c.tc : Thread nD τ).loc main_arg1) (ix3 2 (slab 704 (by decide) (row m hO t p)) q) := by
  obtain ⟨-, -, -, -, -, -, e0, e1, e2⟩ := index_of t
  exact (show _ = m ((c.tc : Thread nD τ).loc main_arg1) ((((cfgM m hO).win 3).rect t).idx (ix3 0 p q)) from by rw [← V_main_arg1 m c]; rfl).trans
    (congrArg _ (slab_ext p q (2 : Fin 3) 704 (by decide) _ 4 t.val _ _ _ rfl rfl e0 e1 e2 rfl rfl rfl))
theorem iblk0 : iblk m hO c 0 t (ix3 0 p q) = m ((c.tc : Thread nD τ).loc main_arg0) (ix3 ⟨(chip m).toNat, h⟩ (slab 704 (by decide) (row m hO t p)) q) := by
  obtain ⟨-, e1, -⟩ := index_of t
  have e := ix_own m (grid0.coords t)
  exact (show _ = m ((c.tc : Thread nD τ).loc main_arg0) ((((cfgM m hO).win 0).rect t).idx (ix3 0 p q)) from by rw [← V_main_arg0 m c]; rfl).trans
    (congrArg _ (slab_ext p q (⟨(chip m).toNat, h⟩ : Fin 4) 704 (by decide) _ 4 t.val _ _ _ rfl rfl (congrFun e 0) ((congrFun e 1).trans e1) (congrFun e 2) rfl rfl rfl))

/-! ## The four results -/

abbrev G7 (c : Dev nD) : Buf (Elt Ideal) ((c.tc : Thread nD τ).loc main_v0_0) :=
  grad 704 (by decide) (m ((c.tc : Thread nD τ).loc main_arg0)) (m ((c.tc : Thread nD τ).loc main_arg1)) ⟨(chip m).toNat, h⟩
abbrev G9 (c : Dev nD) : Buf (Elt Ideal) ((c.tc : Thread nD τ).loc main_v0_2) := fun i => mom1 (G7 m h c i) (m ((c.tc : Thread nD τ).loc main_arg4) i)
abbrev G10 (c : Dev nD) : Buf (Elt Ideal) ((c.tc : Thread nD τ).loc main_v0_3) := fun i => mom2 (G7 m h c i) (m ((c.tc : Thread nD τ).loc main_arg5) i)
abbrev G8 (c : Dev nD) : Buf (Elt Ideal) ((c.tc : Thread nD τ).loc main_v0_1) := fun i => delta (m ((c.tc : Thread nD τ).loc main_arg3) i) (G9 m h c i) (G10 m h c i)

theorem g7 : k0_pay2 (iblk m hO c 0 t) (iblk m hO c 1 t) (iblk m hO c 2 t) (iblk m hO c 3 t) (ix2 p q) = G7 m h c (ix2 (row m hO t p) q) :=
  (SumGateValue.pay2_apply _ _ _ _ p q).trans (congrArg₂ (fun a b : EReal => a + b) (congrArg₂ (fun a b : EReal => a + b)
    (congrArg₂ (fun a b : EReal => a + b) (iblk0 m hO c t p q h) (iblk1 m hO c t p q)) (iblk2 m hO c t p q)) (iblk3 m hO c t p q))

theorem g9 : k0_pay3 (iblk m hO c 0 t) (iblk m hO c 1 t) (iblk m hO c 2 t) (iblk m hO c 3 t) (iblk m hO c 5 t) (ix2 p q) = G9 m h c (ix2 (row m hO t p) q) :=
  (SumGateValue.pay3_apply _ _ _ _ _ p q).trans (congrArg₂ mom1 (g7 m hO c t p q h) (iblk5 m hO c t p q h))

theorem g10 : k0_pay4 (iblk m hO c 0 t) (iblk m hO c 1 t) (iblk m hO c 2 t) (iblk m hO c 3 t) (iblk m hO c 6 t) (ix2 p q) = G10 m h c (ix2 (row m hO t p) q) :=
  (SumGateValue.pay4_apply _ _ _ _ _ p q).trans (congrArg₂ mom2 (g7 m hO c t p q h) (iblk6 m hO c t p q h))

theorem outs7 : (outsAt0 m hO c t).1 (ix2 p q) = G7 m h c (ix2 (row m hO t p) q) := by
  refine (congrFun ?_ _).trans (g7 m hO c t p q h)
  unfold outsAt0
  dsimp only
  exact out_7 ..
theorem outs9 : (outsAt0 m hO c t).2.2.1 (ix2 p q) = G9 m h c (ix2 (row m hO t p) q) := by
  refine (congrFun ?_ _).trans (g9 m hO c t p q h)
  unfold outsAt0
  dsimp only
  exact out_9 ..
theorem outs10 : (outsAt0 m hO c t).2.2.2 (ix2 p q) = G10 m h c (ix2 (row m hO t p) q) := by
  refine (congrFun ?_ _).trans (g10 m hO c t p q h)
  unfold outsAt0
  dsimp only
  exact out_10 ..
theorem outs8 : (outsAt0 m hO c t).2.1 (ix2 p q) = G8 m h c (ix2 (row m hO t p) q) := by
  refine (congrFun ?_ _).trans ((SumGateValue.pay1_apply (iblk m hO c 0 t) (iblk m hO c 1 t) (iblk m hO c 2 t) (iblk m hO c 3 t) (iblk m hO c 4 t) (iblk m hO c 5 t) (iblk m hO c 6 t) p q).trans ?_)
  · unfold outsAt0
    dsimp only
    exact out_8 ..
  · exact (congrArg₂ (delta _) (g9 m hO c t p q h) (g10 m hO c t p q h)).trans (congrArg (fun w => delta w _ _) (iblk4 m hO c t p q h))

include h in
theorem cover (i : S704x2048.Idx) : ∃ (t : Fin (cfgM m hO).N) (p : Fin 176) (q : Fin 2048), (((cfgM m hO).win 4).rect t).idx (ix2 p q) = i := by
  have h0 : (i 0 : ℕ) < 704 := (i 0).isLt
  have ht : (i 0 : ℕ) / 176 < (cfgM m hO).N := by rw [show (cfgM m hO).N = 4 from N_0]; omega
  refine ⟨⟨_, ht⟩, ⟨(i 0 : ℕ) % 176, by omega⟩, i 1, (idx4 m hO _ _ _ h).trans (Shape.idx_ext₂ ?_ rfl)⟩
  show (i 0 : ℕ) / 176 * 176 + (i 0 : ℕ) % 176 = (i 0 : ℕ); omega

include h in
theorem mem_blk (i : S704x2048.Idx) : ∃ t : Fin (cfgM m hO).N, i ∈ (((cfgM m hO).win 4).rect t).set := by
  obtain ⟨t, p, q, rfl⟩ := cover m hO h i
  exact ⟨t, (((cfgM m hO).win 4).rect t).idx_mem _⟩

theorem final7 : (dats m hO 0 c).arrAt 7 (cfgM m hO).N = G7 m h c := by
  refine (dats m hO 0 c).arrAt_eq_of_cover 7 (G7 m h c) (fun t _ => funext (fun j : S176x2048.Idx => ?_)) fun i => ?_
  · obtain ⟨p, q, rfl⟩ : ∃ p q, j = ix2 p q := ⟨j 0, j 1, eq_ix2 j⟩
    exact ((congrFun (after0_7 m hO c t) (ix2 p q)).trans (outs7 m hO c t p q h)).trans (congrArg (G7 m h c) (idx4 m hO t p q h).symm)
  · obtain ⟨t, ht⟩ := mem_blk m hO h i
    refine ⟨t, flush0_7 (adm m hO) t, ?_⟩
    exact (congrArg (fun s => i ∈ s) (View.set_slice_whole (b := main_v0_0) (((cfgM m hO).win 4).rect t))).mpr ht

theorem final8 : (dats m hO 0 c).arrAt 8 (cfgM m hO).N = G8 m h c := by
  refine (dats m hO 0 c).arrAt_eq_of_cover 8 (G8 m h c) (fun t _ => funext (fun j : S176x2048.Idx => ?_)) fun i => ?_
  · obtain ⟨p, q, rfl⟩ : ∃ p q, j = ix2 p q := ⟨j 0, j 1, eq_ix2 j⟩
    exact ((congrFun (after0_8 m hO c t) (ix2 p q)).trans (outs8 m hO c t p q h)).trans (congrArg (G8 m h c) (idx4 m hO t p q h).symm)
  · obtain ⟨t, ht⟩ := mem_blk m hO h i
    refine ⟨t, flush0_8 (adm m hO) t, ?_⟩
    exact (congrArg (fun s => i ∈ s) (View.set_slice_whole (b := main_v0_1) (((cfgM m hO).win 4).rect t))).mpr ht

theorem final9 : (dats m hO 0 c).arrAt 9 (cfgM m hO).N = G9 m h c := by
  refine (dats m hO 0 c).arrAt_eq_of_cover 9 (G9 m h c) (fun t _ => funext (fun j : S176x2048.Idx => ?_)) fun i => ?_
  · obtain ⟨p, q, rfl⟩ : ∃ p q, j = ix2 p q := ⟨j 0, j 1, eq_ix2 j⟩
    exact ((congrFun (after0_9 m hO c t) (ix2 p q)).trans (outs9 m hO c t p q h)).trans (congrArg (G9 m h c) (idx4 m hO t p q h).symm)
  · obtain ⟨t, ht⟩ := mem_blk m hO h i
    refine ⟨t, flush0_9 (adm m hO) t, ?_⟩
    exact (congrArg (fun s => i ∈ s) (View.set_slice_whole (b := main_v0_2) (((cfgM m hO).win 4).rect t))).mpr ht

theorem final10 : (dats m hO 0 c).arrAt 10 (cfgM m hO).N = G10 m h c := by
  refine (dats m hO 0 c).arrAt_eq_of_cover 10 (G10 m h c) (fun t _ => funext (fun j : S176x2048.Idx => ?_)) fun i => ?_
  · obtain ⟨p, q, rfl⟩ : ∃ p q, j = ix2 p q := ⟨j 0, j 1, eq_ix2 j⟩
    exact ((congrFun (after0_10 m hO c t) (ix2 p q)).trans (outs10 m hO c t p q h)).trans (congrArg (G10 m h c) (idx4 m hO t p q h).symm)
  · obtain ⟨t, ht⟩ := mem_blk m hO h i
    refine ⟨t, flush0_10 (adm m hO) t, ?_⟩
    exact (congrArg (fun s => i ∈ s) (View.set_slice_whole (b := main_v0_3) (((cfgM m hO).win 4).rect t))).mpr ht

end Values

end Cert.Proof.SumUpValue

end
-- ==== Proof.SumUpClaims.lean ====
/-
  The claims about the optimiser's call with the sum over the chips for the up product's weight: as `SumGateClaims`.
-/
module

public import proofs.«01_k».proof.Proof.SumUpValue
public import proofs.«01_k».proof.Proof.Gen.SumUpRefIdeal.Run
public import proofs.«01_k».proof.Proof.SumGateClaims

@[expose] public section

set_option maxRecDepth 16384

noncomputable section

namespace Cert.Proof.SumUpClaims

open Idealize.ShloMosaic Idealize.SL.Sem Cert.Proof.SumUpValue
open Cert.Proof.SumGateValue (mom1 mom2 delta)
open Cert.Proof.SumGateClaims (chip_lt refGrad refGrad_apply)

section Ref
open Cert.SumUpRefIdeal Cert.SumUpRefIdeal.Gen

variable (m : (ℓ : Loc nD τ sig) → Buf (Elt Ideal) ℓ) (ρ : Dev nD → PrngReg)

/-- The reference's gradient on a device. -/
abbrev RG (c : Dev nD) : S704x2048.Idx → EReal :=
  refGrad 704 slices_S2112x2048_S704x2048_704_0 (m ((c.tc : Thread nD τ).loc main_arg0)) (m ((c.tc : Thread nD τ).loc main_arg1)) (m ((c.tc : Thread nD τ).loc main_arg2))

/-- The reference's run leaves the gradient, the step and the two moments from it, and its arguments. -/
theorem ref_run : θ_run defs (onTc (τ := τ) (main (F := Ideal))) ⟨m, fun _ => 0, ρ⟩ fun r => ∀ c : Dev nD,
      r.2.mem ((c.tc : Thread nD τ).loc main_v11) = RG m c
      ∧ r.2.mem ((c.tc : Thread nD τ).loc main_v35) = (fun i => delta (m ((c.tc : Thread nD τ).loc main_arg3) i)
          (mom1 (RG m c i) (m ((c.tc : Thread nD τ).loc main_arg4) i)) (mom2 (RG m c i) (m ((c.tc : Thread nD τ).loc main_arg5) i)))
      ∧ r.2.mem ((c.tc : Thread nD τ).loc main_v16) = (fun i => mom1 (RG m c i) (m ((c.tc : Thread nD τ).loc main_arg4) i))
      ∧ r.2.mem ((c.tc : Thread nD τ).loc main_v22) = (fun i => mom2 (RG m c i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1, (h c).2.1.trans (by clear h; funext i; rfl),
    (h c).2.2.1.trans (by clear h; funext i; rfl), (h c).2.2.2.1.trans (by clear h; funext i; rfl), (h c).2.2.2.2⟩)
    (Cert.SumUpRefIdeal.Value.run (F := Ideal) m ρ)

end Ref

section Run
open Cert.SumUpIdeal Cert.SumUpIdeal.Gen
variable (m : (ℓ : Loc nD τ sig) → Buf (Elt Ideal) ℓ) (ρ : Dev nD → PrngReg) (h : (chip m).toNat < 4)

/-- The kernel's run leaves the gradient, the step, the two moments and its arguments. -/
theorem run : θ_run defs (onTc (τ := τ) (main (F := Ideal))) ⟨m, fun _ => 0, ρ⟩ fun r => ∀ c : Dev nD,
      r.2.mem ((c.tc : Thread nD τ).loc main_v0_0) = G7 m h c
      ∧ r.2.mem ((c.tc : Thread nD τ).loc main_v0_1) = G8 m h c
      ∧ r.2.mem ((c.tc : Thread nD τ).loc main_v0_2) = G9 m h c
      ∧ r.2.mem ((c.tc : Thread nD τ).loc main_v0_3) = G10 m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ hr c => ⟨((hr.1 c).1 7).trans (final7 m (ok m h) c h), ((hr.1 c).1 8).trans (final8 m (ok m h) c h),
      ((hr.1 c).1 9).trans (final9 m (ok m h) c h), ((hr.1 c).1 10).trans (final10 m (ok m h) c h), hr.2 c⟩)
    (θ_run_and (run_main m ρ (ok m h)) (unchanged m ρ (ok m h)))

end Run

theorem frame_k : Cert.quiescent_SumUp := fun m ρ h => Cert.SumUp.Gen.frame m ρ (ok (F := Bits) m (chip_lt _ _ _ _ _ _ (h 0)))
theorem frame_ki : Cert.quiescent_SumUpIdeal := fun m ρ h => Cert.SumUpIdeal.Gen.frame m ρ (ok m (chip_lt _ _ _ _ _ _ (h 0)))
theorem frame_r : Cert.quiescent_SumUpRefIdeal := fun m ρ _ =>
  (θ_run Cert.SumUpRefIdeal.defs _ _).mono (fun r h => ⟨fun c => (h c).2.2.2.2, sem_eq_zero_of_no_sems (by decide) r.2⟩)
    (Cert.SumUpRefIdeal.Value.run (F := Ideal) m ρ)

/-- The two gradients agree where the arguments do. -/
theorem grad_eq {m : (ℓ : Loc Cert.SumUpIdeal.nD Cert.SumUpIdeal.τ Cert.SumUpIdeal.sig) → Buf (Elt Ideal) ℓ}
    {m' : (ℓ : Loc Cert.SumUpRefIdeal.nD Cert.SumUpRefIdeal.τ Cert.SumUpRefIdeal.sig) → Buf (Elt Ideal) ℓ}
    (h : (chip m).toNat < 4) (c : Dev 1)
    (e0 : m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0))
    (e1 : m' ((c.tc : Thread Cert.SumUpRefIdeal.nD Cert.SumUpRefIdeal.τ).loc Cert.SumUpRefIdeal.main_arg1) = m ((c.tc : Thread Cert.SumUpIdeal.nD Cert.SumUpIdeal.τ).loc Cert.SumUpIdeal.main_arg1))
    (e2 : m' ((c.tc : Thread Cert.SumUpRefIdeal.nD Cert.SumUpRefIdeal.τ).loc Cert.SumUpRefIdeal.main_arg2) = m ((c.tc : Thread Cert.SumUpIdeal.nD Cert.SumUpIdeal.τ).loc Cert.SumUpIdeal.main_arg2)) :
    RG m' c = G7 m h c := by
  obtain rfl : c = 0 := Subsingleton.elim _ _
  unfold RG
  rw [e0, e1, e2]
  exact funext (refGrad_apply 704 (by decide) _ _ _ _ h)

theorem value : Cert.algebraic_SumUpIdeal_SumUpRefIdeal := by
  intro m ρ m' ρ' hpre hagree
  have h : (chip m).toNat < 4 := chip_lt _ _ _ _ _ _ (hpre 0)
  refine ⟨_, _, _, _, run m ρ h, ?_⟩
  refine (θ_run Cert.SumUpRefIdeal.defs _ _).mono (fun _ hr c => ?_) (ref_run m' ρ')
  have g := grad_eq h c (hagree c).1 (hagree c).2.1 (hagree c).2.2.1
  refine ⟨(hr c).1.trans g, (hr c).2.1.trans ?_, (hr c).2.2.1.trans ?_, (hr c).2.2.2.1.trans ?_, (hr c).2.2.2.2⟩
  · rw [g, (hagree c).2.2.2.1, (hagree c).2.2.2.2.1, (hagree c).2.2.2.2.2]; rfl
  · rw [g, (hagree c).2.2.2.2.1]; rfl
  · rw [g, (hagree c).2.2.2.2.2]; rfl

end Cert.Proof.SumUpClaims

end
-- ==== Proof.SumDownValue.lean ====
/-
  The optimiser's call with the sum over the chips for the down product's weight: as `SumGateValue`, whose lemmas about the
  step and the shards are used; the weight lies in the slabs from row 1408 on.
-/
module

public import proofs.«01_k».proof.Proof.SumGateValue
public import proofs.«01_k».proof.Proof.Gen.SumDownIdeal.Frame
public import proofs.«01_k».proof.Proof.Gen.SumDown.Frame

@[expose] public section

set_option maxRecDepth 16384

noncomputable section

namespace Cert.Proof.SumDownValue

open Idealize.ShloMosaic Idealize.ShloMosaic.TcCoe Idealize.SL.Sem Cert.SumDownIdeal Cert.SumDownIdeal.Gen Cert.Proof.RowWindows
open Idealize.ShloMosaic.Pipeline (Dat)
open Cert.Proof.SumGateValue (slab slab_ext grad mom1 mom2 delta)
open scoped BigOperators

/-! ## The side condition of the prefetched number -/

section Side
variable {F : FTy → Type} [FloatOps F] (m : (ℓ : Loc nD τ sig) → Buf (Elt F) ℓ)

/-- The chip's number. -/
abbrev chip : BitVec 32 := m (((0 : Dev nD).tc : Thread nD τ).loc main_arg2) (ix1 0)

theorem ix_own (i : grid0.Coords) : cc0_transform_0 Facts₀.inb_S1_S1_0 Facts₀.numel1_S1 (tbl m) i = ![(chip m).toNat, (cc0_transform_1 i) 1, 0] := by
  unfold cc0_transform_0 cc0_transform_1
  dsimp only
  rw [show (tbl m).at 0 (Rect.unit (s := S1) ![0] S1.size Facts₀.inb_S1_S1_0) Facts₀.numel1_S1 = chip m from SumGateValue.at_tbl (F := F) m]
  rfl

theorem ok (h : (chip m).toNat < 4) : Ok m := by
  intro i
  rw [ix_own]
  generalize (chip m).toNat = k at h
  have h1 := hinb0_1 i 1
  have hb : ∀ a, ((![k, (cc0_transform_1 i) 1, 0] : Fin 3 → ℕ) a + 1) * S1x176x2048.size a ≤ S4x2112x2048.size a := by
    intro a
    match a with
    | ⟨0, _⟩ => show (k + 1) * 1 ≤ 4; omega
    | ⟨1, _⟩ => exact h1
    | ⟨2, _⟩ => show (0 + 1) * 2048 ≤ 2048; omega
  exact ⟨hb, .inr (Affine.block_words_dvd (of_decide_eq_true rfl) (by decide))⟩

end Side

/-! ## One point's results -/

section Step
variable (c : Dev nD) (i : grid0.Coords) (a2 : Memref sig .tc .vmem S1x176x2048 .bf16) (h2 : a2.IsWhole) (a3 : Memref sig .tc .vmem S1x176x2048 .bf16) (h3 : a3.IsWhole)
  (a4 : Memref sig .tc .vmem S1x176x2048 .bf16) (h4 : a4.IsWhole) (a5 : Memref sig .tc .vmem S1x176x2048 .bf16) (h5 : a5.IsWhole)
  (a6 : Memref sig .tc .vmem S176x2048 .f32) (h6 : a6.IsWhole) (a7 : Memref sig .tc .vmem S176x2048 .f32) (h7 : a7.IsWhole)
  (a8 : Memref sig .tc .vmem S176x2048 .f32) (h8 : a8.IsWhole) (a9 : Memref sig .tc .vmem S176x2048 .f32) (h9 : a9.IsWhole)
  (a10 : Memref sig .tc .vmem S176x2048 .f32) (h10 : a10.IsWhole) (a11 : Memref sig .tc .vmem S176x2048 .f32) (h11 : a11.IsWhole)
  (a12 : Memref sig .tc .vmem S176x2048 .f32) (h12 : a12.IsWhole)
  (x0 x1 x2 x3 : Vec Ideal S1x176x2048 .bf16) (x4 x5 x6 : Vec Ideal S176x2048 .f32) (xt : TbBuf0 (F := Ideal) c tbM0_0)

theorem out_7 : out0_A_7 c i a2 h2 a3 h3 a4 h4 a5 h5 a6 h6 a7 h7 a8 h8 a9 h9 a10 h10 a11 h11 a12 h12 x0 x1 x2 x3 x4 x5 x6 xt = k0_pay2 x0 x1 x2 x3 := by
  unfold out0_A_7
  rw [View.read_writes_eq_canon _ _ _ (cover0_A_7 c i a2 h2 a3 h3 a4 h4 a5 h5 a6 h6 a7 h7 a8 h8 a9 h9 a10 h10 a11 h11 a12 h12 x0 x1 x2 x3 x4 x5 x6 xt)]
  unfold kernelRun0_A
  dsimp only
  sl_unfold_words
  rw [View.canon_unit_zero (S := S176x2048) SumGateValue.hz2]
  simp only [View.readAt_eq_ld, h2.read_unread, h3.read_unread, h4.read_unread, h5.read_unread, View.ld_unit_zero (S := S1x176x2048) SumGateValue.hz3]

theorem out_8 : out0_A_8 c i a2 h2 a3 h3 a4 h4 a5 h5 a6 h6 a7 h7 a8 h8 a9 h9 a10 h10 a11 h11 a12 h12 x0 x1 x2 x3 x4 x5 x6 xt
    = k0_pay1 x4 (k0_pay4 x0 x1 x2 x3 x6) (k0_pay5 x0 x1 x2 x3 x5) (Scalar.ofBits .f32 0x3C231ACC#32) := by
  unfold out0_A_8
  rw [View.read_writes_eq_canon _ _ _ (cover0_A_8 c i a2 h2 a3 h3 a4 h4 a5 h5 a6 h6 a7 h7 a8 h8 a9 h9 a10 h10 a11 h11 a12 h12 x0 x1 x2 x3 x4 x5 x6 xt)]
  unfold kernelRun0_A
  dsimp only
  sl_unfold_words
  rw [View.canon_unit_zero (S := S176x2048) SumGateValue.hz2]
  simp only [View.readAt_eq_ld, h2.read_unread, h3.read_unread, h4.read_unread, h5.read_unread, h6.read_unread, h7.read_unread, h8.read_unread,
    View.ld_unit_zero (S := S1x176x2048) SumGateValue.hz3, View.ld_unit_zero (S := S176x2048) SumGateValue.hz2]

theorem out_9 : out0_A_9 c i a2 h2 a3 h3 a4 h4 a5 h5 a6 h6 a7 h7 a8 h8 a9 h9 a10 h10 a11 h11 a12 h12 x0 x1 x2 x3 x4 x5 x6 xt = k0_pay3 x0 x1 x2 x3 x5 := by
  unfold out0_A_9
  rw [View.read_writes_eq_canon _ _ _ (cover0_A_9 c i a2 h2 a3 h3 a4 h4 a5 h5 a6 h6 a7 h7 a8 h8 a9 h9 a10 h10 a11 h11 a12 h12 x0 x1 x2 x3 x4 x5 x6 xt)]
  unfold kernelRun0_A
  dsimp only
  sl_unfold_words
  rw [View.canon_unit_zero (S := S176x2048) SumGateValue.hz2]
  simp only [View.readAt_eq_ld, h2.read_unread, h3.read_unread, h4.read_unread, h5.read_unread, h7.read_unread,
    View.ld_unit_zero (S := S1x176x2048) SumGateValue.hz3, View.ld_unit_zero (S := S176x2048) SumGateValue.hz2]

theorem out_10 : out0_A_10 c i a2 h2 a3 h3 a4 h4 a5 h5 a6 h6 a7 h7 a8 h8 a9 h9 a10 h10 a11 h11 a12 h12 x0 x1 x2 x3 x4 x5 x6 xt = k0_pay4 x0 x1 x2 x3 x6 := by
  unfold out0_A_10
  rw [View.read_writes_eq_canon _ _ _ (cover0_A_10 c i a2 h2 a3 h3 a4 h4 a5 h5 a6 h6 a7 h7 a8 h8 a9 h9 a10 h10 a11 h11 a12 h12 x0 x1 x2 x3 x4 x5 x6 xt)]
  unfold kernelRun0_A
  dsimp only
  sl_unfold_words
  rw [View.canon_unit_zero (S := S176x2048) SumGateValue.hz2]
  simp only [View.readAt_eq_ld, h2.read_unread, h3.read_unread, h4.read_unread, h5.read_unread, h8.read_unread,
    View.ld_unit_zero (S := S1x176x2048) SumGateValue.hz3, View.ld_unit_zero (S := S176x2048) SumGateValue.hz2]

end Step

/-! ## Where the blocks lie -/

/-- Point `t` takes row block `t` of the shards, and of the slabs the block that lies there from the weight's first row on. -/
theorem index_of : ∀ t : Fin grid0.N, cc0_transform_1 (grid0.coords t) 0 = 0 ∧ cc0_transform_1 (grid0.coords t) 1 = 8 + t.val ∧ cc0_transform_1 (grid0.coords t) 2 = 0
    ∧ cc0_transform_2 (grid0.coords t) 0 = 1 ∧ cc0_transform_2 (grid0.coords t) 1 = 8 + t.val ∧ cc0_transform_2 (grid0.coords t) 2 = 0
    ∧ cc0_transform_3 (grid0.coords t) 0 = 2 ∧ cc0_transform_3 (grid0.coords t) 1 = 8 + t.val ∧ cc0_transform_3 (grid0.coords t) 2 = 0 := by
  decide +kernel

section Values
variable (m : (ℓ : Loc nD τ sig) → Buf (Elt Ideal) ℓ) (hO : Ok m) (c : Dev nD) (t : Fin (cfgM m hO).N) (p : Fin 176) (q : Fin 2048)

theorem lt_pts : t.val < 4 := lt_of_lt_of_eq t.isLt (show (cfgM m hO).N = 4 from N_0)

/-- Row `p` of point `t`'s block. -/
def row : Fin 704 := ⟨t.val * 176 + p.val, by have := p.isLt; have := lt_pts m hO t; omega⟩

variable (h : (chip m).toNat < 4)

include h in
theorem idx4 : (((cfgM m hO).win 4).rect t).idx (ix2 p q) = ix2 (row m hO t p) q := SumGateValue.idx4 m (SumGateValue.ok m h) t p q
include h in
theorem iblk4 : iblk m hO c 4 t (ix2 p q) = m ((c.tc : Thread nD τ).loc main_arg3) (ix2 (row m hO t p) q) := SumGateValue.iblk4 m (SumGateValue.ok m h) c t p q
include h in
theorem iblk5 : iblk m hO c 5 t (ix2 p q) = m ((c.tc : Thread nD τ).loc main_arg4) (ix2 (row m hO t p) q) := SumGateValue.iblk5 m (SumGateValue.ok m h) c t p q
include h in
theorem iblk6 : iblk m hO c 6 t (ix2 p q) = m ((c.tc : Thread nD τ).loc main_arg5) (ix2 (row m hO t p) q) := SumGateValue.iblk6 m (SumGateValue.ok m h) c t p q

theorem iblk1 : iblk m hO c 1 t (ix3 0 p q) = m ((c.tc : Thread nD τ).loc main_arg1) (ix3 0 (slab 1408 (by decide) (row m hO t p)) q) := by
  obtain ⟨e0, e1, e2, -⟩ := index_of t
  exact (show _ = m ((c.tc : Thread nD τ).loc main_arg1) ((((cfgM m hO).win 1).rect t).idx (ix3 0 p q)) from by rw [← V_main_arg1 m c]; rfl).trans
    (congrArg _ (slab_ext p q (0 : Fin 3) 1408 (by decide) _ 8 t.val _ _ _ rfl rfl e0 e1 e2 rfl rfl rfl))
theorem iblk2 : iblk m hO c 2 t (ix3 0 p q) = m ((c.tc : Thread nD τ).loc main_arg1) (ix3 1 (slab 1408 (by decide) (row m hO t p)) q) := by
  obtain ⟨-, -, -, e0, e1, e2, -⟩ := index_of t
  exact (show _ = m ((c.tc : Thread nD τ).loc main_arg1) ((((cfgM m hO).win 2).rect t).idx (ix3 0 p q)) from by rw [← V_main_arg1 m c]; rfl).trans
    (congrArg _ (slab_ext p q (1 : Fin 3) 1408 (by decide) _ 8 t.val _ _ _ rfl rfl e0 e1 e2 rfl rfl rfl))
theorem iblk3 : iblk m hO c 3 t (ix3 0 p q) = m ((c.tc : Thread nD τ).loc main_arg1) (ix3 2 (slab 1408 (by decide) (row m hO t p)) q) := by
  obtain ⟨-, -, -, -, -, -, e0, e1, e2⟩ := index_of t
  exact (show _ = m ((c.tc : Thread nD τ).loc main_arg1) ((((cfgM m hO).win 3).rect t).idx (ix3 0 p q)) from by rw [← V_main_arg1 m c]; rfl).trans
    (congrArg _ (slab_ext p q (2 : Fin 3) 1408 (by decide) _ 8 t.val _ _ _ rfl rfl e0 e1 e2 rfl rfl rfl))
theorem iblk0 : iblk m hO c 0 t (ix3 0 p q) = m ((c.tc : Thread nD τ).loc main_arg0) (ix3 ⟨(chip m).toNat, h⟩ (slab 1408 (by decide) (row m hO t p)) q) := by
  obtain ⟨-, e1, -⟩ := index_of t
  have e := ix_own m (grid0.coords t)
  exact (show _ = m ((c.tc : Thread nD τ).loc main_arg0) ((((cfgM m hO).win 0).rect t).idx (ix3 0 p q)) from by rw [← V_main_arg0 m c]; rfl).trans
    (congrArg _ (slab_ext p q (⟨(chip m).toNat, h⟩ : Fin 4) 1408 (by decide) _ 8 t.val _ _ _ rfl rfl (congrFun e 0) ((congrFun e 1).trans e1) (congrFun e 2) rfl rfl rfl))

/-! ## The four results -/

abbrev G7 (c : Dev nD) : Buf (Elt Ideal) ((c.tc : Thread nD τ).loc main_v0_0) :=
  grad 1408 (by decide) (m ((c.tc : Thread nD τ).loc main_arg0)) (m ((c.tc : Thread nD τ).loc main_arg1)) ⟨(chip m).toNat, h⟩
abbrev G9 (c : Dev nD) : Buf (Elt Ideal) ((c.tc : Thread nD τ).loc main_v0_2) := fun i => mom1 (G7 m h c i) (m ((c.tc : Thread nD τ).loc main_arg4) i)
abbrev G10 (c : Dev nD) : Buf (Elt Ideal) ((c.tc : Thread nD τ).loc main_v0_3) := fun i => mom2 (G7 m h c i) (m ((c.tc : Thread nD τ).loc main_arg5) i)
abbrev G8 (c : Dev nD) : Buf (Elt Ideal) ((c.tc : Thread nD τ).loc main_v0_1) := fun i => delta (m ((c.tc : Thread nD τ).loc main_arg3) i) (G9 m h c i) (G10 m h c i)

theorem g7 : k0_pay2 (iblk m hO c 0 t) (iblk m hO c 1 t) (iblk m hO c 2 t) (iblk m hO c 3 t) (ix2 p q) = G7 m h c (ix2 (row m hO t p) q) :=
  (SumGateValue.pay2_apply _ _ _ _ p q).trans (congrArg₂ (fun a b : EReal => a + b) (congrArg₂ (fun a b : EReal => a + b)
    (congrArg₂ (fun a b : EReal => a + b) (iblk0 m hO c t p q h) (iblk1 m hO c t p q)) (iblk2 m hO c t p q)) (iblk3 m hO c t p q))

theorem g9 : k0_pay3 (iblk m hO c 0 t) (iblk m hO c 1 t) (iblk m hO c 2 t) (iblk m hO c 3 t) (iblk m hO c 5 t) (ix2 p q) = G9 m h c (ix2 (row m hO t p) q) :=
  (SumGateValue.pay3_apply _ _ _ _ _ p q).trans (congrArg₂ mom1 (g7 m hO c t p q h) (iblk5 m hO c t p q h))

theorem g10 : k0_pay4 (iblk m hO c 0 t) (iblk m hO c 1 t) (iblk m hO c 2 t) (iblk m hO c 3 t) (iblk m hO c 6 t) (ix2 p q) = G10 m h c (ix2 (row m hO t p) q) :=
  (SumGateValue.pay4_apply _ _ _ _ _ p q).trans (congrArg₂ mom2 (g7 m hO c t p q h) (iblk6 m hO c t p q h))

theorem outs7 : (outsAt0 m hO c t).1 (ix2 p q) = G7 m h c (ix2 (row m hO t p) q) := by
  refine (congrFun ?_ _).trans (g7 m hO c t p q h)
  unfold outsAt0
  dsimp only
  exact out_7 ..
theorem outs9 : (outsAt0 m hO c t).2.2.1 (ix2 p q) = G9 m h c (ix2 (row m hO t p) q) := by
  refine (congrFun ?_ _).trans (g9 m hO c t p q h)
  unfold outsAt0
  dsimp only
  exact out_9 ..
theorem outs10 : (outsAt0 m hO c t).2.2.2 (ix2 p q) = G10 m h c (ix2 (row m hO t p) q) := by
  refine (congrFun ?_ _).trans (g10 m hO c t p q h)
  unfold outsAt0
  dsimp only
  exact out_10 ..
theorem outs8 : (outsAt0 m hO c t).2.1 (ix2 p q) = G8 m h c (ix2 (row m hO t p) q) := by
  refine (congrFun ?_ _).trans ((SumGateValue.pay1_apply (iblk m hO c 0 t) (iblk m hO c 1 t) (iblk m hO c 2 t) (iblk m hO c 3 t) (iblk m hO c 4 t) (iblk m hO c 5 t) (iblk m hO c 6 t) p q).trans ?_)
  · unfold outsAt0
    dsimp only
    exact out_8 ..
  · exact (congrArg₂ (delta _) (g9 m hO c t p q h) (g10 m hO c t p q h)).trans (congrArg (fun w => delta w _ _) (iblk4 m hO c t p q h))

include h in
theorem cover (i : S704x2048.Idx) : ∃ (t : Fin (cfgM m hO).N) (p : Fin 176) (q : Fin 2048), (((cfgM m hO).win 4).rect t).idx (ix2 p q) = i := by
  have h0 : (i 0 : ℕ) < 704 := (i 0).isLt
  have ht : (i 0 : ℕ) / 176 < (cfgM m hO).N := by rw [show (cfgM m hO).N = 4 from N_0]; omega
  refine ⟨⟨_, ht⟩, ⟨(i 0 : ℕ) % 176, by omega⟩, i 1, (idx4 m hO _ _ _ h).trans (Shape.idx_ext₂ ?_ rfl)⟩
  show (i 0 : ℕ) / 176 * 176 + (i 0 : ℕ) % 176 = (i 0 : ℕ); omega

include h in
theorem mem_blk (i : S704x2048.Idx) : ∃ t : Fin (cfgM m hO).N, i ∈ (((cfgM m hO).win 4).rect t).set := by
  obtain ⟨t, p, q, rfl⟩ := cover m hO h i
  exact ⟨t, (((cfgM m hO).win 4).rect t).idx_mem _⟩

theorem final7 : (dats m hO 0 c).arrAt 7 (cfgM m hO).N = G7 m h c := by
  refine (dats m hO 0 c).arrAt_eq_of_cover 7 (G7 m h c) (fun t _ => funext (fun j : S176x2048.Idx => ?_)) fun i => ?_
  · obtain ⟨p, q, rfl⟩ : ∃ p q, j = ix2 p q := ⟨j 0, j 1, eq_ix2 j⟩
    exact ((congrFun (after0_7 m hO c t) (ix2 p q)).trans (outs7 m hO c t p q h)).trans (congrArg (G7 m h c) (idx4 m hO t p q h).symm)
  · obtain ⟨t, ht⟩ := mem_blk m hO h i
    refine ⟨t, flush0_7 (adm m hO) t, ?_⟩
    exact (congrArg (fun s => i ∈ s) (View.set_slice_whole (b := main_v0_0) (((cfgM m hO).win 4).rect t))).mpr ht

theorem final8 : (dats m hO 0 c).arrAt 8 (cfgM m hO).N = G8 m h c := by
  refine (dats m hO 0 c).arrAt_eq_of_cover 8 (G8 m h c) (fun t _ => funext (fun j : S176x2048.Idx => ?_)) fun i => ?_
  · obtain ⟨p, q, rfl⟩ : ∃ p q, j = ix2 p q := ⟨j 0, j 1, eq_ix2 j⟩
    exact ((congrFun (after0_8 m hO c t) (ix2 p q)).trans (outs8 m hO c t p q h)).trans (congrArg (G8 m h c) (idx4 m hO t p q h).symm)
  · obtain ⟨t, ht⟩ := mem_blk m hO h i
    refine ⟨t, flush0_8 (adm m hO) t, ?_⟩
    exact (congrArg (fun s => i ∈ s) (View.set_slice_whole (b := main_v0_1) (((cfgM m hO).win 4).rect t))).mpr ht

theorem final9 : (dats m hO 0 c).arrAt 9 (cfgM m hO).N = G9 m h c := by
  refine (dats m hO 0 c).arrAt_eq_of_cover 9 (G9 m h c) (fun t _ => funext (fun j : S176x2048.Idx => ?_)) fun i => ?_
  · obtain ⟨p, q, rfl⟩ : ∃ p q, j = ix2 p q := ⟨j 0, j 1, eq_ix2 j⟩
    exact ((congrFun (after0_9 m hO c t) (ix2 p q)).trans (outs9 m hO c t p q h)).trans (congrArg (G9 m h c) (idx4 m hO t p q h).symm)
  · obtain ⟨t, ht⟩ := mem_blk m hO h i
    refine ⟨t, flush0_9 (adm m hO) t, ?_⟩
    exact (congrArg (fun s => i ∈ s) (View.set_slice_whole (b := main_v0_2) (((cfgM m hO).win 4).rect t))).mpr ht

theorem final10 : (dats m hO 0 c).arrAt 10 (cfgM m hO).N = G10 m h c := by
  refine (dats m hO 0 c).arrAt_eq_of_cover 10 (G10 m h c) (fun t _ => funext (fun j : S176x2048.Idx => ?_)) fun i => ?_
  · obtain ⟨p, q, rfl⟩ : ∃ p q, j = ix2 p q := ⟨j 0, j 1, eq_ix2 j⟩
    exact ((congrFun (after0_10 m hO c t) (ix2 p q)).trans (outs10 m hO c t p q h)).trans (congrArg (G10 m h c) (idx4 m hO t p q h).symm)
  · obtain ⟨t, ht⟩ := mem_blk m hO h i
    refine ⟨t, flush0_10 (adm m hO) t, ?_⟩
    exact (congrArg (fun s => i ∈ s) (View.set_slice_whole (b := main_v0_3) (((cfgM m hO).win 4).rect t))).mpr ht

end Values

end Cert.Proof.SumDownValue

end
-- ==== Proof.SumDownClaims.lean ====
/-
  The claims about the optimiser's call with the sum over the chips for the down product's weight: as `SumGateClaims`.
-/
module

public import proofs.«01_k».proof.Proof.SumDownValue
public import proofs.«01_k».proof.Proof.Gen.SumDownRefIdeal.Run
public import proofs.«01_k».proof.Proof.SumGateClaims

@[expose] public section

set_option maxRecDepth 16384

noncomputable section

namespace Cert.Proof.SumDownClaims

open Idealize.ShloMosaic Idealize.SL.Sem Cert.Proof.SumDownValue
open Cert.Proof.SumGateValue (mom1 mom2 delta)
open Cert.Proof.SumGateClaims (chip_lt refGrad refGrad_apply)

section Ref
open Cert.SumDownRefIdeal Cert.SumDownRefIdeal.Gen

variable (m : (ℓ : Loc nD τ sig) → Buf (Elt Ideal) ℓ) (ρ : Dev nD → PrngReg)

/-- The reference's gradient on a device. -/
abbrev RG (c : Dev nD) : S704x2048.Idx → EReal :=
  refGrad 1408 slices_S2112x2048_S704x2048_1408_0 (m ((c.tc : Thread nD τ).loc main_arg0)) (m ((c.tc : Thread nD τ).loc main_arg1)) (m ((c.tc : Thread nD τ).loc main_arg2))

/-- The reference's run leaves the gradient, the step and the two moments from it, and its arguments. -/
theorem ref_run : θ_run defs (onTc (τ := τ) (main (F := Ideal))) ⟨m, fun _ => 0, ρ⟩ fun r => ∀ c : Dev nD,
      r.2.mem ((c.tc : Thread nD τ).loc main_v11) = RG m c
      ∧ r.2.mem ((c.tc : Thread nD τ).loc main_v35) = (fun i => delta (m ((c.tc : Thread nD τ).loc main_arg3) i)
          (mom1 (RG m c i) (m ((c.tc : Thread nD τ).loc main_arg4) i)) (mom2 (RG m c i) (m ((c.tc : Thread nD τ).loc main_arg5) i)))
      ∧ r.2.mem ((c.tc : Thread nD τ).loc main_v16) = (fun i => mom1 (RG m c i) (m ((c.tc : Thread nD τ).loc main_arg4) i))
      ∧ r.2.mem ((c.tc : Thread nD τ).loc main_v22) = (fun i => mom2 (RG m c i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1, (h c).2.1.trans (by clear h; funext i; rfl),
    (h c).2.2.1.trans (by clear h; funext i; rfl), (h c).2.2.2.1.trans (by clear h; funext i; rfl), (h c).2.2.2.2⟩)
    (Cert.SumDownRefIdeal.Value.run (F := Ideal) m ρ)

end Ref

section Run
open Cert.SumDownIdeal Cert.SumDownIdeal.Gen
variable (m : (ℓ : Loc nD τ sig) → Buf (Elt Ideal) ℓ) (ρ : Dev nD → PrngReg) (h : (chip m).toNat < 4)

/-- The kernel's run leaves the gradient, the step, the two moments and its arguments. -/
theorem run : θ_run defs (onTc (τ := τ) (main (F := Ideal))) ⟨m, fun _ => 0, ρ⟩ fun r => ∀ c : Dev nD,
      r.2.mem ((c.tc : Thread nD τ).loc main_v0_0) = G7 m h c
      ∧ r.2.mem ((c.tc : Thread nD τ).loc main_v0_1) = G8 m h c
      ∧ r.2.mem ((c.tc : Thread nD τ).loc main_v0_2) = G9 m h c
      ∧ r.2.mem ((c.tc : Thread nD τ).loc main_v0_3) = G10 m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ hr c => ⟨((hr.1 c).1 7).trans (final7 m (ok m h) c h), ((hr.1 c).1 8).trans (final8 m (ok m h) c h),
      ((hr.1 c).1 9).trans (final9 m (ok m h) c h), ((hr.1 c).1 10).trans (final10 m (ok m h) c h), hr.2 c⟩)
    (θ_run_and (run_main m ρ (ok m h)) (unchanged m ρ (ok m h)))

end Run

theorem frame_k : Cert.quiescent_SumDown := fun m ρ h => Cert.SumDown.Gen.frame m ρ (ok (F := Bits) m (chip_lt _ _ _ _ _ _ (h 0)))
theorem frame_ki : Cert.quiescent_SumDownIdeal := fun m ρ h => Cert.SumDownIdeal.Gen.frame m ρ (ok m (chip_lt _ _ _ _ _ _ (h 0)))
theorem frame_r : Cert.quiescent_SumDownRefIdeal := fun m ρ _ =>
  (θ_run Cert.SumDownRefIdeal.defs _ _).mono (fun r h => ⟨fun c => (h c).2.2.2.2, sem_eq_zero_of_no_sems (by decide) r.2⟩)
    (Cert.SumDownRefIdeal.Value.run (F := Ideal) m ρ)

/-- The two gradients agree where the arguments do. -/
theorem grad_eq {m : (ℓ : Loc Cert.SumDownIdeal.nD Cert.SumDownIdeal.τ Cert.SumDownIdeal.sig) → Buf (Elt Ideal) ℓ}
    {m' : (ℓ : Loc Cert.SumDownRefIdeal.nD Cert.SumDownRefIdeal.τ Cert.SumDownRefIdeal.sig) → Buf (Elt Ideal) ℓ}
    (h : (chip m).toNat < 4) (c : Dev 1)
    (e0 : m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0))
    (e1 : m' ((c.tc : Thread Cert.SumDownRefIdeal.nD Cert.SumDownRefIdeal.τ).loc Cert.SumDownRefIdeal.main_arg1) = m ((c.tc : Thread Cert.SumDownIdeal.nD Cert.SumDownIdeal.τ).loc Cert.SumDownIdeal.main_arg1))
    (e2 : m' ((c.tc : Thread Cert.SumDownRefIdeal.nD Cert.SumDownRefIdeal.τ).loc Cert.SumDownRefIdeal.main_arg2) = m ((c.tc : Thread Cert.SumDownIdeal.nD Cert.SumDownIdeal.τ).loc Cert.SumDownIdeal.main_arg2)) :
    RG m' c = G7 m h c := by
  obtain rfl : c = 0 := Subsingleton.elim _ _
  unfold RG
  rw [e0, e1, e2]
  exact funext (refGrad_apply 1408 (by decide) _ _ _ _ h)

theorem value : Cert.algebraic_SumDownIdeal_SumDownRefIdeal := by
  intro m ρ m' ρ' hpre hagree
  have h : (chip m).toNat < 4 := chip_lt _ _ _ _ _ _ (hpre 0)
  refine ⟨_, _, _, _, run m ρ h, ?_⟩
  refine (θ_run Cert.SumDownRefIdeal.defs _ _).mono (fun _ hr c => ?_) (ref_run m' ρ')
  have g := grad_eq h c (hagree c).1 (hagree c).2.1 (hagree c).2.2.1
  refine ⟨(hr c).1.trans g, (hr c).2.1.trans ?_, (hr c).2.2.1.trans ?_, (hr c).2.2.2.1.trans ?_, (hr c).2.2.2.2⟩
  · rw [g, (hagree c).2.2.2.1, (hagree c).2.2.2.2.1, (hagree c).2.2.2.2.2]; rfl
  · rw [g, (hagree c).2.2.2.2.1]; rfl
  · rw [g, (hagree c).2.2.2.2.2]; rfl

end Cert.Proof.SumDownClaims

end
-- ==== Proof.lean ====
module

public import proofs.«01_k».proof.Defs
public import proofs.«01_k».proof.Proof.Gen.Mix.Skeleton
public import proofs.«01_k».proof.Proof.Gen.Mix.Loops
public import proofs.«01_k».proof.Proof.Gen.Mix.Launch
public import proofs.«01_k».proof.Proof.Gen.Mix.Points
public import proofs.«01_k».proof.Proof.Gen.Mix.Frame
public import proofs.«01_k».proof.Proof.Gen.RmsFfn.Skeleton
public import proofs.«01_k».proof.Proof.Gen.RmsFfn.Loops
public import proofs.«01_k».proof.Proof.Gen.RmsFfn.Launch
public import proofs.«01_k».proof.Proof.Gen.RmsFfn.Points
public import proofs.«01_k».proof.Proof.Gen.RmsFfn.Frame
public import proofs.«01_k».proof.Proof.Gen.RmsIn.Skeleton
public import proofs.«01_k».proof.Proof.Gen.RmsIn.Loops
public import proofs.«01_k».proof.Proof.Gen.RmsIn.Launch
public import proofs.«01_k».proof.Proof.Gen.RmsIn.Points
public import proofs.«01_k».proof.Proof.Gen.RmsIn.Frame
public import proofs.«01_k».proof.Proof.Gen.NormProj.Skeleton
public import proofs.«01_k».proof.Proof.Gen.NormProj.Loops
public import proofs.«01_k».proof.Proof.Gen.NormProj.Launch
public import proofs.«01_k».proof.Proof.Gen.NormProj.Points
public import proofs.«01_k».proof.Proof.Gen.NormProj.Frame
public import proofs.«01_k».proof.Proof.Gen.NormGate.Skeleton
public import proofs.«01_k».proof.Proof.Gen.NormGate.Loops
public import proofs.«01_k».proof.Proof.Gen.NormGate.Launch
public import proofs.«01_k».proof.Proof.Gen.NormGate.Points
public import proofs.«01_k».proof.Proof.Gen.NormGate.Frame
public import proofs.«01_k».proof.Proof.Gen.InProj.Skeleton
public import proofs.«01_k».proof.Proof.Gen.InProj.Loops
public import proofs.«01_k».proof.Proof.Gen.InProj.Launch
public import proofs.«01_k».proof.Proof.Gen.InProj.Points
public import proofs.«01_k».proof.Proof.Gen.InProj.Frame
public import proofs.«01_k».proof.Proof.Gen.Pre_ffn_finite
public import proofs.«01_k».proof.Proof.FfnClaims
public import proofs.«01_k».proof.Proof.DwClaims
public import proofs.«01_k».proof.Proof.MixClaims
public import proofs.«01_k».proof.Proof.MmResClaims
public import proofs.«01_k».proof.Proof.RmsFfnClaims
public import proofs.«01_k».proof.Proof.RmsInClaims
public import proofs.«01_k».proof.Proof.NormProjClaims
public import proofs.«01_k».proof.Proof.UpActClaims
public import proofs.«01_k».proof.Proof.NormGateClaims
public import proofs.«01_k».proof.Proof.InProjClaims
public import proofs.«01_k».proof.Proof.OutProjClaims
public import proofs.«01_k».proof.Proof.AdamWClaims
public import proofs.«01_k».proof.Proof.SumGateClaims
public import proofs.«01_k».proof.Proof.SumUpClaims
public import proofs.«01_k».proof.Proof.SumDownClaims
public import Idealize.ShloMosaic.Adequacy
public import Idealize.ShloMosaic.Init

@[expose] public section

noncomputable section

namespace Cert.Proof

open Idealize.ShloMosaic Idealize.SL.Sem Cert.FfnGate

theorem claim : Cert.Claim := ⟨Cert.FfnGate.Gen.facts, Cert.FfnGateIdeal.Gen.facts, Cert.FfnGateRefIdeal.Gen.facts, Cert.Mix.Gen.facts, Cert.MixIdeal.Gen.facts, Cert.MixRefIdeal.Gen.facts, Cert.DwFfn.Gen.facts, Cert.DwFfnIdeal.Gen.facts, Cert.DwFfnRefIdeal.Gen.facts, Cert.DwFfnTRefIdeal.Gen.facts, Cert.DwOut.Gen.facts, Cert.DwOutIdeal.Gen.facts, Cert.DwOutRefIdeal.Gen.facts, Cert.DwIn.Gen.facts, Cert.DwInIdeal.Gen.facts, Cert.DwInRefIdeal.Gen.facts, Cert.OutBwd.Gen.facts, Cert.OutBwdIdeal.Gen.facts, Cert.OutBwdRefIdeal.Gen.facts, Cert.MmRes.Gen.facts, Cert.MmResIdeal.Gen.facts, Cert.MmResRefIdeal.Gen.facts,
  Cert.RmsFfn.Gen.facts, Cert.RmsFfnIdeal.Gen.facts, Cert.RmsFfnRefIdeal.Gen.facts,
  Cert.RmsIn.Gen.facts, Cert.RmsInIdeal.Gen.facts, Cert.RmsInRefIdeal.Gen.facts,
  Cert.NormProj.Gen.facts, Cert.NormProjIdeal.Gen.facts, Cert.NormProjRefIdeal.Gen.facts,
  Cert.UpAct.Gen.facts, Cert.UpActIdeal.Gen.facts, Cert.UpActRefIdeal.Gen.facts,
  Cert.NormGate.Gen.facts, Cert.NormGateIdeal.Gen.facts, Cert.NormGateRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.AdamW.Gen.facts, Cert.AdamWIdeal.Gen.facts, Cert.AdamWRefIdeal.Gen.facts,
  Cert.SumGate.Gen.facts, Cert.SumGateIdeal.Gen.facts, Cert.SumGateRefIdeal.Gen.facts,
  Cert.SumUp.Gen.facts, Cert.SumUpIdeal.Gen.facts, Cert.SumUpRefIdeal.Gen.facts,
  Cert.SumDown.Gen.facts, Cert.SumDownIdeal.Gen.facts, Cert.SumDownRefIdeal.Gen.facts,
  Cert.Pre_ffn_finite.Gen.facts, Cert.Pre_chip_in_mesh.Gen.facts,
  FfnClaims.frame_k, FfnClaims.frame_ki, fun m ρ _ => FfnClaims.frame_ki m ρ trivial, FfnClaims.frame_r,
  fun m ρ _ => FfnClaims.frame_r m ρ trivial,
  MixClaims.frame_k, MixClaims.frame_ki, MixClaims.frame_r,
  DwClaims.frame_ffn, DwClaims.frame_ffn_i, DwClaims.frame_ffn_r, DwClaims.frame_ffn_t, DwClaims.frame_out, DwClaims.frame_out_i, DwClaims.frame_out_r,
  DwClaims.frame_in, DwClaims.frame_in_i, DwClaims.frame_in_r, DwClaims.frame_bwd, DwClaims.frame_bwd_i, DwClaims.frame_bwd_r,
  MmResClaims.frame, MmResClaims.frame_i, MmResClaims.frame_r,
  RmsFfnClaims.frame, RmsFfnClaims.frame_i, RmsFfnClaims.frame_r,
  RmsInClaims.frame, RmsInClaims.frame_i, RmsInClaims.frame_r,
  NormProjClaims.frame, NormProjClaims.frame_i, NormProjClaims.frame_r,
  UpActClaims.frame_k, UpActClaims.frame_ki, UpActClaims.frame_r,
  Cert.Proof.NormGate.frame_k, Cert.Proof.NormGate.frame_ki, Cert.Proof.NormGate.frame_r,
  Cert.Proof.InProj.frame_k, Cert.Proof.InProj.frame_ki, Cert.Proof.InProj.frame_r,
  OutProjClaims.frame, OutProjClaims.frame_i, OutProjClaims.frame_r,
  AdamWClaims.frame_k, AdamWClaims.frame_ki, AdamWClaims.frame_r,
  SumGateClaims.frame_k, SumGateClaims.frame_ki, SumGateClaims.frame_r,
  SumUpClaims.frame_k, SumUpClaims.frame_ki, SumUpClaims.frame_r,
  SumDownClaims.frame_k, SumDownClaims.frame_ki, SumDownClaims.frame_r,
  trivial, FfnClaims.algebraic, trivial, trivial, DwClaims.ffn, DwClaims.ffn_t, trivial, DwClaims.out, trivial, DwClaims.inn, trivial, DwClaims.bwd,
  trivial, MmResClaims.value, trivial, RmsFfnClaims.value,
  trivial, RmsInClaims.value,
  trivial, NormProjClaims.value,
  trivial, UpActClaims.algebraic, trivial, Cert.Proof.NormGate.value, trivial, Cert.Proof.InProj.value, trivial, OutProjClaims.value,
  trivial, AdamWClaims.value,
  trivial, SumGateClaims.value, trivial, SumUpClaims.value, trivial, SumDownClaims.value⟩

end Cert.Proof

end
